-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_KernelActIdeal_finite_act [hPre_finite_act : Cert.Pre_finite_act.Facts] (m : (ℓ : Loc Cert.KernelActIdeal.nD Cert.KernelActIdeal.τ Cert.KernelActIdeal.sig) → Buf (Elt Ideal) ℓ) : Prop :=
  ∀ c : Dev Cert.KernelActIdeal.nD,
    (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))) = (fun _ => 1#1)

def Pre_ReferenceActIdeal (m : (ℓ : Loc Cert.ReferenceActIdeal.nD Cert.ReferenceActIdeal.τ Cert.ReferenceActIdeal.sig) → Buf (Elt Ideal) ℓ) : Prop :=
  True

def Pre_ReferenceActIdeal_finite_act [hPre_finite_act : Cert.Pre_finite_act.Facts] (m : (ℓ : Loc Cert.ReferenceActIdeal.nD Cert.ReferenceActIdeal.τ Cert.ReferenceActIdeal.sig) → Buf (Elt Ideal) ℓ) : Prop :=
  ∀ c : Dev Cert.ReferenceActIdeal.nD,
    (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))) = (fun _ => 1#1)

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_KernelDxIdeal_finite_dx [hPre_finite_dx : Cert.Pre_finite_dx.Facts] (m : (ℓ : Loc Cert.KernelDxIdeal.nD Cert.KernelDxIdeal.τ Cert.KernelDxIdeal.sig) → Buf (Elt Ideal) ℓ) : Prop :=
  ∀ c : Dev Cert.KernelDxIdeal.nD,
    (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4)) (m ((c.tc : Thread Cert.KernelDxIdeal.nD Cert.KernelDxIdeal.τ).loc Cert.KernelDxIdeal.main_arg5))) = (fun _ => 1#1)

def Pre_ReferenceDxIdeal (m : (ℓ : Loc Cert.ReferenceDxIdeal.nD Cert.ReferenceDxIdeal.τ Cert.ReferenceDxIdeal.sig) → Buf (Elt Ideal) ℓ) : Prop :=
  True

def Pre_ReferenceDxIdeal_finite_dx [hPre_finite_dx : Cert.Pre_finite_dx.Facts] (m : (ℓ : Loc Cert.ReferenceDxIdeal.nD Cert.ReferenceDxIdeal.τ Cert.ReferenceDxIdeal.sig) → Buf (Elt Ideal) ℓ) : Prop :=
  ∀ c : Dev Cert.ReferenceDxIdeal.nD,
    (Cert.Pre_finite_dx.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2)) (m ((c.tc : Thread Cert.ReferenceDxIdeal.nD Cert.ReferenceDxIdeal.τ).loc Cert.ReferenceDxIdeal.main_arg3)) (m ((c.tc : Thread Cert.ReferenceDxIdeal.nD Cert.ReferenceDxIdeal.τ).loc Cert.ReferenceDxIdeal.main_arg4)) (m ((c.tc : Thread Cert.ReferenceDxIdeal.nD Cert.ReferenceDxIdeal.τ).loc Cert.ReferenceDxIdeal.main_arg5))) = (fun _ => 1#1)

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_KernelMdw (m : (ℓ : Loc Cert.KernelMdw.nD Cert.KernelMdw.τ Cert.KernelMdw.sig) → Buf (Elt Bits) ℓ) : Prop :=
  True

def Pre_KernelMdwIdeal (m : (ℓ : Loc Cert.KernelMdwIdeal.nD Cert.KernelMdwIdeal.τ Cert.KernelMdwIdeal.sig) → Buf (Elt Ideal) ℓ) : Prop :=
  True

def Pre_ReferenceMdwIdeal (m : (ℓ : Loc Cert.ReferenceMdwIdeal.nD Cert.ReferenceMdwIdeal.τ Cert.ReferenceMdwIdeal.sig) → Buf (Elt Ideal) ℓ) : Prop :=
  True

def Pre_KernelWin (m : (ℓ : Loc Cert.KernelWin.nD Cert.KernelWin.τ Cert.KernelWin.sig) → Buf (Elt Bits) ℓ) : Prop :=
  True

def Pre_KernelWinIdeal (m : (ℓ : Loc Cert.KernelWinIdeal.nD Cert.KernelWinIdeal.τ Cert.KernelWinIdeal.sig) → Buf (Elt Ideal) ℓ) : Prop :=
  True

def Pre_ReferenceWinIdeal (m : (ℓ : Loc Cert.ReferenceWinIdeal.nD Cert.ReferenceWinIdeal.τ Cert.ReferenceWinIdeal.sig) → Buf (Elt Ideal) ℓ) : Prop :=
  True

def Pre_KernelMx (m : (ℓ : Loc Cert.KernelMx.nD Cert.KernelMx.τ Cert.KernelMx.sig) → Buf (Elt Bits) ℓ) : Prop :=
  True

def Pre_KernelMxIdeal (m : (ℓ : Loc Cert.KernelMxIdeal.nD Cert.KernelMxIdeal.τ Cert.KernelMxIdeal.sig) → Buf (Elt Ideal) ℓ) : Prop :=
  True

def Pre_KernelMxIdeal_finite_mx [hPre_finite_mx : Cert.Pre_finite_mx.Facts] (m : (ℓ : Loc Cert.KernelMxIdeal.nD Cert.KernelMxIdeal.τ Cert.KernelMxIdeal.sig) → Buf (Elt Ideal) ℓ) : Prop :=
  ∀ c : Dev Cert.KernelMxIdeal.nD,
    (Cert.Pre_finite_mx.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4))) = (fun _ => 1#1)

def Pre_ReferenceMxIdeal (m : (ℓ : Loc Cert.ReferenceMxIdeal.nD Cert.ReferenceMxIdeal.τ Cert.ReferenceMxIdeal.sig) → Buf (Elt Ideal) ℓ) : Prop :=
  True

def Pre_ReferenceMxIdeal_finite_mx [hPre_finite_mx : Cert.Pre_finite_mx.Facts] (m : (ℓ : Loc Cert.ReferenceMxIdeal.nD Cert.ReferenceMxIdeal.τ Cert.ReferenceMxIdeal.sig) → Buf (Elt Ideal) ℓ) : Prop :=
  ∀ c : Dev Cert.ReferenceMxIdeal.nD,
    (Cert.Pre_finite_mx.fn (F := Ideal) (m ((c.tc : Thread Cert.ReferenceMxIdeal.nD Cert.ReferenceMxIdeal.τ).loc Cert.ReferenceMxIdeal.main_arg0)) (m ((c.tc : Thread Cert.ReferenceMxIdeal.nD Cert.ReferenceMxIdeal.τ).loc Cert.ReferenceMxIdeal.main_arg1)) (m ((c.tc : Thread Cert.ReferenceMxIdeal.nD Cert.ReferenceMxIdeal.τ).loc Cert.ReferenceMxIdeal.main_arg2)) (m ((c.tc : Thread Cert.ReferenceMxIdeal.nD Cert.ReferenceMxIdeal.τ).loc Cert.ReferenceMxIdeal.main_arg3)) (m ((c.tc : Thread Cert.ReferenceMxIdeal.nD Cert.ReferenceMxIdeal.τ).loc Cert.ReferenceMxIdeal.main_arg4))) = (fun _ => 1#1)

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelSmallA (m : (ℓ : Loc Cert.KernelSmallA.nD Cert.KernelSmallA.τ Cert.KernelSmallA.sig) → Buf (Elt Bits) ℓ) : Prop :=
  True

def Pre_KernelSmallAIdeal (m : (ℓ : Loc Cert.KernelSmallAIdeal.nD Cert.KernelSmallAIdeal.τ Cert.KernelSmallAIdeal.sig) → Buf (Elt Ideal) ℓ) : Prop :=
  True

def Pre_ReferenceSmallAIdeal (m : (ℓ : Loc Cert.ReferenceSmallAIdeal.nD Cert.ReferenceSmallAIdeal.τ Cert.ReferenceSmallAIdeal.sig) → Buf (Elt Ideal) ℓ) : Prop :=
  True

def Pre_KernelSmallB (m : (ℓ : Loc Cert.KernelSmallB.nD Cert.KernelSmallB.τ Cert.KernelSmallB.sig) → Buf (Elt Bits) ℓ) : Prop :=
  True

def Pre_KernelSmallBIdeal (m : (ℓ : Loc Cert.KernelSmallBIdeal.nD Cert.KernelSmallBIdeal.τ Cert.KernelSmallBIdeal.sig) → Buf (Elt Ideal) ℓ) : Prop :=
  True

def Pre_ReferenceSmallBIdeal (m : (ℓ : Loc Cert.ReferenceSmallBIdeal.nD Cert.ReferenceSmallBIdeal.τ Cert.ReferenceSmallBIdeal.sig) → Buf (Elt Ideal) ℓ) : Prop :=
  True

def Pre_KernelSmallC (m : (ℓ : Loc Cert.KernelSmallC.nD Cert.KernelSmallC.τ Cert.KernelSmallC.sig) → Buf (Elt Bits) ℓ) : Prop :=
  True

def Pre_KernelSmallCIdeal (m : (ℓ : Loc Cert.KernelSmallCIdeal.nD Cert.KernelSmallCIdeal.τ Cert.KernelSmallCIdeal.sig) → Buf (Elt Ideal) ℓ) : Prop :=
  True

def Pre_ReferenceSmallCIdeal (m : (ℓ : Loc Cert.ReferenceSmallCIdeal.nD Cert.ReferenceSmallCIdeal.τ Cert.ReferenceSmallCIdeal.sig) → Buf (Elt Ideal) ℓ) : Prop :=
  True

def Pre_KernelSmallD (m : (ℓ : Loc Cert.KernelSmallD.nD Cert.KernelSmallD.τ Cert.KernelSmallD.sig) → Buf (Elt Bits) ℓ) : Prop :=
  True

def Pre_KernelSmallDIdeal (m : (ℓ : Loc Cert.KernelSmallDIdeal.nD Cert.KernelSmallDIdeal.τ Cert.KernelSmallDIdeal.sig) → Buf (Elt Ideal) ℓ) : Prop :=
  True

def Pre_ReferenceSmallDIdeal (m : (ℓ : Loc Cert.ReferenceSmallDIdeal.nD Cert.ReferenceSmallDIdeal.τ Cert.ReferenceSmallDIdeal.sig) → Buf (Elt Ideal) ℓ) : Prop :=
  True

def Pre_KernelOptOut (m : (ℓ : Loc Cert.KernelOptOut.nD Cert.KernelOptOut.τ Cert.KernelOptOut.sig) → Buf (Elt Bits) ℓ) : Prop :=
  True

def Pre_KernelOptOutIdeal (m : (ℓ : Loc Cert.KernelOptOutIdeal.nD Cert.KernelOptOutIdeal.τ Cert.KernelOptOutIdeal.sig) → Buf (Elt Ideal) ℓ) : Prop :=
  True

def Pre_ReferenceOptOutIdeal (m : (ℓ : Loc Cert.ReferenceOptOutIdeal.nD Cert.ReferenceOptOutIdeal.τ Cert.ReferenceOptOutIdeal.sig) → Buf (Elt Ideal) ℓ) : Prop :=
  True

def Pre_KernelOptIn (m : (ℓ : Loc Cert.KernelOptIn.nD Cert.KernelOptIn.τ Cert.KernelOptIn.sig) → Buf (Elt Bits) ℓ) : Prop :=
  True

def Pre_KernelOptInIdeal (m : (ℓ : Loc Cert.KernelOptInIdeal.nD Cert.KernelOptInIdeal.τ Cert.KernelOptInIdeal.sig) → Buf (Elt Ideal) ℓ) : Prop :=
  True

def Pre_ReferenceOptInIdeal (m : (ℓ : Loc Cert.ReferenceOptInIdeal.nD Cert.ReferenceOptInIdeal.τ Cert.ReferenceOptInIdeal.sig) → Buf (Elt Ideal) ℓ) : Prop :=
  True

def Pre_KernelOptBranch (m : (ℓ : Loc Cert.KernelOptBranch.nD Cert.KernelOptBranch.τ Cert.KernelOptBranch.sig) → Buf (Elt Bits) ℓ) : Prop :=
  True

def Pre_KernelOptBranchIdeal (m : (ℓ : Loc Cert.KernelOptBranchIdeal.nD Cert.KernelOptBranchIdeal.τ Cert.KernelOptBranchIdeal.sig) → Buf (Elt Ideal) ℓ) : Prop :=
  True

def Pre_ReferenceOptBranchIdeal (m : (ℓ : Loc Cert.ReferenceOptBranchIdeal.nD Cert.ReferenceOptBranchIdeal.τ Cert.ReferenceOptBranchIdeal.sig) → Buf (Elt Ideal) ℓ) : Prop :=
  True

def Pre_KernelOptFf (m : (ℓ : Loc Cert.KernelOptFf.nD Cert.KernelOptFf.τ Cert.KernelOptFf.sig) → Buf (Elt Bits) ℓ) : Prop :=
  True

def Pre_KernelOptFfIdeal (m : (ℓ : Loc Cert.KernelOptFfIdeal.nD Cert.KernelOptFfIdeal.τ Cert.KernelOptFfIdeal.sig) → Buf (Elt Ideal) ℓ) : Prop :=
  True

def Pre_ReferenceOptFfIdeal (m : (ℓ : Loc Cert.ReferenceOptFfIdeal.nD Cert.ReferenceOptFfIdeal.τ Cert.ReferenceOptFfIdeal.sig) → Buf (Elt Ideal) ℓ) : Prop :=
  True

def Pre_KernelOptFirst (m : (ℓ : Loc Cert.KernelOptFirst.nD Cert.KernelOptFirst.τ Cert.KernelOptFirst.sig) → Buf (Elt Bits) ℓ) : Prop :=
  True

def Pre_KernelOptFirstIdeal (m : (ℓ : Loc Cert.KernelOptFirstIdeal.nD Cert.KernelOptFirstIdeal.τ Cert.KernelOptFirstIdeal.sig) → Buf (Elt Ideal) ℓ) : Prop :=
  True

def Pre_ReferenceOptFirstIdeal (m : (ℓ : Loc Cert.ReferenceOptFirstIdeal.nD Cert.ReferenceOptFirstIdeal.τ Cert.ReferenceOptFirstIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2)
      ∧ r.2.mem ((c.tc : Thread Cert.KernelAct.nD Cert.KernelAct.τ).loc Cert.KernelAct.main_arg3) = m ((c.tc : Thread Cert.KernelAct.nD Cert.KernelAct.τ).loc Cert.KernelAct.main_arg3))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_KernelActIdeal_pre_finite_act [hKernelActIdeal : Cert.KernelActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal_finite_act m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_ReferenceActIdeal_pre_finite_act [hReferenceActIdeal : Cert.ReferenceActIdeal.Facts] [hPre_finite_act : Cert.Pre_finite_act.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal_finite_act m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1)
      ∧ r.2.mem ((c.tc : Thread Cert.KernelDw.nD Cert.KernelDw.τ).loc Cert.KernelDw.main_arg2) = m ((c.tc : Thread Cert.KernelDw.nD Cert.KernelDw.τ).loc Cert.KernelDw.main_arg2)
      ∧ r.2.mem ((c.tc : Thread Cert.KernelDw.nD Cert.KernelDw.τ).loc Cert.KernelDw.main_arg3) = m ((c.tc : Thread Cert.KernelDw.nD Cert.KernelDw.τ).loc Cert.KernelDw.main_arg3)
      ∧ r.2.mem ((c.tc : Thread Cert.KernelDw.nD Cert.KernelDw.τ).loc Cert.KernelDw.main_arg4) = m ((c.tc : Thread Cert.KernelDw.nD Cert.KernelDw.τ).loc Cert.KernelDw.main_arg4))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
      ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
      ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3)
      ∧ r.2.mem ((c.tc : Thread Cert.KernelDwIdeal.nD Cert.KernelDwIdeal.τ).loc Cert.KernelDwIdeal.main_arg4) = m ((c.tc : Thread Cert.KernelDwIdeal.nD Cert.KernelDwIdeal.τ).loc Cert.KernelDwIdeal.main_arg4))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1)
      ∧ r.2.mem ((c.tc : Thread Cert.ReferenceDwIdeal.nD Cert.ReferenceDwIdeal.τ).loc Cert.ReferenceDwIdeal.main_arg2) = m ((c.tc : Thread Cert.ReferenceDwIdeal.nD Cert.ReferenceDwIdeal.τ).loc Cert.ReferenceDwIdeal.main_arg2)
      ∧ r.2.mem ((c.tc : Thread Cert.ReferenceDwIdeal.nD Cert.ReferenceDwIdeal.τ).loc Cert.ReferenceDwIdeal.main_arg3) = m ((c.tc : Thread Cert.ReferenceDwIdeal.nD Cert.ReferenceDwIdeal.τ).loc Cert.ReferenceDwIdeal.main_arg3)
      ∧ r.2.mem ((c.tc : Thread Cert.ReferenceDwIdeal.nD Cert.ReferenceDwIdeal.τ).loc Cert.ReferenceDwIdeal.main_arg4) = m ((c.tc : Thread Cert.ReferenceDwIdeal.nD Cert.ReferenceDwIdeal.τ).loc Cert.ReferenceDwIdeal.main_arg4))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3)
      ∧ r.2.mem ((c.tc : Thread Cert.KernelDx.nD Cert.KernelDx.τ).loc Cert.KernelDx.main_arg4) = m ((c.tc : Thread Cert.KernelDx.nD Cert.KernelDx.τ).loc Cert.KernelDx.main_arg4)
      ∧ r.2.mem ((c.tc : Thread Cert.KernelDx.nD Cert.KernelDx.τ).loc Cert.KernelDx.main_arg5) = m ((c.tc : Thread Cert.KernelDx.nD Cert.KernelDx.τ).loc Cert.KernelDx.main_arg5))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
      ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5))
      ∧ r.2.sem = fun _ => 0)

def quiescent_KernelDxIdeal_pre_finite_dx [hKernelDxIdeal : Cert.KernelDxIdeal.Facts] [hPre_finite_dx : Cert.Pre_finite_dx.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal_finite_dx m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
      ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4)
      ∧ r.2.mem ((c.tc : Thread Cert.ReferenceDxIdeal.nD Cert.ReferenceDxIdeal.τ).loc Cert.ReferenceDxIdeal.main_arg5) = m ((c.tc : Thread Cert.ReferenceDxIdeal.nD Cert.ReferenceDxIdeal.τ).loc Cert.ReferenceDxIdeal.main_arg5))
      ∧ r.2.sem = fun _ => 0)

def quiescent_ReferenceDxIdeal_pre_finite_dx [hReferenceDxIdeal : Cert.ReferenceDxIdeal.Facts] [hPre_finite_dx : Cert.Pre_finite_dx.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal_finite_dx m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4)
      ∧ r.2.mem ((c.tc : Thread Cert.ReferenceDxIdeal.nD Cert.ReferenceDxIdeal.τ).loc Cert.ReferenceDxIdeal.main_arg5) = m ((c.tc : Thread Cert.ReferenceDxIdeal.nD Cert.ReferenceDxIdeal.τ).loc Cert.ReferenceDxIdeal.main_arg5))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2))
      ∧ r.2.sem = fun _ => 0)

def quiescent_KernelMdw [hKernelMdw : Cert.KernelMdw.Facts] : Prop :=
  ∀ (m : (ℓ : Loc Cert.KernelMdw.nD Cert.KernelMdw.τ Cert.KernelMdw.sig) → Buf (Elt Bits) ℓ) (g : Dev Cert.KernelMdw.nD → PrngReg), Pre_KernelMdw m →
    θ_run (Cert.KernelMdw.defs (F := Bits)) (onTc (τ := Cert.KernelMdw.τ) (Cert.KernelMdw.main (F := Bits))) ⟨m, fun _ => 0, g⟩ (fun r => (∀ c : Dev Cert.KernelMdw.nD,
      r.2.mem ((c.tc : Thread Cert.KernelMdw.nD Cert.KernelMdw.τ).loc Cert.KernelMdw.main_arg0) = m ((c.tc : Thread Cert.KernelMdw.nD Cert.KernelMdw.τ).loc Cert.KernelMdw.main_arg0)
      ∧ r.2.mem ((c.tc : Thread Cert.KernelMdw.nD Cert.KernelMdw.τ).loc Cert.KernelMdw.main_arg1) = m ((c.tc : Thread Cert.KernelMdw.nD Cert.KernelMdw.τ).loc Cert.KernelMdw.main_arg1)
      ∧ r.2.mem ((c.tc : Thread Cert.KernelMdw.nD Cert.KernelMdw.τ).loc Cert.KernelMdw.main_arg2) = m ((c.tc : Thread Cert.KernelMdw.nD Cert.KernelMdw.τ).loc Cert.KernelMdw.main_arg2)
      ∧ r.2.mem ((c.tc : Thread Cert.KernelMdw.nD Cert.KernelMdw.τ).loc Cert.KernelMdw.main_arg3) = m ((c.tc : Thread Cert.KernelMdw.nD Cert.KernelMdw.τ).loc Cert.KernelMdw.main_arg3)
      ∧ r.2.mem ((c.tc : Thread Cert.KernelMdw.nD Cert.KernelMdw.τ).loc Cert.KernelMdw.main_arg4) = m ((c.tc : Thread Cert.KernelMdw.nD Cert.KernelMdw.τ).loc Cert.KernelMdw.main_arg4)
      ∧ r.2.mem ((c.tc : Thread Cert.KernelMdw.nD Cert.KernelMdw.τ).loc Cert.KernelMdw.main_arg5) = m ((c.tc : Thread Cert.KernelMdw.nD Cert.KernelMdw.τ).loc Cert.KernelMdw.main_arg5))
      ∧ r.2.sem = fun _ => 0)

def quiescent_KernelMdwIdeal [hKernelMdwIdeal : Cert.KernelMdwIdeal.Facts] : Prop :=
  ∀ (m : (ℓ : Loc Cert.KernelMdwIdeal.nD Cert.KernelMdwIdeal.τ Cert.KernelMdwIdeal.sig) → Buf (Elt Ideal) ℓ) (g : Dev Cert.KernelMdwIdeal.nD → PrngReg), Pre_KernelMdwIdeal m →
    θ_run (Cert.KernelMdwIdeal.defs (F := Ideal)) (onTc (τ := Cert.KernelMdwIdeal.τ) (Cert.KernelMdwIdeal.main (F := Ideal))) ⟨m, fun _ => 0, g⟩ (fun r => (∀ c : Dev Cert.KernelMdwIdeal.nD,
      r.2.mem ((c.tc : Thread Cert.KernelMdwIdeal.nD Cert.KernelMdwIdeal.τ).loc Cert.KernelMdwIdeal.main_arg0) = m ((c.tc : Thread Cert.KernelMdwIdeal.nD Cert.KernelMdwIdeal.τ).loc Cert.KernelMdwIdeal.main_arg0)
      ∧ r.2.mem ((c.tc : Thread Cert.KernelMdwIdeal.nD Cert.KernelMdwIdeal.τ).loc Cert.KernelMdwIdeal.main_arg1) = m ((c.tc : Thread Cert.KernelMdwIdeal.nD Cert.KernelMdwIdeal.τ).loc Cert.KernelMdwIdeal.main_arg1)
      ∧ r.2.mem ((c.tc : Thread Cert.KernelMdwIdeal.nD Cert.KernelMdwIdeal.τ).loc Cert.KernelMdwIdeal.main_arg2) = m ((c.tc : Thread Cert.KernelMdwIdeal.nD Cert.KernelMdwIdeal.τ).loc Cert.KernelMdwIdeal.main_arg2)
      ∧ r.2.mem ((c.tc : Thread Cert.KernelMdwIdeal.nD Cert.KernelMdwIdeal.τ).loc Cert.KernelMdwIdeal.main_arg3) = m ((c.tc : Thread Cert.KernelMdwIdeal.nD Cert.KernelMdwIdeal.τ).loc Cert.KernelMdwIdeal.main_arg3)
      ∧ r.2.mem ((c.tc : Thread Cert.KernelMdwIdeal.nD Cert.KernelMdwIdeal.τ).loc Cert.KernelMdwIdeal.main_arg4) = m ((c.tc : Thread Cert.KernelMdwIdeal.nD Cert.KernelMdwIdeal.τ).loc Cert.KernelMdwIdeal.main_arg4)
      ∧ r.2.mem ((c.tc : Thread Cert.KernelMdwIdeal.nD Cert.KernelMdwIdeal.τ).loc Cert.KernelMdwIdeal.main_arg5) = m ((c.tc : Thread Cert.KernelMdwIdeal.nD Cert.KernelMdwIdeal.τ).loc Cert.KernelMdwIdeal.main_arg5))
      ∧ r.2.sem = fun _ => 0)

def quiescent_ReferenceMdwIdeal [hReferenceMdwIdeal : Cert.ReferenceMdwIdeal.Facts] : Prop :=
  ∀ (m : (ℓ : Loc Cert.ReferenceMdwIdeal.nD Cert.ReferenceMdwIdeal.τ Cert.ReferenceMdwIdeal.sig) → Buf (Elt Ideal) ℓ) (g : Dev Cert.ReferenceMdwIdeal.nD → PrngReg), Pre_ReferenceMdwIdeal m →
    θ_run (Cert.ReferenceMdwIdeal.defs (F := Ideal)) (onTc (τ := Cert.ReferenceMdwIdeal.τ) (Cert.ReferenceMdwIdeal.main (F := Ideal))) ⟨m, fun _ => 0, g⟩ (fun r => (∀ c : Dev Cert.ReferenceMdwIdeal.nD,
      r.2.mem ((c.tc : Thread Cert.ReferenceMdwIdeal.nD Cert.ReferenceMdwIdeal.τ).loc Cert.ReferenceMdwIdeal.main_arg0) = m ((c.tc : Thread Cert.ReferenceMdwIdeal.nD Cert.ReferenceMdwIdeal.τ).loc Cert.ReferenceMdwIdeal.main_arg0)
      ∧ r.2.mem ((c.tc : Thread Cert.ReferenceMdwIdeal.nD Cert.ReferenceMdwIdeal.τ).loc Cert.ReferenceMdwIdeal.main_arg1) = m ((c.tc : Thread Cert.ReferenceMdwIdeal.nD Cert.ReferenceMdwIdeal.τ).loc Cert.ReferenceMdwIdeal.main_arg1)
      ∧ r.2.mem ((c.tc : Thread Cert.ReferenceMdwIdeal.nD Cert.ReferenceMdwIdeal.τ).loc Cert.ReferenceMdwIdeal.main_arg2) = m ((c.tc : Thread Cert.ReferenceMdwIdeal.nD Cert.ReferenceMdwIdeal.τ).loc Cert.ReferenceMdwIdeal.main_arg2)
      ∧ r.2.mem ((c.tc : Thread Cert.ReferenceMdwIdeal.nD Cert.ReferenceMdwIdeal.τ).loc Cert.ReferenceMdwIdeal.main_arg3) = m ((c.tc : Thread Cert.ReferenceMdwIdeal.nD Cert.ReferenceMdwIdeal.τ).loc Cert.ReferenceMdwIdeal.main_arg3)
      ∧ r.2.mem ((c.tc : Thread Cert.ReferenceMdwIdeal.nD Cert.ReferenceMdwIdeal.τ).loc Cert.ReferenceMdwIdeal.main_arg4) = m ((c.tc : Thread Cert.ReferenceMdwIdeal.nD Cert.ReferenceMdwIdeal.τ).loc Cert.ReferenceMdwIdeal.main_arg4)
      ∧ r.2.mem ((c.tc : Thread Cert.ReferenceMdwIdeal.nD Cert.ReferenceMdwIdeal.τ).loc Cert.ReferenceMdwIdeal.main_arg5) = m ((c.tc : Thread Cert.ReferenceMdwIdeal.nD Cert.ReferenceMdwIdeal.τ).loc Cert.ReferenceMdwIdeal.main_arg5))
      ∧ r.2.sem = fun _ => 0)

def quiescent_KernelWin [hKernelWin : Cert.KernelWin.Facts] : Prop :=
  ∀ (m : (ℓ : Loc Cert.KernelWin.nD Cert.KernelWin.τ Cert.KernelWin.sig) → Buf (Elt Bits) ℓ) (g : Dev Cert.KernelWin.nD → PrngReg), Pre_KernelWin m →
    θ_run (Cert.KernelWin.defs (F := Bits)) (onTc (τ := Cert.KernelWin.τ) (Cert.KernelWin.main (F := Bits))) ⟨m, fun _ => 0, g⟩ (fun r => (∀ c : Dev Cert.KernelWin.nD,
      r.2.mem ((c.tc : Thread Cert.KernelWin.nD Cert.KernelWin.τ).loc Cert.KernelWin.main_arg0) = m ((c.tc : Thread Cert.KernelWin.nD Cert.KernelWin.τ).loc Cert.KernelWin.main_arg0)
      ∧ r.2.mem ((c.tc : Thread Cert.KernelWin.nD Cert.KernelWin.τ).loc Cert.KernelWin.main_arg1) = m ((c.tc : Thread Cert.KernelWin.nD Cert.KernelWin.τ).loc Cert.KernelWin.main_arg1))
      ∧ r.2.sem = fun _ => 0)

def quiescent_KernelWinIdeal [hKernelWinIdeal : Cert.KernelWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg), Pre_KernelWinIdeal m →
    θ_run (Cert.KernelWinIdeal.defs (F := Ideal)) (onTc (τ := Cert.KernelWinIdeal.τ) (Cert.KernelWinIdeal.main (F := Ideal))) ⟨m, fun _ => 0, g⟩ (fun r => (∀ c : Dev Cert.KernelWinIdeal.nD,
      r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
      ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ r.2.sem = fun _ => 0)

def quiescent_ReferenceWinIdeal [hReferenceWinIdeal : Cert.ReferenceWinIdeal.Facts] : Prop :=
  ∀ (m : (ℓ : Loc Cert.ReferenceWinIdeal.nD Cert.ReferenceWinIdeal.τ Cert.ReferenceWinIdeal.sig) → Buf (Elt Ideal) ℓ) (g : Dev Cert.ReferenceWinIdeal.nD → PrngReg), Pre_ReferenceWinIdeal m →
    θ_run (Cert.ReferenceWinIdeal.defs (F := Ideal)) (onTc (τ := Cert.ReferenceWinIdeal.τ) (Cert.ReferenceWinIdeal.main (F := Ideal))) ⟨m, fun _ => 0, g⟩ (fun r => (∀ c : Dev Cert.ReferenceWinIdeal.nD,
      r.2.mem ((c.tc : Thread Cert.ReferenceWinIdeal.nD Cert.ReferenceWinIdeal.τ).loc Cert.ReferenceWinIdeal.main_arg0) = m ((c.tc : Thread Cert.ReferenceWinIdeal.nD Cert.ReferenceWinIdeal.τ).loc Cert.ReferenceWinIdeal.main_arg0)
      ∧ r.2.mem ((c.tc : Thread Cert.ReferenceWinIdeal.nD Cert.ReferenceWinIdeal.τ).loc Cert.ReferenceWinIdeal.main_arg1) = m ((c.tc : Thread Cert.ReferenceWinIdeal.nD Cert.ReferenceWinIdeal.τ).loc Cert.ReferenceWinIdeal.main_arg1))
      ∧ r.2.sem = fun _ => 0)

def quiescent_KernelMx [hKernelMx : Cert.KernelMx.Facts] : Prop :=
  ∀ (m : (ℓ : Loc Cert.KernelMx.nD Cert.KernelMx.τ Cert.KernelMx.sig) → Buf (Elt Bits) ℓ) (g : Dev Cert.KernelMx.nD → PrngReg), Pre_KernelMx m →
    θ_run (Cert.KernelMx.defs (F := Bits)) (onTc (τ := Cert.KernelMx.τ) (Cert.KernelMx.main (F := Bits))) ⟨m, fun _ => 0, g⟩ (fun r => (∀ c : Dev Cert.KernelMx.nD,
      r.2.mem ((c.tc : Thread Cert.KernelMx.nD Cert.KernelMx.τ).loc Cert.KernelMx.main_arg0) = m ((c.tc : Thread Cert.KernelMx.nD Cert.KernelMx.τ).loc Cert.KernelMx.main_arg0)
      ∧ r.2.mem ((c.tc : Thread Cert.KernelMx.nD Cert.KernelMx.τ).loc Cert.KernelMx.main_arg1) = m ((c.tc : Thread Cert.KernelMx.nD Cert.KernelMx.τ).loc Cert.KernelMx.main_arg1)
      ∧ r.2.mem ((c.tc : Thread Cert.KernelMx.nD Cert.KernelMx.τ).loc Cert.KernelMx.main_arg2) = m ((c.tc : Thread Cert.KernelMx.nD Cert.KernelMx.τ).loc Cert.KernelMx.main_arg2)
      ∧ r.2.mem ((c.tc : Thread Cert.KernelMx.nD Cert.KernelMx.τ).loc Cert.KernelMx.main_arg3) = m ((c.tc : Thread Cert.KernelMx.nD Cert.KernelMx.τ).loc Cert.KernelMx.main_arg3)
      ∧ r.2.mem ((c.tc : Thread Cert.KernelMx.nD Cert.KernelMx.τ).loc Cert.KernelMx.main_arg4) = m ((c.tc : Thread Cert.KernelMx.nD Cert.KernelMx.τ).loc Cert.KernelMx.main_arg4))
      ∧ r.2.sem = fun _ => 0)

def quiescent_KernelMxIdeal [hKernelMxIdeal : Cert.KernelMxIdeal.Facts] : Prop :=
  ∀ (m : (ℓ : Loc Cert.KernelMxIdeal.nD Cert.KernelMxIdeal.τ Cert.KernelMxIdeal.sig) → Buf (Elt Ideal) ℓ) (g : Dev Cert.KernelMxIdeal.nD → PrngReg), Pre_KernelMxIdeal m →
    θ_run (Cert.KernelMxIdeal.defs (F := Ideal)) (onTc (τ := Cert.KernelMxIdeal.τ) (Cert.KernelMxIdeal.main (F := Ideal))) ⟨m, fun _ => 0, g⟩ (fun r => (∀ c : Dev Cert.KernelMxIdeal.nD,
      r.2.mem ((c.tc : Thread Cert.KernelMxIdeal.nD Cert.KernelMxIdeal.τ).loc Cert.KernelMxIdeal.main_arg0) = m ((c.tc : Thread Cert.KernelMxIdeal.nD Cert.KernelMxIdeal.τ).loc Cert.KernelMxIdeal.main_arg0)
      ∧ r.2.mem ((c.tc : Thread Cert.KernelMxIdeal.nD Cert.KernelMxIdeal.τ).loc Cert.KernelMxIdeal.main_arg1) = m ((c.tc : Thread Cert.KernelMxIdeal.nD Cert.KernelMxIdeal.τ).loc Cert.KernelMxIdeal.main_arg1)
      ∧ r.2.mem ((c.tc : Thread Cert.KernelMxIdeal.nD Cert.KernelMxIdeal.τ).loc Cert.KernelMxIdeal.main_arg2) = m ((c.tc : Thread Cert.KernelMxIdeal.nD Cert.KernelMxIdeal.τ).loc Cert.KernelMxIdeal.main_arg2)
      ∧ r.2.mem ((c.tc : Thread Cert.KernelMxIdeal.nD Cert.KernelMxIdeal.τ).loc Cert.KernelMxIdeal.main_arg3) = m ((c.tc : Thread Cert.KernelMxIdeal.nD Cert.KernelMxIdeal.τ).loc Cert.KernelMxIdeal.main_arg3)
      ∧ r.2.mem ((c.tc : Thread Cert.KernelMxIdeal.nD Cert.KernelMxIdeal.τ).loc Cert.KernelMxIdeal.main_arg4) = m ((c.tc : Thread Cert.KernelMxIdeal.nD Cert.KernelMxIdeal.τ).loc Cert.KernelMxIdeal.main_arg4))
      ∧ r.2.sem = fun _ => 0)

def quiescent_KernelMxIdeal_pre_finite_mx [hKernelMxIdeal : Cert.KernelMxIdeal.Facts] [hPre_finite_mx : Cert.Pre_finite_mx.Facts] : Prop :=
  ∀ (m : (ℓ : Loc Cert.KernelMxIdeal.nD Cert.KernelMxIdeal.τ Cert.KernelMxIdeal.sig) → Buf (Elt Ideal) ℓ) (g : Dev Cert.KernelMxIdeal.nD → PrngReg), Pre_KernelMxIdeal_finite_mx m →
    θ_run (Cert.KernelMxIdeal.defs (F := Ideal)) (onTc (τ := Cert.KernelMxIdeal.τ) (Cert.KernelMxIdeal.main (F := Ideal))) ⟨m, fun _ => 0, g⟩ (fun r => (∀ c : Dev Cert.KernelMxIdeal.nD,
      r.2.mem ((c.tc : Thread Cert.KernelMxIdeal.nD Cert.KernelMxIdeal.τ).loc Cert.KernelMxIdeal.main_arg0) = m ((c.tc : Thread Cert.KernelMxIdeal.nD Cert.KernelMxIdeal.τ).loc Cert.KernelMxIdeal.main_arg0)
      ∧ r.2.mem ((c.tc : Thread Cert.KernelMxIdeal.nD Cert.KernelMxIdeal.τ).loc Cert.KernelMxIdeal.main_arg1) = m ((c.tc : Thread Cert.KernelMxIdeal.nD Cert.KernelMxIdeal.τ).loc Cert.KernelMxIdeal.main_arg1)
      ∧ r.2.mem ((c.tc : Thread Cert.KernelMxIdeal.nD Cert.KernelMxIdeal.τ).loc Cert.KernelMxIdeal.main_arg2) = m ((c.tc : Thread Cert.KernelMxIdeal.nD Cert.KernelMxIdeal.τ).loc Cert.KernelMxIdeal.main_arg2)
      ∧ r.2.mem ((c.tc : Thread Cert.KernelMxIdeal.nD Cert.KernelMxIdeal.τ).loc Cert.KernelMxIdeal.main_arg3) = m ((c.tc : Thread Cert.KernelMxIdeal.nD Cert.KernelMxIdeal.τ).loc Cert.KernelMxIdeal.main_arg3)
      ∧ r.2.mem ((c.tc : Thread Cert.KernelMxIdeal.nD Cert.KernelMxIdeal.τ).loc Cert.KernelMxIdeal.main_arg4) = m ((c.tc : Thread Cert.KernelMxIdeal.nD Cert.KernelMxIdeal.τ).loc Cert.KernelMxIdeal.main_arg4))
      ∧ r.2.sem = fun _ => 0)

def quiescent_ReferenceMxIdeal [hReferenceMxIdeal : Cert.ReferenceMxIdeal.Facts] : Prop :=
  ∀ (m : (ℓ : Loc Cert.ReferenceMxIdeal.nD Cert.ReferenceMxIdeal.τ Cert.ReferenceMxIdeal.sig) → Buf (Elt Ideal) ℓ) (g : Dev Cert.ReferenceMxIdeal.nD → PrngReg), Pre_ReferenceMxIdeal m →
    θ_run (Cert.ReferenceMxIdeal.defs (F := Ideal)) (onTc (τ := Cert.ReferenceMxIdeal.τ) (Cert.ReferenceMxIdeal.main (F := Ideal))) ⟨m, fun _ => 0, g⟩ (fun r => (∀ c : Dev Cert.ReferenceMxIdeal.nD,
      r.2.mem ((c.tc : Thread Cert.ReferenceMxIdeal.nD Cert.ReferenceMxIdeal.τ).loc Cert.ReferenceMxIdeal.main_arg0) = m ((c.tc : Thread Cert.ReferenceMxIdeal.nD Cert.ReferenceMxIdeal.τ).loc Cert.ReferenceMxIdeal.main_arg0)
      ∧ r.2.mem ((c.tc : Thread Cert.ReferenceMxIdeal.nD Cert.ReferenceMxIdeal.τ).loc Cert.ReferenceMxIdeal.main_arg1) = m ((c.tc : Thread Cert.ReferenceMxIdeal.nD Cert.ReferenceMxIdeal.τ).loc Cert.ReferenceMxIdeal.main_arg1)
      ∧ r.2.mem ((c.tc : Thread Cert.ReferenceMxIdeal.nD Cert.ReferenceMxIdeal.τ).loc Cert.ReferenceMxIdeal.main_arg2) = m ((c.tc : Thread Cert.ReferenceMxIdeal.nD Cert.ReferenceMxIdeal.τ).loc Cert.ReferenceMxIdeal.main_arg2)
      ∧ r.2.mem ((c.tc : Thread Cert.ReferenceMxIdeal.nD Cert.ReferenceMxIdeal.τ).loc Cert.ReferenceMxIdeal.main_arg3) = m ((c.tc : Thread Cert.ReferenceMxIdeal.nD Cert.ReferenceMxIdeal.τ).loc Cert.ReferenceMxIdeal.main_arg3)
      ∧ r.2.mem ((c.tc : Thread Cert.ReferenceMxIdeal.nD Cert.ReferenceMxIdeal.τ).loc Cert.ReferenceMxIdeal.main_arg4) = m ((c.tc : Thread Cert.ReferenceMxIdeal.nD Cert.ReferenceMxIdeal.τ).loc Cert.ReferenceMxIdeal.main_arg4))
      ∧ r.2.sem = fun _ => 0)

def quiescent_ReferenceMxIdeal_pre_finite_mx [hReferenceMxIdeal : Cert.ReferenceMxIdeal.Facts] [hPre_finite_mx : Cert.Pre_finite_mx.Facts] : Prop :=
  ∀ (m : (ℓ : Loc Cert.ReferenceMxIdeal.nD Cert.ReferenceMxIdeal.τ Cert.ReferenceMxIdeal.sig) → Buf (Elt Ideal) ℓ) (g : Dev Cert.ReferenceMxIdeal.nD → PrngReg), Pre_ReferenceMxIdeal_finite_mx m →
    θ_run (Cert.ReferenceMxIdeal.defs (F := Ideal)) (onTc (τ := Cert.ReferenceMxIdeal.τ) (Cert.ReferenceMxIdeal.main (F := Ideal))) ⟨m, fun _ => 0, g⟩ (fun r => (∀ c : Dev Cert.ReferenceMxIdeal.nD,
      r.2.mem ((c.tc : Thread Cert.ReferenceMxIdeal.nD Cert.ReferenceMxIdeal.τ).loc Cert.ReferenceMxIdeal.main_arg0) = m ((c.tc : Thread Cert.ReferenceMxIdeal.nD Cert.ReferenceMxIdeal.τ).loc Cert.ReferenceMxIdeal.main_arg0)
      ∧ r.2.mem ((c.tc : Thread Cert.ReferenceMxIdeal.nD Cert.ReferenceMxIdeal.τ).loc Cert.ReferenceMxIdeal.main_arg1) = m ((c.tc : Thread Cert.ReferenceMxIdeal.nD Cert.ReferenceMxIdeal.τ).loc Cert.ReferenceMxIdeal.main_arg1)
      ∧ r.2.mem ((c.tc : Thread Cert.ReferenceMxIdeal.nD Cert.ReferenceMxIdeal.τ).loc Cert.ReferenceMxIdeal.main_arg2) = m ((c.tc : Thread Cert.ReferenceMxIdeal.nD Cert.ReferenceMxIdeal.τ).loc Cert.ReferenceMxIdeal.main_arg2)
      ∧ r.2.mem ((c.tc : Thread Cert.ReferenceMxIdeal.nD Cert.ReferenceMxIdeal.τ).loc Cert.ReferenceMxIdeal.main_arg3) = m ((c.tc : Thread Cert.ReferenceMxIdeal.nD Cert.ReferenceMxIdeal.τ).loc Cert.ReferenceMxIdeal.main_arg3)
      ∧ r.2.mem ((c.tc : Thread Cert.ReferenceMxIdeal.nD Cert.ReferenceMxIdeal.τ).loc Cert.ReferenceMxIdeal.main_arg4) = m ((c.tc : Thread Cert.ReferenceMxIdeal.nD Cert.ReferenceMxIdeal.τ).loc Cert.ReferenceMxIdeal.main_arg4))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3)
      ∧ r.2.mem ((c.tc : Thread Cert.KernelGate.nD Cert.KernelGate.τ).loc Cert.KernelGate.main_arg4) = m ((c.tc : Thread Cert.KernelGate.nD Cert.KernelGate.τ).loc Cert.KernelGate.main_arg4)
      ∧ r.2.mem ((c.tc : Thread Cert.KernelGate.nD Cert.KernelGate.τ).loc Cert.KernelGate.main_arg5) = m ((c.tc : Thread Cert.KernelGate.nD Cert.KernelGate.τ).loc Cert.KernelGate.main_arg5)
      ∧ r.2.mem ((c.tc : Thread Cert.KernelGate.nD Cert.KernelGate.τ).loc Cert.KernelGate.main_arg6) = m ((c.tc : Thread Cert.KernelGate.nD Cert.KernelGate.τ).loc Cert.KernelGate.main_arg6))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
      ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
      ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5)
      ∧ r.2.mem ((c.tc : Thread Cert.KernelGateIdeal.nD Cert.KernelGateIdeal.τ).loc Cert.KernelGateIdeal.main_arg6) = m ((c.tc : Thread Cert.KernelGateIdeal.nD Cert.KernelGateIdeal.τ).loc Cert.KernelGateIdeal.main_arg6))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3)
      ∧ r.2.mem ((c.tc : Thread Cert.ReferenceGateIdeal.nD Cert.ReferenceGateIdeal.τ).loc Cert.ReferenceGateIdeal.main_arg4) = m ((c.tc : Thread Cert.ReferenceGateIdeal.nD Cert.ReferenceGateIdeal.τ).loc Cert.ReferenceGateIdeal.main_arg4)
      ∧ r.2.mem ((c.tc : Thread Cert.ReferenceGateIdeal.nD Cert.ReferenceGateIdeal.τ).loc Cert.ReferenceGateIdeal.main_arg5) = m ((c.tc : Thread Cert.ReferenceGateIdeal.nD Cert.ReferenceGateIdeal.τ).loc Cert.ReferenceGateIdeal.main_arg5)
      ∧ r.2.mem ((c.tc : Thread Cert.ReferenceGateIdeal.nD Cert.ReferenceGateIdeal.τ).loc Cert.ReferenceGateIdeal.main_arg6) = m ((c.tc : Thread Cert.ReferenceGateIdeal.nD Cert.ReferenceGateIdeal.τ).loc Cert.ReferenceGateIdeal.main_arg6))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6)
      ∧ r.2.mem ((c.tc : Thread Cert.KernelIn.nD Cert.KernelIn.τ).loc Cert.KernelIn.main_arg7) = m ((c.tc : Thread Cert.KernelIn.nD Cert.KernelIn.τ).loc Cert.KernelIn.main_arg7))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
      ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6)
      ∧ r.2.mem ((c.tc : Thread Cert.ReferenceInIdeal.nD Cert.ReferenceInIdeal.τ).loc Cert.ReferenceInIdeal.main_arg7) = m ((c.tc : Thread Cert.ReferenceInIdeal.nD Cert.ReferenceInIdeal.τ).loc Cert.ReferenceInIdeal.main_arg7))
      ∧ r.2.sem = fun _ => 0)

def quiescent_KernelSmallA [hKernelSmallA : Cert.KernelSmallA.Facts] : Prop :=
  ∀ (m : (ℓ : Loc Cert.KernelSmallA.nD Cert.KernelSmallA.τ Cert.KernelSmallA.sig) → Buf (Elt Bits) ℓ) (g : Dev Cert.KernelSmallA.nD → PrngReg), Pre_KernelSmallA m →
    θ_run (Cert.KernelSmallA.defs (F := Bits)) (onTc (τ := Cert.KernelSmallA.τ) (Cert.KernelSmallA.main (F := Bits))) ⟨m, fun _ => 0, g⟩ (fun r => (∀ c : Dev Cert.KernelSmallA.nD,
      r.2.mem ((c.tc : Thread Cert.KernelSmallA.nD Cert.KernelSmallA.τ).loc Cert.KernelSmallA.main_arg0) = m ((c.tc : Thread Cert.KernelSmallA.nD Cert.KernelSmallA.τ).loc Cert.KernelSmallA.main_arg0)
      ∧ r.2.mem ((c.tc : Thread Cert.KernelSmallA.nD Cert.KernelSmallA.τ).loc Cert.KernelSmallA.main_arg1) = m ((c.tc : Thread Cert.KernelSmallA.nD Cert.KernelSmallA.τ).loc Cert.KernelSmallA.main_arg1)
      ∧ r.2.mem ((c.tc : Thread Cert.KernelSmallA.nD Cert.KernelSmallA.τ).loc Cert.KernelSmallA.main_arg2) = m ((c.tc : Thread Cert.KernelSmallA.nD Cert.KernelSmallA.τ).loc Cert.KernelSmallA.main_arg2)
      ∧ r.2.mem ((c.tc : Thread Cert.KernelSmallA.nD Cert.KernelSmallA.τ).loc Cert.KernelSmallA.main_arg3) = m ((c.tc : Thread Cert.KernelSmallA.nD Cert.KernelSmallA.τ).loc Cert.KernelSmallA.main_arg3)
      ∧ r.2.mem ((c.tc : Thread Cert.KernelSmallA.nD Cert.KernelSmallA.τ).loc Cert.KernelSmallA.main_arg4) = m ((c.tc : Thread Cert.KernelSmallA.nD Cert.KernelSmallA.τ).loc Cert.KernelSmallA.main_arg4)
      ∧ r.2.mem ((c.tc : Thread Cert.KernelSmallA.nD Cert.KernelSmallA.τ).loc Cert.KernelSmallA.main_arg5) = m ((c.tc : Thread Cert.KernelSmallA.nD Cert.KernelSmallA.τ).loc Cert.KernelSmallA.main_arg5)
      ∧ r.2.mem ((c.tc : Thread Cert.KernelSmallA.nD Cert.KernelSmallA.τ).loc Cert.KernelSmallA.main_arg6) = m ((c.tc : Thread Cert.KernelSmallA.nD Cert.KernelSmallA.τ).loc Cert.KernelSmallA.main_arg6)
      ∧ r.2.mem ((c.tc : Thread Cert.KernelSmallA.nD Cert.KernelSmallA.τ).loc Cert.KernelSmallA.main_arg7) = m ((c.tc : Thread Cert.KernelSmallA.nD Cert.KernelSmallA.τ).loc Cert.KernelSmallA.main_arg7)
      ∧ r.2.mem ((c.tc : Thread Cert.KernelSmallA.nD Cert.KernelSmallA.τ).loc Cert.KernelSmallA.main_arg8) = m ((c.tc : Thread Cert.KernelSmallA.nD Cert.KernelSmallA.τ).loc Cert.KernelSmallA.main_arg8)
      ∧ r.2.mem ((c.tc : Thread Cert.KernelSmallA.nD Cert.KernelSmallA.τ).loc Cert.KernelSmallA.main_arg9) = m ((c.tc : Thread Cert.KernelSmallA.nD Cert.KernelSmallA.τ).loc Cert.KernelSmallA.main_arg9)
      ∧ r.2.mem ((c.tc : Thread Cert.KernelSmallA.nD Cert.KernelSmallA.τ).loc Cert.KernelSmallA.main_arg10) = m ((c.tc : Thread Cert.KernelSmallA.nD Cert.KernelSmallA.τ).loc Cert.KernelSmallA.main_arg10)
      ∧ r.2.mem ((c.tc : Thread Cert.KernelSmallA.nD Cert.KernelSmallA.τ).loc Cert.KernelSmallA.main_arg11) = m ((c.tc : Thread Cert.KernelSmallA.nD Cert.KernelSmallA.τ).loc Cert.KernelSmallA.main_arg11))
      ∧ r.2.sem = fun _ => 0)

def quiescent_KernelSmallAIdeal [hKernelSmallAIdeal : Cert.KernelSmallAIdeal.Facts] : Prop :=
  ∀ (m : (ℓ : Loc Cert.KernelSmallAIdeal.nD Cert.KernelSmallAIdeal.τ Cert.KernelSmallAIdeal.sig) → Buf (Elt Ideal) ℓ) (g : Dev Cert.KernelSmallAIdeal.nD → PrngReg), Pre_KernelSmallAIdeal m →
    θ_run (Cert.KernelSmallAIdeal.defs (F := Ideal)) (onTc (τ := Cert.KernelSmallAIdeal.τ) (Cert.KernelSmallAIdeal.main (F := Ideal))) ⟨m, fun _ => 0, g⟩ (fun r => (∀ c : Dev Cert.KernelSmallAIdeal.nD,
      r.2.mem ((c.tc : Thread Cert.KernelSmallAIdeal.nD Cert.KernelSmallAIdeal.τ).loc Cert.KernelSmallAIdeal.main_arg0) = m ((c.tc : Thread Cert.KernelSmallAIdeal.nD Cert.KernelSmallAIdeal.τ).loc Cert.KernelSmallAIdeal.main_arg0)
      ∧ r.2.mem ((c.tc : Thread Cert.KernelSmallAIdeal.nD Cert.KernelSmallAIdeal.τ).loc Cert.KernelSmallAIdeal.main_arg1) = m ((c.tc : Thread Cert.KernelSmallAIdeal.nD Cert.KernelSmallAIdeal.τ).loc Cert.KernelSmallAIdeal.main_arg1)
      ∧ r.2.mem ((c.tc : Thread Cert.KernelSmallAIdeal.nD Cert.KernelSmallAIdeal.τ).loc Cert.KernelSmallAIdeal.main_arg2) = m ((c.tc : Thread Cert.KernelSmallAIdeal.nD Cert.KernelSmallAIdeal.τ).loc Cert.KernelSmallAIdeal.main_arg2)
      ∧ r.2.mem ((c.tc : Thread Cert.KernelSmallAIdeal.nD Cert.KernelSmallAIdeal.τ).loc Cert.KernelSmallAIdeal.main_arg3) = m ((c.tc : Thread Cert.KernelSmallAIdeal.nD Cert.KernelSmallAIdeal.τ).loc Cert.KernelSmallAIdeal.main_arg3)
      ∧ r.2.mem ((c.tc : Thread Cert.KernelSmallAIdeal.nD Cert.KernelSmallAIdeal.τ).loc Cert.KernelSmallAIdeal.main_arg4) = m ((c.tc : Thread Cert.KernelSmallAIdeal.nD Cert.KernelSmallAIdeal.τ).loc Cert.KernelSmallAIdeal.main_arg4)
      ∧ r.2.mem ((c.tc : Thread Cert.KernelSmallAIdeal.nD Cert.KernelSmallAIdeal.τ).loc Cert.KernelSmallAIdeal.main_arg5) = m ((c.tc : Thread Cert.KernelSmallAIdeal.nD Cert.KernelSmallAIdeal.τ).loc Cert.KernelSmallAIdeal.main_arg5)
      ∧ r.2.mem ((c.tc : Thread Cert.KernelSmallAIdeal.nD Cert.KernelSmallAIdeal.τ).loc Cert.KernelSmallAIdeal.main_arg6) = m ((c.tc : Thread Cert.KernelSmallAIdeal.nD Cert.KernelSmallAIdeal.τ).loc Cert.KernelSmallAIdeal.main_arg6)
      ∧ r.2.mem ((c.tc : Thread Cert.KernelSmallAIdeal.nD Cert.KernelSmallAIdeal.τ).loc Cert.KernelSmallAIdeal.main_arg7) = m ((c.tc : Thread Cert.KernelSmallAIdeal.nD Cert.KernelSmallAIdeal.τ).loc Cert.KernelSmallAIdeal.main_arg7)
      ∧ r.2.mem ((c.tc : Thread Cert.KernelSmallAIdeal.nD Cert.KernelSmallAIdeal.τ).loc Cert.KernelSmallAIdeal.main_arg8) = m ((c.tc : Thread Cert.KernelSmallAIdeal.nD Cert.KernelSmallAIdeal.τ).loc Cert.KernelSmallAIdeal.main_arg8)
      ∧ r.2.mem ((c.tc : Thread Cert.KernelSmallAIdeal.nD Cert.KernelSmallAIdeal.τ).loc Cert.KernelSmallAIdeal.main_arg9) = m ((c.tc : Thread Cert.KernelSmallAIdeal.nD Cert.KernelSmallAIdeal.τ).loc Cert.KernelSmallAIdeal.main_arg9)
      ∧ r.2.mem ((c.tc : Thread Cert.KernelSmallAIdeal.nD Cert.KernelSmallAIdeal.τ).loc Cert.KernelSmallAIdeal.main_arg10) = m ((c.tc : Thread Cert.KernelSmallAIdeal.nD Cert.KernelSmallAIdeal.τ).loc Cert.KernelSmallAIdeal.main_arg10)
      ∧ r.2.mem ((c.tc : Thread Cert.KernelSmallAIdeal.nD Cert.KernelSmallAIdeal.τ).loc Cert.KernelSmallAIdeal.main_arg11) = m ((c.tc : Thread Cert.KernelSmallAIdeal.nD Cert.KernelSmallAIdeal.τ).loc Cert.KernelSmallAIdeal.main_arg11))
      ∧ r.2.sem = fun _ => 0)

def quiescent_ReferenceSmallAIdeal [hReferenceSmallAIdeal : Cert.ReferenceSmallAIdeal.Facts] : Prop :=
  ∀ (m : (ℓ : Loc Cert.ReferenceSmallAIdeal.nD Cert.ReferenceSmallAIdeal.τ Cert.ReferenceSmallAIdeal.sig) → Buf (Elt Ideal) ℓ) (g : Dev Cert.ReferenceSmallAIdeal.nD → PrngReg), Pre_ReferenceSmallAIdeal m →
    θ_run (Cert.ReferenceSmallAIdeal.defs (F := Ideal)) (onTc (τ := Cert.ReferenceSmallAIdeal.τ) (Cert.ReferenceSmallAIdeal.main (F := Ideal))) ⟨m, fun _ => 0, g⟩ (fun r => (∀ c : Dev Cert.ReferenceSmallAIdeal.nD,
      r.2.mem ((c.tc : Thread Cert.ReferenceSmallAIdeal.nD Cert.ReferenceSmallAIdeal.τ).loc Cert.ReferenceSmallAIdeal.main_arg0) = m ((c.tc : Thread Cert.ReferenceSmallAIdeal.nD Cert.ReferenceSmallAIdeal.τ).loc Cert.ReferenceSmallAIdeal.main_arg0)
      ∧ r.2.mem ((c.tc : Thread Cert.ReferenceSmallAIdeal.nD Cert.ReferenceSmallAIdeal.τ).loc Cert.ReferenceSmallAIdeal.main_arg1) = m ((c.tc : Thread Cert.ReferenceSmallAIdeal.nD Cert.ReferenceSmallAIdeal.τ).loc Cert.ReferenceSmallAIdeal.main_arg1)
      ∧ r.2.mem ((c.tc : Thread Cert.ReferenceSmallAIdeal.nD Cert.ReferenceSmallAIdeal.τ).loc Cert.ReferenceSmallAIdeal.main_arg2) = m ((c.tc : Thread Cert.ReferenceSmallAIdeal.nD Cert.ReferenceSmallAIdeal.τ).loc Cert.ReferenceSmallAIdeal.main_arg2)
      ∧ r.2.mem ((c.tc : Thread Cert.ReferenceSmallAIdeal.nD Cert.ReferenceSmallAIdeal.τ).loc Cert.ReferenceSmallAIdeal.main_arg3) = m ((c.tc : Thread Cert.ReferenceSmallAIdeal.nD Cert.ReferenceSmallAIdeal.τ).loc Cert.ReferenceSmallAIdeal.main_arg3)
      ∧ r.2.mem ((c.tc : Thread Cert.ReferenceSmallAIdeal.nD Cert.ReferenceSmallAIdeal.τ).loc Cert.ReferenceSmallAIdeal.main_arg4) = m ((c.tc : Thread Cert.ReferenceSmallAIdeal.nD Cert.ReferenceSmallAIdeal.τ).loc Cert.ReferenceSmallAIdeal.main_arg4)
      ∧ r.2.mem ((c.tc : Thread Cert.ReferenceSmallAIdeal.nD Cert.ReferenceSmallAIdeal.τ).loc Cert.ReferenceSmallAIdeal.main_arg5) = m ((c.tc : Thread Cert.ReferenceSmallAIdeal.nD Cert.ReferenceSmallAIdeal.τ).loc Cert.ReferenceSmallAIdeal.main_arg5)
      ∧ r.2.mem ((c.tc : Thread Cert.ReferenceSmallAIdeal.nD Cert.ReferenceSmallAIdeal.τ).loc Cert.ReferenceSmallAIdeal.main_arg6) = m ((c.tc : Thread Cert.ReferenceSmallAIdeal.nD Cert.ReferenceSmallAIdeal.τ).loc Cert.ReferenceSmallAIdeal.main_arg6)
      ∧ r.2.mem ((c.tc : Thread Cert.ReferenceSmallAIdeal.nD Cert.ReferenceSmallAIdeal.τ).loc Cert.ReferenceSmallAIdeal.main_arg7) = m ((c.tc : Thread Cert.ReferenceSmallAIdeal.nD Cert.ReferenceSmallAIdeal.τ).loc Cert.ReferenceSmallAIdeal.main_arg7)
      ∧ r.2.mem ((c.tc : Thread Cert.ReferenceSmallAIdeal.nD Cert.ReferenceSmallAIdeal.τ).loc Cert.ReferenceSmallAIdeal.main_arg8) = m ((c.tc : Thread Cert.ReferenceSmallAIdeal.nD Cert.ReferenceSmallAIdeal.τ).loc Cert.ReferenceSmallAIdeal.main_arg8)
      ∧ r.2.mem ((c.tc : Thread Cert.ReferenceSmallAIdeal.nD Cert.ReferenceSmallAIdeal.τ).loc Cert.ReferenceSmallAIdeal.main_arg9) = m ((c.tc : Thread Cert.ReferenceSmallAIdeal.nD Cert.ReferenceSmallAIdeal.τ).loc Cert.ReferenceSmallAIdeal.main_arg9)
      ∧ r.2.mem ((c.tc : Thread Cert.ReferenceSmallAIdeal.nD Cert.ReferenceSmallAIdeal.τ).loc Cert.ReferenceSmallAIdeal.main_arg10) = m ((c.tc : Thread Cert.ReferenceSmallAIdeal.nD Cert.ReferenceSmallAIdeal.τ).loc Cert.ReferenceSmallAIdeal.main_arg10)
      ∧ r.2.mem ((c.tc : Thread Cert.ReferenceSmallAIdeal.nD Cert.ReferenceSmallAIdeal.τ).loc Cert.ReferenceSmallAIdeal.main_arg11) = m ((c.tc : Thread Cert.ReferenceSmallAIdeal.nD Cert.ReferenceSmallAIdeal.τ).loc Cert.ReferenceSmallAIdeal.main_arg11))
      ∧ r.2.sem = fun _ => 0)

def quiescent_KernelSmallB [hKernelSmallB : Cert.KernelSmallB.Facts] : Prop :=
  ∀ (m : (ℓ : Loc Cert.KernelSmallB.nD Cert.KernelSmallB.τ Cert.KernelSmallB.sig) → Buf (Elt Bits) ℓ) (g : Dev Cert.KernelSmallB.nD → PrngReg), Pre_KernelSmallB m →
    θ_run (Cert.KernelSmallB.defs (F := Bits)) (onTc (τ := Cert.KernelSmallB.τ) (Cert.KernelSmallB.main (F := Bits))) ⟨m, fun _ => 0, g⟩ (fun r => (∀ c : Dev Cert.KernelSmallB.nD,
      r.2.mem ((c.tc : Thread Cert.KernelSmallB.nD Cert.KernelSmallB.τ).loc Cert.KernelSmallB.main_arg0) = m ((c.tc : Thread Cert.KernelSmallB.nD Cert.KernelSmallB.τ).loc Cert.KernelSmallB.main_arg0)
      ∧ r.2.mem ((c.tc : Thread Cert.KernelSmallB.nD Cert.KernelSmallB.τ).loc Cert.KernelSmallB.main_arg1) = m ((c.tc : Thread Cert.KernelSmallB.nD Cert.KernelSmallB.τ).loc Cert.KernelSmallB.main_arg1)
      ∧ r.2.mem ((c.tc : Thread Cert.KernelSmallB.nD Cert.KernelSmallB.τ).loc Cert.KernelSmallB.main_arg2) = m ((c.tc : Thread Cert.KernelSmallB.nD Cert.KernelSmallB.τ).loc Cert.KernelSmallB.main_arg2)
      ∧ r.2.mem ((c.tc : Thread Cert.KernelSmallB.nD Cert.KernelSmallB.τ).loc Cert.KernelSmallB.main_arg3) = m ((c.tc : Thread Cert.KernelSmallB.nD Cert.KernelSmallB.τ).loc Cert.KernelSmallB.main_arg3)
      ∧ r.2.mem ((c.tc : Thread Cert.KernelSmallB.nD Cert.KernelSmallB.τ).loc Cert.KernelSmallB.main_arg4) = m ((c.tc : Thread Cert.KernelSmallB.nD Cert.KernelSmallB.τ).loc Cert.KernelSmallB.main_arg4)
      ∧ r.2.mem ((c.tc : Thread Cert.KernelSmallB.nD Cert.KernelSmallB.τ).loc Cert.KernelSmallB.main_arg5) = m ((c.tc : Thread Cert.KernelSmallB.nD Cert.KernelSmallB.τ).loc Cert.KernelSmallB.main_arg5)
      ∧ r.2.mem ((c.tc : Thread Cert.KernelSmallB.nD Cert.KernelSmallB.τ).loc Cert.KernelSmallB.main_arg6) = m ((c.tc : Thread Cert.KernelSmallB.nD Cert.KernelSmallB.τ).loc Cert.KernelSmallB.main_arg6)
      ∧ r.2.mem ((c.tc : Thread Cert.KernelSmallB.nD Cert.KernelSmallB.τ).loc Cert.KernelSmallB.main_arg7) = m ((c.tc : Thread Cert.KernelSmallB.nD Cert.KernelSmallB.τ).loc Cert.KernelSmallB.main_arg7)
      ∧ r.2.mem ((c.tc : Thread Cert.KernelSmallB.nD Cert.KernelSmallB.τ).loc Cert.KernelSmallB.main_arg8) = m ((c.tc : Thread Cert.KernelSmallB.nD Cert.KernelSmallB.τ).loc Cert.KernelSmallB.main_arg8)
      ∧ r.2.mem ((c.tc : Thread Cert.KernelSmallB.nD Cert.KernelSmallB.τ).loc Cert.KernelSmallB.main_arg9) = m ((c.tc : Thread Cert.KernelSmallB.nD Cert.KernelSmallB.τ).loc Cert.KernelSmallB.main_arg9)
      ∧ r.2.mem ((c.tc : Thread Cert.KernelSmallB.nD Cert.KernelSmallB.τ).loc Cert.KernelSmallB.main_arg10) = m ((c.tc : Thread Cert.KernelSmallB.nD Cert.KernelSmallB.τ).loc Cert.KernelSmallB.main_arg10)
      ∧ r.2.mem ((c.tc : Thread Cert.KernelSmallB.nD Cert.KernelSmallB.τ).loc Cert.KernelSmallB.main_arg11) = m ((c.tc : Thread Cert.KernelSmallB.nD Cert.KernelSmallB.τ).loc Cert.KernelSmallB.main_arg11))
      ∧ r.2.sem = fun _ => 0)

def quiescent_KernelSmallBIdeal [hKernelSmallBIdeal : Cert.KernelSmallBIdeal.Facts] : Prop :=
  ∀ (m : (ℓ : Loc Cert.KernelSmallBIdeal.nD Cert.KernelSmallBIdeal.τ Cert.KernelSmallBIdeal.sig) → Buf (Elt Ideal) ℓ) (g : Dev Cert.KernelSmallBIdeal.nD → PrngReg), Pre_KernelSmallBIdeal m →
    θ_run (Cert.KernelSmallBIdeal.defs (F := Ideal)) (onTc (τ := Cert.KernelSmallBIdeal.τ) (Cert.KernelSmallBIdeal.main (F := Ideal))) ⟨m, fun _ => 0, g⟩ (fun r => (∀ c : Dev Cert.KernelSmallBIdeal.nD,
      r.2.mem ((c.tc : Thread Cert.KernelSmallBIdeal.nD Cert.KernelSmallBIdeal.τ).loc Cert.KernelSmallBIdeal.main_arg0) = m ((c.tc : Thread Cert.KernelSmallBIdeal.nD Cert.KernelSmallBIdeal.τ).loc Cert.KernelSmallBIdeal.main_arg0)
      ∧ r.2.mem ((c.tc : Thread Cert.KernelSmallBIdeal.nD Cert.KernelSmallBIdeal.τ).loc Cert.KernelSmallBIdeal.main_arg1) = m ((c.tc : Thread Cert.KernelSmallBIdeal.nD Cert.KernelSmallBIdeal.τ).loc Cert.KernelSmallBIdeal.main_arg1)
      ∧ r.2.mem ((c.tc : Thread Cert.KernelSmallBIdeal.nD Cert.KernelSmallBIdeal.τ).loc Cert.KernelSmallBIdeal.main_arg2) = m ((c.tc : Thread Cert.KernelSmallBIdeal.nD Cert.KernelSmallBIdeal.τ).loc Cert.KernelSmallBIdeal.main_arg2)
      ∧ r.2.mem ((c.tc : Thread Cert.KernelSmallBIdeal.nD Cert.KernelSmallBIdeal.τ).loc Cert.KernelSmallBIdeal.main_arg3) = m ((c.tc : Thread Cert.KernelSmallBIdeal.nD Cert.KernelSmallBIdeal.τ).loc Cert.KernelSmallBIdeal.main_arg3)
      ∧ r.2.mem ((c.tc : Thread Cert.KernelSmallBIdeal.nD Cert.KernelSmallBIdeal.τ).loc Cert.KernelSmallBIdeal.main_arg4) = m ((c.tc : Thread Cert.KernelSmallBIdeal.nD Cert.KernelSmallBIdeal.τ).loc Cert.KernelSmallBIdeal.main_arg4)
      ∧ r.2.mem ((c.tc : Thread Cert.KernelSmallBIdeal.nD Cert.KernelSmallBIdeal.τ).loc Cert.KernelSmallBIdeal.main_arg5) = m ((c.tc : Thread Cert.KernelSmallBIdeal.nD Cert.KernelSmallBIdeal.τ).loc Cert.KernelSmallBIdeal.main_arg5)
      ∧ r.2.mem ((c.tc : Thread Cert.KernelSmallBIdeal.nD Cert.KernelSmallBIdeal.τ).loc Cert.KernelSmallBIdeal.main_arg6) = m ((c.tc : Thread Cert.KernelSmallBIdeal.nD Cert.KernelSmallBIdeal.τ).loc Cert.KernelSmallBIdeal.main_arg6)
      ∧ r.2.mem ((c.tc : Thread Cert.KernelSmallBIdeal.nD Cert.KernelSmallBIdeal.τ).loc Cert.KernelSmallBIdeal.main_arg7) = m ((c.tc : Thread Cert.KernelSmallBIdeal.nD Cert.KernelSmallBIdeal.τ).loc Cert.KernelSmallBIdeal.main_arg7)
      ∧ r.2.mem ((c.tc : Thread Cert.KernelSmallBIdeal.nD Cert.KernelSmallBIdeal.τ).loc Cert.KernelSmallBIdeal.main_arg8) = m ((c.tc : Thread Cert.KernelSmallBIdeal.nD Cert.KernelSmallBIdeal.τ).loc Cert.KernelSmallBIdeal.main_arg8)
      ∧ r.2.mem ((c.tc : Thread Cert.KernelSmallBIdeal.nD Cert.KernelSmallBIdeal.τ).loc Cert.KernelSmallBIdeal.main_arg9) = m ((c.tc : Thread Cert.KernelSmallBIdeal.nD Cert.KernelSmallBIdeal.τ).loc Cert.KernelSmallBIdeal.main_arg9)
      ∧ r.2.mem ((c.tc : Thread Cert.KernelSmallBIdeal.nD Cert.KernelSmallBIdeal.τ).loc Cert.KernelSmallBIdeal.main_arg10) = m ((c.tc : Thread Cert.KernelSmallBIdeal.nD Cert.KernelSmallBIdeal.τ).loc Cert.KernelSmallBIdeal.main_arg10)
      ∧ r.2.mem ((c.tc : Thread Cert.KernelSmallBIdeal.nD Cert.KernelSmallBIdeal.τ).loc Cert.KernelSmallBIdeal.main_arg11) = m ((c.tc : Thread Cert.KernelSmallBIdeal.nD Cert.KernelSmallBIdeal.τ).loc Cert.KernelSmallBIdeal.main_arg11))
      ∧ r.2.sem = fun _ => 0)

def quiescent_ReferenceSmallBIdeal [hReferenceSmallBIdeal : Cert.ReferenceSmallBIdeal.Facts] : Prop :=
  ∀ (m : (ℓ : Loc Cert.ReferenceSmallBIdeal.nD Cert.ReferenceSmallBIdeal.τ Cert.ReferenceSmallBIdeal.sig) → Buf (Elt Ideal) ℓ) (g : Dev Cert.ReferenceSmallBIdeal.nD → PrngReg), Pre_ReferenceSmallBIdeal m →
    θ_run (Cert.ReferenceSmallBIdeal.defs (F := Ideal)) (onTc (τ := Cert.ReferenceSmallBIdeal.τ) (Cert.ReferenceSmallBIdeal.main (F := Ideal))) ⟨m, fun _ => 0, g⟩ (fun r => (∀ c : Dev Cert.ReferenceSmallBIdeal.nD,
      r.2.mem ((c.tc : Thread Cert.ReferenceSmallBIdeal.nD Cert.ReferenceSmallBIdeal.τ).loc Cert.ReferenceSmallBIdeal.main_arg0) = m ((c.tc : Thread Cert.ReferenceSmallBIdeal.nD Cert.ReferenceSmallBIdeal.τ).loc Cert.ReferenceSmallBIdeal.main_arg0)
      ∧ r.2.mem ((c.tc : Thread Cert.ReferenceSmallBIdeal.nD Cert.ReferenceSmallBIdeal.τ).loc Cert.ReferenceSmallBIdeal.main_arg1) = m ((c.tc : Thread Cert.ReferenceSmallBIdeal.nD Cert.ReferenceSmallBIdeal.τ).loc Cert.ReferenceSmallBIdeal.main_arg1)
      ∧ r.2.mem ((c.tc : Thread Cert.ReferenceSmallBIdeal.nD Cert.ReferenceSmallBIdeal.τ).loc Cert.ReferenceSmallBIdeal.main_arg2) = m ((c.tc : Thread Cert.ReferenceSmallBIdeal.nD Cert.ReferenceSmallBIdeal.τ).loc Cert.ReferenceSmallBIdeal.main_arg2)
      ∧ r.2.mem ((c.tc : Thread Cert.ReferenceSmallBIdeal.nD Cert.ReferenceSmallBIdeal.τ).loc Cert.ReferenceSmallBIdeal.main_arg3) = m ((c.tc : Thread Cert.ReferenceSmallBIdeal.nD Cert.ReferenceSmallBIdeal.τ).loc Cert.ReferenceSmallBIdeal.main_arg3)
      ∧ r.2.mem ((c.tc : Thread Cert.ReferenceSmallBIdeal.nD Cert.ReferenceSmallBIdeal.τ).loc Cert.ReferenceSmallBIdeal.main_arg4) = m ((c.tc : Thread Cert.ReferenceSmallBIdeal.nD Cert.ReferenceSmallBIdeal.τ).loc Cert.ReferenceSmallBIdeal.main_arg4)
      ∧ r.2.mem ((c.tc : Thread Cert.ReferenceSmallBIdeal.nD Cert.ReferenceSmallBIdeal.τ).loc Cert.ReferenceSmallBIdeal.main_arg5) = m ((c.tc : Thread Cert.ReferenceSmallBIdeal.nD Cert.ReferenceSmallBIdeal.τ).loc Cert.ReferenceSmallBIdeal.main_arg5)
      ∧ r.2.mem ((c.tc : Thread Cert.ReferenceSmallBIdeal.nD Cert.ReferenceSmallBIdeal.τ).loc Cert.ReferenceSmallBIdeal.main_arg6) = m ((c.tc : Thread Cert.ReferenceSmallBIdeal.nD Cert.ReferenceSmallBIdeal.τ).loc Cert.ReferenceSmallBIdeal.main_arg6)
      ∧ r.2.mem ((c.tc : Thread Cert.ReferenceSmallBIdeal.nD Cert.ReferenceSmallBIdeal.τ).loc Cert.ReferenceSmallBIdeal.main_arg7) = m ((c.tc : Thread Cert.ReferenceSmallBIdeal.nD Cert.ReferenceSmallBIdeal.τ).loc Cert.ReferenceSmallBIdeal.main_arg7)
      ∧ r.2.mem ((c.tc : Thread Cert.ReferenceSmallBIdeal.nD Cert.ReferenceSmallBIdeal.τ).loc Cert.ReferenceSmallBIdeal.main_arg8) = m ((c.tc : Thread Cert.ReferenceSmallBIdeal.nD Cert.ReferenceSmallBIdeal.τ).loc Cert.ReferenceSmallBIdeal.main_arg8)
      ∧ r.2.mem ((c.tc : Thread Cert.ReferenceSmallBIdeal.nD Cert.ReferenceSmallBIdeal.τ).loc Cert.ReferenceSmallBIdeal.main_arg9) = m ((c.tc : Thread Cert.ReferenceSmallBIdeal.nD Cert.ReferenceSmallBIdeal.τ).loc Cert.ReferenceSmallBIdeal.main_arg9)
      ∧ r.2.mem ((c.tc : Thread Cert.ReferenceSmallBIdeal.nD Cert.ReferenceSmallBIdeal.τ).loc Cert.ReferenceSmallBIdeal.main_arg10) = m ((c.tc : Thread Cert.ReferenceSmallBIdeal.nD Cert.ReferenceSmallBIdeal.τ).loc Cert.ReferenceSmallBIdeal.main_arg10)
      ∧ r.2.mem ((c.tc : Thread Cert.ReferenceSmallBIdeal.nD Cert.ReferenceSmallBIdeal.τ).loc Cert.ReferenceSmallBIdeal.main_arg11) = m ((c.tc : Thread Cert.ReferenceSmallBIdeal.nD Cert.ReferenceSmallBIdeal.τ).loc Cert.ReferenceSmallBIdeal.main_arg11))
      ∧ r.2.sem = fun _ => 0)

def quiescent_KernelSmallC [hKernelSmallC : Cert.KernelSmallC.Facts] : Prop :=
  ∀ (m : (ℓ : Loc Cert.KernelSmallC.nD Cert.KernelSmallC.τ Cert.KernelSmallC.sig) → Buf (Elt Bits) ℓ) (g : Dev Cert.KernelSmallC.nD → PrngReg), Pre_KernelSmallC m →
    θ_run (Cert.KernelSmallC.defs (F := Bits)) (onTc (τ := Cert.KernelSmallC.τ) (Cert.KernelSmallC.main (F := Bits))) ⟨m, fun _ => 0, g⟩ (fun r => (∀ c : Dev Cert.KernelSmallC.nD,
      r.2.mem ((c.tc : Thread Cert.KernelSmallC.nD Cert.KernelSmallC.τ).loc Cert.KernelSmallC.main_arg0) = m ((c.tc : Thread Cert.KernelSmallC.nD Cert.KernelSmallC.τ).loc Cert.KernelSmallC.main_arg0)
      ∧ r.2.mem ((c.tc : Thread Cert.KernelSmallC.nD Cert.KernelSmallC.τ).loc Cert.KernelSmallC.main_arg1) = m ((c.tc : Thread Cert.KernelSmallC.nD Cert.KernelSmallC.τ).loc Cert.KernelSmallC.main_arg1)
      ∧ r.2.mem ((c.tc : Thread Cert.KernelSmallC.nD Cert.KernelSmallC.τ).loc Cert.KernelSmallC.main_arg2) = m ((c.tc : Thread Cert.KernelSmallC.nD Cert.KernelSmallC.τ).loc Cert.KernelSmallC.main_arg2)
      ∧ r.2.mem ((c.tc : Thread Cert.KernelSmallC.nD Cert.KernelSmallC.τ).loc Cert.KernelSmallC.main_arg3) = m ((c.tc : Thread Cert.KernelSmallC.nD Cert.KernelSmallC.τ).loc Cert.KernelSmallC.main_arg3)
      ∧ r.2.mem ((c.tc : Thread Cert.KernelSmallC.nD Cert.KernelSmallC.τ).loc Cert.KernelSmallC.main_arg4) = m ((c.tc : Thread Cert.KernelSmallC.nD Cert.KernelSmallC.τ).loc Cert.KernelSmallC.main_arg4)
      ∧ r.2.mem ((c.tc : Thread Cert.KernelSmallC.nD Cert.KernelSmallC.τ).loc Cert.KernelSmallC.main_arg5) = m ((c.tc : Thread Cert.KernelSmallC.nD Cert.KernelSmallC.τ).loc Cert.KernelSmallC.main_arg5)
      ∧ r.2.mem ((c.tc : Thread Cert.KernelSmallC.nD Cert.KernelSmallC.τ).loc Cert.KernelSmallC.main_arg6) = m ((c.tc : Thread Cert.KernelSmallC.nD Cert.KernelSmallC.τ).loc Cert.KernelSmallC.main_arg6)
      ∧ r.2.mem ((c.tc : Thread Cert.KernelSmallC.nD Cert.KernelSmallC.τ).loc Cert.KernelSmallC.main_arg7) = m ((c.tc : Thread Cert.KernelSmallC.nD Cert.KernelSmallC.τ).loc Cert.KernelSmallC.main_arg7)
      ∧ r.2.mem ((c.tc : Thread Cert.KernelSmallC.nD Cert.KernelSmallC.τ).loc Cert.KernelSmallC.main_arg8) = m ((c.tc : Thread Cert.KernelSmallC.nD Cert.KernelSmallC.τ).loc Cert.KernelSmallC.main_arg8)
      ∧ r.2.mem ((c.tc : Thread Cert.KernelSmallC.nD Cert.KernelSmallC.τ).loc Cert.KernelSmallC.main_arg9) = m ((c.tc : Thread Cert.KernelSmallC.nD Cert.KernelSmallC.τ).loc Cert.KernelSmallC.main_arg9)
      ∧ r.2.mem ((c.tc : Thread Cert.KernelSmallC.nD Cert.KernelSmallC.τ).loc Cert.KernelSmallC.main_arg10) = m ((c.tc : Thread Cert.KernelSmallC.nD Cert.KernelSmallC.τ).loc Cert.KernelSmallC.main_arg10)
      ∧ r.2.mem ((c.tc : Thread Cert.KernelSmallC.nD Cert.KernelSmallC.τ).loc Cert.KernelSmallC.main_arg11) = m ((c.tc : Thread Cert.KernelSmallC.nD Cert.KernelSmallC.τ).loc Cert.KernelSmallC.main_arg11))
      ∧ r.2.sem = fun _ => 0)

def quiescent_KernelSmallCIdeal [hKernelSmallCIdeal : Cert.KernelSmallCIdeal.Facts] : Prop :=
  ∀ (m : (ℓ : Loc Cert.KernelSmallCIdeal.nD Cert.KernelSmallCIdeal.τ Cert.KernelSmallCIdeal.sig) → Buf (Elt Ideal) ℓ) (g : Dev Cert.KernelSmallCIdeal.nD → PrngReg), Pre_KernelSmallCIdeal m →
    θ_run (Cert.KernelSmallCIdeal.defs (F := Ideal)) (onTc (τ := Cert.KernelSmallCIdeal.τ) (Cert.KernelSmallCIdeal.main (F := Ideal))) ⟨m, fun _ => 0, g⟩ (fun r => (∀ c : Dev Cert.KernelSmallCIdeal.nD,
      r.2.mem ((c.tc : Thread Cert.KernelSmallCIdeal.nD Cert.KernelSmallCIdeal.τ).loc Cert.KernelSmallCIdeal.main_arg0) = m ((c.tc : Thread Cert.KernelSmallCIdeal.nD Cert.KernelSmallCIdeal.τ).loc Cert.KernelSmallCIdeal.main_arg0)
      ∧ r.2.mem ((c.tc : Thread Cert.KernelSmallCIdeal.nD Cert.KernelSmallCIdeal.τ).loc Cert.KernelSmallCIdeal.main_arg1) = m ((c.tc : Thread Cert.KernelSmallCIdeal.nD Cert.KernelSmallCIdeal.τ).loc Cert.KernelSmallCIdeal.main_arg1)
      ∧ r.2.mem ((c.tc : Thread Cert.KernelSmallCIdeal.nD Cert.KernelSmallCIdeal.τ).loc Cert.KernelSmallCIdeal.main_arg2) = m ((c.tc : Thread Cert.KernelSmallCIdeal.nD Cert.KernelSmallCIdeal.τ).loc Cert.KernelSmallCIdeal.main_arg2)
      ∧ r.2.mem ((c.tc : Thread Cert.KernelSmallCIdeal.nD Cert.KernelSmallCIdeal.τ).loc Cert.KernelSmallCIdeal.main_arg3) = m ((c.tc : Thread Cert.KernelSmallCIdeal.nD Cert.KernelSmallCIdeal.τ).loc Cert.KernelSmallCIdeal.main_arg3)
      ∧ r.2.mem ((c.tc : Thread Cert.KernelSmallCIdeal.nD Cert.KernelSmallCIdeal.τ).loc Cert.KernelSmallCIdeal.main_arg4) = m ((c.tc : Thread Cert.KernelSmallCIdeal.nD Cert.KernelSmallCIdeal.τ).loc Cert.KernelSmallCIdeal.main_arg4)
      ∧ r.2.mem ((c.tc : Thread Cert.KernelSmallCIdeal.nD Cert.KernelSmallCIdeal.τ).loc Cert.KernelSmallCIdeal.main_arg5) = m ((c.tc : Thread Cert.KernelSmallCIdeal.nD Cert.KernelSmallCIdeal.τ).loc Cert.KernelSmallCIdeal.main_arg5)
      ∧ r.2.mem ((c.tc : Thread Cert.KernelSmallCIdeal.nD Cert.KernelSmallCIdeal.τ).loc Cert.KernelSmallCIdeal.main_arg6) = m ((c.tc : Thread Cert.KernelSmallCIdeal.nD Cert.KernelSmallCIdeal.τ).loc Cert.KernelSmallCIdeal.main_arg6)
      ∧ r.2.mem ((c.tc : Thread Cert.KernelSmallCIdeal.nD Cert.KernelSmallCIdeal.τ).loc Cert.KernelSmallCIdeal.main_arg7) = m ((c.tc : Thread Cert.KernelSmallCIdeal.nD Cert.KernelSmallCIdeal.τ).loc Cert.KernelSmallCIdeal.main_arg7)
      ∧ r.2.mem ((c.tc : Thread Cert.KernelSmallCIdeal.nD Cert.KernelSmallCIdeal.τ).loc Cert.KernelSmallCIdeal.main_arg8) = m ((c.tc : Thread Cert.KernelSmallCIdeal.nD Cert.KernelSmallCIdeal.τ).loc Cert.KernelSmallCIdeal.main_arg8)
      ∧ r.2.mem ((c.tc : Thread Cert.KernelSmallCIdeal.nD Cert.KernelSmallCIdeal.τ).loc Cert.KernelSmallCIdeal.main_arg9) = m ((c.tc : Thread Cert.KernelSmallCIdeal.nD Cert.KernelSmallCIdeal.τ).loc Cert.KernelSmallCIdeal.main_arg9)
      ∧ r.2.mem ((c.tc : Thread Cert.KernelSmallCIdeal.nD Cert.KernelSmallCIdeal.τ).loc Cert.KernelSmallCIdeal.main_arg10) = m ((c.tc : Thread Cert.KernelSmallCIdeal.nD Cert.KernelSmallCIdeal.τ).loc Cert.KernelSmallCIdeal.main_arg10)
      ∧ r.2.mem ((c.tc : Thread Cert.KernelSmallCIdeal.nD Cert.KernelSmallCIdeal.τ).loc Cert.KernelSmallCIdeal.main_arg11) = m ((c.tc : Thread Cert.KernelSmallCIdeal.nD Cert.KernelSmallCIdeal.τ).loc Cert.KernelSmallCIdeal.main_arg11))
      ∧ r.2.sem = fun _ => 0)

def quiescent_ReferenceSmallCIdeal [hReferenceSmallCIdeal : Cert.ReferenceSmallCIdeal.Facts] : Prop :=
  ∀ (m : (ℓ : Loc Cert.ReferenceSmallCIdeal.nD Cert.ReferenceSmallCIdeal.τ Cert.ReferenceSmallCIdeal.sig) → Buf (Elt Ideal) ℓ) (g : Dev Cert.ReferenceSmallCIdeal.nD → PrngReg), Pre_ReferenceSmallCIdeal m →
    θ_run (Cert.ReferenceSmallCIdeal.defs (F := Ideal)) (onTc (τ := Cert.ReferenceSmallCIdeal.τ) (Cert.ReferenceSmallCIdeal.main (F := Ideal))) ⟨m, fun _ => 0, g⟩ (fun r => (∀ c : Dev Cert.ReferenceSmallCIdeal.nD,
      r.2.mem ((c.tc : Thread Cert.ReferenceSmallCIdeal.nD Cert.ReferenceSmallCIdeal.τ).loc Cert.ReferenceSmallCIdeal.main_arg0) = m ((c.tc : Thread Cert.ReferenceSmallCIdeal.nD Cert.ReferenceSmallCIdeal.τ).loc Cert.ReferenceSmallCIdeal.main_arg0)
      ∧ r.2.mem ((c.tc : Thread Cert.ReferenceSmallCIdeal.nD Cert.ReferenceSmallCIdeal.τ).loc Cert.ReferenceSmallCIdeal.main_arg1) = m ((c.tc : Thread Cert.ReferenceSmallCIdeal.nD Cert.ReferenceSmallCIdeal.τ).loc Cert.ReferenceSmallCIdeal.main_arg1)
      ∧ r.2.mem ((c.tc : Thread Cert.ReferenceSmallCIdeal.nD Cert.ReferenceSmallCIdeal.τ).loc Cert.ReferenceSmallCIdeal.main_arg2) = m ((c.tc : Thread Cert.ReferenceSmallCIdeal.nD Cert.ReferenceSmallCIdeal.τ).loc Cert.ReferenceSmallCIdeal.main_arg2)
      ∧ r.2.mem ((c.tc : Thread Cert.ReferenceSmallCIdeal.nD Cert.ReferenceSmallCIdeal.τ).loc Cert.ReferenceSmallCIdeal.main_arg3) = m ((c.tc : Thread Cert.ReferenceSmallCIdeal.nD Cert.ReferenceSmallCIdeal.τ).loc Cert.ReferenceSmallCIdeal.main_arg3)
      ∧ r.2.mem ((c.tc : Thread Cert.ReferenceSmallCIdeal.nD Cert.ReferenceSmallCIdeal.τ).loc Cert.ReferenceSmallCIdeal.main_arg4) = m ((c.tc : Thread Cert.ReferenceSmallCIdeal.nD Cert.ReferenceSmallCIdeal.τ).loc Cert.ReferenceSmallCIdeal.main_arg4)
      ∧ r.2.mem ((c.tc : Thread Cert.ReferenceSmallCIdeal.nD Cert.ReferenceSmallCIdeal.τ).loc Cert.ReferenceSmallCIdeal.main_arg5) = m ((c.tc : Thread Cert.ReferenceSmallCIdeal.nD Cert.ReferenceSmallCIdeal.τ).loc Cert.ReferenceSmallCIdeal.main_arg5)
      ∧ r.2.mem ((c.tc : Thread Cert.ReferenceSmallCIdeal.nD Cert.ReferenceSmallCIdeal.τ).loc Cert.ReferenceSmallCIdeal.main_arg6) = m ((c.tc : Thread Cert.ReferenceSmallCIdeal.nD Cert.ReferenceSmallCIdeal.τ).loc Cert.ReferenceSmallCIdeal.main_arg6)
      ∧ r.2.mem ((c.tc : Thread Cert.ReferenceSmallCIdeal.nD Cert.ReferenceSmallCIdeal.τ).loc Cert.ReferenceSmallCIdeal.main_arg7) = m ((c.tc : Thread Cert.ReferenceSmallCIdeal.nD Cert.ReferenceSmallCIdeal.τ).loc Cert.ReferenceSmallCIdeal.main_arg7)
      ∧ r.2.mem ((c.tc : Thread Cert.ReferenceSmallCIdeal.nD Cert.ReferenceSmallCIdeal.τ).loc Cert.ReferenceSmallCIdeal.main_arg8) = m ((c.tc : Thread Cert.ReferenceSmallCIdeal.nD Cert.ReferenceSmallCIdeal.τ).loc Cert.ReferenceSmallCIdeal.main_arg8)
      ∧ r.2.mem ((c.tc : Thread Cert.ReferenceSmallCIdeal.nD Cert.ReferenceSmallCIdeal.τ).loc Cert.ReferenceSmallCIdeal.main_arg9) = m ((c.tc : Thread Cert.ReferenceSmallCIdeal.nD Cert.ReferenceSmallCIdeal.τ).loc Cert.ReferenceSmallCIdeal.main_arg9)
      ∧ r.2.mem ((c.tc : Thread Cert.ReferenceSmallCIdeal.nD Cert.ReferenceSmallCIdeal.τ).loc Cert.ReferenceSmallCIdeal.main_arg10) = m ((c.tc : Thread Cert.ReferenceSmallCIdeal.nD Cert.ReferenceSmallCIdeal.τ).loc Cert.ReferenceSmallCIdeal.main_arg10)
      ∧ r.2.mem ((c.tc : Thread Cert.ReferenceSmallCIdeal.nD Cert.ReferenceSmallCIdeal.τ).loc Cert.ReferenceSmallCIdeal.main_arg11) = m ((c.tc : Thread Cert.ReferenceSmallCIdeal.nD Cert.ReferenceSmallCIdeal.τ).loc Cert.ReferenceSmallCIdeal.main_arg11))
      ∧ r.2.sem = fun _ => 0)

def quiescent_KernelSmallD [hKernelSmallD : Cert.KernelSmallD.Facts] : Prop :=
  ∀ (m : (ℓ : Loc Cert.KernelSmallD.nD Cert.KernelSmallD.τ Cert.KernelSmallD.sig) → Buf (Elt Bits) ℓ) (g : Dev Cert.KernelSmallD.nD → PrngReg), Pre_KernelSmallD m →
    θ_run (Cert.KernelSmallD.defs (F := Bits)) (onTc (τ := Cert.KernelSmallD.τ) (Cert.KernelSmallD.main (F := Bits))) ⟨m, fun _ => 0, g⟩ (fun r => (∀ c : Dev Cert.KernelSmallD.nD,
      r.2.mem ((c.tc : Thread Cert.KernelSmallD.nD Cert.KernelSmallD.τ).loc Cert.KernelSmallD.main_arg0) = m ((c.tc : Thread Cert.KernelSmallD.nD Cert.KernelSmallD.τ).loc Cert.KernelSmallD.main_arg0)
      ∧ r.2.mem ((c.tc : Thread Cert.KernelSmallD.nD Cert.KernelSmallD.τ).loc Cert.KernelSmallD.main_arg1) = m ((c.tc : Thread Cert.KernelSmallD.nD Cert.KernelSmallD.τ).loc Cert.KernelSmallD.main_arg1)
      ∧ r.2.mem ((c.tc : Thread Cert.KernelSmallD.nD Cert.KernelSmallD.τ).loc Cert.KernelSmallD.main_arg2) = m ((c.tc : Thread Cert.KernelSmallD.nD Cert.KernelSmallD.τ).loc Cert.KernelSmallD.main_arg2)
      ∧ r.2.mem ((c.tc : Thread Cert.KernelSmallD.nD Cert.KernelSmallD.τ).loc Cert.KernelSmallD.main_arg3) = m ((c.tc : Thread Cert.KernelSmallD.nD Cert.KernelSmallD.τ).loc Cert.KernelSmallD.main_arg3)
      ∧ r.2.mem ((c.tc : Thread Cert.KernelSmallD.nD Cert.KernelSmallD.τ).loc Cert.KernelSmallD.main_arg4) = m ((c.tc : Thread Cert.KernelSmallD.nD Cert.KernelSmallD.τ).loc Cert.KernelSmallD.main_arg4)
      ∧ r.2.mem ((c.tc : Thread Cert.KernelSmallD.nD Cert.KernelSmallD.τ).loc Cert.KernelSmallD.main_arg5) = m ((c.tc : Thread Cert.KernelSmallD.nD Cert.KernelSmallD.τ).loc Cert.KernelSmallD.main_arg5)
      ∧ r.2.mem ((c.tc : Thread Cert.KernelSmallD.nD Cert.KernelSmallD.τ).loc Cert.KernelSmallD.main_arg6) = m ((c.tc : Thread Cert.KernelSmallD.nD Cert.KernelSmallD.τ).loc Cert.KernelSmallD.main_arg6)
      ∧ r.2.mem ((c.tc : Thread Cert.KernelSmallD.nD Cert.KernelSmallD.τ).loc Cert.KernelSmallD.main_arg7) = m ((c.tc : Thread Cert.KernelSmallD.nD Cert.KernelSmallD.τ).loc Cert.KernelSmallD.main_arg7))
      ∧ r.2.sem = fun _ => 0)

def quiescent_KernelSmallDIdeal [hKernelSmallDIdeal : Cert.KernelSmallDIdeal.Facts] : Prop :=
  ∀ (m : (ℓ : Loc Cert.KernelSmallDIdeal.nD Cert.KernelSmallDIdeal.τ Cert.KernelSmallDIdeal.sig) → Buf (Elt Ideal) ℓ) (g : Dev Cert.KernelSmallDIdeal.nD → PrngReg), Pre_KernelSmallDIdeal m →
    θ_run (Cert.KernelSmallDIdeal.defs (F := Ideal)) (onTc (τ := Cert.KernelSmallDIdeal.τ) (Cert.KernelSmallDIdeal.main (F := Ideal))) ⟨m, fun _ => 0, g⟩ (fun r => (∀ c : Dev Cert.KernelSmallDIdeal.nD,
      r.2.mem ((c.tc : Thread Cert.KernelSmallDIdeal.nD Cert.KernelSmallDIdeal.τ).loc Cert.KernelSmallDIdeal.main_arg0) = m ((c.tc : Thread Cert.KernelSmallDIdeal.nD Cert.KernelSmallDIdeal.τ).loc Cert.KernelSmallDIdeal.main_arg0)
      ∧ r.2.mem ((c.tc : Thread Cert.KernelSmallDIdeal.nD Cert.KernelSmallDIdeal.τ).loc Cert.KernelSmallDIdeal.main_arg1) = m ((c.tc : Thread Cert.KernelSmallDIdeal.nD Cert.KernelSmallDIdeal.τ).loc Cert.KernelSmallDIdeal.main_arg1)
      ∧ r.2.mem ((c.tc : Thread Cert.KernelSmallDIdeal.nD Cert.KernelSmallDIdeal.τ).loc Cert.KernelSmallDIdeal.main_arg2) = m ((c.tc : Thread Cert.KernelSmallDIdeal.nD Cert.KernelSmallDIdeal.τ).loc Cert.KernelSmallDIdeal.main_arg2)
      ∧ r.2.mem ((c.tc : Thread Cert.KernelSmallDIdeal.nD Cert.KernelSmallDIdeal.τ).loc Cert.KernelSmallDIdeal.main_arg3) = m ((c.tc : Thread Cert.KernelSmallDIdeal.nD Cert.KernelSmallDIdeal.τ).loc Cert.KernelSmallDIdeal.main_arg3)
      ∧ r.2.mem ((c.tc : Thread Cert.KernelSmallDIdeal.nD Cert.KernelSmallDIdeal.τ).loc Cert.KernelSmallDIdeal.main_arg4) = m ((c.tc : Thread Cert.KernelSmallDIdeal.nD Cert.KernelSmallDIdeal.τ).loc Cert.KernelSmallDIdeal.main_arg4)
      ∧ r.2.mem ((c.tc : Thread Cert.KernelSmallDIdeal.nD Cert.KernelSmallDIdeal.τ).loc Cert.KernelSmallDIdeal.main_arg5) = m ((c.tc : Thread Cert.KernelSmallDIdeal.nD Cert.KernelSmallDIdeal.τ).loc Cert.KernelSmallDIdeal.main_arg5)
      ∧ r.2.mem ((c.tc : Thread Cert.KernelSmallDIdeal.nD Cert.KernelSmallDIdeal.τ).loc Cert.KernelSmallDIdeal.main_arg6) = m ((c.tc : Thread Cert.KernelSmallDIdeal.nD Cert.KernelSmallDIdeal.τ).loc Cert.KernelSmallDIdeal.main_arg6)
      ∧ r.2.mem ((c.tc : Thread Cert.KernelSmallDIdeal.nD Cert.KernelSmallDIdeal.τ).loc Cert.KernelSmallDIdeal.main_arg7) = m ((c.tc : Thread Cert.KernelSmallDIdeal.nD Cert.KernelSmallDIdeal.τ).loc Cert.KernelSmallDIdeal.main_arg7))
      ∧ r.2.sem = fun _ => 0)

def quiescent_ReferenceSmallDIdeal [hReferenceSmallDIdeal : Cert.ReferenceSmallDIdeal.Facts] : Prop :=
  ∀ (m : (ℓ : Loc Cert.ReferenceSmallDIdeal.nD Cert.ReferenceSmallDIdeal.τ Cert.ReferenceSmallDIdeal.sig) → Buf (Elt Ideal) ℓ) (g : Dev Cert.ReferenceSmallDIdeal.nD → PrngReg), Pre_ReferenceSmallDIdeal m →
    θ_run (Cert.ReferenceSmallDIdeal.defs (F := Ideal)) (onTc (τ := Cert.ReferenceSmallDIdeal.τ) (Cert.ReferenceSmallDIdeal.main (F := Ideal))) ⟨m, fun _ => 0, g⟩ (fun r => (∀ c : Dev Cert.ReferenceSmallDIdeal.nD,
      r.2.mem ((c.tc : Thread Cert.ReferenceSmallDIdeal.nD Cert.ReferenceSmallDIdeal.τ).loc Cert.ReferenceSmallDIdeal.main_arg0) = m ((c.tc : Thread Cert.ReferenceSmallDIdeal.nD Cert.ReferenceSmallDIdeal.τ).loc Cert.ReferenceSmallDIdeal.main_arg0)
      ∧ r.2.mem ((c.tc : Thread Cert.ReferenceSmallDIdeal.nD Cert.ReferenceSmallDIdeal.τ).loc Cert.ReferenceSmallDIdeal.main_arg1) = m ((c.tc : Thread Cert.ReferenceSmallDIdeal.nD Cert.ReferenceSmallDIdeal.τ).loc Cert.ReferenceSmallDIdeal.main_arg1)
      ∧ r.2.mem ((c.tc : Thread Cert.ReferenceSmallDIdeal.nD Cert.ReferenceSmallDIdeal.τ).loc Cert.ReferenceSmallDIdeal.main_arg2) = m ((c.tc : Thread Cert.ReferenceSmallDIdeal.nD Cert.ReferenceSmallDIdeal.τ).loc Cert.ReferenceSmallDIdeal.main_arg2)
      ∧ r.2.mem ((c.tc : Thread Cert.ReferenceSmallDIdeal.nD Cert.ReferenceSmallDIdeal.τ).loc Cert.ReferenceSmallDIdeal.main_arg3) = m ((c.tc : Thread Cert.ReferenceSmallDIdeal.nD Cert.ReferenceSmallDIdeal.τ).loc Cert.ReferenceSmallDIdeal.main_arg3)
      ∧ r.2.mem ((c.tc : Thread Cert.ReferenceSmallDIdeal.nD Cert.ReferenceSmallDIdeal.τ).loc Cert.ReferenceSmallDIdeal.main_arg4) = m ((c.tc : Thread Cert.ReferenceSmallDIdeal.nD Cert.ReferenceSmallDIdeal.τ).loc Cert.ReferenceSmallDIdeal.main_arg4)
      ∧ r.2.mem ((c.tc : Thread Cert.ReferenceSmallDIdeal.nD Cert.ReferenceSmallDIdeal.τ).loc Cert.ReferenceSmallDIdeal.main_arg5) = m ((c.tc : Thread Cert.ReferenceSmallDIdeal.nD Cert.ReferenceSmallDIdeal.τ).loc Cert.ReferenceSmallDIdeal.main_arg5)
      ∧ r.2.mem ((c.tc : Thread Cert.ReferenceSmallDIdeal.nD Cert.ReferenceSmallDIdeal.τ).loc Cert.ReferenceSmallDIdeal.main_arg6) = m ((c.tc : Thread Cert.ReferenceSmallDIdeal.nD Cert.ReferenceSmallDIdeal.τ).loc Cert.ReferenceSmallDIdeal.main_arg6)
      ∧ r.2.mem ((c.tc : Thread Cert.ReferenceSmallDIdeal.nD Cert.ReferenceSmallDIdeal.τ).loc Cert.ReferenceSmallDIdeal.main_arg7) = m ((c.tc : Thread Cert.ReferenceSmallDIdeal.nD Cert.ReferenceSmallDIdeal.τ).loc Cert.ReferenceSmallDIdeal.main_arg7))
      ∧ r.2.sem = fun _ => 0)

def quiescent_KernelOptOut [hKernelOptOut : Cert.KernelOptOut.Facts] : Prop :=
  ∀ (m : (ℓ : Loc Cert.KernelOptOut.nD Cert.KernelOptOut.τ Cert.KernelOptOut.sig) → Buf (Elt Bits) ℓ) (g : Dev Cert.KernelOptOut.nD → PrngReg), Pre_KernelOptOut m →
    θ_run (Cert.KernelOptOut.defs (F := Bits)) (onTc (τ := Cert.KernelOptOut.τ) (Cert.KernelOptOut.main (F := Bits))) ⟨m, fun _ => 0, g⟩ (fun r => (∀ c : Dev Cert.KernelOptOut.nD,
      r.2.mem ((c.tc : Thread Cert.KernelOptOut.nD Cert.KernelOptOut.τ).loc Cert.KernelOptOut.main_arg0) = m ((c.tc : Thread Cert.KernelOptOut.nD Cert.KernelOptOut.τ).loc Cert.KernelOptOut.main_arg0)
      ∧ r.2.mem ((c.tc : Thread Cert.KernelOptOut.nD Cert.KernelOptOut.τ).loc Cert.KernelOptOut.main_arg1) = m ((c.tc : Thread Cert.KernelOptOut.nD Cert.KernelOptOut.τ).loc Cert.KernelOptOut.main_arg1)
      ∧ r.2.mem ((c.tc : Thread Cert.KernelOptOut.nD Cert.KernelOptOut.τ).loc Cert.KernelOptOut.main_arg2) = m ((c.tc : Thread Cert.KernelOptOut.nD Cert.KernelOptOut.τ).loc Cert.KernelOptOut.main_arg2)
      ∧ r.2.mem ((c.tc : Thread Cert.KernelOptOut.nD Cert.KernelOptOut.τ).loc Cert.KernelOptOut.main_arg3) = m ((c.tc : Thread Cert.KernelOptOut.nD Cert.KernelOptOut.τ).loc Cert.KernelOptOut.main_arg3)
      ∧ r.2.mem ((c.tc : Thread Cert.KernelOptOut.nD Cert.KernelOptOut.τ).loc Cert.KernelOptOut.main_arg4) = m ((c.tc : Thread Cert.KernelOptOut.nD Cert.KernelOptOut.τ).loc Cert.KernelOptOut.main_arg4)
      ∧ r.2.mem ((c.tc : Thread Cert.KernelOptOut.nD Cert.KernelOptOut.τ).loc Cert.KernelOptOut.main_arg5) = m ((c.tc : Thread Cert.KernelOptOut.nD Cert.KernelOptOut.τ).loc Cert.KernelOptOut.main_arg5)
      ∧ r.2.mem ((c.tc : Thread Cert.KernelOptOut.nD Cert.KernelOptOut.τ).loc Cert.KernelOptOut.main_arg6) = m ((c.tc : Thread Cert.KernelOptOut.nD Cert.KernelOptOut.τ).loc Cert.KernelOptOut.main_arg6)
      ∧ r.2.mem ((c.tc : Thread Cert.KernelOptOut.nD Cert.KernelOptOut.τ).loc Cert.KernelOptOut.main_arg7) = m ((c.tc : Thread Cert.KernelOptOut.nD Cert.KernelOptOut.τ).loc Cert.KernelOptOut.main_arg7)
      ∧ r.2.mem ((c.tc : Thread Cert.KernelOptOut.nD Cert.KernelOptOut.τ).loc Cert.KernelOptOut.main_arg8) = m ((c.tc : Thread Cert.KernelOptOut.nD Cert.KernelOptOut.τ).loc Cert.KernelOptOut.main_arg8))
      ∧ r.2.sem = fun _ => 0)

def quiescent_KernelOptOutIdeal [hKernelOptOutIdeal : Cert.KernelOptOutIdeal.Facts] : Prop :=
  ∀ (m : (ℓ : Loc Cert.KernelOptOutIdeal.nD Cert.KernelOptOutIdeal.τ Cert.KernelOptOutIdeal.sig) → Buf (Elt Ideal) ℓ) (g : Dev Cert.KernelOptOutIdeal.nD → PrngReg), Pre_KernelOptOutIdeal m →
    θ_run (Cert.KernelOptOutIdeal.defs (F := Ideal)) (onTc (τ := Cert.KernelOptOutIdeal.τ) (Cert.KernelOptOutIdeal.main (F := Ideal))) ⟨m, fun _ => 0, g⟩ (fun r => (∀ c : Dev Cert.KernelOptOutIdeal.nD,
      r.2.mem ((c.tc : Thread Cert.KernelOptOutIdeal.nD Cert.KernelOptOutIdeal.τ).loc Cert.KernelOptOutIdeal.main_arg0) = m ((c.tc : Thread Cert.KernelOptOutIdeal.nD Cert.KernelOptOutIdeal.τ).loc Cert.KernelOptOutIdeal.main_arg0)
      ∧ r.2.mem ((c.tc : Thread Cert.KernelOptOutIdeal.nD Cert.KernelOptOutIdeal.τ).loc Cert.KernelOptOutIdeal.main_arg1) = m ((c.tc : Thread Cert.KernelOptOutIdeal.nD Cert.KernelOptOutIdeal.τ).loc Cert.KernelOptOutIdeal.main_arg1)
      ∧ r.2.mem ((c.tc : Thread Cert.KernelOptOutIdeal.nD Cert.KernelOptOutIdeal.τ).loc Cert.KernelOptOutIdeal.main_arg2) = m ((c.tc : Thread Cert.KernelOptOutIdeal.nD Cert.KernelOptOutIdeal.τ).loc Cert.KernelOptOutIdeal.main_arg2)
      ∧ r.2.mem ((c.tc : Thread Cert.KernelOptOutIdeal.nD Cert.KernelOptOutIdeal.τ).loc Cert.KernelOptOutIdeal.main_arg3) = m ((c.tc : Thread Cert.KernelOptOutIdeal.nD Cert.KernelOptOutIdeal.τ).loc Cert.KernelOptOutIdeal.main_arg3)
      ∧ r.2.mem ((c.tc : Thread Cert.KernelOptOutIdeal.nD Cert.KernelOptOutIdeal.τ).loc Cert.KernelOptOutIdeal.main_arg4) = m ((c.tc : Thread Cert.KernelOptOutIdeal.nD Cert.KernelOptOutIdeal.τ).loc Cert.KernelOptOutIdeal.main_arg4)
      ∧ r.2.mem ((c.tc : Thread Cert.KernelOptOutIdeal.nD Cert.KernelOptOutIdeal.τ).loc Cert.KernelOptOutIdeal.main_arg5) = m ((c.tc : Thread Cert.KernelOptOutIdeal.nD Cert.KernelOptOutIdeal.τ).loc Cert.KernelOptOutIdeal.main_arg5)
      ∧ r.2.mem ((c.tc : Thread Cert.KernelOptOutIdeal.nD Cert.KernelOptOutIdeal.τ).loc Cert.KernelOptOutIdeal.main_arg6) = m ((c.tc : Thread Cert.KernelOptOutIdeal.nD Cert.KernelOptOutIdeal.τ).loc Cert.KernelOptOutIdeal.main_arg6)
      ∧ r.2.mem ((c.tc : Thread Cert.KernelOptOutIdeal.nD Cert.KernelOptOutIdeal.τ).loc Cert.KernelOptOutIdeal.main_arg7) = m ((c.tc : Thread Cert.KernelOptOutIdeal.nD Cert.KernelOptOutIdeal.τ).loc Cert.KernelOptOutIdeal.main_arg7)
      ∧ r.2.mem ((c.tc : Thread Cert.KernelOptOutIdeal.nD Cert.KernelOptOutIdeal.τ).loc Cert.KernelOptOutIdeal.main_arg8) = m ((c.tc : Thread Cert.KernelOptOutIdeal.nD Cert.KernelOptOutIdeal.τ).loc Cert.KernelOptOutIdeal.main_arg8))
      ∧ r.2.sem = fun _ => 0)

def quiescent_ReferenceOptOutIdeal [hReferenceOptOutIdeal : Cert.ReferenceOptOutIdeal.Facts] : Prop :=
  ∀ (m : (ℓ : Loc Cert.ReferenceOptOutIdeal.nD Cert.ReferenceOptOutIdeal.τ Cert.ReferenceOptOutIdeal.sig) → Buf (Elt Ideal) ℓ) (g : Dev Cert.ReferenceOptOutIdeal.nD → PrngReg), Pre_ReferenceOptOutIdeal m →
    θ_run (Cert.ReferenceOptOutIdeal.defs (F := Ideal)) (onTc (τ := Cert.ReferenceOptOutIdeal.τ) (Cert.ReferenceOptOutIdeal.main (F := Ideal))) ⟨m, fun _ => 0, g⟩ (fun r => (∀ c : Dev Cert.ReferenceOptOutIdeal.nD,
      r.2.mem ((c.tc : Thread Cert.ReferenceOptOutIdeal.nD Cert.ReferenceOptOutIdeal.τ).loc Cert.ReferenceOptOutIdeal.main_arg0) = m ((c.tc : Thread Cert.ReferenceOptOutIdeal.nD Cert.ReferenceOptOutIdeal.τ).loc Cert.ReferenceOptOutIdeal.main_arg0)
      ∧ r.2.mem ((c.tc : Thread Cert.ReferenceOptOutIdeal.nD Cert.ReferenceOptOutIdeal.τ).loc Cert.ReferenceOptOutIdeal.main_arg1) = m ((c.tc : Thread Cert.ReferenceOptOutIdeal.nD Cert.ReferenceOptOutIdeal.τ).loc Cert.ReferenceOptOutIdeal.main_arg1)
      ∧ r.2.mem ((c.tc : Thread Cert.ReferenceOptOutIdeal.nD Cert.ReferenceOptOutIdeal.τ).loc Cert.ReferenceOptOutIdeal.main_arg2) = m ((c.tc : Thread Cert.ReferenceOptOutIdeal.nD Cert.ReferenceOptOutIdeal.τ).loc Cert.ReferenceOptOutIdeal.main_arg2)
      ∧ r.2.mem ((c.tc : Thread Cert.ReferenceOptOutIdeal.nD Cert.ReferenceOptOutIdeal.τ).loc Cert.ReferenceOptOutIdeal.main_arg3) = m ((c.tc : Thread Cert.ReferenceOptOutIdeal.nD Cert.ReferenceOptOutIdeal.τ).loc Cert.ReferenceOptOutIdeal.main_arg3)
      ∧ r.2.mem ((c.tc : Thread Cert.ReferenceOptOutIdeal.nD Cert.ReferenceOptOutIdeal.τ).loc Cert.ReferenceOptOutIdeal.main_arg4) = m ((c.tc : Thread Cert.ReferenceOptOutIdeal.nD Cert.ReferenceOptOutIdeal.τ).loc Cert.ReferenceOptOutIdeal.main_arg4)
      ∧ r.2.mem ((c.tc : Thread Cert.ReferenceOptOutIdeal.nD Cert.ReferenceOptOutIdeal.τ).loc Cert.ReferenceOptOutIdeal.main_arg5) = m ((c.tc : Thread Cert.ReferenceOptOutIdeal.nD Cert.ReferenceOptOutIdeal.τ).loc Cert.ReferenceOptOutIdeal.main_arg5)
      ∧ r.2.mem ((c.tc : Thread Cert.ReferenceOptOutIdeal.nD Cert.ReferenceOptOutIdeal.τ).loc Cert.ReferenceOptOutIdeal.main_arg6) = m ((c.tc : Thread Cert.ReferenceOptOutIdeal.nD Cert.ReferenceOptOutIdeal.τ).loc Cert.ReferenceOptOutIdeal.main_arg6)
      ∧ r.2.mem ((c.tc : Thread Cert.ReferenceOptOutIdeal.nD Cert.ReferenceOptOutIdeal.τ).loc Cert.ReferenceOptOutIdeal.main_arg7) = m ((c.tc : Thread Cert.ReferenceOptOutIdeal.nD Cert.ReferenceOptOutIdeal.τ).loc Cert.ReferenceOptOutIdeal.main_arg7)
      ∧ r.2.mem ((c.tc : Thread Cert.ReferenceOptOutIdeal.nD Cert.ReferenceOptOutIdeal.τ).loc Cert.ReferenceOptOutIdeal.main_arg8) = m ((c.tc : Thread Cert.ReferenceOptOutIdeal.nD Cert.ReferenceOptOutIdeal.τ).loc Cert.ReferenceOptOutIdeal.main_arg8))
      ∧ r.2.sem = fun _ => 0)

def quiescent_KernelOptIn [hKernelOptIn : Cert.KernelOptIn.Facts] : Prop :=
  ∀ (m : (ℓ : Loc Cert.KernelOptIn.nD Cert.KernelOptIn.τ Cert.KernelOptIn.sig) → Buf (Elt Bits) ℓ) (g : Dev Cert.KernelOptIn.nD → PrngReg), Pre_KernelOptIn m →
    θ_run (Cert.KernelOptIn.defs (F := Bits)) (onTc (τ := Cert.KernelOptIn.τ) (Cert.KernelOptIn.main (F := Bits))) ⟨m, fun _ => 0, g⟩ (fun r => (∀ c : Dev Cert.KernelOptIn.nD,
      r.2.mem ((c.tc : Thread Cert.KernelOptIn.nD Cert.KernelOptIn.τ).loc Cert.KernelOptIn.main_arg0) = m ((c.tc : Thread Cert.KernelOptIn.nD Cert.KernelOptIn.τ).loc Cert.KernelOptIn.main_arg0)
      ∧ r.2.mem ((c.tc : Thread Cert.KernelOptIn.nD Cert.KernelOptIn.τ).loc Cert.KernelOptIn.main_arg1) = m ((c.tc : Thread Cert.KernelOptIn.nD Cert.KernelOptIn.τ).loc Cert.KernelOptIn.main_arg1)
      ∧ r.2.mem ((c.tc : Thread Cert.KernelOptIn.nD Cert.KernelOptIn.τ).loc Cert.KernelOptIn.main_arg2) = m ((c.tc : Thread Cert.KernelOptIn.nD Cert.KernelOptIn.τ).loc Cert.KernelOptIn.main_arg2)
      ∧ r.2.mem ((c.tc : Thread Cert.KernelOptIn.nD Cert.KernelOptIn.τ).loc Cert.KernelOptIn.main_arg3) = m ((c.tc : Thread Cert.KernelOptIn.nD Cert.KernelOptIn.τ).loc Cert.KernelOptIn.main_arg3)
      ∧ r.2.mem ((c.tc : Thread Cert.KernelOptIn.nD Cert.KernelOptIn.τ).loc Cert.KernelOptIn.main_arg4) = m ((c.tc : Thread Cert.KernelOptIn.nD Cert.KernelOptIn.τ).loc Cert.KernelOptIn.main_arg4)
      ∧ r.2.mem ((c.tc : Thread Cert.KernelOptIn.nD Cert.KernelOptIn.τ).loc Cert.KernelOptIn.main_arg5) = m ((c.tc : Thread Cert.KernelOptIn.nD Cert.KernelOptIn.τ).loc Cert.KernelOptIn.main_arg5)
      ∧ r.2.mem ((c.tc : Thread Cert.KernelOptIn.nD Cert.KernelOptIn.τ).loc Cert.KernelOptIn.main_arg6) = m ((c.tc : Thread Cert.KernelOptIn.nD Cert.KernelOptIn.τ).loc Cert.KernelOptIn.main_arg6)
      ∧ r.2.mem ((c.tc : Thread Cert.KernelOptIn.nD Cert.KernelOptIn.τ).loc Cert.KernelOptIn.main_arg7) = m ((c.tc : Thread Cert.KernelOptIn.nD Cert.KernelOptIn.τ).loc Cert.KernelOptIn.main_arg7)
      ∧ r.2.mem ((c.tc : Thread Cert.KernelOptIn.nD Cert.KernelOptIn.τ).loc Cert.KernelOptIn.main_arg8) = m ((c.tc : Thread Cert.KernelOptIn.nD Cert.KernelOptIn.τ).loc Cert.KernelOptIn.main_arg8))
      ∧ r.2.sem = fun _ => 0)

def quiescent_KernelOptInIdeal [hKernelOptInIdeal : Cert.KernelOptInIdeal.Facts] : Prop :=
  ∀ (m : (ℓ : Loc Cert.KernelOptInIdeal.nD Cert.KernelOptInIdeal.τ Cert.KernelOptInIdeal.sig) → Buf (Elt Ideal) ℓ) (g : Dev Cert.KernelOptInIdeal.nD → PrngReg), Pre_KernelOptInIdeal m →
    θ_run (Cert.KernelOptInIdeal.defs (F := Ideal)) (onTc (τ := Cert.KernelOptInIdeal.τ) (Cert.KernelOptInIdeal.main (F := Ideal))) ⟨m, fun _ => 0, g⟩ (fun r => (∀ c : Dev Cert.KernelOptInIdeal.nD,
      r.2.mem ((c.tc : Thread Cert.KernelOptInIdeal.nD Cert.KernelOptInIdeal.τ).loc Cert.KernelOptInIdeal.main_arg0) = m ((c.tc : Thread Cert.KernelOptInIdeal.nD Cert.KernelOptInIdeal.τ).loc Cert.KernelOptInIdeal.main_arg0)
      ∧ r.2.mem ((c.tc : Thread Cert.KernelOptInIdeal.nD Cert.KernelOptInIdeal.τ).loc Cert.KernelOptInIdeal.main_arg1) = m ((c.tc : Thread Cert.KernelOptInIdeal.nD Cert.KernelOptInIdeal.τ).loc Cert.KernelOptInIdeal.main_arg1)
      ∧ r.2.mem ((c.tc : Thread Cert.KernelOptInIdeal.nD Cert.KernelOptInIdeal.τ).loc Cert.KernelOptInIdeal.main_arg2) = m ((c.tc : Thread Cert.KernelOptInIdeal.nD Cert.KernelOptInIdeal.τ).loc Cert.KernelOptInIdeal.main_arg2)
      ∧ r.2.mem ((c.tc : Thread Cert.KernelOptInIdeal.nD Cert.KernelOptInIdeal.τ).loc Cert.KernelOptInIdeal.main_arg3) = m ((c.tc : Thread Cert.KernelOptInIdeal.nD Cert.KernelOptInIdeal.τ).loc Cert.KernelOptInIdeal.main_arg3)
      ∧ r.2.mem ((c.tc : Thread Cert.KernelOptInIdeal.nD Cert.KernelOptInIdeal.τ).loc Cert.KernelOptInIdeal.main_arg4) = m ((c.tc : Thread Cert.KernelOptInIdeal.nD Cert.KernelOptInIdeal.τ).loc Cert.KernelOptInIdeal.main_arg4)
      ∧ r.2.mem ((c.tc : Thread Cert.KernelOptInIdeal.nD Cert.KernelOptInIdeal.τ).loc Cert.KernelOptInIdeal.main_arg5) = m ((c.tc : Thread Cert.KernelOptInIdeal.nD Cert.KernelOptInIdeal.τ).loc Cert.KernelOptInIdeal.main_arg5)
      ∧ r.2.mem ((c.tc : Thread Cert.KernelOptInIdeal.nD Cert.KernelOptInIdeal.τ).loc Cert.KernelOptInIdeal.main_arg6) = m ((c.tc : Thread Cert.KernelOptInIdeal.nD Cert.KernelOptInIdeal.τ).loc Cert.KernelOptInIdeal.main_arg6)
      ∧ r.2.mem ((c.tc : Thread Cert.KernelOptInIdeal.nD Cert.KernelOptInIdeal.τ).loc Cert.KernelOptInIdeal.main_arg7) = m ((c.tc : Thread Cert.KernelOptInIdeal.nD Cert.KernelOptInIdeal.τ).loc Cert.KernelOptInIdeal.main_arg7)
      ∧ r.2.mem ((c.tc : Thread Cert.KernelOptInIdeal.nD Cert.KernelOptInIdeal.τ).loc Cert.KernelOptInIdeal.main_arg8) = m ((c.tc : Thread Cert.KernelOptInIdeal.nD Cert.KernelOptInIdeal.τ).loc Cert.KernelOptInIdeal.main_arg8))
      ∧ r.2.sem = fun _ => 0)

def quiescent_ReferenceOptInIdeal [hReferenceOptInIdeal : Cert.ReferenceOptInIdeal.Facts] : Prop :=
  ∀ (m : (ℓ : Loc Cert.ReferenceOptInIdeal.nD Cert.ReferenceOptInIdeal.τ Cert.ReferenceOptInIdeal.sig) → Buf (Elt Ideal) ℓ) (g : Dev Cert.ReferenceOptInIdeal.nD → PrngReg), Pre_ReferenceOptInIdeal m →
    θ_run (Cert.ReferenceOptInIdeal.defs (F := Ideal)) (onTc (τ := Cert.ReferenceOptInIdeal.τ) (Cert.ReferenceOptInIdeal.main (F := Ideal))) ⟨m, fun _ => 0, g⟩ (fun r => (∀ c : Dev Cert.ReferenceOptInIdeal.nD,
      r.2.mem ((c.tc : Thread Cert.ReferenceOptInIdeal.nD Cert.ReferenceOptInIdeal.τ).loc Cert.ReferenceOptInIdeal.main_arg0) = m ((c.tc : Thread Cert.ReferenceOptInIdeal.nD Cert.ReferenceOptInIdeal.τ).loc Cert.ReferenceOptInIdeal.main_arg0)
      ∧ r.2.mem ((c.tc : Thread Cert.ReferenceOptInIdeal.nD Cert.ReferenceOptInIdeal.τ).loc Cert.ReferenceOptInIdeal.main_arg1) = m ((c.tc : Thread Cert.ReferenceOptInIdeal.nD Cert.ReferenceOptInIdeal.τ).loc Cert.ReferenceOptInIdeal.main_arg1)
      ∧ r.2.mem ((c.tc : Thread Cert.ReferenceOptInIdeal.nD Cert.ReferenceOptInIdeal.τ).loc Cert.ReferenceOptInIdeal.main_arg2) = m ((c.tc : Thread Cert.ReferenceOptInIdeal.nD Cert.ReferenceOptInIdeal.τ).loc Cert.ReferenceOptInIdeal.main_arg2)
      ∧ r.2.mem ((c.tc : Thread Cert.ReferenceOptInIdeal.nD Cert.ReferenceOptInIdeal.τ).loc Cert.ReferenceOptInIdeal.main_arg3) = m ((c.tc : Thread Cert.ReferenceOptInIdeal.nD Cert.ReferenceOptInIdeal.τ).loc Cert.ReferenceOptInIdeal.main_arg3)
      ∧ r.2.mem ((c.tc : Thread Cert.ReferenceOptInIdeal.nD Cert.ReferenceOptInIdeal.τ).loc Cert.ReferenceOptInIdeal.main_arg4) = m ((c.tc : Thread Cert.ReferenceOptInIdeal.nD Cert.ReferenceOptInIdeal.τ).loc Cert.ReferenceOptInIdeal.main_arg4)
      ∧ r.2.mem ((c.tc : Thread Cert.ReferenceOptInIdeal.nD Cert.ReferenceOptInIdeal.τ).loc Cert.ReferenceOptInIdeal.main_arg5) = m ((c.tc : Thread Cert.ReferenceOptInIdeal.nD Cert.ReferenceOptInIdeal.τ).loc Cert.ReferenceOptInIdeal.main_arg5)
      ∧ r.2.mem ((c.tc : Thread Cert.ReferenceOptInIdeal.nD Cert.ReferenceOptInIdeal.τ).loc Cert.ReferenceOptInIdeal.main_arg6) = m ((c.tc : Thread Cert.ReferenceOptInIdeal.nD Cert.ReferenceOptInIdeal.τ).loc Cert.ReferenceOptInIdeal.main_arg6)
      ∧ r.2.mem ((c.tc : Thread Cert.ReferenceOptInIdeal.nD Cert.ReferenceOptInIdeal.τ).loc Cert.ReferenceOptInIdeal.main_arg7) = m ((c.tc : Thread Cert.ReferenceOptInIdeal.nD Cert.ReferenceOptInIdeal.τ).loc Cert.ReferenceOptInIdeal.main_arg7)
      ∧ r.2.mem ((c.tc : Thread Cert.ReferenceOptInIdeal.nD Cert.ReferenceOptInIdeal.τ).loc Cert.ReferenceOptInIdeal.main_arg8) = m ((c.tc : Thread Cert.ReferenceOptInIdeal.nD Cert.ReferenceOptInIdeal.τ).loc Cert.ReferenceOptInIdeal.main_arg8))
      ∧ r.2.sem = fun _ => 0)

def quiescent_KernelOptBranch [hKernelOptBranch : Cert.KernelOptBranch.Facts] : Prop :=
  ∀ (m : (ℓ : Loc Cert.KernelOptBranch.nD Cert.KernelOptBranch.τ Cert.KernelOptBranch.sig) → Buf (Elt Bits) ℓ) (g : Dev Cert.KernelOptBranch.nD → PrngReg), Pre_KernelOptBranch m →
    θ_run (Cert.KernelOptBranch.defs (F := Bits)) (onTc (τ := Cert.KernelOptBranch.τ) (Cert.KernelOptBranch.main (F := Bits))) ⟨m, fun _ => 0, g⟩ (fun r => (∀ c : Dev Cert.KernelOptBranch.nD,
      r.2.mem ((c.tc : Thread Cert.KernelOptBranch.nD Cert.KernelOptBranch.τ).loc Cert.KernelOptBranch.main_arg0) = m ((c.tc : Thread Cert.KernelOptBranch.nD Cert.KernelOptBranch.τ).loc Cert.KernelOptBranch.main_arg0)
      ∧ r.2.mem ((c.tc : Thread Cert.KernelOptBranch.nD Cert.KernelOptBranch.τ).loc Cert.KernelOptBranch.main_arg1) = m ((c.tc : Thread Cert.KernelOptBranch.nD Cert.KernelOptBranch.τ).loc Cert.KernelOptBranch.main_arg1)
      ∧ r.2.mem ((c.tc : Thread Cert.KernelOptBranch.nD Cert.KernelOptBranch.τ).loc Cert.KernelOptBranch.main_arg2) = m ((c.tc : Thread Cert.KernelOptBranch.nD Cert.KernelOptBranch.τ).loc Cert.KernelOptBranch.main_arg2)
      ∧ r.2.mem ((c.tc : Thread Cert.KernelOptBranch.nD Cert.KernelOptBranch.τ).loc Cert.KernelOptBranch.main_arg3) = m ((c.tc : Thread Cert.KernelOptBranch.nD Cert.KernelOptBranch.τ).loc Cert.KernelOptBranch.main_arg3)
      ∧ r.2.mem ((c.tc : Thread Cert.KernelOptBranch.nD Cert.KernelOptBranch.τ).loc Cert.KernelOptBranch.main_arg4) = m ((c.tc : Thread Cert.KernelOptBranch.nD Cert.KernelOptBranch.τ).loc Cert.KernelOptBranch.main_arg4)
      ∧ r.2.mem ((c.tc : Thread Cert.KernelOptBranch.nD Cert.KernelOptBranch.τ).loc Cert.KernelOptBranch.main_arg5) = m ((c.tc : Thread Cert.KernelOptBranch.nD Cert.KernelOptBranch.τ).loc Cert.KernelOptBranch.main_arg5)
      ∧ r.2.mem ((c.tc : Thread Cert.KernelOptBranch.nD Cert.KernelOptBranch.τ).loc Cert.KernelOptBranch.main_arg6) = m ((c.tc : Thread Cert.KernelOptBranch.nD Cert.KernelOptBranch.τ).loc Cert.KernelOptBranch.main_arg6)
      ∧ r.2.mem ((c.tc : Thread Cert.KernelOptBranch.nD Cert.KernelOptBranch.τ).loc Cert.KernelOptBranch.main_arg7) = m ((c.tc : Thread Cert.KernelOptBranch.nD Cert.KernelOptBranch.τ).loc Cert.KernelOptBranch.main_arg7)
      ∧ r.2.mem ((c.tc : Thread Cert.KernelOptBranch.nD Cert.KernelOptBranch.τ).loc Cert.KernelOptBranch.main_arg8) = m ((c.tc : Thread Cert.KernelOptBranch.nD Cert.KernelOptBranch.τ).loc Cert.KernelOptBranch.main_arg8)
      ∧ r.2.mem ((c.tc : Thread Cert.KernelOptBranch.nD Cert.KernelOptBranch.τ).loc Cert.KernelOptBranch.main_arg9) = m ((c.tc : Thread Cert.KernelOptBranch.nD Cert.KernelOptBranch.τ).loc Cert.KernelOptBranch.main_arg9)
      ∧ r.2.mem ((c.tc : Thread Cert.KernelOptBranch.nD Cert.KernelOptBranch.τ).loc Cert.KernelOptBranch.main_arg10) = m ((c.tc : Thread Cert.KernelOptBranch.nD Cert.KernelOptBranch.τ).loc Cert.KernelOptBranch.main_arg10)
      ∧ r.2.mem ((c.tc : Thread Cert.KernelOptBranch.nD Cert.KernelOptBranch.τ).loc Cert.KernelOptBranch.main_arg11) = m ((c.tc : Thread Cert.KernelOptBranch.nD Cert.KernelOptBranch.τ).loc Cert.KernelOptBranch.main_arg11)
      ∧ r.2.mem ((c.tc : Thread Cert.KernelOptBranch.nD Cert.KernelOptBranch.τ).loc Cert.KernelOptBranch.main_arg12) = m ((c.tc : Thread Cert.KernelOptBranch.nD Cert.KernelOptBranch.τ).loc Cert.KernelOptBranch.main_arg12)
      ∧ r.2.mem ((c.tc : Thread Cert.KernelOptBranch.nD Cert.KernelOptBranch.τ).loc Cert.KernelOptBranch.main_arg13) = m ((c.tc : Thread Cert.KernelOptBranch.nD Cert.KernelOptBranch.τ).loc Cert.KernelOptBranch.main_arg13)
      ∧ r.2.mem ((c.tc : Thread Cert.KernelOptBranch.nD Cert.KernelOptBranch.τ).loc Cert.KernelOptBranch.main_arg14) = m ((c.tc : Thread Cert.KernelOptBranch.nD Cert.KernelOptBranch.τ).loc Cert.KernelOptBranch.main_arg14)
      ∧ r.2.mem ((c.tc : Thread Cert.KernelOptBranch.nD Cert.KernelOptBranch.τ).loc Cert.KernelOptBranch.main_arg15) = m ((c.tc : Thread Cert.KernelOptBranch.nD Cert.KernelOptBranch.τ).loc Cert.KernelOptBranch.main_arg15))
      ∧ r.2.sem = fun _ => 0)

def quiescent_KernelOptBranchIdeal [hKernelOptBranchIdeal : Cert.KernelOptBranchIdeal.Facts] : Prop :=
  ∀ (m : (ℓ : Loc Cert.KernelOptBranchIdeal.nD Cert.KernelOptBranchIdeal.τ Cert.KernelOptBranchIdeal.sig) → Buf (Elt Ideal) ℓ) (g : Dev Cert.KernelOptBranchIdeal.nD → PrngReg), Pre_KernelOptBranchIdeal m →
    θ_run (Cert.KernelOptBranchIdeal.defs (F := Ideal)) (onTc (τ := Cert.KernelOptBranchIdeal.τ) (Cert.KernelOptBranchIdeal.main (F := Ideal))) ⟨m, fun _ => 0, g⟩ (fun r => (∀ c : Dev Cert.KernelOptBranchIdeal.nD,
      r.2.mem ((c.tc : Thread Cert.KernelOptBranchIdeal.nD Cert.KernelOptBranchIdeal.τ).loc Cert.KernelOptBranchIdeal.main_arg0) = m ((c.tc : Thread Cert.KernelOptBranchIdeal.nD Cert.KernelOptBranchIdeal.τ).loc Cert.KernelOptBranchIdeal.main_arg0)
      ∧ r.2.mem ((c.tc : Thread Cert.KernelOptBranchIdeal.nD Cert.KernelOptBranchIdeal.τ).loc Cert.KernelOptBranchIdeal.main_arg1) = m ((c.tc : Thread Cert.KernelOptBranchIdeal.nD Cert.KernelOptBranchIdeal.τ).loc Cert.KernelOptBranchIdeal.main_arg1)
      ∧ r.2.mem ((c.tc : Thread Cert.KernelOptBranchIdeal.nD Cert.KernelOptBranchIdeal.τ).loc Cert.KernelOptBranchIdeal.main_arg2) = m ((c.tc : Thread Cert.KernelOptBranchIdeal.nD Cert.KernelOptBranchIdeal.τ).loc Cert.KernelOptBranchIdeal.main_arg2)
      ∧ r.2.mem ((c.tc : Thread Cert.KernelOptBranchIdeal.nD Cert.KernelOptBranchIdeal.τ).loc Cert.KernelOptBranchIdeal.main_arg3) = m ((c.tc : Thread Cert.KernelOptBranchIdeal.nD Cert.KernelOptBranchIdeal.τ).loc Cert.KernelOptBranchIdeal.main_arg3)
      ∧ r.2.mem ((c.tc : Thread Cert.KernelOptBranchIdeal.nD Cert.KernelOptBranchIdeal.τ).loc Cert.KernelOptBranchIdeal.main_arg4) = m ((c.tc : Thread Cert.KernelOptBranchIdeal.nD Cert.KernelOptBranchIdeal.τ).loc Cert.KernelOptBranchIdeal.main_arg4)
      ∧ r.2.mem ((c.tc : Thread Cert.KernelOptBranchIdeal.nD Cert.KernelOptBranchIdeal.τ).loc Cert.KernelOptBranchIdeal.main_arg5) = m ((c.tc : Thread Cert.KernelOptBranchIdeal.nD Cert.KernelOptBranchIdeal.τ).loc Cert.KernelOptBranchIdeal.main_arg5)
      ∧ r.2.mem ((c.tc : Thread Cert.KernelOptBranchIdeal.nD Cert.KernelOptBranchIdeal.τ).loc Cert.KernelOptBranchIdeal.main_arg6) = m ((c.tc : Thread Cert.KernelOptBranchIdeal.nD Cert.KernelOptBranchIdeal.τ).loc Cert.KernelOptBranchIdeal.main_arg6)
      ∧ r.2.mem ((c.tc : Thread Cert.KernelOptBranchIdeal.nD Cert.KernelOptBranchIdeal.τ).loc Cert.KernelOptBranchIdeal.main_arg7) = m ((c.tc : Thread Cert.KernelOptBranchIdeal.nD Cert.KernelOptBranchIdeal.τ).loc Cert.KernelOptBranchIdeal.main_arg7)
      ∧ r.2.mem ((c.tc : Thread Cert.KernelOptBranchIdeal.nD Cert.KernelOptBranchIdeal.τ).loc Cert.KernelOptBranchIdeal.main_arg8) = m ((c.tc : Thread Cert.KernelOptBranchIdeal.nD Cert.KernelOptBranchIdeal.τ).loc Cert.KernelOptBranchIdeal.main_arg8)
      ∧ r.2.mem ((c.tc : Thread Cert.KernelOptBranchIdeal.nD Cert.KernelOptBranchIdeal.τ).loc Cert.KernelOptBranchIdeal.main_arg9) = m ((c.tc : Thread Cert.KernelOptBranchIdeal.nD Cert.KernelOptBranchIdeal.τ).loc Cert.KernelOptBranchIdeal.main_arg9)
      ∧ r.2.mem ((c.tc : Thread Cert.KernelOptBranchIdeal.nD Cert.KernelOptBranchIdeal.τ).loc Cert.KernelOptBranchIdeal.main_arg10) = m ((c.tc : Thread Cert.KernelOptBranchIdeal.nD Cert.KernelOptBranchIdeal.τ).loc Cert.KernelOptBranchIdeal.main_arg10)
      ∧ r.2.mem ((c.tc : Thread Cert.KernelOptBranchIdeal.nD Cert.KernelOptBranchIdeal.τ).loc Cert.KernelOptBranchIdeal.main_arg11) = m ((c.tc : Thread Cert.KernelOptBranchIdeal.nD Cert.KernelOptBranchIdeal.τ).loc Cert.KernelOptBranchIdeal.main_arg11)
      ∧ r.2.mem ((c.tc : Thread Cert.KernelOptBranchIdeal.nD Cert.KernelOptBranchIdeal.τ).loc Cert.KernelOptBranchIdeal.main_arg12) = m ((c.tc : Thread Cert.KernelOptBranchIdeal.nD Cert.KernelOptBranchIdeal.τ).loc Cert.KernelOptBranchIdeal.main_arg12)
      ∧ r.2.mem ((c.tc : Thread Cert.KernelOptBranchIdeal.nD Cert.KernelOptBranchIdeal.τ).loc Cert.KernelOptBranchIdeal.main_arg13) = m ((c.tc : Thread Cert.KernelOptBranchIdeal.nD Cert.KernelOptBranchIdeal.τ).loc Cert.KernelOptBranchIdeal.main_arg13)
      ∧ r.2.mem ((c.tc : Thread Cert.KernelOptBranchIdeal.nD Cert.KernelOptBranchIdeal.τ).loc Cert.KernelOptBranchIdeal.main_arg14) = m ((c.tc : Thread Cert.KernelOptBranchIdeal.nD Cert.KernelOptBranchIdeal.τ).loc Cert.KernelOptBranchIdeal.main_arg14)
      ∧ r.2.mem ((c.tc : Thread Cert.KernelOptBranchIdeal.nD Cert.KernelOptBranchIdeal.τ).loc Cert.KernelOptBranchIdeal.main_arg15) = m ((c.tc : Thread Cert.KernelOptBranchIdeal.nD Cert.KernelOptBranchIdeal.τ).loc Cert.KernelOptBranchIdeal.main_arg15))
      ∧ r.2.sem = fun _ => 0)

def quiescent_ReferenceOptBranchIdeal [hReferenceOptBranchIdeal : Cert.ReferenceOptBranchIdeal.Facts] : Prop :=
  ∀ (m : (ℓ : Loc Cert.ReferenceOptBranchIdeal.nD Cert.ReferenceOptBranchIdeal.τ Cert.ReferenceOptBranchIdeal.sig) → Buf (Elt Ideal) ℓ) (g : Dev Cert.ReferenceOptBranchIdeal.nD → PrngReg), Pre_ReferenceOptBranchIdeal m →
    θ_run (Cert.ReferenceOptBranchIdeal.defs (F := Ideal)) (onTc (τ := Cert.ReferenceOptBranchIdeal.τ) (Cert.ReferenceOptBranchIdeal.main (F := Ideal))) ⟨m, fun _ => 0, g⟩ (fun r => (∀ c : Dev Cert.ReferenceOptBranchIdeal.nD,
      r.2.mem ((c.tc : Thread Cert.ReferenceOptBranchIdeal.nD Cert.ReferenceOptBranchIdeal.τ).loc Cert.ReferenceOptBranchIdeal.main_arg0) = m ((c.tc : Thread Cert.ReferenceOptBranchIdeal.nD Cert.ReferenceOptBranchIdeal.τ).loc Cert.ReferenceOptBranchIdeal.main_arg0)
      ∧ r.2.mem ((c.tc : Thread Cert.ReferenceOptBranchIdeal.nD Cert.ReferenceOptBranchIdeal.τ).loc Cert.ReferenceOptBranchIdeal.main_arg1) = m ((c.tc : Thread Cert.ReferenceOptBranchIdeal.nD Cert.ReferenceOptBranchIdeal.τ).loc Cert.ReferenceOptBranchIdeal.main_arg1)
      ∧ r.2.mem ((c.tc : Thread Cert.ReferenceOptBranchIdeal.nD Cert.ReferenceOptBranchIdeal.τ).loc Cert.ReferenceOptBranchIdeal.main_arg2) = m ((c.tc : Thread Cert.ReferenceOptBranchIdeal.nD Cert.ReferenceOptBranchIdeal.τ).loc Cert.ReferenceOptBranchIdeal.main_arg2)
      ∧ r.2.mem ((c.tc : Thread Cert.ReferenceOptBranchIdeal.nD Cert.ReferenceOptBranchIdeal.τ).loc Cert.ReferenceOptBranchIdeal.main_arg3) = m ((c.tc : Thread Cert.ReferenceOptBranchIdeal.nD Cert.ReferenceOptBranchIdeal.τ).loc Cert.ReferenceOptBranchIdeal.main_arg3)
      ∧ r.2.mem ((c.tc : Thread Cert.ReferenceOptBranchIdeal.nD Cert.ReferenceOptBranchIdeal.τ).loc Cert.ReferenceOptBranchIdeal.main_arg4) = m ((c.tc : Thread Cert.ReferenceOptBranchIdeal.nD Cert.ReferenceOptBranchIdeal.τ).loc Cert.ReferenceOptBranchIdeal.main_arg4)
      ∧ r.2.mem ((c.tc : Thread Cert.ReferenceOptBranchIdeal.nD Cert.ReferenceOptBranchIdeal.τ).loc Cert.ReferenceOptBranchIdeal.main_arg5) = m ((c.tc : Thread Cert.ReferenceOptBranchIdeal.nD Cert.ReferenceOptBranchIdeal.τ).loc Cert.ReferenceOptBranchIdeal.main_arg5)
      ∧ r.2.mem ((c.tc : Thread Cert.ReferenceOptBranchIdeal.nD Cert.ReferenceOptBranchIdeal.τ).loc Cert.ReferenceOptBranchIdeal.main_arg6) = m ((c.tc : Thread Cert.ReferenceOptBranchIdeal.nD Cert.ReferenceOptBranchIdeal.τ).loc Cert.ReferenceOptBranchIdeal.main_arg6)
      ∧ r.2.mem ((c.tc : Thread Cert.ReferenceOptBranchIdeal.nD Cert.ReferenceOptBranchIdeal.τ).loc Cert.ReferenceOptBranchIdeal.main_arg7) = m ((c.tc : Thread Cert.ReferenceOptBranchIdeal.nD Cert.ReferenceOptBranchIdeal.τ).loc Cert.ReferenceOptBranchIdeal.main_arg7)
      ∧ r.2.mem ((c.tc : Thread Cert.ReferenceOptBranchIdeal.nD Cert.ReferenceOptBranchIdeal.τ).loc Cert.ReferenceOptBranchIdeal.main_arg8) = m ((c.tc : Thread Cert.ReferenceOptBranchIdeal.nD Cert.ReferenceOptBranchIdeal.τ).loc Cert.ReferenceOptBranchIdeal.main_arg8)
      ∧ r.2.mem ((c.tc : Thread Cert.ReferenceOptBranchIdeal.nD Cert.ReferenceOptBranchIdeal.τ).loc Cert.ReferenceOptBranchIdeal.main_arg9) = m ((c.tc : Thread Cert.ReferenceOptBranchIdeal.nD Cert.ReferenceOptBranchIdeal.τ).loc Cert.ReferenceOptBranchIdeal.main_arg9)
      ∧ r.2.mem ((c.tc : Thread Cert.ReferenceOptBranchIdeal.nD Cert.ReferenceOptBranchIdeal.τ).loc Cert.ReferenceOptBranchIdeal.main_arg10) = m ((c.tc : Thread Cert.ReferenceOptBranchIdeal.nD Cert.ReferenceOptBranchIdeal.τ).loc Cert.ReferenceOptBranchIdeal.main_arg10)
      ∧ r.2.mem ((c.tc : Thread Cert.ReferenceOptBranchIdeal.nD Cert.ReferenceOptBranchIdeal.τ).loc Cert.ReferenceOptBranchIdeal.main_arg11) = m ((c.tc : Thread Cert.ReferenceOptBranchIdeal.nD Cert.ReferenceOptBranchIdeal.τ).loc Cert.ReferenceOptBranchIdeal.main_arg11)
      ∧ r.2.mem ((c.tc : Thread Cert.ReferenceOptBranchIdeal.nD Cert.ReferenceOptBranchIdeal.τ).loc Cert.ReferenceOptBranchIdeal.main_arg12) = m ((c.tc : Thread Cert.ReferenceOptBranchIdeal.nD Cert.ReferenceOptBranchIdeal.τ).loc Cert.ReferenceOptBranchIdeal.main_arg12)
      ∧ r.2.mem ((c.tc : Thread Cert.ReferenceOptBranchIdeal.nD Cert.ReferenceOptBranchIdeal.τ).loc Cert.ReferenceOptBranchIdeal.main_arg13) = m ((c.tc : Thread Cert.ReferenceOptBranchIdeal.nD Cert.ReferenceOptBranchIdeal.τ).loc Cert.ReferenceOptBranchIdeal.main_arg13)
      ∧ r.2.mem ((c.tc : Thread Cert.ReferenceOptBranchIdeal.nD Cert.ReferenceOptBranchIdeal.τ).loc Cert.ReferenceOptBranchIdeal.main_arg14) = m ((c.tc : Thread Cert.ReferenceOptBranchIdeal.nD Cert.ReferenceOptBranchIdeal.τ).loc Cert.ReferenceOptBranchIdeal.main_arg14)
      ∧ r.2.mem ((c.tc : Thread Cert.ReferenceOptBranchIdeal.nD Cert.ReferenceOptBranchIdeal.τ).loc Cert.ReferenceOptBranchIdeal.main_arg15) = m ((c.tc : Thread Cert.ReferenceOptBranchIdeal.nD Cert.ReferenceOptBranchIdeal.τ).loc Cert.ReferenceOptBranchIdeal.main_arg15))
      ∧ r.2.sem = fun _ => 0)

def quiescent_KernelOptFf [hKernelOptFf : Cert.KernelOptFf.Facts] : Prop :=
  ∀ (m : (ℓ : Loc Cert.KernelOptFf.nD Cert.KernelOptFf.τ Cert.KernelOptFf.sig) → Buf (Elt Bits) ℓ) (g : Dev Cert.KernelOptFf.nD → PrngReg), Pre_KernelOptFf m →
    θ_run (Cert.KernelOptFf.defs (F := Bits)) (onTc (τ := Cert.KernelOptFf.τ) (Cert.KernelOptFf.main (F := Bits))) ⟨m, fun _ => 0, g⟩ (fun r => (∀ c : Dev Cert.KernelOptFf.nD,
      r.2.mem ((c.tc : Thread Cert.KernelOptFf.nD Cert.KernelOptFf.τ).loc Cert.KernelOptFf.main_arg0) = m ((c.tc : Thread Cert.KernelOptFf.nD Cert.KernelOptFf.τ).loc Cert.KernelOptFf.main_arg0)
      ∧ r.2.mem ((c.tc : Thread Cert.KernelOptFf.nD Cert.KernelOptFf.τ).loc Cert.KernelOptFf.main_arg1) = m ((c.tc : Thread Cert.KernelOptFf.nD Cert.KernelOptFf.τ).loc Cert.KernelOptFf.main_arg1)
      ∧ r.2.mem ((c.tc : Thread Cert.KernelOptFf.nD Cert.KernelOptFf.τ).loc Cert.KernelOptFf.main_arg2) = m ((c.tc : Thread Cert.KernelOptFf.nD Cert.KernelOptFf.τ).loc Cert.KernelOptFf.main_arg2)
      ∧ r.2.mem ((c.tc : Thread Cert.KernelOptFf.nD Cert.KernelOptFf.τ).loc Cert.KernelOptFf.main_arg3) = m ((c.tc : Thread Cert.KernelOptFf.nD Cert.KernelOptFf.τ).loc Cert.KernelOptFf.main_arg3)
      ∧ r.2.mem ((c.tc : Thread Cert.KernelOptFf.nD Cert.KernelOptFf.τ).loc Cert.KernelOptFf.main_arg4) = m ((c.tc : Thread Cert.KernelOptFf.nD Cert.KernelOptFf.τ).loc Cert.KernelOptFf.main_arg4)
      ∧ r.2.mem ((c.tc : Thread Cert.KernelOptFf.nD Cert.KernelOptFf.τ).loc Cert.KernelOptFf.main_arg5) = m ((c.tc : Thread Cert.KernelOptFf.nD Cert.KernelOptFf.τ).loc Cert.KernelOptFf.main_arg5)
      ∧ r.2.mem ((c.tc : Thread Cert.KernelOptFf.nD Cert.KernelOptFf.τ).loc Cert.KernelOptFf.main_arg6) = m ((c.tc : Thread Cert.KernelOptFf.nD Cert.KernelOptFf.τ).loc Cert.KernelOptFf.main_arg6)
      ∧ r.2.mem ((c.tc : Thread Cert.KernelOptFf.nD Cert.KernelOptFf.τ).loc Cert.KernelOptFf.main_arg7) = m ((c.tc : Thread Cert.KernelOptFf.nD Cert.KernelOptFf.τ).loc Cert.KernelOptFf.main_arg7)
      ∧ r.2.mem ((c.tc : Thread Cert.KernelOptFf.nD Cert.KernelOptFf.τ).loc Cert.KernelOptFf.main_arg8) = m ((c.tc : Thread Cert.KernelOptFf.nD Cert.KernelOptFf.τ).loc Cert.KernelOptFf.main_arg8))
      ∧ r.2.sem = fun _ => 0)

def quiescent_KernelOptFfIdeal [hKernelOptFfIdeal : Cert.KernelOptFfIdeal.Facts] : Prop :=
  ∀ (m : (ℓ : Loc Cert.KernelOptFfIdeal.nD Cert.KernelOptFfIdeal.τ Cert.KernelOptFfIdeal.sig) → Buf (Elt Ideal) ℓ) (g : Dev Cert.KernelOptFfIdeal.nD → PrngReg), Pre_KernelOptFfIdeal m →
    θ_run (Cert.KernelOptFfIdeal.defs (F := Ideal)) (onTc (τ := Cert.KernelOptFfIdeal.τ) (Cert.KernelOptFfIdeal.main (F := Ideal))) ⟨m, fun _ => 0, g⟩ (fun r => (∀ c : Dev Cert.KernelOptFfIdeal.nD,
      r.2.mem ((c.tc : Thread Cert.KernelOptFfIdeal.nD Cert.KernelOptFfIdeal.τ).loc Cert.KernelOptFfIdeal.main_arg0) = m ((c.tc : Thread Cert.KernelOptFfIdeal.nD Cert.KernelOptFfIdeal.τ).loc Cert.KernelOptFfIdeal.main_arg0)
      ∧ r.2.mem ((c.tc : Thread Cert.KernelOptFfIdeal.nD Cert.KernelOptFfIdeal.τ).loc Cert.KernelOptFfIdeal.main_arg1) = m ((c.tc : Thread Cert.KernelOptFfIdeal.nD Cert.KernelOptFfIdeal.τ).loc Cert.KernelOptFfIdeal.main_arg1)
      ∧ r.2.mem ((c.tc : Thread Cert.KernelOptFfIdeal.nD Cert.KernelOptFfIdeal.τ).loc Cert.KernelOptFfIdeal.main_arg2) = m ((c.tc : Thread Cert.KernelOptFfIdeal.nD Cert.KernelOptFfIdeal.τ).loc Cert.KernelOptFfIdeal.main_arg2)
      ∧ r.2.mem ((c.tc : Thread Cert.KernelOptFfIdeal.nD Cert.KernelOptFfIdeal.τ).loc Cert.KernelOptFfIdeal.main_arg3) = m ((c.tc : Thread Cert.KernelOptFfIdeal.nD Cert.KernelOptFfIdeal.τ).loc Cert.KernelOptFfIdeal.main_arg3)
      ∧ r.2.mem ((c.tc : Thread Cert.KernelOptFfIdeal.nD Cert.KernelOptFfIdeal.τ).loc Cert.KernelOptFfIdeal.main_arg4) = m ((c.tc : Thread Cert.KernelOptFfIdeal.nD Cert.KernelOptFfIdeal.τ).loc Cert.KernelOptFfIdeal.main_arg4)
      ∧ r.2.mem ((c.tc : Thread Cert.KernelOptFfIdeal.nD Cert.KernelOptFfIdeal.τ).loc Cert.KernelOptFfIdeal.main_arg5) = m ((c.tc : Thread Cert.KernelOptFfIdeal.nD Cert.KernelOptFfIdeal.τ).loc Cert.KernelOptFfIdeal.main_arg5)
      ∧ r.2.mem ((c.tc : Thread Cert.KernelOptFfIdeal.nD Cert.KernelOptFfIdeal.τ).loc Cert.KernelOptFfIdeal.main_arg6) = m ((c.tc : Thread Cert.KernelOptFfIdeal.nD Cert.KernelOptFfIdeal.τ).loc Cert.KernelOptFfIdeal.main_arg6)
      ∧ r.2.mem ((c.tc : Thread Cert.KernelOptFfIdeal.nD Cert.KernelOptFfIdeal.τ).loc Cert.KernelOptFfIdeal.main_arg7) = m ((c.tc : Thread Cert.KernelOptFfIdeal.nD Cert.KernelOptFfIdeal.τ).loc Cert.KernelOptFfIdeal.main_arg7)
      ∧ r.2.mem ((c.tc : Thread Cert.KernelOptFfIdeal.nD Cert.KernelOptFfIdeal.τ).loc Cert.KernelOptFfIdeal.main_arg8) = m ((c.tc : Thread Cert.KernelOptFfIdeal.nD Cert.KernelOptFfIdeal.τ).loc Cert.KernelOptFfIdeal.main_arg8))
      ∧ r.2.sem = fun _ => 0)

def quiescent_ReferenceOptFfIdeal [hReferenceOptFfIdeal : Cert.ReferenceOptFfIdeal.Facts] : Prop :=
  ∀ (m : (ℓ : Loc Cert.ReferenceOptFfIdeal.nD Cert.ReferenceOptFfIdeal.τ Cert.ReferenceOptFfIdeal.sig) → Buf (Elt Ideal) ℓ) (g : Dev Cert.ReferenceOptFfIdeal.nD → PrngReg), Pre_ReferenceOptFfIdeal m →
    θ_run (Cert.ReferenceOptFfIdeal.defs (F := Ideal)) (onTc (τ := Cert.ReferenceOptFfIdeal.τ) (Cert.ReferenceOptFfIdeal.main (F := Ideal))) ⟨m, fun _ => 0, g⟩ (fun r => (∀ c : Dev Cert.ReferenceOptFfIdeal.nD,
      r.2.mem ((c.tc : Thread Cert.ReferenceOptFfIdeal.nD Cert.ReferenceOptFfIdeal.τ).loc Cert.ReferenceOptFfIdeal.main_arg0) = m ((c.tc : Thread Cert.ReferenceOptFfIdeal.nD Cert.ReferenceOptFfIdeal.τ).loc Cert.ReferenceOptFfIdeal.main_arg0)
      ∧ r.2.mem ((c.tc : Thread Cert.ReferenceOptFfIdeal.nD Cert.ReferenceOptFfIdeal.τ).loc Cert.ReferenceOptFfIdeal.main_arg1) = m ((c.tc : Thread Cert.ReferenceOptFfIdeal.nD Cert.ReferenceOptFfIdeal.τ).loc Cert.ReferenceOptFfIdeal.main_arg1)
      ∧ r.2.mem ((c.tc : Thread Cert.ReferenceOptFfIdeal.nD Cert.ReferenceOptFfIdeal.τ).loc Cert.ReferenceOptFfIdeal.main_arg2) = m ((c.tc : Thread Cert.ReferenceOptFfIdeal.nD Cert.ReferenceOptFfIdeal.τ).loc Cert.ReferenceOptFfIdeal.main_arg2)
      ∧ r.2.mem ((c.tc : Thread Cert.ReferenceOptFfIdeal.nD Cert.ReferenceOptFfIdeal.τ).loc Cert.ReferenceOptFfIdeal.main_arg3) = m ((c.tc : Thread Cert.ReferenceOptFfIdeal.nD Cert.ReferenceOptFfIdeal.τ).loc Cert.ReferenceOptFfIdeal.main_arg3)
      ∧ r.2.mem ((c.tc : Thread Cert.ReferenceOptFfIdeal.nD Cert.ReferenceOptFfIdeal.τ).loc Cert.ReferenceOptFfIdeal.main_arg4) = m ((c.tc : Thread Cert.ReferenceOptFfIdeal.nD Cert.ReferenceOptFfIdeal.τ).loc Cert.ReferenceOptFfIdeal.main_arg4)
      ∧ r.2.mem ((c.tc : Thread Cert.ReferenceOptFfIdeal.nD Cert.ReferenceOptFfIdeal.τ).loc Cert.ReferenceOptFfIdeal.main_arg5) = m ((c.tc : Thread Cert.ReferenceOptFfIdeal.nD Cert.ReferenceOptFfIdeal.τ).loc Cert.ReferenceOptFfIdeal.main_arg5)
      ∧ r.2.mem ((c.tc : Thread Cert.ReferenceOptFfIdeal.nD Cert.ReferenceOptFfIdeal.τ).loc Cert.ReferenceOptFfIdeal.main_arg6) = m ((c.tc : Thread Cert.ReferenceOptFfIdeal.nD Cert.ReferenceOptFfIdeal.τ).loc Cert.ReferenceOptFfIdeal.main_arg6)
      ∧ r.2.mem ((c.tc : Thread Cert.ReferenceOptFfIdeal.nD Cert.ReferenceOptFfIdeal.τ).loc Cert.ReferenceOptFfIdeal.main_arg7) = m ((c.tc : Thread Cert.ReferenceOptFfIdeal.nD Cert.ReferenceOptFfIdeal.τ).loc Cert.ReferenceOptFfIdeal.main_arg7)
      ∧ r.2.mem ((c.tc : Thread Cert.ReferenceOptFfIdeal.nD Cert.ReferenceOptFfIdeal.τ).loc Cert.ReferenceOptFfIdeal.main_arg8) = m ((c.tc : Thread Cert.ReferenceOptFfIdeal.nD Cert.ReferenceOptFfIdeal.τ).loc Cert.ReferenceOptFfIdeal.main_arg8))
      ∧ r.2.sem = fun _ => 0)

def quiescent_KernelOptFirst [hKernelOptFirst : Cert.KernelOptFirst.Facts] : Prop :=
  ∀ (m : (ℓ : Loc Cert.KernelOptFirst.nD Cert.KernelOptFirst.τ Cert.KernelOptFirst.sig) → Buf (Elt Bits) ℓ) (g : Dev Cert.KernelOptFirst.nD → PrngReg), Pre_KernelOptFirst m →
    θ_run (Cert.KernelOptFirst.defs (F := Bits)) (onTc (τ := Cert.KernelOptFirst.τ) (Cert.KernelOptFirst.main (F := Bits))) ⟨m, fun _ => 0, g⟩ (fun r => (∀ c : Dev Cert.KernelOptFirst.nD,
      r.2.mem ((c.tc : Thread Cert.KernelOptFirst.nD Cert.KernelOptFirst.τ).loc Cert.KernelOptFirst.main_arg0) = m ((c.tc : Thread Cert.KernelOptFirst.nD Cert.KernelOptFirst.τ).loc Cert.KernelOptFirst.main_arg0)
      ∧ r.2.mem ((c.tc : Thread Cert.KernelOptFirst.nD Cert.KernelOptFirst.τ).loc Cert.KernelOptFirst.main_arg1) = m ((c.tc : Thread Cert.KernelOptFirst.nD Cert.KernelOptFirst.τ).loc Cert.KernelOptFirst.main_arg1)
      ∧ r.2.mem ((c.tc : Thread Cert.KernelOptFirst.nD Cert.KernelOptFirst.τ).loc Cert.KernelOptFirst.main_arg2) = m ((c.tc : Thread Cert.KernelOptFirst.nD Cert.KernelOptFirst.τ).loc Cert.KernelOptFirst.main_arg2)
      ∧ r.2.mem ((c.tc : Thread Cert.KernelOptFirst.nD Cert.KernelOptFirst.τ).loc Cert.KernelOptFirst.main_arg3) = m ((c.tc : Thread Cert.KernelOptFirst.nD Cert.KernelOptFirst.τ).loc Cert.KernelOptFirst.main_arg3)
      ∧ r.2.mem ((c.tc : Thread Cert.KernelOptFirst.nD Cert.KernelOptFirst.τ).loc Cert.KernelOptFirst.main_arg4) = m ((c.tc : Thread Cert.KernelOptFirst.nD Cert.KernelOptFirst.τ).loc Cert.KernelOptFirst.main_arg4)
      ∧ r.2.mem ((c.tc : Thread Cert.KernelOptFirst.nD Cert.KernelOptFirst.τ).loc Cert.KernelOptFirst.main_arg5) = m ((c.tc : Thread Cert.KernelOptFirst.nD Cert.KernelOptFirst.τ).loc Cert.KernelOptFirst.main_arg5)
      ∧ r.2.mem ((c.tc : Thread Cert.KernelOptFirst.nD Cert.KernelOptFirst.τ).loc Cert.KernelOptFirst.main_arg6) = m ((c.tc : Thread Cert.KernelOptFirst.nD Cert.KernelOptFirst.τ).loc Cert.KernelOptFirst.main_arg6)
      ∧ r.2.mem ((c.tc : Thread Cert.KernelOptFirst.nD Cert.KernelOptFirst.τ).loc Cert.KernelOptFirst.main_arg7) = m ((c.tc : Thread Cert.KernelOptFirst.nD Cert.KernelOptFirst.τ).loc Cert.KernelOptFirst.main_arg7)
      ∧ r.2.mem ((c.tc : Thread Cert.KernelOptFirst.nD Cert.KernelOptFirst.τ).loc Cert.KernelOptFirst.main_arg8) = m ((c.tc : Thread Cert.KernelOptFirst.nD Cert.KernelOptFirst.τ).loc Cert.KernelOptFirst.main_arg8))
      ∧ r.2.sem = fun _ => 0)

def quiescent_KernelOptFirstIdeal [hKernelOptFirstIdeal : Cert.KernelOptFirstIdeal.Facts] : Prop :=
  ∀ (m : (ℓ : Loc Cert.KernelOptFirstIdeal.nD Cert.KernelOptFirstIdeal.τ Cert.KernelOptFirstIdeal.sig) → Buf (Elt Ideal) ℓ) (g : Dev Cert.KernelOptFirstIdeal.nD → PrngReg), Pre_KernelOptFirstIdeal m →
    θ_run (Cert.KernelOptFirstIdeal.defs (F := Ideal)) (onTc (τ := Cert.KernelOptFirstIdeal.τ) (Cert.KernelOptFirstIdeal.main (F := Ideal))) ⟨m, fun _ => 0, g⟩ (fun r => (∀ c : Dev Cert.KernelOptFirstIdeal.nD,
      r.2.mem ((c.tc : Thread Cert.KernelOptFirstIdeal.nD Cert.KernelOptFirstIdeal.τ).loc Cert.KernelOptFirstIdeal.main_arg0) = m ((c.tc : Thread Cert.KernelOptFirstIdeal.nD Cert.KernelOptFirstIdeal.τ).loc Cert.KernelOptFirstIdeal.main_arg0)
      ∧ r.2.mem ((c.tc : Thread Cert.KernelOptFirstIdeal.nD Cert.KernelOptFirstIdeal.τ).loc Cert.KernelOptFirstIdeal.main_arg1) = m ((c.tc : Thread Cert.KernelOptFirstIdeal.nD Cert.KernelOptFirstIdeal.τ).loc Cert.KernelOptFirstIdeal.main_arg1)
      ∧ r.2.mem ((c.tc : Thread Cert.KernelOptFirstIdeal.nD Cert.KernelOptFirstIdeal.τ).loc Cert.KernelOptFirstIdeal.main_arg2) = m ((c.tc : Thread Cert.KernelOptFirstIdeal.nD Cert.KernelOptFirstIdeal.τ).loc Cert.KernelOptFirstIdeal.main_arg2)
      ∧ r.2.mem ((c.tc : Thread Cert.KernelOptFirstIdeal.nD Cert.KernelOptFirstIdeal.τ).loc Cert.KernelOptFirstIdeal.main_arg3) = m ((c.tc : Thread Cert.KernelOptFirstIdeal.nD Cert.KernelOptFirstIdeal.τ).loc Cert.KernelOptFirstIdeal.main_arg3)
      ∧ r.2.mem ((c.tc : Thread Cert.KernelOptFirstIdeal.nD Cert.KernelOptFirstIdeal.τ).loc Cert.KernelOptFirstIdeal.main_arg4) = m ((c.tc : Thread Cert.KernelOptFirstIdeal.nD Cert.KernelOptFirstIdeal.τ).loc Cert.KernelOptFirstIdeal.main_arg4)
      ∧ r.2.mem ((c.tc : Thread Cert.KernelOptFirstIdeal.nD Cert.KernelOptFirstIdeal.τ).loc Cert.KernelOptFirstIdeal.main_arg5) = m ((c.tc : Thread Cert.KernelOptFirstIdeal.nD Cert.KernelOptFirstIdeal.τ).loc Cert.KernelOptFirstIdeal.main_arg5)
      ∧ r.2.mem ((c.tc : Thread Cert.KernelOptFirstIdeal.nD Cert.KernelOptFirstIdeal.τ).loc Cert.KernelOptFirstIdeal.main_arg6) = m ((c.tc : Thread Cert.KernelOptFirstIdeal.nD Cert.KernelOptFirstIdeal.τ).loc Cert.KernelOptFirstIdeal.main_arg6)
      ∧ r.2.mem ((c.tc : Thread Cert.KernelOptFirstIdeal.nD Cert.KernelOptFirstIdeal.τ).loc Cert.KernelOptFirstIdeal.main_arg7) = m ((c.tc : Thread Cert.KernelOptFirstIdeal.nD Cert.KernelOptFirstIdeal.τ).loc Cert.KernelOptFirstIdeal.main_arg7)
      ∧ r.2.mem ((c.tc : Thread Cert.KernelOptFirstIdeal.nD Cert.KernelOptFirstIdeal.τ).loc Cert.KernelOptFirstIdeal.main_arg8) = m ((c.tc : Thread Cert.KernelOptFirstIdeal.nD Cert.KernelOptFirstIdeal.τ).loc Cert.KernelOptFirstIdeal.main_arg8))
      ∧ r.2.sem = fun _ => 0)

def quiescent_ReferenceOptFirstIdeal [hReferenceOptFirstIdeal : Cert.ReferenceOptFirstIdeal.Facts] : Prop :=
  ∀ (m : (ℓ : Loc Cert.ReferenceOptFirstIdeal.nD Cert.ReferenceOptFirstIdeal.τ Cert.ReferenceOptFirstIdeal.sig) → Buf (Elt Ideal) ℓ) (g : Dev Cert.ReferenceOptFirstIdeal.nD → PrngReg), Pre_ReferenceOptFirstIdeal m →
    θ_run (Cert.ReferenceOptFirstIdeal.defs (F := Ideal)) (onTc (τ := Cert.ReferenceOptFirstIdeal.τ) (Cert.ReferenceOptFirstIdeal.main (F := Ideal))) ⟨m, fun _ => 0, g⟩ (fun r => (∀ c : Dev Cert.ReferenceOptFirstIdeal.nD,
      r.2.mem ((c.tc : Thread Cert.ReferenceOptFirstIdeal.nD Cert.ReferenceOptFirstIdeal.τ).loc Cert.ReferenceOptFirstIdeal.main_arg0) = m ((c.tc : Thread Cert.ReferenceOptFirstIdeal.nD Cert.ReferenceOptFirstIdeal.τ).loc Cert.ReferenceOptFirstIdeal.main_arg0)
      ∧ r.2.mem ((c.tc : Thread Cert.ReferenceOptFirstIdeal.nD Cert.ReferenceOptFirstIdeal.τ).loc Cert.ReferenceOptFirstIdeal.main_arg1) = m ((c.tc : Thread Cert.ReferenceOptFirstIdeal.nD Cert.ReferenceOptFirstIdeal.τ).loc Cert.ReferenceOptFirstIdeal.main_arg1)
      ∧ r.2.mem ((c.tc : Thread Cert.ReferenceOptFirstIdeal.nD Cert.ReferenceOptFirstIdeal.τ).loc Cert.ReferenceOptFirstIdeal.main_arg2) = m ((c.tc : Thread Cert.ReferenceOptFirstIdeal.nD Cert.ReferenceOptFirstIdeal.τ).loc Cert.ReferenceOptFirstIdeal.main_arg2)
      ∧ r.2.mem ((c.tc : Thread Cert.ReferenceOptFirstIdeal.nD Cert.ReferenceOptFirstIdeal.τ).loc Cert.ReferenceOptFirstIdeal.main_arg3) = m ((c.tc : Thread Cert.ReferenceOptFirstIdeal.nD Cert.ReferenceOptFirstIdeal.τ).loc Cert.ReferenceOptFirstIdeal.main_arg3)
      ∧ r.2.mem ((c.tc : Thread Cert.ReferenceOptFirstIdeal.nD Cert.ReferenceOptFirstIdeal.τ).loc Cert.ReferenceOptFirstIdeal.main_arg4) = m ((c.tc : Thread Cert.ReferenceOptFirstIdeal.nD Cert.ReferenceOptFirstIdeal.τ).loc Cert.ReferenceOptFirstIdeal.main_arg4)
      ∧ r.2.mem ((c.tc : Thread Cert.ReferenceOptFirstIdeal.nD Cert.ReferenceOptFirstIdeal.τ).loc Cert.ReferenceOptFirstIdeal.main_arg5) = m ((c.tc : Thread Cert.ReferenceOptFirstIdeal.nD Cert.ReferenceOptFirstIdeal.τ).loc Cert.ReferenceOptFirstIdeal.main_arg5)
      ∧ r.2.mem ((c.tc : Thread Cert.ReferenceOptFirstIdeal.nD Cert.ReferenceOptFirstIdeal.τ).loc Cert.ReferenceOptFirstIdeal.main_arg6) = m ((c.tc : Thread Cert.ReferenceOptFirstIdeal.nD Cert.ReferenceOptFirstIdeal.τ).loc Cert.ReferenceOptFirstIdeal.main_arg6)
      ∧ r.2.mem ((c.tc : Thread Cert.ReferenceOptFirstIdeal.nD Cert.ReferenceOptFirstIdeal.τ).loc Cert.ReferenceOptFirstIdeal.main_arg7) = m ((c.tc : Thread Cert.ReferenceOptFirstIdeal.nD Cert.ReferenceOptFirstIdeal.τ).loc Cert.ReferenceOptFirstIdeal.main_arg7)
      ∧ r.2.mem ((c.tc : Thread Cert.ReferenceOptFirstIdeal.nD Cert.ReferenceOptFirstIdeal.τ).loc Cert.ReferenceOptFirstIdeal.main_arg8) = m ((c.tc : Thread Cert.ReferenceOptFirstIdeal.nD Cert.ReferenceOptFirstIdeal.τ).loc Cert.ReferenceOptFirstIdeal.main_arg8))
      ∧ r.2.sem = fun _ => 0)

def preserves_Kernel_KernelIdeal : Prop :=
  True

def preserves_KernelAct_KernelActIdeal : Prop :=
  True

def algebraic_KernelActIdeal_ReferenceActIdeal_pre_finite_act [hKernelActIdeal : Cert.KernelActIdeal.Facts] [hReferenceActIdeal : Cert.ReferenceActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal_finite_act m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)
      ∧ m' ((c.tc : Thread Cert.ReferenceActIdeal.nD Cert.ReferenceActIdeal.τ).loc Cert.ReferenceActIdeal.main_arg3) = m ((c.tc : Thread Cert.KernelActIdeal.nD Cert.KernelActIdeal.τ).loc Cert.KernelActIdeal.main_arg3)) →
    ∃ (v0 : (c : Dev Cert.KernelActIdeal.nD) → Buf (Elt Ideal) ((c.tc : Thread Cert.KernelActIdeal.nD Cert.KernelActIdeal.τ).loc Cert.KernelActIdeal.main_v16_1)) (v1 : (c : Dev Cert.KernelActIdeal.nD) → Buf (Elt Ideal) ((c.tc : Thread Cert.KernelActIdeal.nD Cert.KernelActIdeal.τ).loc Cert.KernelActIdeal.main_v16_2)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v16_1) = v0 c
          ∧ r.2.mem ((c.tc : Thread Cert.KernelActIdeal.nD Cert.KernelActIdeal.τ).loc Cert.KernelActIdeal.main_v16_2) = v1 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
          ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v15) = v0 c
          ∧ r.2.mem ((c.tc : Thread Cert.ReferenceActIdeal.nD Cert.ReferenceActIdeal.τ).loc Cert.ReferenceActIdeal.main_v16) = v1 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2)
          ∧ r.2.mem ((c.tc : Thread Cert.ReferenceActIdeal.nD Cert.ReferenceActIdeal.τ).loc Cert.ReferenceActIdeal.main_arg3) = m' ((c.tc : Thread Cert.ReferenceActIdeal.nD Cert.ReferenceActIdeal.τ).loc Cert.ReferenceActIdeal.main_arg3))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)
      ∧ m' ((c.tc : Thread Cert.ReferenceDwIdeal.nD Cert.ReferenceDwIdeal.τ).loc Cert.ReferenceDwIdeal.main_arg2) = m ((c.tc : Thread Cert.KernelDwIdeal.nD Cert.KernelDwIdeal.τ).loc Cert.KernelDwIdeal.main_arg2)
      ∧ m' ((c.tc : Thread Cert.ReferenceDwIdeal.nD Cert.ReferenceDwIdeal.τ).loc Cert.ReferenceDwIdeal.main_arg3) = m ((c.tc : Thread Cert.KernelDwIdeal.nD Cert.KernelDwIdeal.τ).loc Cert.KernelDwIdeal.main_arg3)
      ∧ m' ((c.tc : Thread Cert.ReferenceDwIdeal.nD Cert.ReferenceDwIdeal.τ).loc Cert.ReferenceDwIdeal.main_arg4) = m ((c.tc : Thread Cert.KernelDwIdeal.nD Cert.KernelDwIdeal.τ).loc Cert.KernelDwIdeal.main_arg4)) →
    ∃ (v0 : (c : Dev Cert.KernelDwIdeal.nD) → Buf (Elt Ideal) ((c.tc : Thread Cert.KernelDwIdeal.nD Cert.KernelDwIdeal.τ).loc Cert.KernelDwIdeal.main_v6_0)) (v1 : (c : Dev Cert.KernelDwIdeal.nD) → Buf (Elt Ideal) ((c.tc : Thread Cert.KernelDwIdeal.nD Cert.KernelDwIdeal.τ).loc Cert.KernelDwIdeal.main_v6_1)) (v2 : (c : Dev Cert.KernelDwIdeal.nD) → Buf (Elt Ideal) ((c.tc : Thread Cert.KernelDwIdeal.nD Cert.KernelDwIdeal.τ).loc Cert.KernelDwIdeal.main_v6_2)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v6_0) = v0 c
          ∧ r.2.mem ((c.tc : Thread Cert.KernelDwIdeal.nD Cert.KernelDwIdeal.τ).loc Cert.KernelDwIdeal.main_v6_1) = v1 c
          ∧ r.2.mem ((c.tc : Thread Cert.KernelDwIdeal.nD Cert.KernelDwIdeal.τ).loc Cert.KernelDwIdeal.main_v6_2) = v2 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
          ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
          ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3)
          ∧ r.2.mem ((c.tc : Thread Cert.KernelDwIdeal.nD Cert.KernelDwIdeal.τ).loc Cert.KernelDwIdeal.main_arg4) = m ((c.tc : Thread Cert.KernelDwIdeal.nD Cert.KernelDwIdeal.τ).loc Cert.KernelDwIdeal.main_arg4))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v20) = v0 c
          ∧ r.2.mem ((c.tc : Thread Cert.ReferenceDwIdeal.nD Cert.ReferenceDwIdeal.τ).loc Cert.ReferenceDwIdeal.main_v21) = v1 c
          ∧ r.2.mem ((c.tc : Thread Cert.ReferenceDwIdeal.nD Cert.ReferenceDwIdeal.τ).loc Cert.ReferenceDwIdeal.main_v22) = v2 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1)
          ∧ r.2.mem ((c.tc : Thread Cert.ReferenceDwIdeal.nD Cert.ReferenceDwIdeal.τ).loc Cert.ReferenceDwIdeal.main_arg2) = m' ((c.tc : Thread Cert.ReferenceDwIdeal.nD Cert.ReferenceDwIdeal.τ).loc Cert.ReferenceDwIdeal.main_arg2)
          ∧ r.2.mem ((c.tc : Thread Cert.ReferenceDwIdeal.nD Cert.ReferenceDwIdeal.τ).loc Cert.ReferenceDwIdeal.main_arg3) = m' ((c.tc : Thread Cert.ReferenceDwIdeal.nD Cert.ReferenceDwIdeal.τ).loc Cert.ReferenceDwIdeal.main_arg3)
          ∧ r.2.mem ((c.tc : Thread Cert.ReferenceDwIdeal.nD Cert.ReferenceDwIdeal.τ).loc Cert.ReferenceDwIdeal.main_arg4) = m' ((c.tc : Thread Cert.ReferenceDwIdeal.nD Cert.ReferenceDwIdeal.τ).loc Cert.ReferenceDwIdeal.main_arg4))

def preserves_KernelDx_KernelDxIdeal : Prop :=
  True

def algebraic_KernelDxIdeal_ReferenceDxIdeal_pre_finite_dx [hKernelDxIdeal : Cert.KernelDxIdeal.Facts] [hReferenceDxIdeal : Cert.ReferenceDxIdeal.Facts] [hPre_finite_dx : Cert.Pre_finite_dx.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal_finite_dx m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)
      ∧ m' ((c.tc : Thread Cert.ReferenceDxIdeal.nD Cert.ReferenceDxIdeal.τ).loc Cert.ReferenceDxIdeal.main_arg4) = m ((c.tc : Thread Cert.KernelDxIdeal.nD Cert.KernelDxIdeal.τ).loc Cert.KernelDxIdeal.main_arg4)
      ∧ m' ((c.tc : Thread Cert.ReferenceDxIdeal.nD Cert.ReferenceDxIdeal.τ).loc Cert.ReferenceDxIdeal.main_arg5) = m ((c.tc : Thread Cert.KernelDxIdeal.nD Cert.KernelDxIdeal.τ).loc Cert.KernelDxIdeal.main_arg5)) →
    ∃ (v0 : (c : Dev Cert.KernelDxIdeal.nD) → Buf (Elt Ideal) ((c.tc : Thread Cert.KernelDxIdeal.nD Cert.KernelDxIdeal.τ).loc Cert.KernelDxIdeal.main_v7_0)) (v1 : (c : Dev Cert.KernelDxIdeal.nD) → Buf (Elt Ideal) ((c.tc : Thread Cert.KernelDxIdeal.nD Cert.KernelDxIdeal.τ).loc Cert.KernelDxIdeal.main_v7_1)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v7_0) = v0 c
          ∧ r.2.mem ((c.tc : Thread Cert.KernelDxIdeal.nD Cert.KernelDxIdeal.τ).loc Cert.KernelDxIdeal.main_v7_1) = v1 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
          ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
          ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v50) = v0 c
          ∧ r.2.mem ((c.tc : Thread Cert.ReferenceDxIdeal.nD Cert.ReferenceDxIdeal.τ).loc Cert.ReferenceDxIdeal.main_v51) = v1 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3)
          ∧ r.2.mem ((c.tc : Thread Cert.ReferenceDxIdeal.nD Cert.ReferenceDxIdeal.τ).loc Cert.ReferenceDxIdeal.main_arg4) = m' ((c.tc : Thread Cert.ReferenceDxIdeal.nD Cert.ReferenceDxIdeal.τ).loc Cert.ReferenceDxIdeal.main_arg4)
          ∧ r.2.mem ((c.tc : Thread Cert.ReferenceDxIdeal.nD Cert.ReferenceDxIdeal.τ).loc Cert.ReferenceDxIdeal.main_arg5) = m' ((c.tc : Thread Cert.ReferenceDxIdeal.nD Cert.ReferenceDxIdeal.τ).loc Cert.ReferenceDxIdeal.main_arg5))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)) →
    ∃ (v0 : (c : Dev Cert.KernelFwdIdeal.nD) → Buf (Elt Ideal) ((c.tc : Thread Cert.KernelFwdIdeal.nD Cert.KernelFwdIdeal.τ).loc Cert.KernelFwdIdeal.main_v4_0)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v4_0) = v0 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v29) = v0 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2))

def preserves_KernelMdw_KernelMdwIdeal : Prop :=
  True

def algebraic_KernelMdwIdeal_ReferenceMdwIdeal [hKernelMdwIdeal : Cert.KernelMdwIdeal.Facts] [hReferenceMdwIdeal : Cert.ReferenceMdwIdeal.Facts] : Prop :=
  ∀ (m : (ℓ : Loc Cert.KernelMdwIdeal.nD Cert.KernelMdwIdeal.τ Cert.KernelMdwIdeal.sig) → Buf (Elt Ideal) ℓ) (g : Dev Cert.KernelMdwIdeal.nD → PrngReg)
    (m' : (ℓ : Loc Cert.ReferenceMdwIdeal.nD Cert.ReferenceMdwIdeal.τ Cert.ReferenceMdwIdeal.sig) → Buf (Elt Ideal) ℓ) (g' : Dev Cert.ReferenceMdwIdeal.nD → PrngReg), Pre_KernelMdwIdeal m →
    (∀ c : Dev Cert.KernelMdwIdeal.nD,
      m' ((c.tc : Thread Cert.ReferenceMdwIdeal.nD Cert.ReferenceMdwIdeal.τ).loc Cert.ReferenceMdwIdeal.main_arg0) = m ((c.tc : Thread Cert.KernelMdwIdeal.nD Cert.KernelMdwIdeal.τ).loc Cert.KernelMdwIdeal.main_arg0)
      ∧ m' ((c.tc : Thread Cert.ReferenceMdwIdeal.nD Cert.ReferenceMdwIdeal.τ).loc Cert.ReferenceMdwIdeal.main_arg1) = m ((c.tc : Thread Cert.KernelMdwIdeal.nD Cert.KernelMdwIdeal.τ).loc Cert.KernelMdwIdeal.main_arg1)
      ∧ m' ((c.tc : Thread Cert.ReferenceMdwIdeal.nD Cert.ReferenceMdwIdeal.τ).loc Cert.ReferenceMdwIdeal.main_arg2) = m ((c.tc : Thread Cert.KernelMdwIdeal.nD Cert.KernelMdwIdeal.τ).loc Cert.KernelMdwIdeal.main_arg2)
      ∧ m' ((c.tc : Thread Cert.ReferenceMdwIdeal.nD Cert.ReferenceMdwIdeal.τ).loc Cert.ReferenceMdwIdeal.main_arg3) = m ((c.tc : Thread Cert.KernelMdwIdeal.nD Cert.KernelMdwIdeal.τ).loc Cert.KernelMdwIdeal.main_arg3)
      ∧ m' ((c.tc : Thread Cert.ReferenceMdwIdeal.nD Cert.ReferenceMdwIdeal.τ).loc Cert.ReferenceMdwIdeal.main_arg4) = m ((c.tc : Thread Cert.KernelMdwIdeal.nD Cert.KernelMdwIdeal.τ).loc Cert.KernelMdwIdeal.main_arg4)
      ∧ m' ((c.tc : Thread Cert.ReferenceMdwIdeal.nD Cert.ReferenceMdwIdeal.τ).loc Cert.ReferenceMdwIdeal.main_arg5) = m ((c.tc : Thread Cert.KernelMdwIdeal.nD Cert.KernelMdwIdeal.τ).loc Cert.KernelMdwIdeal.main_arg5)) →
    ∃ (v0 : (c : Dev Cert.KernelMdwIdeal.nD) → Buf (Elt Ideal) ((c.tc : Thread Cert.KernelMdwIdeal.nD Cert.KernelMdwIdeal.τ).loc Cert.KernelMdwIdeal.main_v7_0)) (v1 : (c : Dev Cert.KernelMdwIdeal.nD) → Buf (Elt Ideal) ((c.tc : Thread Cert.KernelMdwIdeal.nD Cert.KernelMdwIdeal.τ).loc Cert.KernelMdwIdeal.main_v7_1)) (v2 : (c : Dev Cert.KernelMdwIdeal.nD) → Buf (Elt Ideal) ((c.tc : Thread Cert.KernelMdwIdeal.nD Cert.KernelMdwIdeal.τ).loc Cert.KernelMdwIdeal.main_v7_2)),
      θ_run (Cert.KernelMdwIdeal.defs (F := Ideal)) (onTc (τ := Cert.KernelMdwIdeal.τ) (Cert.KernelMdwIdeal.main (F := Ideal))) ⟨m, fun _ => 0, g⟩ (fun r => ∀ c : Dev Cert.KernelMdwIdeal.nD,
          r.2.mem ((c.tc : Thread Cert.KernelMdwIdeal.nD Cert.KernelMdwIdeal.τ).loc Cert.KernelMdwIdeal.main_v7_0) = v0 c
          ∧ r.2.mem ((c.tc : Thread Cert.KernelMdwIdeal.nD Cert.KernelMdwIdeal.τ).loc Cert.KernelMdwIdeal.main_v7_1) = v1 c
          ∧ r.2.mem ((c.tc : Thread Cert.KernelMdwIdeal.nD Cert.KernelMdwIdeal.τ).loc Cert.KernelMdwIdeal.main_v7_2) = v2 c
          ∧ r.2.mem ((c.tc : Thread Cert.KernelMdwIdeal.nD Cert.KernelMdwIdeal.τ).loc Cert.KernelMdwIdeal.main_arg0) = m ((c.tc : Thread Cert.KernelMdwIdeal.nD Cert.KernelMdwIdeal.τ).loc Cert.KernelMdwIdeal.main_arg0)
          ∧ r.2.mem ((c.tc : Thread Cert.KernelMdwIdeal.nD Cert.KernelMdwIdeal.τ).loc Cert.KernelMdwIdeal.main_arg1) = m ((c.tc : Thread Cert.KernelMdwIdeal.nD Cert.KernelMdwIdeal.τ).loc Cert.KernelMdwIdeal.main_arg1)
          ∧ r.2.mem ((c.tc : Thread Cert.KernelMdwIdeal.nD Cert.KernelMdwIdeal.τ).loc Cert.KernelMdwIdeal.main_arg2) = m ((c.tc : Thread Cert.KernelMdwIdeal.nD Cert.KernelMdwIdeal.τ).loc Cert.KernelMdwIdeal.main_arg2)
          ∧ r.2.mem ((c.tc : Thread Cert.KernelMdwIdeal.nD Cert.KernelMdwIdeal.τ).loc Cert.KernelMdwIdeal.main_arg3) = m ((c.tc : Thread Cert.KernelMdwIdeal.nD Cert.KernelMdwIdeal.τ).loc Cert.KernelMdwIdeal.main_arg3)
          ∧ r.2.mem ((c.tc : Thread Cert.KernelMdwIdeal.nD Cert.KernelMdwIdeal.τ).loc Cert.KernelMdwIdeal.main_arg4) = m ((c.tc : Thread Cert.KernelMdwIdeal.nD Cert.KernelMdwIdeal.τ).loc Cert.KernelMdwIdeal.main_arg4)
          ∧ r.2.mem ((c.tc : Thread Cert.KernelMdwIdeal.nD Cert.KernelMdwIdeal.τ).loc Cert.KernelMdwIdeal.main_arg5) = m ((c.tc : Thread Cert.KernelMdwIdeal.nD Cert.KernelMdwIdeal.τ).loc Cert.KernelMdwIdeal.main_arg5))
      ∧ θ_run (Cert.ReferenceMdwIdeal.defs (F := Ideal)) (onTc (τ := Cert.ReferenceMdwIdeal.τ) (Cert.ReferenceMdwIdeal.main (F := Ideal))) ⟨m', fun _ => 0, g'⟩ (fun r => ∀ c : Dev Cert.ReferenceMdwIdeal.nD,
          r.2.mem ((c.tc : Thread Cert.ReferenceMdwIdeal.nD Cert.ReferenceMdwIdeal.τ).loc Cert.ReferenceMdwIdeal.main_v17) = v0 c
          ∧ r.2.mem ((c.tc : Thread Cert.ReferenceMdwIdeal.nD Cert.ReferenceMdwIdeal.τ).loc Cert.ReferenceMdwIdeal.main_v18) = v1 c
          ∧ r.2.mem ((c.tc : Thread Cert.ReferenceMdwIdeal.nD Cert.ReferenceMdwIdeal.τ).loc Cert.ReferenceMdwIdeal.main_v19) = v2 c
          ∧ r.2.mem ((c.tc : Thread Cert.ReferenceMdwIdeal.nD Cert.ReferenceMdwIdeal.τ).loc Cert.ReferenceMdwIdeal.main_arg0) = m' ((c.tc : Thread Cert.ReferenceMdwIdeal.nD Cert.ReferenceMdwIdeal.τ).loc Cert.ReferenceMdwIdeal.main_arg0)
          ∧ r.2.mem ((c.tc : Thread Cert.ReferenceMdwIdeal.nD Cert.ReferenceMdwIdeal.τ).loc Cert.ReferenceMdwIdeal.main_arg1) = m' ((c.tc : Thread Cert.ReferenceMdwIdeal.nD Cert.ReferenceMdwIdeal.τ).loc Cert.ReferenceMdwIdeal.main_arg1)
          ∧ r.2.mem ((c.tc : Thread Cert.ReferenceMdwIdeal.nD Cert.ReferenceMdwIdeal.τ).loc Cert.ReferenceMdwIdeal.main_arg2) = m' ((c.tc : Thread Cert.ReferenceMdwIdeal.nD Cert.ReferenceMdwIdeal.τ).loc Cert.ReferenceMdwIdeal.main_arg2)
          ∧ r.2.mem ((c.tc : Thread Cert.ReferenceMdwIdeal.nD Cert.ReferenceMdwIdeal.τ).loc Cert.ReferenceMdwIdeal.main_arg3) = m' ((c.tc : Thread Cert.ReferenceMdwIdeal.nD Cert.ReferenceMdwIdeal.τ).loc Cert.ReferenceMdwIdeal.main_arg3)
          ∧ r.2.mem ((c.tc : Thread Cert.ReferenceMdwIdeal.nD Cert.ReferenceMdwIdeal.τ).loc Cert.ReferenceMdwIdeal.main_arg4) = m' ((c.tc : Thread Cert.ReferenceMdwIdeal.nD Cert.ReferenceMdwIdeal.τ).loc Cert.ReferenceMdwIdeal.main_arg4)
          ∧ r.2.mem ((c.tc : Thread Cert.ReferenceMdwIdeal.nD Cert.ReferenceMdwIdeal.τ).loc Cert.ReferenceMdwIdeal.main_arg5) = m' ((c.tc : Thread Cert.ReferenceMdwIdeal.nD Cert.ReferenceMdwIdeal.τ).loc Cert.ReferenceMdwIdeal.main_arg5))

def preserves_KernelWin_KernelWinIdeal : Prop :=
  True

def algebraic_KernelWinIdeal_ReferenceWinIdeal [hKernelWinIdeal : Cert.KernelWinIdeal.Facts] [hReferenceWinIdeal : Cert.ReferenceWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg)
    (m' : (ℓ : Loc Cert.ReferenceWinIdeal.nD Cert.ReferenceWinIdeal.τ Cert.ReferenceWinIdeal.sig) → Buf (Elt Ideal) ℓ) (g' : Dev Cert.ReferenceWinIdeal.nD → PrngReg), Pre_KernelWinIdeal m →
    (∀ c : Dev Cert.KernelWinIdeal.nD,
      m' ((c.tc : Thread Cert.ReferenceWinIdeal.nD Cert.ReferenceWinIdeal.τ).loc Cert.ReferenceWinIdeal.main_arg0) = m ((c.tc : Thread Cert.KernelWinIdeal.nD Cert.KernelWinIdeal.τ).loc Cert.KernelWinIdeal.main_arg0)
      ∧ m' ((c.tc : Thread Cert.ReferenceWinIdeal.nD Cert.ReferenceWinIdeal.τ).loc Cert.ReferenceWinIdeal.main_arg1) = m ((c.tc : Thread Cert.KernelWinIdeal.nD Cert.KernelWinIdeal.τ).loc Cert.KernelWinIdeal.main_arg1)) →
    ∃ (v0 : (c : Dev Cert.KernelWinIdeal.nD) → Buf (Elt Ideal) ((c.tc : Thread Cert.KernelWinIdeal.nD Cert.KernelWinIdeal.τ).loc Cert.KernelWinIdeal.main_v2)),
      θ_run (Cert.KernelWinIdeal.defs (F := Ideal)) (onTc (τ := Cert.KernelWinIdeal.τ) (Cert.KernelWinIdeal.main (F := Ideal))) ⟨m, fun _ => 0, g⟩ (fun r => ∀ c : Dev Cert.KernelWinIdeal.nD,
          r.2.mem ((c.tc : Thread Cert.KernelWinIdeal.nD Cert.KernelWinIdeal.τ).loc Cert.KernelWinIdeal.main_v2) = v0 c
          ∧ r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
          ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ θ_run (Cert.ReferenceWinIdeal.defs (F := Ideal)) (onTc (τ := Cert.ReferenceWinIdeal.τ) (Cert.ReferenceWinIdeal.main (F := Ideal))) ⟨m', fun _ => 0, g'⟩ (fun r => ∀ c : Dev Cert.ReferenceWinIdeal.nD,
          r.2.mem ((c.tc : Thread Cert.ReferenceWinIdeal.nD Cert.ReferenceWinIdeal.τ).loc Cert.ReferenceWinIdeal.main_v6) = v0 c
          ∧ r.2.mem ((c.tc : Thread Cert.ReferenceWinIdeal.nD Cert.ReferenceWinIdeal.τ).loc Cert.ReferenceWinIdeal.main_arg0) = m' ((c.tc : Thread Cert.ReferenceWinIdeal.nD Cert.ReferenceWinIdeal.τ).loc Cert.ReferenceWinIdeal.main_arg0)
          ∧ r.2.mem ((c.tc : Thread Cert.ReferenceWinIdeal.nD Cert.ReferenceWinIdeal.τ).loc Cert.ReferenceWinIdeal.main_arg1) = m' ((c.tc : Thread Cert.ReferenceWinIdeal.nD Cert.ReferenceWinIdeal.τ).loc Cert.ReferenceWinIdeal.main_arg1))

def preserves_KernelMx_KernelMxIdeal : Prop :=
  True

def algebraic_KernelMxIdeal_ReferenceMxIdeal_pre_finite_mx [hKernelMxIdeal : Cert.KernelMxIdeal.Facts] [hReferenceMxIdeal : Cert.ReferenceMxIdeal.Facts] [hPre_finite_mx : Cert.Pre_finite_mx.Facts] : Prop :=
  ∀ (m : (ℓ : Loc Cert.KernelMxIdeal.nD Cert.KernelMxIdeal.τ Cert.KernelMxIdeal.sig) → Buf (Elt Ideal) ℓ) (g : Dev Cert.KernelMxIdeal.nD → PrngReg)
    (m' : (ℓ : Loc Cert.ReferenceMxIdeal.nD Cert.ReferenceMxIdeal.τ Cert.ReferenceMxIdeal.sig) → Buf (Elt Ideal) ℓ) (g' : Dev Cert.ReferenceMxIdeal.nD → PrngReg), Pre_KernelMxIdeal_finite_mx m →
    (∀ c : Dev Cert.KernelMxIdeal.nD,
      m' ((c.tc : Thread Cert.ReferenceMxIdeal.nD Cert.ReferenceMxIdeal.τ).loc Cert.ReferenceMxIdeal.main_arg0) = m ((c.tc : Thread Cert.KernelMxIdeal.nD Cert.KernelMxIdeal.τ).loc Cert.KernelMxIdeal.main_arg0)
      ∧ m' ((c.tc : Thread Cert.ReferenceMxIdeal.nD Cert.ReferenceMxIdeal.τ).loc Cert.ReferenceMxIdeal.main_arg1) = m ((c.tc : Thread Cert.KernelMxIdeal.nD Cert.KernelMxIdeal.τ).loc Cert.KernelMxIdeal.main_arg1)
      ∧ m' ((c.tc : Thread Cert.ReferenceMxIdeal.nD Cert.ReferenceMxIdeal.τ).loc Cert.ReferenceMxIdeal.main_arg2) = m ((c.tc : Thread Cert.KernelMxIdeal.nD Cert.KernelMxIdeal.τ).loc Cert.KernelMxIdeal.main_arg2)
      ∧ m' ((c.tc : Thread Cert.ReferenceMxIdeal.nD Cert.ReferenceMxIdeal.τ).loc Cert.ReferenceMxIdeal.main_arg3) = m ((c.tc : Thread Cert.KernelMxIdeal.nD Cert.KernelMxIdeal.τ).loc Cert.KernelMxIdeal.main_arg3)
      ∧ m' ((c.tc : Thread Cert.ReferenceMxIdeal.nD Cert.ReferenceMxIdeal.τ).loc Cert.ReferenceMxIdeal.main_arg4) = m ((c.tc : Thread Cert.KernelMxIdeal.nD Cert.KernelMxIdeal.τ).loc Cert.KernelMxIdeal.main_arg4)) →
    ∃ (v0 : (c : Dev Cert.KernelMxIdeal.nD) → Buf (Elt Ideal) ((c.tc : Thread Cert.KernelMxIdeal.nD Cert.KernelMxIdeal.τ).loc Cert.KernelMxIdeal.main_v6_0)) (v1 : (c : Dev Cert.KernelMxIdeal.nD) → Buf (Elt Ideal) ((c.tc : Thread Cert.KernelMxIdeal.nD Cert.KernelMxIdeal.τ).loc Cert.KernelMxIdeal.main_v6_1)),
      θ_run (Cert.KernelMxIdeal.defs (F := Ideal)) (onTc (τ := Cert.KernelMxIdeal.τ) (Cert.KernelMxIdeal.main (F := Ideal))) ⟨m, fun _ => 0, g⟩ (fun r => ∀ c : Dev Cert.KernelMxIdeal.nD,
          r.2.mem ((c.tc : Thread Cert.KernelMxIdeal.nD Cert.KernelMxIdeal.τ).loc Cert.KernelMxIdeal.main_v6_0) = v0 c
          ∧ r.2.mem ((c.tc : Thread Cert.KernelMxIdeal.nD Cert.KernelMxIdeal.τ).loc Cert.KernelMxIdeal.main_v6_1) = v1 c
          ∧ r.2.mem ((c.tc : Thread Cert.KernelMxIdeal.nD Cert.KernelMxIdeal.τ).loc Cert.KernelMxIdeal.main_arg0) = m ((c.tc : Thread Cert.KernelMxIdeal.nD Cert.KernelMxIdeal.τ).loc Cert.KernelMxIdeal.main_arg0)
          ∧ r.2.mem ((c.tc : Thread Cert.KernelMxIdeal.nD Cert.KernelMxIdeal.τ).loc Cert.KernelMxIdeal.main_arg1) = m ((c.tc : Thread Cert.KernelMxIdeal.nD Cert.KernelMxIdeal.τ).loc Cert.KernelMxIdeal.main_arg1)
          ∧ r.2.mem ((c.tc : Thread Cert.KernelMxIdeal.nD Cert.KernelMxIdeal.τ).loc Cert.KernelMxIdeal.main_arg2) = m ((c.tc : Thread Cert.KernelMxIdeal.nD Cert.KernelMxIdeal.τ).loc Cert.KernelMxIdeal.main_arg2)
          ∧ r.2.mem ((c.tc : Thread Cert.KernelMxIdeal.nD Cert.KernelMxIdeal.τ).loc Cert.KernelMxIdeal.main_arg3) = m ((c.tc : Thread Cert.KernelMxIdeal.nD Cert.KernelMxIdeal.τ).loc Cert.KernelMxIdeal.main_arg3)
          ∧ r.2.mem ((c.tc : Thread Cert.KernelMxIdeal.nD Cert.KernelMxIdeal.τ).loc Cert.KernelMxIdeal.main_arg4) = m ((c.tc : Thread Cert.KernelMxIdeal.nD Cert.KernelMxIdeal.τ).loc Cert.KernelMxIdeal.main_arg4))
      ∧ θ_run (Cert.ReferenceMxIdeal.defs (F := Ideal)) (onTc (τ := Cert.ReferenceMxIdeal.τ) (Cert.ReferenceMxIdeal.main (F := Ideal))) ⟨m', fun _ => 0, g'⟩ (fun r => ∀ c : Dev Cert.ReferenceMxIdeal.nD,
          r.2.mem ((c.tc : Thread Cert.ReferenceMxIdeal.nD Cert.ReferenceMxIdeal.τ).loc Cert.ReferenceMxIdeal.main_v43) = v0 c
          ∧ r.2.mem ((c.tc : Thread Cert.ReferenceMxIdeal.nD Cert.ReferenceMxIdeal.τ).loc Cert.ReferenceMxIdeal.main_v44) = v1 c
          ∧ r.2.mem ((c.tc : Thread Cert.ReferenceMxIdeal.nD Cert.ReferenceMxIdeal.τ).loc Cert.ReferenceMxIdeal.main_arg0) = m' ((c.tc : Thread Cert.ReferenceMxIdeal.nD Cert.ReferenceMxIdeal.τ).loc Cert.ReferenceMxIdeal.main_arg0)
          ∧ r.2.mem ((c.tc : Thread Cert.ReferenceMxIdeal.nD Cert.ReferenceMxIdeal.τ).loc Cert.ReferenceMxIdeal.main_arg1) = m' ((c.tc : Thread Cert.ReferenceMxIdeal.nD Cert.ReferenceMxIdeal.τ).loc Cert.ReferenceMxIdeal.main_arg1)
          ∧ r.2.mem ((c.tc : Thread Cert.ReferenceMxIdeal.nD Cert.ReferenceMxIdeal.τ).loc Cert.ReferenceMxIdeal.main_arg2) = m' ((c.tc : Thread Cert.ReferenceMxIdeal.nD Cert.ReferenceMxIdeal.τ).loc Cert.ReferenceMxIdeal.main_arg2)
          ∧ r.2.mem ((c.tc : Thread Cert.ReferenceMxIdeal.nD Cert.ReferenceMxIdeal.τ).loc Cert.ReferenceMxIdeal.main_arg3) = m' ((c.tc : Thread Cert.ReferenceMxIdeal.nD Cert.ReferenceMxIdeal.τ).loc Cert.ReferenceMxIdeal.main_arg3)
          ∧ r.2.mem ((c.tc : Thread Cert.ReferenceMxIdeal.nD Cert.ReferenceMxIdeal.τ).loc Cert.ReferenceMxIdeal.main_arg4) = m' ((c.tc : Thread Cert.ReferenceMxIdeal.nD Cert.ReferenceMxIdeal.τ).loc Cert.ReferenceMxIdeal.main_arg4))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)
      ∧ m' ((c.tc : Thread Cert.ReferenceGateIdeal.nD Cert.ReferenceGateIdeal.τ).loc Cert.ReferenceGateIdeal.main_arg4) = m ((c.tc : Thread Cert.KernelGateIdeal.nD Cert.KernelGateIdeal.τ).loc Cert.KernelGateIdeal.main_arg4)
      ∧ m' ((c.tc : Thread Cert.ReferenceGateIdeal.nD Cert.ReferenceGateIdeal.τ).loc Cert.ReferenceGateIdeal.main_arg5) = m ((c.tc : Thread Cert.KernelGateIdeal.nD Cert.KernelGateIdeal.τ).loc Cert.KernelGateIdeal.main_arg5)
      ∧ m' ((c.tc : Thread Cert.ReferenceGateIdeal.nD Cert.ReferenceGateIdeal.τ).loc Cert.ReferenceGateIdeal.main_arg6) = m ((c.tc : Thread Cert.KernelGateIdeal.nD Cert.KernelGateIdeal.τ).loc Cert.KernelGateIdeal.main_arg6)) →
    ∃ (v0 : (c : Dev Cert.KernelGateIdeal.nD) → Buf (Elt Ideal) ((c.tc : Thread Cert.KernelGateIdeal.nD Cert.KernelGateIdeal.τ).loc Cert.KernelGateIdeal.main_v36_1)) (v1 : (c : Dev Cert.KernelGateIdeal.nD) → Buf (Elt Ideal) ((c.tc : Thread Cert.KernelGateIdeal.nD Cert.KernelGateIdeal.τ).loc Cert.KernelGateIdeal.main_v36_2)) (v2 : (c : Dev Cert.KernelGateIdeal.nD) → Buf (Elt Ideal) ((c.tc : Thread Cert.KernelGateIdeal.nD Cert.KernelGateIdeal.τ).loc Cert.KernelGateIdeal.main_v36_3)) (v3 : (c : Dev Cert.KernelGateIdeal.nD) → Buf (Elt Ideal) ((c.tc : Thread Cert.KernelGateIdeal.nD Cert.KernelGateIdeal.τ).loc Cert.KernelGateIdeal.main_v36_4)) (v4 : (c : Dev Cert.KernelGateIdeal.nD) → Buf (Elt Ideal) ((c.tc : Thread Cert.KernelGateIdeal.nD Cert.KernelGateIdeal.τ).loc Cert.KernelGateIdeal.main_v36_5)) (v5 : (c : Dev Cert.KernelGateIdeal.nD) → Buf (Elt Ideal) ((c.tc : Thread Cert.KernelGateIdeal.nD Cert.KernelGateIdeal.τ).loc Cert.KernelGateIdeal.main_v36_6)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v36_1) = v0 c
          ∧ r.2.mem ((c.tc : Thread Cert.KernelGateIdeal.nD Cert.KernelGateIdeal.τ).loc Cert.KernelGateIdeal.main_v36_2) = v1 c
          ∧ r.2.mem ((c.tc : Thread Cert.KernelGateIdeal.nD Cert.KernelGateIdeal.τ).loc Cert.KernelGateIdeal.main_v36_3) = v2 c
          ∧ r.2.mem ((c.tc : Thread Cert.KernelGateIdeal.nD Cert.KernelGateIdeal.τ).loc Cert.KernelGateIdeal.main_v36_4) = v3 c
          ∧ r.2.mem ((c.tc : Thread Cert.KernelGateIdeal.nD Cert.KernelGateIdeal.τ).loc Cert.KernelGateIdeal.main_v36_5) = v4 c
          ∧ r.2.mem ((c.tc : Thread Cert.KernelGateIdeal.nD Cert.KernelGateIdeal.τ).loc Cert.KernelGateIdeal.main_v36_6) = v5 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
          ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
          ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5)
          ∧ r.2.mem ((c.tc : Thread Cert.KernelGateIdeal.nD Cert.KernelGateIdeal.τ).loc Cert.KernelGateIdeal.main_arg6) = m ((c.tc : Thread Cert.KernelGateIdeal.nD Cert.KernelGateIdeal.τ).loc Cert.KernelGateIdeal.main_arg6))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v43) = v0 c
          ∧ r.2.mem ((c.tc : Thread Cert.ReferenceGateIdeal.nD Cert.ReferenceGateIdeal.τ).loc Cert.ReferenceGateIdeal.main_v44) = v1 c
          ∧ r.2.mem ((c.tc : Thread Cert.ReferenceGateIdeal.nD Cert.ReferenceGateIdeal.τ).loc Cert.ReferenceGateIdeal.main_v45) = v2 c
          ∧ r.2.mem ((c.tc : Thread Cert.ReferenceGateIdeal.nD Cert.ReferenceGateIdeal.τ).loc Cert.ReferenceGateIdeal.main_v46) = v3 c
          ∧ r.2.mem ((c.tc : Thread Cert.ReferenceGateIdeal.nD Cert.ReferenceGateIdeal.τ).loc Cert.ReferenceGateIdeal.main_v47) = v4 c
          ∧ r.2.mem ((c.tc : Thread Cert.ReferenceGateIdeal.nD Cert.ReferenceGateIdeal.τ).loc Cert.ReferenceGateIdeal.main_v48) = v5 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3)
          ∧ r.2.mem ((c.tc : Thread Cert.ReferenceGateIdeal.nD Cert.ReferenceGateIdeal.τ).loc Cert.ReferenceGateIdeal.main_arg4) = m' ((c.tc : Thread Cert.ReferenceGateIdeal.nD Cert.ReferenceGateIdeal.τ).loc Cert.ReferenceGateIdeal.main_arg4)
          ∧ r.2.mem ((c.tc : Thread Cert.ReferenceGateIdeal.nD Cert.ReferenceGateIdeal.τ).loc Cert.ReferenceGateIdeal.main_arg5) = m' ((c.tc : Thread Cert.ReferenceGateIdeal.nD Cert.ReferenceGateIdeal.τ).loc Cert.ReferenceGateIdeal.main_arg5)
          ∧ r.2.mem ((c.tc : Thread Cert.ReferenceGateIdeal.nD Cert.ReferenceGateIdeal.τ).loc Cert.ReferenceGateIdeal.main_arg6) = m' ((c.tc : Thread Cert.ReferenceGateIdeal.nD Cert.ReferenceGateIdeal.τ).loc Cert.ReferenceGateIdeal.main_arg6))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)) →
    ∃ (v0 : (c : Dev Cert.KernelMergeIdeal.nD) → Buf (Elt Ideal) ((c.tc : Thread Cert.KernelMergeIdeal.nD Cert.KernelMergeIdeal.τ).loc Cert.KernelMergeIdeal.main_v15_0)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v15_0) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v26) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v4_3)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v4_3) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v24) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v4)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v4) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v7) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)) →
    ∃ (v0 : (c : Dev Cert.KernelLossIdeal.nD) → Buf (Elt Ideal) ((c.tc : Thread Cert.KernelLossIdeal.nD Cert.KernelLossIdeal.τ).loc Cert.KernelLossIdeal.main_v5_0)) (v1 : (c : Dev Cert.KernelLossIdeal.nD) → Buf (Elt Ideal) ((c.tc : Thread Cert.KernelLossIdeal.nD Cert.KernelLossIdeal.τ).loc Cert.KernelLossIdeal.main_v5_1)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v5_0) = v0 c
          ∧ r.2.mem ((c.tc : Thread Cert.KernelLossIdeal.nD Cert.KernelLossIdeal.τ).loc Cert.KernelLossIdeal.main_v5_1) = v1 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v47) = v0 c
          ∧ r.2.mem ((c.tc : Thread Cert.ReferenceLossIdeal.nD Cert.ReferenceLossIdeal.τ).loc Cert.ReferenceLossIdeal.main_v49) = v1 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)
      ∧ m' ((c.tc : Thread Cert.ReferenceInIdeal.nD Cert.ReferenceInIdeal.τ).loc Cert.ReferenceInIdeal.main_arg7) = m ((c.tc : Thread Cert.KernelInIdeal.nD Cert.KernelInIdeal.τ).loc Cert.KernelInIdeal.main_arg7)) →
    ∃ (v0 : (c : Dev Cert.KernelInIdeal.nD) → Buf (Elt Ideal) ((c.tc : Thread Cert.KernelInIdeal.nD Cert.KernelInIdeal.τ).loc Cert.KernelInIdeal.main_v29_0)) (v1 : (c : Dev Cert.KernelInIdeal.nD) → Buf (Elt Ideal) ((c.tc : Thread Cert.KernelInIdeal.nD Cert.KernelInIdeal.τ).loc Cert.KernelInIdeal.main_v29_1)) (v2 : (c : Dev Cert.KernelInIdeal.nD) → Buf (Elt Ideal) ((c.tc : Thread Cert.KernelInIdeal.nD Cert.KernelInIdeal.τ).loc Cert.KernelInIdeal.main_v29_6)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v29_0) = v0 c
          ∧ r.2.mem ((c.tc : Thread Cert.KernelInIdeal.nD Cert.KernelInIdeal.τ).loc Cert.KernelInIdeal.main_v29_1) = v1 c
          ∧ r.2.mem ((c.tc : Thread Cert.KernelInIdeal.nD Cert.KernelInIdeal.τ).loc Cert.KernelInIdeal.main_v29_6) = v2 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
          ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v17) = v0 c
          ∧ r.2.mem ((c.tc : Thread Cert.ReferenceInIdeal.nD Cert.ReferenceInIdeal.τ).loc Cert.ReferenceInIdeal.main_v19) = v1 c
          ∧ r.2.mem ((c.tc : Thread Cert.ReferenceInIdeal.nD Cert.ReferenceInIdeal.τ).loc Cert.ReferenceInIdeal.main_v30) = v2 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6)
          ∧ r.2.mem ((c.tc : Thread Cert.ReferenceInIdeal.nD Cert.ReferenceInIdeal.τ).loc Cert.ReferenceInIdeal.main_arg7) = m' ((c.tc : Thread Cert.ReferenceInIdeal.nD Cert.ReferenceInIdeal.τ).loc Cert.ReferenceInIdeal.main_arg7))

def preserves_KernelSmallA_KernelSmallAIdeal : Prop :=
  True

def algebraic_KernelSmallAIdeal_ReferenceSmallAIdeal [hKernelSmallAIdeal : Cert.KernelSmallAIdeal.Facts] [hReferenceSmallAIdeal : Cert.ReferenceSmallAIdeal.Facts] : Prop :=
  ∀ (m : (ℓ : Loc Cert.KernelSmallAIdeal.nD Cert.KernelSmallAIdeal.τ Cert.KernelSmallAIdeal.sig) → Buf (Elt Ideal) ℓ) (g : Dev Cert.KernelSmallAIdeal.nD → PrngReg)
    (m' : (ℓ : Loc Cert.ReferenceSmallAIdeal.nD Cert.ReferenceSmallAIdeal.τ Cert.ReferenceSmallAIdeal.sig) → Buf (Elt Ideal) ℓ) (g' : Dev Cert.ReferenceSmallAIdeal.nD → PrngReg), Pre_KernelSmallAIdeal m →
    (∀ c : Dev Cert.KernelSmallAIdeal.nD,
      m' ((c.tc : Thread Cert.ReferenceSmallAIdeal.nD Cert.ReferenceSmallAIdeal.τ).loc Cert.ReferenceSmallAIdeal.main_arg0) = m ((c.tc : Thread Cert.KernelSmallAIdeal.nD Cert.KernelSmallAIdeal.τ).loc Cert.KernelSmallAIdeal.main_arg0)
      ∧ m' ((c.tc : Thread Cert.ReferenceSmallAIdeal.nD Cert.ReferenceSmallAIdeal.τ).loc Cert.ReferenceSmallAIdeal.main_arg1) = m ((c.tc : Thread Cert.KernelSmallAIdeal.nD Cert.KernelSmallAIdeal.τ).loc Cert.KernelSmallAIdeal.main_arg1)
      ∧ m' ((c.tc : Thread Cert.ReferenceSmallAIdeal.nD Cert.ReferenceSmallAIdeal.τ).loc Cert.ReferenceSmallAIdeal.main_arg2) = m ((c.tc : Thread Cert.KernelSmallAIdeal.nD Cert.KernelSmallAIdeal.τ).loc Cert.KernelSmallAIdeal.main_arg2)
      ∧ m' ((c.tc : Thread Cert.ReferenceSmallAIdeal.nD Cert.ReferenceSmallAIdeal.τ).loc Cert.ReferenceSmallAIdeal.main_arg3) = m ((c.tc : Thread Cert.KernelSmallAIdeal.nD Cert.KernelSmallAIdeal.τ).loc Cert.KernelSmallAIdeal.main_arg3)
      ∧ m' ((c.tc : Thread Cert.ReferenceSmallAIdeal.nD Cert.ReferenceSmallAIdeal.τ).loc Cert.ReferenceSmallAIdeal.main_arg4) = m ((c.tc : Thread Cert.KernelSmallAIdeal.nD Cert.KernelSmallAIdeal.τ).loc Cert.KernelSmallAIdeal.main_arg4)
      ∧ m' ((c.tc : Thread Cert.ReferenceSmallAIdeal.nD Cert.ReferenceSmallAIdeal.τ).loc Cert.ReferenceSmallAIdeal.main_arg5) = m ((c.tc : Thread Cert.KernelSmallAIdeal.nD Cert.KernelSmallAIdeal.τ).loc Cert.KernelSmallAIdeal.main_arg5)
      ∧ m' ((c.tc : Thread Cert.ReferenceSmallAIdeal.nD Cert.ReferenceSmallAIdeal.τ).loc Cert.ReferenceSmallAIdeal.main_arg6) = m ((c.tc : Thread Cert.KernelSmallAIdeal.nD Cert.KernelSmallAIdeal.τ).loc Cert.KernelSmallAIdeal.main_arg6)
      ∧ m' ((c.tc : Thread Cert.ReferenceSmallAIdeal.nD Cert.ReferenceSmallAIdeal.τ).loc Cert.ReferenceSmallAIdeal.main_arg7) = m ((c.tc : Thread Cert.KernelSmallAIdeal.nD Cert.KernelSmallAIdeal.τ).loc Cert.KernelSmallAIdeal.main_arg7)
      ∧ m' ((c.tc : Thread Cert.ReferenceSmallAIdeal.nD Cert.ReferenceSmallAIdeal.τ).loc Cert.ReferenceSmallAIdeal.main_arg8) = m ((c.tc : Thread Cert.KernelSmallAIdeal.nD Cert.KernelSmallAIdeal.τ).loc Cert.KernelSmallAIdeal.main_arg8)
      ∧ m' ((c.tc : Thread Cert.ReferenceSmallAIdeal.nD Cert.ReferenceSmallAIdeal.τ).loc Cert.ReferenceSmallAIdeal.main_arg9) = m ((c.tc : Thread Cert.KernelSmallAIdeal.nD Cert.KernelSmallAIdeal.τ).loc Cert.KernelSmallAIdeal.main_arg9)
      ∧ m' ((c.tc : Thread Cert.ReferenceSmallAIdeal.nD Cert.ReferenceSmallAIdeal.τ).loc Cert.ReferenceSmallAIdeal.main_arg10) = m ((c.tc : Thread Cert.KernelSmallAIdeal.nD Cert.KernelSmallAIdeal.τ).loc Cert.KernelSmallAIdeal.main_arg10)
      ∧ m' ((c.tc : Thread Cert.ReferenceSmallAIdeal.nD Cert.ReferenceSmallAIdeal.τ).loc Cert.ReferenceSmallAIdeal.main_arg11) = m ((c.tc : Thread Cert.KernelSmallAIdeal.nD Cert.KernelSmallAIdeal.τ).loc Cert.KernelSmallAIdeal.main_arg11)) →
    ∃ (v0 : (c : Dev Cert.KernelSmallAIdeal.nD) → Buf (Elt Ideal) ((c.tc : Thread Cert.KernelSmallAIdeal.nD Cert.KernelSmallAIdeal.τ).loc Cert.KernelSmallAIdeal.main_v0_0)) (v1 : (c : Dev Cert.KernelSmallAIdeal.nD) → Buf (Elt Ideal) ((c.tc : Thread Cert.KernelSmallAIdeal.nD Cert.KernelSmallAIdeal.τ).loc Cert.KernelSmallAIdeal.main_v0_1)) (v2 : (c : Dev Cert.KernelSmallAIdeal.nD) → Buf (Elt Ideal) ((c.tc : Thread Cert.KernelSmallAIdeal.nD Cert.KernelSmallAIdeal.τ).loc Cert.KernelSmallAIdeal.main_v0_2)) (v3 : (c : Dev Cert.KernelSmallAIdeal.nD) → Buf (Elt Ideal) ((c.tc : Thread Cert.KernelSmallAIdeal.nD Cert.KernelSmallAIdeal.τ).loc Cert.KernelSmallAIdeal.main_v0_3)) (v4 : (c : Dev Cert.KernelSmallAIdeal.nD) → Buf (Elt Ideal) ((c.tc : Thread Cert.KernelSmallAIdeal.nD Cert.KernelSmallAIdeal.τ).loc Cert.KernelSmallAIdeal.main_v0_4)) (v5 : (c : Dev Cert.KernelSmallAIdeal.nD) → Buf (Elt Ideal) ((c.tc : Thread Cert.KernelSmallAIdeal.nD Cert.KernelSmallAIdeal.τ).loc Cert.KernelSmallAIdeal.main_v0_5)) (v6 : (c : Dev Cert.KernelSmallAIdeal.nD) → Buf (Elt Ideal) ((c.tc : Thread Cert.KernelSmallAIdeal.nD Cert.KernelSmallAIdeal.τ).loc Cert.KernelSmallAIdeal.main_v0_6)) (v7 : (c : Dev Cert.KernelSmallAIdeal.nD) → Buf (Elt Ideal) ((c.tc : Thread Cert.KernelSmallAIdeal.nD Cert.KernelSmallAIdeal.τ).loc Cert.KernelSmallAIdeal.main_v0_7)) (v8 : (c : Dev Cert.KernelSmallAIdeal.nD) → Buf (Elt Ideal) ((c.tc : Thread Cert.KernelSmallAIdeal.nD Cert.KernelSmallAIdeal.τ).loc Cert.KernelSmallAIdeal.main_v0_8)) (v9 : (c : Dev Cert.KernelSmallAIdeal.nD) → Buf (Elt Ideal) ((c.tc : Thread Cert.KernelSmallAIdeal.nD Cert.KernelSmallAIdeal.τ).loc Cert.KernelSmallAIdeal.main_v0_9)) (v10 : (c : Dev Cert.KernelSmallAIdeal.nD) → Buf (Elt Ideal) ((c.tc : Thread Cert.KernelSmallAIdeal.nD Cert.KernelSmallAIdeal.τ).loc Cert.KernelSmallAIdeal.main_v0_10)) (v11 : (c : Dev Cert.KernelSmallAIdeal.nD) → Buf (Elt Ideal) ((c.tc : Thread Cert.KernelSmallAIdeal.nD Cert.KernelSmallAIdeal.τ).loc Cert.KernelSmallAIdeal.main_v0_11)),
      θ_run (Cert.KernelSmallAIdeal.defs (F := Ideal)) (onTc (τ := Cert.KernelSmallAIdeal.τ) (Cert.KernelSmallAIdeal.main (F := Ideal))) ⟨m, fun _ => 0, g⟩ (fun r => ∀ c : Dev Cert.KernelSmallAIdeal.nD,
          r.2.mem ((c.tc : Thread Cert.KernelSmallAIdeal.nD Cert.KernelSmallAIdeal.τ).loc Cert.KernelSmallAIdeal.main_v0_0) = v0 c
          ∧ r.2.mem ((c.tc : Thread Cert.KernelSmallAIdeal.nD Cert.KernelSmallAIdeal.τ).loc Cert.KernelSmallAIdeal.main_v0_1) = v1 c
          ∧ r.2.mem ((c.tc : Thread Cert.KernelSmallAIdeal.nD Cert.KernelSmallAIdeal.τ).loc Cert.KernelSmallAIdeal.main_v0_2) = v2 c
          ∧ r.2.mem ((c.tc : Thread Cert.KernelSmallAIdeal.nD Cert.KernelSmallAIdeal.τ).loc Cert.KernelSmallAIdeal.main_v0_3) = v3 c
          ∧ r.2.mem ((c.tc : Thread Cert.KernelSmallAIdeal.nD Cert.KernelSmallAIdeal.τ).loc Cert.KernelSmallAIdeal.main_v0_4) = v4 c
          ∧ r.2.mem ((c.tc : Thread Cert.KernelSmallAIdeal.nD Cert.KernelSmallAIdeal.τ).loc Cert.KernelSmallAIdeal.main_v0_5) = v5 c
          ∧ r.2.mem ((c.tc : Thread Cert.KernelSmallAIdeal.nD Cert.KernelSmallAIdeal.τ).loc Cert.KernelSmallAIdeal.main_v0_6) = v6 c
          ∧ r.2.mem ((c.tc : Thread Cert.KernelSmallAIdeal.nD Cert.KernelSmallAIdeal.τ).loc Cert.KernelSmallAIdeal.main_v0_7) = v7 c
          ∧ r.2.mem ((c.tc : Thread Cert.KernelSmallAIdeal.nD Cert.KernelSmallAIdeal.τ).loc Cert.KernelSmallAIdeal.main_v0_8) = v8 c
          ∧ r.2.mem ((c.tc : Thread Cert.KernelSmallAIdeal.nD Cert.KernelSmallAIdeal.τ).loc Cert.KernelSmallAIdeal.main_v0_9) = v9 c
          ∧ r.2.mem ((c.tc : Thread Cert.KernelSmallAIdeal.nD Cert.KernelSmallAIdeal.τ).loc Cert.KernelSmallAIdeal.main_v0_10) = v10 c
          ∧ r.2.mem ((c.tc : Thread Cert.KernelSmallAIdeal.nD Cert.KernelSmallAIdeal.τ).loc Cert.KernelSmallAIdeal.main_v0_11) = v11 c
          ∧ r.2.mem ((c.tc : Thread Cert.KernelSmallAIdeal.nD Cert.KernelSmallAIdeal.τ).loc Cert.KernelSmallAIdeal.main_arg0) = m ((c.tc : Thread Cert.KernelSmallAIdeal.nD Cert.KernelSmallAIdeal.τ).loc Cert.KernelSmallAIdeal.main_arg0)
          ∧ r.2.mem ((c.tc : Thread Cert.KernelSmallAIdeal.nD Cert.KernelSmallAIdeal.τ).loc Cert.KernelSmallAIdeal.main_arg1) = m ((c.tc : Thread Cert.KernelSmallAIdeal.nD Cert.KernelSmallAIdeal.τ).loc Cert.KernelSmallAIdeal.main_arg1)
          ∧ r.2.mem ((c.tc : Thread Cert.KernelSmallAIdeal.nD Cert.KernelSmallAIdeal.τ).loc Cert.KernelSmallAIdeal.main_arg2) = m ((c.tc : Thread Cert.KernelSmallAIdeal.nD Cert.KernelSmallAIdeal.τ).loc Cert.KernelSmallAIdeal.main_arg2)
          ∧ r.2.mem ((c.tc : Thread Cert.KernelSmallAIdeal.nD Cert.KernelSmallAIdeal.τ).loc Cert.KernelSmallAIdeal.main_arg3) = m ((c.tc : Thread Cert.KernelSmallAIdeal.nD Cert.KernelSmallAIdeal.τ).loc Cert.KernelSmallAIdeal.main_arg3)
          ∧ r.2.mem ((c.tc : Thread Cert.KernelSmallAIdeal.nD Cert.KernelSmallAIdeal.τ).loc Cert.KernelSmallAIdeal.main_arg4) = m ((c.tc : Thread Cert.KernelSmallAIdeal.nD Cert.KernelSmallAIdeal.τ).loc Cert.KernelSmallAIdeal.main_arg4)
          ∧ r.2.mem ((c.tc : Thread Cert.KernelSmallAIdeal.nD Cert.KernelSmallAIdeal.τ).loc Cert.KernelSmallAIdeal.main_arg5) = m ((c.tc : Thread Cert.KernelSmallAIdeal.nD Cert.KernelSmallAIdeal.τ).loc Cert.KernelSmallAIdeal.main_arg5)
          ∧ r.2.mem ((c.tc : Thread Cert.KernelSmallAIdeal.nD Cert.KernelSmallAIdeal.τ).loc Cert.KernelSmallAIdeal.main_arg6) = m ((c.tc : Thread Cert.KernelSmallAIdeal.nD Cert.KernelSmallAIdeal.τ).loc Cert.KernelSmallAIdeal.main_arg6)
          ∧ r.2.mem ((c.tc : Thread Cert.KernelSmallAIdeal.nD Cert.KernelSmallAIdeal.τ).loc Cert.KernelSmallAIdeal.main_arg7) = m ((c.tc : Thread Cert.KernelSmallAIdeal.nD Cert.KernelSmallAIdeal.τ).loc Cert.KernelSmallAIdeal.main_arg7)
          ∧ r.2.mem ((c.tc : Thread Cert.KernelSmallAIdeal.nD Cert.KernelSmallAIdeal.τ).loc Cert.KernelSmallAIdeal.main_arg8) = m ((c.tc : Thread Cert.KernelSmallAIdeal.nD Cert.KernelSmallAIdeal.τ).loc Cert.KernelSmallAIdeal.main_arg8)
          ∧ r.2.mem ((c.tc : Thread Cert.KernelSmallAIdeal.nD Cert.KernelSmallAIdeal.τ).loc Cert.KernelSmallAIdeal.main_arg9) = m ((c.tc : Thread Cert.KernelSmallAIdeal.nD Cert.KernelSmallAIdeal.τ).loc Cert.KernelSmallAIdeal.main_arg9)
          ∧ r.2.mem ((c.tc : Thread Cert.KernelSmallAIdeal.nD Cert.KernelSmallAIdeal.τ).loc Cert.KernelSmallAIdeal.main_arg10) = m ((c.tc : Thread Cert.KernelSmallAIdeal.nD Cert.KernelSmallAIdeal.τ).loc Cert.KernelSmallAIdeal.main_arg10)
          ∧ r.2.mem ((c.tc : Thread Cert.KernelSmallAIdeal.nD Cert.KernelSmallAIdeal.τ).loc Cert.KernelSmallAIdeal.main_arg11) = m ((c.tc : Thread Cert.KernelSmallAIdeal.nD Cert.KernelSmallAIdeal.τ).loc Cert.KernelSmallAIdeal.main_arg11))
      ∧ θ_run (Cert.ReferenceSmallAIdeal.defs (F := Ideal)) (onTc (τ := Cert.ReferenceSmallAIdeal.τ) (Cert.ReferenceSmallAIdeal.main (F := Ideal))) ⟨m', fun _ => 0, g'⟩ (fun r => ∀ c : Dev Cert.ReferenceSmallAIdeal.nD,
          r.2.mem ((c.tc : Thread Cert.ReferenceSmallAIdeal.nD Cert.ReferenceSmallAIdeal.τ).loc Cert.ReferenceSmallAIdeal.main_v0) = v0 c
          ∧ r.2.mem ((c.tc : Thread Cert.ReferenceSmallAIdeal.nD Cert.ReferenceSmallAIdeal.τ).loc Cert.ReferenceSmallAIdeal.main_v1) = v1 c
          ∧ r.2.mem ((c.tc : Thread Cert.ReferenceSmallAIdeal.nD Cert.ReferenceSmallAIdeal.τ).loc Cert.ReferenceSmallAIdeal.main_v2) = v2 c
          ∧ r.2.mem ((c.tc : Thread Cert.ReferenceSmallAIdeal.nD Cert.ReferenceSmallAIdeal.τ).loc Cert.ReferenceSmallAIdeal.main_v26) = v3 c
          ∧ r.2.mem ((c.tc : Thread Cert.ReferenceSmallAIdeal.nD Cert.ReferenceSmallAIdeal.τ).loc Cert.ReferenceSmallAIdeal.main_v50) = v4 c
          ∧ r.2.mem ((c.tc : Thread Cert.ReferenceSmallAIdeal.nD Cert.ReferenceSmallAIdeal.τ).loc Cert.ReferenceSmallAIdeal.main_v74) = v5 c
          ∧ r.2.mem ((c.tc : Thread Cert.ReferenceSmallAIdeal.nD Cert.ReferenceSmallAIdeal.τ).loc Cert.ReferenceSmallAIdeal.main_v7) = v6 c
          ∧ r.2.mem ((c.tc : Thread Cert.ReferenceSmallAIdeal.nD Cert.ReferenceSmallAIdeal.τ).loc Cert.ReferenceSmallAIdeal.main_v31) = v7 c
          ∧ r.2.mem ((c.tc : Thread Cert.ReferenceSmallAIdeal.nD Cert.ReferenceSmallAIdeal.τ).loc Cert.ReferenceSmallAIdeal.main_v55) = v8 c
          ∧ r.2.mem ((c.tc : Thread Cert.ReferenceSmallAIdeal.nD Cert.ReferenceSmallAIdeal.τ).loc Cert.ReferenceSmallAIdeal.main_v13) = v9 c
          ∧ r.2.mem ((c.tc : Thread Cert.ReferenceSmallAIdeal.nD Cert.ReferenceSmallAIdeal.τ).loc Cert.ReferenceSmallAIdeal.main_v37) = v10 c
          ∧ r.2.mem ((c.tc : Thread Cert.ReferenceSmallAIdeal.nD Cert.ReferenceSmallAIdeal.τ).loc Cert.ReferenceSmallAIdeal.main_v61) = v11 c
          ∧ r.2.mem ((c.tc : Thread Cert.ReferenceSmallAIdeal.nD Cert.ReferenceSmallAIdeal.τ).loc Cert.ReferenceSmallAIdeal.main_arg0) = m' ((c.tc : Thread Cert.ReferenceSmallAIdeal.nD Cert.ReferenceSmallAIdeal.τ).loc Cert.ReferenceSmallAIdeal.main_arg0)
          ∧ r.2.mem ((c.tc : Thread Cert.ReferenceSmallAIdeal.nD Cert.ReferenceSmallAIdeal.τ).loc Cert.ReferenceSmallAIdeal.main_arg1) = m' ((c.tc : Thread Cert.ReferenceSmallAIdeal.nD Cert.ReferenceSmallAIdeal.τ).loc Cert.ReferenceSmallAIdeal.main_arg1)
          ∧ r.2.mem ((c.tc : Thread Cert.ReferenceSmallAIdeal.nD Cert.ReferenceSmallAIdeal.τ).loc Cert.ReferenceSmallAIdeal.main_arg2) = m' ((c.tc : Thread Cert.ReferenceSmallAIdeal.nD Cert.ReferenceSmallAIdeal.τ).loc Cert.ReferenceSmallAIdeal.main_arg2)
          ∧ r.2.mem ((c.tc : Thread Cert.ReferenceSmallAIdeal.nD Cert.ReferenceSmallAIdeal.τ).loc Cert.ReferenceSmallAIdeal.main_arg3) = m' ((c.tc : Thread Cert.ReferenceSmallAIdeal.nD Cert.ReferenceSmallAIdeal.τ).loc Cert.ReferenceSmallAIdeal.main_arg3)
          ∧ r.2.mem ((c.tc : Thread Cert.ReferenceSmallAIdeal.nD Cert.ReferenceSmallAIdeal.τ).loc Cert.ReferenceSmallAIdeal.main_arg4) = m' ((c.tc : Thread Cert.ReferenceSmallAIdeal.nD Cert.ReferenceSmallAIdeal.τ).loc Cert.ReferenceSmallAIdeal.main_arg4)
          ∧ r.2.mem ((c.tc : Thread Cert.ReferenceSmallAIdeal.nD Cert.ReferenceSmallAIdeal.τ).loc Cert.ReferenceSmallAIdeal.main_arg5) = m' ((c.tc : Thread Cert.ReferenceSmallAIdeal.nD Cert.ReferenceSmallAIdeal.τ).loc Cert.ReferenceSmallAIdeal.main_arg5)
          ∧ r.2.mem ((c.tc : Thread Cert.ReferenceSmallAIdeal.nD Cert.ReferenceSmallAIdeal.τ).loc Cert.ReferenceSmallAIdeal.main_arg6) = m' ((c.tc : Thread Cert.ReferenceSmallAIdeal.nD Cert.ReferenceSmallAIdeal.τ).loc Cert.ReferenceSmallAIdeal.main_arg6)
          ∧ r.2.mem ((c.tc : Thread Cert.ReferenceSmallAIdeal.nD Cert.ReferenceSmallAIdeal.τ).loc Cert.ReferenceSmallAIdeal.main_arg7) = m' ((c.tc : Thread Cert.ReferenceSmallAIdeal.nD Cert.ReferenceSmallAIdeal.τ).loc Cert.ReferenceSmallAIdeal.main_arg7)
          ∧ r.2.mem ((c.tc : Thread Cert.ReferenceSmallAIdeal.nD Cert.ReferenceSmallAIdeal.τ).loc Cert.ReferenceSmallAIdeal.main_arg8) = m' ((c.tc : Thread Cert.ReferenceSmallAIdeal.nD Cert.ReferenceSmallAIdeal.τ).loc Cert.ReferenceSmallAIdeal.main_arg8)
          ∧ r.2.mem ((c.tc : Thread Cert.ReferenceSmallAIdeal.nD Cert.ReferenceSmallAIdeal.τ).loc Cert.ReferenceSmallAIdeal.main_arg9) = m' ((c.tc : Thread Cert.ReferenceSmallAIdeal.nD Cert.ReferenceSmallAIdeal.τ).loc Cert.ReferenceSmallAIdeal.main_arg9)
          ∧ r.2.mem ((c.tc : Thread Cert.ReferenceSmallAIdeal.nD Cert.ReferenceSmallAIdeal.τ).loc Cert.ReferenceSmallAIdeal.main_arg10) = m' ((c.tc : Thread Cert.ReferenceSmallAIdeal.nD Cert.ReferenceSmallAIdeal.τ).loc Cert.ReferenceSmallAIdeal.main_arg10)
          ∧ r.2.mem ((c.tc : Thread Cert.ReferenceSmallAIdeal.nD Cert.ReferenceSmallAIdeal.τ).loc Cert.ReferenceSmallAIdeal.main_arg11) = m' ((c.tc : Thread Cert.ReferenceSmallAIdeal.nD Cert.ReferenceSmallAIdeal.τ).loc Cert.ReferenceSmallAIdeal.main_arg11))

def preserves_KernelSmallB_KernelSmallBIdeal : Prop :=
  True

def algebraic_KernelSmallBIdeal_ReferenceSmallBIdeal [hKernelSmallBIdeal : Cert.KernelSmallBIdeal.Facts] [hReferenceSmallBIdeal : Cert.ReferenceSmallBIdeal.Facts] : Prop :=
  ∀ (m : (ℓ : Loc Cert.KernelSmallBIdeal.nD Cert.KernelSmallBIdeal.τ Cert.KernelSmallBIdeal.sig) → Buf (Elt Ideal) ℓ) (g : Dev Cert.KernelSmallBIdeal.nD → PrngReg)
    (m' : (ℓ : Loc Cert.ReferenceSmallBIdeal.nD Cert.ReferenceSmallBIdeal.τ Cert.ReferenceSmallBIdeal.sig) → Buf (Elt Ideal) ℓ) (g' : Dev Cert.ReferenceSmallBIdeal.nD → PrngReg), Pre_KernelSmallBIdeal m →
    (∀ c : Dev Cert.KernelSmallBIdeal.nD,
      m' ((c.tc : Thread Cert.ReferenceSmallBIdeal.nD Cert.ReferenceSmallBIdeal.τ).loc Cert.ReferenceSmallBIdeal.main_arg0) = m ((c.tc : Thread Cert.KernelSmallBIdeal.nD Cert.KernelSmallBIdeal.τ).loc Cert.KernelSmallBIdeal.main_arg0)
      ∧ m' ((c.tc : Thread Cert.ReferenceSmallBIdeal.nD Cert.ReferenceSmallBIdeal.τ).loc Cert.ReferenceSmallBIdeal.main_arg1) = m ((c.tc : Thread Cert.KernelSmallBIdeal.nD Cert.KernelSmallBIdeal.τ).loc Cert.KernelSmallBIdeal.main_arg1)
      ∧ m' ((c.tc : Thread Cert.ReferenceSmallBIdeal.nD Cert.ReferenceSmallBIdeal.τ).loc Cert.ReferenceSmallBIdeal.main_arg2) = m ((c.tc : Thread Cert.KernelSmallBIdeal.nD Cert.KernelSmallBIdeal.τ).loc Cert.KernelSmallBIdeal.main_arg2)
      ∧ m' ((c.tc : Thread Cert.ReferenceSmallBIdeal.nD Cert.ReferenceSmallBIdeal.τ).loc Cert.ReferenceSmallBIdeal.main_arg3) = m ((c.tc : Thread Cert.KernelSmallBIdeal.nD Cert.KernelSmallBIdeal.τ).loc Cert.KernelSmallBIdeal.main_arg3)
      ∧ m' ((c.tc : Thread Cert.ReferenceSmallBIdeal.nD Cert.ReferenceSmallBIdeal.τ).loc Cert.ReferenceSmallBIdeal.main_arg4) = m ((c.tc : Thread Cert.KernelSmallBIdeal.nD Cert.KernelSmallBIdeal.τ).loc Cert.KernelSmallBIdeal.main_arg4)
      ∧ m' ((c.tc : Thread Cert.ReferenceSmallBIdeal.nD Cert.ReferenceSmallBIdeal.τ).loc Cert.ReferenceSmallBIdeal.main_arg5) = m ((c.tc : Thread Cert.KernelSmallBIdeal.nD Cert.KernelSmallBIdeal.τ).loc Cert.KernelSmallBIdeal.main_arg5)
      ∧ m' ((c.tc : Thread Cert.ReferenceSmallBIdeal.nD Cert.ReferenceSmallBIdeal.τ).loc Cert.ReferenceSmallBIdeal.main_arg6) = m ((c.tc : Thread Cert.KernelSmallBIdeal.nD Cert.KernelSmallBIdeal.τ).loc Cert.KernelSmallBIdeal.main_arg6)
      ∧ m' ((c.tc : Thread Cert.ReferenceSmallBIdeal.nD Cert.ReferenceSmallBIdeal.τ).loc Cert.ReferenceSmallBIdeal.main_arg7) = m ((c.tc : Thread Cert.KernelSmallBIdeal.nD Cert.KernelSmallBIdeal.τ).loc Cert.KernelSmallBIdeal.main_arg7)
      ∧ m' ((c.tc : Thread Cert.ReferenceSmallBIdeal.nD Cert.ReferenceSmallBIdeal.τ).loc Cert.ReferenceSmallBIdeal.main_arg8) = m ((c.tc : Thread Cert.KernelSmallBIdeal.nD Cert.KernelSmallBIdeal.τ).loc Cert.KernelSmallBIdeal.main_arg8)
      ∧ m' ((c.tc : Thread Cert.ReferenceSmallBIdeal.nD Cert.ReferenceSmallBIdeal.τ).loc Cert.ReferenceSmallBIdeal.main_arg9) = m ((c.tc : Thread Cert.KernelSmallBIdeal.nD Cert.KernelSmallBIdeal.τ).loc Cert.KernelSmallBIdeal.main_arg9)
      ∧ m' ((c.tc : Thread Cert.ReferenceSmallBIdeal.nD Cert.ReferenceSmallBIdeal.τ).loc Cert.ReferenceSmallBIdeal.main_arg10) = m ((c.tc : Thread Cert.KernelSmallBIdeal.nD Cert.KernelSmallBIdeal.τ).loc Cert.KernelSmallBIdeal.main_arg10)
      ∧ m' ((c.tc : Thread Cert.ReferenceSmallBIdeal.nD Cert.ReferenceSmallBIdeal.τ).loc Cert.ReferenceSmallBIdeal.main_arg11) = m ((c.tc : Thread Cert.KernelSmallBIdeal.nD Cert.KernelSmallBIdeal.τ).loc Cert.KernelSmallBIdeal.main_arg11)) →
    ∃ (v0 : (c : Dev Cert.KernelSmallBIdeal.nD) → Buf (Elt Ideal) ((c.tc : Thread Cert.KernelSmallBIdeal.nD Cert.KernelSmallBIdeal.τ).loc Cert.KernelSmallBIdeal.main_v0_0)) (v1 : (c : Dev Cert.KernelSmallBIdeal.nD) → Buf (Elt Ideal) ((c.tc : Thread Cert.KernelSmallBIdeal.nD Cert.KernelSmallBIdeal.τ).loc Cert.KernelSmallBIdeal.main_v0_1)) (v2 : (c : Dev Cert.KernelSmallBIdeal.nD) → Buf (Elt Ideal) ((c.tc : Thread Cert.KernelSmallBIdeal.nD Cert.KernelSmallBIdeal.τ).loc Cert.KernelSmallBIdeal.main_v0_2)) (v3 : (c : Dev Cert.KernelSmallBIdeal.nD) → Buf (Elt Ideal) ((c.tc : Thread Cert.KernelSmallBIdeal.nD Cert.KernelSmallBIdeal.τ).loc Cert.KernelSmallBIdeal.main_v0_3)) (v4 : (c : Dev Cert.KernelSmallBIdeal.nD) → Buf (Elt Ideal) ((c.tc : Thread Cert.KernelSmallBIdeal.nD Cert.KernelSmallBIdeal.τ).loc Cert.KernelSmallBIdeal.main_v0_4)) (v5 : (c : Dev Cert.KernelSmallBIdeal.nD) → Buf (Elt Ideal) ((c.tc : Thread Cert.KernelSmallBIdeal.nD Cert.KernelSmallBIdeal.τ).loc Cert.KernelSmallBIdeal.main_v0_5)) (v6 : (c : Dev Cert.KernelSmallBIdeal.nD) → Buf (Elt Ideal) ((c.tc : Thread Cert.KernelSmallBIdeal.nD Cert.KernelSmallBIdeal.τ).loc Cert.KernelSmallBIdeal.main_v0_6)) (v7 : (c : Dev Cert.KernelSmallBIdeal.nD) → Buf (Elt Ideal) ((c.tc : Thread Cert.KernelSmallBIdeal.nD Cert.KernelSmallBIdeal.τ).loc Cert.KernelSmallBIdeal.main_v0_7)) (v8 : (c : Dev Cert.KernelSmallBIdeal.nD) → Buf (Elt Ideal) ((c.tc : Thread Cert.KernelSmallBIdeal.nD Cert.KernelSmallBIdeal.τ).loc Cert.KernelSmallBIdeal.main_v0_8)) (v9 : (c : Dev Cert.KernelSmallBIdeal.nD) → Buf (Elt Ideal) ((c.tc : Thread Cert.KernelSmallBIdeal.nD Cert.KernelSmallBIdeal.τ).loc Cert.KernelSmallBIdeal.main_v0_9)) (v10 : (c : Dev Cert.KernelSmallBIdeal.nD) → Buf (Elt Ideal) ((c.tc : Thread Cert.KernelSmallBIdeal.nD Cert.KernelSmallBIdeal.τ).loc Cert.KernelSmallBIdeal.main_v0_10)) (v11 : (c : Dev Cert.KernelSmallBIdeal.nD) → Buf (Elt Ideal) ((c.tc : Thread Cert.KernelSmallBIdeal.nD Cert.KernelSmallBIdeal.τ).loc Cert.KernelSmallBIdeal.main_v0_11)),
      θ_run (Cert.KernelSmallBIdeal.defs (F := Ideal)) (onTc (τ := Cert.KernelSmallBIdeal.τ) (Cert.KernelSmallBIdeal.main (F := Ideal))) ⟨m, fun _ => 0, g⟩ (fun r => ∀ c : Dev Cert.KernelSmallBIdeal.nD,
          r.2.mem ((c.tc : Thread Cert.KernelSmallBIdeal.nD Cert.KernelSmallBIdeal.τ).loc Cert.KernelSmallBIdeal.main_v0_0) = v0 c
          ∧ r.2.mem ((c.tc : Thread Cert.KernelSmallBIdeal.nD Cert.KernelSmallBIdeal.τ).loc Cert.KernelSmallBIdeal.main_v0_1) = v1 c
          ∧ r.2.mem ((c.tc : Thread Cert.KernelSmallBIdeal.nD Cert.KernelSmallBIdeal.τ).loc Cert.KernelSmallBIdeal.main_v0_2) = v2 c
          ∧ r.2.mem ((c.tc : Thread Cert.KernelSmallBIdeal.nD Cert.KernelSmallBIdeal.τ).loc Cert.KernelSmallBIdeal.main_v0_3) = v3 c
          ∧ r.2.mem ((c.tc : Thread Cert.KernelSmallBIdeal.nD Cert.KernelSmallBIdeal.τ).loc Cert.KernelSmallBIdeal.main_v0_4) = v4 c
          ∧ r.2.mem ((c.tc : Thread Cert.KernelSmallBIdeal.nD Cert.KernelSmallBIdeal.τ).loc Cert.KernelSmallBIdeal.main_v0_5) = v5 c
          ∧ r.2.mem ((c.tc : Thread Cert.KernelSmallBIdeal.nD Cert.KernelSmallBIdeal.τ).loc Cert.KernelSmallBIdeal.main_v0_6) = v6 c
          ∧ r.2.mem ((c.tc : Thread Cert.KernelSmallBIdeal.nD Cert.KernelSmallBIdeal.τ).loc Cert.KernelSmallBIdeal.main_v0_7) = v7 c
          ∧ r.2.mem ((c.tc : Thread Cert.KernelSmallBIdeal.nD Cert.KernelSmallBIdeal.τ).loc Cert.KernelSmallBIdeal.main_v0_8) = v8 c
          ∧ r.2.mem ((c.tc : Thread Cert.KernelSmallBIdeal.nD Cert.KernelSmallBIdeal.τ).loc Cert.KernelSmallBIdeal.main_v0_9) = v9 c
          ∧ r.2.mem ((c.tc : Thread Cert.KernelSmallBIdeal.nD Cert.KernelSmallBIdeal.τ).loc Cert.KernelSmallBIdeal.main_v0_10) = v10 c
          ∧ r.2.mem ((c.tc : Thread Cert.KernelSmallBIdeal.nD Cert.KernelSmallBIdeal.τ).loc Cert.KernelSmallBIdeal.main_v0_11) = v11 c
          ∧ r.2.mem ((c.tc : Thread Cert.KernelSmallBIdeal.nD Cert.KernelSmallBIdeal.τ).loc Cert.KernelSmallBIdeal.main_arg0) = m ((c.tc : Thread Cert.KernelSmallBIdeal.nD Cert.KernelSmallBIdeal.τ).loc Cert.KernelSmallBIdeal.main_arg0)
          ∧ r.2.mem ((c.tc : Thread Cert.KernelSmallBIdeal.nD Cert.KernelSmallBIdeal.τ).loc Cert.KernelSmallBIdeal.main_arg1) = m ((c.tc : Thread Cert.KernelSmallBIdeal.nD Cert.KernelSmallBIdeal.τ).loc Cert.KernelSmallBIdeal.main_arg1)
          ∧ r.2.mem ((c.tc : Thread Cert.KernelSmallBIdeal.nD Cert.KernelSmallBIdeal.τ).loc Cert.KernelSmallBIdeal.main_arg2) = m ((c.tc : Thread Cert.KernelSmallBIdeal.nD Cert.KernelSmallBIdeal.τ).loc Cert.KernelSmallBIdeal.main_arg2)
          ∧ r.2.mem ((c.tc : Thread Cert.KernelSmallBIdeal.nD Cert.KernelSmallBIdeal.τ).loc Cert.KernelSmallBIdeal.main_arg3) = m ((c.tc : Thread Cert.KernelSmallBIdeal.nD Cert.KernelSmallBIdeal.τ).loc Cert.KernelSmallBIdeal.main_arg3)
          ∧ r.2.mem ((c.tc : Thread Cert.KernelSmallBIdeal.nD Cert.KernelSmallBIdeal.τ).loc Cert.KernelSmallBIdeal.main_arg4) = m ((c.tc : Thread Cert.KernelSmallBIdeal.nD Cert.KernelSmallBIdeal.τ).loc Cert.KernelSmallBIdeal.main_arg4)
          ∧ r.2.mem ((c.tc : Thread Cert.KernelSmallBIdeal.nD Cert.KernelSmallBIdeal.τ).loc Cert.KernelSmallBIdeal.main_arg5) = m ((c.tc : Thread Cert.KernelSmallBIdeal.nD Cert.KernelSmallBIdeal.τ).loc Cert.KernelSmallBIdeal.main_arg5)
          ∧ r.2.mem ((c.tc : Thread Cert.KernelSmallBIdeal.nD Cert.KernelSmallBIdeal.τ).loc Cert.KernelSmallBIdeal.main_arg6) = m ((c.tc : Thread Cert.KernelSmallBIdeal.nD Cert.KernelSmallBIdeal.τ).loc Cert.KernelSmallBIdeal.main_arg6)
          ∧ r.2.mem ((c.tc : Thread Cert.KernelSmallBIdeal.nD Cert.KernelSmallBIdeal.τ).loc Cert.KernelSmallBIdeal.main_arg7) = m ((c.tc : Thread Cert.KernelSmallBIdeal.nD Cert.KernelSmallBIdeal.τ).loc Cert.KernelSmallBIdeal.main_arg7)
          ∧ r.2.mem ((c.tc : Thread Cert.KernelSmallBIdeal.nD Cert.KernelSmallBIdeal.τ).loc Cert.KernelSmallBIdeal.main_arg8) = m ((c.tc : Thread Cert.KernelSmallBIdeal.nD Cert.KernelSmallBIdeal.τ).loc Cert.KernelSmallBIdeal.main_arg8)
          ∧ r.2.mem ((c.tc : Thread Cert.KernelSmallBIdeal.nD Cert.KernelSmallBIdeal.τ).loc Cert.KernelSmallBIdeal.main_arg9) = m ((c.tc : Thread Cert.KernelSmallBIdeal.nD Cert.KernelSmallBIdeal.τ).loc Cert.KernelSmallBIdeal.main_arg9)
          ∧ r.2.mem ((c.tc : Thread Cert.KernelSmallBIdeal.nD Cert.KernelSmallBIdeal.τ).loc Cert.KernelSmallBIdeal.main_arg10) = m ((c.tc : Thread Cert.KernelSmallBIdeal.nD Cert.KernelSmallBIdeal.τ).loc Cert.KernelSmallBIdeal.main_arg10)
          ∧ r.2.mem ((c.tc : Thread Cert.KernelSmallBIdeal.nD Cert.KernelSmallBIdeal.τ).loc Cert.KernelSmallBIdeal.main_arg11) = m ((c.tc : Thread Cert.KernelSmallBIdeal.nD Cert.KernelSmallBIdeal.τ).loc Cert.KernelSmallBIdeal.main_arg11))
      ∧ θ_run (Cert.ReferenceSmallBIdeal.defs (F := Ideal)) (onTc (τ := Cert.ReferenceSmallBIdeal.τ) (Cert.ReferenceSmallBIdeal.main (F := Ideal))) ⟨m', fun _ => 0, g'⟩ (fun r => ∀ c : Dev Cert.ReferenceSmallBIdeal.nD,
          r.2.mem ((c.tc : Thread Cert.ReferenceSmallBIdeal.nD Cert.ReferenceSmallBIdeal.τ).loc Cert.ReferenceSmallBIdeal.main_v0) = v0 c
          ∧ r.2.mem ((c.tc : Thread Cert.ReferenceSmallBIdeal.nD Cert.ReferenceSmallBIdeal.τ).loc Cert.ReferenceSmallBIdeal.main_v1) = v1 c
          ∧ r.2.mem ((c.tc : Thread Cert.ReferenceSmallBIdeal.nD Cert.ReferenceSmallBIdeal.τ).loc Cert.ReferenceSmallBIdeal.main_v2) = v2 c
          ∧ r.2.mem ((c.tc : Thread Cert.ReferenceSmallBIdeal.nD Cert.ReferenceSmallBIdeal.τ).loc Cert.ReferenceSmallBIdeal.main_v26) = v3 c
          ∧ r.2.mem ((c.tc : Thread Cert.ReferenceSmallBIdeal.nD Cert.ReferenceSmallBIdeal.τ).loc Cert.ReferenceSmallBIdeal.main_v50) = v4 c
          ∧ r.2.mem ((c.tc : Thread Cert.ReferenceSmallBIdeal.nD Cert.ReferenceSmallBIdeal.τ).loc Cert.ReferenceSmallBIdeal.main_v74) = v5 c
          ∧ r.2.mem ((c.tc : Thread Cert.ReferenceSmallBIdeal.nD Cert.ReferenceSmallBIdeal.τ).loc Cert.ReferenceSmallBIdeal.main_v7) = v6 c
          ∧ r.2.mem ((c.tc : Thread Cert.ReferenceSmallBIdeal.nD Cert.ReferenceSmallBIdeal.τ).loc Cert.ReferenceSmallBIdeal.main_v31) = v7 c
          ∧ r.2.mem ((c.tc : Thread Cert.ReferenceSmallBIdeal.nD Cert.ReferenceSmallBIdeal.τ).loc Cert.ReferenceSmallBIdeal.main_v55) = v8 c
          ∧ r.2.mem ((c.tc : Thread Cert.ReferenceSmallBIdeal.nD Cert.ReferenceSmallBIdeal.τ).loc Cert.ReferenceSmallBIdeal.main_v13) = v9 c
          ∧ r.2.mem ((c.tc : Thread Cert.ReferenceSmallBIdeal.nD Cert.ReferenceSmallBIdeal.τ).loc Cert.ReferenceSmallBIdeal.main_v37) = v10 c
          ∧ r.2.mem ((c.tc : Thread Cert.ReferenceSmallBIdeal.nD Cert.ReferenceSmallBIdeal.τ).loc Cert.ReferenceSmallBIdeal.main_v61) = v11 c
          ∧ r.2.mem ((c.tc : Thread Cert.ReferenceSmallBIdeal.nD Cert.ReferenceSmallBIdeal.τ).loc Cert.ReferenceSmallBIdeal.main_arg0) = m' ((c.tc : Thread Cert.ReferenceSmallBIdeal.nD Cert.ReferenceSmallBIdeal.τ).loc Cert.ReferenceSmallBIdeal.main_arg0)
          ∧ r.2.mem ((c.tc : Thread Cert.ReferenceSmallBIdeal.nD Cert.ReferenceSmallBIdeal.τ).loc Cert.ReferenceSmallBIdeal.main_arg1) = m' ((c.tc : Thread Cert.ReferenceSmallBIdeal.nD Cert.ReferenceSmallBIdeal.τ).loc Cert.ReferenceSmallBIdeal.main_arg1)
          ∧ r.2.mem ((c.tc : Thread Cert.ReferenceSmallBIdeal.nD Cert.ReferenceSmallBIdeal.τ).loc Cert.ReferenceSmallBIdeal.main_arg2) = m' ((c.tc : Thread Cert.ReferenceSmallBIdeal.nD Cert.ReferenceSmallBIdeal.τ).loc Cert.ReferenceSmallBIdeal.main_arg2)
          ∧ r.2.mem ((c.tc : Thread Cert.ReferenceSmallBIdeal.nD Cert.ReferenceSmallBIdeal.τ).loc Cert.ReferenceSmallBIdeal.main_arg3) = m' ((c.tc : Thread Cert.ReferenceSmallBIdeal.nD Cert.ReferenceSmallBIdeal.τ).loc Cert.ReferenceSmallBIdeal.main_arg3)
          ∧ r.2.mem ((c.tc : Thread Cert.ReferenceSmallBIdeal.nD Cert.ReferenceSmallBIdeal.τ).loc Cert.ReferenceSmallBIdeal.main_arg4) = m' ((c.tc : Thread Cert.ReferenceSmallBIdeal.nD Cert.ReferenceSmallBIdeal.τ).loc Cert.ReferenceSmallBIdeal.main_arg4)
          ∧ r.2.mem ((c.tc : Thread Cert.ReferenceSmallBIdeal.nD Cert.ReferenceSmallBIdeal.τ).loc Cert.ReferenceSmallBIdeal.main_arg5) = m' ((c.tc : Thread Cert.ReferenceSmallBIdeal.nD Cert.ReferenceSmallBIdeal.τ).loc Cert.ReferenceSmallBIdeal.main_arg5)
          ∧ r.2.mem ((c.tc : Thread Cert.ReferenceSmallBIdeal.nD Cert.ReferenceSmallBIdeal.τ).loc Cert.ReferenceSmallBIdeal.main_arg6) = m' ((c.tc : Thread Cert.ReferenceSmallBIdeal.nD Cert.ReferenceSmallBIdeal.τ).loc Cert.ReferenceSmallBIdeal.main_arg6)
          ∧ r.2.mem ((c.tc : Thread Cert.ReferenceSmallBIdeal.nD Cert.ReferenceSmallBIdeal.τ).loc Cert.ReferenceSmallBIdeal.main_arg7) = m' ((c.tc : Thread Cert.ReferenceSmallBIdeal.nD Cert.ReferenceSmallBIdeal.τ).loc Cert.ReferenceSmallBIdeal.main_arg7)
          ∧ r.2.mem ((c.tc : Thread Cert.ReferenceSmallBIdeal.nD Cert.ReferenceSmallBIdeal.τ).loc Cert.ReferenceSmallBIdeal.main_arg8) = m' ((c.tc : Thread Cert.ReferenceSmallBIdeal.nD Cert.ReferenceSmallBIdeal.τ).loc Cert.ReferenceSmallBIdeal.main_arg8)
          ∧ r.2.mem ((c.tc : Thread Cert.ReferenceSmallBIdeal.nD Cert.ReferenceSmallBIdeal.τ).loc Cert.ReferenceSmallBIdeal.main_arg9) = m' ((c.tc : Thread Cert.ReferenceSmallBIdeal.nD Cert.ReferenceSmallBIdeal.τ).loc Cert.ReferenceSmallBIdeal.main_arg9)
          ∧ r.2.mem ((c.tc : Thread Cert.ReferenceSmallBIdeal.nD Cert.ReferenceSmallBIdeal.τ).loc Cert.ReferenceSmallBIdeal.main_arg10) = m' ((c.tc : Thread Cert.ReferenceSmallBIdeal.nD Cert.ReferenceSmallBIdeal.τ).loc Cert.ReferenceSmallBIdeal.main_arg10)
          ∧ r.2.mem ((c.tc : Thread Cert.ReferenceSmallBIdeal.nD Cert.ReferenceSmallBIdeal.τ).loc Cert.ReferenceSmallBIdeal.main_arg11) = m' ((c.tc : Thread Cert.ReferenceSmallBIdeal.nD Cert.ReferenceSmallBIdeal.τ).loc Cert.ReferenceSmallBIdeal.main_arg11))

def preserves_KernelSmallC_KernelSmallCIdeal : Prop :=
  True

def algebraic_KernelSmallCIdeal_ReferenceSmallCIdeal [hKernelSmallCIdeal : Cert.KernelSmallCIdeal.Facts] [hReferenceSmallCIdeal : Cert.ReferenceSmallCIdeal.Facts] : Prop :=
  ∀ (m : (ℓ : Loc Cert.KernelSmallCIdeal.nD Cert.KernelSmallCIdeal.τ Cert.KernelSmallCIdeal.sig) → Buf (Elt Ideal) ℓ) (g : Dev Cert.KernelSmallCIdeal.nD → PrngReg)
    (m' : (ℓ : Loc Cert.ReferenceSmallCIdeal.nD Cert.ReferenceSmallCIdeal.τ Cert.ReferenceSmallCIdeal.sig) → Buf (Elt Ideal) ℓ) (g' : Dev Cert.ReferenceSmallCIdeal.nD → PrngReg), Pre_KernelSmallCIdeal m →
    (∀ c : Dev Cert.KernelSmallCIdeal.nD,
      m' ((c.tc : Thread Cert.ReferenceSmallCIdeal.nD Cert.ReferenceSmallCIdeal.τ).loc Cert.ReferenceSmallCIdeal.main_arg0) = m ((c.tc : Thread Cert.KernelSmallCIdeal.nD Cert.KernelSmallCIdeal.τ).loc Cert.KernelSmallCIdeal.main_arg0)
      ∧ m' ((c.tc : Thread Cert.ReferenceSmallCIdeal.nD Cert.ReferenceSmallCIdeal.τ).loc Cert.ReferenceSmallCIdeal.main_arg1) = m ((c.tc : Thread Cert.KernelSmallCIdeal.nD Cert.KernelSmallCIdeal.τ).loc Cert.KernelSmallCIdeal.main_arg1)
      ∧ m' ((c.tc : Thread Cert.ReferenceSmallCIdeal.nD Cert.ReferenceSmallCIdeal.τ).loc Cert.ReferenceSmallCIdeal.main_arg2) = m ((c.tc : Thread Cert.KernelSmallCIdeal.nD Cert.KernelSmallCIdeal.τ).loc Cert.KernelSmallCIdeal.main_arg2)
      ∧ m' ((c.tc : Thread Cert.ReferenceSmallCIdeal.nD Cert.ReferenceSmallCIdeal.τ).loc Cert.ReferenceSmallCIdeal.main_arg3) = m ((c.tc : Thread Cert.KernelSmallCIdeal.nD Cert.KernelSmallCIdeal.τ).loc Cert.KernelSmallCIdeal.main_arg3)
      ∧ m' ((c.tc : Thread Cert.ReferenceSmallCIdeal.nD Cert.ReferenceSmallCIdeal.τ).loc Cert.ReferenceSmallCIdeal.main_arg4) = m ((c.tc : Thread Cert.KernelSmallCIdeal.nD Cert.KernelSmallCIdeal.τ).loc Cert.KernelSmallCIdeal.main_arg4)
      ∧ m' ((c.tc : Thread Cert.ReferenceSmallCIdeal.nD Cert.ReferenceSmallCIdeal.τ).loc Cert.ReferenceSmallCIdeal.main_arg5) = m ((c.tc : Thread Cert.KernelSmallCIdeal.nD Cert.KernelSmallCIdeal.τ).loc Cert.KernelSmallCIdeal.main_arg5)
      ∧ m' ((c.tc : Thread Cert.ReferenceSmallCIdeal.nD Cert.ReferenceSmallCIdeal.τ).loc Cert.ReferenceSmallCIdeal.main_arg6) = m ((c.tc : Thread Cert.KernelSmallCIdeal.nD Cert.KernelSmallCIdeal.τ).loc Cert.KernelSmallCIdeal.main_arg6)
      ∧ m' ((c.tc : Thread Cert.ReferenceSmallCIdeal.nD Cert.ReferenceSmallCIdeal.τ).loc Cert.ReferenceSmallCIdeal.main_arg7) = m ((c.tc : Thread Cert.KernelSmallCIdeal.nD Cert.KernelSmallCIdeal.τ).loc Cert.KernelSmallCIdeal.main_arg7)
      ∧ m' ((c.tc : Thread Cert.ReferenceSmallCIdeal.nD Cert.ReferenceSmallCIdeal.τ).loc Cert.ReferenceSmallCIdeal.main_arg8) = m ((c.tc : Thread Cert.KernelSmallCIdeal.nD Cert.KernelSmallCIdeal.τ).loc Cert.KernelSmallCIdeal.main_arg8)
      ∧ m' ((c.tc : Thread Cert.ReferenceSmallCIdeal.nD Cert.ReferenceSmallCIdeal.τ).loc Cert.ReferenceSmallCIdeal.main_arg9) = m ((c.tc : Thread Cert.KernelSmallCIdeal.nD Cert.KernelSmallCIdeal.τ).loc Cert.KernelSmallCIdeal.main_arg9)
      ∧ m' ((c.tc : Thread Cert.ReferenceSmallCIdeal.nD Cert.ReferenceSmallCIdeal.τ).loc Cert.ReferenceSmallCIdeal.main_arg10) = m ((c.tc : Thread Cert.KernelSmallCIdeal.nD Cert.KernelSmallCIdeal.τ).loc Cert.KernelSmallCIdeal.main_arg10)
      ∧ m' ((c.tc : Thread Cert.ReferenceSmallCIdeal.nD Cert.ReferenceSmallCIdeal.τ).loc Cert.ReferenceSmallCIdeal.main_arg11) = m ((c.tc : Thread Cert.KernelSmallCIdeal.nD Cert.KernelSmallCIdeal.τ).loc Cert.KernelSmallCIdeal.main_arg11)) →
    ∃ (v0 : (c : Dev Cert.KernelSmallCIdeal.nD) → Buf (Elt Ideal) ((c.tc : Thread Cert.KernelSmallCIdeal.nD Cert.KernelSmallCIdeal.τ).loc Cert.KernelSmallCIdeal.main_v0_0)) (v1 : (c : Dev Cert.KernelSmallCIdeal.nD) → Buf (Elt Ideal) ((c.tc : Thread Cert.KernelSmallCIdeal.nD Cert.KernelSmallCIdeal.τ).loc Cert.KernelSmallCIdeal.main_v0_1)) (v2 : (c : Dev Cert.KernelSmallCIdeal.nD) → Buf (Elt Ideal) ((c.tc : Thread Cert.KernelSmallCIdeal.nD Cert.KernelSmallCIdeal.τ).loc Cert.KernelSmallCIdeal.main_v0_2)) (v3 : (c : Dev Cert.KernelSmallCIdeal.nD) → Buf (Elt Ideal) ((c.tc : Thread Cert.KernelSmallCIdeal.nD Cert.KernelSmallCIdeal.τ).loc Cert.KernelSmallCIdeal.main_v0_3)) (v4 : (c : Dev Cert.KernelSmallCIdeal.nD) → Buf (Elt Ideal) ((c.tc : Thread Cert.KernelSmallCIdeal.nD Cert.KernelSmallCIdeal.τ).loc Cert.KernelSmallCIdeal.main_v0_4)) (v5 : (c : Dev Cert.KernelSmallCIdeal.nD) → Buf (Elt Ideal) ((c.tc : Thread Cert.KernelSmallCIdeal.nD Cert.KernelSmallCIdeal.τ).loc Cert.KernelSmallCIdeal.main_v0_5)) (v6 : (c : Dev Cert.KernelSmallCIdeal.nD) → Buf (Elt Ideal) ((c.tc : Thread Cert.KernelSmallCIdeal.nD Cert.KernelSmallCIdeal.τ).loc Cert.KernelSmallCIdeal.main_v0_6)) (v7 : (c : Dev Cert.KernelSmallCIdeal.nD) → Buf (Elt Ideal) ((c.tc : Thread Cert.KernelSmallCIdeal.nD Cert.KernelSmallCIdeal.τ).loc Cert.KernelSmallCIdeal.main_v0_7)) (v8 : (c : Dev Cert.KernelSmallCIdeal.nD) → Buf (Elt Ideal) ((c.tc : Thread Cert.KernelSmallCIdeal.nD Cert.KernelSmallCIdeal.τ).loc Cert.KernelSmallCIdeal.main_v0_8)) (v9 : (c : Dev Cert.KernelSmallCIdeal.nD) → Buf (Elt Ideal) ((c.tc : Thread Cert.KernelSmallCIdeal.nD Cert.KernelSmallCIdeal.τ).loc Cert.KernelSmallCIdeal.main_v0_9)) (v10 : (c : Dev Cert.KernelSmallCIdeal.nD) → Buf (Elt Ideal) ((c.tc : Thread Cert.KernelSmallCIdeal.nD Cert.KernelSmallCIdeal.τ).loc Cert.KernelSmallCIdeal.main_v0_10)) (v11 : (c : Dev Cert.KernelSmallCIdeal.nD) → Buf (Elt Ideal) ((c.tc : Thread Cert.KernelSmallCIdeal.nD Cert.KernelSmallCIdeal.τ).loc Cert.KernelSmallCIdeal.main_v0_11)),
      θ_run (Cert.KernelSmallCIdeal.defs (F := Ideal)) (onTc (τ := Cert.KernelSmallCIdeal.τ) (Cert.KernelSmallCIdeal.main (F := Ideal))) ⟨m, fun _ => 0, g⟩ (fun r => ∀ c : Dev Cert.KernelSmallCIdeal.nD,
          r.2.mem ((c.tc : Thread Cert.KernelSmallCIdeal.nD Cert.KernelSmallCIdeal.τ).loc Cert.KernelSmallCIdeal.main_v0_0) = v0 c
          ∧ r.2.mem ((c.tc : Thread Cert.KernelSmallCIdeal.nD Cert.KernelSmallCIdeal.τ).loc Cert.KernelSmallCIdeal.main_v0_1) = v1 c
          ∧ r.2.mem ((c.tc : Thread Cert.KernelSmallCIdeal.nD Cert.KernelSmallCIdeal.τ).loc Cert.KernelSmallCIdeal.main_v0_2) = v2 c
          ∧ r.2.mem ((c.tc : Thread Cert.KernelSmallCIdeal.nD Cert.KernelSmallCIdeal.τ).loc Cert.KernelSmallCIdeal.main_v0_3) = v3 c
          ∧ r.2.mem ((c.tc : Thread Cert.KernelSmallCIdeal.nD Cert.KernelSmallCIdeal.τ).loc Cert.KernelSmallCIdeal.main_v0_4) = v4 c
          ∧ r.2.mem ((c.tc : Thread Cert.KernelSmallCIdeal.nD Cert.KernelSmallCIdeal.τ).loc Cert.KernelSmallCIdeal.main_v0_5) = v5 c
          ∧ r.2.mem ((c.tc : Thread Cert.KernelSmallCIdeal.nD Cert.KernelSmallCIdeal.τ).loc Cert.KernelSmallCIdeal.main_v0_6) = v6 c
          ∧ r.2.mem ((c.tc : Thread Cert.KernelSmallCIdeal.nD Cert.KernelSmallCIdeal.τ).loc Cert.KernelSmallCIdeal.main_v0_7) = v7 c
          ∧ r.2.mem ((c.tc : Thread Cert.KernelSmallCIdeal.nD Cert.KernelSmallCIdeal.τ).loc Cert.KernelSmallCIdeal.main_v0_8) = v8 c
          ∧ r.2.mem ((c.tc : Thread Cert.KernelSmallCIdeal.nD Cert.KernelSmallCIdeal.τ).loc Cert.KernelSmallCIdeal.main_v0_9) = v9 c
          ∧ r.2.mem ((c.tc : Thread Cert.KernelSmallCIdeal.nD Cert.KernelSmallCIdeal.τ).loc Cert.KernelSmallCIdeal.main_v0_10) = v10 c
          ∧ r.2.mem ((c.tc : Thread Cert.KernelSmallCIdeal.nD Cert.KernelSmallCIdeal.τ).loc Cert.KernelSmallCIdeal.main_v0_11) = v11 c
          ∧ r.2.mem ((c.tc : Thread Cert.KernelSmallCIdeal.nD Cert.KernelSmallCIdeal.τ).loc Cert.KernelSmallCIdeal.main_arg0) = m ((c.tc : Thread Cert.KernelSmallCIdeal.nD Cert.KernelSmallCIdeal.τ).loc Cert.KernelSmallCIdeal.main_arg0)
          ∧ r.2.mem ((c.tc : Thread Cert.KernelSmallCIdeal.nD Cert.KernelSmallCIdeal.τ).loc Cert.KernelSmallCIdeal.main_arg1) = m ((c.tc : Thread Cert.KernelSmallCIdeal.nD Cert.KernelSmallCIdeal.τ).loc Cert.KernelSmallCIdeal.main_arg1)
          ∧ r.2.mem ((c.tc : Thread Cert.KernelSmallCIdeal.nD Cert.KernelSmallCIdeal.τ).loc Cert.KernelSmallCIdeal.main_arg2) = m ((c.tc : Thread Cert.KernelSmallCIdeal.nD Cert.KernelSmallCIdeal.τ).loc Cert.KernelSmallCIdeal.main_arg2)
          ∧ r.2.mem ((c.tc : Thread Cert.KernelSmallCIdeal.nD Cert.KernelSmallCIdeal.τ).loc Cert.KernelSmallCIdeal.main_arg3) = m ((c.tc : Thread Cert.KernelSmallCIdeal.nD Cert.KernelSmallCIdeal.τ).loc Cert.KernelSmallCIdeal.main_arg3)
          ∧ r.2.mem ((c.tc : Thread Cert.KernelSmallCIdeal.nD Cert.KernelSmallCIdeal.τ).loc Cert.KernelSmallCIdeal.main_arg4) = m ((c.tc : Thread Cert.KernelSmallCIdeal.nD Cert.KernelSmallCIdeal.τ).loc Cert.KernelSmallCIdeal.main_arg4)
          ∧ r.2.mem ((c.tc : Thread Cert.KernelSmallCIdeal.nD Cert.KernelSmallCIdeal.τ).loc Cert.KernelSmallCIdeal.main_arg5) = m ((c.tc : Thread Cert.KernelSmallCIdeal.nD Cert.KernelSmallCIdeal.τ).loc Cert.KernelSmallCIdeal.main_arg5)
          ∧ r.2.mem ((c.tc : Thread Cert.KernelSmallCIdeal.nD Cert.KernelSmallCIdeal.τ).loc Cert.KernelSmallCIdeal.main_arg6) = m ((c.tc : Thread Cert.KernelSmallCIdeal.nD Cert.KernelSmallCIdeal.τ).loc Cert.KernelSmallCIdeal.main_arg6)
          ∧ r.2.mem ((c.tc : Thread Cert.KernelSmallCIdeal.nD Cert.KernelSmallCIdeal.τ).loc Cert.KernelSmallCIdeal.main_arg7) = m ((c.tc : Thread Cert.KernelSmallCIdeal.nD Cert.KernelSmallCIdeal.τ).loc Cert.KernelSmallCIdeal.main_arg7)
          ∧ r.2.mem ((c.tc : Thread Cert.KernelSmallCIdeal.nD Cert.KernelSmallCIdeal.τ).loc Cert.KernelSmallCIdeal.main_arg8) = m ((c.tc : Thread Cert.KernelSmallCIdeal.nD Cert.KernelSmallCIdeal.τ).loc Cert.KernelSmallCIdeal.main_arg8)
          ∧ r.2.mem ((c.tc : Thread Cert.KernelSmallCIdeal.nD Cert.KernelSmallCIdeal.τ).loc Cert.KernelSmallCIdeal.main_arg9) = m ((c.tc : Thread Cert.KernelSmallCIdeal.nD Cert.KernelSmallCIdeal.τ).loc Cert.KernelSmallCIdeal.main_arg9)
          ∧ r.2.mem ((c.tc : Thread Cert.KernelSmallCIdeal.nD Cert.KernelSmallCIdeal.τ).loc Cert.KernelSmallCIdeal.main_arg10) = m ((c.tc : Thread Cert.KernelSmallCIdeal.nD Cert.KernelSmallCIdeal.τ).loc Cert.KernelSmallCIdeal.main_arg10)
          ∧ r.2.mem ((c.tc : Thread Cert.KernelSmallCIdeal.nD Cert.KernelSmallCIdeal.τ).loc Cert.KernelSmallCIdeal.main_arg11) = m ((c.tc : Thread Cert.KernelSmallCIdeal.nD Cert.KernelSmallCIdeal.τ).loc Cert.KernelSmallCIdeal.main_arg11))
      ∧ θ_run (Cert.ReferenceSmallCIdeal.defs (F := Ideal)) (onTc (τ := Cert.ReferenceSmallCIdeal.τ) (Cert.ReferenceSmallCIdeal.main (F := Ideal))) ⟨m', fun _ => 0, g'⟩ (fun r => ∀ c : Dev Cert.ReferenceSmallCIdeal.nD,
          r.2.mem ((c.tc : Thread Cert.ReferenceSmallCIdeal.nD Cert.ReferenceSmallCIdeal.τ).loc Cert.ReferenceSmallCIdeal.main_v0) = v0 c
          ∧ r.2.mem ((c.tc : Thread Cert.ReferenceSmallCIdeal.nD Cert.ReferenceSmallCIdeal.τ).loc Cert.ReferenceSmallCIdeal.main_v1) = v1 c
          ∧ r.2.mem ((c.tc : Thread Cert.ReferenceSmallCIdeal.nD Cert.ReferenceSmallCIdeal.τ).loc Cert.ReferenceSmallCIdeal.main_v2) = v2 c
          ∧ r.2.mem ((c.tc : Thread Cert.ReferenceSmallCIdeal.nD Cert.ReferenceSmallCIdeal.τ).loc Cert.ReferenceSmallCIdeal.main_v26) = v3 c
          ∧ r.2.mem ((c.tc : Thread Cert.ReferenceSmallCIdeal.nD Cert.ReferenceSmallCIdeal.τ).loc Cert.ReferenceSmallCIdeal.main_v50) = v4 c
          ∧ r.2.mem ((c.tc : Thread Cert.ReferenceSmallCIdeal.nD Cert.ReferenceSmallCIdeal.τ).loc Cert.ReferenceSmallCIdeal.main_v74) = v5 c
          ∧ r.2.mem ((c.tc : Thread Cert.ReferenceSmallCIdeal.nD Cert.ReferenceSmallCIdeal.τ).loc Cert.ReferenceSmallCIdeal.main_v7) = v6 c
          ∧ r.2.mem ((c.tc : Thread Cert.ReferenceSmallCIdeal.nD Cert.ReferenceSmallCIdeal.τ).loc Cert.ReferenceSmallCIdeal.main_v31) = v7 c
          ∧ r.2.mem ((c.tc : Thread Cert.ReferenceSmallCIdeal.nD Cert.ReferenceSmallCIdeal.τ).loc Cert.ReferenceSmallCIdeal.main_v55) = v8 c
          ∧ r.2.mem ((c.tc : Thread Cert.ReferenceSmallCIdeal.nD Cert.ReferenceSmallCIdeal.τ).loc Cert.ReferenceSmallCIdeal.main_v13) = v9 c
          ∧ r.2.mem ((c.tc : Thread Cert.ReferenceSmallCIdeal.nD Cert.ReferenceSmallCIdeal.τ).loc Cert.ReferenceSmallCIdeal.main_v37) = v10 c
          ∧ r.2.mem ((c.tc : Thread Cert.ReferenceSmallCIdeal.nD Cert.ReferenceSmallCIdeal.τ).loc Cert.ReferenceSmallCIdeal.main_v61) = v11 c
          ∧ r.2.mem ((c.tc : Thread Cert.ReferenceSmallCIdeal.nD Cert.ReferenceSmallCIdeal.τ).loc Cert.ReferenceSmallCIdeal.main_arg0) = m' ((c.tc : Thread Cert.ReferenceSmallCIdeal.nD Cert.ReferenceSmallCIdeal.τ).loc Cert.ReferenceSmallCIdeal.main_arg0)
          ∧ r.2.mem ((c.tc : Thread Cert.ReferenceSmallCIdeal.nD Cert.ReferenceSmallCIdeal.τ).loc Cert.ReferenceSmallCIdeal.main_arg1) = m' ((c.tc : Thread Cert.ReferenceSmallCIdeal.nD Cert.ReferenceSmallCIdeal.τ).loc Cert.ReferenceSmallCIdeal.main_arg1)
          ∧ r.2.mem ((c.tc : Thread Cert.ReferenceSmallCIdeal.nD Cert.ReferenceSmallCIdeal.τ).loc Cert.ReferenceSmallCIdeal.main_arg2) = m' ((c.tc : Thread Cert.ReferenceSmallCIdeal.nD Cert.ReferenceSmallCIdeal.τ).loc Cert.ReferenceSmallCIdeal.main_arg2)
          ∧ r.2.mem ((c.tc : Thread Cert.ReferenceSmallCIdeal.nD Cert.ReferenceSmallCIdeal.τ).loc Cert.ReferenceSmallCIdeal.main_arg3) = m' ((c.tc : Thread Cert.ReferenceSmallCIdeal.nD Cert.ReferenceSmallCIdeal.τ).loc Cert.ReferenceSmallCIdeal.main_arg3)
          ∧ r.2.mem ((c.tc : Thread Cert.ReferenceSmallCIdeal.nD Cert.ReferenceSmallCIdeal.τ).loc Cert.ReferenceSmallCIdeal.main_arg4) = m' ((c.tc : Thread Cert.ReferenceSmallCIdeal.nD Cert.ReferenceSmallCIdeal.τ).loc Cert.ReferenceSmallCIdeal.main_arg4)
          ∧ r.2.mem ((c.tc : Thread Cert.ReferenceSmallCIdeal.nD Cert.ReferenceSmallCIdeal.τ).loc Cert.ReferenceSmallCIdeal.main_arg5) = m' ((c.tc : Thread Cert.ReferenceSmallCIdeal.nD Cert.ReferenceSmallCIdeal.τ).loc Cert.ReferenceSmallCIdeal.main_arg5)
          ∧ r.2.mem ((c.tc : Thread Cert.ReferenceSmallCIdeal.nD Cert.ReferenceSmallCIdeal.τ).loc Cert.ReferenceSmallCIdeal.main_arg6) = m' ((c.tc : Thread Cert.ReferenceSmallCIdeal.nD Cert.ReferenceSmallCIdeal.τ).loc Cert.ReferenceSmallCIdeal.main_arg6)
          ∧ r.2.mem ((c.tc : Thread Cert.ReferenceSmallCIdeal.nD Cert.ReferenceSmallCIdeal.τ).loc Cert.ReferenceSmallCIdeal.main_arg7) = m' ((c.tc : Thread Cert.ReferenceSmallCIdeal.nD Cert.ReferenceSmallCIdeal.τ).loc Cert.ReferenceSmallCIdeal.main_arg7)
          ∧ r.2.mem ((c.tc : Thread Cert.ReferenceSmallCIdeal.nD Cert.ReferenceSmallCIdeal.τ).loc Cert.ReferenceSmallCIdeal.main_arg8) = m' ((c.tc : Thread Cert.ReferenceSmallCIdeal.nD Cert.ReferenceSmallCIdeal.τ).loc Cert.ReferenceSmallCIdeal.main_arg8)
          ∧ r.2.mem ((c.tc : Thread Cert.ReferenceSmallCIdeal.nD Cert.ReferenceSmallCIdeal.τ).loc Cert.ReferenceSmallCIdeal.main_arg9) = m' ((c.tc : Thread Cert.ReferenceSmallCIdeal.nD Cert.ReferenceSmallCIdeal.τ).loc Cert.ReferenceSmallCIdeal.main_arg9)
          ∧ r.2.mem ((c.tc : Thread Cert.ReferenceSmallCIdeal.nD Cert.ReferenceSmallCIdeal.τ).loc Cert.ReferenceSmallCIdeal.main_arg10) = m' ((c.tc : Thread Cert.ReferenceSmallCIdeal.nD Cert.ReferenceSmallCIdeal.τ).loc Cert.ReferenceSmallCIdeal.main_arg10)
          ∧ r.2.mem ((c.tc : Thread Cert.ReferenceSmallCIdeal.nD Cert.ReferenceSmallCIdeal.τ).loc Cert.ReferenceSmallCIdeal.main_arg11) = m' ((c.tc : Thread Cert.ReferenceSmallCIdeal.nD Cert.ReferenceSmallCIdeal.τ).loc Cert.ReferenceSmallCIdeal.main_arg11))

def preserves_KernelSmallD_KernelSmallDIdeal : Prop :=
  True

def algebraic_KernelSmallDIdeal_ReferenceSmallDIdeal [hKernelSmallDIdeal : Cert.KernelSmallDIdeal.Facts] [hReferenceSmallDIdeal : Cert.ReferenceSmallDIdeal.Facts] : Prop :=
  ∀ (m : (ℓ : Loc Cert.KernelSmallDIdeal.nD Cert.KernelSmallDIdeal.τ Cert.KernelSmallDIdeal.sig) → Buf (Elt Ideal) ℓ) (g : Dev Cert.KernelSmallDIdeal.nD → PrngReg)
    (m' : (ℓ : Loc Cert.ReferenceSmallDIdeal.nD Cert.ReferenceSmallDIdeal.τ Cert.ReferenceSmallDIdeal.sig) → Buf (Elt Ideal) ℓ) (g' : Dev Cert.ReferenceSmallDIdeal.nD → PrngReg), Pre_KernelSmallDIdeal m →
    (∀ c : Dev Cert.KernelSmallDIdeal.nD,
      m' ((c.tc : Thread Cert.ReferenceSmallDIdeal.nD Cert.ReferenceSmallDIdeal.τ).loc Cert.ReferenceSmallDIdeal.main_arg0) = m ((c.tc : Thread Cert.KernelSmallDIdeal.nD Cert.KernelSmallDIdeal.τ).loc Cert.KernelSmallDIdeal.main_arg0)
      ∧ m' ((c.tc : Thread Cert.ReferenceSmallDIdeal.nD Cert.ReferenceSmallDIdeal.τ).loc Cert.ReferenceSmallDIdeal.main_arg1) = m ((c.tc : Thread Cert.KernelSmallDIdeal.nD Cert.KernelSmallDIdeal.τ).loc Cert.KernelSmallDIdeal.main_arg1)
      ∧ m' ((c.tc : Thread Cert.ReferenceSmallDIdeal.nD Cert.ReferenceSmallDIdeal.τ).loc Cert.ReferenceSmallDIdeal.main_arg2) = m ((c.tc : Thread Cert.KernelSmallDIdeal.nD Cert.KernelSmallDIdeal.τ).loc Cert.KernelSmallDIdeal.main_arg2)
      ∧ m' ((c.tc : Thread Cert.ReferenceSmallDIdeal.nD Cert.ReferenceSmallDIdeal.τ).loc Cert.ReferenceSmallDIdeal.main_arg3) = m ((c.tc : Thread Cert.KernelSmallDIdeal.nD Cert.KernelSmallDIdeal.τ).loc Cert.KernelSmallDIdeal.main_arg3)
      ∧ m' ((c.tc : Thread Cert.ReferenceSmallDIdeal.nD Cert.ReferenceSmallDIdeal.τ).loc Cert.ReferenceSmallDIdeal.main_arg4) = m ((c.tc : Thread Cert.KernelSmallDIdeal.nD Cert.KernelSmallDIdeal.τ).loc Cert.KernelSmallDIdeal.main_arg4)
      ∧ m' ((c.tc : Thread Cert.ReferenceSmallDIdeal.nD Cert.ReferenceSmallDIdeal.τ).loc Cert.ReferenceSmallDIdeal.main_arg5) = m ((c.tc : Thread Cert.KernelSmallDIdeal.nD Cert.KernelSmallDIdeal.τ).loc Cert.KernelSmallDIdeal.main_arg5)
      ∧ m' ((c.tc : Thread Cert.ReferenceSmallDIdeal.nD Cert.ReferenceSmallDIdeal.τ).loc Cert.ReferenceSmallDIdeal.main_arg6) = m ((c.tc : Thread Cert.KernelSmallDIdeal.nD Cert.KernelSmallDIdeal.τ).loc Cert.KernelSmallDIdeal.main_arg6)
      ∧ m' ((c.tc : Thread Cert.ReferenceSmallDIdeal.nD Cert.ReferenceSmallDIdeal.τ).loc Cert.ReferenceSmallDIdeal.main_arg7) = m ((c.tc : Thread Cert.KernelSmallDIdeal.nD Cert.KernelSmallDIdeal.τ).loc Cert.KernelSmallDIdeal.main_arg7)) →
    ∃ (v0 : (c : Dev Cert.KernelSmallDIdeal.nD) → Buf (Elt Ideal) ((c.tc : Thread Cert.KernelSmallDIdeal.nD Cert.KernelSmallDIdeal.τ).loc Cert.KernelSmallDIdeal.main_v0_0)) (v1 : (c : Dev Cert.KernelSmallDIdeal.nD) → Buf (Elt Ideal) ((c.tc : Thread Cert.KernelSmallDIdeal.nD Cert.KernelSmallDIdeal.τ).loc Cert.KernelSmallDIdeal.main_v0_1)) (v2 : (c : Dev Cert.KernelSmallDIdeal.nD) → Buf (Elt Ideal) ((c.tc : Thread Cert.KernelSmallDIdeal.nD Cert.KernelSmallDIdeal.τ).loc Cert.KernelSmallDIdeal.main_v0_2)) (v3 : (c : Dev Cert.KernelSmallDIdeal.nD) → Buf (Elt Ideal) ((c.tc : Thread Cert.KernelSmallDIdeal.nD Cert.KernelSmallDIdeal.τ).loc Cert.KernelSmallDIdeal.main_v0_3)) (v4 : (c : Dev Cert.KernelSmallDIdeal.nD) → Buf (Elt Ideal) ((c.tc : Thread Cert.KernelSmallDIdeal.nD Cert.KernelSmallDIdeal.τ).loc Cert.KernelSmallDIdeal.main_v0_4)) (v5 : (c : Dev Cert.KernelSmallDIdeal.nD) → Buf (Elt Ideal) ((c.tc : Thread Cert.KernelSmallDIdeal.nD Cert.KernelSmallDIdeal.τ).loc Cert.KernelSmallDIdeal.main_v0_5)) (v6 : (c : Dev Cert.KernelSmallDIdeal.nD) → Buf (Elt Ideal) ((c.tc : Thread Cert.KernelSmallDIdeal.nD Cert.KernelSmallDIdeal.τ).loc Cert.KernelSmallDIdeal.main_v0_6)) (v7 : (c : Dev Cert.KernelSmallDIdeal.nD) → Buf (Elt Ideal) ((c.tc : Thread Cert.KernelSmallDIdeal.nD Cert.KernelSmallDIdeal.τ).loc Cert.KernelSmallDIdeal.main_v0_7)),
      θ_run (Cert.KernelSmallDIdeal.defs (F := Ideal)) (onTc (τ := Cert.KernelSmallDIdeal.τ) (Cert.KernelSmallDIdeal.main (F := Ideal))) ⟨m, fun _ => 0, g⟩ (fun r => ∀ c : Dev Cert.KernelSmallDIdeal.nD,
          r.2.mem ((c.tc : Thread Cert.KernelSmallDIdeal.nD Cert.KernelSmallDIdeal.τ).loc Cert.KernelSmallDIdeal.main_v0_0) = v0 c
          ∧ r.2.mem ((c.tc : Thread Cert.KernelSmallDIdeal.nD Cert.KernelSmallDIdeal.τ).loc Cert.KernelSmallDIdeal.main_v0_1) = v1 c
          ∧ r.2.mem ((c.tc : Thread Cert.KernelSmallDIdeal.nD Cert.KernelSmallDIdeal.τ).loc Cert.KernelSmallDIdeal.main_v0_2) = v2 c
          ∧ r.2.mem ((c.tc : Thread Cert.KernelSmallDIdeal.nD Cert.KernelSmallDIdeal.τ).loc Cert.KernelSmallDIdeal.main_v0_3) = v3 c
          ∧ r.2.mem ((c.tc : Thread Cert.KernelSmallDIdeal.nD Cert.KernelSmallDIdeal.τ).loc Cert.KernelSmallDIdeal.main_v0_4) = v4 c
          ∧ r.2.mem ((c.tc : Thread Cert.KernelSmallDIdeal.nD Cert.KernelSmallDIdeal.τ).loc Cert.KernelSmallDIdeal.main_v0_5) = v5 c
          ∧ r.2.mem ((c.tc : Thread Cert.KernelSmallDIdeal.nD Cert.KernelSmallDIdeal.τ).loc Cert.KernelSmallDIdeal.main_v0_6) = v6 c
          ∧ r.2.mem ((c.tc : Thread Cert.KernelSmallDIdeal.nD Cert.KernelSmallDIdeal.τ).loc Cert.KernelSmallDIdeal.main_v0_7) = v7 c
          ∧ r.2.mem ((c.tc : Thread Cert.KernelSmallDIdeal.nD Cert.KernelSmallDIdeal.τ).loc Cert.KernelSmallDIdeal.main_arg0) = m ((c.tc : Thread Cert.KernelSmallDIdeal.nD Cert.KernelSmallDIdeal.τ).loc Cert.KernelSmallDIdeal.main_arg0)
          ∧ r.2.mem ((c.tc : Thread Cert.KernelSmallDIdeal.nD Cert.KernelSmallDIdeal.τ).loc Cert.KernelSmallDIdeal.main_arg1) = m ((c.tc : Thread Cert.KernelSmallDIdeal.nD Cert.KernelSmallDIdeal.τ).loc Cert.KernelSmallDIdeal.main_arg1)
          ∧ r.2.mem ((c.tc : Thread Cert.KernelSmallDIdeal.nD Cert.KernelSmallDIdeal.τ).loc Cert.KernelSmallDIdeal.main_arg2) = m ((c.tc : Thread Cert.KernelSmallDIdeal.nD Cert.KernelSmallDIdeal.τ).loc Cert.KernelSmallDIdeal.main_arg2)
          ∧ r.2.mem ((c.tc : Thread Cert.KernelSmallDIdeal.nD Cert.KernelSmallDIdeal.τ).loc Cert.KernelSmallDIdeal.main_arg3) = m ((c.tc : Thread Cert.KernelSmallDIdeal.nD Cert.KernelSmallDIdeal.τ).loc Cert.KernelSmallDIdeal.main_arg3)
          ∧ r.2.mem ((c.tc : Thread Cert.KernelSmallDIdeal.nD Cert.KernelSmallDIdeal.τ).loc Cert.KernelSmallDIdeal.main_arg4) = m ((c.tc : Thread Cert.KernelSmallDIdeal.nD Cert.KernelSmallDIdeal.τ).loc Cert.KernelSmallDIdeal.main_arg4)
          ∧ r.2.mem ((c.tc : Thread Cert.KernelSmallDIdeal.nD Cert.KernelSmallDIdeal.τ).loc Cert.KernelSmallDIdeal.main_arg5) = m ((c.tc : Thread Cert.KernelSmallDIdeal.nD Cert.KernelSmallDIdeal.τ).loc Cert.KernelSmallDIdeal.main_arg5)
          ∧ r.2.mem ((c.tc : Thread Cert.KernelSmallDIdeal.nD Cert.KernelSmallDIdeal.τ).loc Cert.KernelSmallDIdeal.main_arg6) = m ((c.tc : Thread Cert.KernelSmallDIdeal.nD Cert.KernelSmallDIdeal.τ).loc Cert.KernelSmallDIdeal.main_arg6)
          ∧ r.2.mem ((c.tc : Thread Cert.KernelSmallDIdeal.nD Cert.KernelSmallDIdeal.τ).loc Cert.KernelSmallDIdeal.main_arg7) = m ((c.tc : Thread Cert.KernelSmallDIdeal.nD Cert.KernelSmallDIdeal.τ).loc Cert.KernelSmallDIdeal.main_arg7))
      ∧ θ_run (Cert.ReferenceSmallDIdeal.defs (F := Ideal)) (onTc (τ := Cert.ReferenceSmallDIdeal.τ) (Cert.ReferenceSmallDIdeal.main (F := Ideal))) ⟨m', fun _ => 0, g'⟩ (fun r => ∀ c : Dev Cert.ReferenceSmallDIdeal.nD,
          r.2.mem ((c.tc : Thread Cert.ReferenceSmallDIdeal.nD Cert.ReferenceSmallDIdeal.τ).loc Cert.ReferenceSmallDIdeal.main_v0) = v0 c
          ∧ r.2.mem ((c.tc : Thread Cert.ReferenceSmallDIdeal.nD Cert.ReferenceSmallDIdeal.τ).loc Cert.ReferenceSmallDIdeal.main_v1) = v1 c
          ∧ r.2.mem ((c.tc : Thread Cert.ReferenceSmallDIdeal.nD Cert.ReferenceSmallDIdeal.τ).loc Cert.ReferenceSmallDIdeal.main_v25) = v2 c
          ∧ r.2.mem ((c.tc : Thread Cert.ReferenceSmallDIdeal.nD Cert.ReferenceSmallDIdeal.τ).loc Cert.ReferenceSmallDIdeal.main_v49) = v3 c
          ∧ r.2.mem ((c.tc : Thread Cert.ReferenceSmallDIdeal.nD Cert.ReferenceSmallDIdeal.τ).loc Cert.ReferenceSmallDIdeal.main_v6) = v4 c
          ∧ r.2.mem ((c.tc : Thread Cert.ReferenceSmallDIdeal.nD Cert.ReferenceSmallDIdeal.τ).loc Cert.ReferenceSmallDIdeal.main_v30) = v5 c
          ∧ r.2.mem ((c.tc : Thread Cert.ReferenceSmallDIdeal.nD Cert.ReferenceSmallDIdeal.τ).loc Cert.ReferenceSmallDIdeal.main_v12) = v6 c
          ∧ r.2.mem ((c.tc : Thread Cert.ReferenceSmallDIdeal.nD Cert.ReferenceSmallDIdeal.τ).loc Cert.ReferenceSmallDIdeal.main_v36) = v7 c
          ∧ r.2.mem ((c.tc : Thread Cert.ReferenceSmallDIdeal.nD Cert.ReferenceSmallDIdeal.τ).loc Cert.ReferenceSmallDIdeal.main_arg0) = m' ((c.tc : Thread Cert.ReferenceSmallDIdeal.nD Cert.ReferenceSmallDIdeal.τ).loc Cert.ReferenceSmallDIdeal.main_arg0)
          ∧ r.2.mem ((c.tc : Thread Cert.ReferenceSmallDIdeal.nD Cert.ReferenceSmallDIdeal.τ).loc Cert.ReferenceSmallDIdeal.main_arg1) = m' ((c.tc : Thread Cert.ReferenceSmallDIdeal.nD Cert.ReferenceSmallDIdeal.τ).loc Cert.ReferenceSmallDIdeal.main_arg1)
          ∧ r.2.mem ((c.tc : Thread Cert.ReferenceSmallDIdeal.nD Cert.ReferenceSmallDIdeal.τ).loc Cert.ReferenceSmallDIdeal.main_arg2) = m' ((c.tc : Thread Cert.ReferenceSmallDIdeal.nD Cert.ReferenceSmallDIdeal.τ).loc Cert.ReferenceSmallDIdeal.main_arg2)
          ∧ r.2.mem ((c.tc : Thread Cert.ReferenceSmallDIdeal.nD Cert.ReferenceSmallDIdeal.τ).loc Cert.ReferenceSmallDIdeal.main_arg3) = m' ((c.tc : Thread Cert.ReferenceSmallDIdeal.nD Cert.ReferenceSmallDIdeal.τ).loc Cert.ReferenceSmallDIdeal.main_arg3)
          ∧ r.2.mem ((c.tc : Thread Cert.ReferenceSmallDIdeal.nD Cert.ReferenceSmallDIdeal.τ).loc Cert.ReferenceSmallDIdeal.main_arg4) = m' ((c.tc : Thread Cert.ReferenceSmallDIdeal.nD Cert.ReferenceSmallDIdeal.τ).loc Cert.ReferenceSmallDIdeal.main_arg4)
          ∧ r.2.mem ((c.tc : Thread Cert.ReferenceSmallDIdeal.nD Cert.ReferenceSmallDIdeal.τ).loc Cert.ReferenceSmallDIdeal.main_arg5) = m' ((c.tc : Thread Cert.ReferenceSmallDIdeal.nD Cert.ReferenceSmallDIdeal.τ).loc Cert.ReferenceSmallDIdeal.main_arg5)
          ∧ r.2.mem ((c.tc : Thread Cert.ReferenceSmallDIdeal.nD Cert.ReferenceSmallDIdeal.τ).loc Cert.ReferenceSmallDIdeal.main_arg6) = m' ((c.tc : Thread Cert.ReferenceSmallDIdeal.nD Cert.ReferenceSmallDIdeal.τ).loc Cert.ReferenceSmallDIdeal.main_arg6)
          ∧ r.2.mem ((c.tc : Thread Cert.ReferenceSmallDIdeal.nD Cert.ReferenceSmallDIdeal.τ).loc Cert.ReferenceSmallDIdeal.main_arg7) = m' ((c.tc : Thread Cert.ReferenceSmallDIdeal.nD Cert.ReferenceSmallDIdeal.τ).loc Cert.ReferenceSmallDIdeal.main_arg7))

def preserves_KernelOptOut_KernelOptOutIdeal : Prop :=
  True

def preserves_KernelOptIn_KernelOptInIdeal : Prop :=
  True

def preserves_KernelOptBranch_KernelOptBranchIdeal : Prop :=
  True

def preserves_KernelOptFf_KernelOptFfIdeal : Prop :=
  True

def preserves_KernelOptFirst_KernelOptFirstIdeal : Prop :=
  True

def Claim : Prop :=
  ∃ (hKernel : Cert.Kernel.Facts) (hKernelIdeal : Cert.KernelIdeal.Facts) (hReferenceIdeal : Cert.ReferenceIdeal.Facts) (hKernelAct : Cert.KernelAct.Facts) (hKernelActIdeal : Cert.KernelActIdeal.Facts) (hReferenceActIdeal : Cert.ReferenceActIdeal.Facts) (hKernelDw : Cert.KernelDw.Facts) (hKernelDwIdeal : Cert.KernelDwIdeal.Facts) (hReferenceDwIdeal : Cert.ReferenceDwIdeal.Facts) (hKernelDx : Cert.KernelDx.Facts) (hKernelDxIdeal : Cert.KernelDxIdeal.Facts) (hReferenceDxIdeal : Cert.ReferenceDxIdeal.Facts) (hKernelFwd : Cert.KernelFwd.Facts) (hKernelFwdIdeal : Cert.KernelFwdIdeal.Facts) (hReferenceFwdIdeal : Cert.ReferenceFwdIdeal.Facts) (hKernelMdw : Cert.KernelMdw.Facts) (hKernelMdwIdeal : Cert.KernelMdwIdeal.Facts) (hReferenceMdwIdeal : Cert.ReferenceMdwIdeal.Facts) (hKernelWin : Cert.KernelWin.Facts) (hKernelWinIdeal : Cert.KernelWinIdeal.Facts) (hReferenceWinIdeal : Cert.ReferenceWinIdeal.Facts) (hKernelMx : Cert.KernelMx.Facts) (hKernelMxIdeal : Cert.KernelMxIdeal.Facts) (hReferenceMxIdeal : Cert.ReferenceMxIdeal.Facts) (hKernelGate : Cert.KernelGate.Facts) (hKernelGateIdeal : Cert.KernelGateIdeal.Facts) (hReferenceGateIdeal : Cert.ReferenceGateIdeal.Facts) (hKernelMerge : Cert.KernelMerge.Facts) (hKernelMergeIdeal : Cert.KernelMergeIdeal.Facts) (hReferenceMergeIdeal : Cert.ReferenceMergeIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelLoss : Cert.KernelLoss.Facts) (hKernelLossIdeal : Cert.KernelLossIdeal.Facts) (hReferenceLossIdeal : Cert.ReferenceLossIdeal.Facts) (hKernelIn : Cert.KernelIn.Facts) (hKernelInIdeal : Cert.KernelInIdeal.Facts) (hReferenceInIdeal : Cert.ReferenceInIdeal.Facts) (hKernelSmallA : Cert.KernelSmallA.Facts) (hKernelSmallAIdeal : Cert.KernelSmallAIdeal.Facts) (hReferenceSmallAIdeal : Cert.ReferenceSmallAIdeal.Facts) (hKernelSmallB : Cert.KernelSmallB.Facts) (hKernelSmallBIdeal : Cert.KernelSmallBIdeal.Facts) (hReferenceSmallBIdeal : Cert.ReferenceSmallBIdeal.Facts) (hKernelSmallC : Cert.KernelSmallC.Facts) (hKernelSmallCIdeal : Cert.KernelSmallCIdeal.Facts) (hReferenceSmallCIdeal : Cert.ReferenceSmallCIdeal.Facts) (hKernelSmallD : Cert.KernelSmallD.Facts) (hKernelSmallDIdeal : Cert.KernelSmallDIdeal.Facts) (hReferenceSmallDIdeal : Cert.ReferenceSmallDIdeal.Facts) (hKernelOptOut : Cert.KernelOptOut.Facts) (hKernelOptOutIdeal : Cert.KernelOptOutIdeal.Facts) (hReferenceOptOutIdeal : Cert.ReferenceOptOutIdeal.Facts) (hKernelOptIn : Cert.KernelOptIn.Facts) (hKernelOptInIdeal : Cert.KernelOptInIdeal.Facts) (hReferenceOptInIdeal : Cert.ReferenceOptInIdeal.Facts) (hKernelOptBranch : Cert.KernelOptBranch.Facts) (hKernelOptBranchIdeal : Cert.KernelOptBranchIdeal.Facts) (hReferenceOptBranchIdeal : Cert.ReferenceOptBranchIdeal.Facts) (hKernelOptFf : Cert.KernelOptFf.Facts) (hKernelOptFfIdeal : Cert.KernelOptFfIdeal.Facts) (hReferenceOptFfIdeal : Cert.ReferenceOptFfIdeal.Facts) (hKernelOptFirst : Cert.KernelOptFirst.Facts) (hKernelOptFirstIdeal : Cert.KernelOptFirstIdeal.Facts) (hReferenceOptFirstIdeal : Cert.ReferenceOptFirstIdeal.Facts) (hPre_finite_act : Cert.Pre_finite_act.Facts) (hPre_finite_dx : Cert.Pre_finite_dx.Facts) (hPre_finite_mx : Cert.Pre_finite_mx.Facts),
    quiescent_Kernel (hKernel := hKernel)
    ∧ quiescent_KernelIdeal (hKernelIdeal := hKernelIdeal)
    ∧ quiescent_ReferenceIdeal (hReferenceIdeal := hReferenceIdeal)
    ∧ quiescent_KernelAct (hKernelAct := hKernelAct)
    ∧ quiescent_KernelActIdeal (hKernelActIdeal := hKernelActIdeal)
    ∧ quiescent_KernelActIdeal_pre_finite_act (hKernelActIdeal := hKernelActIdeal) (hPre_finite_act := hPre_finite_act)
    ∧ quiescent_ReferenceActIdeal (hReferenceActIdeal := hReferenceActIdeal)
    ∧ quiescent_ReferenceActIdeal_pre_finite_act (hReferenceActIdeal := hReferenceActIdeal) (hPre_finite_act := hPre_finite_act)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelDx (hKernelDx := hKernelDx)
    ∧ quiescent_KernelDxIdeal (hKernelDxIdeal := hKernelDxIdeal)
    ∧ quiescent_KernelDxIdeal_pre_finite_dx (hKernelDxIdeal := hKernelDxIdeal) (hPre_finite_dx := hPre_finite_dx)
    ∧ quiescent_ReferenceDxIdeal (hReferenceDxIdeal := hReferenceDxIdeal)
    ∧ quiescent_ReferenceDxIdeal_pre_finite_dx (hReferenceDxIdeal := hReferenceDxIdeal) (hPre_finite_dx := hPre_finite_dx)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ quiescent_KernelMdw (hKernelMdw := hKernelMdw)
    ∧ quiescent_KernelMdwIdeal (hKernelMdwIdeal := hKernelMdwIdeal)
    ∧ quiescent_ReferenceMdwIdeal (hReferenceMdwIdeal := hReferenceMdwIdeal)
    ∧ quiescent_KernelWin (hKernelWin := hKernelWin)
    ∧ quiescent_KernelWinIdeal (hKernelWinIdeal := hKernelWinIdeal)
    ∧ quiescent_ReferenceWinIdeal (hReferenceWinIdeal := hReferenceWinIdeal)
    ∧ quiescent_KernelMx (hKernelMx := hKernelMx)
    ∧ quiescent_KernelMxIdeal (hKernelMxIdeal := hKernelMxIdeal)
    ∧ quiescent_KernelMxIdeal_pre_finite_mx (hKernelMxIdeal := hKernelMxIdeal) (hPre_finite_mx := hPre_finite_mx)
    ∧ quiescent_ReferenceMxIdeal (hReferenceMxIdeal := hReferenceMxIdeal)
    ∧ quiescent_ReferenceMxIdeal_pre_finite_mx (hReferenceMxIdeal := hReferenceMxIdeal) (hPre_finite_mx := hPre_finite_mx)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelSmallA (hKernelSmallA := hKernelSmallA)
    ∧ quiescent_KernelSmallAIdeal (hKernelSmallAIdeal := hKernelSmallAIdeal)
    ∧ quiescent_ReferenceSmallAIdeal (hReferenceSmallAIdeal := hReferenceSmallAIdeal)
    ∧ quiescent_KernelSmallB (hKernelSmallB := hKernelSmallB)
    ∧ quiescent_KernelSmallBIdeal (hKernelSmallBIdeal := hKernelSmallBIdeal)
    ∧ quiescent_ReferenceSmallBIdeal (hReferenceSmallBIdeal := hReferenceSmallBIdeal)
    ∧ quiescent_KernelSmallC (hKernelSmallC := hKernelSmallC)
    ∧ quiescent_KernelSmallCIdeal (hKernelSmallCIdeal := hKernelSmallCIdeal)
    ∧ quiescent_ReferenceSmallCIdeal (hReferenceSmallCIdeal := hReferenceSmallCIdeal)
    ∧ quiescent_KernelSmallD (hKernelSmallD := hKernelSmallD)
    ∧ quiescent_KernelSmallDIdeal (hKernelSmallDIdeal := hKernelSmallDIdeal)
    ∧ quiescent_ReferenceSmallDIdeal (hReferenceSmallDIdeal := hReferenceSmallDIdeal)
    ∧ quiescent_KernelOptOut (hKernelOptOut := hKernelOptOut)
    ∧ quiescent_KernelOptOutIdeal (hKernelOptOutIdeal := hKernelOptOutIdeal)
    ∧ quiescent_ReferenceOptOutIdeal (hReferenceOptOutIdeal := hReferenceOptOutIdeal)
    ∧ quiescent_KernelOptIn (hKernelOptIn := hKernelOptIn)
    ∧ quiescent_KernelOptInIdeal (hKernelOptInIdeal := hKernelOptInIdeal)
    ∧ quiescent_ReferenceOptInIdeal (hReferenceOptInIdeal := hReferenceOptInIdeal)
    ∧ quiescent_KernelOptBranch (hKernelOptBranch := hKernelOptBranch)
    ∧ quiescent_KernelOptBranchIdeal (hKernelOptBranchIdeal := hKernelOptBranchIdeal)
    ∧ quiescent_ReferenceOptBranchIdeal (hReferenceOptBranchIdeal := hReferenceOptBranchIdeal)
    ∧ quiescent_KernelOptFf (hKernelOptFf := hKernelOptFf)
    ∧ quiescent_KernelOptFfIdeal (hKernelOptFfIdeal := hKernelOptFfIdeal)
    ∧ quiescent_ReferenceOptFfIdeal (hReferenceOptFfIdeal := hReferenceOptFfIdeal)
    ∧ quiescent_KernelOptFirst (hKernelOptFirst := hKernelOptFirst)
    ∧ quiescent_KernelOptFirstIdeal (hKernelOptFirstIdeal := hKernelOptFirstIdeal)
    ∧ quiescent_ReferenceOptFirstIdeal (hReferenceOptFirstIdeal := hReferenceOptFirstIdeal)
    ∧ preserves_Kernel_KernelIdeal
    ∧ preserves_KernelAct_KernelActIdeal
    ∧ algebraic_KernelActIdeal_ReferenceActIdeal_pre_finite_act (hKernelActIdeal := hKernelActIdeal) (hReferenceActIdeal := hReferenceActIdeal) (hPre_finite_act := hPre_finite_act)
    ∧ preserves_KernelDw_KernelDwIdeal
    ∧ algebraic_KernelDwIdeal_ReferenceDwIdeal (hKernelDwIdeal := hKernelDwIdeal) (hReferenceDwIdeal := hReferenceDwIdeal)
    ∧ preserves_KernelDx_KernelDxIdeal
    ∧ algebraic_KernelDxIdeal_ReferenceDxIdeal_pre_finite_dx (hKernelDxIdeal := hKernelDxIdeal) (hReferenceDxIdeal := hReferenceDxIdeal) (hPre_finite_dx := hPre_finite_dx)
    ∧ preserves_KernelFwd_KernelFwdIdeal
    ∧ algebraic_KernelFwdIdeal_ReferenceFwdIdeal (hKernelFwdIdeal := hKernelFwdIdeal) (hReferenceFwdIdeal := hReferenceFwdIdeal)
    ∧ preserves_KernelMdw_KernelMdwIdeal
    ∧ algebraic_KernelMdwIdeal_ReferenceMdwIdeal (hKernelMdwIdeal := hKernelMdwIdeal) (hReferenceMdwIdeal := hReferenceMdwIdeal)
    ∧ preserves_KernelWin_KernelWinIdeal
    ∧ algebraic_KernelWinIdeal_ReferenceWinIdeal (hKernelWinIdeal := hKernelWinIdeal) (hReferenceWinIdeal := hReferenceWinIdeal)
    ∧ preserves_KernelMx_KernelMxIdeal
    ∧ algebraic_KernelMxIdeal_ReferenceMxIdeal_pre_finite_mx (hKernelMxIdeal := hKernelMxIdeal) (hReferenceMxIdeal := hReferenceMxIdeal) (hPre_finite_mx := hPre_finite_mx)
    ∧ preserves_KernelGate_KernelGateIdeal
    ∧ algebraic_KernelGateIdeal_ReferenceGateIdeal (hKernelGateIdeal := hKernelGateIdeal) (hReferenceGateIdeal := hReferenceGateIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelLoss_KernelLossIdeal
    ∧ algebraic_KernelLossIdeal_ReferenceLossIdeal (hKernelLossIdeal := hKernelLossIdeal) (hReferenceLossIdeal := hReferenceLossIdeal)
    ∧ preserves_KernelIn_KernelInIdeal
    ∧ algebraic_KernelInIdeal_ReferenceInIdeal (hKernelInIdeal := hKernelInIdeal) (hReferenceInIdeal := hReferenceInIdeal)
    ∧ preserves_KernelSmallA_KernelSmallAIdeal
    ∧ algebraic_KernelSmallAIdeal_ReferenceSmallAIdeal (hKernelSmallAIdeal := hKernelSmallAIdeal) (hReferenceSmallAIdeal := hReferenceSmallAIdeal)
    ∧ preserves_KernelSmallB_KernelSmallBIdeal
    ∧ algebraic_KernelSmallBIdeal_ReferenceSmallBIdeal (hKernelSmallBIdeal := hKernelSmallBIdeal) (hReferenceSmallBIdeal := hReferenceSmallBIdeal)
    ∧ preserves_KernelSmallC_KernelSmallCIdeal
    ∧ algebraic_KernelSmallCIdeal_ReferenceSmallCIdeal (hKernelSmallCIdeal := hKernelSmallCIdeal) (hReferenceSmallCIdeal := hReferenceSmallCIdeal)
    ∧ preserves_KernelSmallD_KernelSmallDIdeal
    ∧ algebraic_KernelSmallDIdeal_ReferenceSmallDIdeal (hKernelSmallDIdeal := hKernelSmallDIdeal) (hReferenceSmallDIdeal := hReferenceSmallDIdeal)
    ∧ preserves_KernelOptOut_KernelOptOutIdeal
    ∧ preserves_KernelOptIn_KernelOptInIdeal
    ∧ preserves_KernelOptBranch_KernelOptBranchIdeal
    ∧ preserves_KernelOptFf_KernelOptFfIdeal
    ∧ preserves_KernelOptFirst_KernelOptFirstIdeal
-- ==== Pre_finite_act.lean ====
abbrev S2048x2816 : Shape := ⟨2, ![2048, 2816]⟩
abbrev S3x2816x1024 : Shape := ⟨3, ![3, 2816, 1024]⟩
abbrev S1x2048x1024 : Shape := ⟨3, ![1, 2048, 1024]⟩
abbrev S_ : Shape := ⟨0, ![]⟩

class Facts : Prop where
  bcast_S_S2048x2816 : S_.BroadcastsInDim S2048x2816 (![] : Fin 0 → Fin S2048x2816.rank)
  reducesTo_S2048x2816_S_d0_1 : S2048x2816.ReducesTo [0, 1] S_
  h_S_ : 0 < S_.numel
  bcast_S_S3x2816x1024 : S_.BroadcastsInDim S3x2816x1024 (![] : Fin 0 → Fin S3x2816x1024.rank)
  reducesTo_S3x2816x1024_S_d0_1_2 : S3x2816x1024.ReducesTo [0, 1, 2] S_
  bcast_S_S1x2048x1024 : S_.BroadcastsInDim S1x2048x1024 (![] : Fin 0 → Fin S1x2048x1024.rank)
  reducesTo_S1x2048x1024_S_d0_1_2 : S1x2048x1024.ReducesTo [0, 1, 2] S_

variable [Facts]

def fn_part1 {F : FTy → Type} [FloatOps F] (main_v13 : IVec S_ 1) (main_v16 : IVec S1x2048x1024 1) : IVec S_ 1 :=
  let main_c_5 : IVec S_ 1 := constantI S_ 1 1#1
  let main_v17 : IVec S_ 1 := (fun x v => Host.reduce IntOp.andi x v reducesTo_S1x2048x1024_S_d0_1_2 h_S_) main_v16 main_c_5
  let main_v18 : IVec S_ 1 := andi main_v13 main_v17
  main_v18

def fn {F : FTy → Type} [FloatOps F] (main_arg0 : FVec F S2048x2816 .f32) (main_arg1 : FVec F S2048x2816 .f32) (main_arg2 : FVec F S3x2816x1024 .f32) (main_arg3 : FVec F S1x2048x1024 .f32) : IVec S_ 1 :=
  let main_v0 : FVec F S2048x2816 .f32 := Host.absf main_arg0
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_c : IVec S_ 1 := constantI S_ 1 1#1
  let main_v3 : IVec S_ 1 := (fun x v => Host.reduce IntOp.andi x v reducesTo_S2048x2816_S_d0_1 h_S_) main_v2 main_c
  let main_v4 : FVec F S2048x2816 .f32 := Host.absf main_arg1
  let main_cst_0 : FVec F S_ .f32 := constant S_ .f32 0x7F800000#32
  let main_v5 : FVec F S2048x2816 .f32 := broadcastInDim S2048x2816 ![] bcast_S_S2048x2816 main_cst_0
  let main_v6 : IVec S2048x2816 1 := cmpf .olt main_v4 main_v5
  let main_c_1 : IVec S_ 1 := constantI S_ 1 1#1
  let main_v7 : IVec S_ 1 := (fun x v => Host.reduce IntOp.andi x v reducesTo_S2048x2816_S_d0_1 h_S_) main_v6 main_c_1
  let main_v8 : IVec S_ 1 := andi main_v3 main_v7
  let main_v9 : FVec F S3x2816x1024 .f32 := Host.absf main_arg2
  let main_cst_2 : FVec F S_ .f32 := constant S_ .f32 0x7F800000#32
  let main_v10 : FVec F S3x2816x1024 .f32 := broadcastInDim S3x2816x1024 ![] bcast_S_S3x2816x1024 main_cst_2
  let main_v11 : IVec S3x2816x1024 1 := cmpf .olt main_v9 main_v10
  let main_c_3 : IVec S_ 1 := constantI S_ 1 1#1
  let main_v12 : IVec S_ 1 := (fun x v => Host.reduce IntOp.andi x v reducesTo_S3x2816x1024_S_d0_1_2 h_S_) main_v11 main_c_3
  let main_v13 : IVec S_ 1 := andi main_v8 main_v12
  let main_v14 : FVec F S1x2048x1024 .f32 := Host.absf main_arg3
  let main_cst_4 : FVec F S_ .f32 := constant S_ .f32 0x7F800000#32
  let main_v15 : FVec F S1x2048x1024 .f32 := broadcastInDim S1x2048x1024 ![] bcast_S_S1x2048x1024 main_cst_4
  let main_v16 : IVec S1x2048x1024 1 := cmpf .olt main_v14 main_v15
  fn_part1 (F := F) main_v13 main_v16
-- ==== Pre_finite_dx.lean ====
abbrev S1x2048x1024 : Shape := ⟨3, ![1, 2048, 1024]⟩
abbrev S1024 : Shape := ⟨1, ![1024]⟩
abbrev S3x2816x1024 : Shape := ⟨3, ![3, 2816, 1024]⟩
abbrev S2048x2816 : Shape := ⟨2, ![2048, 2816]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S3x2816x1024 : S_.BroadcastsInDim S3x2816x1024 (![] : Fin 0 → Fin S3x2816x1024.rank)
  reducesTo_S3x2816x1024_S_d0_1_2 : S3x2816x1024.ReducesTo [0, 1, 2] S_
  bcast_S_S2048x2816 : S_.BroadcastsInDim S2048x2816 (![] : Fin 0 → Fin S2048x2816.rank)
  reducesTo_S2048x2816_S_d0_1 : S2048x2816.ReducesTo [0, 1] S_

variable [Facts]

def fn_part1 {F : FTy → Type} [FloatOps F] (main_arg4 : FVec F S2048x2816 .f32) (main_v13 : IVec S_ 1) (main_v16 : IVec S2048x2816 1) : IVec S_ 1 :=
  let main_c_5 : IVec S_ 1 := constantI S_ 1 1#1
  let main_v17 : IVec S_ 1 := (fun x v => Host.reduce IntOp.andi x v reducesTo_S2048x2816_S_d0_1 h_S_) main_v16 main_c_5
  let main_v18 : IVec S_ 1 := andi main_v13 main_v17
  let main_v19 : FVec F S2048x2816 .f32 := Host.absf main_arg4
  let main_cst_6 : FVec F S_ .f32 := constant S_ .f32 0x7F800000#32
  let main_v20 : FVec F S2048x2816 .f32 := broadcastInDim S2048x2816 ![] bcast_S_S2048x2816 main_cst_6
  let main_v21 : IVec S2048x2816 1 := cmpf .olt main_v19 main_v20
  let main_c_7 : IVec S_ 1 := constantI S_ 1 1#1
  let main_v22 : IVec S_ 1 := (fun x v => Host.reduce IntOp.andi x v reducesTo_S2048x2816_S_d0_1 h_S_) main_v21 main_c_7
  let main_v23 : IVec S_ 1 := andi main_v18 main_v22
  main_v23

def fn {F : FTy → Type} [FloatOps F] (main_arg0 : FVec F S1x2048x1024 .f32) (main_arg1 : FVec F S1024 .f32) (main_arg2 : FVec F S3x2816x1024 .f32) (main_arg3 : FVec F S2048x2816 .f32) (main_arg4 : FVec F S2048x2816 .f32) (main_arg5 : FVec F S1x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S3x2816x1024 .f32 := Host.absf main_arg2
  let main_cst_2 : FVec F S_ .f32 := constant S_ .f32 0x7F800000#32
  let main_v10 : FVec F S3x2816x1024 .f32 := broadcastInDim S3x2816x1024 ![] bcast_S_S3x2816x1024 main_cst_2
  let main_v11 : IVec S3x2816x1024 1 := cmpf .olt main_v9 main_v10
  let main_c_3 : IVec S_ 1 := constantI S_ 1 1#1
  let main_v12 : IVec S_ 1 := (fun x v => Host.reduce IntOp.andi x v reducesTo_S3x2816x1024_S_d0_1_2 h_S_) main_v11 main_c_3
  let main_v13 : IVec S_ 1 := andi main_v8 main_v12
  let main_v14 : FVec F S2048x2816 .f32 := Host.absf main_arg3
  let main_cst_4 : FVec F S_ .f32 := constant S_ .f32 0x7F800000#32
  let main_v15 : FVec F S2048x2816 .f32 := broadcastInDim S2048x2816 ![] bcast_S_S2048x2816 main_cst_4
  let main_v16 : IVec S2048x2816 1 := cmpf .olt main_v14 main_v15
  fn_part1 (F := F) main_arg4 main_v13 main_v16
-- ==== Pre_finite_mx.lean ====
abbrev S1x2048x1024 : Shape := ⟨3, ![1, 2048, 1024]⟩
abbrev S1024 : Shape := ⟨1, ![1024]⟩
abbrev S1x4352x1024 : Shape := ⟨3, ![1, 4352, 1024]⟩
abbrev S2048x4352 : Shape := ⟨2, ![2048, 4352]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x4352x1024 : S_.BroadcastsInDim S1x4352x1024 (![] : Fin 0 → Fin S1x4352x1024.rank)
  reducesTo_S1x4352x1024_S_d0_1_2 : S1x4352x1024.ReducesTo [0, 1, 2] S_
  bcast_S_S2048x4352 : S_.BroadcastsInDim S2048x4352 (![] : Fin 0 → Fin S2048x4352.rank)
  reducesTo_S2048x4352_S_d0_1 : S2048x4352.ReducesTo [0, 1] S_

variable [Facts]

def fn_part1 {F : FTy → Type} [FloatOps F] (main_v13 : IVec S_ 1) (main_v16 : IVec S2048x4352 1) : IVec S_ 1 :=
  let main_c_5 : IVec S_ 1 := constantI S_ 1 1#1
  let main_v17 : IVec S_ 1 := (fun x v => Host.reduce IntOp.andi x v reducesTo_S2048x4352_S_d0_1 h_S_) main_v16 main_c_5
  let main_v18 : IVec S_ 1 := andi main_v13 main_v17
  main_v18

def fn {F : FTy → Type} [FloatOps F] (main_arg0 : FVec F S1x2048x1024 .f32) (main_arg1 : FVec F S1024 .f32) (main_arg2 : FVec F S1x4352x1024 .f32) (main_arg3 : FVec F S2048x4352 .f32) (main_arg4 : FVec F S1x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x4352x1024 .f32 := Host.absf main_arg2
  let main_cst_2 : FVec F S_ .f32 := constant S_ .f32 0x7F800000#32
  let main_v10 : FVec F S1x4352x1024 .f32 := broadcastInDim S1x4352x1024 ![] bcast_S_S1x4352x1024 main_cst_2
  let main_v11 : IVec S1x4352x1024 1 := cmpf .olt main_v9 main_v10
  let main_c_3 : IVec S_ 1 := constantI S_ 1 1#1
  let main_v12 : IVec S_ 1 := (fun x v => Host.reduce IntOp.andi x v reducesTo_S1x4352x1024_S_d0_1_2 h_S_) main_v11 main_c_3
  let main_v13 : IVec S_ 1 := andi main_v8 main_v12
  let main_v14 : FVec F S2048x4352 .f32 := Host.absf main_arg3
  let main_cst_4 : FVec F S_ .f32 := constant S_ .f32 0x7F800000#32
  let main_v15 : FVec F S2048x4352 .f32 := broadcastInDim S2048x4352 ![] bcast_S_S2048x4352 main_cst_4
  let main_v16 : IVec S2048x4352 1 := cmpf .olt main_v14 main_v15
  fn_part1 (F := F) main_v13 main_v16
-- ==== Kernel.lean ====
abbrev S1x2048x8x64 : Shape := ⟨4, ![1, 2048, 8, 64]⟩
abbrev S1x2048x2x64 : Shape := ⟨4, ![1, 2048, 2, 64]⟩
abbrev S8x128x384 : Shape := ⟨3, ![8, 128, 384]⟩
abbrev S8 : Shape := ⟨1, ![8]⟩
abbrev S1x2048x512 : Shape := ⟨3, ![1, 2048, 512]⟩
abbrev S1x16x128x2x4x64 : Shape := ⟨6, ![1, 16, 128, 2, 4, 64]⟩
abbrev S_ : Shape := ⟨0, ![]⟩
abbrev S1x128x2x64 : Shape := ⟨4, ![1, 128, 2, 64]⟩
abbrev S1x2304x2x64 : Shape := ⟨4, ![1, 2304, 2, 64]⟩
abbrev S1x18x128x2x64 : Shape := ⟨5, ![1, 18, 128, 2, 64]⟩
abbrev S1x16x128x2x64 : Shape := ⟨5, ![1, 16, 128, 2, 64]⟩
abbrev S1x16x384x2x64 : Shape := ⟨5, ![1, 16, 384, 2, 64]⟩
abbrev S1x2x16x384x128x4 : Shape := ⟨6, ![1, 2, 16, 384, 128, 4]⟩
abbrev S1x2x4x16x128x384 : Shape := ⟨6, ![1, 2, 4, 16, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S16 : Shape := ⟨1, ![16]⟩
abbrev S16x1x1 : Shape := ⟨3, ![16, 1, 1]⟩
abbrev S1x1x384 : Shape := ⟨3, ![1, 1, 384]⟩
abbrev S16x1x384 : Shape := ⟨3, ![16, 1, 384]⟩
abbrev S1x128x384 : Shape := ⟨3, ![1, 128, 384]⟩
abbrev S16x128x384 : Shape := ⟨3, ![16, 128, 384]⟩
abbrev S2x4x1x128x384 : Shape := ⟨5, ![2, 4, 1, 128, 384]⟩
abbrev S1x2x4x1x128x384 : Shape := ⟨6, ![1, 2, 4, 1, 128, 384]⟩
abbrev S2x4x1x1x1 : Shape := ⟨5, ![2, 4, 1, 1, 1]⟩
abbrev S1x2x4x16x128 : Shape := ⟨5, ![1, 2, 4, 16, 128]⟩
abbrev S1x2x4x16x128x1 : Shape := ⟨6, ![1, 2, 4, 16, 128, 1]⟩
abbrev S1x2x4x1x1x1 : Shape := ⟨6, ![1, 2, 4, 1, 1, 1]⟩
abbrev S1x16x2x64x4x128 : Shape := ⟨6, ![1, 16, 2, 64, 4, 128]⟩
abbrev S2048x512 : Shape := ⟨2, ![2048, 512]⟩
abbrev S1x8x128x384 : Shape := ⟨4, ![1, 8, 128, 384]⟩
abbrev S3x8x128x384 : Shape := ⟨4, ![3, 8, 128, 384]⟩
abbrev S3x1024x384 : Shape := ⟨3, ![3, 1024, 384]⟩
abbrev S2048x128 : Shape := ⟨2, ![2048, 128]⟩
abbrev S2048x2176 : Shape := ⟨2, ![2048, 2176]⟩
abbrev S2048x2304 : Shape := ⟨2, ![2048, 2304]⟩
abbrev S1024x384 : Shape := ⟨2, ![1024, 384]⟩
abbrev S1024x128 : Shape := ⟨2, ![1024, 128]⟩
abbrev S2304x128 : Shape := ⟨2, ![2304, 128]⟩
abbrev S128x128 : Shape := ⟨2, ![128, 128]⟩
abbrev S1 : Shape := ⟨1, ![1]⟩
abbrev S1024x1 : Shape := ⟨2, ![1024, 1]⟩
abbrev S128x64 : Shape := ⟨2, ![128, 64]⟩
abbrev S384x64 : Shape := ⟨2, ![384, 64]⟩
abbrev S1x1024x384 : Shape := ⟨3, ![1, 1024, 384]⟩
abbrev S1024 : Shape := ⟨1, ![1024]⟩
abbrev S8x128 : Shape := ⟨2, ![8, 128]⟩

abbrev nBuf : Space → Nat
  | .hbm => 179
  | .vmem => 19
  | .smem => 1
  | _ => 0

abbrev hbmTy0_0 (i : Nat) : BufTy := match i % 128 with
  | 0 => ⟨S1x2048x8x64, .f32⟩
  | 1 => ⟨S1x2048x2x64, .f32⟩
  | 2 => ⟨S1x2048x2x64, .f32⟩
  | 3 => ⟨S8x128x384, .f32⟩
  | 4 => ⟨S8, .f32⟩
  | 5 => ⟨S1x2048x512, .f32⟩
  | 6 => ⟨S1x16x128x2x4x64, .f32⟩
  | 7 => ⟨S_, .f32⟩
  | 8 => ⟨S1x128x2x64, .f32⟩
  | 9 => ⟨S1x2304x2x64, .f32⟩
  | 10 => ⟨S1x18x128x2x64, .f32⟩
  | 11 => ⟨S1x2304x2x64, .f32⟩
  | 12 => ⟨S1x18x128x2x64, .f32⟩
  | 13 => ⟨S1x16x128x2x64, .f32⟩
  | 14 => ⟨S1x16x128x2x64, .f32⟩
  | 15 => ⟨S1x16x128x2x64, .f32⟩
  | 16 => ⟨S1x16x384x2x64, .f32⟩
  | 17 => ⟨S1x16x128x2x64, .f32⟩
  | 18 => ⟨S1x16x128x2x64, .f32⟩
  | 19 => ⟨S1x16x128x2x64, .f32⟩
  | 20 => ⟨S1x16x384x2x64, .f32⟩
  | 21 => ⟨S1x2x16x384x128x4, .f32⟩
  | 22 => ⟨S1x2x4x16x128x384, .f32⟩
  | 23 => ⟨S_, .f32⟩
  | 24 => ⟨S1x2x4x16x128x384, .f32⟩
  | 25 => ⟨S1x2x4x16x128x384, .f32⟩
  | 26 => ⟨S128, .i32⟩
  | 27 => ⟨S128x1, .i32⟩
  | 28 => ⟨S384, .i32⟩
  | 29 => ⟨S1x384, .i32⟩
  | 30 => ⟨S_, .i32⟩
  | 31 => ⟨S1x384, .i32⟩
  | 32 => ⟨S1x384, .i32⟩
  | 33 => ⟨S128x384, .i32⟩
  | 34 => ⟨S128x384, .i32⟩
  | 35 => ⟨S128x384, .i32⟩
  | 36 => ⟨S16, .i32⟩
  | 37 => ⟨S16x1x1, .i32⟩
  | 38 => ⟨S_, .i32⟩
  | 39 => ⟨S16x1x1, .i32⟩
  | 40 => ⟨S16x1x1, .i32⟩
  | 41 => ⟨S_, .i32⟩
  | 42 => ⟨S16x1x1, .i32⟩
  | 43 => ⟨S16x1x1, .i32⟩
  | 44 => ⟨S1x1x384, .i32⟩
  | 45 => ⟨S16x1x384, .i32⟩
  | 46 => ⟨S16x1x384, .i32⟩
  | 47 => ⟨S16x1x384, .i32⟩
  | 48 => ⟨S128x384, .i32⟩
  | 49 => ⟨S1x128x384, .i32⟩
  | 50 => ⟨S_, .i32⟩
  | 51 => ⟨S1x128x384, .i32⟩
  | 52 => ⟨S1x128x384, .i1⟩
  | 53 => ⟨S_, .i32⟩
  | 54 => ⟨S16x1x384, .i32⟩
  | 55 => ⟨S16x1x384, .i1⟩
  | 56 => ⟨S16x128x384, .i1⟩
  | 57 => ⟨S16x128x384, .i1⟩
  | 58 => ⟨S16x128x384, .i1⟩
  | 59 => ⟨S_, .i32⟩
  | 60 => ⟨S16x1x384, .i32⟩
  | 61 => ⟨S16x1x384, .i1⟩
  | 62 => ⟨S16x128x384, .i1⟩
  | 63 => ⟨S16x128x384, .i1⟩
  | 64 => ⟨S2x4x1x128x384, .f32⟩
  | 65 => ⟨S1x2x4x1x128x384, .f32⟩
  | 66 => ⟨S1x2x4x16x128x384, .f32⟩
  | 67 => ⟨S1x2x4x16x128x384, .f32⟩
  | 68 => ⟨S_, .f32⟩
  | 69 => ⟨S_, .f32⟩
  | 70 => ⟨S1x2x4x16x128x384, .i1⟩
  | 71 => ⟨S1x2x4x16x128x384, .f32⟩
  | 72 => ⟨S1x2x4x16x128x384, .f32⟩
  | 73 => ⟨S2x4x1x1x1, .f32⟩
  | 74 => ⟨S_, .f32⟩
  | 75 => ⟨S1x2x4x16x128, .f32⟩
  | 76 => ⟨S1x2x4x16x128x1, .f32⟩
  | 77 => ⟨S1x2x4x1x1x1, .f32⟩
  | 78 => ⟨S1x2x4x16x128x1, .f32⟩
  | 79 => ⟨S1x2x4x16x128x1, .f32⟩
  | 80 => ⟨S1x2x4x16x128x384, .f32⟩
  | 81 => ⟨S1x2x4x16x128x384, .f32⟩
  | 82 => ⟨S1x2x4x16x128x384, .f32⟩
  | 83 => ⟨S_, .f32⟩
  | 84 => ⟨S1x2x4x16x128, .f32⟩
  | 85 => ⟨S1x2x4x16x128x1, .f32⟩
  | 86 => ⟨S1x2x4x1x1x1, .f32⟩
  | 87 => ⟨S1x2x4x16x128x1, .f32⟩
  | 88 => ⟨S1x2x4x16x128x1, .f32⟩
  | 89 => ⟨S1x2x4x16x128x1, .f32⟩
  | 90 => ⟨S1x2x4x16x128x1, .f32⟩
  | 91 => ⟨S1x2x4x16x128x384, .f32⟩
  | 92 => ⟨S1x2x4x16x128x384, .f32⟩
  | 93 => ⟨S1x16x2x64x4x128, .f32⟩
  | 94 => ⟨S1x16x128x2x4x64, .f32⟩
  | 95 => ⟨S1x2048x512, .f32⟩
  | 96 => ⟨S2048x512, .f32⟩
  | 97 => ⟨S2048x512, .bf16⟩
  | 98 => ⟨S128x384, .i32⟩
  | 99 => ⟨S128x384, .i32⟩
  | 100 => ⟨S_, .i32⟩
  | 101 => ⟨S128x384, .i32⟩
  | 102 => ⟨S128x384, .i32⟩
  | 103 => ⟨S128x384, .i32⟩
  | 104 => ⟨S128x384, .i32⟩
  | 105 => ⟨S_, .i32⟩
  | 106 => ⟨S128x384, .i32⟩
  | 107 => ⟨S128x384, .i1⟩
  | 108 => ⟨S_, .i32⟩
  | 109 => ⟨S128x384, .i32⟩
  | 110 => ⟨S128x384, .i1⟩
  | 111 => ⟨S128x384, .i1⟩
  | 112 => ⟨S_, .i32⟩
  | 113 => ⟨S128x384, .i32⟩
  | 114 => ⟨S128x384, .i1⟩
  | 115 => ⟨S128x384, .i1⟩
  | 116 => ⟨S_, .f32⟩
  | 117 => ⟨S_, .f32⟩
  | 118 => ⟨S128x384, .f32⟩
  | 119 => ⟨S128x384, .f32⟩
  | 120 => ⟨S128x384, .f32⟩
  | 121 => ⟨S1x128x384, .f32⟩
  | 122 => ⟨S1x128x384, .f32⟩
  | 123 => ⟨S8x128x384, .f32⟩
  | 124 => ⟨S8x128x384, .f32⟩
  | 125 => ⟨S_, .f32⟩
  | 126 => ⟨S_, .f32⟩
  | 127 => ⟨S128x384, .f32⟩
  | _ => ⟨S1x2048x8x64, .f32⟩

abbrev hbmTy0_1 (i : Nat) : BufTy := match i % 128 with
  | 0 => ⟨S128x384, .f32⟩
  | 1 => ⟨S128x384, .f32⟩
  | 2 => ⟨S1x128x384, .f32⟩
  | 3 => ⟨S1x128x384, .f32⟩
  | 4 => ⟨S8x128x384, .f32⟩
  | 5 => ⟨S8x128x384, .f32⟩
  | 6 => ⟨S_, .f32⟩
  | 7 => ⟨S_, .f32⟩
  | 8 => ⟨S128x384, .f32⟩
  | 9 => ⟨S128x384, .f32⟩
  | 10 => ⟨S128x384, .f32⟩
  | 11 => ⟨S1x128x384, .f32⟩
  | 12 => ⟨S1x128x384, .f32⟩
  | 13 => ⟨S8x128x384, .f32⟩
  | 14 => ⟨S8x128x384, .f32⟩
  | 15 => ⟨S1x8x128x384, .f32⟩
  | 16 => ⟨S1x8x128x384, .f32⟩
  | 17 => ⟨S1x8x128x384, .f32⟩
  | 18 => ⟨S3x8x128x384, .f32⟩
  | 19 => ⟨S3x1024x384, .f32⟩
  | 20 => ⟨S2048x512, .f32⟩
  | 21 => ⟨S_, .f32⟩
  | 22 => ⟨S2048x512, .f32⟩
  | 23 => ⟨S2048x512, .f32⟩
  | 24 => ⟨S2048x512, .bf16⟩
  | 25 => ⟨S2048x128, .f32⟩
  | 26 => ⟨S2048x128, .bf16⟩
  | 27 => ⟨S_, .bf16⟩
  | 28 => ⟨S2048x2176, .bf16⟩
  | 29 => ⟨S2048x128, .f32⟩
  | 30 => ⟨S2048x128, .bf16⟩
  | 31 => ⟨S2048x2304, .bf16⟩
  | 32 => ⟨S2048x512, .f32⟩
  | 33 => ⟨S2048x512, .bf16⟩
  | 34 => ⟨S2048x512, .f32⟩
  | 35 => ⟨S2048x128, .f32⟩
  | 36 => ⟨S2048x128, .f32⟩
  | 37 => ⟨S1024x384, .f32⟩
  | 38 => ⟨S1024x128, .f32⟩
  | 39 => ⟨S_, .f32⟩
  | 40 => ⟨S2048x512, .f32⟩
  | 41 => ⟨S2048x512, .f32⟩
  | 42 => ⟨S1x2048x8x64, .f32⟩
  | 43 => ⟨S1x2048x2x64, .f32⟩
  | 44 => ⟨S1x2048x2x64, .f32⟩
  | 45 => ⟨S8x128x384, .f32⟩
  | 46 => ⟨S1024x1, .f32⟩
  | 47 => ⟨S1024, .f32⟩
  | 48 => ⟨S8x128, .f32⟩
  | 49 => ⟨S_, .f32⟩
  | 50 => ⟨S8, .f32⟩
  | _ => ⟨S1x2048x8x64, .f32⟩

abbrev hbmTy (i : Nat) : BufTy := match i / 128 with
  | 0 => hbmTy0_0 i
  | 1 => hbmTy0_1 i
  | _ => ⟨S1x2048x8x64, .f32⟩

abbrev bufTy : (tb : Table) → Fin (tcTables nBuf tb) → BufTy
  | .hbm, ⟨i, _⟩ => hbmTy i
  | .local _ .vmem, ⟨0, _⟩ => ⟨S2048x512, .bf16⟩
  | .local _ .vmem, ⟨1, _⟩ => ⟨S2048x128, .bf16⟩
  | .local _ .vmem, ⟨2, _⟩ => ⟨S2048x128, .bf16⟩
  | .local _ .vmem, ⟨3, _⟩ => ⟨S3x1024x384, .f32⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | .local _ .vmem, ⟨7, _⟩ => ⟨S2048x128, .f32⟩
  | .local _ .vmem, ⟨8, _⟩ => ⟨S2048x128, .f32⟩
  | .local _ .vmem, ⟨9, _⟩ => ⟨S1024x384, .f32⟩
  | .local _ .vmem, ⟨10, _⟩ => ⟨S1024x128, .f32⟩
  | .local _ .vmem, ⟨11, _⟩ => ⟨S2304x128, .bf16⟩
  | .local _ .vmem, ⟨12, _⟩ => ⟨S2304x128, .bf16⟩
  | .local _ .vmem, ⟨13, _⟩ => ⟨S2304x128, .f32⟩
  | .local _ .vmem, ⟨14, _⟩ => ⟨S2304x128, .f32⟩
  | .local _ .vmem, ⟨15, _⟩ => ⟨S1024x384, .f32⟩
  | .local _ .vmem, ⟨16, _⟩ => ⟨S1024x384, .f32⟩
  | .local _ .vmem, ⟨17, _⟩ => ⟨S1024x384, .bf16⟩
  | .local _ .vmem, ⟨18, _⟩ => ⟨S1024x384, .bf16⟩
  | .local _ .smem, ⟨0, _⟩ => ⟨S8, .f32⟩
  | _, _ => ⟨S1x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_1 : Ref sig .tc := ⟨.hbm, 38, rfl⟩
abbrev main_v29 : Ref sig .tc := ⟨.hbm, 39, rfl⟩
abbrev main_v30 : Ref sig .tc := ⟨.hbm, 40, rfl⟩
abbrev main_c_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_3 : Ref sig .tc := ⟨.hbm, 50, rfl⟩
abbrev main_v39 : Ref sig .tc := ⟨.hbm, 51, rfl⟩
abbrev main_v40 : Ref sig .tc := ⟨.hbm, 52, rfl⟩
abbrev main_c_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_c_9 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_c_10 : Ref sig .tc := ⟨.hbm, 105, rfl⟩
abbrev main_v84 : Ref sig .tc := ⟨.hbm, 106, rfl⟩
abbrev main_v85 : Ref sig .tc := ⟨.hbm, 107, rfl⟩
abbrev main_c_11 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_c_12 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_13 : Ref sig .tc := ⟨.hbm, 116, rfl⟩
abbrev main_cst_14 : Ref sig .tc := ⟨.hbm, 117, rfl⟩
abbrev main_call1_v0 : Ref sig .tc := ⟨.hbm, 118, rfl⟩
abbrev main_call1_v1 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_15 : Ref sig .tc := ⟨.hbm, 125, rfl⟩
abbrev main_cst_16 : Ref sig .tc := ⟨.hbm, 126, rfl⟩
abbrev main_call2_v0 : Ref sig .tc := ⟨.hbm, 127, rfl⟩
abbrev main_call2_v1 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_17 : Ref sig .tc := ⟨.hbm, 134, rfl⟩
abbrev main_cst_18 : Ref sig .tc := ⟨.hbm, 135, rfl⟩
abbrev main_call3_v0 : Ref sig .tc := ⟨.hbm, 136, rfl⟩
abbrev main_call3_v1 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_19 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_20 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124_0 : Ref sig .tc := ⟨.hbm, 162, rfl⟩
abbrev main_v124_1 : Ref sig .tc := ⟨.hbm, 163, rfl⟩
abbrev main_v124_2 : Ref sig .tc := ⟨.hbm, 164, rfl⟩
abbrev main_v124_3 : Ref sig .tc := ⟨.hbm, 165, rfl⟩
abbrev main_v124_4 : Ref sig .tc := ⟨.hbm, 166, rfl⟩
abbrev main_cst_21 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_22 : Ref sig .tc := ⟨.hbm, 177, rfl⟩
abbrev main_v134 : Ref sig .tc := ⟨.hbm, 178, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c16_i32 : BitVec 32 := 16#32
  let v52 : BitVec 32 := Scalar.addi c0_i32 c16_i32
  let c1_i32 : BitVec 32 := 1#32
  ⟨c0_i32, v52, c1_i32⟩
def k0_mult1 (k0_t1 : Fin k0_t1_loop.trips) : BitVec 32 :=
  let c0_i32 : BitVec 32 := 0#32
  let c1_i32 : BitVec 32 := 1#32
  let arg21 : BitVec 32 := Scf.iv c0_i32 c1_i32 k0_t1
  let c128_i32 : BitVec 32 := 128#32
  let v57 : BitVec 32 := Scalar.muli arg21 c128_i32
  v57
def k0_off1 (k0_t1 : Fin k0_t1_loop.trips) : Fin 2 → Nat :=
  let c0_i32 : BitVec 32 := 0#32
  let c1_i32 : BitVec 32 := 1#32
  let arg21 : BitVec 32 := Scf.iv c0_i32 c1_i32 k0_t1
  let c128_i32 : BitVec 32 := 128#32
  let v57 : BitVec 32 := Scalar.muli arg21 c128_i32
  let v58 : BitVec 32 := v57
  let v59 : Index := Scalar.indexCast v58
  let c0_35 : Index := 0#32
  ![v59.toNat, 0]
def k0_off2 (k0_t1 : Fin k0_t1_loop.trips) : Fin 2 → Nat :=
  let c0_i32 : BitVec 32 := 0#32
  let c1_i32 : BitVec 32 := 1#32
  let arg21 : BitVec 32 := Scf.iv c0_i32 c1_i32 k0_t1
  let c128_i32 : BitVec 32 := 128#32
  let v57 : BitVec 32 := Scalar.muli arg21 c128_i32
  let v58 : BitVec 32 := v57
  let v65 : Index := Scalar.indexCast v58
  let c0_37 : Index := 0#32
  ![v65.toNat, 0]
def k0_off3 (k0_t1 : Fin k0_t1_loop.trips) : Fin 2 → Nat :=
  let c0_i32 : BitVec 32 := 0#32
  let c1_i32 : BitVec 32 := 1#32
  let arg21 : BitVec 32 := Scf.iv c0_i32 c1_i32 k0_t1
  let c128_i32 : BitVec 32 := 128#32
  let v57 : BitVec 32 := Scalar.muli arg21 c128_i32
  let v58 : BitVec 32 := v57
  let v85 : Index := Scalar.indexCast v58
  let c64 : Index := 64#32
  ![v85.toNat, 64]
def k0_off4 (k0_t1 : Fin k0_t1_loop.trips) : Fin 2 → Nat :=
  let c0_i32 : BitVec 32 := 0#32
  let c1_i32 : BitVec 32 := 1#32
  let arg21 : BitVec 32 := Scf.iv c0_i32 c1_i32 k0_t1
  let c128_i32 : BitVec 32 := 128#32
  let v57 : BitVec 32 := Scalar.muli arg21 c128_i32
  let v58 : BitVec 32 := v57
  let v111 : Index := Scalar.indexCast v58
  let c128_58 : Index := 128#32
  ![v111.toNat, 128]
def k0_off5 (k0_t1 : Fin k0_t1_loop.trips) : Fin 2 → Nat :=
  let c0_i32 : BitVec 32 := 0#32
  let c1_i32 : BitVec 32 := 1#32
  let arg21 : BitVec 32 := Scf.iv c0_i32 c1_i32 k0_t1
  let c128_i32 : BitVec 32 := 128#32
  let v57 : BitVec 32 := Scalar.muli arg21 c128_i32
  let v58 : BitVec 32 := v57
  let v137 : Index := Scalar.indexCast v58
  let c192 : Index := 192#32
  ![v137.toNat, 192]
def k0_off6 (k0_t1 : Fin k0_t1_loop.trips) : Fin 2 → Nat :=
  let c0_i32 : BitVec 32 := 0#32
  let c1_i32 : BitVec 32 := 1#32
  let arg21 : BitVec 32 := Scf.iv c0_i32 c1_i32 k0_t1
  let c128_i32 : BitVec 32 := 128#32
  let v57 : BitVec 32 := Scalar.muli arg21 c128_i32
  let v58 : BitVec 32 := v57
  let v163 : Index := Scalar.indexCast v58
  let c256_79 : Index := 256#32
  ![v163.toNat, 256]
def k0_off7 (k0_t1 : Fin k0_t1_loop.trips) : Fin 2 → Nat :=
  let c0_i32 : BitVec 32 := 0#32
  let c1_i32 : BitVec 32 := 1#32
  let arg21 : BitVec 32 := Scf.iv c0_i32 c1_i32 k0_t1
  let c128_i32 : BitVec 32 := 128#32
  let v57 : BitVec 32 := Scalar.muli arg21 c128_i32
  let v58 : BitVec 32 := v57
  let v169 : Index := Scalar.indexCast v58
  let c64_81 : Index := 64#32
  ![v169.toNat, 64]
def k0_off8 (k0_t1 : Fin k0_t1_loop.trips) : Fin 2 → Nat :=
  let c0_i32 : BitVec 32 := 0#32
  let c1_i32 : BitVec 32 := 1#32
  let arg21 : BitVec 32 := Scf.iv c0_i32 c1_i32 k0_t1
  let c128_i32 : BitVec 32 := 128#32
  let v57 : BitVec 32 := Scalar.muli arg21 c128_i32
  let v58 : BitVec 32 := v57
  let v189 : Index := Scalar.indexCast v58
  let c320 : Index := 320#32
  ![v189.toNat, 320]
def k0_off9 (k0_t1 : Fin k0_t1_loop.trips) : Fin 2 → Nat :=
  let c0_i32 : BitVec 32 := 0#32
  let c1_i32 : BitVec 32 := 1#32
  let arg21 : BitVec 32 := Scf.iv c0_i32 c1_i32 k0_t1
  let c128_i32 : BitVec 32 := 128#32
  let v57 : BitVec 32 := Scalar.muli arg21 c128_i32
  let v58 : BitVec 32 := v57
  let v215 : Index := Scalar.indexCast v58
  let c384_100 : Index := 384#32
  ![v215.toNat, 384]
def k0_off10 (k0_t1 : Fin k0_t1_loop.trips) : Fin 2 → Nat :=
  let c0_i32 : BitVec 32 := 0#32
  let c1_i32 : BitVec 32 := 1#32
  let arg21 : BitVec 32 := Scf.iv c0_i32 c1_i32 k0_t1
  let c128_i32 : BitVec 32 := 128#32
  let v57 : BitVec 32 := Scalar.muli arg21 c128_i32
  let v58 : BitVec 32 := v57
  let v241 : Index := Scalar.indexCast v58
  let c448 : Index := 448#32
  ![v241.toNat, 448]
def k0_off11 (k0_t1 : Fin k0_t1_loop.trips) : Fin 3 → Nat :=
  let c0_i32 : BitVec 32 := 0#32
  let c1_i32 : BitVec 32 := 1#32
  let arg21 : BitVec 32 := Scf.iv c0_i32 c1_i32 k0_t1
  let c0_i32_123 : BitVec 32 := 0#32
  let v269 : BitVec 1 := Scalar.cmpi .eq arg21 c0_i32_123
  let c0_i32_125 : BitVec 32 := 0#32
  let c15_i32 : BitVec 32 := 15#32
  let v270 : BitVec 1 := Scalar.cmpi .eq arg21 c15_i32
  let c2_i32 : BitVec 32 := 2#32
  let c1_i32_124 : BitVec 32 := 1#32
  let v271 : BitVec 32 := Scalar.select v270 c2_i32 c1_i32_124
  let v272 : BitVec 32 := Scalar.select v269 c0_i32_125 v271
  let v273 : Index := Scalar.indexCast v272
  let c0_126 : Index := 0#32
  let c0_127 : Index := 0#32
  ![v273.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c17_i32 : BitVec 32 := 17#32
  let c0_i32_0 : BitVec 32 := 0#32
  ![c0_i32.toNat, c17_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S1x2048x8x64 : Shape := ⟨4, ![1, 2048, 8, 64]⟩
abbrev S1x2048x2x64 : Shape := ⟨4, ![1, 2048, 2, 64]⟩
abbrev S8x128x384 : Shape := ⟨3, ![8, 128, 384]⟩
abbrev S8 : Shape := ⟨1, ![8]⟩
abbrev S1x2048x512 : Shape := ⟨3, ![1, 2048, 512]⟩
abbrev S1x16x128x2x4x64 : Shape := ⟨6, ![1, 16, 128, 2, 4, 64]⟩
abbrev S_ : Shape := ⟨0, ![]⟩
abbrev S1x128x2x64 : Shape := ⟨4, ![1, 128, 2, 64]⟩
abbrev S1x2304x2x64 : Shape := ⟨4, ![1, 2304, 2, 64]⟩
abbrev S1x18x128x2x64 : Shape := ⟨5, ![1, 18, 128, 2, 64]⟩
abbrev S1x16x128x2x64 : Shape := ⟨5, ![1, 16, 128, 2, 64]⟩
abbrev S1x16x384x2x64 : Shape := ⟨5, ![1, 16, 384, 2, 64]⟩
abbrev S1x2x16x384x128x4 : Shape := ⟨6, ![1, 2, 16, 384, 128, 4]⟩
abbrev S1x2x4x16x128x384 : Shape := ⟨6, ![1, 2, 4, 16, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S16 : Shape := ⟨1, ![16]⟩
abbrev S16x1x1 : Shape := ⟨3, ![16, 1, 1]⟩
abbrev S1x1x384 : Shape := ⟨3, ![1, 1, 384]⟩
abbrev S16x1x384 : Shape := ⟨3, ![16, 1, 384]⟩
abbrev S1x128x384 : Shape := ⟨3, ![1, 128, 384]⟩
abbrev S16x128x384 : Shape := ⟨3, ![16, 128, 384]⟩
abbrev S2x4x1x128x384 : Shape := ⟨5, ![2, 4, 1, 128, 384]⟩
abbrev S1x2x4x1x128x384 : Shape := ⟨6, ![1, 2, 4, 1, 128, 384]⟩
abbrev S2x4x1x1x1 : Shape := ⟨5, ![2, 4, 1, 1, 1]⟩
abbrev S1x2x4x16x128 : Shape := ⟨5, ![1, 2, 4, 16, 128]⟩
abbrev S1x2x4x16x128x1 : Shape := ⟨6, ![1, 2, 4, 16, 128, 1]⟩
abbrev S1x2x4x1x1x1 : Shape := ⟨6, ![1, 2, 4, 1, 1, 1]⟩
abbrev S1x16x2x64x4x128 : Shape := ⟨6, ![1, 16, 2, 64, 4, 128]⟩
abbrev S1x16x2x4x128x384 : Shape := ⟨6, ![1, 16, 2, 4, 128, 384]⟩
abbrev S1x16x2x64x384 : Shape := ⟨5, ![1, 16, 2, 64, 384]⟩
abbrev S1x2x4x1 : Shape := ⟨4, ![1, 2, 4, 1]⟩
abbrev S2x4 : Shape := ⟨2, ![2, 4]⟩
abbrev S2x4x16x128 : Shape := ⟨4, ![2, 4, 16, 128]⟩
abbrev S1x2x4x128x384 : Shape := ⟨5, ![1, 2, 4, 128, 384]⟩
abbrev S2x4x128x384 : Shape := ⟨4, ![2, 4, 128, 384]⟩
abbrev S1x2x16x128x4x64 : Shape := ⟨6, ![1, 2, 16, 128, 4, 64]⟩
abbrev S1x2x16x384x64 : Shape := ⟨5, ![1, 2, 16, 384, 64]⟩

abbrev nBuf : Space → Nat
  | .hbm => 240
  | .vmem => 0
  | .smem => 0
  | _ => 0

abbrev hbmTy0_0 (i : Nat) : BufTy := match i % 128 with
  | 0 => ⟨S1x2048x8x64, .f32⟩
  | 1 => ⟨S1x2048x2x64, .f32⟩
  | 2 => ⟨S1x2048x2x64, .f32⟩
  | 3 => ⟨S8x128x384, .f32⟩
  | 4 => ⟨S8, .f32⟩
  | 5 => ⟨S1x2048x512, .f32⟩
  | 6 => ⟨S1x16x128x2x4x64, .f32⟩
  | 7 => ⟨S_, .f32⟩
  | 8 => ⟨S1x128x2x64, .f32⟩
  | 9 => ⟨S1x2304x2x64, .f32⟩
  | 10 => ⟨S_, .f32⟩
  | 11 => ⟨S1x128x2x64, .f32⟩
  | 12 => ⟨S_, .f32⟩
  | 13 => ⟨S1x128x2x64, .f32⟩
  | 14 => ⟨S1x18x128x2x64, .f32⟩
  | 15 => ⟨S1x2304x2x64, .f32⟩
  | 16 => ⟨S_, .f32⟩
  | 17 => ⟨S1x128x2x64, .f32⟩
  | 18 => ⟨S_, .f32⟩
  | 19 => ⟨S1x128x2x64, .f32⟩
  | 20 => ⟨S1x18x128x2x64, .f32⟩
  | 21 => ⟨S1x16x128x2x64, .f32⟩
  | 22 => ⟨S1x16x128x2x64, .f32⟩
  | 23 => ⟨S1x16x128x2x64, .f32⟩
  | 24 => ⟨S1x16x384x2x64, .f32⟩
  | 25 => ⟨S1x16x128x2x64, .f32⟩
  | 26 => ⟨S1x16x128x2x64, .f32⟩
  | 27 => ⟨S1x16x128x2x64, .f32⟩
  | 28 => ⟨S1x16x384x2x64, .f32⟩
  | 29 => ⟨S1x2x16x384x128x4, .f32⟩
  | 30 => ⟨S1x2x4x16x128x384, .f32⟩
  | 31 => ⟨S_, .f32⟩
  | 32 => ⟨S1x2x4x16x128x384, .f32⟩
  | 33 => ⟨S1x2x4x16x128x384, .f32⟩
  | 34 => ⟨S128, .i32⟩
  | 35 => ⟨S128x1, .i32⟩
  | 36 => ⟨S384, .i32⟩
  | 37 => ⟨S1x384, .i32⟩
  | 38 => ⟨S_, .i32⟩
  | 39 => ⟨S1x384, .i32⟩
  | 40 => ⟨S1x384, .i32⟩
  | 41 => ⟨S128x384, .i32⟩
  | 42 => ⟨S128x384, .i32⟩
  | 43 => ⟨S128x384, .i32⟩
  | 44 => ⟨S16, .i32⟩
  | 45 => ⟨S16x1x1, .i32⟩
  | 46 => ⟨S_, .i32⟩
  | 47 => ⟨S16x1x1, .i32⟩
  | 48 => ⟨S16x1x1, .i32⟩
  | 49 => ⟨S_, .i32⟩
  | 50 => ⟨S16x1x1, .i32⟩
  | 51 => ⟨S16x1x1, .i32⟩
  | 52 => ⟨S1x1x384, .i32⟩
  | 53 => ⟨S16x1x384, .i32⟩
  | 54 => ⟨S16x1x384, .i32⟩
  | 55 => ⟨S16x1x384, .i32⟩
  | 56 => ⟨S128x384, .i32⟩
  | 57 => ⟨S1x128x384, .i32⟩
  | 58 => ⟨S_, .i32⟩
  | 59 => ⟨S1x128x384, .i32⟩
  | 60 => ⟨S1x128x384, .i1⟩
  | 61 => ⟨S_, .i32⟩
  | 62 => ⟨S16x1x384, .i32⟩
  | 63 => ⟨S16x1x384, .i1⟩
  | 64 => ⟨S16x128x384, .i1⟩
  | 65 => ⟨S16x128x384, .i1⟩
  | 66 => ⟨S16x128x384, .i1⟩
  | 67 => ⟨S_, .i32⟩
  | 68 => ⟨S16x1x384, .i32⟩
  | 69 => ⟨S16x1x384, .i1⟩
  | 70 => ⟨S16x128x384, .i1⟩
  | 71 => ⟨S16x128x384, .i1⟩
  | 72 => ⟨S2x4x1x128x384, .f32⟩
  | 73 => ⟨S1x2x4x1x128x384, .f32⟩
  | 74 => ⟨S1x2x4x16x128x384, .f32⟩
  | 75 => ⟨S1x2x4x16x128x384, .f32⟩
  | 76 => ⟨S_, .f32⟩
  | 77 => ⟨S_, .f32⟩
  | 78 => ⟨S1x2x4x16x128x384, .i1⟩
  | 79 => ⟨S1x2x4x16x128x384, .f32⟩
  | 80 => ⟨S1x2x4x16x128x384, .f32⟩
  | 81 => ⟨S_, .f32⟩
  | 82 => ⟨S1x2x4x16x128x384, .f32⟩
  | 83 => ⟨S2x4x1x1x1, .f32⟩
  | 84 => ⟨S_, .f32⟩
  | 85 => ⟨S1x2x4x16x128, .f32⟩
  | 86 => ⟨S1x2x4x16x128x1, .f32⟩
  | 87 => ⟨S1x2x4x16x128x384, .f32⟩
  | 88 => ⟨S1x2x4x16x128x384, .i1⟩
  | 89 => ⟨S1x2x4x16x128x384, .f32⟩
  | 90 => ⟨S_, .f32⟩
  | 91 => ⟨S1x2x4x16x128, .f32⟩
  | 92 => ⟨S1x2x4x16x128x1, .f32⟩
  | 93 => ⟨S1x2x4x1x1x1, .f32⟩
  | 94 => ⟨S1x2x4x16x128x1, .f32⟩
  | 95 => ⟨S1x2x4x16x128x1, .f32⟩
  | 96 => ⟨S1x2x4x16x128x1, .f32⟩
  | 97 => ⟨S1x2x4x16x128x1, .i1⟩
  | 98 => ⟨S1x2x4x16x128x1, .f32⟩
  | 99 => ⟨S1x2x4x16x128x1, .i1⟩
  | 100 => ⟨S_, .f32⟩
  | 101 => ⟨S1x2x4x16x128x1, .f32⟩
  | 102 => ⟨S_, .f32⟩
  | 103 => ⟨S1x2x4x16x128x1, .f32⟩
  | 104 => ⟨S_, .f32⟩
  | 105 => ⟨S1x2x4x16x128x1, .f32⟩
  | 106 => ⟨S1x2x4x16x128x1, .f32⟩
  | 107 => ⟨S1x2x4x16x128x1, .f32⟩
  | 108 => ⟨S1x2x4x16x128x1, .f32⟩
  | 109 => ⟨S1x2x4x16x128x1, .i1⟩
  | 110 => ⟨S1x2x4x16x128x1, .f32⟩
  | 111 => ⟨S1x2x4x16x128x1, .i1⟩
  | 112 => ⟨S_, .f32⟩
  | 113 => ⟨S1x2x4x16x128x1, .f32⟩
  | 114 => ⟨S_, .f32⟩
  | 115 => ⟨S1x2x4x16x128x1, .f32⟩
  | 116 => ⟨S_, .f32⟩
  | 117 => ⟨S1x2x4x16x128x1, .f32⟩
  | 118 => ⟨S1x2x4x16x128x1, .f32⟩
  | 119 => ⟨S1x2x4x16x128x1, .f32⟩
  | 120 => ⟨S1x2x4x16x128x384, .f32⟩
  | 121 => ⟨S1x2x4x16x128x384, .f32⟩
  | 122 => ⟨S1x2x4x16x128x384, .f32⟩
  | 123 => ⟨S_, .f32⟩
  | 124 => ⟨S1x2x4x16x128, .f32⟩
  | 125 => ⟨S1x2x4x16x128x1, .f32⟩
  | 126 => ⟨S1x2x4x1x1x1, .f32⟩
  | 127 => ⟨S1x2x4x16x128x1, .f32⟩
  | _ => ⟨S1x2048x8x64, .f32⟩

abbrev hbmTy0_1 (i : Nat) : BufTy := match i % 128 with
  | 0 => ⟨S1x2x4x16x128x1, .f32⟩
  | 1 => ⟨S1x2x4x16x128x1, .f32⟩
  | 2 => ⟨S1x2x4x16x128x1, .f32⟩
  | 3 => ⟨S1x2x4x16x128x384, .f32⟩
  | 4 => ⟨S1x2x4x16x128x384, .f32⟩
  | 5 => ⟨S1x2x4x16x128x1, .f32⟩
  | 6 => ⟨S_, .f32⟩
  | 7 => ⟨S1x2x4x16x128x1, .f32⟩
  | 8 => ⟨S1x2x4x16x128x1, .f32⟩
  | 9 => ⟨S1x16x2x64x4x128, .f32⟩
  | 10 => ⟨S1x16x128x2x4x64, .f32⟩
  | 11 => ⟨S1x2048x512, .f32⟩
  | 12 => ⟨S1x16x128x2x4x64, .f32⟩
  | 13 => ⟨S1x16x2x64x4x128, .f32⟩
  | 14 => ⟨S1x16x2x4x128x384, .f32⟩
  | 15 => ⟨S1x2x4x16x128x384, .f32⟩
  | 16 => ⟨S1x16x2x64x384, .f32⟩
  | 17 => ⟨S1x16x384x2x64, .f32⟩
  | 18 => ⟨S1x2x4x16x128x384, .f32⟩
  | 19 => ⟨S1x2x4x16x128x384, .f32⟩
  | 20 => ⟨S1x2x4x16x128x384, .f32⟩
  | 21 => ⟨S_, .f32⟩
  | 22 => ⟨S1x2x4x16x128, .f32⟩
  | 23 => ⟨S1x2x4x16x128x1, .f32⟩
  | 24 => ⟨S1x2x4x16x128x1, .f32⟩
  | 25 => ⟨S1x2x4x16x128x384, .f32⟩
  | 26 => ⟨S1x2x4x16x128x384, .f32⟩
  | 27 => ⟨S1x2x4x16x128x1, .f32⟩
  | 28 => ⟨S_, .f32⟩
  | 29 => ⟨S1x2x4x1, .f32⟩
  | 30 => ⟨S1x2x4x1x1x1, .f32⟩
  | 31 => ⟨S1x2x4x16x128x1, .f32⟩
  | 32 => ⟨S_, .f32⟩
  | 33 => ⟨S2x4, .f32⟩
  | 34 => ⟨S2x4x1x1x1, .f32⟩
  | 35 => ⟨S_, .f32⟩
  | 36 => ⟨S2x4x16x128, .f32⟩
  | 37 => ⟨S1x2x4x16x128, .f32⟩
  | 38 => ⟨S1x2x4x16x128x384, .f32⟩
  | 39 => ⟨S1x2x4x16x128x384, .f32⟩
  | 40 => ⟨S1x2x4x16x128x384, .f32⟩
  | 41 => ⟨S1x2x4x16x128x384, .f32⟩
  | 42 => ⟨S_, .f32⟩
  | 43 => ⟨S1x2x4x16x128, .f32⟩
  | 44 => ⟨S1x2x4x16x128x1, .f32⟩
  | 45 => ⟨S1x2x4x16x128x1, .f32⟩
  | 46 => ⟨S1x2x4x16x128x1, .f32⟩
  | 47 => ⟨S_, .f32⟩
  | 48 => ⟨S1x2x4x1, .f32⟩
  | 49 => ⟨S1x2x4x1x1x1, .f32⟩
  | 50 => ⟨S1x2x4x16x128x1, .f32⟩
  | 51 => ⟨S_, .f32⟩
  | 52 => ⟨S2x4, .f32⟩
  | 53 => ⟨S2x4x1x1x1, .f32⟩
  | 54 => ⟨S2x4x1x1x1, .f32⟩
  | 55 => ⟨S_, .f32⟩
  | 56 => ⟨S2x4x16x128, .f32⟩
  | 57 => ⟨S1x2x4x16x128, .f32⟩
  | 58 => ⟨S1x2x4x16x128, .f32⟩
  | 59 => ⟨S1x2x4x16x128x384, .f32⟩
  | 60 => ⟨S1x2x4x16x128x384, .f32⟩
  | 61 => ⟨S1x2x4x16x128x384, .f32⟩
  | 62 => ⟨S8, .f32⟩
  | 63 => ⟨S_, .f32⟩
  | 64 => ⟨S1x2x4x16x128x384, .f32⟩
  | 65 => ⟨S1x2x4x16x128x384, .f32⟩
  | 66 => ⟨S_, .f32⟩
  | 67 => ⟨S1x2x4x128x384, .f32⟩
  | 68 => ⟨S1x2x4x1x128x384, .f32⟩
  | 69 => ⟨S_, .f32⟩
  | 70 => ⟨S2x4x128x384, .f32⟩
  | 71 => ⟨S2x4x1x128x384, .f32⟩
  | 72 => ⟨S8x128x384, .f32⟩
  | 73 => ⟨S_, .f32⟩
  | 74 => ⟨S1x2x4x16x128x384, .f32⟩
  | 75 => ⟨S1x2x4x16x128x384, .f32⟩
  | 76 => ⟨S1x2x16x384x128x4, .f32⟩
  | 77 => ⟨S1x2x16x128x4x64, .f32⟩
  | 78 => ⟨S1x16x128x2x4x64, .f32⟩
  | 79 => ⟨S1x2x16x384x64, .f32⟩
  | 80 => ⟨S1x16x384x2x64, .f32⟩
  | 81 => ⟨S1x16x128x2x64, .f32⟩
  | 82 => ⟨S1x16x128x2x64, .f32⟩
  | 83 => ⟨S1x16x128x2x64, .f32⟩
  | 84 => ⟨S_, .f32⟩
  | 85 => ⟨S1x18x128x2x64, .f32⟩
  | 86 => ⟨S_, .f32⟩
  | 87 => ⟨S1x18x128x2x64, .f32⟩
  | 88 => ⟨S1x18x128x2x64, .f32⟩
  | 89 => ⟨S_, .f32⟩
  | 90 => ⟨S1x18x128x2x64, .f32⟩
  | 91 => ⟨S1x18x128x2x64, .f32⟩
  | 92 => ⟨S1x16x128x2x64, .f32⟩
  | 93 => ⟨S1x16x128x2x64, .f32⟩
  | 94 => ⟨S1x16x128x2x64, .f32⟩
  | 95 => ⟨S_, .f32⟩
  | 96 => ⟨S1x18x128x2x64, .f32⟩
  | 97 => ⟨S_, .f32⟩
  | 98 => ⟨S1x18x128x2x64, .f32⟩
  | 99 => ⟨S1x18x128x2x64, .f32⟩
  | 100 => ⟨S_, .f32⟩
  | 101 => ⟨S1x18x128x2x64, .f32⟩
  | 102 => ⟨S1x18x128x2x64, .f32⟩
  | 103 => ⟨S1x2304x2x64, .f32⟩
  | 104 => ⟨S1x128x2x64, .f32⟩
  | 105 => ⟨S1x2048x2x64, .f32⟩
  | 106 => ⟨S1x128x2x64, .f32⟩
  | 107 => ⟨S1x2304x2x64, .f32⟩
  | 108 => ⟨S1x128x2x64, .f32⟩
  | 109 => ⟨S1x2048x2x64, .f32⟩
  | 110 => ⟨S1x128x2x64, .f32⟩
  | 111 => ⟨S1x2048x8x64, .f32⟩
  | _ => ⟨S1x2048x8x64, .f32⟩

abbrev hbmTy (i : Nat) : BufTy := match i / 128 with
  | 0 => hbmTy0_0 i
  | 1 => hbmTy0_1 i
  | _ => ⟨S1x2048x8x64, .f32⟩

abbrev bufTy : (tb : Table) → Fin (tcTables nBuf tb) → BufTy
  | .hbm, ⟨i, _⟩ => hbmTy i
  | _, _ => ⟨S1x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_call0_v0 : Ref sig .tc := ⟨.hbm, 77, rfl⟩
abbrev main_v58_1 : Ref sig .tc := ⟨.hbm, 78, rfl⟩
abbrev main_call0_v2 : Ref sig .tc := ⟨.hbm, 79, rfl⟩
abbrev main_v58_0 : Ref sig .tc := ⟨.hbm, 80, rfl⟩
abbrev main_call0_cst : Ref sig .tc := ⟨.hbm, 81, rfl⟩
abbrev main_v58_2 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_16 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_cst_18 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_19 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_20 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_21 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_22 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_cst_23 : Ref sig .tc := ⟨.hbm, 160, rfl⟩
abbrev main_v124 : Ref sig .tc := ⟨.hbm, 161, rfl⟩
abbrev main_v125 : Ref sig .tc := ⟨.hbm, 162, rfl⟩
abbrev main_cst_24 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_25 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_cst_26 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_27 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_28 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_call1_cst : Ref sig .tc := ⟨.hbm, 191, rfl⟩
abbrev main_call1_v0 : Ref sig .tc := ⟨.hbm, 192, rfl⟩
abbrev main_v149 : Ref sig .tc := ⟨.hbm, 193, rfl⟩
abbrev main_cst_29 : Ref sig .tc := ⟨.hbm, 194, rfl⟩
abbrev main_v150 : Ref sig .tc := ⟨.hbm, 195, rfl⟩
abbrev main_v151 : Ref sig .tc := ⟨.hbm, 196, rfl⟩
abbrev main_cst_30 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_31 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_cst_32 : Ref sig .tc := ⟨.hbm, 212, rfl⟩
abbrev main_v165 : Ref sig .tc := ⟨.hbm, 213, rfl⟩
abbrev main_cst_33 : Ref sig .tc := ⟨.hbm, 214, rfl⟩
abbrev main_v166 : Ref sig .tc := ⟨.hbm, 215, rfl⟩
abbrev main_v167 : Ref sig .tc := ⟨.hbm, 216, rfl⟩
abbrev main_cst_34 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_cst_35 : Ref sig .tc := ⟨.hbm, 223, rfl⟩
abbrev main_v173 : Ref sig .tc := ⟨.hbm, 224, rfl⟩
abbrev main_cst_36 : Ref sig .tc := ⟨.hbm, 225, rfl⟩
abbrev main_v174 : Ref sig .tc := ⟨.hbm, 226, rfl⟩
abbrev main_v175 : Ref sig .tc := ⟨.hbm, 227, rfl⟩
abbrev main_cst_37 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩

abbrev nD : Nat := 1
abbrev τ : Topo := Topo.v7x

variable {F : FTy → Type} [FloatOps F]
-- ==== KernelAct.lean ====
abbrev S2048x2816 : Shape := ⟨2, ![2048, 2816]⟩
abbrev S3x2816x1024 : Shape := ⟨3, ![3, 2816, 1024]⟩
abbrev S1x2048x1024 : Shape := ⟨3, ![1, 2048, 1024]⟩
abbrev S_ : Shape := ⟨0, ![]⟩
abbrev S2048x1024 : Shape := ⟨2, ![2048, 1024]⟩
abbrev S512x1024 : Shape := ⟨2, ![512, 1024]⟩
abbrev S1x2816x1024 : Shape := ⟨3, ![1, 2816, 1024]⟩
abbrev S512x2816 : Shape := ⟨2, ![512, 2816]⟩
abbrev S1x256x1024 : Shape := ⟨3, ![1, 256, 1024]⟩
abbrev S256x1024 : Shape := ⟨2, ![256, 1024]⟩
abbrev S512x256 : Shape := ⟨2, ![512, 256]⟩

abbrev nBuf : Space → Nat
  | .hbm => 26
  | .vmem => 13
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S3x2816x1024, .f32⟩
  | .hbm, ⟨3, _⟩ => ⟨S1x2048x1024, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .bf16⟩
  | .hbm, ⟨20, _⟩ => ⟨S2048x1024, .f32⟩
  | .hbm, ⟨21, _⟩ => ⟨S3x2816x1024, .bf16⟩
  | .hbm, ⟨22, _⟩ => ⟨S2048x2816, .bf16⟩
  | .hbm, ⟨23, _⟩ => ⟨S2048x1024, .bf16⟩
  | .hbm, ⟨24, _⟩ => ⟨S2048x2816, .bf16⟩
  | .hbm, ⟨25, _⟩ => ⟨S2048x2816, .bf16⟩
  | .local _ .vmem, ⟨0, _⟩ => ⟨S512x1024, .f32⟩
  | .local _ .vmem, ⟨1, _⟩ => ⟨S512x1024, .f32⟩
  | .local _ .vmem, ⟨2, _⟩ => ⟨S1x2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x1024, .bf16⟩
  | .local _ .vmem, ⟨8, _⟩ => ⟨S512x1024, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceActIdeal.lean ====
abbrev S2048x2816 : Shape := ⟨2, ![2048, 2816]⟩
abbrev S3x2816x1024 : Shape := ⟨3, ![3, 2816, 1024]⟩
abbrev S1x2048x1024 : Shape := ⟨3, ![1, 2048, 1024]⟩
abbrev S_ : Shape := ⟨0, ![]⟩
abbrev S1x2816x1024 : Shape := ⟨3, ![1, 2816, 1024]⟩
abbrev S2816x1024 : Shape := ⟨2, ![2816, 1024]⟩
abbrev S2048x1024 : Shape := ⟨2, ![2048, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S3x2816x1024, .f32⟩
  | .hbm, ⟨3, _⟩ => ⟨S1x2048x1024, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S1x2816x1024, .f32⟩
  | .hbm, ⟨19, _⟩ => ⟨S2816x1024, .f32⟩
  | .hbm, ⟨20, _⟩ => ⟨S2048x1024, .f32⟩
  | .hbm, ⟨21, _⟩ => ⟨S1x2048x1024, .f32⟩
  | .hbm, ⟨22, _⟩ => ⟨S_, .f32⟩
  | .hbm, ⟨23, _⟩ => ⟨S1x2048x1024, .f32⟩
  | .hbm, ⟨24, _⟩ => ⟨S1x2048x1024, .f32⟩
  | .hbm, ⟨25, _⟩ => ⟨S_, .f32⟩
  | .hbm, ⟨26, _⟩ => ⟨S1x2048x1024, .f32⟩
  | .hbm, ⟨27, _⟩ => ⟨S1x2048x1024, .f32⟩
  | .hbm, ⟨28, _⟩ => ⟨S_, .f32⟩
  | .hbm, ⟨29, _⟩ => ⟨S2048x1024, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x2816, .bf16⟩
  | .hbm, ⟨38, _⟩ => ⟨S2048x2816, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩

abbrev nD : Nat := 1
abbrev τ : Topo := Topo.v7x

variable {F : FTy → Type} [FloatOps F]
-- ==== KernelDw.lean ====
abbrev S2048x1024 : Shape := ⟨2, ![2048, 1024]⟩
abbrev S2048x2816 : Shape := ⟨2, ![2048, 2816]⟩
abbrev S1x2048x1024 : Shape := ⟨3, ![1, 2048, 1024]⟩
abbrev S2816x1024 : Shape := ⟨2, ![2816, 1024]⟩
abbrev S2048x256 : Shape := ⟨2, ![2048, 256]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S1x2048x1024, .f32⟩
  | .hbm, ⟨5, _⟩ => ⟨S2048x1024, .bf16⟩
  | .hbm, ⟨6, _⟩ => ⟨S2048x2816, .bf16⟩
  | .hbm, ⟨7, _⟩ => ⟨S2048x2816, .bf16⟩
  | .hbm, ⟨8, _⟩ => ⟨S2048x2816, .bf16⟩
  | .hbm, ⟨9, _⟩ => ⟨S2048x1024, .f32⟩
  | .hbm, ⟨10, _⟩ => ⟨S2048x1024, .bf16⟩
  | .hbm, ⟨11, _⟩ => ⟨S2816x1024, .bf16⟩
  | .hbm, ⟨12, _⟩ => ⟨S2816x1024, .bf16⟩
  | .hbm, ⟨13, _⟩ => ⟨S2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x1024, .bf16⟩
  | .local _ .vmem, ⟨7, _⟩ => ⟨S2048x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceDwIdeal.lean ====
abbrev S2048x1024 : Shape := ⟨2, ![2048, 1024]⟩
abbrev S2048x2816 : Shape := ⟨2, ![2048, 2816]⟩
abbrev S1x2048x1024 : Shape := ⟨3, ![1, 2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S1x2048x1024, .f32⟩
  | .hbm, ⟨5, _⟩ => ⟨S_, .f32⟩
  | .hbm, ⟨6, _⟩ => ⟨S2816x1024, .f32⟩
  | .hbm, ⟨7, _⟩ => ⟨S1024x2816, .f32⟩
  | .hbm, ⟨8, _⟩ => ⟨S2048x2816, .f32⟩
  | .hbm, ⟨9, _⟩ => ⟨S1024x2816, .f32⟩
  | .hbm, ⟨10, _⟩ => ⟨S2048x2816, .f32⟩
  | .hbm, ⟨11, _⟩ => ⟨S2048x1024, .f32⟩
  | .hbm, ⟨12, _⟩ => ⟨S1x2048x1024, .f32⟩
  | .hbm, ⟨13, _⟩ => ⟨S_, .f32⟩
  | .hbm, ⟨14, _⟩ => ⟨S1x2048x1024, .f32⟩
  | .hbm, ⟨15, _⟩ => ⟨S1x2048x1024, .f32⟩
  | .hbm, ⟨16, _⟩ => ⟨S_, .f32⟩
  | .hbm, ⟨17, _⟩ => ⟨S1x2048x1024, .f32⟩
  | .hbm, ⟨18, _⟩ => ⟨S1x2048x1024, .f32⟩
  | .hbm, ⟨19, _⟩ => ⟨S_, .f32⟩
  | .hbm, ⟨20, _⟩ => ⟨S2048x1024, .f32⟩
  | .hbm, ⟨21, _⟩ => ⟨S1024x2816, .f32⟩
  | .hbm, ⟨22, _⟩ => ⟨S2816x1024, .f32⟩
  | .hbm, ⟨23, _⟩ => ⟨S2816x1024, .f32⟩
  | .hbm, ⟨24, _⟩ => ⟨S1024x2816, .f32⟩
  | .hbm, ⟨25, _⟩ => ⟨S2816x1024, .f32⟩
  | .hbm, ⟨26, _⟩ => ⟨S2816x1024, .f32⟩
  | .hbm, ⟨27, _⟩ => ⟨S1024x2816, .f32⟩
  | .hbm, ⟨28, _⟩ => ⟨S2816x1024, .f32⟩
  | .hbm, ⟨29, _⟩ => ⟨S2816x1024, .bf16⟩
  | .hbm, ⟨30, _⟩ => ⟨S2816x1024, .bf16⟩
  | .hbm, ⟨31, _⟩ => ⟨S2816x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== KernelDx.lean ====
abbrev S1x2048x1024 : Shape := ⟨3, ![1, 2048, 1024]⟩
abbrev S1024 : Shape := ⟨1, ![1024]⟩
abbrev S3x2816x1024 : Shape := ⟨3, ![3, 2816, 1024]⟩
abbrev S2048x2816 : Shape := ⟨2, ![2048, 2816]⟩
abbrev S2048x1024 : Shape := ⟨2, ![2048, 1024]⟩
abbrev S1x1024 : Shape := ⟨2, ![1, 1024]⟩
abbrev S_ : Shape := ⟨0, ![]⟩
abbrev S8x128 : Shape := ⟨2, ![8, 128]⟩
abbrev S256x2816 : Shape := ⟨2, ![256, 2816]⟩
abbrev S1x2816x1024 : Shape := ⟨3, ![1, 2816, 1024]⟩
abbrev S256x1024 : Shape := ⟨2, ![256, 1024]⟩
abbrev S2816x1024 : Shape := ⟨2, ![2816, 1024]⟩
abbrev S256 : Shape := ⟨1, ![256]⟩
abbrev S256x1 : Shape := ⟨2, ![256, 1]⟩

abbrev nBuf : Space → Nat
  | .hbm => 16
  | .vmem => 15
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S3x2816x1024, .f32⟩
  | .hbm, ⟨3, _⟩ => ⟨S2048x2816, .f32⟩
  | .hbm, ⟨4, _⟩ => ⟨S2048x2816, .f32⟩
  | .hbm, ⟨5, _⟩ => ⟨S1x2048x1024, .f32⟩
  | .hbm, ⟨6, _⟩ => ⟨S3x2816x1024, .bf16⟩
  | .hbm, ⟨7, _⟩ => ⟨S2048x2816, .bf16⟩
  | .hbm, ⟨8, _⟩ => ⟨S2048x2816, .bf16⟩
  | .hbm, ⟨9, _⟩ => ⟨S2048x1024, .f32⟩
  | .hbm, ⟨10, _⟩ => ⟨S1x1024, .f32⟩
  | .hbm, ⟨11, _⟩ => ⟨S2048x1024, .f32⟩
  | .hbm, ⟨12, _⟩ => ⟨S_, .f32⟩
  | .hbm, ⟨13, _⟩ => ⟨S8x128, .f32⟩
  | .hbm, ⟨14, _⟩ => ⟨S2048x1024, .f32⟩
  | .hbm, ⟨15, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S1x2816x1024, .bf16⟩
  | .local _ .vmem, ⟨5, _⟩ => ⟨S1x2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S8x128, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceDxIdeal.lean ====
abbrev S1x2048x1024 : Shape := ⟨3, ![1, 2048, 1024]⟩
abbrev S1024 : Shape := ⟨1, ![1024]⟩
abbrev S3x2816x1024 : Shape := ⟨3, ![3, 2816, 1024]⟩
abbrev S2048x2816 : Shape := ⟨2, ![2048, 2816]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x2816x1024 : Shape := ⟨3, ![1, 2816, 1024]⟩
abbrev S2816x1024 : Shape := ⟨2, ![2816, 1024]⟩
abbrev S1024x2816 : Shape := ⟨2, ![1024, 2816]⟩

abbrev nBuf : Space → Nat
  | .hbm => 67
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S3x2816x1024, .f32⟩
  | .hbm, ⟨3, _⟩ => ⟨S2048x2816, .f32⟩
  | .hbm, ⟨4, _⟩ => ⟨S2048x2816, .f32⟩
  | .hbm, ⟨5, _⟩ => ⟨S1x2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S1x2816x1024, .f32⟩
  | .hbm, ⟨28, _⟩ => ⟨S2816x1024, .f32⟩
  | .hbm, ⟨29, _⟩ => ⟨S1024x2816, .f32⟩
  | .hbm, ⟨30, _⟩ => ⟨S2048x2816, .f32⟩
  | .hbm, ⟨31, _⟩ => ⟨S1x2816x1024, .f32⟩
  | .hbm, ⟨32, _⟩ => ⟨S2816x1024, .f32⟩
  | .hbm, ⟨33, _⟩ => ⟨S1024x2816, .f32⟩
  | .hbm, ⟨34, _⟩ => ⟨S2048x2816, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S2048x1024, .f32⟩
  | .hbm, ⟨47, _⟩ => ⟨S_, .f32⟩
  | .hbm, ⟨48, _⟩ => ⟨S2048, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S1x2048x1024, .f32⟩
  | .hbm, ⟨64, _⟩ => ⟨S1x2048x1024, .f32⟩
  | .hbm, ⟨65, _⟩ => ⟨S2048x1024, .f32⟩
  | .hbm, ⟨66, _⟩ => ⟨S1x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== KernelFwd.lean ====
abbrev S1x2048x1024 : Shape := ⟨3, ![1, 2048, 1024]⟩
abbrev S1024 : Shape := ⟨1, ![1024]⟩
abbrev S3x2816x1024 : Shape := ⟨3, ![3, 2816, 1024]⟩
abbrev S2048x1024 : Shape := ⟨2, ![2048, 1024]⟩
abbrev S1x1024 : Shape := ⟨2, ![1, 1024]⟩
abbrev S_ : Shape := ⟨0, ![]⟩
abbrev S8x128 : Shape := ⟨2, ![8, 128]⟩
abbrev S2048x2816 : Shape := ⟨2, ![2048, 2816]⟩
abbrev S256x1024 : Shape := ⟨2, ![256, 1024]⟩
abbrev S1x2816x1024 : Shape := ⟨3, ![1, 2816, 1024]⟩
abbrev S256x2816 : Shape := ⟨2, ![256, 2816]⟩
abbrev S256 : Shape := ⟨1, ![256]⟩
abbrev S256x1 : Shape := ⟨2, ![256, 1]⟩
abbrev S1x256x1024 : Shape := ⟨3, ![1, 256, 1024]⟩
abbrev S256x256 : Shape := ⟨2, ![256, 256]⟩
abbrev S2816x1024 : Shape := ⟨2, ![2816, 1024]⟩

abbrev nBuf : Space → Nat
  | .hbm => 13
  | .vmem => 17
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S3x2816x1024, .f32⟩
  | .hbm, ⟨3, _⟩ => ⟨S3x2816x1024, .bf16⟩
  | .hbm, ⟨4, _⟩ => ⟨S2048x1024, .f32⟩
  | .hbm, ⟨5, _⟩ => ⟨S1x1024, .f32⟩
  | .hbm, ⟨6, _⟩ => ⟨S_, .f32⟩
  | .hbm, ⟨7, _⟩ => ⟨S8x128, .f32⟩
  | .hbm, ⟨8, _⟩ => ⟨S2048x1024, .f32⟩
  | .hbm, ⟨9, _⟩ => ⟨S2048x1024, .bf16⟩
  | .hbm, ⟨10, _⟩ => ⟨S2048x2816, .bf16⟩
  | .hbm, ⟨11, _⟩ => ⟨S2048x2816, .bf16⟩
  | .hbm, ⟨12, _⟩ => ⟨S2048x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x2816x1024, .bf16⟩
  | .local _ .vmem, ⟨4, _⟩ => ⟨S1x2816x1024, .bf16⟩
  | .local _ .vmem, ⟨5, _⟩ => ⟨S1x2816x1024, .bf16⟩
  | .local _ .vmem, ⟨6, _⟩ => ⟨S8x128, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceFwdIdeal.lean ====
abbrev S1x2048x1024 : Shape := ⟨3, ![1, 2048, 1024]⟩
abbrev S1024 : Shape := ⟨1, ![1024]⟩
abbrev S3x2816x1024 : Shape := ⟨3, ![3, 2816, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2816x1024 : Shape := ⟨3, ![1, 2816, 1024]⟩
abbrev S2816x1024 : Shape := ⟨2, ![2816, 1024]⟩
abbrev S1024x2816 : Shape := ⟨2, ![1024, 2816]⟩
abbrev S1x2048x2816 : Shape := ⟨3, ![1, 2048, 2816]⟩
abbrev S2048x1024 : Shape := ⟨2, ![2048, 1024]⟩

abbrev nBuf : Space → Nat
  | .hbm => 45
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S3x2816x1024, .f32⟩
  | .hbm, ⟨3, _⟩ => ⟨S1x2048x1024, .f32⟩
  | .hbm, ⟨4, _⟩ => ⟨S_, .f32⟩
  | .hbm, ⟨5, _⟩ => ⟨S1x2048, .f32⟩
  | .hbm, ⟨6, _⟩ => ⟨S1x2048x1, .f32⟩
  | .hbm, ⟨7, _⟩ => ⟨S_, .f32⟩
  | .hbm, ⟨8, _⟩ => ⟨S1x2048x1, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S1x2048x1, .f32⟩
  | .hbm, ⟨14, _⟩ => ⟨S1x2048x1024, .f32⟩
  | .hbm, ⟨15, _⟩ => ⟨S1x2048x1024, .f32⟩
  | .hbm, ⟨16, _⟩ => ⟨S1x1x1024, .f32⟩
  | .hbm, ⟨17, _⟩ => ⟨S1x2048x1024, .f32⟩
  | .hbm, ⟨18, _⟩ => ⟨S1x2048x1024, .f32⟩
  | .hbm, ⟨19, _⟩ => ⟨S1x2816x1024, .f32⟩
  | .hbm, ⟨20, _⟩ => ⟨S2816x1024, .f32⟩
  | .hbm, ⟨21, _⟩ => ⟨S1024x2816, .f32⟩
  | .hbm, ⟨22, _⟩ => ⟨S1x2048x2816, .f32⟩
  | .hbm, ⟨23, _⟩ => ⟨S1x2048x2816, .f32⟩
  | .hbm, ⟨24, _⟩ => ⟨S1x2048x2816, .f32⟩
  | .hbm, ⟨25, _⟩ => ⟨S_, .f32⟩
  | .hbm, ⟨26, _⟩ => ⟨S1x2048x2816, .f32⟩
  | .hbm, ⟨27, _⟩ => ⟨S1x2048x2816, .f32⟩
  | .hbm, ⟨28, _⟩ => ⟨S_, .f32⟩
  | .hbm, ⟨29, _⟩ => ⟨S1x2048x2816, .f32⟩
  | .hbm, ⟨30, _⟩ => ⟨S1x2048x2816, .f32⟩
  | .hbm, ⟨31, _⟩ => ⟨S1x2048x2816, .f32⟩
  | .hbm, ⟨32, _⟩ => ⟨S1x2816x1024, .f32⟩
  | .hbm, ⟨33, _⟩ => ⟨S2816x1024, .f32⟩
  | .hbm, ⟨34, _⟩ => ⟨S1024x2816, .f32⟩
  | .hbm, ⟨35, _⟩ => ⟨S1x2048x2816, .f32⟩
  | .hbm, ⟨36, _⟩ => ⟨S1x2048x2816, .f32⟩
  | .hbm, ⟨37, _⟩ => ⟨S1x2816x1024, .f32⟩
  | .hbm, ⟨38, _⟩ => ⟨S2816x1024, .f32⟩
  | .hbm, ⟨39, _⟩ => ⟨S1x2048x1024, .f32⟩
  | .hbm, ⟨40, _⟩ => ⟨S_, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== KernelMdw.lean ====
abbrev S2048x1024 : Shape := ⟨2, ![2048, 1024]⟩
abbrev S2048x512 : Shape := ⟨2, ![2048, 512]⟩
abbrev S1x2048x1024 : Shape := ⟨3, ![1, 2048, 1024]⟩
abbrev S1024x1024 : Shape := ⟨2, ![1024, 1024]⟩
abbrev S1024x512 : Shape := ⟨2, ![1024, 512]⟩
abbrev S2048x256 : Shape := ⟨2, ![2048, 256]⟩
abbrev S256x1024 : Shape := ⟨2, ![256, 1024]⟩
abbrev S256x512 : Shape := ⟨2, ![256, 512]⟩

abbrev nBuf : Space → Nat
  | .hbm => 16
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x512, .f32⟩
  | .hbm, ⟨4, _⟩ => ⟨S2048x512, .f32⟩
  | .hbm, ⟨5, _⟩ => ⟨S1x2048x1024, .f32⟩
  | .hbm, ⟨6, _⟩ => ⟨S2048x1024, .bf16⟩
  | .hbm, ⟨7, _⟩ => ⟨S2048x1024, .f32⟩
  | .hbm, ⟨8, _⟩ => ⟨S2048x1024, .bf16⟩
  | .hbm, ⟨9, _⟩ => ⟨S2048x1024, .bf16⟩
  | .hbm, ⟨10, _⟩ => ⟨S2048x512, .bf16⟩
  | .hbm, ⟨11, _⟩ => ⟨S2048x1024, .bf16⟩
  | .hbm, ⟨12, _⟩ => ⟨S2048x512, .bf16⟩
  | .hbm, ⟨13, _⟩ => ⟨S1024x1024, .bf16⟩
  | .hbm, ⟨14, _⟩ => ⟨S1024x512, .bf16⟩
  | .hbm, ⟨15, _⟩ => ⟨S1024x512, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x1024, .bf16⟩
  | .local _ .vmem, ⟨7, _⟩ => ⟨S2048x512, .bf16⟩
  | .local _ .vmem, ⟨8, _⟩ => ⟨S2048x512, .bf16⟩
  | .local _ .vmem, ⟨9, _⟩ => ⟨S256x1024, .bf16⟩
  | .local _ .vmem, ⟨10, _⟩ => ⟨S256x1024, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMdwIdeal.lean ====
abbrev S2048x1024 : Shape := ⟨2, ![2048, 1024]⟩
abbrev S2048x512 : Shape := ⟨2, ![2048, 512]⟩
abbrev S1x2048x1024 : Shape := ⟨3, ![1, 2048, 1024]⟩
abbrev S_ : Shape := ⟨0, ![]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x512, .f32⟩
  | .hbm, ⟨4, _⟩ => ⟨S2048x512, .f32⟩
  | .hbm, ⟨5, _⟩ => ⟨S1x2048x1024, .f32⟩
  | .hbm, ⟨6, _⟩ => ⟨S_, .f32⟩
  | .hbm, ⟨7, _⟩ => ⟨S1024x512, .f32⟩
  | .hbm, ⟨8, _⟩ => ⟨S_, .f32⟩
  | .hbm, ⟨9, _⟩ => ⟨S1024x1024, .f32⟩
  | .hbm, ⟨10, _⟩ => ⟨S2048x1024, .f32⟩
  | .hbm, ⟨11, _⟩ => ⟨S1x2048x1024, .f32⟩
  | .hbm, ⟨12, _⟩ => ⟨S512x1024, .f32⟩
  | .hbm, ⟨13, _⟩ => ⟨S2048x1024, .f32⟩
  | .hbm, ⟨14, _⟩ => ⟨S512x1024, .f32⟩
  | .hbm, ⟨15, _⟩ => ⟨S2048x1024, .f32⟩
  | .hbm, ⟨16, _⟩ => ⟨S1024x512, .f32⟩
  | .hbm, ⟨17, _⟩ => ⟨S512x1024, .f32⟩
  | .hbm, ⟨18, _⟩ => ⟨S1024x512, .f32⟩
  | .hbm, ⟨19, _⟩ => ⟨S1024x512, .f32⟩
  | .hbm, ⟨20, _⟩ => ⟨S512x1024, .f32⟩
  | .hbm, ⟨21, _⟩ => ⟨S1024x512, .f32⟩
  | .hbm, ⟨22, _⟩ => ⟨S_, .f32⟩
  | .hbm, ⟨23, _⟩ => ⟨S2048x1024, .f32⟩
  | .hbm, ⟨24, _⟩ => ⟨S1024x1024, .f32⟩
  | .hbm, ⟨25, _⟩ => ⟨S1024x1024, .f32⟩
  | .hbm, ⟨26, _⟩ => ⟨S1024x1024, .bf16⟩
  | .hbm, ⟨27, _⟩ => ⟨S1024x512, .bf16⟩
  | .hbm, ⟨28, _⟩ => ⟨S1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== KernelWin.lean ====
abbrev S2048x1024 : Shape := ⟨2, ![2048, 1024]⟩
abbrev S2048x4352 : Shape := ⟨2, ![2048, 4352]⟩
abbrev S4352x1024 : Shape := ⟨2, ![4352, 1024]⟩
abbrev S2048x2176 : Shape := ⟨2, ![2048, 2176]⟩
abbrev S2176x1024 : Shape := ⟨2, ![2176, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4352, .f32⟩
  | .hbm, ⟨2, _⟩ => ⟨S2048x4352, .bf16⟩
  | .hbm, ⟨3, _⟩ => ⟨S2048x1024, .bf16⟩
  | .hbm, ⟨4, _⟩ => ⟨S4352x1024, .bf16⟩
  | .local _ .vmem, ⟨0, _⟩ => ⟨S2048x2176, .bf16⟩
  | .local _ .vmem, ⟨1, _⟩ => ⟨S2048x2176, .bf16⟩
  | .local _ .vmem, ⟨2, _⟩ => ⟨S2048x1024, .bf16⟩
  | .local _ .vmem, ⟨3, _⟩ => ⟨S2176x1024, .bf16⟩
  | .local _ .vmem, ⟨4, _⟩ => ⟨S2176x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceWinIdeal.lean ====
abbrev S2048x1024 : Shape := ⟨2, ![2048, 1024]⟩
abbrev S2048x4352 : Shape := ⟨2, ![2048, 4352]⟩
abbrev S_ : Shape := ⟨0, ![]⟩
abbrev S4352x1024 : Shape := ⟨2, ![4352, 1024]⟩
abbrev S1024x4352 : Shape := ⟨2, ![1024, 4352]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4352, .f32⟩
  | .hbm, ⟨2, _⟩ => ⟨S_, .f32⟩
  | .hbm, ⟨3, _⟩ => ⟨S4352x1024, .f32⟩
  | .hbm, ⟨4, _⟩ => ⟨S1024x4352, .f32⟩
  | .hbm, ⟨5, _⟩ => ⟨S2048x4352, .f32⟩
  | .hbm, ⟨6, _⟩ => ⟨S4352x1024, .f32⟩
  | .hbm, ⟨7, _⟩ => ⟨S1024x4352, .f32⟩
  | .hbm, ⟨8, _⟩ => ⟨S4352x1024, .f32⟩
  | .hbm, ⟨9, _⟩ => ⟨S4352x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelMx.lean ====
abbrev S1x2048x1024 : Shape := ⟨3, ![1, 2048, 1024]⟩
abbrev S1024 : Shape := ⟨1, ![1024]⟩
abbrev S1x4352x1024 : Shape := ⟨3, ![1, 4352, 1024]⟩
abbrev S2048x4352 : Shape := ⟨2, ![2048, 4352]⟩
abbrev S2048x1024 : Shape := ⟨2, ![2048, 1024]⟩
abbrev S1x1024 : Shape := ⟨2, ![1, 1024]⟩
abbrev S_ : Shape := ⟨0, ![]⟩
abbrev S8x128 : Shape := ⟨2, ![8, 128]⟩
abbrev S256x4352 : Shape := ⟨2, ![256, 4352]⟩
abbrev S256x1024 : Shape := ⟨2, ![256, 1024]⟩
abbrev S4352x1024 : Shape := ⟨2, ![4352, 1024]⟩
abbrev S256 : Shape := ⟨1, ![256]⟩
abbrev S256x1 : Shape := ⟨2, ![256, 1]⟩

abbrev nBuf : Space → Nat
  | .hbm => 14
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x4352x1024, .f32⟩
  | .hbm, ⟨3, _⟩ => ⟨S2048x4352, .f32⟩
  | .hbm, ⟨4, _⟩ => ⟨S1x2048x1024, .f32⟩
  | .hbm, ⟨5, _⟩ => ⟨S2048x4352, .bf16⟩
  | .hbm, ⟨6, _⟩ => ⟨S1x4352x1024, .bf16⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S_, .f32⟩
  | .hbm, ⟨11, _⟩ => ⟨S8x128, .f32⟩
  | .hbm, ⟨12, _⟩ => ⟨S2048x1024, .f32⟩
  | .hbm, ⟨13, _⟩ => ⟨S1x1024, .f32⟩
  | .local _ .vmem, ⟨0, _⟩ => ⟨S256x4352, .bf16⟩
  | .local _ .vmem, ⟨1, _⟩ => ⟨S256x4352, .bf16⟩
  | .local _ .vmem, ⟨2, _⟩ => ⟨S1x4352x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S8x128, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceMxIdeal.lean ====
abbrev S1x2048x1024 : Shape := ⟨3, ![1, 2048, 1024]⟩
abbrev S1024 : Shape := ⟨1, ![1024]⟩
abbrev S1x4352x1024 : Shape := ⟨3, ![1, 4352, 1024]⟩
abbrev S2048x4352 : Shape := ⟨2, ![2048, 4352]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S4352x1024 : Shape := ⟨2, ![4352, 1024]⟩
abbrev S1024x4352 : Shape := ⟨2, ![1024, 4352]⟩

abbrev nBuf : Space → Nat
  | .hbm => 59
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x4352x1024, .f32⟩
  | .hbm, ⟨3, _⟩ => ⟨S2048x4352, .f32⟩
  | .hbm, ⟨4, _⟩ => ⟨S1x2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S4352x1024, .f32⟩
  | .hbm, ⟨27, _⟩ => ⟨S1024x4352, .f32⟩
  | .hbm, ⟨28, _⟩ => ⟨S2048x4352, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S1x2048x1024, .f32⟩
  | .hbm, ⟨56, _⟩ => ⟨S1x2048x1024, .f32⟩
  | .hbm, ⟨57, _⟩ => ⟨S2048x1024, .f32⟩
  | .hbm, ⟨58, _⟩ => ⟨S1x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== KernelGate.lean ====
abbrev S2048x2048 : Shape := ⟨2, ![2048, 2048]⟩
abbrev S2048 : Shape := ⟨1, ![2048]⟩
abbrev S2048x512 : Shape := ⟨2, ![2048, 512]⟩
abbrev S2x1024x512 : Shape := ⟨3, ![2, 1024, 512]⟩
abbrev S1x1024x1024 : Shape := ⟨3, ![1, 1024, 1024]⟩
abbrev S1x2048x1024 : Shape := ⟨3, ![1, 2048, 1024]⟩
abbrev S1x2048 : Shape := ⟨2, ![1, 2048]⟩
abbrev S_ : Shape := ⟨0, ![]⟩
abbrev S1x1024x512 : Shape := ⟨3, ![1, 1024, 512]⟩
abbrev S1024x512 : Shape := ⟨2, ![1024, 512]⟩
abbrev S512x1024 : Shape := ⟨2, ![512, 1024]⟩
abbrev S2048x1024 : Shape := ⟨2, ![2048, 1024]⟩
abbrev S8x128 : Shape := ⟨2, ![8, 128]⟩
abbrev S512x2048 : Shape := ⟨2, ![512, 2048]⟩
abbrev S512x512 : Shape := ⟨2, ![512, 512]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 55
  | .vmem => 25
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S2x1024x512, .f32⟩
  | .hbm, ⟨5, _⟩ => ⟨S1x1024x1024, .f32⟩
  | .hbm, ⟨6, _⟩ => ⟨S1x2048x1024, .f32⟩
  | .hbm, ⟨7, _⟩ => ⟨S1x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S1x1024x512, .f32⟩
  | .hbm, ⟨19, _⟩ => ⟨S1024x512, .f32⟩
  | .hbm, ⟨20, _⟩ => ⟨S512x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .bf16⟩
  | .hbm, ⟨30, _⟩ => ⟨S1x1024x512, .f32⟩
  | .hbm, ⟨31, _⟩ => ⟨S1024x512, .f32⟩
  | .hbm, ⟨32, _⟩ => ⟨S512x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .bf16⟩
  | .hbm, ⟨42, _⟩ => ⟨S2x1024x512, .bf16⟩
  | .hbm, ⟨43, _⟩ => ⟨S2048x1024, .f32⟩
  | .hbm, ⟨44, _⟩ => ⟨S2048x2048, .bf16⟩
  | .hbm, ⟨45, _⟩ => ⟨S1x1024x1024, .bf16⟩
  | .hbm, ⟨46, _⟩ => ⟨S_, .f32⟩
  | .hbm, ⟨47, _⟩ => ⟨S8x128, .f32⟩
  | .hbm, ⟨48, _⟩ => ⟨S2048x1024, .bf16⟩
  | .hbm, ⟨49, _⟩ => ⟨S2048x2048, .bf16⟩
  | .hbm, ⟨50, _⟩ => ⟨S2048x1024, .bf16⟩
  | .hbm, ⟨51, _⟩ => ⟨S2048x1024, .bf16⟩
  | .hbm, ⟨52, _⟩ => ⟨S2048x512, .bf16⟩
  | .hbm, ⟨53, _⟩ => ⟨S2048x512, .bf16⟩
  | .hbm, ⟨54, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x1024, .bf16⟩
  | .local _ .vmem, ⟨11, _⟩ => ⟨S8x128, .f32⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36_0 : Ref sig .tc := ⟨.hbm, 48, rfl⟩
abbrev main_v36_1 : Ref sig .tc := ⟨.hbm, 49, rfl⟩
abbrev main_v36_2 : Ref sig .tc := ⟨.hbm, 50, rfl⟩
abbrev main_v36_3 : Ref sig .tc := ⟨.hbm, 51, rfl⟩
abbrev main_v36_4 : Ref sig .tc := ⟨.hbm, 52, rfl⟩
abbrev main_v36_5 : Ref sig .tc := ⟨.hbm, 53, rfl⟩
abbrev main_v36_6 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceGateIdeal.lean ====
abbrev S2048x2048 : Shape := ⟨2, ![2048, 2048]⟩
abbrev S2048 : Shape := ⟨1, ![2048]⟩
abbrev S2048x512 : Shape := ⟨2, ![2048, 512]⟩
abbrev S2x1024x512 : Shape := ⟨3, ![2, 1024, 512]⟩
abbrev S1x1024x1024 : Shape := ⟨3, ![1, 1024, 1024]⟩
abbrev S1x2048x1024 : Shape := ⟨3, ![1, 2048, 1024]⟩
abbrev S1x1024x512 : Shape := ⟨3, ![1, 1024, 512]⟩
abbrev S1024x512 : Shape := ⟨2, ![1024, 512]⟩
abbrev S512x1024 : Shape := ⟨2, ![512, 1024]⟩
abbrev S2048x1024 : Shape := ⟨2, ![2048, 1024]⟩
abbrev S1x2048 : Shape := ⟨2, ![1, 2048]⟩
abbrev S_ : Shape := ⟨0, ![]⟩
abbrev S1024x1024 : Shape := ⟨2, ![1024, 1024]⟩

abbrev nBuf : Space → Nat
  | .hbm => 64
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S2x1024x512, .f32⟩
  | .hbm, ⟨5, _⟩ => ⟨S1x1024x1024, .f32⟩
  | .hbm, ⟨6, _⟩ => ⟨S1x2048x1024, .f32⟩
  | .hbm, ⟨7, _⟩ => ⟨S1x1024x512, .f32⟩
  | .hbm, ⟨8, _⟩ => ⟨S1024x512, .f32⟩
  | .hbm, ⟨9, _⟩ => ⟨S512x1024, .f32⟩
  | .hbm, ⟨10, _⟩ => ⟨S2048x1024, .f32⟩
  | .hbm, ⟨11, _⟩ => ⟨S1x1024x512, .f32⟩
  | .hbm, ⟨12, _⟩ => ⟨S1024x512, .f32⟩
  | .hbm, ⟨13, _⟩ => ⟨S512x1024, .f32⟩
  | .hbm, ⟨14, _⟩ => ⟨S2048x1024, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S1024x1024, .f32⟩
  | .hbm, ⟨36, _⟩ => ⟨S2048x1024, .f32⟩
  | .hbm, ⟨37, _⟩ => ⟨S1x2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x2048, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S_, .f32⟩
  | .hbm, ⟨55, _⟩ => ⟨S2048, .f32⟩
  | .hbm, ⟨56, _⟩ => ⟨S2048x512, .f32⟩
  | .hbm, ⟨57, _⟩ => ⟨S2048x512, .f32⟩
  | .hbm, ⟨58, _⟩ => ⟨S2048x2048, .bf16⟩
  | .hbm, ⟨59, _⟩ => ⟨S2048x1024, .bf16⟩
  | .hbm, ⟨60, _⟩ => ⟨S2048x1024, .bf16⟩
  | .hbm, ⟨61, _⟩ => ⟨S2048x512, .bf16⟩
  | .hbm, ⟨62, _⟩ => ⟨S2048x512, .bf16⟩
  | .hbm, ⟨63, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== KernelMerge.lean ====
abbrev S1x2048x1024 : Shape := ⟨3, ![1, 2048, 1024]⟩
abbrev S2048x2048 : Shape := ⟨2, ![2048, 2048]⟩
abbrev S2048 : Shape := ⟨1, ![2048]⟩
abbrev S2048x512 : Shape := ⟨2, ![2048, 512]⟩
abbrev S2x1024x512 : Shape := ⟨3, ![2, 1024, 512]⟩
abbrev S1x1024x1024 : Shape := ⟨3, ![1, 1024, 1024]⟩
abbrev S2048x1024 : Shape := ⟨2, ![2048, 1024]⟩
abbrev S1x2048 : Shape := ⟨2, ![1, 2048]⟩
abbrev S_ : Shape := ⟨0, ![]⟩
abbrev S512x1024 : Shape := ⟨2, ![512, 1024]⟩
abbrev S512x512 : Shape := ⟨2, ![512, 512]⟩
abbrev S512x2048 : Shape := ⟨2, ![512, 2048]⟩
abbrev S1x1024x512 : Shape := ⟨3, ![1, 1024, 512]⟩
abbrev S1024x512 : Shape := ⟨2, ![1024, 512]⟩
abbrev S1024x1024 : Shape := ⟨2, ![1024, 1024]⟩

abbrev nBuf : Space → Nat
  | .hbm => 28
  | .vmem => 19
  | .smem => 0
  | _ => 0

abbrev bufTy : (tb : Table) → Fin (tcTables nBuf tb) → BufTy
  | .hbm, ⟨0, _⟩ => ⟨S1x2048x1024, .f32⟩
  | .hbm, ⟨1, _⟩ => ⟨S2048x2048, .f32⟩
  | .hbm, ⟨2, _⟩ => ⟨S2048, .f32⟩
  | .hbm, ⟨3, _⟩ => ⟨S2048x512, .f32⟩
  | .hbm, ⟨4, _⟩ => ⟨S2048x512, .f32⟩
  | .hbm, ⟨5, _⟩ => ⟨S2x1024x512, .f32⟩
  | .hbm, ⟨6, _⟩ => ⟨S1x1024x1024, .f32⟩
  | .hbm, ⟨7, _⟩ => ⟨S2x1024x512, .bf16⟩
  | .hbm, ⟨8, _⟩ => ⟨S2048x1024, .f32⟩
  | .hbm, ⟨9, _⟩ => ⟨S2048x512, .bf16⟩
  | .hbm, ⟨10, _⟩ => ⟨S2048x512, .bf16⟩
  | .hbm, ⟨11, _⟩ => ⟨S1x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .bf16⟩
  | .hbm, ⟨23, _⟩ => ⟨S1x1024x1024, .bf16⟩
  | .hbm, ⟨24, _⟩ => ⟨S2048x1024, .f32⟩
  | .hbm, ⟨25, _⟩ => ⟨S2048x1024, .bf16⟩
  | .hbm, ⟨26, _⟩ => ⟨S2048x1024, .bf16⟩
  | .hbm, ⟨27, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceMergeIdeal.lean ====
abbrev S1x2048x1024 : Shape := ⟨3, ![1, 2048, 1024]⟩
abbrev S2048x2048 : Shape := ⟨2, ![2048, 2048]⟩
abbrev S2048 : Shape := ⟨1, ![2048]⟩
abbrev S2048x512 : Shape := ⟨2, ![2048, 512]⟩
abbrev S2x1024x512 : Shape := ⟨3, ![2, 1024, 512]⟩
abbrev S1x1024x1024 : Shape := ⟨3, ![1, 1024, 1024]⟩
abbrev S1x2048 : Shape := ⟨2, ![1, 2048]⟩
abbrev S_ : Shape := ⟨0, ![]⟩
abbrev S2048x1024 : Shape := ⟨2, ![2048, 1024]⟩
abbrev S1x1024x512 : Shape := ⟨3, ![1, 1024, 512]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 36
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S2048x2048, .f32⟩
  | .hbm, ⟨2, _⟩ => ⟨S2048, .f32⟩
  | .hbm, ⟨3, _⟩ => ⟨S2048x512, .f32⟩
  | .hbm, ⟨4, _⟩ => ⟨S2048x512, .f32⟩
  | .hbm, ⟨5, _⟩ => ⟨S2x1024x512, .f32⟩
  | .hbm, ⟨6, _⟩ => ⟨S1x1024x1024, .f32⟩
  | .hbm, ⟨7, _⟩ => ⟨S1x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x1024, .f32⟩
  | .hbm, ⟨19, _⟩ => ⟨S1x1024x512, .f32⟩
  | .hbm, ⟨20, _⟩ => ⟨S1024x512, .f32⟩
  | .hbm, ⟨21, _⟩ => ⟨S512x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S1x1024x512, .f32⟩
  | .hbm, ⟨26, _⟩ => ⟨S1024x512, .f32⟩
  | .hbm, ⟨27, _⟩ => ⟨S512x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S1024x1024, .f32⟩
  | .hbm, ⟨32, _⟩ => ⟨S2048x1024, .f32⟩
  | .hbm, ⟨33, _⟩ => ⟨S1x2048x1024, .f32⟩
  | .hbm, ⟨34, _⟩ => ⟨S1x2048x1024, .f32⟩
  | .hbm, ⟨35, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== KernelUp.lean ====
abbrev S1x2048x1024 : Shape := ⟨3, ![1, 2048, 1024]⟩
abbrev S1024 : Shape := ⟨1, ![1024]⟩
abbrev S3x2816x1024 : Shape := ⟨3, ![3, 2816, 1024]⟩
abbrev S2048x1024 : Shape := ⟨2, ![2048, 1024]⟩
abbrev S1x1024 : Shape := ⟨2, ![1, 1024]⟩
abbrev S_ : Shape := ⟨0, ![]⟩
abbrev S8x128 : Shape := ⟨2, ![8, 128]⟩
abbrev S2048x2816 : Shape := ⟨2, ![2048, 2816]⟩
abbrev S512x1024 : Shape := ⟨2, ![512, 1024]⟩
abbrev S1x2816x1024 : Shape := ⟨3, ![1, 2816, 1024]⟩
abbrev S512x2816 : Shape := ⟨2, ![512, 2816]⟩
abbrev S512 : Shape := ⟨1, ![512]⟩
abbrev S512x1 : Shape := ⟨2, ![512, 1]⟩
abbrev S1x256x1024 : Shape := ⟨3, ![1, 256, 1024]⟩
abbrev S256x1024 : Shape := ⟨2, ![256, 1024]⟩
abbrev S512x256 : Shape := ⟨2, ![512, 256]⟩

abbrev nBuf : Space → Nat
  | .hbm => 12
  | .vmem => 14
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S3x2816x1024, .f32⟩
  | .hbm, ⟨3, _⟩ => ⟨S3x2816x1024, .bf16⟩
  | .hbm, ⟨4, _⟩ => ⟨S2048x1024, .f32⟩
  | .hbm, ⟨5, _⟩ => ⟨S1x1024, .f32⟩
  | .hbm, ⟨6, _⟩ => ⟨S_, .f32⟩
  | .hbm, ⟨7, _⟩ => ⟨S8x128, .f32⟩
  | .hbm, ⟨8, _⟩ => ⟨S2048x1024, .bf16⟩
  | .hbm, ⟨9, _⟩ => ⟨S2048x2816, .bf16⟩
  | .hbm, ⟨10, _⟩ => ⟨S2048x2816, .bf16⟩
  | .hbm, ⟨11, _⟩ => ⟨S2048x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x2816x1024, .bf16⟩
  | .local _ .vmem, ⟨4, _⟩ => ⟨S1x2816x1024, .bf16⟩
  | .local _ .vmem, ⟨5, _⟩ => ⟨S8x128, .f32⟩
  | .local _ .vmem, ⟨6, _⟩ => ⟨S512x1024, .bf16⟩
  | .local _ .vmem, ⟨7, _⟩ => ⟨S512x1024, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceUpIdeal.lean ====
abbrev S1x2048x1024 : Shape := ⟨3, ![1, 2048, 1024]⟩
abbrev S1024 : Shape := ⟨1, ![1024]⟩
abbrev S3x2816x1024 : Shape := ⟨3, ![3, 2816, 1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x2816x1024 : Shape := ⟨3, ![1, 2816, 1024]⟩
abbrev S2816x1024 : Shape := ⟨2, ![2816, 1024]⟩
abbrev S1024x2816 : Shape := ⟨2, ![1024, 2816]⟩
abbrev S2048x2816 : Shape := ⟨2, ![2048, 2816]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S3x2816x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S1x2816x1024, .f32⟩
  | .hbm, ⟨21, _⟩ => ⟨S2816x1024, .f32⟩
  | .hbm, ⟨22, _⟩ => ⟨S1024x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S1x2816x1024, .f32⟩
  | .hbm, ⟨34, _⟩ => ⟨S2816x1024, .f32⟩
  | .hbm, ⟨35, _⟩ => ⟨S1024x2816, .f32⟩
  | .hbm, ⟨36, _⟩ => ⟨S2048x2816, .f32⟩
  | .hbm, ⟨37, _⟩ => ⟨S2048x2816, .f32⟩
  | .hbm, ⟨38, _⟩ => ⟨S2048x2816, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelDown.lean ====
abbrev S1x2048x1024 : Shape := ⟨3, ![1, 2048, 1024]⟩
abbrev S2048x2816 : Shape := ⟨2, ![2048, 2816]⟩
abbrev S3x2816x1024 : Shape := ⟨3, ![3, 2816, 1024]⟩
abbrev S2048x1024 : Shape := ⟨2, ![2048, 1024]⟩
abbrev S_ : Shape := ⟨0, ![]⟩
abbrev S8x128 : Shape := ⟨2, ![8, 128]⟩
abbrev S512x1024 : Shape := ⟨2, ![512, 1024]⟩
abbrev S512x2816 : Shape := ⟨2, ![512, 2816]⟩
abbrev S1x2816x1024 : Shape := ⟨3, ![1, 2816, 1024]⟩
abbrev S2816x1024 : Shape := ⟨2, ![2816, 1024]⟩

abbrev nBuf : Space → Nat
  | .hbm => 9
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S2048x2816, .f32⟩
  | .hbm, ⟨2, _⟩ => ⟨S3x2816x1024, .f32⟩
  | .hbm, ⟨3, _⟩ => ⟨S2048x1024, .f32⟩
  | .hbm, ⟨4, _⟩ => ⟨S2048x2816, .bf16⟩
  | .hbm, ⟨5, _⟩ => ⟨S3x2816x1024, .bf16⟩
  | .hbm, ⟨6, _⟩ => ⟨S_, .f32⟩
  | .hbm, ⟨7, _⟩ => ⟨S8x128, .f32⟩
  | .hbm, ⟨8, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S1x2816x1024, .bf16⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceDownIdeal.lean ====
abbrev S1x2048x1024 : Shape := ⟨3, ![1, 2048, 1024]⟩
abbrev S2048x2816 : Shape := ⟨2, ![2048, 2816]⟩
abbrev S3x2816x1024 : Shape := ⟨3, ![3, 2816, 1024]⟩
abbrev S1x2816x1024 : Shape := ⟨3, ![1, 2816, 1024]⟩
abbrev S2816x1024 : Shape := ⟨2, ![2816, 1024]⟩
abbrev S2048x1024 : Shape := ⟨2, ![2048, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S2048x2816, .f32⟩
  | .hbm, ⟨2, _⟩ => ⟨S3x2816x1024, .f32⟩
  | .hbm, ⟨3, _⟩ => ⟨S1x2816x1024, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S1x2048x1024, .f32⟩
  | .hbm, ⟨10, _⟩ => ⟨S1x2048x1024, .f32⟩
  | .hbm, ⟨11, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelLoss.lean ====
abbrev S1x2048x1024 : Shape := ⟨3, ![1, 2048, 1024]⟩
abbrev S1024 : Shape := ⟨1, ![1024]⟩
abbrev S3x2816x1024 : Shape := ⟨3, ![3, 2816, 1024]⟩
abbrev S2048x1024 : Shape := ⟨2, ![2048, 1024]⟩
abbrev S1x1024 : Shape := ⟨2, ![1, 1024]⟩
abbrev S_ : Shape := ⟨0, ![]⟩
abbrev S8x128 : Shape := ⟨2, ![8, 128]⟩
abbrev S2048x2816 : Shape := ⟨2, ![2048, 2816]⟩
abbrev S256x1024 : Shape := ⟨2, ![256, 1024]⟩
abbrev S1x2816x1024 : Shape := ⟨3, ![1, 2816, 1024]⟩
abbrev S256x2816 : Shape := ⟨2, ![256, 2816]⟩
abbrev S256 : Shape := ⟨1, ![256]⟩
abbrev S256x1 : Shape := ⟨2, ![256, 1]⟩
abbrev S1x256x1024 : Shape := ⟨3, ![1, 256, 1024]⟩
abbrev S256x256 : Shape := ⟨2, ![256, 256]⟩
abbrev S2816x1024 : Shape := ⟨2, ![2816, 1024]⟩
abbrev S32x8x1024 : Shape := ⟨3, ![32, 8, 1024]⟩
abbrev S8x1024 : Shape := ⟨2, ![8, 1024]⟩

abbrev nBuf : Space → Nat
  | .hbm => 16
  | .vmem => 20
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S3x2816x1024, .f32⟩
  | .hbm, ⟨3, _⟩ => ⟨S1x2048x1024, .f32⟩
  | .hbm, ⟨4, _⟩ => ⟨S3x2816x1024, .bf16⟩
  | .hbm, ⟨5, _⟩ => ⟨S2048x1024, .f32⟩
  | .hbm, ⟨6, _⟩ => ⟨S1x1024, .f32⟩
  | .hbm, ⟨7, _⟩ => ⟨S_, .f32⟩
  | .hbm, ⟨8, _⟩ => ⟨S8x128, .f32⟩
  | .hbm, ⟨9, _⟩ => ⟨S2048x1024, .f32⟩
  | .hbm, ⟨10, _⟩ => ⟨S2048x1024, .f32⟩
  | .hbm, ⟨11, _⟩ => ⟨S8x128, .f32⟩
  | .hbm, ⟨12, _⟩ => ⟨S2048x1024, .bf16⟩
  | .hbm, ⟨13, _⟩ => ⟨S2048x2816, .bf16⟩
  | .hbm, ⟨14, _⟩ => ⟨S2048x2816, .bf16⟩
  | .hbm, ⟨15, _⟩ => ⟨S2048x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x2816x1024, .bf16⟩
  | .local _ .vmem, ⟨4, _⟩ => ⟨S1x2816x1024, .bf16⟩
  | .local _ .vmem, ⟨5, _⟩ => ⟨S1x2816x1024, .bf16⟩
  | .local _ .vmem, ⟨6, _⟩ => ⟨S8x128, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S8x128, .f32⟩
  | .local _ .vmem, ⟨12, _⟩ => ⟨S256x1024, .bf16⟩
  | .local _ .vmem, ⟨13, _⟩ => ⟨S256x1024, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceLossIdeal.lean ====
abbrev S1x2048x1024 : Shape := ⟨3, ![1, 2048, 1024]⟩
abbrev S1024 : Shape := ⟨1, ![1024]⟩
abbrev S3x2816x1024 : Shape := ⟨3, ![3, 2816, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2816x1024 : Shape := ⟨3, ![1, 2816, 1024]⟩
abbrev S2816x1024 : Shape := ⟨2, ![2816, 1024]⟩
abbrev S1024x2816 : Shape := ⟨2, ![1024, 2816]⟩
abbrev S1x2048x2816 : Shape := ⟨3, ![1, 2048, 2816]⟩
abbrev S256x8x8x128 : Shape := ⟨4, ![256, 8, 8, 128]⟩
abbrev S2048x1024 : Shape := ⟨2, ![2048, 1024]⟩
abbrev S256x8x128 : Shape := ⟨3, ![256, 8, 128]⟩
abbrev S8x128 : Shape := ⟨2, ![8, 128]⟩

abbrev nBuf : Space → Nat
  | .hbm => 76
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S3x2816x1024, .f32⟩
  | .hbm, ⟨3, _⟩ => ⟨S1x2048x1024, .f32⟩
  | .hbm, ⟨4, _⟩ => ⟨S1x2048x1024, .f32⟩
  | .hbm, ⟨5, _⟩ => ⟨S_, .f32⟩
  | .hbm, ⟨6, _⟩ => ⟨S1x2048, .f32⟩
  | .hbm, ⟨7, _⟩ => ⟨S1x2048x1, .f32⟩
  | .hbm, ⟨8, _⟩ => ⟨S_, .f32⟩
  | .hbm, ⟨9, _⟩ => ⟨S1x2048x1, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S1x2048x1, .f32⟩
  | .hbm, ⟨15, _⟩ => ⟨S1x2048x1024, .f32⟩
  | .hbm, ⟨16, _⟩ => ⟨S1x2048x1024, .f32⟩
  | .hbm, ⟨17, _⟩ => ⟨S1x1x1024, .f32⟩
  | .hbm, ⟨18, _⟩ => ⟨S1x2048x1024, .f32⟩
  | .hbm, ⟨19, _⟩ => ⟨S1x2048x1024, .f32⟩
  | .hbm, ⟨20, _⟩ => ⟨S1x2816x1024, .f32⟩
  | .hbm, ⟨21, _⟩ => ⟨S2816x1024, .f32⟩
  | .hbm, ⟨22, _⟩ => ⟨S1024x2816, .f32⟩
  | .hbm, ⟨23, _⟩ => ⟨S1x2048x2816, .f32⟩
  | .hbm, ⟨24, _⟩ => ⟨S1x2048x2816, .f32⟩
  | .hbm, ⟨25, _⟩ => ⟨S1x2048x2816, .f32⟩
  | .hbm, ⟨26, _⟩ => ⟨S_, .f32⟩
  | .hbm, ⟨27, _⟩ => ⟨S1x2048x2816, .f32⟩
  | .hbm, ⟨28, _⟩ => ⟨S1x2048x2816, .f32⟩
  | .hbm, ⟨29, _⟩ => ⟨S_, .f32⟩
  | .hbm, ⟨30, _⟩ => ⟨S1x2048x2816, .f32⟩
  | .hbm, ⟨31, _⟩ => ⟨S1x2048x2816, .f32⟩
  | .hbm, ⟨32, _⟩ => ⟨S1x2048x2816, .f32⟩
  | .hbm, ⟨33, _⟩ => ⟨S1x2816x1024, .f32⟩
  | .hbm, ⟨34, _⟩ => ⟨S2816x1024, .f32⟩
  | .hbm, ⟨35, _⟩ => ⟨S1024x2816, .f32⟩
  | .hbm, ⟨36, _⟩ => ⟨S1x2048x2816, .f32⟩
  | .hbm, ⟨37, _⟩ => ⟨S1x2048x2816, .f32⟩
  | .hbm, ⟨38, _⟩ => ⟨S1x2816x1024, .f32⟩
  | .hbm, ⟨39, _⟩ => ⟨S2816x1024, .f32⟩
  | .hbm, ⟨40, _⟩ => ⟨S1x2048x1024, .f32⟩
  | .hbm, ⟨41, _⟩ => ⟨S_, .f32⟩
  | .hbm, ⟨42, _⟩ => ⟨S1x2048x1024, .f32⟩
  | .hbm, ⟨43, _⟩ => ⟨S1x2048x1024, .f32⟩
  | .hbm, ⟨44, _⟩ => ⟨S1x2048x1024, .f32⟩
  | .hbm, ⟨45, _⟩ => ⟨S1x2048x1024, .f32⟩
  | .hbm, ⟨46, _⟩ => ⟨S1x2048x1024, .f32⟩
  | .hbm, ⟨47, _⟩ => ⟨S256x8x8x128, .f32⟩
  | .hbm, ⟨48, _⟩ => ⟨S1x2048x1024, .f32⟩
  | .hbm, ⟨49, _⟩ => ⟨S1x2048x1024, .f32⟩
  | .hbm, ⟨50, _⟩ => ⟨S_, .f32⟩
  | .hbm, ⟨51, _⟩ => ⟨S1x2048x1024, .f32⟩
  | .hbm, ⟨52, _⟩ => ⟨S1x2048x1024, .f32⟩
  | .hbm, ⟨53, _⟩ => ⟨S_, .f32⟩
  | .hbm, ⟨54, _⟩ => ⟨S1x2048, .f32⟩
  | .hbm, ⟨55, _⟩ => ⟨S_, .f32⟩
  | .hbm, ⟨56, _⟩ => ⟨S1x2048, .f32⟩
  | .hbm, ⟨57, _⟩ => ⟨S1x2048, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1x2048, .f32⟩
  | .hbm, ⟨66, _⟩ => ⟨S_, .f32⟩
  | .hbm, ⟨67, _⟩ => ⟨S1x2048, .f32⟩
  | .hbm, ⟨68, _⟩ => ⟨S1x2048, .f32⟩
  | .hbm, ⟨69, _⟩ => ⟨S1x2048x1024, .f32⟩
  | .hbm, ⟨70, _⟩ => ⟨S1x2048x1024, .f32⟩
  | .hbm, ⟨71, _⟩ => ⟨S2048x1024, .f32⟩
  | .hbm, ⟨72, _⟩ => ⟨S_, .f32⟩
  | .hbm, ⟨73, _⟩ => ⟨S256x8x128, .f32⟩
  | .hbm, ⟨74, _⟩ => ⟨S_, .f32⟩
  | .hbm, ⟨75, _⟩ => ⟨S8x128, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_cst_8 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_cst_12 : Ref sig .tc := ⟨.hbm, 74, rfl⟩
abbrev main_v49 : Ref sig .tc := ⟨.hbm, 75, rfl⟩

abbrev nD : Nat := 1
abbrev τ : Topo := Topo.v7x

variable {F : FTy → Type} [FloatOps F]
-- ==== KernelIn.lean ====
abbrev S1x2048x1024 : Shape := ⟨3, ![1, 2048, 1024]⟩
abbrev S1024 : Shape := ⟨1, ![1024]⟩
abbrev S1x4352x1024 : Shape := ⟨3, ![1, 4352, 1024]⟩
abbrev S2048 : Shape := ⟨1, ![2048]⟩
abbrev S64 : Shape := ⟨1, ![64]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S2048x1024 : Shape := ⟨2, ![2048, 1024]⟩
abbrev S1x1024 : Shape := ⟨2, ![1, 1024]⟩
abbrev S1x2048 : Shape := ⟨2, ![1, 2048]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S2048x2304 : Shape := ⟨2, ![2048, 2304]⟩
abbrev S2048x512 : Shape := ⟨2, ![2048, 512]⟩
abbrev S2048x128 : Shape := ⟨2, ![2048, 128]⟩
abbrev S2048x2048 : Shape := ⟨2, ![2048, 2048]⟩
abbrev S512x1024 : Shape := ⟨2, ![512, 1024]⟩
abbrev S512x2304 : Shape := ⟨2, ![512, 2304]⟩
abbrev S512x512 : Shape := ⟨2, ![512, 512]⟩
abbrev S512x128 : Shape := ⟨2, ![512, 128]⟩
abbrev S512x2048 : Shape := ⟨2, ![512, 2048]⟩
abbrev S512x1 : Shape := ⟨2, ![512, 1]⟩
abbrev S128x128 : Shape := ⟨2, ![128, 128]⟩
abbrev S1x512x1024 : Shape := ⟨3, ![1, 512, 1024]⟩
abbrev S512x256 : Shape := ⟨2, ![512, 256]⟩
abbrev S1x128x1024 : Shape := ⟨3, ![1, 128, 1024]⟩
abbrev S128x1024 : Shape := ⟨2, ![128, 1024]⟩
abbrev S1x256x1024 : Shape := ⟨3, ![1, 256, 1024]⟩
abbrev S256x1024 : Shape := ⟨2, ![256, 1024]⟩
abbrev S1x256 : Shape := ⟨2, ![1, 256]⟩

abbrev nBuf : Space → Nat
  | .hbm => 52
  | .vmem => 24
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x4352x1024, .f32⟩
  | .hbm, ⟨3, _⟩ => ⟨S2048, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S4x4, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S4x1x4x1, .f32⟩
  | .hbm, ⟨19, _⟩ => ⟨S1x64x1x64, .f32⟩
  | .hbm, ⟨20, _⟩ => ⟨S4x64x4x64, .f32⟩
  | .hbm, ⟨21, _⟩ => ⟨S4x64x4x64, .f32⟩
  | .hbm, ⟨22, _⟩ => ⟨S4x64x4x64, .f32⟩
  | .hbm, ⟨23, _⟩ => ⟨S256x256, .f32⟩
  | .hbm, ⟨24, _⟩ => ⟨S256x256, .bf16⟩
  | .hbm, ⟨25, _⟩ => ⟨S2048x1024, .f32⟩
  | .hbm, ⟨26, _⟩ => ⟨S1x1024, .f32⟩
  | .hbm, ⟨27, _⟩ => ⟨S1x4352x1024, .bf16⟩
  | .hbm, ⟨28, _⟩ => ⟨S1x2048, .f32⟩
  | .hbm, ⟨29, _⟩ => ⟨S1x64, .f32⟩
  | .hbm, ⟨30, _⟩ => ⟨S8x64, .f32⟩
  | .hbm, ⟨31, _⟩ => ⟨S512, .f32⟩
  | .hbm, ⟨32, _⟩ => ⟨S1x512, .f32⟩
  | .hbm, ⟨33, _⟩ => ⟨S1x64, .f32⟩
  | .hbm, ⟨34, _⟩ => ⟨S8x64, .f32⟩
  | .hbm, ⟨35, _⟩ => ⟨S512, .f32⟩
  | .hbm, ⟨36, _⟩ => ⟨S1x512, .f32⟩
  | .hbm, ⟨37, _⟩ => ⟨S1x64, .f32⟩
  | .hbm, ⟨38, _⟩ => ⟨S8x64, .f32⟩
  | .hbm, ⟨39, _⟩ => ⟨S512, .f32⟩
  | .hbm, ⟨40, _⟩ => ⟨S1x512, .f32⟩
  | .hbm, ⟨41, _⟩ => ⟨S1x64, .f32⟩
  | .hbm, ⟨42, _⟩ => ⟨S2x64, .f32⟩
  | .hbm, ⟨43, _⟩ => ⟨S128, .f32⟩
  | .hbm, ⟨44, _⟩ => ⟨S1x128, .f32⟩
  | .hbm, ⟨45, _⟩ => ⟨S2048x1024, .bf16⟩
  | .hbm, ⟨46, _⟩ => ⟨S2048x2304, .bf16⟩
  | .hbm, ⟨47, _⟩ => ⟨S2048x512, .bf16⟩
  | .hbm, ⟨48, _⟩ => ⟨S2048x512, .bf16⟩
  | .hbm, ⟨49, _⟩ => ⟨S2048x512, .bf16⟩
  | .hbm, ⟨50, _⟩ => ⟨S2048x128, .bf16⟩
  | .hbm, ⟨51, _⟩ => ⟨S2048x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x4352x1024, .bf16⟩
  | .local _ .vmem, ⟨4, _⟩ => ⟨S1x2048, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x128, .f32⟩
  | .local _ .vmem, ⟨9, _⟩ => ⟨S256x256, .bf16⟩
  | .local _ .vmem, ⟨10, _⟩ => ⟨S512x1024, .bf16⟩
  | .local _ .vmem, ⟨11, _⟩ => ⟨S512x1024, .bf16⟩
  | .local _ .vmem, ⟨12, _⟩ => ⟨S512x2304, .bf16⟩
  | .local _ .vmem, ⟨13, _⟩ => ⟨S512x2304, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x128, .bf16⟩
  | .local _ .vmem, ⟨21, _⟩ => ⟨S512x128, .bf16⟩
  | .local _ .vmem, ⟨22, _⟩ => ⟨S512x2048, .bf16⟩
  | .local _ .vmem, ⟨23, _⟩ => ⟨S512x2048, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_v29_3 : Ref sig .tc := ⟨.hbm, 48, rfl⟩
abbrev main_v29_4 : Ref sig .tc := ⟨.hbm, 49, rfl⟩
abbrev main_v29_5 : Ref sig .tc := ⟨.hbm, 50, rfl⟩
abbrev main_v29_6 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2304 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceInIdeal.lean ====
abbrev S1x2048x1024 : Shape := ⟨3, ![1, 2048, 1024]⟩
abbrev S1024 : Shape := ⟨1, ![1024]⟩
abbrev S1x4352x1024 : Shape := ⟨3, ![1, 4352, 1024]⟩
abbrev S2048 : Shape := ⟨1, ![2048]⟩
abbrev S64 : Shape := ⟨1, ![64]⟩
abbrev S2048x1024 : Shape := ⟨2, ![2048, 1024]⟩
abbrev S_ : Shape := ⟨0, ![]⟩
abbrev S2048x1 : Shape := ⟨2, ![2048, 1]⟩
abbrev S1x1024 : Shape := ⟨2, ![1, 1024]⟩
abbrev S4352x1024 : Shape := ⟨2, ![4352, 1024]⟩
abbrev S1024x4352 : Shape := ⟨2, ![1024, 4352]⟩
abbrev S2048x4352 : Shape := ⟨2, ![2048, 4352]⟩
abbrev S2048x2304 : Shape := ⟨2, ![2048, 2304]⟩
abbrev S2048x2048 : Shape := ⟨2, ![2048, 2048]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x4352x1024, .f32⟩
  | .hbm, ⟨3, _⟩ => ⟨S2048, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S4352x1024, .f32⟩
  | .hbm, ⟨26, _⟩ => ⟨S1024x4352, .f32⟩
  | .hbm, ⟨27, _⟩ => ⟨S2048x4352, .f32⟩
  | .hbm, ⟨28, _⟩ => ⟨S2048x1024, .bf16⟩
  | .hbm, ⟨29, _⟩ => ⟨S2048x2304, .f32⟩
  | .hbm, ⟨30, _⟩ => ⟨S2048x2304, .bf16⟩
  | .hbm, ⟨31, _⟩ => ⟨S2048x2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== KernelSmallA.lean ====
abbrev S2x1024 : Shape := ⟨2, ![2, 1024]⟩
abbrev S8x2x1024 : Shape := ⟨3, ![8, 2, 1024]⟩
abbrev S1x2x1024 : Shape := ⟨3, ![1, 2, 1024]⟩

abbrev nBuf : Space → Nat
  | .hbm => 24
  | .vmem => 24
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S8x2x1024, .f32⟩
  | .hbm, ⟨4, _⟩ => ⟨S8x2x1024, .f32⟩
  | .hbm, ⟨5, _⟩ => ⟨S8x2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S2x1024, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S8x2x1024, .f32⟩
  | .local _ .vmem, ⟨4, _⟩ => ⟨S8x2x1024, .f32⟩
  | .local _ .vmem, ⟨5, _⟩ => ⟨S8x2x1024, .f32⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | .local _ .vmem, ⟨14, _⟩ => ⟨S2x1024, .f32⟩
  | .local _ .vmem, ⟨15, _⟩ => ⟨S2x1024, .f32⟩
  | .local _ .vmem, ⟨16, _⟩ => ⟨S2x1024, .f32⟩
  | .local _ .vmem, ⟨17, _⟩ => ⟨S2x1024, .f32⟩
  | .local _ .vmem, ⟨18, _⟩ => ⟨S2x1024, .f32⟩
  | .local _ .vmem, ⟨19, _⟩ => ⟨S2x1024, .f32⟩
  | .local _ .vmem, ⟨20, _⟩ => ⟨S2x1024, .f32⟩
  | .local _ .vmem, ⟨21, _⟩ => ⟨S2x1024, .f32⟩
  | .local _ .vmem, ⟨22, _⟩ => ⟨S2x1024, .f32⟩
  | .local _ .vmem, ⟨23, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== KernelSmallAIdeal.lean ====
abbrev S2x1024 : Shape := ⟨2, ![2, 1024]⟩
abbrev S8x2x1024 : Shape := ⟨3, ![8, 2, 1024]⟩
abbrev S1x2x1024 : Shape := ⟨3, ![1, 2, 1024]⟩

abbrev nBuf : Space → Nat
  | .hbm => 24
  | .vmem => 24
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S8x2x1024, .f32⟩
  | .hbm, ⟨4, _⟩ => ⟨S8x2x1024, .f32⟩
  | .hbm, ⟨5, _⟩ => ⟨S8x2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S2x1024, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S8x2x1024, .f32⟩
  | .local _ .vmem, ⟨4, _⟩ => ⟨S8x2x1024, .f32⟩
  | .local _ .vmem, ⟨5, _⟩ => ⟨S8x2x1024, .f32⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | .local _ .vmem, ⟨14, _⟩ => ⟨S2x1024, .f32⟩
  | .local _ .vmem, ⟨15, _⟩ => ⟨S2x1024, .f32⟩
  | .local _ .vmem, ⟨16, _⟩ => ⟨S2x1024, .f32⟩
  | .local _ .vmem, ⟨17, _⟩ => ⟨S2x1024, .f32⟩
  | .local _ .vmem, ⟨18, _⟩ => ⟨S2x1024, .f32⟩
  | .local _ .vmem, ⟨19, _⟩ => ⟨S2x1024, .f32⟩
  | .local _ .vmem, ⟨20, _⟩ => ⟨S2x1024, .f32⟩
  | .local _ .vmem, ⟨21, _⟩ => ⟨S2x1024, .f32⟩
  | .local _ .vmem, ⟨22, _⟩ => ⟨S2x1024, .f32⟩
  | .local _ .vmem, ⟨23, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== ReferenceSmallAIdeal.lean ====
abbrev S2x1024 : Shape := ⟨2, ![2, 1024]⟩
abbrev S8x2x1024 : Shape := ⟨3, ![8, 2, 1024]⟩
abbrev S_ : Shape := ⟨0, ![]⟩

abbrev nBuf : Space → Nat
  | .hbm => 117
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S8x2x1024, .f32⟩
  | .hbm, ⟨4, _⟩ => ⟨S8x2x1024, .f32⟩
  | .hbm, ⟨5, _⟩ => ⟨S8x2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S_, .f32⟩
  | .hbm, ⟨13, _⟩ => ⟨S2x1024, .f32⟩
  | .hbm, ⟨14, _⟩ => ⟨S_, .f32⟩
  | .hbm, ⟨15, _⟩ => ⟨S2x1024, .f32⟩
  | .hbm, ⟨16, _⟩ => ⟨S_, .f32⟩
  | .hbm, ⟨17, _⟩ => ⟨S2x1024, .f32⟩
  | .hbm, ⟨18, _⟩ => ⟨S_, .f32⟩
  | .hbm, ⟨19, _⟩ => ⟨S2x1024, .f32⟩
  | .hbm, ⟨20, _⟩ => ⟨S2x1024, .f32⟩
  | .hbm, ⟨21, _⟩ => ⟨S_, .f32⟩
  | .hbm, ⟨22, _⟩ => ⟨S2x1024, .f32⟩
  | .hbm, ⟨23, _⟩ => ⟨S2x1024, .f32⟩
  | .hbm, ⟨24, _⟩ => ⟨S2x1024, .f32⟩
  | .hbm, ⟨25, _⟩ => ⟨S_, .f32⟩
  | .hbm, ⟨26, _⟩ => ⟨S2x1024, .f32⟩
  | .hbm, ⟨27, _⟩ => ⟨S2x1024, .f32⟩
  | .hbm, ⟨28, _⟩ => ⟨S2x1024, .f32⟩
  | .hbm, ⟨29, _⟩ => ⟨S_, .f32⟩
  | .hbm, ⟨30, _⟩ => ⟨S2x1024, .f32⟩
  | .hbm, ⟨31, _⟩ => ⟨S2x1024, .f32⟩
  | .hbm, ⟨32, _⟩ => ⟨S2x1024, .f32⟩
  | .hbm, ⟨33, _⟩ => ⟨S_, .f32⟩
  | .hbm, ⟨34, _⟩ => ⟨S2x1024, .f32⟩
  | .hbm, ⟨35, _⟩ => ⟨S2x1024, .f32⟩
  | .hbm, ⟨36, _⟩ => ⟨S_, .f32⟩
  | .hbm, ⟨37, _⟩ => ⟨S2x1024, .f32⟩
  | .hbm, ⟨38, _⟩ => ⟨S2x1024, .f32⟩
  | .hbm, ⟨39, _⟩ => ⟨S2x1024, .f32⟩
  | .hbm, ⟨40, _⟩ => ⟨S_, .f32⟩
  | .hbm, ⟨41, _⟩ => ⟨S2x1024, .f32⟩
  | .hbm, ⟨42, _⟩ => ⟨S2x1024, .f32⟩
  | .hbm, ⟨43, _⟩ => ⟨S2x1024, .f32⟩
  | .hbm, ⟨44, _⟩ => ⟨S_, .f32⟩
  | .hbm, ⟨45, _⟩ => ⟨S2x1024, .f32⟩
  | .hbm, ⟨46, _⟩ => ⟨S2x1024, .f32⟩
  | .hbm, ⟨47, _⟩ => ⟨S2x1024, .f32⟩
  | .hbm, ⟨48, _⟩ => ⟨S_, .f32⟩
  | .hbm, ⟨49, _⟩ => ⟨S2x1024, .f32⟩
  | .hbm, ⟨50, _⟩ => ⟨S2x1024, .f32⟩
  | .hbm, ⟨51, _⟩ => ⟨S_, .f32⟩
  | .hbm, ⟨52, _⟩ => ⟨S2x1024, .f32⟩
  | .hbm, ⟨53, _⟩ => ⟨S2x1024, .f32⟩
  | .hbm, ⟨54, _⟩ => ⟨S_, .f32⟩
  | .hbm, ⟨55, _⟩ => ⟨S2x1024, .f32⟩
  | .hbm, ⟨56, _⟩ => ⟨S2x1024, .f32⟩
  | .hbm, ⟨57, _⟩ => ⟨S2x1024, .f32⟩
  | .hbm, ⟨58, _⟩ => ⟨S_, .f32⟩
  | .hbm, ⟨59, _⟩ => ⟨S2x1024, .f32⟩
  | .hbm, ⟨60, _⟩ => ⟨S2x1024, .f32⟩
  | .hbm, ⟨61, _⟩ => ⟨S2x1024, .f32⟩
  | .hbm, ⟨62, _⟩ => ⟨S_, .f32⟩
  | .hbm, ⟨63, _⟩ => ⟨S2x1024, .f32⟩
  | .hbm, ⟨64, _⟩ => ⟨S2x1024, .f32⟩
  | .hbm, ⟨65, _⟩ => ⟨S2x1024, .f32⟩
  | .hbm, ⟨66, _⟩ => ⟨S_, .f32⟩
  | .hbm, ⟨67, _⟩ => ⟨S2x1024, .f32⟩
  | .hbm, ⟨68, _⟩ => ⟨S2x1024, .f32⟩
  | .hbm, ⟨69, _⟩ => ⟨S_, .f32⟩
  | .hbm, ⟨70, _⟩ => ⟨S2x1024, .f32⟩
  | .hbm, ⟨71, _⟩ => ⟨S2x1024, .f32⟩
  | .hbm, ⟨72, _⟩ => ⟨S2x1024, .f32⟩
  | .hbm, ⟨73, _⟩ => ⟨S_, .f32⟩
  | .hbm, ⟨74, _⟩ => ⟨S2x1024, .f32⟩
  | .hbm, ⟨75, _⟩ => ⟨S2x1024, .f32⟩
  | .hbm, ⟨76, _⟩ => ⟨S2x1024, .f32⟩
  | .hbm, ⟨77, _⟩ => ⟨S_, .f32⟩
  | .hbm, ⟨78, _⟩ => ⟨S2x1024, .f32⟩
  | .hbm, ⟨79, _⟩ => ⟨S2x1024, .f32⟩
  | .hbm, ⟨80, _⟩ => ⟨S2x1024, .f32⟩
  | .hbm, ⟨81, _⟩ => ⟨S_, .f32⟩
  | .hbm, ⟨82, _⟩ => ⟨S2x1024, .f32⟩
  | .hbm, ⟨83, _⟩ => ⟨S2x1024, .f32⟩
  | .hbm, ⟨84, _⟩ => ⟨S_, .f32⟩
  | .hbm, ⟨85, _⟩ => ⟨S2x1024, .f32⟩
  | .hbm, ⟨86, _⟩ => ⟨S2x1024, .f32⟩
  | .hbm, ⟨87, _⟩ => ⟨S_, .f32⟩
  | .hbm, ⟨88, _⟩ => ⟨S2x1024, .f32⟩
  | .hbm, ⟨89, _⟩ => ⟨S2x1024, .f32⟩
  | .hbm, ⟨90, _⟩ => ⟨S2x1024, .f32⟩
  | .hbm, ⟨91, _⟩ => ⟨S_, .f32⟩
  | .hbm, ⟨92, _⟩ => ⟨S2x1024, .f32⟩
  | .hbm, ⟨93, _⟩ => ⟨S2x1024, .f32⟩
  | .hbm, ⟨94, _⟩ => ⟨S2x1024, .f32⟩
  | .hbm, ⟨95, _⟩ => ⟨S_, .f32⟩
  | .hbm, ⟨96, _⟩ => ⟨S2x1024, .f32⟩
  | .hbm, ⟨97, _⟩ => ⟨S2x1024, .f32⟩
  | .hbm, ⟨98, _⟩ => ⟨S2x1024, .f32⟩
  | .hbm, ⟨99, _⟩ => ⟨S_, .f32⟩
  | .hbm, ⟨100, _⟩ => ⟨S2x1024, .f32⟩
  | .hbm, ⟨101, _⟩ => ⟨S2x1024, .f32⟩
  | .hbm, ⟨102, _⟩ => ⟨S_, .f32⟩
  | .hbm, ⟨103, _⟩ => ⟨S2x1024, .f32⟩
  | .hbm, ⟨104, _⟩ => ⟨S2x1024, .f32⟩
  | .hbm, ⟨105, _⟩ => ⟨S2x1024, .f32⟩
  | .hbm, ⟨106, _⟩ => ⟨S_, .f32⟩
  | .hbm, ⟨107, _⟩ => ⟨S2x1024, .f32⟩
  | .hbm, ⟨108, _⟩ => ⟨S2x1024, .f32⟩
  | .hbm, ⟨109, _⟩ => ⟨S2x1024, .f32⟩
  | .hbm, ⟨110, _⟩ => ⟨S_, .f32⟩
  | .hbm, ⟨111, _⟩ => ⟨S2x1024, .f32⟩
  | .hbm, ⟨112, _⟩ => ⟨S2x1024, .f32⟩
  | .hbm, ⟨113, _⟩ => ⟨S2x1024, .f32⟩
  | .hbm, ⟨114, _⟩ => ⟨S_, .f32⟩
  | .hbm, ⟨115, _⟩ => ⟨S2x1024, .f32⟩
  | .hbm, ⟨116, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_cst_2 : Ref sig .tc := ⟨.hbm, 18, rfl⟩
abbrev main_v3 : Ref sig .tc := ⟨.hbm, 19, rfl⟩
abbrev main_v4 : Ref sig .tc := ⟨.hbm, 20, rfl⟩
abbrev main_cst_3 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_6 : Ref sig .tc := ⟨.hbm, 33, rfl⟩
abbrev main_v14 : Ref sig .tc := ⟨.hbm, 34, rfl⟩
abbrev main_v15 : Ref sig .tc := ⟨.hbm, 35, rfl⟩
abbrev main_cst_7 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_8 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_9 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_10 : Ref sig .tc := ⟨.hbm, 48, rfl⟩
abbrev main_v25 : Ref sig .tc := ⟨.hbm, 49, rfl⟩
abbrev main_v26 : Ref sig .tc := ⟨.hbm, 50, rfl⟩
abbrev main_cst_11 : Ref sig .tc := ⟨.hbm, 51, rfl⟩
abbrev main_v27 : Ref sig .tc := ⟨.hbm, 52, rfl⟩
abbrev main_v28 : Ref sig .tc := ⟨.hbm, 53, rfl⟩
abbrev main_cst_12 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_13 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_14 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_15 : Ref sig .tc := ⟨.hbm, 66, rfl⟩
abbrev main_v38 : Ref sig .tc := ⟨.hbm, 67, rfl⟩
abbrev main_v39 : Ref sig .tc := ⟨.hbm, 68, rfl⟩
abbrev main_cst_16 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_17 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_18 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_19 : Ref sig .tc := ⟨.hbm, 81, rfl⟩
abbrev main_v49 : Ref sig .tc := ⟨.hbm, 82, rfl⟩
abbrev main_v50 : Ref sig .tc := ⟨.hbm, 83, rfl⟩
abbrev main_cst_20 : Ref sig .tc := ⟨.hbm, 84, rfl⟩
abbrev main_v51 : Ref sig .tc := ⟨.hbm, 85, rfl⟩
abbrev main_v52 : Ref sig .tc := ⟨.hbm, 86, rfl⟩
abbrev main_cst_21 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_22 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_23 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_24 : Ref sig .tc := ⟨.hbm, 99, rfl⟩
abbrev main_v62 : Ref sig .tc := ⟨.hbm, 100, rfl⟩
abbrev main_v63 : Ref sig .tc := ⟨.hbm, 101, rfl⟩
abbrev main_cst_25 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_26 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_27 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_28 : Ref sig .tc := ⟨.hbm, 114, rfl⟩
abbrev main_v73 : Ref sig .tc := ⟨.hbm, 115, rfl⟩
abbrev main_v74 : Ref sig .tc := ⟨.hbm, 116, rfl⟩

abbrev nD : Nat := 1
abbrev τ : Topo := Topo.v7x

variable {F : FTy → Type} [FloatOps F]
-- ==== KernelSmallB.lean ====
abbrev S2x2048 : Shape := ⟨2, ![2, 2048]⟩
abbrev S2x64 : Shape := ⟨2, ![2, 64]⟩
abbrev S8x2x2048 : Shape := ⟨3, ![8, 2, 2048]⟩
abbrev S8x2x64 : Shape := ⟨3, ![8, 2, 64]⟩
abbrev S1x2x2048 : Shape := ⟨3, ![1, 2, 2048]⟩
abbrev S1x2x64 : Shape := ⟨3, ![1, 2, 64]⟩

abbrev nBuf : Space → Nat
  | .hbm => 24
  | .vmem => 24
  | .smem => 0
  | _ => 0

abbrev bufTy : (tb : Table) → Fin (tcTables nBuf tb) → BufTy
  | .hbm, ⟨0, _⟩ => ⟨S2x2048, .f32⟩
  | .hbm, ⟨1, _⟩ => ⟨S2x64, .f32⟩
  | .hbm, ⟨2, _⟩ => ⟨S2x64, .f32⟩
  | .hbm, ⟨3, _⟩ => ⟨S8x2x2048, .f32⟩
  | .hbm, ⟨4, _⟩ => ⟨S8x2x64, .f32⟩
  | .hbm, ⟨5, _⟩ => ⟨S8x2x64, .f32⟩
  | .hbm, ⟨6, _⟩ => ⟨S2x2048, .f32⟩
  | .hbm, ⟨7, _⟩ => ⟨S2x64, .f32⟩
  | .hbm, ⟨8, _⟩ => ⟨S2x64, .f32⟩
  | .hbm, ⟨9, _⟩ => ⟨S2x2048, .f32⟩
  | .hbm, ⟨10, _⟩ => ⟨S2x64, .f32⟩
  | .hbm, ⟨11, _⟩ => ⟨S2x64, .f32⟩
  | .hbm, ⟨12, _⟩ => ⟨S2x2048, .f32⟩
  | .hbm, ⟨13, _⟩ => ⟨S2x64, .f32⟩
  | .hbm, ⟨14, _⟩ => ⟨S2x64, .f32⟩
  | .hbm, ⟨15, _⟩ => ⟨S2x2048, .f32⟩
  | .hbm, ⟨16, _⟩ => ⟨S2x64, .f32⟩
  | .hbm, ⟨17, _⟩ => ⟨S2x64, .f32⟩
  | .hbm, ⟨18, _⟩ => ⟨S2x2048, .f32⟩
  | .hbm, ⟨19, _⟩ => ⟨S2x64, .f32⟩
  | .hbm, ⟨20, _⟩ => ⟨S2x64, .f32⟩
  | .hbm, ⟨21, _⟩ => ⟨S2x2048, .f32⟩
  | .hbm, ⟨22, _⟩ => ⟨S2x64, .f32⟩
  | .hbm, ⟨23, _⟩ => ⟨S2x64, .f32⟩
  | .local _ .vmem, ⟨0, _⟩ => ⟨S2x2048, .f32⟩
  | .local _ .vmem, ⟨1, _⟩ => ⟨S2x64, .f32⟩
  | .local _ .vmem, ⟨2, _⟩ => ⟨S2x64, .f32⟩
  | .local _ .vmem, ⟨3, _⟩ => ⟨S8x2x2048, .f32⟩
  | .local _ .vmem, ⟨4, _⟩ => ⟨S8x2x64, .f32⟩
  | .local _ .vmem, ⟨5, _⟩ => ⟨S8x2x64, .f32⟩
  | .local _ .vmem, ⟨6, _⟩ => ⟨S2x2048, .f32⟩
  | .local _ .vmem, ⟨7, _⟩ => ⟨S2x64, .f32⟩
  | .local _ .vmem, ⟨8, _⟩ => ⟨S2x64, .f32⟩
  | .local _ .vmem, ⟨9, _⟩ => ⟨S2x2048, .f32⟩
  | .local _ .vmem, ⟨10, _⟩ => ⟨S2x64, .f32⟩
  | .local _ .vmem, ⟨11, _⟩ => ⟨S2x64, .f32⟩
  | .local _ .vmem, ⟨12, _⟩ => ⟨S2x2048, .f32⟩
  | .local _ .vmem, ⟨13, _⟩ => ⟨S2x64, .f32⟩
  | .local _ .vmem, ⟨14, _⟩ => ⟨S2x64, .f32⟩
  | .local _ .vmem, ⟨15, _⟩ => ⟨S2x2048, .f32⟩
  | .local _ .vmem, ⟨16, _⟩ => ⟨S2x64, .f32⟩
  | .local _ .vmem, ⟨17, _⟩ => ⟨S2x64, .f32⟩
  | .local _ .vmem, ⟨18, _⟩ => ⟨S2x2048, .f32⟩
  | .local _ .vmem, ⟨19, _⟩ => ⟨S2x64, .f32⟩
  | .local _ .vmem, ⟨20, _⟩ => ⟨S2x64, .f32⟩
  | .local _ .vmem, ⟨21, _⟩ => ⟨S2x2048, .f32⟩
  | .local _ .vmem, ⟨22, _⟩ => ⟨S2x64, .f32⟩
  | .local _ .vmem, ⟨23, _⟩ => ⟨S2x64, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== KernelSmallBIdeal.lean ====
abbrev S2x2048 : Shape := ⟨2, ![2, 2048]⟩
abbrev S2x64 : Shape := ⟨2, ![2, 64]⟩
abbrev S8x2x2048 : Shape := ⟨3, ![8, 2, 2048]⟩
abbrev S8x2x64 : Shape := ⟨3, ![8, 2, 64]⟩
abbrev S1x2x2048 : Shape := ⟨3, ![1, 2, 2048]⟩
abbrev S1x2x64 : Shape := ⟨3, ![1, 2, 64]⟩

abbrev nBuf : Space → Nat
  | .hbm => 24
  | .vmem => 24
  | .smem => 0
  | _ => 0

abbrev bufTy : (tb : Table) → Fin (tcTables nBuf tb) → BufTy
  | .hbm, ⟨0, _⟩ => ⟨S2x2048, .f32⟩
  | .hbm, ⟨1, _⟩ => ⟨S2x64, .f32⟩
  | .hbm, ⟨2, _⟩ => ⟨S2x64, .f32⟩
  | .hbm, ⟨3, _⟩ => ⟨S8x2x2048, .f32⟩
  | .hbm, ⟨4, _⟩ => ⟨S8x2x64, .f32⟩
  | .hbm, ⟨5, _⟩ => ⟨S8x2x64, .f32⟩
  | .hbm, ⟨6, _⟩ => ⟨S2x2048, .f32⟩
  | .hbm, ⟨7, _⟩ => ⟨S2x64, .f32⟩
  | .hbm, ⟨8, _⟩ => ⟨S2x64, .f32⟩
  | .hbm, ⟨9, _⟩ => ⟨S2x2048, .f32⟩
  | .hbm, ⟨10, _⟩ => ⟨S2x64, .f32⟩
  | .hbm, ⟨11, _⟩ => ⟨S2x64, .f32⟩
  | .hbm, ⟨12, _⟩ => ⟨S2x2048, .f32⟩
  | .hbm, ⟨13, _⟩ => ⟨S2x64, .f32⟩
  | .hbm, ⟨14, _⟩ => ⟨S2x64, .f32⟩
  | .hbm, ⟨15, _⟩ => ⟨S2x2048, .f32⟩
  | .hbm, ⟨16, _⟩ => ⟨S2x64, .f32⟩
  | .hbm, ⟨17, _⟩ => ⟨S2x64, .f32⟩
  | .hbm, ⟨18, _⟩ => ⟨S2x2048, .f32⟩
  | .hbm, ⟨19, _⟩ => ⟨S2x64, .f32⟩
  | .hbm, ⟨20, _⟩ => ⟨S2x64, .f32⟩
  | .hbm, ⟨21, _⟩ => ⟨S2x2048, .f32⟩
  | .hbm, ⟨22, _⟩ => ⟨S2x64, .f32⟩
  | .hbm, ⟨23, _⟩ => ⟨S2x64, .f32⟩
  | .local _ .vmem, ⟨0, _⟩ => ⟨S2x2048, .f32⟩
  | .local _ .vmem, ⟨1, _⟩ => ⟨S2x64, .f32⟩
  | .local _ .vmem, ⟨2, _⟩ => ⟨S2x64, .f32⟩
  | .local _ .vmem, ⟨3, _⟩ => ⟨S8x2x2048, .f32⟩
  | .local _ .vmem, ⟨4, _⟩ => ⟨S8x2x64, .f32⟩
  | .local _ .vmem, ⟨5, _⟩ => ⟨S8x2x64, .f32⟩
  | .local _ .vmem, ⟨6, _⟩ => ⟨S2x2048, .f32⟩
  | .local _ .vmem, ⟨7, _⟩ => ⟨S2x64, .f32⟩
  | .local _ .vmem, ⟨8, _⟩ => ⟨S2x64, .f32⟩
  | .local _ .vmem, ⟨9, _⟩ => ⟨S2x2048, .f32⟩
  | .local _ .vmem, ⟨10, _⟩ => ⟨S2x64, .f32⟩
  | .local _ .vmem, ⟨11, _⟩ => ⟨S2x64, .f32⟩
  | .local _ .vmem, ⟨12, _⟩ => ⟨S2x2048, .f32⟩
  | .local _ .vmem, ⟨13, _⟩ => ⟨S2x64, .f32⟩
  | .local _ .vmem, ⟨14, _⟩ => ⟨S2x64, .f32⟩
  | .local _ .vmem, ⟨15, _⟩ => ⟨S2x2048, .f32⟩
  | .local _ .vmem, ⟨16, _⟩ => ⟨S2x64, .f32⟩
  | .local _ .vmem, ⟨17, _⟩ => ⟨S2x64, .f32⟩
  | .local _ .vmem, ⟨18, _⟩ => ⟨S2x2048, .f32⟩
  | .local _ .vmem, ⟨19, _⟩ => ⟨S2x64, .f32⟩
  | .local _ .vmem, ⟨20, _⟩ => ⟨S2x64, .f32⟩
  | .local _ .vmem, ⟨21, _⟩ => ⟨S2x2048, .f32⟩
  | .local _ .vmem, ⟨22, _⟩ => ⟨S2x64, .f32⟩
  | .local _ .vmem, ⟨23, _⟩ => ⟨S2x64, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== ReferenceSmallBIdeal.lean ====
abbrev S2x2048 : Shape := ⟨2, ![2, 2048]⟩
abbrev S2x64 : Shape := ⟨2, ![2, 64]⟩
abbrev S8x2x2048 : Shape := ⟨3, ![8, 2, 2048]⟩
abbrev S8x2x64 : Shape := ⟨3, ![8, 2, 64]⟩
abbrev S_ : Shape := ⟨0, ![]⟩

abbrev nBuf : Space → Nat
  | .hbm => 117
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x64, .f32⟩
  | .hbm, ⟨2, _⟩ => ⟨S2x64, .f32⟩
  | .hbm, ⟨3, _⟩ => ⟨S8x2x2048, .f32⟩
  | .hbm, ⟨4, _⟩ => ⟨S8x2x64, .f32⟩
  | .hbm, ⟨5, _⟩ => ⟨S8x2x64, .f32⟩
  | .hbm, ⟨6, _⟩ => ⟨S2x2048, .f32⟩
  | .hbm, ⟨7, _⟩ => ⟨S2x64, .f32⟩
  | .hbm, ⟨8, _⟩ => ⟨S2x64, .f32⟩
  | .hbm, ⟨9, _⟩ => ⟨S2x2048, .f32⟩
  | .hbm, ⟨10, _⟩ => ⟨S2x64, .f32⟩
  | .hbm, ⟨11, _⟩ => ⟨S2x64, .f32⟩
  | .hbm, ⟨12, _⟩ => ⟨S_, .f32⟩
  | .hbm, ⟨13, _⟩ => ⟨S2x2048, .f32⟩
  | .hbm, ⟨14, _⟩ => ⟨S_, .f32⟩
  | .hbm, ⟨15, _⟩ => ⟨S2x64, .f32⟩
  | .hbm, ⟨16, _⟩ => ⟨S_, .f32⟩
  | .hbm, ⟨17, _⟩ => ⟨S2x64, .f32⟩
  | .hbm, ⟨18, _⟩ => ⟨S_, .f32⟩
  | .hbm, ⟨19, _⟩ => ⟨S2x2048, .f32⟩
  | .hbm, ⟨20, _⟩ => ⟨S2x2048, .f32⟩
  | .hbm, ⟨21, _⟩ => ⟨S_, .f32⟩
  | .hbm, ⟨22, _⟩ => ⟨S2x2048, .f32⟩
  | .hbm, ⟨23, _⟩ => ⟨S2x2048, .f32⟩
  | .hbm, ⟨24, _⟩ => ⟨S2x2048, .f32⟩
  | .hbm, ⟨25, _⟩ => ⟨S_, .f32⟩
  | .hbm, ⟨26, _⟩ => ⟨S2x2048, .f32⟩
  | .hbm, ⟨27, _⟩ => ⟨S2x2048, .f32⟩
  | .hbm, ⟨28, _⟩ => ⟨S2x2048, .f32⟩
  | .hbm, ⟨29, _⟩ => ⟨S_, .f32⟩
  | .hbm, ⟨30, _⟩ => ⟨S2x2048, .f32⟩
  | .hbm, ⟨31, _⟩ => ⟨S2x2048, .f32⟩
  | .hbm, ⟨32, _⟩ => ⟨S2x2048, .f32⟩
  | .hbm, ⟨33, _⟩ => ⟨S_, .f32⟩
  | .hbm, ⟨34, _⟩ => ⟨S2x2048, .f32⟩
  | .hbm, ⟨35, _⟩ => ⟨S2x2048, .f32⟩
  | .hbm, ⟨36, _⟩ => ⟨S_, .f32⟩
  | .hbm, ⟨37, _⟩ => ⟨S2x2048, .f32⟩
  | .hbm, ⟨38, _⟩ => ⟨S2x2048, .f32⟩
  | .hbm, ⟨39, _⟩ => ⟨S2x2048, .f32⟩
  | .hbm, ⟨40, _⟩ => ⟨S_, .f32⟩
  | .hbm, ⟨41, _⟩ => ⟨S2x2048, .f32⟩
  | .hbm, ⟨42, _⟩ => ⟨S2x2048, .f32⟩
  | .hbm, ⟨43, _⟩ => ⟨S2x2048, .f32⟩
  | .hbm, ⟨44, _⟩ => ⟨S_, .f32⟩
  | .hbm, ⟨45, _⟩ => ⟨S2x2048, .f32⟩
  | .hbm, ⟨46, _⟩ => ⟨S2x2048, .f32⟩
  | .hbm, ⟨47, _⟩ => ⟨S2x2048, .f32⟩
  | .hbm, ⟨48, _⟩ => ⟨S_, .f32⟩
  | .hbm, ⟨49, _⟩ => ⟨S2x2048, .f32⟩
  | .hbm, ⟨50, _⟩ => ⟨S2x2048, .f32⟩
  | .hbm, ⟨51, _⟩ => ⟨S_, .f32⟩
  | .hbm, ⟨52, _⟩ => ⟨S2x64, .f32⟩
  | .hbm, ⟨53, _⟩ => ⟨S2x64, .f32⟩
  | .hbm, ⟨54, _⟩ => ⟨S_, .f32⟩
  | .hbm, ⟨55, _⟩ => ⟨S2x64, .f32⟩
  | .hbm, ⟨56, _⟩ => ⟨S2x64, .f32⟩
  | .hbm, ⟨57, _⟩ => ⟨S2x64, .f32⟩
  | .hbm, ⟨58, _⟩ => ⟨S_, .f32⟩
  | .hbm, ⟨59, _⟩ => ⟨S2x64, .f32⟩
  | .hbm, ⟨60, _⟩ => ⟨S2x64, .f32⟩
  | .hbm, ⟨61, _⟩ => ⟨S2x64, .f32⟩
  | .hbm, ⟨62, _⟩ => ⟨S_, .f32⟩
  | .hbm, ⟨63, _⟩ => ⟨S2x64, .f32⟩
  | .hbm, ⟨64, _⟩ => ⟨S2x64, .f32⟩
  | .hbm, ⟨65, _⟩ => ⟨S2x64, .f32⟩
  | .hbm, ⟨66, _⟩ => ⟨S_, .f32⟩
  | .hbm, ⟨67, _⟩ => ⟨S2x64, .f32⟩
  | .hbm, ⟨68, _⟩ => ⟨S2x64, .f32⟩
  | .hbm, ⟨69, _⟩ => ⟨S_, .f32⟩
  | .hbm, ⟨70, _⟩ => ⟨S2x64, .f32⟩
  | .hbm, ⟨71, _⟩ => ⟨S2x64, .f32⟩
  | .hbm, ⟨72, _⟩ => ⟨S2x64, .f32⟩
  | .hbm, ⟨73, _⟩ => ⟨S_, .f32⟩
  | .hbm, ⟨74, _⟩ => ⟨S2x64, .f32⟩
  | .hbm, ⟨75, _⟩ => ⟨S2x64, .f32⟩
  | .hbm, ⟨76, _⟩ => ⟨S2x64, .f32⟩
  | .hbm, ⟨77, _⟩ => ⟨S_, .f32⟩
  | .hbm, ⟨78, _⟩ => ⟨S2x64, .f32⟩
  | .hbm, ⟨79, _⟩ => ⟨S2x64, .f32⟩
  | .hbm, ⟨80, _⟩ => ⟨S2x64, .f32⟩
  | .hbm, ⟨81, _⟩ => ⟨S_, .f32⟩
  | .hbm, ⟨82, _⟩ => ⟨S2x64, .f32⟩
  | .hbm, ⟨83, _⟩ => ⟨S2x64, .f32⟩
  | .hbm, ⟨84, _⟩ => ⟨S_, .f32⟩
  | .hbm, ⟨85, _⟩ => ⟨S2x64, .f32⟩
  | .hbm, ⟨86, _⟩ => ⟨S2x64, .f32⟩
  | .hbm, ⟨87, _⟩ => ⟨S_, .f32⟩
  | .hbm, ⟨88, _⟩ => ⟨S2x64, .f32⟩
  | .hbm, ⟨89, _⟩ => ⟨S2x64, .f32⟩
  | .hbm, ⟨90, _⟩ => ⟨S2x64, .f32⟩
  | .hbm, ⟨91, _⟩ => ⟨S_, .f32⟩
  | .hbm, ⟨92, _⟩ => ⟨S2x64, .f32⟩
  | .hbm, ⟨93, _⟩ => ⟨S2x64, .f32⟩
  | .hbm, ⟨94, _⟩ => ⟨S2x64, .f32⟩
  | .hbm, ⟨95, _⟩ => ⟨S_, .f32⟩
  | .hbm, ⟨96, _⟩ => ⟨S2x64, .f32⟩
  | .hbm, ⟨97, _⟩ => ⟨S2x64, .f32⟩
  | .hbm, ⟨98, _⟩ => ⟨S2x64, .f32⟩
  | .hbm, ⟨99, _⟩ => ⟨S_, .f32⟩
  | .hbm, ⟨100, _⟩ => ⟨S2x64, .f32⟩
  | .hbm, ⟨101, _⟩ => ⟨S2x64, .f32⟩
  | .hbm, ⟨102, _⟩ => ⟨S_, .f32⟩
  | .hbm, ⟨103, _⟩ => ⟨S2x64, .f32⟩
  | .hbm, ⟨104, _⟩ => ⟨S2x64, .f32⟩
  | .hbm, ⟨105, _⟩ => ⟨S2x64, .f32⟩
  | .hbm, ⟨106, _⟩ => ⟨S_, .f32⟩
  | .hbm, ⟨107, _⟩ => ⟨S2x64, .f32⟩
  | .hbm, ⟨108, _⟩ => ⟨S2x64, .f32⟩
  | .hbm, ⟨109, _⟩ => ⟨S2x64, .f32⟩
  | .hbm, ⟨110, _⟩ => ⟨S_, .f32⟩
  | .hbm, ⟨111, _⟩ => ⟨S2x64, .f32⟩
  | .hbm, ⟨112, _⟩ => ⟨S2x64, .f32⟩
  | .hbm, ⟨113, _⟩ => ⟨S2x64, .f32⟩
  | .hbm, ⟨114, _⟩ => ⟨S_, .f32⟩
  | .hbm, ⟨115, _⟩ => ⟨S2x64, .f32⟩
  | .hbm, ⟨116, _⟩ => ⟨S2x64, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_cst_2 : Ref sig .tc := ⟨.hbm, 18, rfl⟩
abbrev main_v3 : Ref sig .tc := ⟨.hbm, 19, rfl⟩
abbrev main_v4 : Ref sig .tc := ⟨.hbm, 20, rfl⟩
abbrev main_cst_3 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_6 : Ref sig .tc := ⟨.hbm, 33, rfl⟩
abbrev main_v14 : Ref sig .tc := ⟨.hbm, 34, rfl⟩
abbrev main_v15 : Ref sig .tc := ⟨.hbm, 35, rfl⟩
abbrev main_cst_7 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_8 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_9 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_10 : Ref sig .tc := ⟨.hbm, 48, rfl⟩
abbrev main_v25 : Ref sig .tc := ⟨.hbm, 49, rfl⟩
abbrev main_v26 : Ref sig .tc := ⟨.hbm, 50, rfl⟩
abbrev main_cst_11 : Ref sig .tc := ⟨.hbm, 51, rfl⟩
abbrev main_v27 : Ref sig .tc := ⟨.hbm, 52, rfl⟩
abbrev main_v28 : Ref sig .tc := ⟨.hbm, 53, rfl⟩
abbrev main_cst_12 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_13 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_14 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_15 : Ref sig .tc := ⟨.hbm, 66, rfl⟩
abbrev main_v38 : Ref sig .tc := ⟨.hbm, 67, rfl⟩
abbrev main_v39 : Ref sig .tc := ⟨.hbm, 68, rfl⟩
abbrev main_cst_16 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_17 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_18 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_19 : Ref sig .tc := ⟨.hbm, 81, rfl⟩
abbrev main_v49 : Ref sig .tc := ⟨.hbm, 82, rfl⟩
abbrev main_v50 : Ref sig .tc := ⟨.hbm, 83, rfl⟩
abbrev main_cst_20 : Ref sig .tc := ⟨.hbm, 84, rfl⟩
abbrev main_v51 : Ref sig .tc := ⟨.hbm, 85, rfl⟩
abbrev main_v52 : Ref sig .tc := ⟨.hbm, 86, rfl⟩
abbrev main_cst_21 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_22 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_23 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_24 : Ref sig .tc := ⟨.hbm, 99, rfl⟩
abbrev main_v62 : Ref sig .tc := ⟨.hbm, 100, rfl⟩
abbrev main_v63 : Ref sig .tc := ⟨.hbm, 101, rfl⟩
abbrev main_cst_25 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_26 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_27 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_28 : Ref sig .tc := ⟨.hbm, 114, rfl⟩
abbrev main_v73 : Ref sig .tc := ⟨.hbm, 115, rfl⟩
abbrev main_v74 : Ref sig .tc := ⟨.hbm, 116, rfl⟩

abbrev nD : Nat := 1
abbrev τ : Topo := Topo.v7x

variable {F : FTy → Type} [FloatOps F]
-- ==== KernelSmallC.lean ====
abbrev S2x8x15x31 : Shape := ⟨4, ![2, 8, 15, 31]⟩
abbrev S2x8 : Shape := ⟨2, ![2, 8]⟩
abbrev S32x8 : Shape := ⟨2, ![32, 8]⟩
abbrev S8x2x8x15x31 : Shape := ⟨5, ![8, 2, 8, 15, 31]⟩
abbrev S8x2x8 : Shape := ⟨3, ![8, 2, 8]⟩
abbrev S8x32x8 : Shape := ⟨3, ![8, 32, 8]⟩
abbrev S1x2x8x15x31 : Shape := ⟨5, ![1, 2, 8, 15, 31]⟩
abbrev S1x2x8 : Shape := ⟨3, ![1, 2, 8]⟩
abbrev S1x32x8 : Shape := ⟨3, ![1, 32, 8]⟩

abbrev nBuf : Space → Nat
  | .hbm => 24
  | .vmem => 24
  | .smem => 0
  | _ => 0

abbrev bufTy : (tb : Table) → Fin (tcTables nBuf tb) → BufTy
  | .hbm, ⟨0, _⟩ => ⟨S2x8x15x31, .f32⟩
  | .hbm, ⟨1, _⟩ => ⟨S2x8, .f32⟩
  | .hbm, ⟨2, _⟩ => ⟨S32x8, .f32⟩
  | .hbm, ⟨3, _⟩ => ⟨S8x2x8x15x31, .f32⟩
  | .hbm, ⟨4, _⟩ => ⟨S8x2x8, .f32⟩
  | .hbm, ⟨5, _⟩ => ⟨S8x32x8, .f32⟩
  | .hbm, ⟨6, _⟩ => ⟨S2x8x15x31, .f32⟩
  | .hbm, ⟨7, _⟩ => ⟨S2x8, .f32⟩
  | .hbm, ⟨8, _⟩ => ⟨S32x8, .f32⟩
  | .hbm, ⟨9, _⟩ => ⟨S2x8x15x31, .f32⟩
  | .hbm, ⟨10, _⟩ => ⟨S2x8, .f32⟩
  | .hbm, ⟨11, _⟩ => ⟨S32x8, .f32⟩
  | .hbm, ⟨12, _⟩ => ⟨S2x8x15x31, .f32⟩
  | .hbm, ⟨13, _⟩ => ⟨S2x8, .f32⟩
  | .hbm, ⟨14, _⟩ => ⟨S32x8, .f32⟩
  | .hbm, ⟨15, _⟩ => ⟨S2x8x15x31, .f32⟩
  | .hbm, ⟨16, _⟩ => ⟨S2x8, .f32⟩
  | .hbm, ⟨17, _⟩ => ⟨S32x8, .f32⟩
  | .hbm, ⟨18, _⟩ => ⟨S2x8x15x31, .f32⟩
  | .hbm, ⟨19, _⟩ => ⟨S2x8, .f32⟩
  | .hbm, ⟨20, _⟩ => ⟨S32x8, .f32⟩
  | .hbm, ⟨21, _⟩ => ⟨S2x8x15x31, .f32⟩
  | .hbm, ⟨22, _⟩ => ⟨S2x8, .f32⟩
  | .hbm, ⟨23, _⟩ => ⟨S32x8, .f32⟩
  | .local _ .vmem, ⟨0, _⟩ => ⟨S2x8x15x31, .f32⟩
  | .local _ .vmem, ⟨1, _⟩ => ⟨S2x8, .f32⟩
  | .local _ .vmem, ⟨2, _⟩ => ⟨S32x8, .f32⟩
  | .local _ .vmem, ⟨3, _⟩ => ⟨S8x2x8x15x31, .f32⟩
  | .local _ .vmem, ⟨4, _⟩ => ⟨S8x2x8, .f32⟩
  | .local _ .vmem, ⟨5, _⟩ => ⟨S8x32x8, .f32⟩
  | .local _ .vmem, ⟨6, _⟩ => ⟨S2x8x15x31, .f32⟩
  | .local _ .vmem, ⟨7, _⟩ => ⟨S2x8, .f32⟩
  | .local _ .vmem, ⟨8, _⟩ => ⟨S32x8, .f32⟩
  | .local _ .vmem, ⟨9, _⟩ => ⟨S2x8x15x31, .f32⟩
  | .local _ .vmem, ⟨10, _⟩ => ⟨S2x8, .f32⟩
  | .local _ .vmem, ⟨11, _⟩ => ⟨S32x8, .f32⟩
  | .local _ .vmem, ⟨12, _⟩ => ⟨S2x8x15x31, .f32⟩
  | .local _ .vmem, ⟨13, _⟩ => ⟨S2x8, .f32⟩
  | .local _ .vmem, ⟨14, _⟩ => ⟨S32x8, .f32⟩
  | .local _ .vmem, ⟨15, _⟩ => ⟨S2x8x15x31, .f32⟩
  | .local _ .vmem, ⟨16, _⟩ => ⟨S2x8, .f32⟩
  | .local _ .vmem, ⟨17, _⟩ => ⟨S32x8, .f32⟩
  | .local _ .vmem, ⟨18, _⟩ => ⟨S2x8x15x31, .f32⟩
  | .local _ .vmem, ⟨19, _⟩ => ⟨S2x8, .f32⟩
  | .local _ .vmem, ⟨20, _⟩ => ⟨S32x8, .f32⟩
  | .local _ .vmem, ⟨21, _⟩ => ⟨S2x8x15x31, .f32⟩
  | .local _ .vmem, ⟨22, _⟩ => ⟨S2x8, .f32⟩
  | .local _ .vmem, ⟨23, _⟩ => ⟨S32x8, .f32⟩
  | _, _ => ⟨S2x8x15x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S2x8x15x31 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2x8x15x31 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x32x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8x15x31 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8x15x31 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x8x15x31 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x8x15x31 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x8x15x31 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S32x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x8x15x31 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x8 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S32x8 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== KernelSmallCIdeal.lean ====
abbrev S2x8x15x31 : Shape := ⟨4, ![2, 8, 15, 31]⟩
abbrev S2x8 : Shape := ⟨2, ![2, 8]⟩
abbrev S32x8 : Shape := ⟨2, ![32, 8]⟩
abbrev S8x2x8x15x31 : Shape := ⟨5, ![8, 2, 8, 15, 31]⟩
abbrev S8x2x8 : Shape := ⟨3, ![8, 2, 8]⟩
abbrev S8x32x8 : Shape := ⟨3, ![8, 32, 8]⟩
abbrev S1x2x8x15x31 : Shape := ⟨5, ![1, 2, 8, 15, 31]⟩
abbrev S1x2x8 : Shape := ⟨3, ![1, 2, 8]⟩
abbrev S1x32x8 : Shape := ⟨3, ![1, 32, 8]⟩

abbrev nBuf : Space → Nat
  | .hbm => 24
  | .vmem => 24
  | .smem => 0
  | _ => 0

abbrev bufTy : (tb : Table) → Fin (tcTables nBuf tb) → BufTy
  | .hbm, ⟨0, _⟩ => ⟨S2x8x15x31, .f32⟩
  | .hbm, ⟨1, _⟩ => ⟨S2x8, .f32⟩
  | .hbm, ⟨2, _⟩ => ⟨S32x8, .f32⟩
  | .hbm, ⟨3, _⟩ => ⟨S8x2x8x15x31, .f32⟩
  | .hbm, ⟨4, _⟩ => ⟨S8x2x8, .f32⟩
  | .hbm, ⟨5, _⟩ => ⟨S8x32x8, .f32⟩
  | .hbm, ⟨6, _⟩ => ⟨S2x8x15x31, .f32⟩
  | .hbm, ⟨7, _⟩ => ⟨S2x8, .f32⟩
  | .hbm, ⟨8, _⟩ => ⟨S32x8, .f32⟩
  | .hbm, ⟨9, _⟩ => ⟨S2x8x15x31, .f32⟩
  | .hbm, ⟨10, _⟩ => ⟨S2x8, .f32⟩
  | .hbm, ⟨11, _⟩ => ⟨S32x8, .f32⟩
  | .hbm, ⟨12, _⟩ => ⟨S2x8x15x31, .f32⟩
  | .hbm, ⟨13, _⟩ => ⟨S2x8, .f32⟩
  | .hbm, ⟨14, _⟩ => ⟨S32x8, .f32⟩
  | .hbm, ⟨15, _⟩ => ⟨S2x8x15x31, .f32⟩
  | .hbm, ⟨16, _⟩ => ⟨S2x8, .f32⟩
  | .hbm, ⟨17, _⟩ => ⟨S32x8, .f32⟩
  | .hbm, ⟨18, _⟩ => ⟨S2x8x15x31, .f32⟩
  | .hbm, ⟨19, _⟩ => ⟨S2x8, .f32⟩
  | .hbm, ⟨20, _⟩ => ⟨S32x8, .f32⟩
  | .hbm, ⟨21, _⟩ => ⟨S2x8x15x31, .f32⟩
  | .hbm, ⟨22, _⟩ => ⟨S2x8, .f32⟩
  | .hbm, ⟨23, _⟩ => ⟨S32x8, .f32⟩
  | .local _ .vmem, ⟨0, _⟩ => ⟨S2x8x15x31, .f32⟩
  | .local _ .vmem, ⟨1, _⟩ => ⟨S2x8, .f32⟩
  | .local _ .vmem, ⟨2, _⟩ => ⟨S32x8, .f32⟩
  | .local _ .vmem, ⟨3, _⟩ => ⟨S8x2x8x15x31, .f32⟩
  | .local _ .vmem, ⟨4, _⟩ => ⟨S8x2x8, .f32⟩
  | .local _ .vmem, ⟨5, _⟩ => ⟨S8x32x8, .f32⟩
  | .local _ .vmem, ⟨6, _⟩ => ⟨S2x8x15x31, .f32⟩
  | .local _ .vmem, ⟨7, _⟩ => ⟨S2x8, .f32⟩
  | .local _ .vmem, ⟨8, _⟩ => ⟨S32x8, .f32⟩
  | .local _ .vmem, ⟨9, _⟩ => ⟨S2x8x15x31, .f32⟩
  | .local _ .vmem, ⟨10, _⟩ => ⟨S2x8, .f32⟩
  | .local _ .vmem, ⟨11, _⟩ => ⟨S32x8, .f32⟩
  | .local _ .vmem, ⟨12, _⟩ => ⟨S2x8x15x31, .f32⟩
  | .local _ .vmem, ⟨13, _⟩ => ⟨S2x8, .f32⟩
  | .local _ .vmem, ⟨14, _⟩ => ⟨S32x8, .f32⟩
  | .local _ .vmem, ⟨15, _⟩ => ⟨S2x8x15x31, .f32⟩
  | .local _ .vmem, ⟨16, _⟩ => ⟨S2x8, .f32⟩
  | .local _ .vmem, ⟨17, _⟩ => ⟨S32x8, .f32⟩
  | .local _ .vmem, ⟨18, _⟩ => ⟨S2x8x15x31, .f32⟩
  | .local _ .vmem, ⟨19, _⟩ => ⟨S2x8, .f32⟩
  | .local _ .vmem, ⟨20, _⟩ => ⟨S32x8, .f32⟩
  | .local _ .vmem, ⟨21, _⟩ => ⟨S2x8x15x31, .f32⟩
  | .local _ .vmem, ⟨22, _⟩ => ⟨S2x8, .f32⟩
  | .local _ .vmem, ⟨23, _⟩ => ⟨S32x8, .f32⟩
  | _, _ => ⟨S2x8x15x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S2x8x15x31 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2x8x15x31 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x32x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8x15x31 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8x15x31 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x8x15x31 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x8x15x31 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x8x15x31 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S32x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x8x15x31 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x8 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S32x8 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== ReferenceSmallCIdeal.lean ====
abbrev S2x8x15x31 : Shape := ⟨4, ![2, 8, 15, 31]⟩
abbrev S2x8 : Shape := ⟨2, ![2, 8]⟩
abbrev S32x8 : Shape := ⟨2, ![32, 8]⟩
abbrev S8x2x8x15x31 : Shape := ⟨5, ![8, 2, 8, 15, 31]⟩
abbrev S8x2x8 : Shape := ⟨3, ![8, 2, 8]⟩
abbrev S8x32x8 : Shape := ⟨3, ![8, 32, 8]⟩
abbrev S_ : Shape := ⟨0, ![]⟩

abbrev nBuf : Space → Nat
  | .hbm => 117
  | .vmem => 0
  | .smem => 0
  | _ => 0

abbrev bufTy : (tb : Table) → Fin (tcTables nBuf tb) → BufTy
  | .hbm, ⟨0, _⟩ => ⟨S2x8x15x31, .f32⟩
  | .hbm, ⟨1, _⟩ => ⟨S2x8, .f32⟩
  | .hbm, ⟨2, _⟩ => ⟨S32x8, .f32⟩
  | .hbm, ⟨3, _⟩ => ⟨S8x2x8x15x31, .f32⟩
  | .hbm, ⟨4, _⟩ => ⟨S8x2x8, .f32⟩
  | .hbm, ⟨5, _⟩ => ⟨S8x32x8, .f32⟩
  | .hbm, ⟨6, _⟩ => ⟨S2x8x15x31, .f32⟩
  | .hbm, ⟨7, _⟩ => ⟨S2x8, .f32⟩
  | .hbm, ⟨8, _⟩ => ⟨S32x8, .f32⟩
  | .hbm, ⟨9, _⟩ => ⟨S2x8x15x31, .f32⟩
  | .hbm, ⟨10, _⟩ => ⟨S2x8, .f32⟩
  | .hbm, ⟨11, _⟩ => ⟨S32x8, .f32⟩
  | .hbm, ⟨12, _⟩ => ⟨S_, .f32⟩
  | .hbm, ⟨13, _⟩ => ⟨S2x8x15x31, .f32⟩
  | .hbm, ⟨14, _⟩ => ⟨S_, .f32⟩
  | .hbm, ⟨15, _⟩ => ⟨S2x8, .f32⟩
  | .hbm, ⟨16, _⟩ => ⟨S_, .f32⟩
  | .hbm, ⟨17, _⟩ => ⟨S32x8, .f32⟩
  | .hbm, ⟨18, _⟩ => ⟨S_, .f32⟩
  | .hbm, ⟨19, _⟩ => ⟨S2x8x15x31, .f32⟩
  | .hbm, ⟨20, _⟩ => ⟨S2x8x15x31, .f32⟩
  | .hbm, ⟨21, _⟩ => ⟨S_, .f32⟩
  | .hbm, ⟨22, _⟩ => ⟨S2x8x15x31, .f32⟩
  | .hbm, ⟨23, _⟩ => ⟨S2x8x15x31, .f32⟩
  | .hbm, ⟨24, _⟩ => ⟨S2x8x15x31, .f32⟩
  | .hbm, ⟨25, _⟩ => ⟨S_, .f32⟩
  | .hbm, ⟨26, _⟩ => ⟨S2x8x15x31, .f32⟩
  | .hbm, ⟨27, _⟩ => ⟨S2x8x15x31, .f32⟩
  | .hbm, ⟨28, _⟩ => ⟨S2x8x15x31, .f32⟩
  | .hbm, ⟨29, _⟩ => ⟨S_, .f32⟩
  | .hbm, ⟨30, _⟩ => ⟨S2x8x15x31, .f32⟩
  | .hbm, ⟨31, _⟩ => ⟨S2x8x15x31, .f32⟩
  | .hbm, ⟨32, _⟩ => ⟨S2x8x15x31, .f32⟩
  | .hbm, ⟨33, _⟩ => ⟨S_, .f32⟩
  | .hbm, ⟨34, _⟩ => ⟨S2x8x15x31, .f32⟩
  | .hbm, ⟨35, _⟩ => ⟨S2x8x15x31, .f32⟩
  | .hbm, ⟨36, _⟩ => ⟨S_, .f32⟩
  | .hbm, ⟨37, _⟩ => ⟨S2x8x15x31, .f32⟩
  | .hbm, ⟨38, _⟩ => ⟨S2x8x15x31, .f32⟩
  | .hbm, ⟨39, _⟩ => ⟨S2x8x15x31, .f32⟩
  | .hbm, ⟨40, _⟩ => ⟨S_, .f32⟩
  | .hbm, ⟨41, _⟩ => ⟨S2x8x15x31, .f32⟩
  | .hbm, ⟨42, _⟩ => ⟨S2x8x15x31, .f32⟩
  | .hbm, ⟨43, _⟩ => ⟨S2x8x15x31, .f32⟩
  | .hbm, ⟨44, _⟩ => ⟨S_, .f32⟩
  | .hbm, ⟨45, _⟩ => ⟨S2x8x15x31, .f32⟩
  | .hbm, ⟨46, _⟩ => ⟨S2x8x15x31, .f32⟩
  | .hbm, ⟨47, _⟩ => ⟨S2x8x15x31, .f32⟩
  | .hbm, ⟨48, _⟩ => ⟨S_, .f32⟩
  | .hbm, ⟨49, _⟩ => ⟨S2x8x15x31, .f32⟩
  | .hbm, ⟨50, _⟩ => ⟨S2x8x15x31, .f32⟩
  | .hbm, ⟨51, _⟩ => ⟨S_, .f32⟩
  | .hbm, ⟨52, _⟩ => ⟨S2x8, .f32⟩
  | .hbm, ⟨53, _⟩ => ⟨S2x8, .f32⟩
  | .hbm, ⟨54, _⟩ => ⟨S_, .f32⟩
  | .hbm, ⟨55, _⟩ => ⟨S2x8, .f32⟩
  | .hbm, ⟨56, _⟩ => ⟨S2x8, .f32⟩
  | .hbm, ⟨57, _⟩ => ⟨S2x8, .f32⟩
  | .hbm, ⟨58, _⟩ => ⟨S_, .f32⟩
  | .hbm, ⟨59, _⟩ => ⟨S2x8, .f32⟩
  | .hbm, ⟨60, _⟩ => ⟨S2x8, .f32⟩
  | .hbm, ⟨61, _⟩ => ⟨S2x8, .f32⟩
  | .hbm, ⟨62, _⟩ => ⟨S_, .f32⟩
  | .hbm, ⟨63, _⟩ => ⟨S2x8, .f32⟩
  | .hbm, ⟨64, _⟩ => ⟨S2x8, .f32⟩
  | .hbm, ⟨65, _⟩ => ⟨S2x8, .f32⟩
  | .hbm, ⟨66, _⟩ => ⟨S_, .f32⟩
  | .hbm, ⟨67, _⟩ => ⟨S2x8, .f32⟩
  | .hbm, ⟨68, _⟩ => ⟨S2x8, .f32⟩
  | .hbm, ⟨69, _⟩ => ⟨S_, .f32⟩
  | .hbm, ⟨70, _⟩ => ⟨S2x8, .f32⟩
  | .hbm, ⟨71, _⟩ => ⟨S2x8, .f32⟩
  | .hbm, ⟨72, _⟩ => ⟨S2x8, .f32⟩
  | .hbm, ⟨73, _⟩ => ⟨S_, .f32⟩
  | .hbm, ⟨74, _⟩ => ⟨S2x8, .f32⟩
  | .hbm, ⟨75, _⟩ => ⟨S2x8, .f32⟩
  | .hbm, ⟨76, _⟩ => ⟨S2x8, .f32⟩
  | .hbm, ⟨77, _⟩ => ⟨S_, .f32⟩
  | .hbm, ⟨78, _⟩ => ⟨S2x8, .f32⟩
  | .hbm, ⟨79, _⟩ => ⟨S2x8, .f32⟩
  | .hbm, ⟨80, _⟩ => ⟨S2x8, .f32⟩
  | .hbm, ⟨81, _⟩ => ⟨S_, .f32⟩
  | .hbm, ⟨82, _⟩ => ⟨S2x8, .f32⟩
  | .hbm, ⟨83, _⟩ => ⟨S2x8, .f32⟩
  | .hbm, ⟨84, _⟩ => ⟨S_, .f32⟩
  | .hbm, ⟨85, _⟩ => ⟨S32x8, .f32⟩
  | .hbm, ⟨86, _⟩ => ⟨S32x8, .f32⟩
  | .hbm, ⟨87, _⟩ => ⟨S_, .f32⟩
  | .hbm, ⟨88, _⟩ => ⟨S32x8, .f32⟩
  | .hbm, ⟨89, _⟩ => ⟨S32x8, .f32⟩
  | .hbm, ⟨90, _⟩ => ⟨S32x8, .f32⟩
  | .hbm, ⟨91, _⟩ => ⟨S_, .f32⟩
  | .hbm, ⟨92, _⟩ => ⟨S32x8, .f32⟩
  | .hbm, ⟨93, _⟩ => ⟨S32x8, .f32⟩
  | .hbm, ⟨94, _⟩ => ⟨S32x8, .f32⟩
  | .hbm, ⟨95, _⟩ => ⟨S_, .f32⟩
  | .hbm, ⟨96, _⟩ => ⟨S32x8, .f32⟩
  | .hbm, ⟨97, _⟩ => ⟨S32x8, .f32⟩
  | .hbm, ⟨98, _⟩ => ⟨S32x8, .f32⟩
  | .hbm, ⟨99, _⟩ => ⟨S_, .f32⟩
  | .hbm, ⟨100, _⟩ => ⟨S32x8, .f32⟩
  | .hbm, ⟨101, _⟩ => ⟨S32x8, .f32⟩
  | .hbm, ⟨102, _⟩ => ⟨S_, .f32⟩
  | .hbm, ⟨103, _⟩ => ⟨S32x8, .f32⟩
  | .hbm, ⟨104, _⟩ => ⟨S32x8, .f32⟩
  | .hbm, ⟨105, _⟩ => ⟨S32x8, .f32⟩
  | .hbm, ⟨106, _⟩ => ⟨S_, .f32⟩
  | .hbm, ⟨107, _⟩ => ⟨S32x8, .f32⟩
  | .hbm, ⟨108, _⟩ => ⟨S32x8, .f32⟩
  | .hbm, ⟨109, _⟩ => ⟨S32x8, .f32⟩
  | .hbm, ⟨110, _⟩ => ⟨S_, .f32⟩
  | .hbm, ⟨111, _⟩ => ⟨S32x8, .f32⟩
  | .hbm, ⟨112, _⟩ => ⟨S32x8, .f32⟩
  | .hbm, ⟨113, _⟩ => ⟨S32x8, .f32⟩
  | .hbm, ⟨114, _⟩ => ⟨S_, .f32⟩
  | .hbm, ⟨115, _⟩ => ⟨S32x8, .f32⟩
  | .hbm, ⟨116, _⟩ => ⟨S32x8, .f32⟩
  | _, _ => ⟨S2x8x15x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_cst_2 : Ref sig .tc := ⟨.hbm, 18, rfl⟩
abbrev main_v3 : Ref sig .tc := ⟨.hbm, 19, rfl⟩
abbrev main_v4 : Ref sig .tc := ⟨.hbm, 20, rfl⟩
abbrev main_cst_3 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_6 : Ref sig .tc := ⟨.hbm, 33, rfl⟩
abbrev main_v14 : Ref sig .tc := ⟨.hbm, 34, rfl⟩
abbrev main_v15 : Ref sig .tc := ⟨.hbm, 35, rfl⟩
abbrev main_cst_7 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_8 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_9 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_10 : Ref sig .tc := ⟨.hbm, 48, rfl⟩
abbrev main_v25 : Ref sig .tc := ⟨.hbm, 49, rfl⟩
abbrev main_v26 : Ref sig .tc := ⟨.hbm, 50, rfl⟩
abbrev main_cst_11 : Ref sig .tc := ⟨.hbm, 51, rfl⟩
abbrev main_v27 : Ref sig .tc := ⟨.hbm, 52, rfl⟩
abbrev main_v28 : Ref sig .tc := ⟨.hbm, 53, rfl⟩
abbrev main_cst_12 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_13 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_14 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_15 : Ref sig .tc := ⟨.hbm, 66, rfl⟩
abbrev main_v38 : Ref sig .tc := ⟨.hbm, 67, rfl⟩
abbrev main_v39 : Ref sig .tc := ⟨.hbm, 68, rfl⟩
abbrev main_cst_16 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_17 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_18 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_19 : Ref sig .tc := ⟨.hbm, 81, rfl⟩
abbrev main_v49 : Ref sig .tc := ⟨.hbm, 82, rfl⟩
abbrev main_v50 : Ref sig .tc := ⟨.hbm, 83, rfl⟩
abbrev main_cst_20 : Ref sig .tc := ⟨.hbm, 84, rfl⟩
abbrev main_v51 : Ref sig .tc := ⟨.hbm, 85, rfl⟩
abbrev main_v52 : Ref sig .tc := ⟨.hbm, 86, rfl⟩
abbrev main_cst_21 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_22 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_23 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_24 : Ref sig .tc := ⟨.hbm, 99, rfl⟩
abbrev main_v62 : Ref sig .tc := ⟨.hbm, 100, rfl⟩
abbrev main_v63 : Ref sig .tc := ⟨.hbm, 101, rfl⟩
abbrev main_cst_25 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_26 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_27 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_28 : Ref sig .tc := ⟨.hbm, 114, rfl⟩
abbrev main_v73 : Ref sig .tc := ⟨.hbm, 115, rfl⟩
abbrev main_v74 : Ref sig .tc := ⟨.hbm, 116, rfl⟩

abbrev nD : Nat := 1
abbrev τ : Topo := Topo.v7x

variable {F : FTy → Type} [FloatOps F]
-- ==== KernelSmallD.lean ====
abbrev S2x64 : Shape := ⟨2, ![2, 64]⟩
abbrev S8x2x64 : Shape := ⟨3, ![8, 2, 64]⟩
abbrev S1x2x64 : Shape := ⟨3, ![1, 2, 64]⟩

abbrev nBuf : Space → Nat
  | .hbm => 16
  | .vmem => 16
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S8x2x64, .f32⟩
  | .hbm, ⟨3, _⟩ => ⟨S8x2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x64, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S2x64, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S8x2x64, .f32⟩
  | .local _ .vmem, ⟨3, _⟩ => ⟨S8x2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | .local _ .vmem, ⟨7, _⟩ => ⟨S2x64, .f32⟩
  | .local _ .vmem, ⟨8, _⟩ => ⟨S2x64, .f32⟩
  | .local _ .vmem, ⟨9, _⟩ => ⟨S2x64, .f32⟩
  | .local _ .vmem, ⟨10, _⟩ => ⟨S2x64, .f32⟩
  | .local _ .vmem, ⟨11, _⟩ => ⟨S2x64, .f32⟩
  | .local _ .vmem, ⟨12, _⟩ => ⟨S2x64, .f32⟩
  | .local _ .vmem, ⟨13, _⟩ => ⟨S2x64, .f32⟩
  | .local _ .vmem, ⟨14, _⟩ => ⟨S2x64, .f32⟩
  | .local _ .vmem, ⟨15, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== ReferenceSmallDIdeal.lean ====
abbrev S2x64 : Shape := ⟨2, ![2, 64]⟩
abbrev S8x2x64 : Shape := ⟨3, ![8, 2, 64]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S8x2x64, .f32⟩
  | .hbm, ⟨3, _⟩ => ⟨S8x2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x64, .f32⟩
  | .hbm, ⟨8, _⟩ => ⟨S_, .f32⟩
  | .hbm, ⟨9, _⟩ => ⟨S2x64, .f32⟩
  | .hbm, ⟨10, _⟩ => ⟨S_, .f32⟩
  | .hbm, ⟨11, _⟩ => ⟨S2x64, .f32⟩
  | .hbm, ⟨12, _⟩ => ⟨S_, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S2x64, .f32⟩
  | .hbm, ⟨23, _⟩ => ⟨S_, .f32⟩
  | .hbm, ⟨24, _⟩ => ⟨S2x64, .f32⟩
  | .hbm, ⟨25, _⟩ => ⟨S2x64, .f32⟩
  | .hbm, ⟨26, _⟩ => ⟨S2x64, .f32⟩
  | .hbm, ⟨27, _⟩ => ⟨S_, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | .hbm, ⟨37, _⟩ => ⟨S2x64, .f32⟩
  | .hbm, ⟨38, _⟩ => ⟨S_, .f32⟩
  | .hbm, ⟨39, _⟩ => ⟨S2x64, .f32⟩
  | .hbm, ⟨40, _⟩ => ⟨S2x64, .f32⟩
  | .hbm, ⟨41, _⟩ => ⟨S2x64, .f32⟩
  | .hbm, ⟨42, _⟩ => ⟨S_, .f32⟩
  | .hbm, ⟨43, _⟩ => ⟨S2x64, .f32⟩
  | .hbm, ⟨44, _⟩ => ⟨S2x64, .f32⟩
  | .hbm, ⟨45, _⟩ => ⟨S_, .f32⟩
  | .hbm, ⟨46, _⟩ => ⟨S2x64, .f32⟩
  | .hbm, ⟨47, _⟩ => ⟨S2x64, .f32⟩
  | .hbm, ⟨48, _⟩ => ⟨S_, .f32⟩
  | .hbm, ⟨49, _⟩ => ⟨S2x64, .f32⟩
  | .hbm, ⟨50, _⟩ => ⟨S2x64, .f32⟩
  | .hbm, ⟨51, _⟩ => ⟨S2x64, .f32⟩
  | .hbm, ⟨52, _⟩ => ⟨S_, .f32⟩
  | .hbm, ⟨53, _⟩ => ⟨S2x64, .f32⟩
  | .hbm, ⟨54, _⟩ => ⟨S2x64, .f32⟩
  | .hbm, ⟨55, _⟩ => ⟨S2x64, .f32⟩
  | .hbm, ⟨56, _⟩ => ⟨S_, .f32⟩
  | .hbm, ⟨57, _⟩ => ⟨S2x64, .f32⟩
  | .hbm, ⟨58, _⟩ => ⟨S2x64, .f32⟩
  | .hbm, ⟨59, _⟩ => ⟨S2x64, .f32⟩
  | .hbm, ⟨60, _⟩ => ⟨S_, .f32⟩
  | .hbm, ⟨61, _⟩ => ⟨S2x64, .f32⟩
  | .hbm, ⟨62, _⟩ => ⟨S2x64, .f32⟩
  | .hbm, ⟨63, _⟩ => ⟨S_, .f32⟩
  | .hbm, ⟨64, _⟩ => ⟨S2x64, .f32⟩
  | .hbm, ⟨65, _⟩ => ⟨S2x64, .f32⟩
  | .hbm, ⟨66, _⟩ => ⟨S2x64, .f32⟩
  | .hbm, ⟨67, _⟩ => ⟨S_, .f32⟩
  | .hbm, ⟨68, _⟩ => ⟨S2x64, .f32⟩
  | .hbm, ⟨69, _⟩ => ⟨S2x64, .f32⟩
  | .hbm, ⟨70, _⟩ => ⟨S2x64, .f32⟩
  | .hbm, ⟨71, _⟩ => ⟨S_, .f32⟩
  | .hbm, ⟨72, _⟩ => ⟨S2x64, .f32⟩
  | .hbm, ⟨73, _⟩ => ⟨S2x64, .f32⟩
  | .hbm, ⟨74, _⟩ => ⟨S2x64, .f32⟩
  | .hbm, ⟨75, _⟩ => ⟨S_, .f32⟩
  | .hbm, ⟨76, _⟩ => ⟨S2x64, .f32⟩
  | .hbm, ⟨77, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_8 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_v25 : Ref sig .tc := ⟨.hbm, 44, rfl⟩
abbrev main_cst_10 : Ref sig .tc := ⟨.hbm, 45, rfl⟩
abbrev main_v26 : Ref sig .tc := ⟨.hbm, 46, rfl⟩
abbrev main_v27 : Ref sig .tc := ⟨.hbm, 47, rfl⟩
abbrev main_cst_11 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_12 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_13 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_14 : Ref sig .tc := ⟨.hbm, 60, rfl⟩
abbrev main_v37 : Ref sig .tc := ⟨.hbm, 61, rfl⟩
abbrev main_v38 : Ref sig .tc := ⟨.hbm, 62, rfl⟩
abbrev main_cst_15 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_16 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_17 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_18 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== KernelOptOut.lean ====
abbrev S8x1x128x1024 : Shape := ⟨4, ![8, 1, 128, 1024]⟩
abbrev S2x128x1024 : Shape := ⟨3, ![2, 128, 1024]⟩
abbrev S_ : Shape := ⟨0, ![]⟩
abbrev S8x128 : Shape := ⟨2, ![8, 128]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 21
  | .vmem => 16
  | .smem => 0
  | _ => 0

abbrev bufTy : (tb : Table) → Fin (tcTables nBuf tb) → BufTy
  | .hbm, ⟨0, _⟩ => ⟨S8x1x128x1024, .f32⟩
  | .hbm, ⟨1, _⟩ => ⟨S8x1x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S_, .f32⟩
  | .hbm, ⟨10, _⟩ => ⟨S8x128, .f32⟩
  | .hbm, ⟨11, _⟩ => ⟨S8x1x128x1024, .bf16⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S2x128x1024, .f32⟩
  | .hbm, ⟨16, _⟩ => ⟨S8x1x128x1024, .bf16⟩
  | .hbm, ⟨17, _⟩ => ⟨S2x128x1024, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .local _ .vmem, ⟨0, _⟩ => ⟨S8x1x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S8x1x128x1024, .bf16⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S8x1x128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== KernelOptOutIdeal.lean ====
abbrev S8x1x128x1024 : Shape := ⟨4, ![8, 1, 128, 1024]⟩
abbrev S2x128x1024 : Shape := ⟨3, ![2, 128, 1024]⟩
abbrev S_ : Shape := ⟨0, ![]⟩
abbrev S8x128 : Shape := ⟨2, ![8, 128]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 21
  | .vmem => 16
  | .smem => 0
  | _ => 0

abbrev bufTy : (tb : Table) → Fin (tcTables nBuf tb) → BufTy
  | .hbm, ⟨0, _⟩ => ⟨S8x1x128x1024, .f32⟩
  | .hbm, ⟨1, _⟩ => ⟨S8x1x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S_, .f32⟩
  | .hbm, ⟨10, _⟩ => ⟨S8x128, .f32⟩
  | .hbm, ⟨11, _⟩ => ⟨S8x1x128x1024, .bf16⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S2x128x1024, .f32⟩
  | .hbm, ⟨16, _⟩ => ⟨S8x1x128x1024, .bf16⟩
  | .hbm, ⟨17, _⟩ => ⟨S2x128x1024, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .local _ .vmem, ⟨0, _⟩ => ⟨S8x1x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S8x1x128x1024, .bf16⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S8x1x128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== ReferenceOptOutIdeal.lean ====
abbrev S8x1x128x1024 : Shape := ⟨4, ![8, 1, 128, 1024]⟩
abbrev S2x128x1024 : Shape := ⟨3, ![2, 128, 1024]⟩
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x1x128x1024, .f32⟩
  | .hbm, ⟨1, _⟩ => ⟨S8x1x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S8x128x1024, .f32⟩
  | .hbm, ⟨10, _⟩ => ⟨S_, .f32⟩
  | .hbm, ⟨11, _⟩ => ⟨S128x1024, .f32⟩
  | .hbm, ⟨12, _⟩ => ⟨S8x128x1024, .f32⟩
  | .hbm, ⟨13, _⟩ => ⟨S_, .f32⟩
  | .hbm, ⟨14, _⟩ => ⟨S128x1024, .f32⟩
  | .hbm, ⟨15, _⟩ => ⟨S1x128x1024, .f32⟩
  | .hbm, ⟨16, _⟩ => ⟨S1x128x1024, .f32⟩
  | .hbm, ⟨17, _⟩ => ⟨S2x128x1024, .f32⟩
  | .hbm, ⟨18, _⟩ => ⟨S_, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S2x128x1024, .f32⟩
  | .hbm, ⟨33, _⟩ => ⟨S_, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | .hbm, ⟨47, _⟩ => ⟨S2x128x1024, .f32⟩
  | .hbm, ⟨48, _⟩ => ⟨S_, .f32⟩
  | .hbm, ⟨49, _⟩ => ⟨S2x128x1024, .f32⟩
  | .hbm, ⟨50, _⟩ => ⟨S2x128x1024, .f32⟩
  | _, _ => ⟨S8x1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== KernelOptIn.lean ====
abbrev S8x1x544x1024 : Shape := ⟨4, ![8, 1, 544, 1024]⟩
abbrev S2x544x1024 : Shape := ⟨3, ![2, 544, 1024]⟩
abbrev S_ : Shape := ⟨0, ![]⟩
abbrev S8x128 : Shape := ⟨2, ![8, 128]⟩
abbrev S8x1x272x1024 : Shape := ⟨4, ![8, 1, 272, 1024]⟩
abbrev S1x272x1024 : Shape := ⟨3, ![1, 272, 1024]⟩
abbrev S1x1x272x1024 : Shape := ⟨4, ![1, 1, 272, 1024]⟩
abbrev S272x1024 : Shape := ⟨2, ![272, 1024]⟩

abbrev nBuf : Space → Nat
  | .hbm => 21
  | .vmem => 32
  | .smem => 0
  | _ => 0

abbrev bufTy : (tb : Table) → Fin (tcTables nBuf tb) → BufTy
  | .hbm, ⟨0, _⟩ => ⟨S8x1x544x1024, .f32⟩
  | .hbm, ⟨1, _⟩ => ⟨S8x1x544x1024, .f32⟩
  | .hbm, ⟨2, _⟩ => ⟨S2x544x1024, .f32⟩
  | .hbm, ⟨3, _⟩ => ⟨S2x544x1024, .f32⟩
  | .hbm, ⟨4, _⟩ => ⟨S2x544x1024, .f32⟩
  | .hbm, ⟨5, _⟩ => ⟨S2x544x1024, .f32⟩
  | .hbm, ⟨6, _⟩ => ⟨S2x544x1024, .f32⟩
  | .hbm, ⟨7, _⟩ => ⟨S2x544x1024, .f32⟩
  | .hbm, ⟨8, _⟩ => ⟨S2x544x1024, .f32⟩
  | .hbm, ⟨9, _⟩ => ⟨S_, .f32⟩
  | .hbm, ⟨10, _⟩ => ⟨S8x128, .f32⟩
  | .hbm, ⟨11, _⟩ => ⟨S8x1x544x1024, .bf16⟩
  | .hbm, ⟨12, _⟩ => ⟨S2x544x1024, .f32⟩
  | .hbm, ⟨13, _⟩ => ⟨S2x544x1024, .f32⟩
  | .hbm, ⟨14, _⟩ => ⟨S2x544x1024, .f32⟩
  | .hbm, ⟨15, _⟩ => ⟨S2x544x1024, .f32⟩
  | .hbm, ⟨16, _⟩ => ⟨S8x1x544x1024, .bf16⟩
  | .hbm, ⟨17, _⟩ => ⟨S2x544x1024, .f32⟩
  | .hbm, ⟨18, _⟩ => ⟨S2x544x1024, .f32⟩
  | .hbm, ⟨19, _⟩ => ⟨S2x544x1024, .f32⟩
  | .hbm, ⟨20, _⟩ => ⟨S2x544x1024, .f32⟩
  | .local _ .vmem, ⟨0, _⟩ => ⟨S8x1x272x1024, .bf16⟩
  | .local _ .vmem, ⟨1, _⟩ => ⟨S8x1x272x1024, .bf16⟩
  | .local _ .vmem, ⟨2, _⟩ => ⟨S1x272x1024, .f32⟩
  | .local _ .vmem, ⟨3, _⟩ => ⟨S1x272x1024, .f32⟩
  | .local _ .vmem, ⟨4, _⟩ => ⟨S1x272x1024, .f32⟩
  | .local _ .vmem, ⟨5, _⟩ => ⟨S1x272x1024, .f32⟩
  | .local _ .vmem, ⟨6, _⟩ => ⟨S1x272x1024, .f32⟩
  | .local _ .vmem, ⟨7, _⟩ => ⟨S1x272x1024, .f32⟩
  | .local _ .vmem, ⟨8, _⟩ => ⟨S1x272x1024, .f32⟩
  | .local _ .vmem, ⟨9, _⟩ => ⟨S1x272x1024, .f32⟩
  | .local _ .vmem, ⟨10, _⟩ => ⟨S1x272x1024, .f32⟩
  | .local _ .vmem, ⟨11, _⟩ => ⟨S1x272x1024, .f32⟩
  | .local _ .vmem, ⟨12, _⟩ => ⟨S1x272x1024, .f32⟩
  | .local _ .vmem, ⟨13, _⟩ => ⟨S1x272x1024, .f32⟩
  | .local _ .vmem, ⟨14, _⟩ => ⟨S1x272x1024, .f32⟩
  | .local _ .vmem, ⟨15, _⟩ => ⟨S1x272x1024, .f32⟩
  | .local _ .vmem, ⟨16, _⟩ => ⟨S8x1x272x1024, .bf16⟩
  | .local _ .vmem, ⟨17, _⟩ => ⟨S8x1x272x1024, .bf16⟩
  | .local _ .vmem, ⟨18, _⟩ => ⟨S1x272x1024, .f32⟩
  | .local _ .vmem, ⟨19, _⟩ => ⟨S1x272x1024, .f32⟩
  | .local _ .vmem, ⟨20, _⟩ => ⟨S1x272x1024, .f32⟩
  | .local _ .vmem, ⟨21, _⟩ => ⟨S1x272x1024, .f32⟩
  | .local _ .vmem, ⟨22, _⟩ => ⟨S1x272x1024, .f32⟩
  | .local _ .vmem, ⟨23, _⟩ => ⟨S1x272x1024, .f32⟩
  | .local _ .vmem, ⟨24, _⟩ => ⟨S1x272x1024, .f32⟩
  | .local _ .vmem, ⟨25, _⟩ => ⟨S1x272x1024, .f32⟩
  | .local _ .vmem, ⟨26, _⟩ => ⟨S1x272x1024, .f32⟩
  | .local _ .vmem, ⟨27, _⟩ => ⟨S1x272x1024, .f32⟩
  | .local _ .vmem, ⟨28, _⟩ => ⟨S1x272x1024, .f32⟩
  | .local _ .vmem, ⟨29, _⟩ => ⟨S1x272x1024, .f32⟩
  | .local _ .vmem, ⟨30, _⟩ => ⟨S1x272x1024, .f32⟩
  | .local _ .vmem, ⟨31, _⟩ => ⟨S1x272x1024, .f32⟩
  | _, _ => ⟨S8x1x544x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x1x272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x272x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x272x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x1x272x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x272x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x272x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x272x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x272x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x272x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x272x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x272x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== KernelOptInIdeal.lean ====
abbrev S8x1x544x1024 : Shape := ⟨4, ![8, 1, 544, 1024]⟩
abbrev S2x544x1024 : Shape := ⟨3, ![2, 544, 1024]⟩
abbrev S_ : Shape := ⟨0, ![]⟩
abbrev S8x128 : Shape := ⟨2, ![8, 128]⟩
abbrev S8x1x272x1024 : Shape := ⟨4, ![8, 1, 272, 1024]⟩
abbrev S1x272x1024 : Shape := ⟨3, ![1, 272, 1024]⟩
abbrev S1x1x272x1024 : Shape := ⟨4, ![1, 1, 272, 1024]⟩
abbrev S272x1024 : Shape := ⟨2, ![272, 1024]⟩

abbrev nBuf : Space → Nat
  | .hbm => 21
  | .vmem => 32
  | .smem => 0
  | _ => 0

abbrev bufTy : (tb : Table) → Fin (tcTables nBuf tb) → BufTy
  | .hbm, ⟨0, _⟩ => ⟨S8x1x544x1024, .f32⟩
  | .hbm, ⟨1, _⟩ => ⟨S8x1x544x1024, .f32⟩
  | .hbm, ⟨2, _⟩ => ⟨S2x544x1024, .f32⟩
  | .hbm, ⟨3, _⟩ => ⟨S2x544x1024, .f32⟩
  | .hbm, ⟨4, _⟩ => ⟨S2x544x1024, .f32⟩
  | .hbm, ⟨5, _⟩ => ⟨S2x544x1024, .f32⟩
  | .hbm, ⟨6, _⟩ => ⟨S2x544x1024, .f32⟩
  | .hbm, ⟨7, _⟩ => ⟨S2x544x1024, .f32⟩
  | .hbm, ⟨8, _⟩ => ⟨S2x544x1024, .f32⟩
  | .hbm, ⟨9, _⟩ => ⟨S_, .f32⟩
  | .hbm, ⟨10, _⟩ => ⟨S8x128, .f32⟩
  | .hbm, ⟨11, _⟩ => ⟨S8x1x544x1024, .bf16⟩
  | .hbm, ⟨12, _⟩ => ⟨S2x544x1024, .f32⟩
  | .hbm, ⟨13, _⟩ => ⟨S2x544x1024, .f32⟩
  | .hbm, ⟨14, _⟩ => ⟨S2x544x1024, .f32⟩
  | .hbm, ⟨15, _⟩ => ⟨S2x544x1024, .f32⟩
  | .hbm, ⟨16, _⟩ => ⟨S8x1x544x1024, .bf16⟩
  | .hbm, ⟨17, _⟩ => ⟨S2x544x1024, .f32⟩
  | .hbm, ⟨18, _⟩ => ⟨S2x544x1024, .f32⟩
  | .hbm, ⟨19, _⟩ => ⟨S2x544x1024, .f32⟩
  | .hbm, ⟨20, _⟩ => ⟨S2x544x1024, .f32⟩
  | .local _ .vmem, ⟨0, _⟩ => ⟨S8x1x272x1024, .bf16⟩
  | .local _ .vmem, ⟨1, _⟩ => ⟨S8x1x272x1024, .bf16⟩
  | .local _ .vmem, ⟨2, _⟩ => ⟨S1x272x1024, .f32⟩
  | .local _ .vmem, ⟨3, _⟩ => ⟨S1x272x1024, .f32⟩
  | .local _ .vmem, ⟨4, _⟩ => ⟨S1x272x1024, .f32⟩
  | .local _ .vmem, ⟨5, _⟩ => ⟨S1x272x1024, .f32⟩
  | .local _ .vmem, ⟨6, _⟩ => ⟨S1x272x1024, .f32⟩
  | .local _ .vmem, ⟨7, _⟩ => ⟨S1x272x1024, .f32⟩
  | .local _ .vmem, ⟨8, _⟩ => ⟨S1x272x1024, .f32⟩
  | .local _ .vmem, ⟨9, _⟩ => ⟨S1x272x1024, .f32⟩
  | .local _ .vmem, ⟨10, _⟩ => ⟨S1x272x1024, .f32⟩
  | .local _ .vmem, ⟨11, _⟩ => ⟨S1x272x1024, .f32⟩
  | .local _ .vmem, ⟨12, _⟩ => ⟨S1x272x1024, .f32⟩
  | .local _ .vmem, ⟨13, _⟩ => ⟨S1x272x1024, .f32⟩
  | .local _ .vmem, ⟨14, _⟩ => ⟨S1x272x1024, .f32⟩
  | .local _ .vmem, ⟨15, _⟩ => ⟨S1x272x1024, .f32⟩
  | .local _ .vmem, ⟨16, _⟩ => ⟨S8x1x272x1024, .bf16⟩
  | .local _ .vmem, ⟨17, _⟩ => ⟨S8x1x272x1024, .bf16⟩
  | .local _ .vmem, ⟨18, _⟩ => ⟨S1x272x1024, .f32⟩
  | .local _ .vmem, ⟨19, _⟩ => ⟨S1x272x1024, .f32⟩
  | .local _ .vmem, ⟨20, _⟩ => ⟨S1x272x1024, .f32⟩
  | .local _ .vmem, ⟨21, _⟩ => ⟨S1x272x1024, .f32⟩
  | .local _ .vmem, ⟨22, _⟩ => ⟨S1x272x1024, .f32⟩
  | .local _ .vmem, ⟨23, _⟩ => ⟨S1x272x1024, .f32⟩
  | .local _ .vmem, ⟨24, _⟩ => ⟨S1x272x1024, .f32⟩
  | .local _ .vmem, ⟨25, _⟩ => ⟨S1x272x1024, .f32⟩
  | .local _ .vmem, ⟨26, _⟩ => ⟨S1x272x1024, .f32⟩
  | .local _ .vmem, ⟨27, _⟩ => ⟨S1x272x1024, .f32⟩
  | .local _ .vmem, ⟨28, _⟩ => ⟨S1x272x1024, .f32⟩
  | .local _ .vmem, ⟨29, _⟩ => ⟨S1x272x1024, .f32⟩
  | .local _ .vmem, ⟨30, _⟩ => ⟨S1x272x1024, .f32⟩
  | .local _ .vmem, ⟨31, _⟩ => ⟨S1x272x1024, .f32⟩
  | _, _ => ⟨S8x1x544x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x1x272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x272x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x272x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x1x272x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x272x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x272x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x272x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x272x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x272x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x272x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x272x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceOptInIdeal.lean ====
abbrev S8x1x544x1024 : Shape := ⟨4, ![8, 1, 544, 1024]⟩
abbrev S2x544x1024 : Shape := ⟨3, ![2, 544, 1024]⟩
abbrev S8x544x1024 : Shape := ⟨3, ![8, 544, 1024]⟩
abbrev S_ : Shape := ⟨0, ![]⟩
abbrev S544x1024 : Shape := ⟨2, ![544, 1024]⟩
abbrev S1x544x1024 : Shape := ⟨3, ![1, 544, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x1x544x1024, .f32⟩
  | .hbm, ⟨1, _⟩ => ⟨S8x1x544x1024, .f32⟩
  | .hbm, ⟨2, _⟩ => ⟨S2x544x1024, .f32⟩
  | .hbm, ⟨3, _⟩ => ⟨S2x544x1024, .f32⟩
  | .hbm, ⟨4, _⟩ => ⟨S2x544x1024, .f32⟩
  | .hbm, ⟨5, _⟩ => ⟨S2x544x1024, .f32⟩
  | .hbm, ⟨6, _⟩ => ⟨S2x544x1024, .f32⟩
  | .hbm, ⟨7, _⟩ => ⟨S2x544x1024, .f32⟩
  | .hbm, ⟨8, _⟩ => ⟨S2x544x1024, .f32⟩
  | .hbm, ⟨9, _⟩ => ⟨S8x544x1024, .f32⟩
  | .hbm, ⟨10, _⟩ => ⟨S_, .f32⟩
  | .hbm, ⟨11, _⟩ => ⟨S544x1024, .f32⟩
  | .hbm, ⟨12, _⟩ => ⟨S8x544x1024, .f32⟩
  | .hbm, ⟨13, _⟩ => ⟨S_, .f32⟩
  | .hbm, ⟨14, _⟩ => ⟨S544x1024, .f32⟩
  | .hbm, ⟨15, _⟩ => ⟨S1x544x1024, .f32⟩
  | .hbm, ⟨16, _⟩ => ⟨S1x544x1024, .f32⟩
  | .hbm, ⟨17, _⟩ => ⟨S2x544x1024, .f32⟩
  | .hbm, ⟨18, _⟩ => ⟨S_, .f32⟩
  | .hbm, ⟨19, _⟩ => ⟨S2x544x1024, .f32⟩
  | .hbm, ⟨20, _⟩ => ⟨S2x544x1024, .f32⟩
  | .hbm, ⟨21, _⟩ => ⟨S_, .f32⟩
  | .hbm, ⟨22, _⟩ => ⟨S2x544x1024, .f32⟩
  | .hbm, ⟨23, _⟩ => ⟨S2x544x1024, .f32⟩
  | .hbm, ⟨24, _⟩ => ⟨S2x544x1024, .f32⟩
  | .hbm, ⟨25, _⟩ => ⟨S_, .f32⟩
  | .hbm, ⟨26, _⟩ => ⟨S2x544x1024, .f32⟩
  | .hbm, ⟨27, _⟩ => ⟨S2x544x1024, .f32⟩
  | .hbm, ⟨28, _⟩ => ⟨S2x544x1024, .f32⟩
  | .hbm, ⟨29, _⟩ => ⟨S_, .f32⟩
  | .hbm, ⟨30, _⟩ => ⟨S2x544x1024, .f32⟩
  | .hbm, ⟨31, _⟩ => ⟨S2x544x1024, .f32⟩
  | .hbm, ⟨32, _⟩ => ⟨S2x544x1024, .f32⟩
  | .hbm, ⟨33, _⟩ => ⟨S_, .f32⟩
  | .hbm, ⟨34, _⟩ => ⟨S2x544x1024, .f32⟩
  | .hbm, ⟨35, _⟩ => ⟨S2x544x1024, .f32⟩
  | .hbm, ⟨36, _⟩ => ⟨S_, .f32⟩
  | .hbm, ⟨37, _⟩ => ⟨S2x544x1024, .f32⟩
  | .hbm, ⟨38, _⟩ => ⟨S2x544x1024, .f32⟩
  | .hbm, ⟨39, _⟩ => ⟨S2x544x1024, .f32⟩
  | .hbm, ⟨40, _⟩ => ⟨S_, .f32⟩
  | .hbm, ⟨41, _⟩ => ⟨S2x544x1024, .f32⟩
  | .hbm, ⟨42, _⟩ => ⟨S2x544x1024, .f32⟩
  | .hbm, ⟨43, _⟩ => ⟨S2x544x1024, .f32⟩
  | .hbm, ⟨44, _⟩ => ⟨S_, .f32⟩
  | .hbm, ⟨45, _⟩ => ⟨S2x544x1024, .f32⟩
  | .hbm, ⟨46, _⟩ => ⟨S2x544x1024, .f32⟩
  | .hbm, ⟨47, _⟩ => ⟨S2x544x1024, .f32⟩
  | .hbm, ⟨48, _⟩ => ⟨S_, .f32⟩
  | .hbm, ⟨49, _⟩ => ⟨S2x544x1024, .f32⟩
  | .hbm, ⟨50, _⟩ => ⟨S2x544x1024, .f32⟩
  | _, _ => ⟨S8x1x544x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== KernelOptBranch.lean ====
abbrev S8x2x128x512 : Shape := ⟨4, ![8, 2, 128, 512]⟩
abbrev S2x128x512 : Shape := ⟨3, ![2, 128, 512]⟩
abbrev S_ : Shape := ⟨0, ![]⟩
abbrev S8x128 : Shape := ⟨2, ![8, 128]⟩
abbrev S1x128x512 : Shape := ⟨3, ![1, 128, 512]⟩
abbrev S1x1x128x512 : Shape := ⟨4, ![1, 1, 128, 512]⟩
abbrev S128x512 : Shape := ⟨2, ![128, 512]⟩

abbrev nBuf : Space → Nat
  | .hbm => 36
  | .vmem => 30
  | .smem => 0
  | _ => 0

abbrev bufTy : (tb : Table) → Fin (tcTables nBuf tb) → BufTy
  | .hbm, ⟨0, _⟩ => ⟨S8x2x128x512, .f32⟩
  | .hbm, ⟨1, _⟩ => ⟨S8x2x128x512, .f32⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S2x128x512, .f32⟩
  | .hbm, ⟨6, _⟩ => ⟨S2x128x512, .f32⟩
  | .hbm, ⟨7, _⟩ => ⟨S2x128x512, .f32⟩
  | .hbm, ⟨8, _⟩ => ⟨S2x128x512, .f32⟩
  | .hbm, ⟨9, _⟩ => ⟨S2x128x512, .f32⟩
  | .hbm, ⟨10, _⟩ => ⟨S2x128x512, .f32⟩
  | .hbm, ⟨11, _⟩ => ⟨S2x128x512, .f32⟩
  | .hbm, ⟨12, _⟩ => ⟨S2x128x512, .f32⟩
  | .hbm, ⟨13, _⟩ => ⟨S2x128x512, .f32⟩
  | .hbm, ⟨14, _⟩ => ⟨S2x128x512, .f32⟩
  | .hbm, ⟨15, _⟩ => ⟨S2x128x512, .f32⟩
  | .hbm, ⟨16, _⟩ => ⟨S_, .f32⟩
  | .hbm, ⟨17, _⟩ => ⟨S8x128, .f32⟩
  | .hbm, ⟨18, _⟩ => ⟨S8x2x128x512, .bf16⟩
  | .hbm, ⟨19, _⟩ => ⟨S2x128x512, .f32⟩
  | .hbm, ⟨20, _⟩ => ⟨S2x128x512, .f32⟩
  | .hbm, ⟨21, _⟩ => ⟨S2x128x512, .f32⟩
  | .hbm, ⟨22, _⟩ => ⟨S2x128x512, .f32⟩
  | .hbm, ⟨23, _⟩ => ⟨S2x128x512, .f32⟩
  | .hbm, ⟨24, _⟩ => ⟨S2x128x512, .f32⟩
  | .hbm, ⟨25, _⟩ => ⟨S2x128x512, .f32⟩
  | .hbm, ⟨26, _⟩ => ⟨S2x128x512, .f32⟩
  | .hbm, ⟨27, _⟩ => ⟨S8x2x128x512, .bf16⟩
  | .hbm, ⟨28, _⟩ => ⟨S2x128x512, .f32⟩
  | .hbm, ⟨29, _⟩ => ⟨S2x128x512, .f32⟩
  | .hbm, ⟨30, _⟩ => ⟨S2x128x512, .f32⟩
  | .hbm, ⟨31, _⟩ => ⟨S2x128x512, .f32⟩
  | .hbm, ⟨32, _⟩ => ⟨S2x128x512, .f32⟩
  | .hbm, ⟨33, _⟩ => ⟨S2x128x512, .f32⟩
  | .hbm, ⟨34, _⟩ => ⟨S2x128x512, .f32⟩
  | .hbm, ⟨35, _⟩ => ⟨S2x128x512, .f32⟩
  | .local _ .vmem, ⟨0, _⟩ => ⟨S8x2x128x512, .bf16⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S8x2x128x512, .bf16⟩
  | .local _ .vmem, ⟨16, _⟩ => ⟨S1x128x512, .f32⟩
  | .local _ .vmem, ⟨17, _⟩ => ⟨S1x128x512, .f32⟩
  | .local _ .vmem, ⟨18, _⟩ => ⟨S1x128x512, .f32⟩
  | .local _ .vmem, ⟨19, _⟩ => ⟨S1x128x512, .f32⟩
  | .local _ .vmem, ⟨20, _⟩ => ⟨S1x128x512, .f32⟩
  | .local _ .vmem, ⟨21, _⟩ => ⟨S1x128x512, .f32⟩
  | .local _ .vmem, ⟨22, _⟩ => ⟨S1x128x512, .f32⟩
  | .local _ .vmem, ⟨23, _⟩ => ⟨S1x128x512, .f32⟩
  | .local _ .vmem, ⟨24, _⟩ => ⟨S1x128x512, .f32⟩
  | .local _ .vmem, ⟨25, _⟩ => ⟨S1x128x512, .f32⟩
  | .local _ .vmem, ⟨26, _⟩ => ⟨S1x128x512, .f32⟩
  | .local _ .vmem, ⟨27, _⟩ => ⟨S1x128x512, .f32⟩
  | .local _ .vmem, ⟨28, _⟩ => ⟨S1x128x512, .f32⟩
  | .local _ .vmem, ⟨29, _⟩ => ⟨S1x128x512, .f32⟩
  | _, _ => ⟨S8x2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2_0 : Ref sig .tc := ⟨.hbm, 19, rfl⟩
abbrev main_v2_1 : Ref sig .tc := ⟨.hbm, 20, rfl⟩
abbrev main_v2_2 : Ref sig .tc := ⟨.hbm, 21, rfl⟩
abbrev main_v2_3 : Ref sig .tc := ⟨.hbm, 22, rfl⟩
abbrev main_v2_4 : Ref sig .tc := ⟨.hbm, 23, rfl⟩
abbrev main_v2_5 : Ref sig .tc := ⟨.hbm, 24, rfl⟩
abbrev main_v2_6 : Ref sig .tc := ⟨.hbm, 25, rfl⟩
abbrev main_v2_7 : Ref sig .tc := ⟨.hbm, 26, rfl⟩
abbrev main_v3 : Ref sig .tc := ⟨.hbm, 27, rfl⟩
abbrev main_v4_0 : Ref sig .tc := ⟨.hbm, 28, rfl⟩
abbrev main_v4_1 : Ref sig .tc := ⟨.hbm, 29, rfl⟩
abbrev main_v4_2 : Ref sig .tc := ⟨.hbm, 30, rfl⟩
abbrev main_v4_3 : Ref sig .tc := ⟨.hbm, 31, rfl⟩
abbrev main_v4_4 : Ref sig .tc := ⟨.hbm, 32, rfl⟩
abbrev main_v4_5 : Ref sig .tc := ⟨.hbm, 33, rfl⟩
abbrev main_v4_6 : Ref sig .tc := ⟨.hbm, 34, rfl⟩
abbrev main_v4_7 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg14_0 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_17 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_18 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_19 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_20 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_21 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_22 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_23 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1x128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev grid1 : Pipeline.Grid := ⟨1, ![1], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_18 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_19 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_20 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_21 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_22 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_23 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S8x2x128x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev stage1_8 : Fin 1 → Memref sig .tc .vmem S1x128x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]

abbrev stage1_9 : Fin 1 → Memref sig .tc .vmem S1x128x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

abbrev stage1_10 : Fin 1 → Memref sig .tc .vmem S1x128x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]

abbrev stage1_11 : Fin 1 → Memref sig .tc .vmem S1x128x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![true]

abbrev stage1_12 : Fin 1 → Memref sig .tc .vmem S1x128x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true]

abbrev stage1_13 : Fin 1 → Memref sig .tc .vmem S1x128x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![true]

abbrev stage1_14 : Fin 1 → Memref sig .tc .vmem S1x128x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![true]
-- ==== KernelOptBranchIdeal.lean ====
abbrev S8x2x128x512 : Shape := ⟨4, ![8, 2, 128, 512]⟩
abbrev S2x128x512 : Shape := ⟨3, ![2, 128, 512]⟩
abbrev S_ : Shape := ⟨0, ![]⟩
abbrev S8x128 : Shape := ⟨2, ![8, 128]⟩
abbrev S1x128x512 : Shape := ⟨3, ![1, 128, 512]⟩
abbrev S1x1x128x512 : Shape := ⟨4, ![1, 1, 128, 512]⟩
abbrev S128x512 : Shape := ⟨2, ![128, 512]⟩

abbrev nBuf : Space → Nat
  | .hbm => 36
  | .vmem => 30
  | .smem => 0
  | _ => 0

abbrev bufTy : (tb : Table) → Fin (tcTables nBuf tb) → BufTy
  | .hbm, ⟨0, _⟩ => ⟨S8x2x128x512, .f32⟩
  | .hbm, ⟨1, _⟩ => ⟨S8x2x128x512, .f32⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S2x128x512, .f32⟩
  | .hbm, ⟨6, _⟩ => ⟨S2x128x512, .f32⟩
  | .hbm, ⟨7, _⟩ => ⟨S2x128x512, .f32⟩
  | .hbm, ⟨8, _⟩ => ⟨S2x128x512, .f32⟩
  | .hbm, ⟨9, _⟩ => ⟨S2x128x512, .f32⟩
  | .hbm, ⟨10, _⟩ => ⟨S2x128x512, .f32⟩
  | .hbm, ⟨11, _⟩ => ⟨S2x128x512, .f32⟩
  | .hbm, ⟨12, _⟩ => ⟨S2x128x512, .f32⟩
  | .hbm, ⟨13, _⟩ => ⟨S2x128x512, .f32⟩
  | .hbm, ⟨14, _⟩ => ⟨S2x128x512, .f32⟩
  | .hbm, ⟨15, _⟩ => ⟨S2x128x512, .f32⟩
  | .hbm, ⟨16, _⟩ => ⟨S_, .f32⟩
  | .hbm, ⟨17, _⟩ => ⟨S8x128, .f32⟩
  | .hbm, ⟨18, _⟩ => ⟨S8x2x128x512, .bf16⟩
  | .hbm, ⟨19, _⟩ => ⟨S2x128x512, .f32⟩
  | .hbm, ⟨20, _⟩ => ⟨S2x128x512, .f32⟩
  | .hbm, ⟨21, _⟩ => ⟨S2x128x512, .f32⟩
  | .hbm, ⟨22, _⟩ => ⟨S2x128x512, .f32⟩
  | .hbm, ⟨23, _⟩ => ⟨S2x128x512, .f32⟩
  | .hbm, ⟨24, _⟩ => ⟨S2x128x512, .f32⟩
  | .hbm, ⟨25, _⟩ => ⟨S2x128x512, .f32⟩
  | .hbm, ⟨26, _⟩ => ⟨S2x128x512, .f32⟩
  | .hbm, ⟨27, _⟩ => ⟨S8x2x128x512, .bf16⟩
  | .hbm, ⟨28, _⟩ => ⟨S2x128x512, .f32⟩
  | .hbm, ⟨29, _⟩ => ⟨S2x128x512, .f32⟩
  | .hbm, ⟨30, _⟩ => ⟨S2x128x512, .f32⟩
  | .hbm, ⟨31, _⟩ => ⟨S2x128x512, .f32⟩
  | .hbm, ⟨32, _⟩ => ⟨S2x128x512, .f32⟩
  | .hbm, ⟨33, _⟩ => ⟨S2x128x512, .f32⟩
  | .hbm, ⟨34, _⟩ => ⟨S2x128x512, .f32⟩
  | .hbm, ⟨35, _⟩ => ⟨S2x128x512, .f32⟩
  | .local _ .vmem, ⟨0, _⟩ => ⟨S8x2x128x512, .bf16⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S8x2x128x512, .bf16⟩
  | .local _ .vmem, ⟨16, _⟩ => ⟨S1x128x512, .f32⟩
  | .local _ .vmem, ⟨17, _⟩ => ⟨S1x128x512, .f32⟩
  | .local _ .vmem, ⟨18, _⟩ => ⟨S1x128x512, .f32⟩
  | .local _ .vmem, ⟨19, _⟩ => ⟨S1x128x512, .f32⟩
  | .local _ .vmem, ⟨20, _⟩ => ⟨S1x128x512, .f32⟩
  | .local _ .vmem, ⟨21, _⟩ => ⟨S1x128x512, .f32⟩
  | .local _ .vmem, ⟨22, _⟩ => ⟨S1x128x512, .f32⟩
  | .local _ .vmem, ⟨23, _⟩ => ⟨S1x128x512, .f32⟩
  | .local _ .vmem, ⟨24, _⟩ => ⟨S1x128x512, .f32⟩
  | .local _ .vmem, ⟨25, _⟩ => ⟨S1x128x512, .f32⟩
  | .local _ .vmem, ⟨26, _⟩ => ⟨S1x128x512, .f32⟩
  | .local _ .vmem, ⟨27, _⟩ => ⟨S1x128x512, .f32⟩
  | .local _ .vmem, ⟨28, _⟩ => ⟨S1x128x512, .f32⟩
  | .local _ .vmem, ⟨29, _⟩ => ⟨S1x128x512, .f32⟩
  | _, _ => ⟨S8x2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2_0 : Ref sig .tc := ⟨.hbm, 19, rfl⟩
abbrev main_v2_1 : Ref sig .tc := ⟨.hbm, 20, rfl⟩
abbrev main_v2_2 : Ref sig .tc := ⟨.hbm, 21, rfl⟩
abbrev main_v2_3 : Ref sig .tc := ⟨.hbm, 22, rfl⟩
abbrev main_v2_4 : Ref sig .tc := ⟨.hbm, 23, rfl⟩
abbrev main_v2_5 : Ref sig .tc := ⟨.hbm, 24, rfl⟩
abbrev main_v2_6 : Ref sig .tc := ⟨.hbm, 25, rfl⟩
abbrev main_v2_7 : Ref sig .tc := ⟨.hbm, 26, rfl⟩
abbrev main_v3 : Ref sig .tc := ⟨.hbm, 27, rfl⟩
abbrev main_v4_0 : Ref sig .tc := ⟨.hbm, 28, rfl⟩
abbrev main_v4_1 : Ref sig .tc := ⟨.hbm, 29, rfl⟩
abbrev main_v4_2 : Ref sig .tc := ⟨.hbm, 30, rfl⟩
abbrev main_v4_3 : Ref sig .tc := ⟨.hbm, 31, rfl⟩
abbrev main_v4_4 : Ref sig .tc := ⟨.hbm, 32, rfl⟩
abbrev main_v4_5 : Ref sig .tc := ⟨.hbm, 33, rfl⟩
abbrev main_v4_6 : Ref sig .tc := ⟨.hbm, 34, rfl⟩
abbrev main_v4_7 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg14_0 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_17 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_18 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_19 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_20 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_21 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_22 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_23 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1x128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev grid1 : Pipeline.Grid := ⟨1, ![1], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_18 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_19 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_20 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_21 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_22 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_23 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S8x2x128x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev stage1_8 : Fin 1 → Memref sig .tc .vmem S1x128x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]

abbrev stage1_9 : Fin 1 → Memref sig .tc .vmem S1x128x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

abbrev stage1_10 : Fin 1 → Memref sig .tc .vmem S1x128x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]

abbrev stage1_11 : Fin 1 → Memref sig .tc .vmem S1x128x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![true]

abbrev stage1_12 : Fin 1 → Memref sig .tc .vmem S1x128x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true]

abbrev stage1_13 : Fin 1 → Memref sig .tc .vmem S1x128x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![true]

abbrev stage1_14 : Fin 1 → Memref sig .tc .vmem S1x128x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![true]
-- ==== ReferenceOptBranchIdeal.lean ====
abbrev S8x2x128x512 : Shape := ⟨4, ![8, 2, 128, 512]⟩
abbrev S2x128x512 : Shape := ⟨3, ![2, 128, 512]⟩
abbrev S8x1x128x512 : Shape := ⟨4, ![8, 1, 128, 512]⟩
abbrev S8x128x512 : Shape := ⟨3, ![8, 128, 512]⟩
abbrev S_ : Shape := ⟨0, ![]⟩
abbrev S128x512 : Shape := ⟨2, ![128, 512]⟩
abbrev S1x128x512 : Shape := ⟨3, ![1, 128, 512]⟩

abbrev nBuf : Space → Nat
  | .hbm => 104
  | .vmem => 0
  | .smem => 0
  | _ => 0

abbrev bufTy : (tb : Table) → Fin (tcTables nBuf tb) → BufTy
  | .hbm, ⟨0, _⟩ => ⟨S8x2x128x512, .f32⟩
  | .hbm, ⟨1, _⟩ => ⟨S8x2x128x512, .f32⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S2x128x512, .f32⟩
  | .hbm, ⟨6, _⟩ => ⟨S2x128x512, .f32⟩
  | .hbm, ⟨7, _⟩ => ⟨S2x128x512, .f32⟩
  | .hbm, ⟨8, _⟩ => ⟨S2x128x512, .f32⟩
  | .hbm, ⟨9, _⟩ => ⟨S2x128x512, .f32⟩
  | .hbm, ⟨10, _⟩ => ⟨S2x128x512, .f32⟩
  | .hbm, ⟨11, _⟩ => ⟨S2x128x512, .f32⟩
  | .hbm, ⟨12, _⟩ => ⟨S2x128x512, .f32⟩
  | .hbm, ⟨13, _⟩ => ⟨S2x128x512, .f32⟩
  | .hbm, ⟨14, _⟩ => ⟨S2x128x512, .f32⟩
  | .hbm, ⟨15, _⟩ => ⟨S2x128x512, .f32⟩
  | .hbm, ⟨16, _⟩ => ⟨S8x1x128x512, .f32⟩
  | .hbm, ⟨17, _⟩ => ⟨S8x128x512, .f32⟩
  | .hbm, ⟨18, _⟩ => ⟨S_, .f32⟩
  | .hbm, ⟨19, _⟩ => ⟨S128x512, .f32⟩
  | .hbm, ⟨20, _⟩ => ⟨S8x1x128x512, .f32⟩
  | .hbm, ⟨21, _⟩ => ⟨S8x128x512, .f32⟩
  | .hbm, ⟨22, _⟩ => ⟨S_, .f32⟩
  | .hbm, ⟨23, _⟩ => ⟨S128x512, .f32⟩
  | .hbm, ⟨24, _⟩ => ⟨S1x128x512, .f32⟩
  | .hbm, ⟨25, _⟩ => ⟨S1x128x512, .f32⟩
  | .hbm, ⟨26, _⟩ => ⟨S2x128x512, .f32⟩
  | .hbm, ⟨27, _⟩ => ⟨S8x1x128x512, .f32⟩
  | .hbm, ⟨28, _⟩ => ⟨S8x128x512, .f32⟩
  | .hbm, ⟨29, _⟩ => ⟨S_, .f32⟩
  | .hbm, ⟨30, _⟩ => ⟨S128x512, .f32⟩
  | .hbm, ⟨31, _⟩ => ⟨S8x1x128x512, .f32⟩
  | .hbm, ⟨32, _⟩ => ⟨S8x128x512, .f32⟩
  | .hbm, ⟨33, _⟩ => ⟨S_, .f32⟩
  | .hbm, ⟨34, _⟩ => ⟨S128x512, .f32⟩
  | .hbm, ⟨35, _⟩ => ⟨S1x128x512, .f32⟩
  | .hbm, ⟨36, _⟩ => ⟨S1x128x512, .f32⟩
  | .hbm, ⟨37, _⟩ => ⟨S2x128x512, .f32⟩
  | .hbm, ⟨38, _⟩ => ⟨S_, .f32⟩
  | .hbm, ⟨39, _⟩ => ⟨S2x128x512, .f32⟩
  | .hbm, ⟨40, _⟩ => ⟨S2x128x512, .f32⟩
  | .hbm, ⟨41, _⟩ => ⟨S_, .f32⟩
  | .hbm, ⟨42, _⟩ => ⟨S2x128x512, .f32⟩
  | .hbm, ⟨43, _⟩ => ⟨S2x128x512, .f32⟩
  | .hbm, ⟨44, _⟩ => ⟨S2x128x512, .f32⟩
  | .hbm, ⟨45, _⟩ => ⟨S_, .f32⟩
  | .hbm, ⟨46, _⟩ => ⟨S2x128x512, .f32⟩
  | .hbm, ⟨47, _⟩ => ⟨S2x128x512, .f32⟩
  | .hbm, ⟨48, _⟩ => ⟨S2x128x512, .f32⟩
  | .hbm, ⟨49, _⟩ => ⟨S_, .f32⟩
  | .hbm, ⟨50, _⟩ => ⟨S2x128x512, .f32⟩
  | .hbm, ⟨51, _⟩ => ⟨S2x128x512, .f32⟩
  | .hbm, ⟨52, _⟩ => ⟨S2x128x512, .f32⟩
  | .hbm, ⟨53, _⟩ => ⟨S_, .f32⟩
  | .hbm, ⟨54, _⟩ => ⟨S2x128x512, .f32⟩
  | .hbm, ⟨55, _⟩ => ⟨S2x128x512, .f32⟩
  | .hbm, ⟨56, _⟩ => ⟨S_, .f32⟩
  | .hbm, ⟨57, _⟩ => ⟨S2x128x512, .f32⟩
  | .hbm, ⟨58, _⟩ => ⟨S2x128x512, .f32⟩
  | .hbm, ⟨59, _⟩ => ⟨S2x128x512, .f32⟩
  | .hbm, ⟨60, _⟩ => ⟨S_, .f32⟩
  | .hbm, ⟨61, _⟩ => ⟨S2x128x512, .f32⟩
  | .hbm, ⟨62, _⟩ => ⟨S2x128x512, .f32⟩
  | .hbm, ⟨63, _⟩ => ⟨S2x128x512, .f32⟩
  | .hbm, ⟨64, _⟩ => ⟨S_, .f32⟩
  | .hbm, ⟨65, _⟩ => ⟨S2x128x512, .f32⟩
  | .hbm, ⟨66, _⟩ => ⟨S2x128x512, .f32⟩
  | .hbm, ⟨67, _⟩ => ⟨S2x128x512, .f32⟩
  | .hbm, ⟨68, _⟩ => ⟨S_, .f32⟩
  | .hbm, ⟨69, _⟩ => ⟨S2x128x512, .f32⟩
  | .hbm, ⟨70, _⟩ => ⟨S2x128x512, .f32⟩
  | .hbm, ⟨71, _⟩ => ⟨S_, .f32⟩
  | .hbm, ⟨72, _⟩ => ⟨S2x128x512, .f32⟩
  | .hbm, ⟨73, _⟩ => ⟨S2x128x512, .f32⟩
  | .hbm, ⟨74, _⟩ => ⟨S_, .f32⟩
  | .hbm, ⟨75, _⟩ => ⟨S2x128x512, .f32⟩
  | .hbm, ⟨76, _⟩ => ⟨S2x128x512, .f32⟩
  | .hbm, ⟨77, _⟩ => ⟨S2x128x512, .f32⟩
  | .hbm, ⟨78, _⟩ => ⟨S_, .f32⟩
  | .hbm, ⟨79, _⟩ => ⟨S2x128x512, .f32⟩
  | .hbm, ⟨80, _⟩ => ⟨S2x128x512, .f32⟩
  | .hbm, ⟨81, _⟩ => ⟨S2x128x512, .f32⟩
  | .hbm, ⟨82, _⟩ => ⟨S_, .f32⟩
  | .hbm, ⟨83, _⟩ => ⟨S2x128x512, .f32⟩
  | .hbm, ⟨84, _⟩ => ⟨S2x128x512, .f32⟩
  | .hbm, ⟨85, _⟩ => ⟨S2x128x512, .f32⟩
  | .hbm, ⟨86, _⟩ => ⟨S_, .f32⟩
  | .hbm, ⟨87, _⟩ => ⟨S2x128x512, .f32⟩
  | .hbm, ⟨88, _⟩ => ⟨S2x128x512, .f32⟩
  | .hbm, ⟨89, _⟩ => ⟨S_, .f32⟩
  | .hbm, ⟨90, _⟩ => ⟨S2x128x512, .f32⟩
  | .hbm, ⟨91, _⟩ => ⟨S2x128x512, .f32⟩
  | .hbm, ⟨92, _⟩ => ⟨S2x128x512, .f32⟩
  | .hbm, ⟨93, _⟩ => ⟨S_, .f32⟩
  | .hbm, ⟨94, _⟩ => ⟨S2x128x512, .f32⟩
  | .hbm, ⟨95, _⟩ => ⟨S2x128x512, .f32⟩
  | .hbm, ⟨96, _⟩ => ⟨S2x128x512, .f32⟩
  | .hbm, ⟨97, _⟩ => ⟨S_, .f32⟩
  | .hbm, ⟨98, _⟩ => ⟨S2x128x512, .f32⟩
  | .hbm, ⟨99, _⟩ => ⟨S2x128x512, .f32⟩
  | .hbm, ⟨100, _⟩ => ⟨S2x128x512, .f32⟩
  | .hbm, ⟨101, _⟩ => ⟨S_, .f32⟩
  | .hbm, ⟨102, _⟩ => ⟨S2x128x512, .f32⟩
  | .hbm, ⟨103, _⟩ => ⟨S2x128x512, .f32⟩
  | _, _ => ⟨S8x2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_v30 : Ref sig .tc := ⟨.hbm, 55, rfl⟩
abbrev main_cst_8 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_10 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_11 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_v42 : Ref sig .tc := ⟨.hbm, 72, rfl⟩
abbrev main_v43 : Ref sig .tc := ⟨.hbm, 73, rfl⟩
abbrev main_cst_13 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_14 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_15 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_16 : Ref sig .tc := ⟨.hbm, 86, rfl⟩
abbrev main_v53 : Ref sig .tc := ⟨.hbm, 87, rfl⟩
abbrev main_v54 : Ref sig .tc := ⟨.hbm, 88, rfl⟩
abbrev main_cst_17 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_18 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_19 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_20 : Ref sig .tc := ⟨.hbm, 101, rfl⟩
abbrev main_v64 : Ref sig .tc := ⟨.hbm, 102, rfl⟩
abbrev main_v65 : Ref sig .tc := ⟨.hbm, 103, rfl⟩

abbrev nD : Nat := 1
abbrev τ : Topo := Topo.v7x

variable {F : FTy → Type} [FloatOps F]
-- ==== KernelOptFf.lean ====
abbrev S8x1x352x1024 : Shape := ⟨4, ![8, 1, 352, 1024]⟩
abbrev S2x352x1024 : Shape := ⟨3, ![2, 352, 1024]⟩
abbrev S_ : Shape := ⟨0, ![]⟩
abbrev S8x128 : Shape := ⟨2, ![8, 128]⟩
abbrev S8x1x176x1024 : Shape := ⟨4, ![8, 1, 176, 1024]⟩
abbrev S1x176x1024 : Shape := ⟨3, ![1, 176, 1024]⟩
abbrev S1x1x176x1024 : Shape := ⟨4, ![1, 1, 176, 1024]⟩
abbrev S176x1024 : Shape := ⟨2, ![176, 1024]⟩

abbrev nBuf : Space → Nat
  | .hbm => 21
  | .vmem => 32
  | .smem => 0
  | _ => 0

abbrev bufTy : (tb : Table) → Fin (tcTables nBuf tb) → BufTy
  | .hbm, ⟨0, _⟩ => ⟨S8x1x352x1024, .f32⟩
  | .hbm, ⟨1, _⟩ => ⟨S8x1x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S_, .f32⟩
  | .hbm, ⟨10, _⟩ => ⟨S8x128, .f32⟩
  | .hbm, ⟨11, _⟩ => ⟨S8x1x352x1024, .bf16⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S2x352x1024, .f32⟩
  | .hbm, ⟨16, _⟩ => ⟨S8x1x352x1024, .bf16⟩
  | .hbm, ⟨17, _⟩ => ⟨S2x352x1024, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .local _ .vmem, ⟨0, _⟩ => ⟨S8x1x176x1024, .bf16⟩
  | .local _ .vmem, ⟨1, _⟩ => ⟨S8x1x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S8x1x176x1024, .bf16⟩
  | .local _ .vmem, ⟨17, _⟩ => ⟨S8x1x176x1024, .bf16⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .vmem, ⟨22, _⟩ => ⟨S1x176x1024, .f32⟩
  | .local _ .vmem, ⟨23, _⟩ => ⟨S1x176x1024, .f32⟩
  | .local _ .vmem, ⟨24, _⟩ => ⟨S1x176x1024, .f32⟩
  | .local _ .vmem, ⟨25, _⟩ => ⟨S1x176x1024, .f32⟩
  | .local _ .vmem, ⟨26, _⟩ => ⟨S1x176x1024, .f32⟩
  | .local _ .vmem, ⟨27, _⟩ => ⟨S1x176x1024, .f32⟩
  | .local _ .vmem, ⟨28, _⟩ => ⟨S1x176x1024, .f32⟩
  | .local _ .vmem, ⟨29, _⟩ => ⟨S1x176x1024, .f32⟩
  | .local _ .vmem, ⟨30, _⟩ => ⟨S1x176x1024, .f32⟩
  | .local _ .vmem, ⟨31, _⟩ => ⟨S1x176x1024, .f32⟩
  | _, _ => ⟨S8x1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x1x176x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x176x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x176x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x176x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x176x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x176x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x176x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x176x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== KernelOptFfIdeal.lean ====
abbrev S8x1x352x1024 : Shape := ⟨4, ![8, 1, 352, 1024]⟩
abbrev S2x352x1024 : Shape := ⟨3, ![2, 352, 1024]⟩
abbrev S_ : Shape := ⟨0, ![]⟩
abbrev S8x128 : Shape := ⟨2, ![8, 128]⟩
abbrev S8x1x176x1024 : Shape := ⟨4, ![8, 1, 176, 1024]⟩
abbrev S1x176x1024 : Shape := ⟨3, ![1, 176, 1024]⟩
abbrev S1x1x176x1024 : Shape := ⟨4, ![1, 1, 176, 1024]⟩
abbrev S176x1024 : Shape := ⟨2, ![176, 1024]⟩

abbrev nBuf : Space → Nat
  | .hbm => 21
  | .vmem => 32
  | .smem => 0
  | _ => 0

abbrev bufTy : (tb : Table) → Fin (tcTables nBuf tb) → BufTy
  | .hbm, ⟨0, _⟩ => ⟨S8x1x352x1024, .f32⟩
  | .hbm, ⟨1, _⟩ => ⟨S8x1x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S_, .f32⟩
  | .hbm, ⟨10, _⟩ => ⟨S8x128, .f32⟩
  | .hbm, ⟨11, _⟩ => ⟨S8x1x352x1024, .bf16⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S2x352x1024, .f32⟩
  | .hbm, ⟨16, _⟩ => ⟨S8x1x352x1024, .bf16⟩
  | .hbm, ⟨17, _⟩ => ⟨S2x352x1024, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .local _ .vmem, ⟨0, _⟩ => ⟨S8x1x176x1024, .bf16⟩
  | .local _ .vmem, ⟨1, _⟩ => ⟨S8x1x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S8x1x176x1024, .bf16⟩
  | .local _ .vmem, ⟨17, _⟩ => ⟨S8x1x176x1024, .bf16⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .vmem, ⟨22, _⟩ => ⟨S1x176x1024, .f32⟩
  | .local _ .vmem, ⟨23, _⟩ => ⟨S1x176x1024, .f32⟩
  | .local _ .vmem, ⟨24, _⟩ => ⟨S1x176x1024, .f32⟩
  | .local _ .vmem, ⟨25, _⟩ => ⟨S1x176x1024, .f32⟩
  | .local _ .vmem, ⟨26, _⟩ => ⟨S1x176x1024, .f32⟩
  | .local _ .vmem, ⟨27, _⟩ => ⟨S1x176x1024, .f32⟩
  | .local _ .vmem, ⟨28, _⟩ => ⟨S1x176x1024, .f32⟩
  | .local _ .vmem, ⟨29, _⟩ => ⟨S1x176x1024, .f32⟩
  | .local _ .vmem, ⟨30, _⟩ => ⟨S1x176x1024, .f32⟩
  | .local _ .vmem, ⟨31, _⟩ => ⟨S1x176x1024, .f32⟩
  | _, _ => ⟨S8x1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x1x176x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x176x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x176x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x176x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x176x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x176x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x176x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x176x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceOptFfIdeal.lean ====
abbrev S8x1x352x1024 : Shape := ⟨4, ![8, 1, 352, 1024]⟩
abbrev S2x352x1024 : Shape := ⟨3, ![2, 352, 1024]⟩
abbrev S8x352x1024 : Shape := ⟨3, ![8, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x1x352x1024, .f32⟩
  | .hbm, ⟨1, _⟩ => ⟨S8x1x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S8x352x1024, .f32⟩
  | .hbm, ⟨10, _⟩ => ⟨S_, .f32⟩
  | .hbm, ⟨11, _⟩ => ⟨S352x1024, .f32⟩
  | .hbm, ⟨12, _⟩ => ⟨S8x352x1024, .f32⟩
  | .hbm, ⟨13, _⟩ => ⟨S_, .f32⟩
  | .hbm, ⟨14, _⟩ => ⟨S352x1024, .f32⟩
  | .hbm, ⟨15, _⟩ => ⟨S1x352x1024, .f32⟩
  | .hbm, ⟨16, _⟩ => ⟨S1x352x1024, .f32⟩
  | .hbm, ⟨17, _⟩ => ⟨S2x352x1024, .f32⟩
  | .hbm, ⟨18, _⟩ => ⟨S_, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S2x352x1024, .f32⟩
  | .hbm, ⟨33, _⟩ => ⟨S_, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | .hbm, ⟨47, _⟩ => ⟨S2x352x1024, .f32⟩
  | .hbm, ⟨48, _⟩ => ⟨S_, .f32⟩
  | .hbm, ⟨49, _⟩ => ⟨S2x352x1024, .f32⟩
  | .hbm, ⟨50, _⟩ => ⟨S2x352x1024, .f32⟩
  | _, _ => ⟨S8x1x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== KernelOptFirst.lean ====
abbrev S4x1x352x1024 : Shape := ⟨4, ![4, 1, 352, 1024]⟩
abbrev S8x1x352x1024 : Shape := ⟨4, ![8, 1, 352, 1024]⟩
abbrev S2x352x1024 : Shape := ⟨3, ![2, 352, 1024]⟩
abbrev S_ : Shape := ⟨0, ![]⟩
abbrev S8x128 : Shape := ⟨2, ![8, 128]⟩
abbrev S8x1x176x1024 : Shape := ⟨4, ![8, 1, 176, 1024]⟩
abbrev S1x176x1024 : Shape := ⟨3, ![1, 176, 1024]⟩
abbrev S1x1x176x1024 : Shape := ⟨4, ![1, 1, 176, 1024]⟩
abbrev S176x1024 : Shape := ⟨2, ![176, 1024]⟩
abbrev S4x1x176x1024 : Shape := ⟨4, ![4, 1, 176, 1024]⟩

abbrev nBuf : Space → Nat
  | .hbm => 21
  | .vmem => 32
  | .smem => 0
  | _ => 0

abbrev bufTy : (tb : Table) → Fin (tcTables nBuf tb) → BufTy
  | .hbm, ⟨0, _⟩ => ⟨S4x1x352x1024, .f32⟩
  | .hbm, ⟨1, _⟩ => ⟨S8x1x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S_, .f32⟩
  | .hbm, ⟨10, _⟩ => ⟨S8x128, .f32⟩
  | .hbm, ⟨11, _⟩ => ⟨S8x1x352x1024, .bf16⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S2x352x1024, .f32⟩
  | .hbm, ⟨16, _⟩ => ⟨S4x1x352x1024, .bf16⟩
  | .hbm, ⟨17, _⟩ => ⟨S2x352x1024, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .local _ .vmem, ⟨0, _⟩ => ⟨S8x1x176x1024, .bf16⟩
  | .local _ .vmem, ⟨1, _⟩ => ⟨S8x1x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S4x1x176x1024, .bf16⟩
  | .local _ .vmem, ⟨17, _⟩ => ⟨S4x1x176x1024, .bf16⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .vmem, ⟨22, _⟩ => ⟨S1x176x1024, .f32⟩
  | .local _ .vmem, ⟨23, _⟩ => ⟨S1x176x1024, .f32⟩
  | .local _ .vmem, ⟨24, _⟩ => ⟨S1x176x1024, .f32⟩
  | .local _ .vmem, ⟨25, _⟩ => ⟨S1x176x1024, .f32⟩
  | .local _ .vmem, ⟨26, _⟩ => ⟨S1x176x1024, .f32⟩
  | .local _ .vmem, ⟨27, _⟩ => ⟨S1x176x1024, .f32⟩
  | .local _ .vmem, ⟨28, _⟩ => ⟨S1x176x1024, .f32⟩
  | .local _ .vmem, ⟨29, _⟩ => ⟨S1x176x1024, .f32⟩
  | .local _ .vmem, ⟨30, _⟩ => ⟨S1x176x1024, .f32⟩
  | .local _ .vmem, ⟨31, _⟩ => ⟨S1x176x1024, .f32⟩
  | _, _ => ⟨S4x1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x1x176x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x176x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x176x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x176x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x176x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x176x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x176x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x176x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceOptFirstIdeal.lean ====
abbrev S4x1x352x1024 : Shape := ⟨4, ![4, 1, 352, 1024]⟩
abbrev S8x1x352x1024 : Shape := ⟨4, ![8, 1, 352, 1024]⟩
abbrev S2x352x1024 : Shape := ⟨3, ![2, 352, 1024]⟩
abbrev S4x352x1024 : Shape := ⟨3, ![4, 352, 1024]⟩
abbrev S_ : Shape := ⟨0, ![]⟩
abbrev S352x1024 : Shape := ⟨2, ![352, 1024]⟩
abbrev S8x352x1024 : Shape := ⟨3, ![8, 352, 1024]⟩
abbrev S1x352x1024 : Shape := ⟨3, ![1, 352, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4x1x352x1024, .f32⟩
  | .hbm, ⟨1, _⟩ => ⟨S8x1x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S4x352x1024, .f32⟩
  | .hbm, ⟨10, _⟩ => ⟨S_, .f32⟩
  | .hbm, ⟨11, _⟩ => ⟨S352x1024, .f32⟩
  | .hbm, ⟨12, _⟩ => ⟨S8x352x1024, .f32⟩
  | .hbm, ⟨13, _⟩ => ⟨S_, .f32⟩
  | .hbm, ⟨14, _⟩ => ⟨S352x1024, .f32⟩
  | .hbm, ⟨15, _⟩ => ⟨S1x352x1024, .f32⟩
  | .hbm, ⟨16, _⟩ => ⟨S1x352x1024, .f32⟩
  | .hbm, ⟨17, _⟩ => ⟨S2x352x1024, .f32⟩
  | .hbm, ⟨18, _⟩ => ⟨S_, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S2x352x1024, .f32⟩
  | .hbm, ⟨33, _⟩ => ⟨S_, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | .hbm, ⟨47, _⟩ => ⟨S2x352x1024, .f32⟩
  | .hbm, ⟨48, _⟩ => ⟨S_, .f32⟩
  | .hbm, ⟨49, _⟩ => ⟨S2x352x1024, .f32⟩
  | .hbm, ⟨50, _⟩ => ⟨S2x352x1024, .f32⟩
  | _, _ => ⟨S4x1x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Proof.Trip.lean ====
module

public import proofs.«01_k».proof.Proof.Gen.KernelIdeal.Loops
public import proofs.«01_k».proof.Proof.Gen.KernelIdeal.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none
local notation "𝕄" => MT nD τ sig Unit (Elt F) ℕ (UU nD τ) ℕ

/-- The contents of a memref's buffer. -/
abbrev HB (c : Dev nD) {sp : Space} {S : Shape} {e : EltTy} (M : Memref sig .tc sp S e) : Type := Buf (Elt F) (M.view.loc (c : Thread nD τ))
/-- A memref's buffer held whole at given contents. -/
abbrev pt (c : Dev nD) {sp : Space} {S : Shape} {e : EltTy} (M : Memref sig .tc sp S e) (f : HB (F := F) c M) : sProp 𝕄 :=
  M.view.loc (c : Thread nD τ) ↦[M.view.set]{fullShare} f

section Trip
variable (c : Dev nD) (i : grid0.Coords) (arg1 : Memref sig .tc .vmem S2048x512 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S3x1024x384 .f32) (harg4 : arg4.IsWhole) (arg5 : Memref sig .tc .smem S8 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1024x384 .f32) (harg11 : arg11.IsWhole) (arg12 : Memref sig .tc .vmem S1024x128 .f32) (harg12 : arg12.IsWhole) (arg13 : Memref sig .tc .vmem S2304x128 .bf16) (harg13 : arg13.IsWhole) (arg14 : Memref sig .tc .vmem S2304x128 .bf16) (harg14 : arg14.IsWhole) (arg15 : Memref sig .tc .vmem S2304x128 .f32) (harg15 : arg15.IsWhole) (arg16 : Memref sig .tc .vmem S2304x128 .f32) (harg16 : arg16.IsWhole) (arg17 : Memref sig .tc .vmem S1024x384 .f32) (harg17 : arg17.IsWhole) (arg18 : Memref sig .tc .vmem S1024x384 .f32) (harg18 : arg18.IsWhole) (arg19 : Memref sig .tc .vmem S1024x384 .bf16) (harg19 : arg19.IsWhole) (arg20 : Memref sig .tc .vmem S1024x384 .bf16) (harg20 : arg20.IsWhole) (v24 : FVec F S128x1 .f32) (v26 : FVec F S128x1 .f32) (v28 : FVec F S128x1 .f32) (v30 : FVec F S128x1 .f32) (v31 : Elt F .f32) (v33 : Elt F .f32) (v35 : Elt F .f32) (v37 : Elt F .f32)

abbrev tripProg (k : Fin k0_t1_loop.trips) : Prog (TpuEff nD τ sig (Elt F) Λ₀ .tc) Unit :=
  k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 k ()

set_option maxHeartbeats 4000000 in
set_option backward.proofsInPublic true in
def trip (k : Fin k0_t1_loop.trips)
    (g1 : HB (F := F) c arg1) (g4 : HB (F := F) c arg4) (g6 : HB (F := F) c arg6) (g7 : HB (F := F) c arg7) (g13 : HB (F := F) c arg13) (g14 : HB (F := F) c arg14)
    (f11 : HB (F := F) c arg11) (f12 : HB (F := F) c arg12) (f15 : HB (F := F) c arg15) (f16 : HB (F := F) c arg16) :
    Σ' (L8 : List (View.Piece (Elt F) S2048x512 .f32)) (L11 : List (View.Piece (Elt F) S1024x384 .f32)) (L12 : List (View.Piece (Elt F) S1024x128 .f32))
       (L15 : List (View.Piece (Elt F) S2304x128 .f32)), { L16 : List (View.Piece (Elt F) S2304x128 .f32) //
      ∀ (f8 : HB (F := F) c arg8),
      iprop(pt c arg1 g1 ∗ pt c arg4 g4 ∗ pt c arg6 g6 ∗ pt c arg7 g7 ∗ pt c arg13 g13 ∗ pt c arg14 g14
        ∗ pt c arg8 f8 ∗ pt c arg11 f11 ∗ pt c arg12 f12 ∗ pt c arg15 f15 ∗ pt c arg16 f16
        ∗ (∃ f, pt c arg17 f) ∗ (∃ f, pt c arg18 f) ∗ (∃ f, pt c arg19 f) ∗ (∃ f, pt c arg20 f))
      ⊢ wp frame (wpE (defs₀ (F := F)) 𝒱₀ (c : Thread nD τ) none) Set.univ
          (tripProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 k)
          (fun _ => iprop(pt c arg1 g1 ∗ pt c arg4 g4 ∗ pt c arg6 g6 ∗ pt c arg7 g7 ∗ pt c arg13 g13 ∗ pt c arg14 g14
        ∗ pt c arg8 (arg8.view.writes (Elt F) f8 L8) ∗ pt c arg11 (arg11.view.writes (Elt F) f11 L11) ∗ pt c arg12 (arg12.view.writes (Elt F) f12 L12)
        ∗ pt c arg15 (arg15.view.writes (Elt F) f15 L15) ∗ pt c arg16 (arg16.view.writes (Elt F) f16 L16)
        ∗ (∃ f, pt c arg17 f) ∗ (∃ f, pt c arg18 f) ∗ (∃ f, pt c arg19 f) ∗ (∃ f, pt c arg20 f))) } := by
  refine ⟨?_, ?_, ?_, ?_, ?_, fun f8 => ?run⟩
  case run =>
    iintro ⟨H1, H4, H6, H7, H13, H14, H8, H11, H12, H15, H16, ⟨%f17, H17⟩, ⟨%f18, H18⟩, ⟨%f19, H19⟩, ⟨%f20, H20⟩⟩
    unfold tripProg k0_t1_body
    sl_exec_parts
    sl_step
    isplitl [H1]; · iexact H1
    isplitl [H4]; · iexact H4
    isplitl [H6]; · iexact H6
    isplitl [H7]; · iexact H7
    isplitl [H13]; · iexact H13
    isplitl [H14]; · iexact H14
    isplitl [H8]; · iexact H8
    isplitl [H11]; · iexact H11
    isplitl [H12]; · iexact H12
    isplitl [H15]; · iexact H15
    isplitl [H16]; · iexact H16
    isplitl [H17]; · iexists _; iexact H17
    isplitl [H18]; · iexists _; iexact H18
    isplitl [H19]; · iexists _; iexact H19
    iexists _; iexact H20
end Trip
end Cert.Proof.KernelIdeal
end
-- ==== Proof.Loop.lean ====
module

public import proofs.«01_k».proof.Proof.Trip

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Loop
attribute [local irreducible] trip
variable (c : Dev nD) (i : grid0.Coords) (arg1 : Memref sig .tc .vmem S2048x512 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S3x1024x384 .f32) (harg4 : arg4.IsWhole) (arg5 : Memref sig .tc .smem S8 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1024x384 .f32) (harg11 : arg11.IsWhole) (arg12 : Memref sig .tc .vmem S1024x128 .f32) (harg12 : arg12.IsWhole) (arg13 : Memref sig .tc .vmem S2304x128 .bf16) (harg13 : arg13.IsWhole) (arg14 : Memref sig .tc .vmem S2304x128 .bf16) (harg14 : arg14.IsWhole) (arg15 : Memref sig .tc .vmem S2304x128 .f32) (harg15 : arg15.IsWhole) (arg16 : Memref sig .tc .vmem S2304x128 .f32) (harg16 : arg16.IsWhole) (arg17 : Memref sig .tc .vmem S1024x384 .f32) (harg17 : arg17.IsWhole) (arg18 : Memref sig .tc .vmem S1024x384 .f32) (harg18 : arg18.IsWhole) (arg19 : Memref sig .tc .vmem S1024x384 .bf16) (harg19 : arg19.IsWhole) (arg20 : Memref sig .tc .vmem S1024x384 .bf16) (harg20 : arg20.IsWhole) (v24 : FVec F S128x1 .f32) (v26 : FVec F S128x1 .f32) (v28 : FVec F S128x1 .f32) (v30 : FVec F S128x1 .f32) (v31 : Elt F .f32) (v33 : Elt F .f32) (v35 : Elt F .f32) (v37 : Elt F .f32)
  (g1 : HB (F := F) c arg1) (g4 : HB (F := F) c arg4) (g6 : HB (F := F) c arg6) (g7 : HB (F := F) c arg7) (g13 : HB (F := F) c arg13) (g14 : HB (F := F) c arg14)

/-- What the loop carries in buffers: the pieces written to the gradient of q so far, and the contents of the four accumulators. -/
abbrev Acc : Type := List (View.Piece (Elt F) S2048x512 .f32) × HB (F := F) c arg11 × HB (F := F) c arg12 × HB (F := F) c arg15 × HB (F := F) c arg16

/-- The trip's found pieces at an accumulator state. -/
abbrev tripAt (k : Fin k0_t1_loop.trips) (s : Acc (F := F) c arg11 arg12 arg15 arg16) :=
  trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 k g1 g4 g6 g7 g13 g14 s.2.1 s.2.2.1 s.2.2.2.1 s.2.2.2.2

/-- One trip on the carried buffers. -/
def next (k : Fin k0_t1_loop.trips) (s : Acc (F := F) c arg11 arg12 arg15 arg16) : Acc (F := F) c arg11 arg12 arg15 arg16 :=
  let T := tripAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 g1 g4 g6 g7 g13 g14 k s
  (T.1 ++ s.1, arg11.view.writes (Elt F) s.2.1 T.2.1, arg12.view.writes (Elt F) s.2.2.1 T.2.2.1,
    arg15.view.writes (Elt F) s.2.2.2.1 T.2.2.2.1, arg16.view.writes (Elt F) s.2.2.2.2 T.2.2.2.2.1)

/-- The carried buffers before trip `k`. -/
def st (f11 : HB (F := F) c arg11) (f12 : HB (F := F) c arg12) (f15 : HB (F := F) c arg15) (f16 : HB (F := F) c arg16) : ℕ → Acc (F := F) c arg11 arg12 arg15 arg16
  | 0 => ([], f11, f12, f15, f16)
  | k + 1 => if h : k < k0_t1_loop.trips then next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 g1 g4 g6 g7 g13 g14 ⟨k, h⟩ (st f11 f12 f15 f16 k) else st f11 f12 f15 f16 k

theorem st_succ (f11 : HB (F := F) c arg11) (f12 : HB (F := F) c arg12) (f15 : HB (F := F) c arg15) (f16 : HB (F := F) c arg16) (k : Fin k0_t1_loop.trips) :
    st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 g1 g4 g6 g7 g13 g14 f11 f12 f15 f16 (k.val + 1)
      = next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 g1 g4 g6 g7 g13 g14 k (st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 g1 g4 g6 g7 g13 g14 f11 f12 f15 f16 k.val) := by
  rw [st.eq_2]; exact dif_pos k.isLt

/-- The resources of the loop at a state of the carried buffers. -/
abbrev loopRes (f8 : HB (F := F) c arg8) (s : Acc (F := F) c arg11 arg12 arg15 arg16) : sProp 𝕄 :=
  iprop(pt c arg1 g1 ∗ pt c arg4 g4 ∗ pt c arg6 g6 ∗ pt c arg7 g7 ∗ pt c arg13 g13 ∗ pt c arg14 g14
    ∗ pt c arg8 (arg8.view.writes (Elt F) f8 s.1) ∗ pt c arg11 s.2.1 ∗ pt c arg12 s.2.2.1 ∗ pt c arg15 s.2.2.2.1 ∗ pt c arg16 s.2.2.2.2
    ∗ (∃ f, pt c arg17 f) ∗ (∃ f, pt c arg18 f) ∗ (∃ f, pt c arg19 f) ∗ (∃ f, pt c arg20 f))

theorem trip_step (f8 : HB (F := F) c arg8) (k : Fin k0_t1_loop.trips) (s : Acc (F := F) c arg11 arg12 arg15 arg16) :
    loopRes c arg1 arg4 arg6 arg7 arg8 arg11 arg12 arg13 arg14 arg15 arg16 arg17 arg18 arg19 arg20 g1 g4 g6 g7 g13 g14 f8 s
      ⊢ wp frame (wpE (defs₀ (F := F)) 𝒱₀ (c : Thread nD τ) none) Set.univ
          (tripProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 k)
          (fun _ => loopRes c arg1 arg4 arg6 arg7 arg8 arg11 arg12 arg13 arg14 arg15 arg16 arg17 arg18 arg19 arg20 g1 g4 g6 g7 g13 g14 f8
            (next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 g1 g4 g6 g7 g13 g14 k s)) := by
  have h := (tripAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 g1 g4 g6 g7 g13 g14 k s).2.2.2.2.2 (arg8.view.writes (Elt F) f8 s.1)
  rw [← View.writes_append] at h
  exact h

/-- The contents of one accumulator before trip `k`: as at the loop's entry before trip 0, afterwards the state's. -/
abbrev at11 (f11 : HB (F := F) c arg11) (s : ℕ → Acc (F := F) c arg11 arg12 arg15 arg16) (k : ℕ) : HB (F := F) c arg11 :=
  Nat.casesOn (motive := fun _ => HB (F := F) c arg11) k f11 fun n => (s (n + 1)).2.1
abbrev at12 (f12 : HB (F := F) c arg12) (s : ℕ → Acc (F := F) c arg11 arg12 arg15 arg16) (k : ℕ) : HB (F := F) c arg12 :=
  Nat.casesOn (motive := fun _ => HB (F := F) c arg12) k f12 fun n => (s (n + 1)).2.2.1
abbrev at15 (f15 : HB (F := F) c arg15) (s : ℕ → Acc (F := F) c arg11 arg12 arg15 arg16) (k : ℕ) : HB (F := F) c arg15 :=
  Nat.casesOn (motive := fun _ => HB (F := F) c arg15) k f15 fun n => (s (n + 1)).2.2.2.1
abbrev at16 (f16 : HB (F := F) c arg16) (s : ℕ → Acc (F := F) c arg11 arg12 arg15 arg16) (k : ℕ) : HB (F := F) c arg16 :=
  Nat.casesOn (motive := fun _ => HB (F := F) c arg16) k f16 fun n => (s (n + 1)).2.2.2.2

/-- The loop's resources before trip `k`. -/
abbrev invAt (f8 : HB (F := F) c arg8) (f11 : HB (F := F) c arg11) (f12 : HB (F := F) c arg12) (f15 : HB (F := F) c arg15) (f16 : HB (F := F) c arg16)
    (s : ℕ → Acc (F := F) c arg11 arg12 arg15 arg16) (k : ℕ) : sProp 𝕄 :=
  iprop(pt c arg1 g1 ∗ pt c arg4 g4 ∗ pt c arg6 g6 ∗ pt c arg7 g7 ∗ pt c arg13 g13 ∗ pt c arg14 g14
    ∗ pt c arg8 (arg8.view.writes (Elt F) f8 (s k).1) ∗ pt c arg11 (at11 c arg11 arg12 arg15 arg16 f11 s k) ∗ pt c arg12 (at12 c arg11 arg12 arg15 arg16 f12 s k)
    ∗ pt c arg15 (at15 c arg11 arg12 arg15 arg16 f15 s k) ∗ pt c arg16 (at16 c arg11 arg12 arg15 arg16 f16 s k)
    ∗ (∃ f, pt c arg17 f) ∗ (∃ f, pt c arg18 f) ∗ (∃ f, pt c arg19 f) ∗ (∃ f, pt c arg20 f))

theorem invAt_eq (f8 : HB (F := F) c arg8) (f11 : HB (F := F) c arg11) (f12 : HB (F := F) c arg12) (f15 : HB (F := F) c arg15) (f16 : HB (F := F) c arg16)
    (s : ℕ → Acc (F := F) c arg11 arg12 arg15 arg16) (h0 : s 0 = ([], f11, f12, f15, f16)) (k : ℕ) :
    invAt c arg1 arg4 arg6 arg7 arg8 arg11 arg12 arg13 arg14 arg15 arg16 arg17 arg18 arg19 arg20 g1 g4 g6 g7 g13 g14 f8 f11 f12 f15 f16 s k
      = loopRes c arg1 arg4 arg6 arg7 arg8 arg11 arg12 arg13 arg14 arg15 arg16 arg17 arg18 arg19 arg20 g1 g4 g6 g7 g13 g14 f8 (s k) := by
  cases k with
  | zero => unfold invAt loopRes; rw [h0]; rfl
  | succ n => rfl

set_option warn.classDefReducibility false in
/-- The loop's invariant. -/
@[sl_loop] def loopInv (f8 : HB (F := F) c arg8) (f11 : HB (F := F) c arg11) (f12 : HB (F := F) c arg12) (f15 : HB (F := F) c arg15) (f16 : HB (F := F) c arg16) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 where
  inv k _ := invAt c arg1 arg4 arg6 arg7 arg8 arg11 arg12 arg13 arg14 arg15 arg16 arg17 arg18 arg19 arg20 g1 g4 g6 g7 g13 g14 f8 f11 f12 f15 f16
    (st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 g1 g4 g6 g7 g13 g14 f11 f12 f15 f16) k
  step k _ := by
    rw [invAt_eq _ _ _ _ _ _ _ _ _ _ _ _ _ _ _ _ _ _ _ _ _ _ _ _ _ _ _ _ rfl, invAt_eq _ _ _ _ _ _ _ _ _ _ _ _ _ _ _ _ _ _ _ _ _ _ _ _ _ _ _ _ rfl, st_succ]
    iintro H
    iapply (wp_wand_r Idealize.ShloMosaic.frame (wpE (defs₀ (F := F)) 𝒱₀ (c : Thread nD τ) none) Set.univ)
    isplitl [H]
    · iapply (trip_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 g1 g4 g6 g7 g13 g14 f8 k _); iexact H
    · iintro %_ H'
      iexact H'
end Loop
end Cert.Proof.KernelIdeal
end
-- ==== Proof.Body.lean ====
module

public import proofs.«01_k».proof.Proof.Loop

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Body
attribute [local irreducible] trip
variable (c : Dev nD) (i : grid0.Coords) (arg1 : Memref sig .tc .vmem S2048x512 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S3x1024x384 .f32) (harg4 : arg4.IsWhole) (arg5 : Memref sig .tc .smem S8 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1024x384 .f32) (harg11 : arg11.IsWhole) (arg12 : Memref sig .tc .vmem S1024x128 .f32) (harg12 : arg12.IsWhole) (arg13 : Memref sig .tc .vmem S2304x128 .bf16) (harg13 : arg13.IsWhole) (arg14 : Memref sig .tc .vmem S2304x128 .bf16) (harg14 : arg14.IsWhole) (arg15 : Memref sig .tc .vmem S2304x128 .f32) (harg15 : arg15.IsWhole) (arg16 : Memref sig .tc .vmem S2304x128 .f32) (harg16 : arg16.IsWhole) (arg17 : Memref sig .tc .vmem S1024x384 .f32) (harg17 : arg17.IsWhole) (arg18 : Memref sig .tc .vmem S1024x384 .f32) (harg18 : arg18.IsWhole) (arg19 : Memref sig .tc .vmem S1024x384 .bf16) (harg19 : arg19.IsWhole) (arg20 : Memref sig .tc .vmem S1024x384 .bf16) (harg20 : arg20.IsWhole)

set_option maxHeartbeats 4000000 in
set_option backward.proofsInPublic true in
/-- The whole body on buffers held whole: the inputs come back as they were, the outputs hold what the run finds. -/
def bodyRun (g1 : HB (F := F) c arg1) (g2 : HB (F := F) c arg2) (g3 : HB (F := F) c arg3) (g4 : HB (F := F) c arg4) (g5 : HB (F := F) c arg5) (g6 : HB (F := F) c arg6) (g7 : HB (F := F) c arg7) :
    Σ' (L8 : List (View.Piece (Elt F) S2048x512 .f32)) (L9 : List (View.Piece (Elt F) S2048x128 .f32)) (L10 : List (View.Piece (Elt F) S2048x128 .f32))
       (f11 : HB (F := F) c arg11), { f12 : HB (F := F) c arg12 //
      ∀ (K : PUnit → sProp 𝕄),
      iprop(pt c arg1 g1 ∗ pt c arg2 g2 ∗ pt c arg3 g3 ∗ pt c arg4 g4 ∗ pt c arg5 g5 ∗ pt c arg6 g6 ∗ pt c arg7 g7
        ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)
        ∗ (iprop(pt c arg1 g1 ∗ pt c arg2 g2 ∗ pt c arg3 g3 ∗ pt c arg4 g4 ∗ pt c arg5 g5 ∗ pt c arg6 g6 ∗ pt c arg7 g7
          ∗ (∃ f, pt c arg8 (arg8.view.writes (Elt F) f L8)) ∗ (∃ f, pt c arg9 (arg9.view.writes (Elt F) f L9)) ∗ (∃ f, pt c arg10 (arg10.view.writes (Elt F) f L10))
          ∗ pt c arg11 f11 ∗ pt c arg12 f12
          ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)) -∗ K ⟨⟩))
      ⊢ wp frame (wpE (defs₀ (F := F)) 𝒱₀ (c : Thread nD τ) none) Set.univ (cc0_sw_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun K => ?run⟩
  case run =>
    simp only [cc0_sw_bwd_eq_skeleton]; unfold cc0_sw_bwd_skel
    iintro ⟨H1, H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20
end Body
end Cert.Proof.KernelIdeal
end
-- ==== Proof.Cover.lean ====
module

public import proofs.«01_k».proof.Proof.Loop

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Cover
variable (c : Dev nD) (i : grid0.Coords) (arg1 : Memref sig .tc .vmem S2048x512 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S3x1024x384 .f32) (harg4 : arg4.IsWhole) (arg5 : Memref sig .tc .smem S8 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1024x384 .f32) (harg11 : arg11.IsWhole) (arg12 : Memref sig .tc .vmem S1024x128 .f32) (harg12 : arg12.IsWhole) (arg13 : Memref sig .tc .vmem S2304x128 .bf16) (harg13 : arg13.IsWhole) (arg14 : Memref sig .tc .vmem S2304x128 .bf16) (harg14 : arg14.IsWhole) (arg15 : Memref sig .tc .vmem S2304x128 .f32) (harg15 : arg15.IsWhole) (arg16 : Memref sig .tc .vmem S2304x128 .f32) (harg16 : arg16.IsWhole) (arg17 : Memref sig .tc .vmem S1024x384 .f32) (harg17 : arg17.IsWhole) (arg18 : Memref sig .tc .vmem S1024x384 .f32) (harg18 : arg18.IsWhole) (arg19 : Memref sig .tc .vmem S1024x384 .bf16) (harg19 : arg19.IsWhole) (arg20 : Memref sig .tc .vmem S1024x384 .bf16) (harg20 : arg20.IsWhole) (v24 : FVec F S128x1 .f32) (v26 : FVec F S128x1 .f32) (v28 : FVec F S128x1 .f32) (v30 : FVec F S128x1 .f32) (v31 : Elt F .f32) (v33 : Elt F .f32) (v35 : Elt F .f32) (v37 : Elt F .f32)
  (g1 : HB (F := F) c arg1) (g4 : HB (F := F) c arg4) (g6 : HB (F := F) c arg6) (g7 : HB (F := F) c arg7) (g13 : HB (F := F) c arg13) (g14 : HB (F := F) c arg14)

/-- Each trip writes, for each of the eight heads, the head's block of the rows of the trip. -/
theorem trip_tiles (f11 : HB (F := F) c arg11) (f12 : HB (F := F) c arg12) (f15 : HB (F := F) c arg15) (f16 : HB (F := F) c arg16) (k : Fin k0_t1_loop.trips) (b : Fin 8) :
    ∃ p ∈ (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 k g1 g4 g6 g7 g13 g14 f11 f12 f15 f16).1, p.1.off = ![128 * k.val, 64 * b.val] ∧ p.1.size = ![128, 64] ∧ p.1.stride = fun _ => 1 := by
  fin_cases b
  · exact ⟨_, .tail _ (.tail _ (.tail _ (.tail _ (.tail _ (.tail _ (.tail _ (.head _))))))), (k0_off1_eq k).trans rfl, rfl, rfl⟩
  · exact ⟨_, .tail _ (.tail _ (.tail _ (.tail _ (.tail _ (.tail _ (.head _)))))), (k0_off3_eq k).trans rfl, rfl, rfl⟩
  · exact ⟨_, .tail _ (.tail _ (.tail _ (.tail _ (.tail _ (.head _))))), (k0_off4_eq k).trans rfl, rfl, rfl⟩
  · exact ⟨_, .tail _ (.tail _ (.tail _ (.tail _ (.head _)))), (k0_off5_eq k).trans rfl, rfl, rfl⟩
  · exact ⟨_, .tail _ (.tail _ (.tail _ (.head _))), (k0_off6_eq k).trans rfl, rfl, rfl⟩
  · exact ⟨_, .tail _ (.tail _ (.head _)), (k0_off8_eq k).trans rfl, rfl, rfl⟩
  · exact ⟨_, .tail _ (.head _), (k0_off9_eq k).trans rfl, rfl, rfl⟩
  · exact ⟨_, .head _, (k0_off10_eq k).trans rfl, rfl, rfl⟩

attribute [local irreducible] trip

/-- The pieces written before trip `n` cover every row below `128 * n`. -/
theorem st_cover (f11 : HB (F := F) c arg11) (f12 : HB (F := F) c arg12) (f15 : HB (F := F) c arg15) (f16 : HB (F := F) c arg16) (n : ℕ) (hn : n ≤ k0_t1_loop.trips) (j : S2048x512.Idx) (hj : (j 0).val < 128 * n) :
    ∃ p ∈ (st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 g1 g4 g6 g7 g13 g14 f11 f12 f15 f16 n).1, j ∈ p.1.set := by
  induction n with
  | zero => omega
  | succ n ih =>
    rw [st_succ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 g1 g4 g6 g7 g13 g14 f11 f12 f15 f16 ⟨n, hn⟩]
    by_cases h : (j 0).val < 128 * n
    · obtain ⟨p, hp, hjp⟩ := ih (by omega) h
      exact ⟨p, List.mem_append_right _ hp, hjp⟩
    · have h1 : (j 1).val < 512 := (j 1).isLt
      obtain ⟨p, hp, ho, hs, ht⟩ := trip_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 g1 g4 g6 g7 g13 g14
        (st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 g1 g4 g6 g7 g13 g14 f11 f12 f15 f16 n).2.1 (st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 g1 g4 g6 g7 g13 g14 f11 f12 f15 f16 n).2.2.1 (st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 g1 g4 g6 g7 g13 g14 f11 f12 f15 f16 n).2.2.2.1 (st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 v26 v28 v30 v31 v33 v35 v37 g1 g4 g6 g7 g13 g14 f11 f12 f15 f16 n).2.2.2.2 ⟨n, hn⟩ ⟨(j 1).val / 64, by omega⟩
      refine ⟨p, List.mem_append_left _ hp, p.1.mem_set.mpr fun a => ?_⟩
      rw [ho, hs, ht]
      fin_cases a
      · exact ⟨(j 0).val - 128 * n, by show _ < 128; omega, by show (j 0).val = 128 * n + 1 * _; omega⟩
      · exact ⟨(j 1).val % 64, by show _ < 64; omega, by show (j 1).val = 64 * ((j 1).val / 64) + 1 * _; omega⟩

end Cover
end Cert.Proof.KernelIdeal
end
-- ==== Proof.Launch.lean ====
module

public import proofs.«01_k».proof.Proof.Body
public import proofs.«01_k».proof.Proof.Cover
public import Idealize.ShloMosaic.Lib.Pipeline.FrameSuffix

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Cover
variable (c : Dev nD) (i : grid0.Coords) (arg1 : Memref sig .tc .vmem S2048x512 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S3x1024x384 .f32) (harg4 : arg4.IsWhole) (arg5 : Memref sig .tc .smem S8 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1024x384 .f32) (harg11 : arg11.IsWhole) (arg12 : Memref sig .tc .vmem S1024x128 .f32) (harg12 : arg12.IsWhole) (arg13 : Memref sig .tc .vmem S2304x128 .bf16) (harg13 : arg13.IsWhole) (arg14 : Memref sig .tc .vmem S2304x128 .bf16) (harg14 : arg14.IsWhole) (arg15 : Memref sig .tc .vmem S2304x128 .f32) (harg15 : arg15.IsWhole) (arg16 : Memref sig .tc .vmem S2304x128 .f32) (harg16 : arg16.IsWhole) (arg17 : Memref sig .tc .vmem S1024x384 .f32) (harg17 : arg17.IsWhole) (arg18 : Memref sig .tc .vmem S1024x384 .f32) (harg18 : arg18.IsWhole) (arg19 : Memref sig .tc .vmem S1024x384 .bf16) (harg19 : arg19.IsWhole) (arg20 : Memref sig .tc .vmem S1024x384 .bf16) (harg20 : arg20.IsWhole)

theorem body_cover8 (g1 : HB (F := F) c arg1) (g2 : HB (F := F) c arg2) (g3 : HB (F := F) c arg3) (g4 : HB (F := F) c arg4) (g5 : HB (F := F) c arg5) (g6 : HB (F := F) c arg6) (g7 : HB (F := F) c arg7) (j : S2048x512.Idx) : ∃ p ∈ (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 g1 g2 g3 g4 g5 g6 g7).1, j ∈ p.1.set :=
  st_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ _ _ _ k0_t1_loop.trips le_rfl j
    (by have h := (j 0).isLt; have e : k0_t1_loop.trips = 16 := rfl; have e' : S2048x512.size 0 = 2048 := rfl; omega)
theorem body_cover9 (g1 : HB (F := F) c arg1) (g2 : HB (F := F) c arg2) (g3 : HB (F := F) c arg3) (g4 : HB (F := F) c arg4) (g5 : HB (F := F) c arg5) (g6 : HB (F := F) c arg6) (g7 : HB (F := F) c arg7) (j : S2048x128.Idx) : ∃ p ∈ (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 g1 g2 g3 g4 g5 g6 g7).2.1, j ∈ p.1.set :=
  View.cover_of_tiledL (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 g1 g2 g3 g4 g5 g6 g7).2.1 S2048x128.size (by sl_kernel_rfl) j
theorem body_cover10 (g1 : HB (F := F) c arg1) (g2 : HB (F := F) c arg2) (g3 : HB (F := F) c arg3) (g4 : HB (F := F) c arg4) (g5 : HB (F := F) c arg5) (g6 : HB (F := F) c arg6) (g7 : HB (F := F) c arg7) (j : S2048x128.Idx) : ∃ p ∈ (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 g1 g2 g3 g4 g5 g6 g7).2.2.1, j ∈ p.1.set :=
  View.cover_of_tiledL (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 g1 g2 g3 g4 g5 g6 g7).2.2.1 S2048x128.size (by sl_kernel_rfl) j
end Cover

open Idealize.ShloMosaic.Pipeline

section Launch
attribute [local irreducible] bodyRun
variable (m : (ℓ : Loc nD τ sig) → Buf (Elt F) ℓ) (ρ : Dev nD → PrngReg)

/-- The body's run at the one grid point, on the windows' staging buffers. -/
abbrev runAt (c : Dev nD) (t : Fin cfg0.N) :=
  bodyRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t))

/-- What the body leaves in the five results' staging buffers. -/
def out7 (c : Dev nD) (t : Fin cfg0.N) : Vec F S2048x512 .f32 := View.canon (runAt m c t).1
def out8 (c : Dev nD) (t : Fin cfg0.N) : Vec F S2048x128 .f32 := View.canon (runAt m c t).2.1
def out9 (c : Dev nD) (t : Fin cfg0.N) : Vec F S2048x128 .f32 := View.canon (runAt m c t).2.2.1
def out10 (c : Dev nD) (t : Fin cfg0.N) : Vec F S1024x384 .f32 := (st0_10 t).view.read (Elt F) (runAt m c t).2.2.2.1
def out11 (c : Dev nD) (t : Fin cfg0.N) : Vec F S1024x128 .f32 := (st0_11 t).view.read (Elt F) (runAt m c t).2.2.2.2.1

/-- The proof data of the one pipeline. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
    | ⟨9, _⟩ => out9 m c t
    | ⟨10, _⟩ => out10 m c t
    | ⟨11, _⟩ => out11 m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out7 m c t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]
theorem after0_10 (c : Dev nD) (t : Fin cfg0.N) : (dats m 0 c).after 10 t = out10 m c t := by dsimp only [dats]
theorem after0_11 (c : Dev nD) (t : Fin cfg0.N) : (dats m 0 c).after 11 t = out11 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t))

/-- A whole memref owned at `x` holds the one contents that read `x`. -/
theorem owns_to_pt (c : Dev nD) {sp : Space} {sh : Shape} {e : EltTy} (M : Memref sig .tc sp sh e) (h : M.IsWhole) (x : sh.Idx → Elt F e) :
    (owns (c : Thread nD τ) M fullShare x : sProp 𝕄) ⊢ pt c M (h.unread x) := by
  unfold owns pt
  iintro ⟨%f, %hf, H⟩
  obtain rfl := h.eq_unread hf
  iexact H
theorem pt_to_owns (c : Dev nD) {sp : Space} {sh : Shape} {e : EltTy} (M : Memref sig .tc sp sh e) (x : sh.Idx → Elt F e) (f : HB (F := F) c M)
    (h : M.view.read (Elt F) f = x) : pt c M f ⊢ (owns (c : Thread nD τ) M fullShare x : sProp 𝕄) := by
  unfold owns pt
  iintro H
  iexists f
  isplitr
  · ipureintro; exact h
  iexact H
theorem owns_to_some (c : Dev nD) {sp : Space} {sh : Shape} {e : EltTy} (M : Memref sig .tc sp sh e) (x : sh.Idx → Elt F e) :
    (owns (c : Thread nD τ) M fullShare x : sProp 𝕄) ⊢ iprop(∃ f, pt (F := F) c M f) := by
  unfold owns pt
  iintro ⟨%f, -, H⟩
  iexists f
  iexact H
theorem whole_pt (c : Dev nD) (b : Ref sig .tc) :
    (iprop(∃ f : Buf (Elt F) ((c : Thread nD τ).loc b), ((c : Thread nD τ).loc b) ↦{fullShare} f) : sProp 𝕄) = iprop(∃ f, pt (F := F) c (Memref.whole b) f) := by
  unfold pt
  simp only [View.set_whole]

set_option maxHeartbeats 2000000 in
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl]
  rw [after0_0, after0_1, after0_2, after0_3, after0_4, after0_5, after0_6, after0_7, after0_8, after0_9, after0_10, after0_11]
  simp only [before0_0, before0_1, before0_2, before0_3, before0_4, before0_5, before0_6]
  unfold Pipeline.ΦA
  rw [scopedRest0_eq, whole_pt c cc0_scratch0, whole_pt c cc0_scratch1, whole_pt c cc0_scratch2, whole_pt c cc0_scratch3, whole_pt c cc0_scratch4, whole_pt c cc0_scratch5, whole_pt c cc0_scratch6, whole_pt c cc0_scratch7]
  unfold Dat.owesAt Pipeline.owesWithin
  rw [show (dats m 0 c).owed t.castSucc = 0 from rfl, show (dats m 0 c).owed t.succ = 0 from rfl]
  iintro ⟨⟨⟨S0, S1, S2, S3, S4, S5, S6, S7⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runAt m c t).2.2.2.2.2 _)
  isplitl [H0]; · iapply (owns_to_pt c (st0_0 t) _ _); iexact H0
  isplitl [H1]; · iapply (owns_to_pt c (st0_1 t) _ _); iexact H1
  isplitl [H2]; · iapply (owns_to_pt c (st0_2 t) _ _); iexact H2
  isplitl [H3]; · iapply (owns_to_pt c (st0_3 t) _ _); iexact H3
  isplitl [H4]; · iapply (owns_to_pt c (st0_4 t) _ _); iexact H4
  isplitl [H5]; · iapply (owns_to_pt c (st0_5 t) _ _); iexact H5
  isplitl [H6]; · iapply (owns_to_pt c (st0_6 t) _ _); iexact H6
  isplitl [H7]; · iapply (owns_to_some c (st0_7 t) _); iexact H7
  isplitl [H8]; · iapply (owns_to_some c (st0_8 t) _); iexact H8
  isplitl [H9]; · iapply (owns_to_some c (st0_9 t) _); iexact H9
  isplitl [H10]; · iapply (owns_to_some c (st0_10 t) _); iexact H10
  isplitl [H11]; · iapply (owns_to_some c (st0_11 t) _); iexact H11
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, ⟨%f7, H7⟩, ⟨%f8, H8⟩, ⟨%f9, H9⟩, H10, H11, S0, S1, S2, S3, S4, S5, S6, S7⟩
  isplitl [S0 S1 S2 S3 S4 S5 S6 S7 Hg]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [HW]
  · iexists W; isplitr; · ipureintro; exact fun _ _ => Or.inl trivial
    iexact HW
  isplitl [H0]; · iapply (pt_to_owns c (st0_0 t) _ _ (Memref.IsWhole.read_unread _ _)); iexact H0
  isplitl [H1]; · iapply (pt_to_owns c (st0_1 t) _ _ (Memref.IsWhole.read_unread _ _)); iexact H1
  isplitl [H2]; · iapply (pt_to_owns c (st0_2 t) _ _ (Memref.IsWhole.read_unread _ _)); iexact H2
  isplitl [H3]; · iapply (pt_to_owns c (st0_3 t) _ _ (Memref.IsWhole.read_unread _ _)); iexact H3
  isplitl [H4]; · iapply (pt_to_owns c (st0_4 t) _ _ (Memref.IsWhole.read_unread _ _)); iexact H4
  isplitl [H5]; · iapply (pt_to_owns c (st0_5 t) _ _ (Memref.IsWhole.read_unread _ _)); iexact H5
  isplitl [H6]; · iapply (pt_to_owns c (st0_6 t) _ _ (Memref.IsWhole.read_unread _ _)); iexact H6
  isplitl [H7]; · iapply (pt_to_owns c (st0_7 t) _ _ (View.read_writes_eq_canon _ _ _ (body_cover8 c _ _ _ _ _ _ _ _ _ _ _ _ _ _ _ _ _ _ _ _ _ _ _ _ _ _ _ _ _ _ _ _ _ _ _ _ _ _ _ _ _ _ _ _ _ _ _ _))); iexact H7
  isplitl [H8]; · iapply (pt_to_owns c (st0_8 t) _ _ (View.read_writes_eq_canon _ _ _ (body_cover9 c _ _ _ _ _ _ _ _ _ _ _ _ _ _ _ _ _ _ _ _ _ _ _ _ _ _ _ _ _ _ _ _ _ _ _ _ _ _ _ _ _ _ _ _ _ _ _ _))); iexact H8
  isplitl [H9]; · iapply (pt_to_owns c (st0_9 t) _ _ (View.read_writes_eq_canon _ _ _ (body_cover10 c _ _ _ _ _ _ _ _ _ _ _ _ _ _ _ _ _ _ _ _ _ _ _ _ _ _ _ _ _ _ _ _ _ _ _ _ _ _ _ _ _ _ _ _ _ _ _ _))); iexact H9
  isplitl [H10]; · iapply (pt_to_owns c (st0_10 t) _ _ rfl); iexact H10
  iapply (pt_to_owns c (st0_11 t) _ _ rfl); iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The program's run: the results as the proof data names them after the host's last lines, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- The program ends with its arguments unchanged and every semaphore counter at zero. -/
theorem frame_main : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).1 4).trans (((dats m 0 c).arrAt_in 4 rfl _).trans ((A_eq m c 4).trans (V_main_arg4 m c))),
      ((h.1 c).2 main_arg5 (Pipeline.mem_restRefs_of main_arg5 (by decide) (by decide))).trans (W_main_arg5 m (dats m) c)⟩, h.2⟩) (run_main m ρ)
end Launch
end Cert.Proof.KernelIdeal
end
-- ==== Proof.Same.lean ====
/- The kernel's program over machine words and the one over ideal values have the same text. Here the two texts are
   shown to denote the same program once both are read over words, part by part, so that the one run serves both. -/
module

public import Idealize.ShloMosaic.PureOps.BitExact
public import proofs.«01_k».proof.Proof.Gen.Kernel
public import proofs.«01_k».proof.Proof.Gen.KernelIdeal

@[expose] public section

noncomputable section

namespace Cert.Proof.Same

open Idealize.ShloMosaic Idealize.SL.Sem

local instance : Cert.Kernel.Facts := Cert.Kernel.Gen.facts
local instance : Cert.KernelIdeal.Facts := Cert.KernelIdeal.Gen.facts

/-- The kernel's body, at its one label. -/
theorem defs0_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

theorem defs_eq : Cert.Kernel.defs (F := Bits) = Cert.KernelIdeal.defs (F := Bits) := by
  unfold Cert.Kernel.defs Cert.KernelIdeal.defs
  rw [defs0_eq]
  rfl

-- each part is sixty host lines compared one by one
set_option maxHeartbeats 0 in
theorem part0_eq : Cert.Kernel.main_part0 (F := Bits) = Cert.KernelIdeal.main_part0 (F := Bits) := by
  unfold Cert.Kernel.main_part0 Cert.KernelIdeal.main_part0; rfl

set_option maxHeartbeats 0 in
theorem part1_eq : Cert.Kernel.main_part1 (F := Bits) = Cert.KernelIdeal.main_part1 (F := Bits) := by
  unfold Cert.Kernel.main_part1 Cert.KernelIdeal.main_part1; rfl

set_option maxHeartbeats 0 in
theorem part2_eq : Cert.Kernel.main_part2 (F := Bits) = Cert.KernelIdeal.main_part2 (F := Bits) := by
  unfold Cert.Kernel.main_part2 Cert.KernelIdeal.main_part2; rfl

/-- The whole host function. -/
theorem main_eq : Cert.Kernel.main (F := Bits) = Cert.KernelIdeal.main (F := Bits) := by
  unfold Cert.Kernel.main Cert.KernelIdeal.main
  rw [part0_eq, part1_eq, part2_eq]
  rfl

end Cert.Proof.Same

end
-- ==== Proof.Half.lean ====
/- The constant one half, over the ideal numbers, distributes over every finite sum. -/
module

public import Idealize.ShloMosaic.PureOps.Ideal
public import Idealize.ShloMosaic.Lib.IdealHost

@[expose] public section

namespace Cert.Proof.Half

open Idealize.ShloMosaic

/-- The word of one half is worth one half. -/
theorem ofBits_half : Ideal.ofBits .f32 0x3F000000#32 = ((1 / 2 : ℝ) : EReal) := by
  simp [Ideal.ofBits, Ideal.ieee, -EReal.coe_mul]; norm_num

/-- A positive real multiplies a finite sum term by term, infinite terms included. -/
theorem coe_mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

theorem half_mul_sum {ι : Type*} [Fintype ι] (f : ι → EReal) :
    Ideal.ofBits .f32 0x3F000000#32 * ∑ i, f i = ∑ i, Ideal.ofBits .f32 0x3F000000#32 * f i := by
  rw [ofBits_half]; exact coe_mul_sum _ _ (by norm_num) f

/-- A factor taken from the product to its second term. -/
theorem half_swap (h a c : EReal) : h * (a * c) = h * c * a := by
  rw [mul_comm a c, mul_assoc]

end Cert.Proof.Half
-- ==== Proof.Finite.lean ====
/- Arithmetic on extended reals that are real numbers: sums and products of real numbers are real, and the two identities
   between a hand-written gradient and the chain rule's that need it, the gated activation's and the root-mean-square
   norm's. -/
module

public import proofs.«01_k».proof.Proof.Half
public import Idealize.ShloMosaic.Lib.ReduceAll
public import Idealize.ShloMosaic.Lib.Pipeline.ValueKit

@[expose] public section

noncomputable section

open Idealize.ShloMosaic

namespace Cert.Proof.Finite

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem coe_sum {n : ℕ} (f : Fin n → ℝ) : ((∑ i, f i : ℝ) : EReal) = ∑ i, (f i : EReal) :=
  map_sum (⟨⟨(fun r : ℝ => (r : EReal)), EReal.coe_zero⟩, EReal.coe_add⟩ : ℝ →+ EReal) f Finset.univ

theorem IsReal.sum {n : ℕ} {f : Fin n → EReal} (hf : ∀ i, IsReal (f i)) : IsReal (∑ i, f i) := by
  choose g hg using hf
  exact ⟨∑ i, g i, by rw [coe_sum]; exact Finset.sum_congr rfl fun i _ => hg i⟩

theorem IsReal.half : IsReal (Ideal.ofBits .f32 0x3F000000#32) := ⟨_, Half.ofBits_half⟩

/-- A number whose absolute value is below infinity is real. -/
theorem isReal_of_abs {x : EReal} (h : max x (-x) < ⊤) : IsReal x := by
  induction x with
  | bot => simp at h
  | coe r => exact ⟨r, rfl⟩
  | top => simp at h

theorem ofBits_inf : Ideal.ofBits .f32 0x7F800000#32 = ⊤ := by simp [Ideal.ofBits, Ideal.ieee]

/-- An array whose every absolute value compares below infinity holds real numbers. -/
theorem isReal_of_all {s t u : Shape} {axes : List (Fin s.rank)} [Subsingleton t.Idx] (x B : FVec Ideal s .f32)
    (hB : ∀ i, B i = (⊤ : EReal)) (init : u.Idx → BitVec 1) (h : s.ReducesTo axes t) (hu : 0 < u.numel) (j : t.Idx)
    (e : Host.reduce IntOp.andi (cmpf .olt (Host.absf x) B) init h hu j = 1#1) (i : s.Idx) : IsReal (x i) := by
  have h1 := Host.reduce_andi_all _ init h hu j e i
  have h2 : Ideal.cmp .olt (max (x i : EReal) (-(x i : EReal))) (B i) = 1#1 := h1
  rw [hB i] at h2
  refine isReal_of_abs ?_
  by_contra hn
  simp [Ideal.cmp, hn] at h2

/-- The gated activation's gradient: one product with the saved derivative is the chain rule's sum of two. -/
theorem gate_grad {d g u : EReal} (hd : IsReal d) (hg : IsReal g) (hu : IsReal u) :
    d * (u * (Ideal.div 1 (1 + Ideal.exp (-g)) + g * Ideal.div 1 (1 + Ideal.exp (-g)) * (1 - Ideal.div 1 (1 + Ideal.exp (-g)))))
      = d * u * Ideal.div 1 (1 + Ideal.exp (-g))
        + g * (d * u) * (Ideal.div 1 (1 + Ideal.exp (-g)) * (1 - Ideal.div 1 (1 + Ideal.exp (-g)))) := by
  obtain ⟨d, rfl⟩ := hd
  obtain ⟨g, rfl⟩ := hg
  obtain ⟨u, rfl⟩ := hu
  have h : Ideal.div 1 (1 + Ideal.exp (-(g : EReal))) = (((1 + Real.exp (-g))⁻¹ : ℝ) : EReal) := Ideal.logistic_coe g
  rw [h]
  generalize (1 + Real.exp (-g))⁻¹ = s
  rw [← EReal.coe_one]
  simp only [← EReal.coe_mul, ← EReal.coe_add, ← EReal.coe_sub]
  congr 1
  ring

/-- The number that the word 0x44800000 denotes. -/
theorem ofBits_1024 : Ideal.ofBits .f32 0x44800000#32 = ((1024 : ℝ) : EReal) := by
  simp [Ideal.ofBits, Ideal.ieee]
  rw [← EReal.coe_mul]
  norm_num

/-- The word 0xBF000000 denotes minus a half. -/
theorem ofBits_neg_half : Ideal.ofBits .f32 0xBF000000#32 = ((-(1 / 2) : ℝ) : EReal) := by
  simp [Ideal.ofBits, Ideal.ieee]
  rw [← EReal.coe_mul]
  norm_num

/-- The small number added to the mean square is positive. -/
theorem ofBits_eps : ∃ e : ℝ, 0 < e ∧ Ideal.ofBits .f32 0x358637BD#32 = (e : EReal) := by
  refine ⟨_, ?_, by simp [Ideal.ofBits, Ideal.ieee]; rfl⟩
  norm_num

/-- The norm's gradient: the kernel's form, with the normalised rows, is the chain rule's through the mean square. -/
theorem norm_grad {n : ℕ} (x d : Fin n → EReal) (hx : ∀ k, IsReal (x k)) (hd : ∀ k, IsReal (d k)) (j : Fin n) (v : EReal)
    (hv : v = Ideal.div (∑ k, x k * x k) (Ideal.ofBits .f32 0x44800000#32) + Ideal.ofBits .f32 0x358637BD#32) :
    Ideal.rsqrt v * (d j - x j * Ideal.rsqrt v * Ideal.div (∑ k, d k * (x k * Ideal.rsqrt v)) (Ideal.ofBits .f32 0x44800000#32))
      = d j * Ideal.rsqrt v
        + x j * Ideal.div ((∑ k, x k * d k) * (Ideal.ofBits .f32 0xBF000000#32 * Ideal.div (Ideal.rsqrt v) v))
            (Ideal.ofBits .f32 0x44800000#32)
        + Ideal.div ((∑ k, x k * d k) * (Ideal.ofBits .f32 0xBF000000#32 * Ideal.div (Ideal.rsqrt v) v))
            (Ideal.ofBits .f32 0x44800000#32) * x j := by
  choose x' hx using hx
  choose d' hd using hd
  obtain ⟨e, he, hE⟩ := ofBits_eps
  simp only [hx, hd, hE, ofBits_1024, ofBits_neg_half, ← EReal.coe_mul, ← coe_sum] at hv ⊢
  have hp : 0 < (∑ k, x' k * x' k) * (1 / 1024) + e :=
    add_pos_of_nonneg_of_pos (mul_nonneg (Finset.sum_nonneg fun k _ => mul_self_nonneg _) (by norm_num)) he
  rw [Ideal.div_coe (by norm_num), ← EReal.coe_mul, ← EReal.coe_add] at hv
  generalize (∑ k, x' k * x' k) * (1 / 1024) + e = w at hv hp
  subst hv
  have hr : Ideal.rsqrt (w : EReal) = (((Real.sqrt w)⁻¹ : ℝ) : EReal) := by
    rw [Ideal.rsqrt_coe, if_neg hp.le.not_gt, if_neg hp.ne']
  have hs : (Real.sqrt w)⁻¹ * (Real.sqrt w)⁻¹ = 1 / w := by
    rw [← mul_inv, Real.mul_self_sqrt hp.le, one_div]
  rw [hr]
  generalize (Real.sqrt w)⁻¹ = r at hs
  simp only [Ideal.div_coe hp.ne', Ideal.div_coe (show (1024 : ℝ) ≠ 0 by norm_num), ← EReal.coe_mul, ← coe_sum,
    ← EReal.coe_add, ← EReal.coe_sub]
  congr 1
  have hd : ∑ k, d' k * (x' k * r) = r * ∑ k, x' k * d' k := by
    rw [Finset.mul_sum]
    exact Finset.sum_congr rfl fun k _ => by ring
  rw [hd, ← hs]
  ring

end Cert.Proof.Finite

end
-- ==== Proof.Act.lean ====
/- The gradients of the feed-forward block's two pre-activations: each of the kernel's eleven column tiles is a product of the
   halved cotangent with the down weight, times a saved value; against the reference's, read at one element. -/
module

public import proofs.«01_k».proof.Proof.Gen.KernelActIdeal.Value
public import proofs.«01_k».proof.Proof.Gen.ReferenceActIdeal
public import proofs.«01_k».proof.Proof.Finite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelActIdeal.Tile

open Cert.KernelActIdeal Cert.KernelActIdeal.Gen Cert.Proof.Finite

variable (m : (ℓ : Loc nD τ sig) → Buf (Elt Ideal) ℓ)

/-- The gradient of the activation: the reference's product of the halved cotangent `C` with the down weight, the third of `W`. -/
abbrev dact (W : FVec Ideal Cert.ReferenceActIdeal.S3x2816x1024 .f32) (C : FVec Ideal Cert.ReferenceActIdeal.S1x2048x1024 .f32) :
    FVec Ideal Cert.ReferenceActIdeal.S2048x2816 .f32 :=
  Host.dotGeneral Cert.ReferenceActIdeal.dot_S2048x1024_S2816x1024_S2048x2816_1_1_0_0_n_n none
    (Host.reduceAdd (mulf (broadcastInDim Cert.ReferenceActIdeal.S1x2048x1024 ![] Cert.ReferenceActIdeal.Gen.bcast_S_S1x2048x1024
      (constant Cert.ReferenceActIdeal.S_ .f32 0x3F000000#32)) C) (constant Cert.ReferenceActIdeal.S_ .f32 0x00000000#32)
      Cert.ReferenceActIdeal.Gen.reducesTo_S1x2048x1024_S2048x1024_d0 Cert.ReferenceActIdeal.Gen.h_S_)
    (shapeCast _ (extractStridedSlice Cert.ReferenceActIdeal.S1x2816x1024 ![2, 0, 0] W
      Cert.ReferenceActIdeal.Gen.slices_S3x2816x1024_S1x2816x1024_2_0_0) Cert.ReferenceActIdeal.Gen.shapeCasts_S1x2816x1024_S2816x1024)

/-- The logistic of the gate's pre-activation. -/
abbrev gate (G : FVec Ideal Cert.ReferenceActIdeal.S2048x2816 .f32) : FVec Ideal Cert.ReferenceActIdeal.S2048x2816 .f32 :=
  Host.divf (broadcastInDim Cert.ReferenceActIdeal.S2048x2816 ![] Cert.ReferenceActIdeal.Gen.bcast_S_S2048x2816
    (constant Cert.ReferenceActIdeal.S_ .f32 0x3F800000#32))
    (addf (broadcastInDim Cert.ReferenceActIdeal.S2048x2816 ![] Cert.ReferenceActIdeal.Gen.bcast_S_S2048x2816
      (constant Cert.ReferenceActIdeal.S_ .f32 0x3F800000#32)) (Host.exp (Host.negf G)))

/-- The gradient of the gate's pre-activation, as the reference computes it. -/
abbrev gradGate (G U : FVec Ideal Cert.ReferenceActIdeal.S2048x2816 .f32) (W : FVec Ideal Cert.ReferenceActIdeal.S3x2816x1024 .f32)
    (C : FVec Ideal Cert.ReferenceActIdeal.S1x2048x1024 .f32) : FVec Ideal Cert.ReferenceActIdeal.S2048x2816 .bf16 :=
  truncf .bf16 (addf (mulf (mulf (dact W C) U) (gate G)) (mulf (mulf G (mulf (dact W C) U)) (mulf (gate G)
    (subf (broadcastInDim Cert.ReferenceActIdeal.S2048x2816 ![] Cert.ReferenceActIdeal.Gen.bcast_S_S2048x2816
      (constant Cert.ReferenceActIdeal.S_ .f32 0x3F800000#32)) (gate G))))) Cert.ReferenceActIdeal.Gen.bitsLt_bf16_f32

/-- The gradient of the other pre-activation, as the reference computes it. -/
abbrev gradUp (G : FVec Ideal Cert.ReferenceActIdeal.S2048x2816 .f32) (W : FVec Ideal Cert.ReferenceActIdeal.S3x2816x1024 .f32)
    (C : FVec Ideal Cert.ReferenceActIdeal.S1x2048x1024 .f32) : FVec Ideal Cert.ReferenceActIdeal.S2048x2816 .bf16 :=
  truncf .bf16 (mulf (mulf G (gate G)) (dact W C)) Cert.ReferenceActIdeal.Gen.bitsLt_bf16_f32

/-- Where each window's block sits at grid point `t`. -/
theorem idx : ∀ t : Fin cfg0.N, win0_0.index t = ![t.val, 0] ∧ win0_1.index t = ![2, 0, 0] ∧ win0_2.index t = ![t.val, 0]
    ∧ win0_3.index t = ![t.val, 0] ∧ win0_5.index t = ![t.val, 0] ∧ win0_6.index t = ![t.val, 0] :=
  (by decide +kernel : ∀ t : Fin grid0.N, _)

/-- The cotangent's rows, as the kernel is given them. -/
theorem V13 (c : Dev nD) (i : S2048x1024.Idx) :
    V m c main_v13 i = m ((c : Thread nD τ).loc main_arg3) (ix3 0 (i 0) (i 1)) := by
  entry_read
  pointwise

/-- The gated value, and its derivative in the gate. -/
abbrev silu (g : EReal) : EReal := g * Ideal.div 1 (1 + Ideal.exp (-g))
abbrev dgate (g u : EReal) : EReal := u * (Ideal.div 1 (1 + Ideal.exp (-g)) + silu g * (1 - Ideal.div 1 (1 + Ideal.exp (-g))))

/-- The saved derivative of the activation in the gate. -/
theorem V12 (c : Dev nD) (i : S2048x2816.Idx) : V m c main_v12 i
    = dgate (m ((c : Thread nD τ).loc main_arg0) i) (m ((c : Thread nD τ).loc main_arg1) i) := by
  entry_read
  pointwise

/-- The saved derivative of the activation in the other factor. -/
theorem V15 (c : Dev nD) (i : S2048x2816.Idx) : V m c main_v15 i = silu (m ((c : Thread nD τ).loc main_arg0) i) := by
  entry_read
  pointwise

/-- A row block of a result: the product of the halved rows `x0` with the weight `x1`, times the saved value `x`. -/
def tile (x0 : Vec Ideal S512x1024 .f32) (x1 : Vec Ideal S1x2816x1024 .bf16) (x : Vec Ideal S512x2816 .bf16) :
    Vec Ideal S512x2816 .bf16 := fun y =>
  (∑ k : Fin 1024, (Ideal.ofBits .f32 0x3F000000#32 * x0 (ix2 (y 0) k)) * x1 (ix3 0 (y 1) k)) * x (ix2 (y 0) (y 1))

theorem tile5 (x0 : Vec Ideal S512x1024 .f32) (x1 : Vec Ideal S1x2816x1024 .bf16) (x2 x3 : Vec Ideal S512x2816 .bf16) (y) :
    out0_5 x0 x1 x2 x3 y = tile x0 x1 x2 y := by
  canon_tiles x h
  all_goals (open_payloads; pointwise [tile]; blk_point [])

theorem tile6 (x0 : Vec Ideal S512x1024 .f32) (x1 : Vec Ideal S1x2816x1024 .bf16) (x2 x3 : Vec Ideal S512x2816 .bf16) (y) :
    out0_6 x0 x1 x2 x3 y = tile x0 x1 x3 y := by
  canon_tiles x h
  all_goals (open_payloads; pointwise [tile]; blk_point [])

theorem point6 (c : Dev nD) (t : Fin cfg0.N) (y) : tile (iblk m c 0 t) (iblk m c 1 t) (iblk m c 3 t) y
    = gradUp (m ((c : Thread nD τ).loc main_arg0)) (m ((c : Thread nD τ).loc main_arg2)) (m ((c : Thread nD τ).loc main_arg3))
      (((cfg0.win 6).blk t).view.emb y) := by
  pointwise [tile, gradUp]
  refine Eq.trans ?_ (mul_comm (G := EReal) _ _)
  blk_point [iblk, V, idx t]
  · rw [V13, Fin.sum_univ_one]; blk_point [idx t]
  · rw [V15]; exact congrArg (fun x : EReal => _ * silu x) (by blk_ext [idx t])

theorem final6 (c : Dev nD) : (dats m 0 c).arrAt 6 cfg0.N
    = gradUp (m ((c : Thread nD τ).loc main_arg0)) (m ((c : Thread nD τ).loc main_arg2)) (m ((c : Thread nD τ).loc main_arg3)) := by
  refine (dats m 0 c).arrAt_eq_of_covers 6 _ (by decide +kernel) fun t _ y => ?_
  blk_simp
  rw [after0_6, tile6]
  exact point6 m c t y

theorem point5 (c : Dev nD) (h0 : ∀ i, IsReal (m ((c : Thread nD τ).loc main_arg0) i))
    (h1 : ∀ i, IsReal (m ((c : Thread nD τ).loc main_arg1) i)) (h2 : ∀ i, IsReal (m ((c : Thread nD τ).loc main_arg2) i))
    (h3 : ∀ i, IsReal (m ((c : Thread nD τ).loc main_arg3) i)) (t : Fin cfg0.N) (y) :
    tile (iblk m c 0 t) (iblk m c 1 t) (iblk m c 2 t) y
    = gradGate (m ((c : Thread nD τ).loc main_arg0)) (m ((c : Thread nD τ).loc main_arg1)) (m ((c : Thread nD τ).loc main_arg2))
      (m ((c : Thread nD τ).loc main_arg3)) (((cfg0.win 5).blk t).view.emb y) := by
  pointwise [tile, gradGate]
  refine Eq.trans ?_ (gate_grad (IsReal.sum fun k => (IsReal.sum fun _ => IsReal.half.mul (h3 _)).mul (h2 _)) (h0 _) (h1 _))
  blk_point [iblk, V, idx t]
  · rw [V13, Fin.sum_univ_one]; blk_point [idx t]
  · rw [V12]; exact congrArg₂ (fun x y : EReal => _ * dgate x y) (by blk_ext [idx t]) (by blk_ext [idx t])

theorem final5 (c : Dev nD) (h0 : ∀ i, IsReal (m ((c : Thread nD τ).loc main_arg0) i))
    (h1 : ∀ i, IsReal (m ((c : Thread nD τ).loc main_arg1) i)) (h2 : ∀ i, IsReal (m ((c : Thread nD τ).loc main_arg2) i))
    (h3 : ∀ i, IsReal (m ((c : Thread nD τ).loc main_arg3) i)) : (dats m 0 c).arrAt 5 cfg0.N
    = gradGate (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5, tile5]
  exact point5 m c h0 h1 h2 h3 t y

end Cert.KernelActIdeal.Tile

end
-- ==== Proof.Dw.lean ====
/- The feed-forward block's weight gradients: the kernel's three products, block of output rows by block, against the
   reference's, read at one element: each is a sum over the tokens. -/
module

public import proofs.«01_k».proof.Proof.Gen.KernelDwIdeal.Value
public import proofs.«01_k».proof.Proof.Gen.ReferenceDwIdeal
public import proofs.«01_k».proof.Proof.Half
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelDwIdeal.Product

open Cert.KernelDwIdeal Cert.KernelDwIdeal.Gen

variable (m : (ℓ : Loc nD τ sig) → Buf (Elt Ideal) ℓ)

/-- The gradient of a stacked weight of the first product: what the reference computes from the pre-activation's gradient
    `A` and the normalised rows `X`. -/
abbrev gradUp (A : FVec Ideal Cert.ReferenceDwIdeal.S2048x2816 .f32) (X : FVec Ideal Cert.ReferenceDwIdeal.S2048x1024 .f32) :
    FVec Ideal Cert.ReferenceDwIdeal.S2816x1024 .bf16 :=
  truncf .bf16 (transpose Cert.ReferenceDwIdeal.S2816x1024 [1, 0] (transpose Cert.ReferenceDwIdeal.S1024x2816 [1, 0]
    (Host.dotGeneral Cert.ReferenceDwIdeal.dot_S2048x2816_S2048x1024_S2816x1024_0_0_1_1_n_n none A X)
    Cert.ReferenceDwIdeal.Gen.transposes_S2816x1024_S1024x2816_1_0) Cert.ReferenceDwIdeal.Gen.transposes_S1024x2816_S2816x1024_1_0)
    Cert.ReferenceDwIdeal.Gen.bitsLt_bf16_f32

/-- The gradient of the down weight: what the reference computes from the activation `A` and the cotangent `C`. -/
abbrev gradDown (A : FVec Ideal Cert.ReferenceDwIdeal.S2048x2816 .f32) (C : FVec Ideal Cert.ReferenceDwIdeal.S1x2048x1024 .f32) :
    FVec Ideal Cert.ReferenceDwIdeal.S2816x1024 .bf16 :=
  truncf .bf16 (transpose Cert.ReferenceDwIdeal.S2816x1024 [1, 0]
    (Host.dotGeneral Cert.ReferenceDwIdeal.dot_S2048x1024_S2048x2816_S1024x2816_0_0_1_1_n_n none
      (Host.reduceAdd (mulf (broadcastInDim Cert.ReferenceDwIdeal.S1x2048x1024 ![] Cert.ReferenceDwIdeal.Gen.bcast_S_S1x2048x1024
        (constant Cert.ReferenceDwIdeal.S_ .f32 0x3F000000#32)) C) (constant Cert.ReferenceDwIdeal.S_ .f32 0x00000000#32)
        Cert.ReferenceDwIdeal.Gen.reducesTo_S1x2048x1024_S2048x1024_d0 Cert.ReferenceDwIdeal.Gen.h_S_) A)
    Cert.ReferenceDwIdeal.Gen.transposes_S1024x2816_S2816x1024_1_0) Cert.ReferenceDwIdeal.Gen.bitsLt_bf16_f32

/-- Where each window's block sits at grid point `t`. -/
theorem idx : ∀ t : Fin cfg0.N, win0_0.index t = ![0, t.val] ∧ win0_1.index t = ![0, t.val] ∧ win0_2.index t = ![0, t.val]
    ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

theorem point5 (c : Dev nD) (t : Fin cfg0.N) (y) : k0_pay1 (iblk m c 0 t) (iblk m c 3 t) y
    = gradUp (m ((c : Thread nD τ).loc main_arg2)) (m ((c : Thread nD τ).loc main_arg0)) (((cfg0.win 5).blk t).view.emb y) := by
  pointwise [k0_pay1, gradUp]
  blk_point [iblk, V, idx t]

theorem final5 (c : Dev nD) : (dats m 0 c).arrAt 5 cfg0.N
    = gradUp (m ((c : Thread nD τ).loc main_arg2)) (m ((c : Thread nD τ).loc main_arg0)) := by
  refine (dats m 0 c).arrAt_eq_of_covers 5 _ (by decide +kernel) fun t _ y => ?_
  blk_simp
  rw [after0_5]; frame_out
  exact point5 m c t y

theorem point6 (c : Dev nD) (t : Fin cfg0.N) (y) : k0_pay2 (iblk m c 1 t) (iblk m c 3 t) y
    = gradUp (m ((c : Thread nD τ).loc main_arg3)) (m ((c : Thread nD τ).loc main_arg0)) (((cfg0.win 6).blk t).view.emb y) := by
  pointwise [k0_pay2, gradUp]
  blk_point [iblk, V, idx t]

theorem final6 (c : Dev nD) : (dats m 0 c).arrAt 6 cfg0.N
    = gradUp (m ((c : Thread nD τ).loc main_arg3)) (m ((c : Thread nD τ).loc main_arg0)) := by
  refine (dats m 0 c).arrAt_eq_of_covers 6 _ (by decide +kernel) fun t _ y => ?_
  blk_simp
  rw [after0_6]; frame_out
  exact point6 m c t y

/-- The kernel halves the product, the reference halves the cotangent. -/
theorem point7 (c : Dev nD) (t : Fin cfg0.N) (y) : k0_pay3 (iblk m c 2 t) (iblk m c 4 t) y
    = gradDown (m ((c : Thread nD τ).loc main_arg1)) (m ((c : Thread nD τ).loc main_arg4)) (((cfg0.win 7).blk t).view.emb y) := by
  pointwise [k0_pay3, gradDown]
  refine (Cert.Proof.Half.half_mul_sum _).trans (Finset.sum_congr rfl fun k _ => ?_)
  rw [Fin.sum_univ_one]
  refine (Cert.Proof.Half.half_swap _ _ _).trans ?_
  blk_point [iblk, V, idx t]

theorem final7 (c : Dev nD) : (dats m 0 c).arrAt 7 cfg0.N
    = gradDown (m ((c : Thread nD τ).loc main_arg1)) (m ((c : Thread nD τ).loc main_arg4)) := by
  refine (dats m 0 c).arrAt_eq_of_covers 7 _ (by decide +kernel) fun t _ y => ?_
  blk_simp
  rw [after0_7]; frame_out
  exact point7 m c t y

end Cert.KernelDwIdeal.Product

end
-- ==== Proof.Dx.lean ====
/- The gradients of the feed-forward block's input and of its norm's gain: the kernel goes through the rows in eight blocks,
   writes each block of the first and adds each block's share to the second; against the reference's, read at one element. -/
module

public import proofs.«01_k».proof.Proof.Gen.KernelDxIdeal.Value
public import proofs.«01_k».proof.Proof.Gen.ReferenceDxIdeal
public import proofs.«01_k».proof.Proof.Finite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelDxIdeal.Input

open Cert.KernelDxIdeal Cert.KernelDxIdeal.Gen Cert.Proof.Finite

variable (m : (ℓ : Loc nD τ sig) → Buf (Elt Ideal) ℓ)

/-- The gradient of the normalised rows, as the reference computes it from the two pre-activations' gradients `P` and `U`. -/
def dxn (W : FVec Ideal Cert.ReferenceDxIdeal.S3x2816x1024 .f32)
    (P U : FVec Ideal Cert.ReferenceDxIdeal.S2048x2816 .f32) : FVec Ideal Cert.ReferenceDxIdeal.S2048x1024 .f32 :=
  addf (Host.dotGeneral Cert.ReferenceDxIdeal.dot_S2048x2816_S1024x2816_S2048x1024_1_1_0_0_n_n none U (transpose
    Cert.ReferenceDxIdeal.S1024x2816 [1, 0] (shapeCast _ (extractStridedSlice Cert.ReferenceDxIdeal.S1x2816x1024 ![1, 0, 0] W
    Cert.ReferenceDxIdeal.Gen.slices_S3x2816x1024_S1x2816x1024_1_0_0)
    Cert.ReferenceDxIdeal.Gen.shapeCasts_S1x2816x1024_S2816x1024)
    Cert.ReferenceDxIdeal.Gen.transposes_S2816x1024_S1024x2816_1_0)) (Host.dotGeneral
    Cert.ReferenceDxIdeal.dot_S2048x2816_S1024x2816_S2048x1024_1_1_0_0_n_n none P (transpose Cert.ReferenceDxIdeal.S1024x2816
    [1, 0] (shapeCast _ (extractStridedSlice Cert.ReferenceDxIdeal.S1x2816x1024 ![0, 0, 0] W
    Cert.ReferenceDxIdeal.Gen.slices_S3x2816x1024_S1x2816x1024_0_0_0)
    Cert.ReferenceDxIdeal.Gen.shapeCasts_S1x2816x1024_S2816x1024)
    Cert.ReferenceDxIdeal.Gen.transposes_S2816x1024_S1024x2816_1_0))

/-- … times the gain. -/
def dxh (G : FVec Ideal Cert.ReferenceDxIdeal.S1024 .f32) (W : FVec Ideal Cert.ReferenceDxIdeal.S3x2816x1024 .f32)
    (P U : FVec Ideal Cert.ReferenceDxIdeal.S2048x2816 .f32) : FVec Ideal Cert.ReferenceDxIdeal.S2048x1024 .f32 :=
  mulf (dxn W P U) (broadcastInDim Cert.ReferenceDxIdeal.S2048x1024 ![0, 1]
    Cert.ReferenceDxIdeal.Gen.bcast_S1x1024_S2048x1024_0_1 (broadcastInDim Cert.ReferenceDxIdeal.S1x1024 ![1]
    Cert.ReferenceDxIdeal.Gen.bcast_S1024_S1x1024_1 G))

/-- The rows' mean squares, shifted, as the reference computes them. -/
def meanSq (X : FVec Ideal Cert.ReferenceDxIdeal.S1x2048x1024 .f32) : FVec Ideal Cert.ReferenceDxIdeal.S2048x1 .f32 :=
  addf (Host.divf (broadcastInDim Cert.ReferenceDxIdeal.S2048x1 ![0] Cert.ReferenceDxIdeal.Gen.bcast_S2048_S2048x1_0
    (Host.reduceAdd (mulf (shapeCast _ X Cert.ReferenceDxIdeal.Gen.shapeCasts_S1x2048x1024_S2048x1024) (shapeCast _ X
    Cert.ReferenceDxIdeal.Gen.shapeCasts_S1x2048x1024_S2048x1024)) (constant Cert.ReferenceDxIdeal.S_ .f32 0x00000000#32)
    Cert.ReferenceDxIdeal.Gen.reducesTo_S2048x1024_S2048_d1 Cert.ReferenceDxIdeal.Gen.h_S_)) (broadcastInDim
    Cert.ReferenceDxIdeal.S2048x1 ![] Cert.ReferenceDxIdeal.Gen.bcast_S_S2048x1 (constant Cert.ReferenceDxIdeal.S_ .f32
    0x44800000#32))) (broadcastInDim Cert.ReferenceDxIdeal.S2048x1 ![] Cert.ReferenceDxIdeal.Gen.bcast_S_S2048x1 (constant
    Cert.ReferenceDxIdeal.S_ .f32 0x358637BD#32))

/-- What the norm's scale adds to each row's gradient, per element of the row. -/
def shift (X : FVec Ideal Cert.ReferenceDxIdeal.S1x2048x1024 .f32) (G : FVec Ideal Cert.ReferenceDxIdeal.S1024 .f32)
    (W : FVec Ideal Cert.ReferenceDxIdeal.S3x2816x1024 .f32) (P U : FVec Ideal Cert.ReferenceDxIdeal.S2048x2816 .f32) :
    FVec Ideal Cert.ReferenceDxIdeal.S2048 .f32 :=
  Host.reduceAdd (Host.divf (mulf (shapeCast _ (Host.reduceAdd (mulf (shapeCast _ X
    Cert.ReferenceDxIdeal.Gen.shapeCasts_S1x2048x1024_S2048x1024) (dxh G W P U)) (constant Cert.ReferenceDxIdeal.S_ .f32
    0x00000000#32) Cert.ReferenceDxIdeal.Gen.reducesTo_S2048x1024_S2048_d1 Cert.ReferenceDxIdeal.Gen.h_S_)
    Cert.ReferenceDxIdeal.Gen.shapeCasts_S2048_S2048x1) (mulf (broadcastInDim Cert.ReferenceDxIdeal.S2048x1 ![]
    Cert.ReferenceDxIdeal.Gen.bcast_S_S2048x1 (constant Cert.ReferenceDxIdeal.S_ .f32 0xBF000000#32)) (Host.divf (Host.rsqrt
    (meanSq X)) (meanSq X)))) (broadcastInDim Cert.ReferenceDxIdeal.S2048x1 ![] Cert.ReferenceDxIdeal.Gen.bcast_S_S2048x1
    (constant Cert.ReferenceDxIdeal.S_ .f32 0x44800000#32))) (constant Cert.ReferenceDxIdeal.S_ .f32 0x00000000#32)
    Cert.ReferenceDxIdeal.Gen.reducesTo_S2048x1_S2048_d1 Cert.ReferenceDxIdeal.Gen.h_S_

/-- The gradient of the block's input, as the reference computes it. -/
abbrev gradX (X : FVec Ideal Cert.ReferenceDxIdeal.S1x2048x1024 .f32) (G : FVec Ideal Cert.ReferenceDxIdeal.S1024 .f32)
    (W : FVec Ideal Cert.ReferenceDxIdeal.S3x2816x1024 .f32) (P U : FVec Ideal Cert.ReferenceDxIdeal.S2048x2816 .f32)
    (C : FVec Ideal Cert.ReferenceDxIdeal.S1x2048x1024 .f32) : FVec Ideal Cert.ReferenceDxIdeal.S2048x1024 .f32 :=
  shapeCast _ (addf C (broadcastInDim Cert.ReferenceDxIdeal.S1x2048x1024 ![1, 2]
    Cert.ReferenceDxIdeal.Gen.bcast_S2048x1024_S1x2048x1024_1_2 (addf (addf (mulf (dxh G W P U) (broadcastInDim
    Cert.ReferenceDxIdeal.S2048x1024 ![0, 1] Cert.ReferenceDxIdeal.Gen.bcast_S2048x1_S2048x1024_0_1 (Host.rsqrt (meanSq X))))
    (mulf (shapeCast _ X Cert.ReferenceDxIdeal.Gen.shapeCasts_S1x2048x1024_S2048x1024) (broadcastInDim
    Cert.ReferenceDxIdeal.S2048x1024 ![0] Cert.ReferenceDxIdeal.Gen.bcast_S2048_S2048x1024_0 (shift X G W P U)))) (mulf
    (broadcastInDim Cert.ReferenceDxIdeal.S2048x1024 ![0] Cert.ReferenceDxIdeal.Gen.bcast_S2048_S2048x1024_0 (shift X G W P U))
    (shapeCast _ X Cert.ReferenceDxIdeal.Gen.shapeCasts_S1x2048x1024_S2048x1024)))))
    Cert.ReferenceDxIdeal.Gen.shapeCasts_S1x2048x1024_S2048x1024

/-- The gradient of the gain, as the reference computes it. -/
abbrev gradG (X : FVec Ideal Cert.ReferenceDxIdeal.S1x2048x1024 .f32) (W : FVec Ideal Cert.ReferenceDxIdeal.S3x2816x1024 .f32)
    (P U : FVec Ideal Cert.ReferenceDxIdeal.S2048x2816 .f32) : FVec Ideal Cert.ReferenceDxIdeal.S1x1024 .f32 :=
  broadcastInDim Cert.ReferenceDxIdeal.S1x1024 ![1] Cert.ReferenceDxIdeal.Gen.bcast_S1024_S1x1024_1 (Host.reduceAdd (shapeCast
    _ (Host.reduceAdd (mulf (mulf (shapeCast _ X Cert.ReferenceDxIdeal.Gen.shapeCasts_S1x2048x1024_S2048x1024) (broadcastInDim
    Cert.ReferenceDxIdeal.S2048x1024 ![0, 1] Cert.ReferenceDxIdeal.Gen.bcast_S2048x1_S2048x1024_0_1 (Host.rsqrt (meanSq X))))
    (dxn W P U)) (constant Cert.ReferenceDxIdeal.S_ .f32 0x00000000#32) Cert.ReferenceDxIdeal.Gen.reducesTo_S2048x1024_S1024_d0
    Cert.ReferenceDxIdeal.Gen.h_S_) Cert.ReferenceDxIdeal.Gen.shapeCasts_S1024_S1x1024) (constant Cert.ReferenceDxIdeal.S_ .f32
    0x00000000#32) Cert.ReferenceDxIdeal.Gen.reducesTo_S1x1024_S1024_d0 Cert.ReferenceDxIdeal.Gen.h_S_)

/-- Where each window's block sits at grid point `t`. -/
theorem idx : ∀ t : Fin cfg0.N, win0_0.index t = ![t.val, 0] ∧ win0_1.index t = ![t.val, 0] ∧ win0_2.index t = ![0, 0, 0]
    ∧ win0_3.index t = ![1, 0, 0] ∧ win0_4.index t = ![t.val, 0] ∧ win0_5.index t = ![0, 0] ∧ win0_6.index t = ![t.val, 0]
    ∧ win0_8.index t = ![t.val, 0] ∧ win0_9.index t = ![0, 0] :=
  (by decide +kernel : ∀ t : Fin grid0.N, _)

/-- The kernel's arguments: the rows, the gain, the stacked weights, the two pre-activations' gradients, the cotangent. -/
abbrev A0 (c : Dev nD) : FVec Ideal Cert.ReferenceDxIdeal.S1x2048x1024 .f32 := m ((c : Thread nD τ).loc main_arg0)
abbrev A1 (c : Dev nD) : FVec Ideal Cert.ReferenceDxIdeal.S1024 .f32 := m ((c : Thread nD τ).loc main_arg1)
abbrev A2 (c : Dev nD) : FVec Ideal Cert.ReferenceDxIdeal.S3x2816x1024 .f32 := m ((c : Thread nD τ).loc main_arg2)
abbrev A3 (c : Dev nD) : FVec Ideal Cert.ReferenceDxIdeal.S2048x2816 .f32 := m ((c : Thread nD τ).loc main_arg3)
abbrev A4 (c : Dev nD) : FVec Ideal Cert.ReferenceDxIdeal.S2048x2816 .f32 := m ((c : Thread nD τ).loc main_arg4)
abbrev A5 (c : Dev nD) : FVec Ideal Cert.ReferenceDxIdeal.S1x2048x1024 .f32 := m ((c : Thread nD τ).loc main_arg5)

/-- A row block of the gradient of the normalised rows is the kernel's. -/
theorem dxn_block (c : Dev nD) (t : Fin cfg0.N) (y : S256x1024.Idx) (i : Cert.ReferenceDxIdeal.S2048x1024.Idx)
    (h0 : (i 0).val = t.val * 256 + (y 0).val) (h1 : (i 1).val = (y 1).val) :
    k0_pay4 (iblk m c 0 t) (iblk m c 2 t) (iblk m c 1 t) (iblk m c 3 t) y = dxn (A2 m c) (A3 m c) (A4 m c) i := by
  pointwise [k0_pay4, dxn]
  refine Eq.trans ?_ (add_comm (G := EReal) _ _)
  blk_point [iblk, V, idx t]

theorem dxn_real {W P U} (hW : ∀ i, IsReal (W i)) (hP : ∀ i, IsReal (P i)) (hU : ∀ i, IsReal (U i)) (i) :
    IsReal (dxn W P U i) := by
  pointwise [dxn]
  exact (IsReal.sum fun k => (hU _).mul (hW _)).add (IsReal.sum fun k => (hP _).mul (hW _))

theorem row_lt (t : Fin cfg0.N) (r : Fin 256) : t.val * 256 + r.val < 2048 := by
  have h : t.val < 8 := lt_of_lt_of_eq t.isLt N_0
  omega

/-- Row `r` of the block at grid point `t`. -/
def row (t : Fin cfg0.N) (r : Fin 256) : Fin 2048 := ⟨t.val * 256 + r.val, row_lt t r⟩

theorem emb8 (t : Fin cfg0.N) (y : S256x1024.Idx) : ((cfg0.win 8).blk t).view.emb y = ix2 (row t (y 0)) (y 1) := by
  blk_ext [idx t, row]

theorem x_block (c : Dev nD) (t : Fin cfg0.N) (r : Fin 256) (k : Fin 1024) :
    iblk m c 4 t (ix2 r k) = A0 m c (ix3 0 (row t r) k) := by
  blk_point [iblk, V, idx t, row]

theorem g_block (c : Dev nD) (t : Fin cfg0.N) (k : Fin 1024) : iblk m c 5 t (ix2 0 k) = A1 m c (ix1 k) := by
  blk_point [iblk, V, idx t]

theorem c_block (c : Dev nD) (t : Fin cfg0.N) (r : Fin 256) (k : Fin 1024) :
    iblk m c 6 t (ix2 r k) = A5 m c (ix3 0 (row t r) k) := by
  blk_point [iblk, V, idx t, row]

theorem d_block (c : Dev nD) (t : Fin cfg0.N) (r : Fin 256) (k : Fin 1024) :
    k0_pay4 (iblk m c 0 t) (iblk m c 2 t) (iblk m c 1 t) (iblk m c 3 t) (ix2 r k)
      = dxn (A2 m c) (A3 m c) (A4 m c) (ix2 (row t r) k) :=
  dxn_block m c t _ _ rfl rfl

/-- The kernel's block of the input's gradient, at one element. -/
theorem pay1_eq (x0 x1 : Vec Ideal S256x2816 .bf16) (x2 x3 : Vec Ideal S1x2816x1024 .bf16) (x4 x6 : Vec Ideal S256x1024 .f32)
    (x5 : Vec Ideal S1x1024 .f32) (r : Fin 256) (j : Fin 1024) (C : EReal) (x d : Fin 1024 → EReal) (hC : x6 (ix2 r j) = C)
    (hx : ∀ k, x4 (ix2 r k) = x k) (hd : ∀ k, k0_pay4 x0 x2 x1 x3 (ix2 r k) * x5 (ix2 0 k) = d k) (v : EReal)
    (hv : v = Ideal.div (∑ k, x k * x k) (Ideal.ofBits .f32 0x44800000#32) + Ideal.ofBits .f32 0x358637BD#32) :
    k0_pay1 (k0_pay6 x4) (k0_pay7 x4) (k0_pay8 x0 x2 x1 x3 x5) (k0_pay9 x6) (k0_pay10 x0 x2 x1 x3 x4 x5) (ix2 r j)
    = C + Ideal.rsqrt v * (d j - x j * Ideal.rsqrt v
        * Ideal.div (∑ k, d k * (x k * Ideal.rsqrt v)) (Ideal.ofBits .f32 0x44800000#32)) := by
  subst hv
  obtain rfl := funext hx
  obtain rfl := funext hd
  obtain rfl := hC
  pointwise [k0_pay1, k0_pay5, k0_pay6, k0_pay7, k0_pay8, k0_pay9, k0_pay10]

/-- The reference's, at one element. -/
theorem gradX_eq (X G W P U C) (i : Fin 2048) (j : Fin 1024) (v : EReal)
    (hv : v = Ideal.div (∑ k : Fin 1024, X (ix3 0 i k) * X (ix3 0 i k)) (Ideal.ofBits .f32 0x44800000#32)
      + Ideal.ofBits .f32 0x358637BD#32) :
    gradX X G W P U C (ix2 i j) = C (ix3 0 i j) + ((dxn W P U (ix2 i j) * G (ix1 j)) * Ideal.rsqrt v
      + X (ix3 0 i j) * Ideal.div ((∑ k, X (ix3 0 i k) * (dxn W P U (ix2 i k) * G (ix1 k)))
          * (Ideal.ofBits .f32 0xBF000000#32 * Ideal.div (Ideal.rsqrt v) v)) (Ideal.ofBits .f32 0x44800000#32)
      + Ideal.div ((∑ k, X (ix3 0 i k) * (dxn W P U (ix2 i k) * G (ix1 k)))
          * (Ideal.ofBits .f32 0xBF000000#32 * Ideal.div (Ideal.rsqrt v) v)) (Ideal.ofBits .f32 0x44800000#32)
        * X (ix3 0 i j)) := by
  subst hv
  pointwise [gradX, dxh, meanSq, shift]
  simp only [Fin.sum_univ_one]

theorem point8 (c : Dev nD) (hX : ∀ i, IsReal (A0 m c i)) (hG : ∀ i, IsReal (A1 m c i)) (hW : ∀ i, IsReal (A2 m c i))
    (hP : ∀ i, IsReal (A3 m c i)) (hU : ∀ i, IsReal (A4 m c i)) (t : Fin cfg0.N) (y) :
    k0_pay1 (k0_pay6 (iblk m c 4 t)) (k0_pay7 (iblk m c 4 t))
      (k0_pay8 (iblk m c 0 t) (iblk m c 2 t) (iblk m c 1 t) (iblk m c 3 t) (iblk m c 5 t)) (k0_pay9 (iblk m c 6 t))
      (k0_pay10 (iblk m c 0 t) (iblk m c 2 t) (iblk m c 1 t) (iblk m c 3 t) (iblk m c 4 t) (iblk m c 5 t)) y
    = gradX (A0 m c) (A1 m c) (A2 m c) (A3 m c) (A4 m c) (A5 m c) (((cfg0.win 8).blk t).view.emb y) := by
  obtain ⟨r, j, rfl⟩ : ∃ r j, y = ix2 r j := ⟨y 0, y 1, by pointwise⟩
  refine (pay1_eq _ _ _ _ _ _ _ r j _ (fun k => A0 m c (ix3 0 (row t r) k)) _ (c_block m c t r j) (x_block m c t r)
    (fun k => congrArg₂ (fun a b : EReal => a * b) (d_block m c t r k) (g_block m c t k)) _ rfl).trans ?_
  refine (congrArg (fun a : EReal => A5 m c (ix3 0 (row t r) j) + a)
    (norm_grad _ _ (fun k => hX _) (fun k => (dxn_real hW hP hU _).mul (hG _)) j _ rfl)).trans ?_
  refine Eq.trans ?_ (congrArg (gradX _ _ _ _ _ _) (emb8 t (ix2 r j)).symm)
  exact (gradX_eq _ _ _ _ _ _ (row t r) j _ rfl).symm

theorem final8 (c : Dev nD) (hX : ∀ i, IsReal (A0 m c i)) (hG : ∀ i, IsReal (A1 m c i)) (hW : ∀ i, IsReal (A2 m c i))
    (hP : ∀ i, IsReal (A3 m c i)) (hU : ∀ i, IsReal (A4 m c i)) : (dats m 0 c).arrAt 8 cfg0.N
    = gradX (A0 m c) (A1 m c) (A2 m c) (A3 m c) (A4 m c) (A5 m c) := by
  refine (dats m 0 c).arrAt_eq_of_covers 8 _ (by decide +kernel) fun t _ y => ?_
  blk_simp
  rw [after0_8]
  by_cases h : t.val % 8 = 0
  · rw [outsAt0_A m c t h]; frame_out
    exact point8 m c hX hG hW hP hU t y
  · rw [outsAt0_B m c t h]; frame_out
    exact point8 m c hX hG hW hP hU t y

/-- What a grid point adds to the gain's gradient. -/
def share (c : Dev nD) (t : Fin cfg0.N) (j : S1x1024.Idx) : EReal :=
  ∑ r : Fin 256, k0_pay4 (iblk m c 0 t) (iblk m c 2 t) (iblk m c 1 t) (iblk m c 3 t) (ix2 r (j 1))
    * k0_pay7 (iblk m c 4 t) (ix2 r (j 1))

theorem pay2_eq (c : Dev nD) (t : Fin cfg0.N) (v : Vec Ideal S1x1024 .f32) (j : S1x1024.Idx) :
    k0_pay2 (k0_pay4 (iblk m c 0 t) (iblk m c 2 t) (iblk m c 1 t) (iblk m c 3 t)) (k0_pay7 (iblk m c 4 t)) v j
      = v j + share m c t j := by
  pointwise [k0_pay2, share]

theorem pay3_eq (j : S1x1024.Idx) : k0_pay3 (F := Ideal) j = (0 : EReal) := by
  pointwise [k0_pay3]

theorem pay7_eq (x4 : Vec Ideal S256x1024 .f32) (r : Fin 256) (j : Fin 1024) (x : Fin 1024 → EReal)
    (hx : ∀ k, x4 (ix2 r k) = x k) : k0_pay7 x4 (ix2 r j) = x j * Ideal.rsqrt (Ideal.div (∑ k, x k * x k)
      (Ideal.ofBits .f32 0x44800000#32) + Ideal.ofBits .f32 0x358637BD#32) := by
  obtain rfl := funext hx
  pointwise [k0_pay5, k0_pay6, k0_pay7]

/-- The reference's gradient of the gain, at one element. -/
theorem gradG_eq (X W P U) (j : Cert.ReferenceDxIdeal.S1x1024.Idx) : gradG X W P U j = ∑ i : Fin 2048,
    (X (ix3 0 i (j 1)) * Ideal.rsqrt (Ideal.div (∑ k : Fin 1024, X (ix3 0 i k) * X (ix3 0 i k))
      (Ideal.ofBits .f32 0x44800000#32) + Ideal.ofBits .f32 0x358637BD#32)) * dxn W P U (ix2 i (j 1)) := by
  pointwise [gradG, meanSq]
  simp only [Fin.sum_univ_one]

theorem sum_share (c : Dev nD) (j : S1x1024.Idx) : ∑ t, share m c t j = gradG (A0 m c) (A2 m c) (A3 m c) (A4 m c) j := by
  rw [gradG_eq]
  unfold share
  refine Fin.sum_mul_add_congr (fun t r hl => ?_) (show 2048 = grid0.N * 256 by rw [N_0])
  exact (congrArg₂ (fun a b : EReal => a * b) (d_block m c t r (j 1)) (pay7_eq _ r (j 1) _ (x_block m c t r))).trans
    (mul_comm (G := EReal) _ _)

theorem final9 (c : Dev nD) : (dats m 0 c).arrAt 9 cfg0.N = gradG (A0 m c) (A2 m c) (A3 m c) (A4 m c) := by
  refine (dats m 0 c).arrAt_eq_of_after_last 9 t0_7 (by decide +kernel) _ fun j => ?_
  blk_simp
  rw [after0_9, Pipeline.eq_sum_fin_of_reset_step_apply_last (fun n h => (outsAt0 m c n h).2) 8 (fun _ => 0) (share m c)
    (fun t h j => by rw [outsAt0_A m c t h]; frame_out; rw [pay2_eq, pay3_eq])
    (fun t h j => by rw [outsAt0_B m c t h]; frame_out; rw [pay2_eq])
    (le_of_eq N_0) t0_7 rfl j, zero_add]
  exact sum_share m c j

end Cert.KernelDxIdeal.Input

end
-- ==== Proof.Fwd.lean ====
/- The feed-forward block's forward call: the gated activation that the kernel stores in eleven column tiles and reads back, and
   its product with the down weight; against the reference's result, read at one element. -/
module

public import proofs.«01_k».proof.Proof.Gen.KernelFwdIdeal.Value
public import proofs.«01_k».proof.Proof.Gen.ReferenceFwdIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelFwdIdeal.Tile

open Cert.KernelFwdIdeal Cert.KernelFwdIdeal.Gen

variable (m : (ℓ : Loc nD τ sig) → Buf (Elt Ideal) ℓ)

/-- A load of a whole buffer reads what the stores left. -/
theorem readCov_whole {sp : Space} {κ : Kind} {sig : RefSig} {S : Shape} {e : EltTy} (v : View sig κ sp S e)
    {off : Fin S.rank → Nat} (inb : ∀ a, off a + S.size a ≤ S.size a) (L : List (View.Piece (Elt Ideal) S e)) (h : ∀ a, off a = 0) :
    v.readCov L (Rect.unit off (no_index S.size) inb).toLoadRect = View.canon L := by
  obtain rfl := View.eq_zero_of_forall h
  rw [View.readCov_eq_canon']
  funext j
  show View.canon L ((Rect.whole S).emb j) = View.canon L j
  rw [Rect.emb_whole_apply]

/-- The gated activation of a block of normalised rows `X`. -/
def act (X : Vec Ideal S256x1024 .bf16) (wg wu : Vec Ideal S1x2816x1024 .bf16) : Vec Ideal S256x2816 .bf16 := fun y =>
  (∑ k : Fin 1024, X (ix2 (y 0) k) * wg (ix3 0 (y 1) k))
    * Ideal.div 1 (1 + Ideal.exp (0 - ∑ k : Fin 1024, X (ix2 (y 0) k) * wg (ix3 0 (y 1) k)))
    * ∑ k : Fin 1024, X (ix2 (y 0) k) * wu (ix3 0 (y 1) k)

theorem pay6_eq (x0 : Vec Ideal S256x1024 .f32) (x1 w) : k0_pay6 x0 x1 w = k0_pay13 (k0_pay4 x0 x1) w := rfl
theorem pay8_eq (x0 : Vec Ideal S256x1024 .f32) (x1 w) : k0_pay8 x0 x1 w = k0_pay15 (k0_pay4 x0 x1) w := rfl

theorem left6 (c : Dev nD) (t : Fin cfg0.N) : (dats m 0 c).after 6 t
    = k0_pay2 (k0_pay3 (iblk m c 0 t)) (act (k0_pay4 (iblk m c 0 t) (iblk m c 1 t)) (iblk m c 2 t) (iblk m c 3 t)) (iblk m c 4 t) := by
  rw [after0_6]; unfold outsAt0; frame_out
  rw [readCov_whole _ _ _ (by decide), pay6_eq, pay8_eq]
  refine congrArg (fun a => k0_pay2 _ a _) (funext fun y => ?_)
  generalize k0_pay4 (iblk m c 0 t) (iblk m c 1 t) = X
  generalize iblk m c 2 t = wg
  generalize iblk m c 3 t = wu
  canon_tiles x h
  all_goals (open_payloads; pointwise [act]; blk_point [])

/-- Where each window's block sits at grid point `t`. -/
theorem idx : ∀ t : Fin cfg0.N, win0_0.index t = ![t.val, 0] ∧ win0_1.index t = ![0, 0] ∧ win0_2.index t = ![0, 0, 0]
    ∧ win0_3.index t = ![1, 0, 0] ∧ win0_4.index t = ![2, 0, 0] ∧ win0_6.index t = ![t.val, 0] :=
  (by decide +kernel : ∀ t : Fin grid0.N, _)

/-- The rows, as the kernel is given them. -/
theorem V1 (c : Dev nD) (i : S2048x1024.Idx) :
    V m c main_v1 i = m ((c : Thread nD τ).loc main_arg0) (ix3 0 (i 0) (i 1)) := by
  entry_read
  pointwise

/-- The gain, as the kernel is given it. -/
theorem V2 (c : Dev nD) (i : S1x1024.Idx) :
    V m c main_v2 i = m ((c : Thread nD τ).loc main_arg1) (ix1 (i 1)) := by
  entry_read
  pointwise

/-- The normalised rows, as the reference computes them. -/
abbrev norm (X : FVec Ideal Cert.ReferenceFwdIdeal.S1x2048x1024 .f32) (G : FVec Ideal Cert.ReferenceFwdIdeal.S1024 .f32) :
    FVec Ideal Cert.ReferenceFwdIdeal.S1x2048x1024 .f32 :=
  mulf (mulf X (broadcastInDim Cert.ReferenceFwdIdeal.S1x2048x1024 ![0, 1, 2]
    Cert.ReferenceFwdIdeal.Gen.bcast_S1x2048x1_S1x2048x1024_0_1_2 (Host.rsqrt (addf (Host.divf (broadcastInDim
    Cert.ReferenceFwdIdeal.S1x2048x1 ![0, 1] Cert.ReferenceFwdIdeal.Gen.bcast_S1x2048_S1x2048x1_0_1 (Host.reduceAdd (mulf X X)
    (constant Cert.ReferenceFwdIdeal.S_ .f32 0x00000000#32) Cert.ReferenceFwdIdeal.Gen.reducesTo_S1x2048x1024_S1x2048_d2
    Cert.ReferenceFwdIdeal.Gen.h_S_)) (broadcastInDim Cert.ReferenceFwdIdeal.S1x2048x1 ![]
    Cert.ReferenceFwdIdeal.Gen.bcast_S_S1x2048x1 (constant Cert.ReferenceFwdIdeal.S_ .f32 0x44800000#32))) (broadcastInDim
    Cert.ReferenceFwdIdeal.S1x2048x1 ![] Cert.ReferenceFwdIdeal.Gen.bcast_S_S1x2048x1 (constant Cert.ReferenceFwdIdeal.S_ .f32
    0x358637BD#32)))))) (broadcastInDim Cert.ReferenceFwdIdeal.S1x2048x1024 ![0, 1, 2]
    Cert.ReferenceFwdIdeal.Gen.bcast_S1x1x1024_S1x2048x1024_0_1_2 (broadcastInDim Cert.ReferenceFwdIdeal.S1x1x1024 ![2]
    Cert.ReferenceFwdIdeal.Gen.bcast_S1024_S1x1x1024_2 G))

/-- A product of the normalised rows `H` with one of the two stacked weights, as the reference computes it. -/
abbrev gatePre (H : FVec Ideal Cert.ReferenceFwdIdeal.S1x2048x1024 .f32) (W : FVec Ideal Cert.ReferenceFwdIdeal.S3x2816x1024 .f32) :
    FVec Ideal Cert.ReferenceFwdIdeal.S1x2048x2816 .f32 :=
  Host.dotGeneral Cert.ReferenceFwdIdeal.dot_S1x2048x1024_S1024x2816_S1x2048x2816_2_0_01_1_n_n none H (transpose
    Cert.ReferenceFwdIdeal.S1024x2816 [1, 0] (shapeCast _ (extractStridedSlice Cert.ReferenceFwdIdeal.S1x2816x1024 ![0, 0, 0] W
    Cert.ReferenceFwdIdeal.Gen.slices_S3x2816x1024_S1x2816x1024_0_0_0)
    Cert.ReferenceFwdIdeal.Gen.shapeCasts_S1x2816x1024_S2816x1024)
    Cert.ReferenceFwdIdeal.Gen.transposes_S2816x1024_S1024x2816_1_0)

abbrev upPre (H : FVec Ideal Cert.ReferenceFwdIdeal.S1x2048x1024 .f32) (W : FVec Ideal Cert.ReferenceFwdIdeal.S3x2816x1024 .f32) :
    FVec Ideal Cert.ReferenceFwdIdeal.S1x2048x2816 .f32 :=
  Host.dotGeneral Cert.ReferenceFwdIdeal.dot_S1x2048x1024_S1024x2816_S1x2048x2816_2_0_01_1_n_n none H (transpose
    Cert.ReferenceFwdIdeal.S1024x2816 [1, 0] (shapeCast _ (extractStridedSlice Cert.ReferenceFwdIdeal.S1x2816x1024 ![1, 0, 0] W
    Cert.ReferenceFwdIdeal.Gen.slices_S3x2816x1024_S1x2816x1024_1_0_0)
    Cert.ReferenceFwdIdeal.Gen.shapeCasts_S1x2816x1024_S2816x1024)
    Cert.ReferenceFwdIdeal.Gen.transposes_S2816x1024_S1024x2816_1_0)

/-- The feed-forward block's result, as the reference computes it. -/
abbrev ffn (X : FVec Ideal Cert.ReferenceFwdIdeal.S1x2048x1024 .f32) (G : FVec Ideal Cert.ReferenceFwdIdeal.S1024 .f32)
    (W : FVec Ideal Cert.ReferenceFwdIdeal.S3x2816x1024 .f32) : FVec Ideal Cert.ReferenceFwdIdeal.S2048x1024 .f32 :=
  shapeCast _ (addf X (mulf (broadcastInDim Cert.ReferenceFwdIdeal.S1x2048x1024 ![]
    Cert.ReferenceFwdIdeal.Gen.bcast_S_S1x2048x1024 (constant Cert.ReferenceFwdIdeal.S_ .f32 0x3F000000#32)) (Host.dotGeneral
    Cert.ReferenceFwdIdeal.dot_S1x2048x2816_S2816x1024_S1x2048x1024_2_0_01_1_n_n none (mulf (mulf (gatePre (norm X G) W)
    (Host.divf (broadcastInDim Cert.ReferenceFwdIdeal.S1x2048x2816 ![] Cert.ReferenceFwdIdeal.Gen.bcast_S_S1x2048x2816 (constant
    Cert.ReferenceFwdIdeal.S_ .f32 0x3F800000#32)) (addf (broadcastInDim Cert.ReferenceFwdIdeal.S1x2048x2816 ![]
    Cert.ReferenceFwdIdeal.Gen.bcast_S_S1x2048x2816 (constant Cert.ReferenceFwdIdeal.S_ .f32 0x3F800000#32)) (Host.exp
    (Host.negf (gatePre (norm X G) W)))))) (upPre (norm X G) W)) (shapeCast _ (extractStridedSlice
    Cert.ReferenceFwdIdeal.S1x2816x1024 ![2, 0, 0] W Cert.ReferenceFwdIdeal.Gen.slices_S3x2816x1024_S1x2816x1024_2_0_0)
    Cert.ReferenceFwdIdeal.Gen.shapeCasts_S1x2816x1024_S2816x1024))))
    Cert.ReferenceFwdIdeal.Gen.shapeCasts_S1x2048x1024_S2048x1024

theorem point6 (c : Dev nD) (t : Fin cfg0.N) (y) :
    k0_pay2 (k0_pay3 (iblk m c 0 t)) (act (k0_pay4 (iblk m c 0 t) (iblk m c 1 t)) (iblk m c 2 t) (iblk m c 3 t)) (iblk m c 4 t) y
    = ffn (m ((c : Thread nD τ).loc main_arg0)) (m ((c : Thread nD τ).loc main_arg1)) (m ((c : Thread nD τ).loc main_arg2))
      (((cfg0.win 6).blk t).view.emb y) := by
  pointwise [k0_pay2, k0_pay3, k0_pay4, act, ffn]
  blk_point [iblk, V, idx t]
  refine congrArg Ideal.exp ((zero_sub (G := EReal) _).trans (congrArg Neg.neg ?_))
  blk_point [iblk, V, idx t]
  all_goals first
    | (rw [V1]; blk_point [idx t])
    | (rw [V2]; blk_point [idx t])

theorem final6 (c : Dev nD) : (dats m 0 c).arrAt 6 cfg0.N
    = ffn (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [left6]
  exact point6 m c t y

end Cert.KernelFwdIdeal.Tile

end
-- ==== Proof.Mdw.lean ====
/- The mixer's output and branch weight gradients: the kernel's three products, block of output rows by block, against the
   reference's, read at one element: each is a sum over the tokens. -/
module

public import proofs.«01_k».proof.Proof.Gen.KernelMdwIdeal.Value
public import proofs.«01_k».proof.Proof.Gen.ReferenceMdwIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelMdwIdeal.Product

open Cert.KernelMdwIdeal Cert.KernelMdwIdeal.Gen

variable (m : (ℓ : Loc nD τ sig) → Buf (Elt Ideal) ℓ)

/-- The gradient of the output weight, as the reference computes it from the merged rows `M` and the cotangent `C`. -/
abbrev gradOut (M : FVec Ideal Cert.ReferenceMdwIdeal.S2048x1024 .f32) (C : FVec Ideal Cert.ReferenceMdwIdeal.S1x2048x1024 .f32) :
    FVec Ideal Cert.ReferenceMdwIdeal.S1024x1024 .bf16 :=
  truncf .bf16 (transpose Cert.ReferenceMdwIdeal.S1024x1024 [1, 0] (Host.dotGeneral
    Cert.ReferenceMdwIdeal.dot_S2048x1024_S2048x1024_S1024x1024_0_0_1_1_n_n none (Host.reduceAdd C (constant
    Cert.ReferenceMdwIdeal.S_ .f32 0x00000000#32) Cert.ReferenceMdwIdeal.Gen.reducesTo_S1x2048x1024_S2048x1024_d0
    Cert.ReferenceMdwIdeal.Gen.h_S_) M) Cert.ReferenceMdwIdeal.Gen.transposes_S1024x1024_S1024x1024_1_0)
    Cert.ReferenceMdwIdeal.Gen.bitsLt_bf16_f32

/-- The gradient of a branch's weight, as the reference computes it from the branch's gradient `A` and its attention `O`. -/
abbrev gradBranch (A : FVec Ideal Cert.ReferenceMdwIdeal.S2048x1024 .f32) (O : FVec Ideal Cert.ReferenceMdwIdeal.S2048x512 .f32) :
    FVec Ideal Cert.ReferenceMdwIdeal.S1024x512 .bf16 :=
  truncf .bf16 (transpose Cert.ReferenceMdwIdeal.S1024x512 [1, 0] (transpose Cert.ReferenceMdwIdeal.S512x1024 [1, 0]
    (Host.dotGeneral Cert.ReferenceMdwIdeal.dot_S2048x1024_S2048x512_S1024x512_0_0_1_1_n_n none A O)
    Cert.ReferenceMdwIdeal.Gen.transposes_S1024x512_S512x1024_1_0)
    Cert.ReferenceMdwIdeal.Gen.transposes_S512x1024_S1024x512_1_0) Cert.ReferenceMdwIdeal.Gen.bitsLt_bf16_f32

/-- Where each window's block sits at grid point `t`. -/
theorem idx : ∀ t : Fin cfg0.N, win0_0.index t = ![0, t.val] ∧ win0_1.index t = ![0, t.val] ∧ win0_2.index t = ![0, t.val]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

/-- The cotangent's rows, as the kernel is given them. -/
theorem V2 (c : Dev nD) (i : S2048x1024.Idx) :
    V m c main_v2 i = m ((c : Thread nD τ).loc main_arg5) (ix3 0 (i 0) (i 1)) := by
  entry_read
  pointwise

theorem point6 (c : Dev nD) (t : Fin cfg0.N) (y) : k0_pay1 (iblk m c 0 t) (iblk m c 3 t) y
    = gradOut (m ((c : Thread nD τ).loc main_arg0)) (m ((c : Thread nD τ).loc main_arg5)) (((cfg0.win 6).blk t).view.emb y) := by
  pointwise [k0_pay1, gradOut]
  refine Finset.sum_congr rfl fun k _ => ?_
  rw [Fin.sum_univ_one]
  refine (mul_comm (G := EReal) _ _).trans ?_
  blk_point [iblk, V, idx t]

theorem final6 (c : Dev nD) : (dats m 0 c).arrAt 6 cfg0.N = gradOut (m ((c : Thread nD τ).loc main_arg0)) (m ((c : Thread nD τ).loc main_arg5)) := by
  refine (dats m 0 c).arrAt_eq_of_covers 6 _ (by decide +kernel) fun t _ y => ?_
  blk_simp
  rw [after0_6]; frame_out
  exact point6 m c t y

theorem point7 (c : Dev nD) (t : Fin cfg0.N) (y) : k0_pay2 (iblk m c 1 t) (iblk m c 4 t) y
    = gradBranch (m ((c : Thread nD τ).loc main_arg1)) (m ((c : Thread nD τ).loc main_arg3)) (((cfg0.win 7).blk t).view.emb y) := by
  pointwise [k0_pay2, gradBranch]
  blk_point [iblk, V, idx t]

theorem final7 (c : Dev nD) : (dats m 0 c).arrAt 7 cfg0.N = gradBranch (m ((c : Thread nD τ).loc main_arg1)) (m ((c : Thread nD τ).loc main_arg3)) := by
  refine (dats m 0 c).arrAt_eq_of_covers 7 _ (by decide +kernel) fun t _ y => ?_
  blk_simp
  rw [after0_7]; frame_out
  exact point7 m c t y

theorem point8 (c : Dev nD) (t : Fin cfg0.N) (y) : k0_pay3 (iblk m c 2 t) (iblk m c 5 t) y
    = gradBranch (m ((c : Thread nD τ).loc main_arg2)) (m ((c : Thread nD τ).loc main_arg4)) (((cfg0.win 8).blk t).view.emb y) := by
  pointwise [k0_pay3, gradBranch]
  blk_point [iblk, V, idx t]

theorem final8 (c : Dev nD) : (dats m 0 c).arrAt 8 cfg0.N = gradBranch (m ((c : Thread nD τ).loc main_arg2)) (m ((c : Thread nD τ).loc main_arg4)) := by
  refine (dats m 0 c).arrAt_eq_of_covers 8 _ (by decide +kernel) fun t _ y => ?_
  blk_simp
  rw [after0_8]; frame_out
  exact point8 m c t y

end Cert.KernelMdwIdeal.Product

end
-- ==== Proof.Win.lean ====
/- The gradient of the mixer's input projection: the kernel's product, block of output rows by block, against the reference's, read
   at one element: a sum over the tokens. -/
module

public import proofs.«01_k».proof.Proof.Gen.KernelWinIdeal.Value
public import proofs.«01_k».proof.Proof.Gen.ReferenceWinIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelWinIdeal.Product

open Cert.KernelWinIdeal Cert.KernelWinIdeal.Gen

variable (m : (ℓ : Loc nD τ sig) → Buf (Elt Ideal) ℓ)

/-- The gradient of the projection, as the reference computes it from the normalised rows `H` and the projections' gradient `Z`. -/
abbrev grad (H : FVec Ideal Cert.ReferenceWinIdeal.S2048x1024 .f32) (Z : FVec Ideal Cert.ReferenceWinIdeal.S2048x4352 .f32) :
    FVec Ideal Cert.ReferenceWinIdeal.S4352x1024 .bf16 :=
  truncf .bf16 (transpose Cert.ReferenceWinIdeal.S4352x1024 [1, 0] (transpose Cert.ReferenceWinIdeal.S1024x4352 [1, 0]
    (Host.dotGeneral Cert.ReferenceWinIdeal.dot_S2048x4352_S2048x1024_S4352x1024_0_0_1_1_n_n none Z H)
    Cert.ReferenceWinIdeal.Gen.transposes_S4352x1024_S1024x4352_1_0)
    Cert.ReferenceWinIdeal.Gen.transposes_S1024x4352_S4352x1024_1_0) Cert.ReferenceWinIdeal.Gen.bitsLt_bf16_f32

/-- Where each window's block sits at grid point `t`. -/
theorem idx : ∀ t : Fin cfg0.N, win0_0.index t = ![0, t.val] ∧ win0_1.index t = ![0, 0] ∧ win0_2.index t = ![t.val, 0] :=
  (by decide +kernel : ∀ t : Fin grid0.N, _)

theorem point2 (c : Dev nD) (t : Fin cfg0.N) (y) : k0_pay1 (iblk m c 0 t) (iblk m c 1 t) y
    = grad (m ((c : Thread nD τ).loc main_arg0)) (m ((c : Thread nD τ).loc main_arg1)) (((cfg0.win 2).blk t).view.emb y) := by
  pointwise [k0_pay1, grad]
  blk_point [iblk, V, idx t]

theorem final2 (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point2 m c t y

end Cert.KernelWinIdeal.Product

end
-- ==== Proof.Mx.lean ====
/- The gradients of the mixer's input and of its norm's gain: the kernel goes through the rows in eight blocks, writes each block
   of the first and adds each block's share to the second; against the reference's, read at one element. -/
module

public import proofs.«01_k».proof.Proof.Gen.KernelMxIdeal.Value
public import proofs.«01_k».proof.Proof.Gen.ReferenceMxIdeal
public import proofs.«01_k».proof.Proof.Finite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelMxIdeal.Input

open Cert.KernelMxIdeal Cert.KernelMxIdeal.Gen Cert.Proof.Finite

variable (m : (ℓ : Loc nD τ sig) → Buf (Elt Ideal) ℓ)

/-- The gradient of the normalised rows, as the reference computes it from the projections' gradient `Z`. -/
def dxn (W : FVec Ideal Cert.ReferenceMxIdeal.S1x4352x1024 .f32) (Z : FVec Ideal Cert.ReferenceMxIdeal.S2048x4352 .f32) :
    FVec Ideal Cert.ReferenceMxIdeal.S2048x1024 .f32 :=
  Host.dotGeneral Cert.ReferenceMxIdeal.dot_S2048x4352_S1024x4352_S2048x1024_1_1_0_0_n_n none Z (transpose
    Cert.ReferenceMxIdeal.S1024x4352 [1, 0] (shapeCast _ W Cert.ReferenceMxIdeal.Gen.shapeCasts_S1x4352x1024_S4352x1024)
    Cert.ReferenceMxIdeal.Gen.transposes_S4352x1024_S1024x4352_1_0)

/-- … times the gain. -/
def dxh (G : FVec Ideal Cert.ReferenceMxIdeal.S1024 .f32) (W : FVec Ideal Cert.ReferenceMxIdeal.S1x4352x1024 .f32)
    (Z : FVec Ideal Cert.ReferenceMxIdeal.S2048x4352 .f32) : FVec Ideal Cert.ReferenceMxIdeal.S2048x1024 .f32 :=
  mulf (dxn W Z) (broadcastInDim Cert.ReferenceMxIdeal.S2048x1024 ![0, 1]
    Cert.ReferenceMxIdeal.Gen.bcast_S1x1024_S2048x1024_0_1 (broadcastInDim Cert.ReferenceMxIdeal.S1x1024 ![1]
    Cert.ReferenceMxIdeal.Gen.bcast_S1024_S1x1024_1 G))

/-- The rows' mean squares, shifted, as the reference computes them. -/
def meanSq (X : FVec Ideal Cert.ReferenceMxIdeal.S1x2048x1024 .f32) : FVec Ideal Cert.ReferenceMxIdeal.S2048x1 .f32 :=
  addf (Host.divf (broadcastInDim Cert.ReferenceMxIdeal.S2048x1 ![0] Cert.ReferenceMxIdeal.Gen.bcast_S2048_S2048x1_0
    (Host.reduceAdd (mulf (shapeCast _ X Cert.ReferenceMxIdeal.Gen.shapeCasts_S1x2048x1024_S2048x1024) (shapeCast _ X
    Cert.ReferenceMxIdeal.Gen.shapeCasts_S1x2048x1024_S2048x1024)) (constant Cert.ReferenceMxIdeal.S_ .f32 0x00000000#32)
    Cert.ReferenceMxIdeal.Gen.reducesTo_S2048x1024_S2048_d1 Cert.ReferenceMxIdeal.Gen.h_S_)) (broadcastInDim
    Cert.ReferenceMxIdeal.S2048x1 ![] Cert.ReferenceMxIdeal.Gen.bcast_S_S2048x1 (constant Cert.ReferenceMxIdeal.S_ .f32
    0x44800000#32))) (broadcastInDim Cert.ReferenceMxIdeal.S2048x1 ![] Cert.ReferenceMxIdeal.Gen.bcast_S_S2048x1 (constant
    Cert.ReferenceMxIdeal.S_ .f32 0x358637BD#32))

/-- What the norm's scale adds to each row's gradient, per element of the row. -/
def shift (X : FVec Ideal Cert.ReferenceMxIdeal.S1x2048x1024 .f32) (G : FVec Ideal Cert.ReferenceMxIdeal.S1024 .f32)
    (W : FVec Ideal Cert.ReferenceMxIdeal.S1x4352x1024 .f32) (Z : FVec Ideal Cert.ReferenceMxIdeal.S2048x4352 .f32) :
    FVec Ideal Cert.ReferenceMxIdeal.S2048 .f32 :=
  Host.reduceAdd (Host.divf (mulf (shapeCast _ (Host.reduceAdd (mulf (shapeCast _ X
    Cert.ReferenceMxIdeal.Gen.shapeCasts_S1x2048x1024_S2048x1024) (dxh G W Z)) (constant Cert.ReferenceMxIdeal.S_ .f32
    0x00000000#32) Cert.ReferenceMxIdeal.Gen.reducesTo_S2048x1024_S2048_d1 Cert.ReferenceMxIdeal.Gen.h_S_)
    Cert.ReferenceMxIdeal.Gen.shapeCasts_S2048_S2048x1) (mulf (broadcastInDim Cert.ReferenceMxIdeal.S2048x1 ![]
    Cert.ReferenceMxIdeal.Gen.bcast_S_S2048x1 (constant Cert.ReferenceMxIdeal.S_ .f32 0xBF000000#32)) (Host.divf (Host.rsqrt
    (meanSq X)) (meanSq X)))) (broadcastInDim Cert.ReferenceMxIdeal.S2048x1 ![] Cert.ReferenceMxIdeal.Gen.bcast_S_S2048x1
    (constant Cert.ReferenceMxIdeal.S_ .f32 0x44800000#32))) (constant Cert.ReferenceMxIdeal.S_ .f32 0x00000000#32)
    Cert.ReferenceMxIdeal.Gen.reducesTo_S2048x1_S2048_d1 Cert.ReferenceMxIdeal.Gen.h_S_

/-- The gradient of the block's input, as the reference computes it. -/
abbrev gradX (X : FVec Ideal Cert.ReferenceMxIdeal.S1x2048x1024 .f32) (G : FVec Ideal Cert.ReferenceMxIdeal.S1024 .f32)
    (W : FVec Ideal Cert.ReferenceMxIdeal.S1x4352x1024 .f32) (Z : FVec Ideal Cert.ReferenceMxIdeal.S2048x4352 .f32)
    (C : FVec Ideal Cert.ReferenceMxIdeal.S1x2048x1024 .f32) : FVec Ideal Cert.ReferenceMxIdeal.S2048x1024 .f32 :=
  shapeCast _ (addf C (broadcastInDim Cert.ReferenceMxIdeal.S1x2048x1024 ![1, 2]
    Cert.ReferenceMxIdeal.Gen.bcast_S2048x1024_S1x2048x1024_1_2 (addf (addf (mulf (dxh G W Z) (broadcastInDim
    Cert.ReferenceMxIdeal.S2048x1024 ![0, 1] Cert.ReferenceMxIdeal.Gen.bcast_S2048x1_S2048x1024_0_1 (Host.rsqrt (meanSq X))))
    (mulf (shapeCast _ X Cert.ReferenceMxIdeal.Gen.shapeCasts_S1x2048x1024_S2048x1024) (broadcastInDim
    Cert.ReferenceMxIdeal.S2048x1024 ![0] Cert.ReferenceMxIdeal.Gen.bcast_S2048_S2048x1024_0 (shift X G W Z)))) (mulf
    (broadcastInDim Cert.ReferenceMxIdeal.S2048x1024 ![0] Cert.ReferenceMxIdeal.Gen.bcast_S2048_S2048x1024_0 (shift X G W Z))
    (shapeCast _ X Cert.ReferenceMxIdeal.Gen.shapeCasts_S1x2048x1024_S2048x1024)))))
    Cert.ReferenceMxIdeal.Gen.shapeCasts_S1x2048x1024_S2048x1024

/-- The gradient of the gain, as the reference computes it. -/
abbrev gradG (X : FVec Ideal Cert.ReferenceMxIdeal.S1x2048x1024 .f32) (W : FVec Ideal Cert.ReferenceMxIdeal.S1x4352x1024 .f32)
    (Z : FVec Ideal Cert.ReferenceMxIdeal.S2048x4352 .f32) : FVec Ideal Cert.ReferenceMxIdeal.S1x1024 .f32 :=
  broadcastInDim Cert.ReferenceMxIdeal.S1x1024 ![1] Cert.ReferenceMxIdeal.Gen.bcast_S1024_S1x1024_1 (Host.reduceAdd (shapeCast
    _ (Host.reduceAdd (mulf (mulf (shapeCast _ X Cert.ReferenceMxIdeal.Gen.shapeCasts_S1x2048x1024_S2048x1024) (broadcastInDim
    Cert.ReferenceMxIdeal.S2048x1024 ![0, 1] Cert.ReferenceMxIdeal.Gen.bcast_S2048x1_S2048x1024_0_1 (Host.rsqrt (meanSq X))))
    (dxn W Z)) (constant Cert.ReferenceMxIdeal.S_ .f32 0x00000000#32) Cert.ReferenceMxIdeal.Gen.reducesTo_S2048x1024_S1024_d0
    Cert.ReferenceMxIdeal.Gen.h_S_) Cert.ReferenceMxIdeal.Gen.shapeCasts_S1024_S1x1024) (constant Cert.ReferenceMxIdeal.S_ .f32
    0x00000000#32) Cert.ReferenceMxIdeal.Gen.reducesTo_S1x1024_S1024_d0 Cert.ReferenceMxIdeal.Gen.h_S_)

/-- Where each window's block sits at grid point `t`. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_6.index t = ![t.val, 0] ∧ win0_7.index t = ![0, 0] :=
  (by decide +kernel : ∀ t : Fin grid0.N, _)

/-- The kernel's arguments: the rows, the gain, the projection's weight, the projections' gradient, the cotangent. -/
abbrev A0 (c : Dev nD) : FVec Ideal Cert.ReferenceMxIdeal.S1x2048x1024 .f32 := m ((c : Thread nD τ).loc main_arg0)
abbrev A1 (c : Dev nD) : FVec Ideal Cert.ReferenceMxIdeal.S1024 .f32 := m ((c : Thread nD τ).loc main_arg1)
abbrev A2 (c : Dev nD) : FVec Ideal Cert.ReferenceMxIdeal.S1x4352x1024 .f32 := m ((c : Thread nD τ).loc main_arg2)
abbrev A3 (c : Dev nD) : FVec Ideal Cert.ReferenceMxIdeal.S2048x4352 .f32 := m ((c : Thread nD τ).loc main_arg3)
abbrev A4 (c : Dev nD) : FVec Ideal Cert.ReferenceMxIdeal.S1x2048x1024 .f32 := m ((c : Thread nD τ).loc main_arg4)

/-- A row block of the gradient of the normalised rows is the kernel's. -/
theorem dxn_block (c : Dev nD) (t : Fin cfg0.N) (y : S256x1024.Idx) (i : Cert.ReferenceMxIdeal.S2048x1024.Idx)
    (h0 : (i 0).val = t.val * 256 + (y 0).val) (h1 : (i 1).val = (y 1).val) :
    k0_pay3 (iblk m c 0 t) (iblk m c 1 t) y = dxn (A2 m c) (A3 m c) i := by
  pointwise [k0_pay3, dxn]
  blk_point [iblk, V, idx t]

theorem dxn_real {W Z} (hW : ∀ i, IsReal (W i)) (hZ : ∀ i, IsReal (Z i)) (i) :
    IsReal (dxn W Z i) := by
  pointwise [dxn]
  exact IsReal.sum fun k => (hZ _).mul (hW _)

theorem row_lt (t : Fin cfg0.N) (r : Fin 256) : t.val * 256 + r.val < 2048 := by
  have h : t.val < 8 := lt_of_lt_of_eq t.isLt N_0
  omega

/-- Row `r` of the block at grid point `t`. -/
def row (t : Fin cfg0.N) (r : Fin 256) : Fin 2048 := ⟨t.val * 256 + r.val, row_lt t r⟩

theorem emb6 (t : Fin cfg0.N) (y : S256x1024.Idx) : ((cfg0.win 6).blk t).view.emb y = ix2 (row t (y 0)) (y 1) := by
  blk_ext [idx t, row]

theorem x_block (c : Dev nD) (t : Fin cfg0.N) (r : Fin 256) (k : Fin 1024) :
    iblk m c 2 t (ix2 r k) = A0 m c (ix3 0 (row t r) k) := by
  blk_point [iblk, V, idx t, row]

theorem g_block (c : Dev nD) (t : Fin cfg0.N) (k : Fin 1024) : iblk m c 3 t (ix2 0 k) = A1 m c (ix1 k) := by
  blk_point [iblk, V, idx t]

theorem c_block (c : Dev nD) (t : Fin cfg0.N) (r : Fin 256) (k : Fin 1024) :
    iblk m c 4 t (ix2 r k) = A4 m c (ix3 0 (row t r) k) := by
  blk_point [iblk, V, idx t, row]

theorem d_block (c : Dev nD) (t : Fin cfg0.N) (r : Fin 256) (k : Fin 1024) :
    k0_pay3 (iblk m c 0 t) (iblk m c 1 t) (ix2 r k)
      = dxn (A2 m c) (A3 m c) (ix2 (row t r) k) :=
  dxn_block m c t _ _ rfl rfl

/-- The kernel's block of the input's gradient, at one element. -/
theorem pay7_eq (x0 : Vec Ideal S256x4352 .bf16) (x1 : Vec Ideal S1x4352x1024 .bf16) (x2 x4 : Vec Ideal S256x1024 .f32)
    (x3 : Vec Ideal S1x1024 .f32) (r : Fin 256) (j : Fin 1024) (C : EReal) (x d : Fin 1024 → EReal) (hC : x4 (ix2 r j) = C)
    (hx : ∀ k, x2 (ix2 r k) = x k) (hd : ∀ k, k0_pay3 x0 x1 (ix2 r k) * x3 (ix2 0 k) = d k) (v : EReal)
    (hv : v = Ideal.div (∑ k, x k * x k) (Ideal.ofBits .f32 0x44800000#32) + Ideal.ofBits .f32 0x358637BD#32) :
    k0_pay7 x0 x1 x2 x3 x4 (ix2 r j)
    = C + Ideal.rsqrt v * (d j - x j * Ideal.rsqrt v
        * Ideal.div (∑ k, d k * (x k * Ideal.rsqrt v)) (Ideal.ofBits .f32 0x44800000#32)) := by
  subst hv
  obtain rfl := funext hx
  obtain rfl := funext hd
  obtain rfl := hC
  pointwise [k0_pay4, k0_pay5, k0_pay6, k0_pay7]

/-- The reference's, at one element. -/
theorem gradX_eq (X G W Z C) (i : Fin 2048) (j : Fin 1024) (v : EReal)
    (hv : v = Ideal.div (∑ k : Fin 1024, X (ix3 0 i k) * X (ix3 0 i k)) (Ideal.ofBits .f32 0x44800000#32)
      + Ideal.ofBits .f32 0x358637BD#32) :
    gradX X G W Z C (ix2 i j) = C (ix3 0 i j) + ((dxn W Z (ix2 i j) * G (ix1 j)) * Ideal.rsqrt v
      + X (ix3 0 i j) * Ideal.div ((∑ k, X (ix3 0 i k) * (dxn W Z (ix2 i k) * G (ix1 k)))
          * (Ideal.ofBits .f32 0xBF000000#32 * Ideal.div (Ideal.rsqrt v) v)) (Ideal.ofBits .f32 0x44800000#32)
      + Ideal.div ((∑ k, X (ix3 0 i k) * (dxn W Z (ix2 i k) * G (ix1 k)))
          * (Ideal.ofBits .f32 0xBF000000#32 * Ideal.div (Ideal.rsqrt v) v)) (Ideal.ofBits .f32 0x44800000#32)
        * X (ix3 0 i j)) := by
  subst hv
  pointwise [gradX, dxh, meanSq, shift]
  simp only [Fin.sum_univ_one]

theorem point6 (c : Dev nD) (hX : ∀ i, IsReal (A0 m c i)) (hG : ∀ i, IsReal (A1 m c i)) (hW : ∀ i, IsReal (A2 m c i))
    (hZ : ∀ i, IsReal (A3 m c i)) (t : Fin cfg0.N) (y) :
    k0_pay7 (iblk m c 0 t) (iblk m c 1 t) (iblk m c 2 t) (iblk m c 3 t) (iblk m c 4 t) y
    = gradX (A0 m c) (A1 m c) (A2 m c) (A3 m c) (A4 m c) (((cfg0.win 6).blk t).view.emb y) := by
  obtain ⟨r, j, rfl⟩ : ∃ r j, y = ix2 r j := ⟨y 0, y 1, by pointwise⟩
  refine (pay7_eq _ _ _ _ _ r j _ (fun k => A0 m c (ix3 0 (row t r) k)) _ (c_block m c t r j) (x_block m c t r)
    (fun k => congrArg₂ (fun a b : EReal => a * b) (d_block m c t r k) (g_block m c t k)) _ rfl).trans ?_
  refine (congrArg (fun a : EReal => A4 m c (ix3 0 (row t r) j) + a)
    (norm_grad _ _ (fun k => hX _) (fun k => (dxn_real hW hZ _).mul (hG _)) j _ rfl)).trans ?_
  refine Eq.trans ?_ (congrArg (gradX _ _ _ _ _) (emb6 t (ix2 r j)).symm)
  exact (gradX_eq _ _ _ _ _ (row t r) j _ rfl).symm

theorem final6 (c : Dev nD) (hX : ∀ i, IsReal (A0 m c i)) (hG : ∀ i, IsReal (A1 m c i)) (hW : ∀ i, IsReal (A2 m c i))
    (hZ : ∀ i, IsReal (A3 m c i)) : (dats m 0 c).arrAt 6 cfg0.N
    = gradX (A0 m c) (A1 m c) (A2 m c) (A3 m c) (A4 m c) := by
  refine (dats m 0 c).arrAt_eq_of_covers 6 _ (by decide +kernel) fun t _ y => ?_
  blk_simp
  rw [after0_6]
  by_cases h : t.val % 8 = 0
  · rw [outsAt0_A m c t h]; frame_out
    exact point6 m c hX hG hW hZ t y
  · rw [outsAt0_B m c t h]; frame_out
    exact point6 m c hX hG hW hZ t y

/-- What a grid point adds to the gain's gradient. -/
def share (c : Dev nD) (t : Fin cfg0.N) (j : S1x1024.Idx) : EReal :=
  ∑ r : Fin 256, k0_pay3 (iblk m c 0 t) (iblk m c 1 t) (ix2 r (j 1))
    * k0_pay6 (iblk m c 2 t) (ix2 r (j 1))

theorem pay1_eq (c : Dev nD) (t : Fin cfg0.N) (v : Vec Ideal S1x1024 .f32) (j : S1x1024.Idx) :
    k0_pay1 (k0_pay3 (iblk m c 0 t) (iblk m c 1 t)) (k0_pay6 (iblk m c 2 t)) v j
      = v j + share m c t j := by
  pointwise [k0_pay1, share]

theorem pay2_eq (j : S1x1024.Idx) : k0_pay2 (F := Ideal) j = (0 : EReal) := by
  pointwise [k0_pay2]

theorem pay6_eq (x2 : Vec Ideal S256x1024 .f32) (r : Fin 256) (j : Fin 1024) (x : Fin 1024 → EReal)
    (hx : ∀ k, x2 (ix2 r k) = x k) : k0_pay6 x2 (ix2 r j) = x j * Ideal.rsqrt (Ideal.div (∑ k, x k * x k)
      (Ideal.ofBits .f32 0x44800000#32) + Ideal.ofBits .f32 0x358637BD#32) := by
  obtain rfl := funext hx
  pointwise [k0_pay4, k0_pay5, k0_pay6]

/-- The reference's gradient of the gain, at one element. -/
theorem gradG_eq (X W Z) (j : Cert.ReferenceMxIdeal.S1x1024.Idx) : gradG X W Z j = ∑ i : Fin 2048,
    (X (ix3 0 i (j 1)) * Ideal.rsqrt (Ideal.div (∑ k : Fin 1024, X (ix3 0 i k) * X (ix3 0 i k))
      (Ideal.ofBits .f32 0x44800000#32) + Ideal.ofBits .f32 0x358637BD#32)) * dxn W Z (ix2 i (j 1)) := by
  pointwise [gradG, meanSq]
  simp only [Fin.sum_univ_one]

theorem sum_share (c : Dev nD) (j : S1x1024.Idx) : ∑ t, share m c t j = gradG (A0 m c) (A2 m c) (A3 m c) j := by
  rw [gradG_eq]
  unfold share
  refine Fin.sum_mul_add_congr (fun t r hl => ?_) (show 2048 = grid0.N * 256 by rw [N_0])
  exact (congrArg₂ (fun a b : EReal => a * b) (d_block m c t r (j 1)) (pay6_eq _ r (j 1) _ (x_block m c t r))).trans
    (mul_comm (G := EReal) _ _)

theorem final7 (c : Dev nD) : (dats m 0 c).arrAt 7 cfg0.N = gradG (A0 m c) (A2 m c) (A3 m c) := by
  refine (dats m 0 c).arrAt_eq_of_after_last 7 t0_7 (by decide +kernel) _ fun j => ?_
  blk_simp
  rw [after0_7, Pipeline.eq_sum_fin_of_reset_step_apply_last (fun n h => (outsAt0 m c n h).2) 8 (fun _ => 0) (share m c)
    (fun t h j => by rw [outsAt0_A m c t h]; frame_out; rw [pay1_eq, pay2_eq])
    (fun t h j => by rw [outsAt0_B m c t h]; frame_out; rw [pay1_eq])
    (le_of_eq N_0) t0_7 rfl j, zero_add]
  exact sum_share m c j

end Cert.KernelMxIdeal.Input

end
-- ==== Proof.Gate.lean ====
/- The backward of the mixer's merge: the gradients of the gates' pre-activation and bias, of the two branches and of their
   attentions; the kernel goes through the rows in four blocks and adds each block's share to the bias's; against the reference's,
   read at one element. -/
module

public import proofs.«01_k».proof.Proof.Gen.KernelGateIdeal.Value
public import proofs.«01_k».proof.Proof.Gen.ReferenceGateIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelGateIdeal.Branch

open Cert.KernelGateIdeal Cert.KernelGateIdeal.Gen

variable (m : (ℓ : Loc nD τ sig) → Buf (Elt Ideal) ℓ)

/-- The gates, as the reference computes them from the pre-activations `Z` and the bias `B`. -/
abbrev gates (Z : FVec Ideal Cert.ReferenceGateIdeal.S2048x2048 .f32) (B : FVec Ideal Cert.ReferenceGateIdeal.S2048 .f32) :
    FVec Ideal Cert.ReferenceGateIdeal.S2048x2048 .f32 :=
  Host.divf (broadcastInDim Cert.ReferenceGateIdeal.S2048x2048 ![] Cert.ReferenceGateIdeal.Gen.bcast_S_S2048x2048 (constant
    Cert.ReferenceGateIdeal.S_ .f32 0x3F800000#32)) (addf (broadcastInDim Cert.ReferenceGateIdeal.S2048x2048 ![]
    Cert.ReferenceGateIdeal.Gen.bcast_S_S2048x2048 (constant Cert.ReferenceGateIdeal.S_ .f32 0x3F800000#32)) (Host.exp
    (Host.negf (addf Z (broadcastInDim Cert.ReferenceGateIdeal.S2048x2048 ![0, 1]
    Cert.ReferenceGateIdeal.Gen.bcast_S1x2048_S2048x2048_0_1 (broadcastInDim Cert.ReferenceGateIdeal.S1x2048 ![1]
    Cert.ReferenceGateIdeal.Gen.bcast_S2048_S1x2048_1 B))))))

/-- The merged rows' gradient, as the reference computes it from the output weight `O` and the cotangent `C`. -/
def dm (O : FVec Ideal Cert.ReferenceGateIdeal.S1x1024x1024 .f32) (C : FVec Ideal Cert.ReferenceGateIdeal.S1x2048x1024 .f32) :
    FVec Ideal Cert.ReferenceGateIdeal.S2048x1024 .f32 :=
  Host.dotGeneral Cert.ReferenceGateIdeal.dot_S2048x1024_S1024x1024_S2048x1024_1_1_0_0_n_n none (Host.reduceAdd C (constant
    Cert.ReferenceGateIdeal.S_ .f32 0x00000000#32) Cert.ReferenceGateIdeal.Gen.reducesTo_S1x2048x1024_S2048x1024_d0
    Cert.ReferenceGateIdeal.Gen.h_S_) (shapeCast _ O Cert.ReferenceGateIdeal.Gen.shapeCasts_S1x1024x1024_S1024x1024)

/-- The two branches, as the reference computes them from their attentions and weights. -/
abbrev branch0 (P : FVec Ideal Cert.ReferenceGateIdeal.S2048x512 .f32) (W : FVec Ideal Cert.ReferenceGateIdeal.S2x1024x512 .f32) :
    FVec Ideal Cert.ReferenceGateIdeal.S2048x1024 .f32 :=
  Host.dotGeneral Cert.ReferenceGateIdeal.dot_S2048x512_S512x1024_S2048x1024_1_0_0_1_n_n none P (transpose
    Cert.ReferenceGateIdeal.S512x1024 [1, 0] (shapeCast _ (extractStridedSlice Cert.ReferenceGateIdeal.S1x1024x512 ![0, 0, 0]
    W Cert.ReferenceGateIdeal.Gen.slices_S2x1024x512_S1x1024x512_0_0_0)
    Cert.ReferenceGateIdeal.Gen.shapeCasts_S1x1024x512_S1024x512)
    Cert.ReferenceGateIdeal.Gen.transposes_S1024x512_S512x1024_1_0)

abbrev branch1 (Q : FVec Ideal Cert.ReferenceGateIdeal.S2048x512 .f32) (W : FVec Ideal Cert.ReferenceGateIdeal.S2x1024x512 .f32) :
    FVec Ideal Cert.ReferenceGateIdeal.S2048x1024 .f32 :=
  Host.dotGeneral Cert.ReferenceGateIdeal.dot_S2048x512_S512x1024_S2048x1024_1_0_0_1_n_n none Q (transpose
    Cert.ReferenceGateIdeal.S512x1024 [1, 0] (shapeCast _ (extractStridedSlice Cert.ReferenceGateIdeal.S1x1024x512 ![1, 0, 0]
    W Cert.ReferenceGateIdeal.Gen.slices_S2x1024x512_S1x1024x512_1_0_0)
    Cert.ReferenceGateIdeal.Gen.shapeCasts_S1x1024x512_S1024x512)
    Cert.ReferenceGateIdeal.Gen.transposes_S1024x512_S512x1024_1_0)

/-- The gradient of the gates' pre-activation, as the reference computes it, before its last conversion. -/
def dz (Z : FVec Ideal Cert.ReferenceGateIdeal.S2048x2048 .f32) (B : FVec Ideal Cert.ReferenceGateIdeal.S2048 .f32)
    (P Q : FVec Ideal Cert.ReferenceGateIdeal.S2048x512 .f32) (W : FVec Ideal Cert.ReferenceGateIdeal.S2x1024x512 .f32)
    (O : FVec Ideal Cert.ReferenceGateIdeal.S1x1024x1024 .f32) (C : FVec Ideal Cert.ReferenceGateIdeal.S1x2048x1024 .f32) :
    FVec Ideal Cert.ReferenceGateIdeal.S2048x2048 .f32 :=
  mulf (addf (pad Cert.ReferenceGateIdeal.S2048x2048 ![0, 1024] ![0, 0] ![0, 0] (mulf (dm O C) (branch1 Q W)) (constant
    Cert.ReferenceGateIdeal.S_ .f32 0x00000000#32) Cert.ReferenceGateIdeal.Gen.pads_S2048x1024_S2048x2048_000_102400
    Cert.ReferenceGateIdeal.Gen.h_S_) (pad Cert.ReferenceGateIdeal.S2048x2048 ![0, 0] ![0, 1024] ![0, 0] (mulf (dm O C)
    (branch0 P W)) (constant Cert.ReferenceGateIdeal.S_ .f32 0x00000000#32)
    Cert.ReferenceGateIdeal.Gen.pads_S2048x1024_S2048x2048_000_010240 Cert.ReferenceGateIdeal.Gen.h_S_)) (mulf (gates Z B)
    (subf (broadcastInDim Cert.ReferenceGateIdeal.S2048x2048 ![] Cert.ReferenceGateIdeal.Gen.bcast_S_S2048x2048 (constant
    Cert.ReferenceGateIdeal.S_ .f32 0x3F800000#32)) (gates Z B)))

/-- The gradient of the gates' pre-activation. -/
abbrev gradZ (Z : FVec Ideal Cert.ReferenceGateIdeal.S2048x2048 .f32) (B : FVec Ideal Cert.ReferenceGateIdeal.S2048 .f32)
    (P Q : FVec Ideal Cert.ReferenceGateIdeal.S2048x512 .f32) (W : FVec Ideal Cert.ReferenceGateIdeal.S2x1024x512 .f32)
    (O : FVec Ideal Cert.ReferenceGateIdeal.S1x1024x1024 .f32) (C : FVec Ideal Cert.ReferenceGateIdeal.S1x2048x1024 .f32) :
    FVec Ideal Cert.ReferenceGateIdeal.S2048x2048 .bf16 :=
  truncf .bf16 (dz Z B P Q W O C) Cert.ReferenceGateIdeal.Gen.bitsLt_bf16_f32

/-- The gradient of the gates' bias. -/
abbrev gradB (Z : FVec Ideal Cert.ReferenceGateIdeal.S2048x2048 .f32) (B : FVec Ideal Cert.ReferenceGateIdeal.S2048 .f32)
    (P Q : FVec Ideal Cert.ReferenceGateIdeal.S2048x512 .f32) (W : FVec Ideal Cert.ReferenceGateIdeal.S2x1024x512 .f32)
    (O : FVec Ideal Cert.ReferenceGateIdeal.S1x1024x1024 .f32) (C : FVec Ideal Cert.ReferenceGateIdeal.S1x2048x1024 .f32) :
    FVec Ideal Cert.ReferenceGateIdeal.S1x2048 .f32 :=
  broadcastInDim Cert.ReferenceGateIdeal.S1x2048 ![1] Cert.ReferenceGateIdeal.Gen.bcast_S2048_S1x2048_1 (Host.reduceAdd
    (shapeCast _ (Host.reduceAdd (dz Z B P Q W O C) (constant Cert.ReferenceGateIdeal.S_ .f32 0x00000000#32)
    Cert.ReferenceGateIdeal.Gen.reducesTo_S2048x2048_S2048_d0 Cert.ReferenceGateIdeal.Gen.h_S_)
    Cert.ReferenceGateIdeal.Gen.shapeCasts_S2048_S1x2048) (constant Cert.ReferenceGateIdeal.S_ .f32 0x00000000#32)
    Cert.ReferenceGateIdeal.Gen.reducesTo_S1x2048_S2048_d0 Cert.ReferenceGateIdeal.Gen.h_S_)

/-- The gradients of the two branches. -/
abbrev gradA0 (Z : FVec Ideal Cert.ReferenceGateIdeal.S2048x2048 .f32) (B : FVec Ideal Cert.ReferenceGateIdeal.S2048 .f32)
    (O : FVec Ideal Cert.ReferenceGateIdeal.S1x1024x1024 .f32) (C : FVec Ideal Cert.ReferenceGateIdeal.S1x2048x1024 .f32) : FVec Ideal Cert.ReferenceGateIdeal.S2048x1024 .bf16 :=
  truncf .bf16 (mulf (extractStridedSlice Cert.ReferenceGateIdeal.S2048x1024 ![0, 0] (gates Z B)
    Cert.ReferenceGateIdeal.Gen.slices_S2048x2048_S2048x1024_0_0) (dm O C)) Cert.ReferenceGateIdeal.Gen.bitsLt_bf16_f32

abbrev gradA1 (Z : FVec Ideal Cert.ReferenceGateIdeal.S2048x2048 .f32) (B : FVec Ideal Cert.ReferenceGateIdeal.S2048 .f32)
    (O : FVec Ideal Cert.ReferenceGateIdeal.S1x1024x1024 .f32) (C : FVec Ideal Cert.ReferenceGateIdeal.S1x2048x1024 .f32) : FVec Ideal Cert.ReferenceGateIdeal.S2048x1024 .bf16 :=
  truncf .bf16 (mulf (extractStridedSlice Cert.ReferenceGateIdeal.S2048x1024 ![0, 1024] (gates Z B)
    Cert.ReferenceGateIdeal.Gen.slices_S2048x2048_S2048x1024_0_1024) (dm O C)) Cert.ReferenceGateIdeal.Gen.bitsLt_bf16_f32

/-- The gradients of the two attentions. -/
abbrev gradO0 (Z : FVec Ideal Cert.ReferenceGateIdeal.S2048x2048 .f32) (B : FVec Ideal Cert.ReferenceGateIdeal.S2048 .f32)
    (W : FVec Ideal Cert.ReferenceGateIdeal.S2x1024x512 .f32) (O : FVec Ideal Cert.ReferenceGateIdeal.S1x1024x1024 .f32) (C : FVec Ideal Cert.ReferenceGateIdeal.S1x2048x1024 .f32) :
    FVec Ideal Cert.ReferenceGateIdeal.S2048x512 .bf16 :=
  truncf .bf16 (Host.dotGeneral Cert.ReferenceGateIdeal.dot_S2048x1024_S512x1024_S2048x512_1_1_0_0_n_n none (mulf
    (extractStridedSlice Cert.ReferenceGateIdeal.S2048x1024 ![0, 0] (gates Z B)
    Cert.ReferenceGateIdeal.Gen.slices_S2048x2048_S2048x1024_0_0) (dm O C)) (transpose Cert.ReferenceGateIdeal.S512x1024 [1,
    0] (shapeCast _ (extractStridedSlice Cert.ReferenceGateIdeal.S1x1024x512 ![0, 0, 0] W
    Cert.ReferenceGateIdeal.Gen.slices_S2x1024x512_S1x1024x512_0_0_0)
    Cert.ReferenceGateIdeal.Gen.shapeCasts_S1x1024x512_S1024x512)
    Cert.ReferenceGateIdeal.Gen.transposes_S1024x512_S512x1024_1_0)) Cert.ReferenceGateIdeal.Gen.bitsLt_bf16_f32

abbrev gradO1 (Z : FVec Ideal Cert.ReferenceGateIdeal.S2048x2048 .f32) (B : FVec Ideal Cert.ReferenceGateIdeal.S2048 .f32)
    (W : FVec Ideal Cert.ReferenceGateIdeal.S2x1024x512 .f32) (O : FVec Ideal Cert.ReferenceGateIdeal.S1x1024x1024 .f32) (C : FVec Ideal Cert.ReferenceGateIdeal.S1x2048x1024 .f32) :
    FVec Ideal Cert.ReferenceGateIdeal.S2048x512 .bf16 :=
  truncf .bf16 (Host.dotGeneral Cert.ReferenceGateIdeal.dot_S2048x1024_S512x1024_S2048x512_1_1_0_0_n_n none (mulf
    (extractStridedSlice Cert.ReferenceGateIdeal.S2048x1024 ![0, 1024] (gates Z B)
    Cert.ReferenceGateIdeal.Gen.slices_S2048x2048_S2048x1024_0_1024) (dm O C)) (transpose Cert.ReferenceGateIdeal.S512x1024
    [1, 0] (shapeCast _ (extractStridedSlice Cert.ReferenceGateIdeal.S1x1024x512 ![1, 0, 0] W
    Cert.ReferenceGateIdeal.Gen.slices_S2x1024x512_S1x1024x512_1_0_0)
    Cert.ReferenceGateIdeal.Gen.shapeCasts_S1x1024x512_S1024x512)
    Cert.ReferenceGateIdeal.Gen.transposes_S1024x512_S512x1024_1_0)) Cert.ReferenceGateIdeal.Gen.bitsLt_bf16_f32

/-- Where each window's block sits at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![1, 0, 0] ∧ win0_6.index t = ![0, 0, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![0, 0] :=
  (by decide +kernel : ∀ t : Fin grid0.N, _)

/-- The kernel's arguments: the gates' pre-activations and bias, the two attentions, their weights, the output weight, the
    cotangent. -/
abbrev A0 (c : Dev nD) : FVec Ideal Cert.ReferenceGateIdeal.S2048x2048 .f32 := m ((c : Thread nD τ).loc main_arg0)
abbrev A1 (c : Dev nD) : FVec Ideal Cert.ReferenceGateIdeal.S2048 .f32 := m ((c : Thread nD τ).loc main_arg1)
abbrev A2 (c : Dev nD) : FVec Ideal Cert.ReferenceGateIdeal.S2048x512 .f32 := m ((c : Thread nD τ).loc main_arg2)
abbrev A3 (c : Dev nD) : FVec Ideal Cert.ReferenceGateIdeal.S2048x512 .f32 := m ((c : Thread nD τ).loc main_arg3)
abbrev A4 (c : Dev nD) : FVec Ideal Cert.ReferenceGateIdeal.S2x1024x512 .f32 := m ((c : Thread nD τ).loc main_arg4)
abbrev A5 (c : Dev nD) : FVec Ideal Cert.ReferenceGateIdeal.S1x1024x1024 .f32 := m ((c : Thread nD τ).loc main_arg5)
abbrev A6 (c : Dev nD) : FVec Ideal Cert.ReferenceGateIdeal.S1x2048x1024 .f32 := m ((c : Thread nD τ).loc main_arg6)

/-- A gate, and a branch's product, at one element. -/
abbrev gateAt (z b : EReal) : EReal := Ideal.div 1 (1 + Ideal.exp (-(z + b)))

/-- The cotangent's rows, as the kernel is given them. -/
theorem V32 (c : Dev nD) (i : S2048x1024.Idx) : V m c main_v32 i = A6 m c (ix3 0 (i 0) (i 1)) := by
  entry_read
  pointwise

/-- The gates, as the kernel is given them. -/
theorem V33 (c : Dev nD) (i : S2048x2048.Idx) : V m c main_v33 i = gateAt (A0 m c i) (A1 m c (ix1 (i 1))) := by
  entry_read
  pointwise

/-- A column of each half of the gates. -/
def left (j : Fin 1024) : Fin 2048 := ⟨j.val, lt_trans j.isLt (by norm_num)⟩
theorem right_lt (j : Fin 1024) : 1024 + j.val < 2048 := by omega
def right (j : Fin 1024) : Fin 2048 := ⟨1024 + j.val, right_lt j⟩

/-- A branch's product with its gate's derivative. -/
abbrev slope (b g : EReal) : EReal := b * g * (1 - g)

/-- The saved product of the first branch with its gate's derivative. -/
theorem V19 (c : Dev nD) (i : Fin 2048) (j : Fin 1024) : V m c main_v19 (ix2 i j)
    = slope (∑ k : Fin 512, (A2 m c (ix2 i k) : EReal) * A4 m c (ix3 0 j k))
      (gateAt (A0 m c (ix2 i (left j))) (A1 m c (ix1 (left j)))) := by
  entry_read
  pointwise [left]

/-- The saved product of the second branch with its gate's derivative. -/
theorem V30 (c : Dev nD) (i : Fin 2048) (j : Fin 1024) : V m c main_v30 (ix2 i j)
    = slope (∑ k : Fin 512, (A3 m c (ix2 i k) : EReal) * A4 m c (ix3 1 j k))
      (gateAt (A0 m c (ix2 i (right j))) (A1 m c (ix1 (right j)))) := by
  entry_read
  pointwise [right]

theorem row_lt (t : Fin cfg0.N) (r : Fin 512) : t.val * 512 + r.val < 2048 := by
  have h : t.val < 4 := lt_of_lt_of_eq t.isLt N_0
  omega

/-- Row `r` of the block at grid point `t`. -/
def row (t : Fin cfg0.N) (r : Fin 512) : Fin 2048 := ⟨t.val * 512 + r.val, row_lt t r⟩

/-- A row block of the merged rows' gradient is the kernel's. -/
theorem dm_block (c : Dev nD) (t : Fin cfg0.N) (r : Fin 512) (j : Fin 1024) :
    k0_pay9 (iblk m c 0 t) (iblk m c 6 t) (ix2 r j) = dm (A5 m c) (A6 m c) (ix2 (row t r) j) := by
  pointwise [k0_pay8, k0_pay9, dm]
  refine Finset.sum_congr rfl fun k _ => ?_
  rw [Fin.sum_univ_one]
  blk_point [iblk, V, idx t, row]
  all_goals (rw [V32]; blk_point [idx t, row])

theorem regroup (d b g : EReal) : d * b * (g * (1 - g)) = d * slope b g :=
  (mul_assoc _ _ _).trans (congrArg (d * ·) (mul_assoc _ _ _).symm)

/-- A row block of the gates is the kernel's. -/
theorem gate_block (c : Dev nD) (t : Fin cfg0.N) (r : Fin 512) (q : Fin 2048) (j : Fin 2048) (hj : q.val = j.val) :
    iblk m c 1 t (ix2 r q) = gateAt (A0 m c (ix2 (row t r) j)) (A1 m c (ix1 j)) := by
  refine Eq.trans ?_ (V33 m c (ix2 (row t r) j))
  blk_point [iblk, V, idx t, row]

/-- The gates' gradient at one element of each half. -/
theorem dz_left (Z B P Q W O C) (i : Fin 2048) (j : Fin 1024) : dz Z B P Q W O C (ix2 i (left j))
    = dm O C (ix2 i j) * ((∑ k : Fin 512, (P (ix2 i k) : EReal) * W (ix3 0 j k)) * gateAt (Z (ix2 i (left j))) (B (ix1 (left j)))
      * (1 - gateAt (Z (ix2 i (left j))) (B (ix1 (left j))))) := by
  pointwise [dz, left, right]
  rw [dif_neg (by simp), zero_add]
  exact regroup _ _ _

theorem dz_right (Z B P Q W O C) (i : Fin 2048) (j : Fin 1024) : dz Z B P Q W O C (ix2 i (right j))
    = dm O C (ix2 i j) * ((∑ k : Fin 512, (Q (ix2 i k) : EReal) * W (ix3 1 j k)) * gateAt (Z (ix2 i (right j))) (B (ix1 (right j)))
      * (1 - gateAt (Z (ix2 i (right j))) (B (ix1 (right j))))) := by
  pointwise [dz, right]
  exact regroup _ _ _

theorem left_block (c : Dev nD) (t : Fin cfg0.N) (r : Fin 512) (j : Fin 1024) :
    k0_pay12 (iblk m c 0 t) (iblk m c 6 t) (iblk m c 2 t) (ix2 r j)
      = dz (A0 m c) (A1 m c) (A2 m c) (A3 m c) (A4 m c) (A5 m c) (A6 m c) (ix2 (row t r) (left j)) := by
  rw [dz_left, ← dm_block]
  pointwise [k0_pay12]
  refine congrArg (fun x : EReal => _ * x) (Eq.trans ?_ (V19 m c (row t r) j))
  blk_point [iblk, V, idx t, row]

theorem right_block (c : Dev nD) (t : Fin cfg0.N) (r : Fin 512) (j : Fin 1024) :
    k0_pay4 (k0_pay9 (iblk m c 0 t) (iblk m c 6 t)) (iblk m c 3 t) (ix2 r j)
      = dz (A0 m c) (A1 m c) (A2 m c) (A3 m c) (A4 m c) (A5 m c) (A6 m c) (ix2 (row t r) (right j)) := by
  rw [dz_right, ← dm_block]
  pointwise [k0_pay4]
  refine congrArg (fun x : EReal => _ * x) (Eq.trans ?_ (V30 m c (row t r) j))
  blk_point [iblk, V, idx t, row]

/-- A row block of the gates' gradient. -/
def zblock (c : Dev nD) (t : Fin cfg0.N) : Vec Ideal S512x2048 .bf16 := fun y =>
  dz (A0 m c) (A1 m c) (A2 m c) (A3 m c) (A4 m c) (A5 m c) (A6 m c) (ix2 (row t (y 0)) (y 1))

theorem piece_left (c : Dev nD) (t : Fin cfg0.N) (x : S512x1024.Idx) (y : S512x2048.Idx) (h0 : (y 0).val = (x 0).val)
    (h1 : (y 1).val = (x 1).val) : k0_pay13 (iblk m c 0 t) (iblk m c 6 t) (iblk m c 2 t) x = zblock m c t y := by
  obtain ⟨r, j, rfl⟩ : ∃ r j, x = ix2 r j := ⟨x 0, x 1, by pointwise⟩
  refine Eq.trans (left_block m c t r j) ?_
  exact congrArg₂ (fun a b => dz _ _ _ _ _ _ _ (ix2 (row t a) b)) (Fin.ext h0.symm) (Fin.ext h1.symm)

theorem piece_right (c : Dev nD) (t : Fin cfg0.N) (x : S512x1024.Idx) (y : S512x2048.Idx) (h0 : (y 0).val = (x 0).val)
    (h1 : (y 1).val = 1024 + (x 1).val) :
    k0_pay5 (k0_pay9 (iblk m c 0 t) (iblk m c 6 t)) (iblk m c 3 t) x = zblock m c t y := by
  obtain ⟨r, j, rfl⟩ : ∃ r j, x = ix2 r j := ⟨x 0, x 1, by pointwise⟩
  refine Eq.trans (right_block m c t r j) ?_
  exact congrArg₂ (fun a b => dz _ _ _ _ _ _ _ (ix2 (row t a) b)) (Fin.ext h0.symm) (Fin.ext h1.symm)

theorem left9 (c : Dev nD) (t : Fin cfg0.N) : (dats m 0 c).after 9 t = zblock m c t := by
  rw [after0_9]
  by_cases hA : t.val % 4 = 0
  · rw [outsAt0_A m c t hA]; frame_out
    funext y
    canon_tiles x h
    · exact piece_right m c t x y h0 h1
    · exact piece_left m c t x y h0 h1
  · rw [outsAt0_B m c t hA]; frame_out
    funext y
    canon_tiles x h
    · exact piece_right m c t x y h0 h1
    · exact piece_left m c t x y h0 h1

theorem emb9 (t : Fin cfg0.N) (y : S512x2048.Idx) : ((cfg0.win 9).blk t).view.emb y = ix2 (row t (y 0)) (y 1) := by
  blk_ext [idx t, row]

theorem final9 (c : Dev nD) : (dats m 0 c).arrAt 9 cfg0.N
    = gradZ (A0 m c) (A1 m c) (A2 m c) (A3 m c) (A4 m c) (A5 m c) (A6 m c) := by
  refine (dats m 0 c).arrAt_eq_of_covers 9 _ (by decide +kernel) fun t _ y => ?_
  blk_simp
  rw [left9]
  exact (congrArg (dz (A0 m c) (A1 m c) (A2 m c) (A3 m c) (A4 m c) (A5 m c) (A6 m c)) (emb9 t y)).symm

/-- A row block of each branch's gradient. -/
def ablock0 (c : Dev nD) (t : Fin cfg0.N) : Vec Ideal S512x1024 .bf16 := fun y =>
  gradA0 (A0 m c) (A1 m c) (A5 m c) (A6 m c) (ix2 (row t (y 0)) (y 1))
def ablock1 (c : Dev nD) (t : Fin cfg0.N) : Vec Ideal S512x1024 .bf16 := fun y =>
  gradA1 (A0 m c) (A1 m c) (A5 m c) (A6 m c) (ix2 (row t (y 0)) (y 1))

theorem pay10_eq (c : Dev nD) (t : Fin cfg0.N) (g : Vec Ideal S512x1024 .bf16)
    (hg : ∀ r j, g (ix2 r j) = gateAt (A0 m c (ix2 (row t r) (left j))) (A1 m c (ix1 (left j)))) :
    k0_pay10 (iblk m c 0 t) (iblk m c 6 t) g = ablock0 m c t := by
  funext y
  obtain ⟨r, j, rfl⟩ : ∃ r j, y = ix2 r j := ⟨y 0, y 1, by pointwise⟩
  pointwise [k0_pay10, ablock0, gradA0]
  rw [hg, dm_block]
  exact mul_comm (G := EReal) _ _

theorem pay2_eq (c : Dev nD) (t : Fin cfg0.N) (g : Vec Ideal S512x1024 .bf16)
    (hg : ∀ r j, g (ix2 r j) = gateAt (A0 m c (ix2 (row t r) (right j))) (A1 m c (ix1 (right j)))) :
    k0_pay2 (k0_pay9 (iblk m c 0 t) (iblk m c 6 t)) g = ablock1 m c t := by
  funext y
  obtain ⟨r, j, rfl⟩ : ∃ r j, y = ix2 r j := ⟨y 0, y 1, by pointwise⟩
  pointwise [k0_pay2, ablock1, gradA1]
  rw [hg, dm_block]
  exact mul_comm (G := EReal) _ _

theorem left10 (c : Dev nD) (t : Fin cfg0.N) : (dats m 0 c).after 10 t = ablock0 m c t := by
  rw [after0_10]
  by_cases hA : t.val % 4 = 0
  · rw [outsAt0_A m c t hA]; frame_out
    exact pay10_eq m c t _ fun r j => by pointwise; exact gate_block m c t r _ _ rfl
  · rw [outsAt0_B m c t hA]; frame_out
    exact pay10_eq m c t _ fun r j => by pointwise; exact gate_block m c t r _ _ rfl

theorem emb10 (t : Fin cfg0.N) (y : S512x1024.Idx) : ((cfg0.win 10).blk t).view.emb y = ix2 (row t (y 0)) (y 1) := by
  blk_ext [idx t, row]

theorem final10 (c : Dev nD) : (dats m 0 c).arrAt 10 cfg0.N = gradA0 (A0 m c) (A1 m c) (A5 m c) (A6 m c) := by
  refine (dats m 0 c).arrAt_eq_of_covers 10 _ (by decide +kernel) fun t _ y => ?_
  blk_simp
  rw [left10]
  exact (congrArg (gradA0 (A0 m c) (A1 m c) (A5 m c) (A6 m c)) (emb10 t y)).symm

theorem left11 (c : Dev nD) (t : Fin cfg0.N) : (dats m 0 c).after 11 t = ablock1 m c t := by
  rw [after0_11]
  by_cases hA : t.val % 4 = 0
  · rw [outsAt0_A m c t hA]; frame_out
    exact pay2_eq m c t _ fun r j => by pointwise; exact gate_block m c t r _ _ rfl
  · rw [outsAt0_B m c t hA]; frame_out
    exact pay2_eq m c t _ fun r j => by pointwise; exact gate_block m c t r _ _ rfl

theorem emb11 (t : Fin cfg0.N) (y : S512x1024.Idx) : ((cfg0.win 11).blk t).view.emb y = ix2 (row t (y 0)) (y 1) := by
  blk_ext [idx t, row]

theorem final11 (c : Dev nD) : (dats m 0 c).arrAt 11 cfg0.N = gradA1 (A0 m c) (A1 m c) (A5 m c) (A6 m c) := by
  refine (dats m 0 c).arrAt_eq_of_covers 11 _ (by decide +kernel) fun t _ y => ?_
  blk_simp
  rw [left11]
  exact (congrArg (gradA1 (A0 m c) (A1 m c) (A5 m c) (A6 m c)) (emb11 t y)).symm

/-- A row block of each attention's gradient. -/
def oblock (a : Vec Ideal S512x1024 .bf16) (w : Vec Ideal S1x1024x512 .bf16) : Vec Ideal S512x512 .bf16 := fun y =>
  ∑ k : Fin 1024, (a (ix2 (y 0) k) : EReal) * w (ix3 0 k (y 1))

theorem pay11_eq (x0 : Vec Ideal S512x1024 .f32) (x6 : Vec Ideal S1x1024x1024 .bf16) (g : Vec Ideal S512x1024 .bf16)
    (w : Vec Ideal S1x1024x512 .bf16) : k0_pay11 x0 x6 g w = oblock (k0_pay10 x0 x6 g) w := by
  funext y
  pointwise [k0_pay11, oblock]

theorem pay3_eq (d : FVec Ideal S512x1024 .f32) (g : Vec Ideal S512x1024 .bf16) (w : Vec Ideal S1x1024x512 .bf16) :
    k0_pay3 d g w = oblock (k0_pay2 d g) w := by
  funext y
  pointwise [k0_pay3, oblock]

theorem left12 (c : Dev nD) (t : Fin cfg0.N) : (dats m 0 c).after 12 t = oblock (ablock0 m c t) (iblk m c 4 t) := by
  rw [after0_12]
  by_cases hA : t.val % 4 = 0
  · rw [outsAt0_A m c t hA]; frame_out
    rw [pay11_eq, pay10_eq m c t _ fun r j => by pointwise; exact gate_block m c t r _ _ rfl]
  · rw [outsAt0_B m c t hA]; frame_out
    rw [pay11_eq, pay10_eq m c t _ fun r j => by pointwise; exact gate_block m c t r _ _ rfl]

theorem left13 (c : Dev nD) (t : Fin cfg0.N) : (dats m 0 c).after 13 t = oblock (ablock1 m c t) (iblk m c 5 t) := by
  rw [after0_13]
  by_cases hA : t.val % 4 = 0
  · rw [outsAt0_A m c t hA]; frame_out
    rw [pay3_eq, pay2_eq m c t _ fun r j => by pointwise; exact gate_block m c t r _ _ rfl]
  · rw [outsAt0_B m c t hA]; frame_out
    rw [pay3_eq, pay2_eq m c t _ fun r j => by pointwise; exact gate_block m c t r _ _ rfl]

theorem final12 (c : Dev nD) : (dats m 0 c).arrAt 12 cfg0.N = gradO0 (A0 m c) (A1 m c) (A4 m c) (A5 m c) (A6 m c) := by
  refine (dats m 0 c).arrAt_eq_of_covers 12 _ (by decide +kernel) fun t _ y => ?_
  blk_simp
  rw [left12]
  pointwise [oblock, ablock0, gradA0, gradO0]
  blk_point [iblk, V, idx t, row]

theorem final13 (c : Dev nD) : (dats m 0 c).arrAt 13 cfg0.N = gradO1 (A0 m c) (A1 m c) (A4 m c) (A5 m c) (A6 m c) := by
  refine (dats m 0 c).arrAt_eq_of_covers 13 _ (by decide +kernel) fun t _ y => ?_
  blk_simp
  rw [left13]
  pointwise [oblock, ablock1, gradA1, gradO1]
  blk_point [iblk, V, idx t, row]

end Cert.KernelGateIdeal.Branch

end
-- ==== Proof.Merge.lean ====
/- The mixer's merge: the gated sum of the two branches' products and its product with the output weight, added to the rows; the
   kernel's, block of rows by block, against the reference's, read at one element. -/
module

public import proofs.«01_k».proof.Proof.Gen.KernelMergeIdeal.Value
public import proofs.«01_k».proof.Proof.Gen.ReferenceMergeIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelMergeIdeal.Product

open Cert.KernelMergeIdeal Cert.KernelMergeIdeal.Gen

variable (m : (ℓ : Loc nD τ sig) → Buf (Elt Ideal) ℓ)

/-- The gates, as the reference computes them from the pre-activations `Z` and the bias `B`. -/
abbrev gates (Z : FVec Ideal Cert.ReferenceMergeIdeal.S2048x2048 .f32) (B : FVec Ideal Cert.ReferenceMergeIdeal.S2048 .f32) :
    FVec Ideal Cert.ReferenceMergeIdeal.S2048x2048 .f32 :=
  Host.divf (broadcastInDim Cert.ReferenceMergeIdeal.S2048x2048 ![] Cert.ReferenceMergeIdeal.Gen.bcast_S_S2048x2048 (constant
    Cert.ReferenceMergeIdeal.S_ .f32 0x3F800000#32)) (addf (broadcastInDim Cert.ReferenceMergeIdeal.S2048x2048 ![]
    Cert.ReferenceMergeIdeal.Gen.bcast_S_S2048x2048 (constant Cert.ReferenceMergeIdeal.S_ .f32 0x3F800000#32)) (Host.exp
    (Host.negf (addf Z (broadcastInDim Cert.ReferenceMergeIdeal.S2048x2048 ![0, 1]
    Cert.ReferenceMergeIdeal.Gen.bcast_S1x2048_S2048x2048_0_1 (broadcastInDim Cert.ReferenceMergeIdeal.S1x2048 ![1]
    Cert.ReferenceMergeIdeal.Gen.bcast_S2048_S1x2048_1 B))))))

/-- The gated sum of the two branches' products, as the reference computes it from the gates' `Z` and `B`, the branches' `P` and
    `Q` and their weights `W`. -/
def mixed (Z : FVec Ideal Cert.ReferenceMergeIdeal.S2048x2048 .f32) (B : FVec Ideal Cert.ReferenceMergeIdeal.S2048 .f32)
    (P Q : FVec Ideal Cert.ReferenceMergeIdeal.S2048x512 .f32) (W : FVec Ideal Cert.ReferenceMergeIdeal.S2x1024x512 .f32) :
    FVec Ideal Cert.ReferenceMergeIdeal.S2048x1024 .f32 :=
  addf (mulf (extractStridedSlice
    Cert.ReferenceMergeIdeal.S2048x1024 ![0, 0] (gates Z B) Cert.ReferenceMergeIdeal.Gen.slices_S2048x2048_S2048x1024_0_0)
    (Host.dotGeneral Cert.ReferenceMergeIdeal.dot_S2048x512_S512x1024_S2048x1024_1_0_0_1_n_n none P (transpose
    Cert.ReferenceMergeIdeal.S512x1024 [1, 0] (shapeCast _ (extractStridedSlice Cert.ReferenceMergeIdeal.S1x1024x512 ![0, 0,
    0] W Cert.ReferenceMergeIdeal.Gen.slices_S2x1024x512_S1x1024x512_0_0_0)
    Cert.ReferenceMergeIdeal.Gen.shapeCasts_S1x1024x512_S1024x512)
    Cert.ReferenceMergeIdeal.Gen.transposes_S1024x512_S512x1024_1_0))) (mulf (extractStridedSlice
    Cert.ReferenceMergeIdeal.S2048x1024 ![0, 1024] (gates Z B)
    Cert.ReferenceMergeIdeal.Gen.slices_S2048x2048_S2048x1024_0_1024) (Host.dotGeneral
    Cert.ReferenceMergeIdeal.dot_S2048x512_S512x1024_S2048x1024_1_0_0_1_n_n none Q (transpose
    Cert.ReferenceMergeIdeal.S512x1024 [1, 0] (shapeCast _ (extractStridedSlice Cert.ReferenceMergeIdeal.S1x1024x512 ![1, 0,
    0] W Cert.ReferenceMergeIdeal.Gen.slices_S2x1024x512_S1x1024x512_1_0_0)
    Cert.ReferenceMergeIdeal.Gen.shapeCasts_S1x1024x512_S1024x512)
    Cert.ReferenceMergeIdeal.Gen.transposes_S1024x512_S512x1024_1_0)))

/-- The mixer's result, as the reference computes it from the rows `X`, the gated sum of the branches and the output weight `O`. -/
abbrev merge (X : FVec Ideal Cert.ReferenceMergeIdeal.S1x2048x1024 .f32) (Z : FVec Ideal Cert.ReferenceMergeIdeal.S2048x2048 .f32)
    (B : FVec Ideal Cert.ReferenceMergeIdeal.S2048 .f32) (P Q : FVec Ideal Cert.ReferenceMergeIdeal.S2048x512 .f32)
    (W : FVec Ideal Cert.ReferenceMergeIdeal.S2x1024x512 .f32) (O : FVec Ideal Cert.ReferenceMergeIdeal.S1x1024x1024 .f32) :
    FVec Ideal Cert.ReferenceMergeIdeal.S2048x1024 .f32 :=
  shapeCast _ (addf X (broadcastInDim Cert.ReferenceMergeIdeal.S1x2048x1024 ![1, 2]
    Cert.ReferenceMergeIdeal.Gen.bcast_S2048x1024_S1x2048x1024_1_2 (Host.dotGeneral
    Cert.ReferenceMergeIdeal.dot_S2048x1024_S1024x1024_S2048x1024_1_0_0_1_n_n none (mixed Z B P Q W) (shapeCast _ O
    Cert.ReferenceMergeIdeal.Gen.shapeCasts_S1x1024x1024_S1024x1024))))
    Cert.ReferenceMergeIdeal.Gen.shapeCasts_S1x2048x1024_S2048x1024

/-- A gate at one element. -/
abbrev gateAt (z b : EReal) : EReal := Ideal.div 1 (1 + Ideal.exp (-(z + b)))

/-- A column of each half of the gates. -/
def left (j : Fin 1024) : Fin 2048 := ⟨j.val, lt_trans j.isLt (by norm_num)⟩
theorem right_lt (j : Fin 1024) : 1024 + j.val < 2048 := by omega
def right (j : Fin 1024) : Fin 2048 := ⟨1024 + j.val, right_lt j⟩

theorem mixed_eq (Z B P Q W) (i : Fin 2048) (j : Fin 1024) : mixed Z B P Q W (ix2 i j)
    = gateAt (Z (ix2 i (left j))) (B (ix1 (left j))) * (∑ k : Fin 512, (P (ix2 i k) : EReal) * W (ix3 0 j k))
      + gateAt (Z (ix2 i (right j))) (B (ix1 (right j))) * ∑ k : Fin 512, (Q (ix2 i k) : EReal) * W (ix3 1 j k) := by
  pointwise [mixed, left, right]

/-- The kernel's gated sum at one element of a block of rows. -/
theorem pay8_eq (x1 x2 : Vec Ideal S512x512 .bf16) (x4 x5 : Vec Ideal S1x1024x512 .bf16) (g d : Vec Ideal S512x1024 .bf16)
    (r : Fin 512) (j : Fin 1024) : k0_pay8 x1 x4 x2 x5 g d (ix2 r j)
    = (g (ix2 r j) : EReal) * (∑ k : Fin 512, (x1 (ix2 r k) : EReal) * x4 (ix3 0 j k))
      + (d (ix2 r j) : EReal) * ∑ k : Fin 512, (x2 (ix2 r k) : EReal) * x5 (ix3 0 j k) := by
  pointwise [k0_pay8, k0_pay2, k0_pay3, k0_pay4, k0_pay5]

/-- Where each window's block sits at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![1, 0, 0] ∧ win0_6.index t = ![0, 0, 0]
    ∧ win0_7.index t = ![t.val, 0] :=
  (by decide +kernel : ∀ t : Fin grid0.N, _)

/-- The rows, as the kernel is given them. -/
theorem V1 (c : Dev nD) (i : S2048x1024.Idx) :
    V m c main_v1 i = m ((c : Thread nD τ).loc main_arg0) (ix3 0 (i 0) (i 1)) := by
  entry_read
  pointwise

/-- The gates' pre-activations and bias. -/
abbrev A1 (c : Dev nD) : FVec Ideal Cert.ReferenceMergeIdeal.S2048x2048 .f32 := m ((c : Thread nD τ).loc main_arg1)
abbrev A2 (c : Dev nD) : FVec Ideal Cert.ReferenceMergeIdeal.S2048 .f32 := m ((c : Thread nD τ).loc main_arg2)

/-- The gates, as the kernel is given them. -/
theorem V13 (c : Dev nD) (i : S2048x2048.Idx) : V m c main_v13 i = gateAt (A1 m c i) (A2 m c (ix1 (i 1))) := by
  entry_read
  pointwise

theorem gate_block (c : Dev nD) (t : Fin cfg0.N) (r : Fin 512) (q : Fin 2048) (i : Fin 2048)
    (hi : i.val = t.val * 512 + r.val) (j : Fin 2048) (hj : q.val = j.val) :
    iblk m c 3 t (ix2 r q) = gateAt (A1 m c (ix2 i j)) (A2 m c (ix1 j)) := by
  refine Eq.trans ?_ (V13 m c (ix2 i j))
  blk_point [iblk, V, idx t]

theorem final7 (c : Dev nD) : (dats m 0 c).arrAt 7 cfg0.N
    = merge (m ((c : Thread nD τ).loc main_arg0)) (A1 m c) (A2 m c)
      (m ((c : Thread nD τ).loc main_arg3)) (m ((c : Thread nD τ).loc main_arg4)) (m ((c : Thread nD τ).loc main_arg5))
      (m ((c : Thread nD τ).loc main_arg6)) := by
  refine (dats m 0 c).arrAt_eq_of_covers 7 _ (by decide +kernel) fun t _ y => ?_
  blk_simp
  rw [after0_7]; unfold_out out0_7; frame_out
  pointwise [k0_pay1, merge]
  refine congrArg₂ (fun a b : EReal => a + b) (Eq.trans ?_ (V1 m c (((cfg0.win 7).blk t).view.emb y)))
    (Finset.sum_congr rfl fun k _ => congrArg₂ (fun a b : EReal => a * b)
    ((pay8_eq _ _ _ _ _ _ (y 0) k).trans (Eq.trans (congrArg₂ (fun a b : EReal => a + b)
      (congrArg₂ (fun a b : EReal => a * b) ?_ ?_) (congrArg₂ (fun a b : EReal => a * b) ?_ ?_))
      (mixed_eq _ _ _ _ _ _ k).symm)) ?_)
  · blk_point [iblk, V, idx t]
  · pointwise [r0_2]
    exact gate_block m c t _ _ _ (by blk_simp [idx t]) (left k) (by simp [left])
  · blk_point [iblk, V, idx t]
  · pointwise [r0_3]
    exact gate_block m c t _ _ _ (by blk_simp [idx t]) (right k) (by simp [right])
  · blk_point [iblk, V, idx t]
  · blk_point [iblk, V, idx t]

end Cert.KernelMergeIdeal.Product

end
-- ==== Proof.Up.lean ====
/- The feed-forward block's first products: the gated activation that the kernel stores in eleven column tiles, against the
   reference's, read at one element. -/
module

public import proofs.«01_k».proof.Proof.Gen.KernelUpIdeal.Value
public import proofs.«01_k».proof.Proof.Gen.ReferenceUpIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelUpIdeal.Tile

open Cert.KernelUpIdeal Cert.KernelUpIdeal.Gen

variable (m : (ℓ : Loc nD τ sig) → Buf (Elt Ideal) ℓ)

/-- The gated activation of a block of normalised rows `X`. -/
def act (X : Vec Ideal S512x1024 .bf16) (wg wu : Vec Ideal S1x2816x1024 .bf16) : Vec Ideal S512x2816 .bf16 := fun y =>
  (∑ k : Fin 1024, X (ix2 (y 0) k) * wg (ix3 0 (y 1) k))
    * Ideal.div 1 (1 + Ideal.exp (0 - ∑ k : Fin 1024, X (ix2 (y 0) k) * wg (ix3 0 (y 1) k)))
    * ∑ k : Fin 1024, X (ix2 (y 0) k) * wu (ix3 0 (y 1) k)

theorem pay3_eq (x0 : Vec Ideal S512x1024 .f32) (x1 w) : k0_pay3 x0 x1 w = k0_pay10 (k0_pay2 x0 x1) w := rfl
theorem pay4_eq (x0 : Vec Ideal S512x1024 .f32) (x1 w) : k0_pay4 x0 x1 w = k0_pay11 (k0_pay2 x0 x1) w := rfl
theorem pay6_eq (x0 : Vec Ideal S512x1024 .f32) (x1 w) : k0_pay6 x0 x1 w = k0_pay13 (k0_pay2 x0 x1) w := rfl

theorem left8 (c : Dev nD) (t : Fin cfg0.N) : (dats m 0 c).after 8 t
    = act (k0_pay2 (iblk m c 0 t) (iblk m c 1 t)) (iblk m c 2 t) (iblk m c 3 t) := by
  rw [after0_8]; unfold_out out0_8; frame_out
  try rw [pay4_eq]
  try rw [pay6_eq]
  funext y
  generalize k0_pay2 (iblk m c 0 t) (iblk m c 1 t) = X
  generalize iblk m c 2 t = wg
  generalize iblk m c 3 t = wu
  canon_tiles x h
  all_goals (open_payloads; pointwise [act]; blk_point [])

/-- Where each window's block sits at grid point `t`. -/
theorem idx : ∀ t : Fin cfg0.N, win0_0.index t = ![t.val, 0] ∧ win0_1.index t = ![0, 0] ∧ win0_2.index t = ![0, 0, 0]
    ∧ win0_3.index t = ![1, 0, 0] ∧ win0_8.index t = ![t.val, 0] :=
  (by decide +kernel : ∀ t : Fin grid0.N, _)

/-- The rows, as the kernel is given them. -/
theorem V1 (c : Dev nD) (i : S2048x1024.Idx) :
    V m c main_v1 i = m ((c : Thread nD τ).loc main_arg0) (ix3 0 (i 0) (i 1)) := by
  entry_read
  pointwise

/-- The gain, as the kernel is given it. -/
theorem V2 (c : Dev nD) (i : S1x1024.Idx) :
    V m c main_v2 i = m ((c : Thread nD τ).loc main_arg1) (ix1 (i 1)) := by
  entry_read
  pointwise

/-- The normalised rows, as the reference computes them. -/
abbrev norm (X : FVec Ideal Cert.ReferenceUpIdeal.S1x2048x1024 .f32) (G : FVec Ideal Cert.ReferenceUpIdeal.S1024 .f32) :
    FVec Ideal Cert.ReferenceUpIdeal.S2048x1024 .f32 :=
  mulf (mulf (shapeCast _ X Cert.ReferenceUpIdeal.Gen.shapeCasts_S1x2048x1024_S2048x1024) (broadcastInDim
    Cert.ReferenceUpIdeal.S2048x1024 ![0, 1] Cert.ReferenceUpIdeal.Gen.bcast_S2048x1_S2048x1024_0_1 (Host.rsqrt (addf
    (Host.divf (broadcastInDim Cert.ReferenceUpIdeal.S2048x1 ![0] Cert.ReferenceUpIdeal.Gen.bcast_S2048_S2048x1_0
    (Host.reduceAdd (mulf (shapeCast _ X Cert.ReferenceUpIdeal.Gen.shapeCasts_S1x2048x1024_S2048x1024) (shapeCast _ X
    Cert.ReferenceUpIdeal.Gen.shapeCasts_S1x2048x1024_S2048x1024)) (constant Cert.ReferenceUpIdeal.S_ .f32 0x00000000#32)
    Cert.ReferenceUpIdeal.Gen.reducesTo_S2048x1024_S2048_d1 Cert.ReferenceUpIdeal.Gen.h_S_)) (broadcastInDim
    Cert.ReferenceUpIdeal.S2048x1 ![] Cert.ReferenceUpIdeal.Gen.bcast_S_S2048x1 (constant Cert.ReferenceUpIdeal.S_ .f32
    0x44800000#32))) (broadcastInDim Cert.ReferenceUpIdeal.S2048x1 ![] Cert.ReferenceUpIdeal.Gen.bcast_S_S2048x1 (constant
    Cert.ReferenceUpIdeal.S_ .f32 0x358637BD#32)))))) (broadcastInDim Cert.ReferenceUpIdeal.S2048x1024 ![0, 1]
    Cert.ReferenceUpIdeal.Gen.bcast_S1x1024_S2048x1024_0_1 (broadcastInDim Cert.ReferenceUpIdeal.S1x1024 ![1]
    Cert.ReferenceUpIdeal.Gen.bcast_S1024_S1x1024_1 G))

/-- A product of the normalised rows `H` with one of the two stacked weights, as the reference computes it. -/
abbrev gatePre (H : FVec Ideal Cert.ReferenceUpIdeal.S2048x1024 .f32) (W : FVec Ideal Cert.ReferenceUpIdeal.S3x2816x1024 .f32) :
    FVec Ideal Cert.ReferenceUpIdeal.S2048x2816 .f32 :=
  Host.dotGeneral Cert.ReferenceUpIdeal.dot_S2048x1024_S1024x2816_S2048x2816_1_0_0_1_n_n none H (transpose
    Cert.ReferenceUpIdeal.S1024x2816 [1, 0] (shapeCast _ (extractStridedSlice Cert.ReferenceUpIdeal.S1x2816x1024 ![0, 0, 0] W
    Cert.ReferenceUpIdeal.Gen.slices_S3x2816x1024_S1x2816x1024_0_0_0)
    Cert.ReferenceUpIdeal.Gen.shapeCasts_S1x2816x1024_S2816x1024)
    Cert.ReferenceUpIdeal.Gen.transposes_S2816x1024_S1024x2816_1_0)

abbrev upPre (H : FVec Ideal Cert.ReferenceUpIdeal.S2048x1024 .f32) (W : FVec Ideal Cert.ReferenceUpIdeal.S3x2816x1024 .f32) :
    FVec Ideal Cert.ReferenceUpIdeal.S2048x2816 .f32 :=
  Host.dotGeneral Cert.ReferenceUpIdeal.dot_S2048x1024_S1024x2816_S2048x2816_1_0_0_1_n_n none H (transpose
    Cert.ReferenceUpIdeal.S1024x2816 [1, 0] (shapeCast _ (extractStridedSlice Cert.ReferenceUpIdeal.S1x2816x1024 ![1, 0, 0] W
    Cert.ReferenceUpIdeal.Gen.slices_S3x2816x1024_S1x2816x1024_1_0_0)
    Cert.ReferenceUpIdeal.Gen.shapeCasts_S1x2816x1024_S2816x1024)
    Cert.ReferenceUpIdeal.Gen.transposes_S2816x1024_S1024x2816_1_0)

/-- The gated activation, as the reference computes it. -/
abbrev up (X : FVec Ideal Cert.ReferenceUpIdeal.S1x2048x1024 .f32) (G : FVec Ideal Cert.ReferenceUpIdeal.S1024 .f32)
    (W : FVec Ideal Cert.ReferenceUpIdeal.S3x2816x1024 .f32) : FVec Ideal Cert.ReferenceUpIdeal.S2048x2816 .bf16 :=
  truncf .bf16 (mulf (mulf (gatePre (norm X G) W) (Host.divf (broadcastInDim Cert.ReferenceUpIdeal.S2048x2816 ![]
    Cert.ReferenceUpIdeal.Gen.bcast_S_S2048x2816 (constant Cert.ReferenceUpIdeal.S_ .f32 0x3F800000#32)) (addf (broadcastInDim
    Cert.ReferenceUpIdeal.S2048x2816 ![] Cert.ReferenceUpIdeal.Gen.bcast_S_S2048x2816 (constant Cert.ReferenceUpIdeal.S_ .f32
    0x3F800000#32)) (Host.exp (Host.negf (gatePre (norm X G) W)))))) (upPre (norm X G) W))
    Cert.ReferenceUpIdeal.Gen.bitsLt_bf16_f32

theorem point8 (c : Dev nD) (t : Fin cfg0.N) (y) :
    act (k0_pay2 (iblk m c 0 t) (iblk m c 1 t)) (iblk m c 2 t) (iblk m c 3 t) y
    = up (m ((c : Thread nD τ).loc main_arg0)) (m ((c : Thread nD τ).loc main_arg1)) (m ((c : Thread nD τ).loc main_arg2))
      (((cfg0.win 8).blk t).view.emb y) := by
  pointwise [k0_pay2, act, up]
  blk_point [iblk, V, idx t]
  refine congrArg Ideal.exp ((zero_sub (G := EReal) _).trans (congrArg Neg.neg ?_))
  blk_point [iblk, V, idx t]
  all_goals first
    | (rw [V1]; blk_point [idx t])
    | (rw [V2]; blk_point [idx t])

theorem final8 (c : Dev nD) : (dats m 0 c).arrAt 8 cfg0.N
    = up (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [left8]
  exact point8 m c t y

end Cert.KernelUpIdeal.Tile

end
-- ==== Proof.Down.lean ====
/- The feed-forward block's second product and its residual sum: the kernel's, block of rows by block, against the reference's, read
   at one element. -/
module

public import proofs.«01_k».proof.Proof.Gen.KernelDownIdeal.Value
public import proofs.«01_k».proof.Proof.Gen.ReferenceDownIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelDownIdeal.Product

open Cert.KernelDownIdeal Cert.KernelDownIdeal.Gen

variable (m : (ℓ : Loc nD τ sig) → Buf (Elt Ideal) ℓ)

/-- The block's result, as the reference computes it from the rows `X`, the activation `A` and the stacked weights `W`. -/
abbrev down (X : FVec Ideal Cert.ReferenceDownIdeal.S1x2048x1024 .f32) (A : FVec Ideal Cert.ReferenceDownIdeal.S2048x2816 .f32)
    (W : FVec Ideal Cert.ReferenceDownIdeal.S3x2816x1024 .f32) : FVec Ideal Cert.ReferenceDownIdeal.S2048x1024 .f32 :=
  shapeCast _ (addf X (broadcastInDim Cert.ReferenceDownIdeal.S1x2048x1024 ![1, 2]
    Cert.ReferenceDownIdeal.Gen.bcast_S2048x1024_S1x2048x1024_1_2 (mulf (broadcastInDim Cert.ReferenceDownIdeal.S2048x1024 ![]
    Cert.ReferenceDownIdeal.Gen.bcast_S_S2048x1024 (constant Cert.ReferenceDownIdeal.S_ .f32 0x3F000000#32)) (Host.dotGeneral
    Cert.ReferenceDownIdeal.dot_S2048x2816_S2816x1024_S2048x1024_1_0_0_1_n_n none A (shapeCast _ (extractStridedSlice
    Cert.ReferenceDownIdeal.S1x2816x1024 ![2, 0, 0] W Cert.ReferenceDownIdeal.Gen.slices_S3x2816x1024_S1x2816x1024_2_0_0)
    Cert.ReferenceDownIdeal.Gen.shapeCasts_S1x2816x1024_S2816x1024)))))
    Cert.ReferenceDownIdeal.Gen.shapeCasts_S1x2048x1024_S2048x1024

/-- Where each window's block sits at grid point `t`. -/
theorem idx : ∀ t : Fin cfg0.N, win0_0.index t = ![t.val, 0] ∧ win0_1.index t = ![t.val, 0] ∧ win0_2.index t = ![2, 0, 0]
    ∧ win0_4.index t = ![t.val, 0] :=
  (by decide +kernel : ∀ t : Fin grid0.N, _)

theorem point4 (c : Dev nD) (t : Fin cfg0.N) (y) : k0_pay1 (iblk m c 0 t) (iblk m c 1 t) (iblk m c 2 t) y
    = down (m ((c : Thread nD τ).loc main_arg0)) (m ((c : Thread nD τ).loc main_arg1)) (m ((c : Thread nD τ).loc main_arg2))
      (((cfg0.win 4).blk t).view.emb y) := by
  pointwise [k0_pay1, down]
  blk_point [iblk, V, idx t]

theorem final4 (c : Dev nD) : (dats m 0 c).arrAt 4 cfg0.N
    = down (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point4 m c t y

end Cert.KernelDownIdeal.Product

end
-- ==== Proof.Loss.lean ====
/- The last feed-forward block's forward call with the loss: the gradient of the loss in the block's result, and the partial sums
   of the squared error, to which the kernel adds each row block's share; against the reference's, read at one element. -/
module

public import proofs.«01_k».proof.Proof.Half
public import proofs.«01_k».proof.Proof.Gen.KernelLossIdeal.Value
public import proofs.«01_k».proof.Proof.Gen.ReferenceLossIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Proof

namespace Cert.KernelLossIdeal.Tile

open Cert.KernelLossIdeal Cert.KernelLossIdeal.Gen

variable (m : (ℓ : Loc nD τ sig) → Buf (Elt Ideal) ℓ)

/-- A load of a whole buffer reads what the stores left. -/
theorem readCov_whole {sp : Space} {κ : Kind} {sig : RefSig} {S : Shape} {e : EltTy} (v : View sig κ sp S e)
    {off : Fin S.rank → Nat} (inb : ∀ a, off a + S.size a ≤ S.size a) (L : List (View.Piece (Elt Ideal) S e)) (h : ∀ a, off a = 0) :
    v.readCov L (Rect.unit off (no_index S.size) inb).toLoadRect = View.canon L := by
  obtain rfl := View.eq_zero_of_forall h
  rw [View.readCov_eq_canon']
  funext j
  show View.canon L ((Rect.whole S).emb j) = View.canon L j
  rw [Rect.emb_whole_apply]

/-- The gated activation of a block of normalised rows `X`. -/
def act (X : Vec Ideal S256x1024 .bf16) (wg wu : Vec Ideal S1x2816x1024 .bf16) : Vec Ideal S256x2816 .bf16 := fun y =>
  (∑ k : Fin 1024, X (ix2 (y 0) k) * wg (ix3 0 (y 1) k))
    * Ideal.div 1 (1 + Ideal.exp (0 - ∑ k : Fin 1024, X (ix2 (y 0) k) * wg (ix3 0 (y 1) k)))
    * ∑ k : Fin 1024, X (ix2 (y 0) k) * wu (ix3 0 (y 1) k)

theorem pay8_eq (x0 : Vec Ideal S256x1024 .f32) (x1 w wu) : k0_pay10 (k0_pay5 x0 x1 wu) (k0_pay7 x0 x1 w)
    = k0_pay17 (k0_pay3 x0 x1) w wu := rfl

/-- The activation of the rows of grid point `t`. -/
abbrev actOf (c : Dev nD) (t : Fin cfg0.N) : Vec Ideal S256x2816 .bf16 :=
  act (k0_pay3 (iblk m c 0 t) (iblk m c 1 t)) (iblk m c 2 t) (iblk m c 3 t)

/-- The error of the rows of grid point `t`. -/
abbrev block (c : Dev nD) (t : Fin cfg0.N) : FVec Ideal S256x1024 .f32 :=
  k0_pay85 (k0_pay2 (iblk m c 0 t)) (actOf m c t) (iblk m c 4 t) (iblk m c 6 t)

/-- A row block's share of the partial sums. -/
abbrev share (c : Dev nD) (t : Fin cfg0.N) : FVec Ideal S8x128 .f32 :=
  k0_pay87 (k0_pay2 (iblk m c 0 t)) (actOf m c t) (iblk m c 4 t) (iblk m c 6 t)

theorem left7 (c : Dev nD) (t : Fin cfg0.N) : (dats m 0 c).after 7 t
    = k0_pay86 (k0_pay2 (iblk m c 0 t)) (actOf m c t) (iblk m c 4 t) (iblk m c 6 t) := by
  rw [after0_7]
  by_cases hA : t.val % 8 = 0
  · rw [outsAt0_A m c t hA]; frame_out
    rw [readCov_whole _ _ _ (by decide), pay8_eq]
    refine congrArg (fun a => k0_pay86 _ a _ _) (funext fun y => ?_)
    unfold actOf
    generalize k0_pay3 (iblk m c 0 t) (iblk m c 1 t) = X
    generalize iblk m c 2 t = wg
    generalize iblk m c 3 t = wu
    canon_tiles x h
    all_goals (open_payloads; pointwise [act]; blk_point [])
  · rw [outsAt0_B m c t hA]; frame_out
    rw [readCov_whole _ _ _ (by decide), pay8_eq]
    refine congrArg (fun a => k0_pay86 _ a _ _) (funext fun y => ?_)
    unfold actOf
    generalize k0_pay3 (iblk m c 0 t) (iblk m c 1 t) = X
    generalize iblk m c 2 t = wg
    generalize iblk m c 3 t = wu
    canon_tiles x h
    all_goals (open_payloads; pointwise [act]; blk_point [])

theorem pay84_eq (j : S8x128.Idx) : k0_pay84 (F := Ideal) j = (0 : EReal) := by
  pointwise [k0_pay84]

theorem pay1_eq (d : FVec Ideal S8x128 .f32) (v : Vec Ideal S8x128 .f32) (x : S8x128.Idx) :
    k0_pay1 d v x = (v x : EReal) + d x := by
  pointwise [k0_pay1]

theorem start (c : Dev nD) (t : Fin cfg0.N) (hA : t.val % 8 = 0) (j : S8x128.Idx) :
    (outsAt0 m c t.val t.isLt).2.1 j = (0 : EReal) + share m c t j := by
  rw [outsAt0_A m c t hA]; frame_out
  rw [readCov_whole _ _ _ (by decide), pay8_eq]
  refine (pay1_eq _ _ j).trans ?_
  refine congrArg₂ (fun a b : EReal => a + b) ?_ (congrArg (fun a => k0_pay87 _ a _ _ j) (funext fun y => ?_))
  · exact pay84_eq j
  unfold actOf
  generalize k0_pay3 (iblk m c 0 t) (iblk m c 1 t) = X
  generalize iblk m c 2 t = wg
  generalize iblk m c 3 t = wu
  canon_tiles x h
  all_goals (open_payloads; pointwise [act]; blk_point [])

theorem step (c : Dev nD) (t : Fin cfg0.N) (hA : ¬t.val % 8 = 0) (j : S8x128.Idx) :
    (outsAt0 m c t.val t.isLt).2.1 j
      = ((outsAt0 m c (t.val - 1) (Nat.lt_of_le_of_lt (Nat.sub_le _ _) t.isLt)).2.1 j : EReal) + share m c t j := by
  rw [outsAt0_B m c t hA]; frame_out
  rw [readCov_whole _ _ _ (by decide), pay8_eq]
  refine (pay1_eq _ _ j).trans ?_
  refine congrArg₂ (fun a b : EReal => a + b) rfl (congrArg (fun a => k0_pay87 _ a _ _ j) (funext fun y => ?_))
  unfold actOf
  generalize k0_pay3 (iblk m c 0 t) (iblk m c 1 t) = X
  generalize iblk m c 2 t = wg
  generalize iblk m c 3 t = wu
  canon_tiles x h
  all_goals (open_payloads; pointwise [act]; blk_point [])

/-- Where each window's block sits at grid point `t`. -/
theorem idx : ∀ t : Fin cfg0.N, win0_0.index t = ![t.val, 0] ∧ win0_1.index t = ![0, 0] ∧ win0_2.index t = ![0, 0, 0]
    ∧ win0_3.index t = ![1, 0, 0] ∧ win0_4.index t = ![2, 0, 0] ∧ win0_6.index t = ![t.val, 0] ∧ win0_7.index t = ![t.val, 0] :=
  (by decide +kernel : ∀ t : Fin grid0.N, _)

/-- The rows, as the kernel is given them. -/
theorem V1 (c : Dev nD) (i : S2048x1024.Idx) :
    V m c main_v1 i = m ((c : Thread nD τ).loc main_arg0) (ix3 0 (i 0) (i 1)) := by
  entry_read
  pointwise

/-- The gain, as the kernel is given it. -/
theorem V2 (c : Dev nD) (i : S1x1024.Idx) :
    V m c main_v2 i = m ((c : Thread nD τ).loc main_arg1) (ix1 (i 1)) := by
  entry_read
  pointwise

/-- The targets, as the kernel is given them. -/
theorem V4 (c : Dev nD) (i : S2048x1024.Idx) :
    V m c main_v4 i = m ((c : Thread nD τ).loc main_arg3) (ix3 0 (i 0) (i 1)) := by
  entry_read
  pointwise

/-- The normalised rows, as the reference computes them. -/
abbrev norm (X : FVec Ideal Cert.ReferenceLossIdeal.S1x2048x1024 .f32) (G : FVec Ideal Cert.ReferenceLossIdeal.S1024 .f32) :
    FVec Ideal Cert.ReferenceLossIdeal.S1x2048x1024 .f32 :=
  mulf (mulf X (broadcastInDim Cert.ReferenceLossIdeal.S1x2048x1024 ![0, 1, 2]
    Cert.ReferenceLossIdeal.Gen.bcast_S1x2048x1_S1x2048x1024_0_1_2 (Host.rsqrt (addf (Host.divf (broadcastInDim
    Cert.ReferenceLossIdeal.S1x2048x1 ![0, 1] Cert.ReferenceLossIdeal.Gen.bcast_S1x2048_S1x2048x1_0_1 (Host.reduceAdd (mulf X X)
    (constant Cert.ReferenceLossIdeal.S_ .f32 0x00000000#32) Cert.ReferenceLossIdeal.Gen.reducesTo_S1x2048x1024_S1x2048_d2
    Cert.ReferenceLossIdeal.Gen.h_S_)) (broadcastInDim Cert.ReferenceLossIdeal.S1x2048x1 ![]
    Cert.ReferenceLossIdeal.Gen.bcast_S_S1x2048x1 (constant Cert.ReferenceLossIdeal.S_ .f32 0x44800000#32))) (broadcastInDim
    Cert.ReferenceLossIdeal.S1x2048x1 ![] Cert.ReferenceLossIdeal.Gen.bcast_S_S1x2048x1 (constant Cert.ReferenceLossIdeal.S_ .f32
    0x358637BD#32)))))) (broadcastInDim Cert.ReferenceLossIdeal.S1x2048x1024 ![0, 1, 2]
    Cert.ReferenceLossIdeal.Gen.bcast_S1x1x1024_S1x2048x1024_0_1_2 (broadcastInDim Cert.ReferenceLossIdeal.S1x1x1024 ![2]
    Cert.ReferenceLossIdeal.Gen.bcast_S1024_S1x1x1024_2 G))

/-- A product of the normalised rows `H` with one of the two stacked weights, as the reference computes it. -/
abbrev gatePre (H : FVec Ideal Cert.ReferenceLossIdeal.S1x2048x1024 .f32) (W : FVec Ideal Cert.ReferenceLossIdeal.S3x2816x1024 .f32) :
    FVec Ideal Cert.ReferenceLossIdeal.S1x2048x2816 .f32 :=
  Host.dotGeneral Cert.ReferenceLossIdeal.dot_S1x2048x1024_S1024x2816_S1x2048x2816_2_0_01_1_n_n none H (transpose
    Cert.ReferenceLossIdeal.S1024x2816 [1, 0] (shapeCast _ (extractStridedSlice Cert.ReferenceLossIdeal.S1x2816x1024 ![0, 0, 0] W
    Cert.ReferenceLossIdeal.Gen.slices_S3x2816x1024_S1x2816x1024_0_0_0)
    Cert.ReferenceLossIdeal.Gen.shapeCasts_S1x2816x1024_S2816x1024)
    Cert.ReferenceLossIdeal.Gen.transposes_S2816x1024_S1024x2816_1_0)

abbrev upPre (H : FVec Ideal Cert.ReferenceLossIdeal.S1x2048x1024 .f32) (W : FVec Ideal Cert.ReferenceLossIdeal.S3x2816x1024 .f32) :
    FVec Ideal Cert.ReferenceLossIdeal.S1x2048x2816 .f32 :=
  Host.dotGeneral Cert.ReferenceLossIdeal.dot_S1x2048x1024_S1024x2816_S1x2048x2816_2_0_01_1_n_n none H (transpose
    Cert.ReferenceLossIdeal.S1024x2816 [1, 0] (shapeCast _ (extractStridedSlice Cert.ReferenceLossIdeal.S1x2816x1024 ![1, 0, 0] W
    Cert.ReferenceLossIdeal.Gen.slices_S3x2816x1024_S1x2816x1024_1_0_0)
    Cert.ReferenceLossIdeal.Gen.shapeCasts_S1x2816x1024_S2816x1024)
    Cert.ReferenceLossIdeal.Gen.transposes_S2816x1024_S1024x2816_1_0)

/-- The error of the feed-forward block's result, as the reference computes it. -/
abbrev err (X : FVec Ideal Cert.ReferenceLossIdeal.S1x2048x1024 .f32) (G : FVec Ideal Cert.ReferenceLossIdeal.S1024 .f32)
    (W : FVec Ideal Cert.ReferenceLossIdeal.S3x2816x1024 .f32) (T : FVec Ideal Cert.ReferenceLossIdeal.S1x2048x1024 .f32) :
    FVec Ideal Cert.ReferenceLossIdeal.S1x2048x1024 .f32 :=
  subf (addf X (mulf (broadcastInDim Cert.ReferenceLossIdeal.S1x2048x1024 ![]
    Cert.ReferenceLossIdeal.Gen.bcast_S_S1x2048x1024 (constant Cert.ReferenceLossIdeal.S_ .f32 0x3F000000#32)) (Host.dotGeneral
    Cert.ReferenceLossIdeal.dot_S1x2048x2816_S2816x1024_S1x2048x1024_2_0_01_1_n_n none (mulf (mulf (gatePre (norm X G) W)
    (Host.divf (broadcastInDim Cert.ReferenceLossIdeal.S1x2048x2816 ![] Cert.ReferenceLossIdeal.Gen.bcast_S_S1x2048x2816 (constant
    Cert.ReferenceLossIdeal.S_ .f32 0x3F800000#32)) (addf (broadcastInDim Cert.ReferenceLossIdeal.S1x2048x2816 ![]
    Cert.ReferenceLossIdeal.Gen.bcast_S_S1x2048x2816 (constant Cert.ReferenceLossIdeal.S_ .f32 0x3F800000#32)) (Host.exp
    (Host.negf (gatePre (norm X G) W)))))) (upPre (norm X G) W)) (shapeCast _ (extractStridedSlice
    Cert.ReferenceLossIdeal.S1x2816x1024 ![2, 0, 0] W Cert.ReferenceLossIdeal.Gen.slices_S3x2816x1024_S1x2816x1024_2_0_0)
    Cert.ReferenceLossIdeal.Gen.shapeCasts_S1x2816x1024_S2816x1024)))) T

/-- The gradient of the loss, as the reference computes it from the error. -/
abbrev gradOf (E : FVec Ideal Cert.ReferenceLossIdeal.S1x2048x1024 .f32) : FVec Ideal Cert.ReferenceLossIdeal.S2048x1024 .f32 :=
  shapeCast _ (mulf (broadcastInDim Cert.ReferenceLossIdeal.S1x2048x1024 ![0, 1] Cert.ReferenceLossIdeal.Gen.bcast_S1x2048_S1x2048x1024_0_1
    (Host.divf (broadcastInDim Cert.ReferenceLossIdeal.S1x2048 ![] Cert.ReferenceLossIdeal.Gen.bcast_S_S1x2048 (mulf (constant
    Cert.ReferenceLossIdeal.S_ .f32 0x3F000000#32) (constant Cert.ReferenceLossIdeal.S_ .f32 0x3F800000#32))) (broadcastInDim
    Cert.ReferenceLossIdeal.S1x2048 ![] Cert.ReferenceLossIdeal.Gen.bcast_S_S1x2048 (constant Cert.ReferenceLossIdeal.S_ .f32 0x44800000#32)))) (mulf
    (broadcastInDim Cert.ReferenceLossIdeal.S1x2048x1024 ![] Cert.ReferenceLossIdeal.Gen.bcast_S_S1x2048x1024 (constant Cert.ReferenceLossIdeal.S_ .f32
    0x40000000#32)) E)) Cert.ReferenceLossIdeal.Gen.shapeCasts_S1x2048x1024_S2048x1024

/-- The partial sums of the squared error, as the reference computes them from the error. -/
abbrev squares (E : FVec Ideal Cert.ReferenceLossIdeal.S1x2048x1024 .f32) : FVec Ideal Cert.ReferenceLossIdeal.S8x128 .f32 :=
  Host.reduceAdd (Host.reduceAdd (shapeCast _ (mulf E E) Cert.ReferenceLossIdeal.Gen.shapeCasts_S1x2048x1024_S256x8x8x128) (constant
    Cert.ReferenceLossIdeal.S_ .f32 0x00000000#32) Cert.ReferenceLossIdeal.Gen.reducesTo_S256x8x8x128_S256x8x128_d2
    Cert.ReferenceLossIdeal.Gen.h_S_) (constant Cert.ReferenceLossIdeal.S_ .f32 0x00000000#32)
    Cert.ReferenceLossIdeal.Gen.reducesTo_S256x8x128_S8x128_d0 Cert.ReferenceLossIdeal.Gen.h_S_

/-- The arrays that the kernel is given, at their types. -/
abbrev errOf (c : Dev nD) : FVec Ideal Cert.ReferenceLossIdeal.S1x2048x1024 .f32 :=
  err (m ((c : Thread nD τ).loc main_arg0)) (m ((c : Thread nD τ).loc main_arg1)) (m ((c : Thread nD τ).loc main_arg2))
    (m ((c : Thread nD τ).loc main_arg3))

/-- Row `r` of grid point `t` among all the rows. -/
def row (t : Fin cfg0.N) (r : Fin 256) : Fin 2048 :=
  ⟨256 * t.val + r.val, by have h : t.val < 8 := lt_of_lt_of_eq t.isLt N_0; have := r.isLt; omega⟩

theorem point (c : Dev nD) (t : Fin cfg0.N) (y : S256x1024.Idx) : block m c t y = errOf m c (ix3 0 (row t (y 0)) (y 1)) := by
  unfold block actOf errOf
  pointwise [k0_pay85, k0_pay2, k0_pay3, act, err]
  blk_point [iblk, V, idx t, row]
  refine congrArg Ideal.exp ((zero_sub (G := EReal) _).trans (congrArg Neg.neg ?_))
  blk_point [iblk, V, idx t, row]
  all_goals first
    | (rw [V1]; blk_point [idx t, row])
    | (rw [V2]; blk_point [idx t, row])
    | (rw [V4]; blk_point [idx t, row])

theorem pay86_eq (v1 a w v) (y : S256x1024.Idx) :
    k0_pay86 (F := Ideal) v1 a w v y = (k0_pay85 v1 a w v y : EReal) * Ideal.ofBits .f32 0x3A800000#32 := by
  unfold k0_pay86
  generalize k0_pay85 v1 a w v = e
  pointwise

/-- The two ways of scaling the error. -/
theorem scale (e : EReal) : e * Ideal.ofBits .f32 0x3A800000#32
    = Ideal.div (Ideal.ofBits .f32 0x3F000000#32 * Ideal.ofBits .f32 0x3F800000#32) (Ideal.ofBits .f32 0x44800000#32)
      * (Ideal.ofBits .f32 0x40000000#32 * e) := by
  have h2 : Ideal.ofBits .f32 0x40000000#32 = ((2 : ℝ) : EReal) := by
    simp [Ideal.ofBits, Ideal.ieee, -EReal.coe_mul]; norm_num
  have hk : Ideal.ofBits .f32 0x44800000#32 = ((1024 : ℝ) : EReal) := by
    simp [Ideal.ofBits, Ideal.ieee, -EReal.coe_mul]; norm_num
  have hs : Ideal.ofBits .f32 0x3A800000#32 = ((1 / 1024 : ℝ) : EReal) := by
    simp [Ideal.ofBits, Ideal.ieee, -EReal.coe_mul]; norm_num
  have h1 : Ideal.ofBits .f32 0x3F800000#32 = ((1 : ℝ) : EReal) := by
    simp [Ideal.ofBits, Ideal.ieee, -EReal.coe_mul]; norm_num
  rw [mul_comm e, Half.ofBits_half, h1, h2, hk, hs, Ideal.div_coe (by norm_num), ← mul_assoc, ← EReal.coe_mul, ← EReal.coe_mul,
    ← EReal.coe_mul]
  norm_num

theorem final7 (c : Dev nD) : (dats m 0 c).arrAt 7 cfg0.N = gradOf (errOf m c) := by
  refine (dats m 0 c).arrAt_eq_of_covers 7 _ (by decide +kernel) fun t _ y => ?_
  blk_simp
  rw [left7]
  refine (pay86_eq _ _ _ _ y).trans ?_
  refine (congrArg (fun e : EReal => e * _) (point m c t y)).trans ((scale _).trans ?_)
  generalize errOf m c = E
  pointwise [gradOf]
  blk_point [idx t, row]

/-- A row block's share, as a double sum. -/
theorem pay87_eq (v1 a w v) (j : S8x128.Idx) : k0_pay87 (F := Ideal) v1 a w v j
    = ∑ q : Fin 8, ∑ g : Fin 32, ((k0_pay85 v1 a w v (ix2 ⟨8 * g.val + (j 0).val, by have := g.isLt; idx_bounds j; omega⟩
      ⟨128 * q.val + (j 1).val, by have := q.isLt; idx_bounds j; omega⟩) : EReal)
      * k0_pay85 v1 a w v (ix2 ⟨8 * g.val + (j 0).val, by have := g.isLt; idx_bounds j; omega⟩
      ⟨128 * q.val + (j 1).val, by have := q.isLt; idx_bounds j; omega⟩)) := by
  unfold k0_pay87
  generalize k0_pay85 v1 a w v = e
  rw [Fin.sum_univ_eight]
  pointwise
  blk_point []

theorem squares_eq (E) (j : Cert.ReferenceLossIdeal.S8x128.Idx) : squares E j
    = ∑ a : Fin 256, ∑ q : Fin 8, ((E (ix3 0 ⟨8 * a.val + (j 0).val, by have := a.isLt; idx_bounds j; omega⟩
      ⟨128 * q.val + (j 1).val, by have := q.isLt; idx_bounds j; omega⟩) : EReal)
      * E (ix3 0 ⟨8 * a.val + (j 0).val, by have := a.isLt; idx_bounds j; omega⟩
      ⟨128 * q.val + (j 1).val, by have := q.isLt; idx_bounds j; omega⟩)) := by
  pointwise [squares]
  refine Finset.sum_congr rfl fun a _ => Finset.sum_congr rfl fun q _ => ?_
  have h : ∀ u v : Cert.ReferenceLossIdeal.S1x2048x1024.Idx, u = v → E u * E u = E v * E v := fun u v h => by rw [h]
  refine h _ _ ?_
  idx_ext

theorem sum_share (c : Dev nD) (j : S8x128.Idx) : ∑ t, (share m c t j : EReal) = squares (errOf m c) j := by
  rw [squares_eq]
  simp only [share, pay87_eq]
  refine (Finset.sum_congr rfl fun t _ => Finset.sum_comm).trans ?_
  refine Fin.sum_mul_add_congr (fun t g hl => Finset.sum_congr rfl fun q _ => ?_) (show 256 = grid0.N * 32 by rw [N_0])
  have e := point m c t (ix2 ⟨8 * g.val + (j 0).val, by have := g.isLt; idx_bounds j; omega⟩
    ⟨128 * q.val + (j 1).val, by have := q.isLt; idx_bounds j; omega⟩)
  have r : row t ⟨8 * g.val + (j 0).val, by have := g.isLt; idx_bounds j; omega⟩
      = ⟨8 * (t.val * 32 + g.val) + (j 0).val, by idx_bounds j; omega⟩ := Fin.ext (by simp only [row]; omega)
  refine (congrArg₂ (fun a b : EReal => a * b) e e).trans ?_
  generalize errOf m c = E
  simp only [ix2_0, ix2_1, r]

theorem final8 (c : Dev nD) : (dats m 0 c).arrAt 8 cfg0.N = squares (errOf m c) := by
  refine (dats m 0 c).arrAt_eq_of_after_last 8 t0_7 (by decide +kernel) _ fun j => ?_
  blk_simp
  rw [after0_8, Pipeline.eq_sum_fin_of_reset_step_apply_last (fun n h => (outsAt0 m c n h).2.1) 8 (fun _ => 0) (share m c)
    (fun t h j => start m c t h j) (fun t h j => step m c t h j) (le_of_eq N_0) t0_7 rfl j, zero_add]
  exact sum_share m c j

end Cert.KernelLossIdeal.Tile

end
-- ==== Proof.In.lean ====
/- The mixer's first products: the normalised rows, their products with the weight of the queries, keys and values, which the
   kernel stores in six column tiles, and the gates, which it stores in eight; against the reference's, read at one element. -/
module

public import proofs.«01_k».proof.Proof.Gen.KernelInIdeal.Value
public import proofs.«01_k».proof.Proof.Gen.ReferenceInIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelInIdeal.Tile

open Cert.KernelInIdeal Cert.KernelInIdeal.Gen

variable (m : (ℓ : Loc nD τ sig) → Buf (Elt Ideal) ℓ)

/-- Column `j` of the products of the queries, keys and values is row `j` of the weight. -/
def qkvCol (j : Fin 2304) : Fin 4352 := ⟨j.val, by have := j.isLt; omega⟩

/-- Column `j` of the gates is row `2304 + j` of the weight. -/
def gateCol (j : Fin 2048) : Fin 4352 := ⟨2304 + j.val, by have := j.isLt; omega⟩

/-- The products of a block of normalised rows `X` with the weight of the queries, keys and values. -/
def qkv (X : Vec Ideal S512x1024 .bf16) (w : Vec Ideal S1x4352x1024 .bf16) : Vec Ideal S512x2304 .bf16 := fun y =>
  ∑ k : Fin 1024, X (ix2 (y 0) k) * w (ix3 0 (qkvCol (y 1)) k)

/-- The gates of a block of normalised rows `X`. -/
def gate (X : Vec Ideal S512x1024 .bf16) (w : Vec Ideal S1x4352x1024 .bf16) (b : Vec Ideal S1x2048 .f32) :
    Vec Ideal S512x2048 .bf16 := fun y =>
  Ideal.div 1 (1 + Ideal.exp (0 - ((∑ k : Fin 1024, X (ix2 (y 0) k) * w (ix3 0 (gateCol (y 1)) k)) + b (ix2 0 (y 1)))))

theorem pay6_eq (x0 : Vec Ideal S512x1024 .f32) (x1 w) : k0_pay6 x0 x1 w = k0_pay14 (k0_pay2 x0 x1) w := rfl

theorem left9 (c : Dev nD) (t : Fin cfg0.N) : (dats m 0 c).after 9 t = k0_pay2 (iblk m c 0 t) (iblk m c 1 t) := by
  rw [after0_9]; unfold outsAt0; frame_out

theorem left10 (c : Dev nD) (t : Fin cfg0.N) : (dats m 0 c).after 10 t
    = qkv (k0_pay2 (iblk m c 0 t) (iblk m c 1 t)) (iblk m c 2 t) := by
  rw [after0_10]; unfold outsAt0; frame_out
  rw [pay6_eq]
  funext y
  generalize k0_pay2 (iblk m c 0 t) (iblk m c 1 t) = X
  generalize iblk m c 2 t = w
  canon_tiles x h using (View.cover_of_tiledBy _ ![512, 128] (by sl_kernel_rfl) y)
  all_goals (open_payloads; pointwise [qkv]; blk_point [qkvCol])

theorem left15 (c : Dev nD) (t : Fin cfg0.N) : (dats m 0 c).after 15 t
    = gate (k0_pay2 (iblk m c 0 t) (iblk m c 1 t)) (iblk m c 2 t) (iblk m c 3 t) := by
  rw [after0_15]; unfold outsAt0; frame_out
  funext y
  generalize k0_pay2 (iblk m c 0 t) (iblk m c 1 t) = X
  generalize iblk m c 2 t = w
  generalize iblk m c 3 t = b
  canon_tiles x h
  all_goals (open_payloads; pointwise [gate]; blk_point [gateCol])

/-- Where each window's block sits at grid point `t`. -/
theorem idx : ∀ t : Fin cfg0.N, win0_0.index t = ![t.val, 0] ∧ win0_1.index t = ![0, 0] ∧ win0_2.index t = ![0, 0, 0]
    ∧ win0_3.index t = ![0, 0] ∧ win0_9.index t = ![t.val, 0] ∧ win0_10.index t = ![t.val, 0]
    ∧ win0_15.index t = ![t.val, 0] :=
  (by decide +kernel : ∀ t : Fin grid0.N, _)

/-- The rows, as the kernel is given them. -/
theorem V9 (c : Dev nD) (i : S2048x1024.Idx) :
    V m c main_v9 i = m ((c : Thread nD τ).loc main_arg0) (ix3 0 (i 0) (i 1)) := by
  simp only [V, List.flatten_cons, List.flatten_nil, List.append_nil, List.cons_append, List.nil_append, StableHlo.after_cons, StableHlo.after_nil]
  after_results_simp
  pointwise

/-- The gain, as the kernel is given it. -/
theorem V10 (c : Dev nD) (i : S1x1024.Idx) :
    V m c main_v10 i = m ((c : Thread nD τ).loc main_arg1) (ix1 (i 1)) := by
  simp only [V, List.flatten_cons, List.flatten_nil, List.append_nil, List.cons_append, List.nil_append, StableHlo.after_cons, StableHlo.after_nil]
  after_results_simp
  pointwise

/-- The weight, as the kernel is given it. -/
theorem V11 (c : Dev nD) (i : S1x4352x1024.Idx) :
    V m c main_v11 i = m ((c : Thread nD τ).loc main_arg2) i := by
  simp only [V, List.flatten_cons, List.flatten_nil, List.append_nil, List.cons_append, List.nil_append, StableHlo.after_cons, StableHlo.after_nil]
  after_results_simp
  pointwise

/-- The gates' bias, as the kernel is given it. -/
theorem V12 (c : Dev nD) (i : S1x2048.Idx) :
    V m c main_v12 i = m ((c : Thread nD τ).loc main_arg3) (ix1 (i 1)) := by
  simp only [V, List.flatten_cons, List.flatten_nil, List.append_nil, List.cons_append, List.nil_append, StableHlo.after_cons, StableHlo.after_nil]
  after_results_simp
  pointwise

/-- The normalised rows, as the reference computes them. -/
abbrev norm (X : FVec Ideal Cert.ReferenceInIdeal.S1x2048x1024 .f32) (G : FVec Ideal Cert.ReferenceInIdeal.S1024 .f32) :
    FVec Ideal Cert.ReferenceInIdeal.S2048x1024 .f32 :=
  mulf (mulf (shapeCast _ X Cert.ReferenceInIdeal.Gen.shapeCasts_S1x2048x1024_S2048x1024) (broadcastInDim
    Cert.ReferenceInIdeal.S2048x1024 ![0, 1] Cert.ReferenceInIdeal.Gen.bcast_S2048x1_S2048x1024_0_1 (Host.rsqrt (addf
    (Host.divf (broadcastInDim Cert.ReferenceInIdeal.S2048x1 ![0] Cert.ReferenceInIdeal.Gen.bcast_S2048_S2048x1_0
    (Host.reduceAdd (mulf (shapeCast _ X Cert.ReferenceInIdeal.Gen.shapeCasts_S1x2048x1024_S2048x1024) (shapeCast _ X
    Cert.ReferenceInIdeal.Gen.shapeCasts_S1x2048x1024_S2048x1024)) (constant Cert.ReferenceInIdeal.S_ .f32 0x00000000#32)
    Cert.ReferenceInIdeal.Gen.reducesTo_S2048x1024_S2048_d1 Cert.ReferenceInIdeal.Gen.h_S_)) (broadcastInDim
    Cert.ReferenceInIdeal.S2048x1 ![] Cert.ReferenceInIdeal.Gen.bcast_S_S2048x1 (constant Cert.ReferenceInIdeal.S_ .f32
    0x44800000#32))) (broadcastInDim Cert.ReferenceInIdeal.S2048x1 ![] Cert.ReferenceInIdeal.Gen.bcast_S_S2048x1 (constant
    Cert.ReferenceInIdeal.S_ .f32 0x358637BD#32)))))) (broadcastInDim Cert.ReferenceInIdeal.S2048x1024 ![0, 1]
    Cert.ReferenceInIdeal.Gen.bcast_S1x1024_S2048x1024_0_1 (broadcastInDim Cert.ReferenceInIdeal.S1x1024 ![1]
    Cert.ReferenceInIdeal.Gen.bcast_S1024_S1x1024_1 G))

/-- The product of the normalised rows `H` with the whole weight, as the reference computes it. -/
abbrev proj (H : FVec Ideal Cert.ReferenceInIdeal.S2048x1024 .f32) (W : FVec Ideal Cert.ReferenceInIdeal.S1x4352x1024 .f32) :
    FVec Ideal Cert.ReferenceInIdeal.S2048x4352 .f32 :=
  Host.dotGeneral Cert.ReferenceInIdeal.dot_S2048x1024_S1024x4352_S2048x4352_1_0_0_1_n_n none H (transpose
    Cert.ReferenceInIdeal.S1024x4352 [1, 0] (shapeCast _ W Cert.ReferenceInIdeal.Gen.shapeCasts_S1x4352x1024_S4352x1024)
    Cert.ReferenceInIdeal.Gen.transposes_S4352x1024_S1024x4352_1_0)

/-- The first result, as the reference computes it. -/
abbrev rows (X : FVec Ideal Cert.ReferenceInIdeal.S1x2048x1024 .f32) (G : FVec Ideal Cert.ReferenceInIdeal.S1024 .f32) :
    FVec Ideal Cert.ReferenceInIdeal.S2048x1024 .bf16 :=
  truncf .bf16 (norm X G) Cert.ReferenceInIdeal.Gen.bitsLt_bf16_f32

/-- The second result, as the reference computes it. -/
abbrev products (X : FVec Ideal Cert.ReferenceInIdeal.S1x2048x1024 .f32) (G : FVec Ideal Cert.ReferenceInIdeal.S1024 .f32)
    (W : FVec Ideal Cert.ReferenceInIdeal.S1x4352x1024 .f32) : FVec Ideal Cert.ReferenceInIdeal.S2048x2304 .bf16 :=
  truncf .bf16 (extractStridedSlice Cert.ReferenceInIdeal.S2048x2304 ![0, 0] (proj (norm X G) W)
    Cert.ReferenceInIdeal.Gen.slices_S2048x4352_S2048x2304_0_0) Cert.ReferenceInIdeal.Gen.bitsLt_bf16_f32

/-- The third result, as the reference computes it. -/
abbrev gates (X : FVec Ideal Cert.ReferenceInIdeal.S1x2048x1024 .f32) (G : FVec Ideal Cert.ReferenceInIdeal.S1024 .f32)
    (W : FVec Ideal Cert.ReferenceInIdeal.S1x4352x1024 .f32) (B : FVec Ideal Cert.ReferenceInIdeal.S2048 .f32) :
    FVec Ideal Cert.ReferenceInIdeal.S2048x2048 .bf16 :=
  truncf .bf16 (Host.divf (broadcastInDim Cert.ReferenceInIdeal.S2048x2048 ![] Cert.ReferenceInIdeal.Gen.bcast_S_S2048x2048
    (constant Cert.ReferenceInIdeal.S_ .f32 0x3F800000#32)) (addf (broadcastInDim Cert.ReferenceInIdeal.S2048x2048 ![]
    Cert.ReferenceInIdeal.Gen.bcast_S_S2048x2048 (constant Cert.ReferenceInIdeal.S_ .f32 0x3F800000#32)) (Host.exp (Host.negf
    (addf (extractStridedSlice Cert.ReferenceInIdeal.S2048x2048 ![0, 2304] (proj (norm X G) W)
    Cert.ReferenceInIdeal.Gen.slices_S2048x4352_S2048x2048_0_2304) (broadcastInDim Cert.ReferenceInIdeal.S2048x2048 ![0, 1]
    Cert.ReferenceInIdeal.Gen.bcast_S1x2048_S2048x2048_0_1 (broadcastInDim Cert.ReferenceInIdeal.S1x2048 ![1]
    Cert.ReferenceInIdeal.Gen.bcast_S2048_S1x2048_1 B))))))) Cert.ReferenceInIdeal.Gen.bitsLt_bf16_f32

theorem point9 (c : Dev nD) (t : Fin cfg0.N) (y) : k0_pay2 (iblk m c 0 t) (iblk m c 1 t) y
    = rows (m ((c : Thread nD τ).loc main_arg0)) (m ((c : Thread nD τ).loc main_arg1)) (((cfg0.win 9).blk t).view.emb y) := by
  pointwise [k0_pay2, rows]
  blk_point [iblk, V, idx t]
  all_goals first
    | (rw [V9]; blk_point [idx t])
    | (rw [V10]; blk_point [idx t])

theorem final9 (c : Dev nD) : (dats m 0 c).arrAt 9 cfg0.N
    = rows (m ((c : Thread nD τ).loc main_arg0)) (m ((c : Thread nD τ).loc main_arg1)) := by
  refine (dats m 0 c).arrAt_eq_of_covers 9 _ (by decide +kernel) fun t _ y => ?_
  blk_simp
  rw [left9]
  exact point9 m c t y

theorem point10 (c : Dev nD) (t : Fin cfg0.N) (y) : qkv (k0_pay2 (iblk m c 0 t) (iblk m c 1 t)) (iblk m c 2 t) y
    = products (m ((c : Thread nD τ).loc main_arg0)) (m ((c : Thread nD τ).loc main_arg1)) (m ((c : Thread nD τ).loc main_arg2))
      (((cfg0.win 10).blk t).view.emb y) := by
  pointwise [k0_pay2, qkv, products]
  blk_point [iblk, V, idx t]
  all_goals first
    | (rw [V9]; blk_point [idx t])
    | (rw [V10]; blk_point [idx t])
    | (rw [V11]; blk_point [idx t])
    | rfl

theorem final10 (c : Dev nD) : (dats m 0 c).arrAt 10 cfg0.N
    = products (m ((c : Thread nD τ).loc main_arg0)) (m ((c : Thread nD τ).loc main_arg1))
      (m ((c : Thread nD τ).loc main_arg2)) := by
  refine (dats m 0 c).arrAt_eq_of_covers 10 _ (by decide +kernel) fun t _ y => ?_
  blk_simp
  rw [left10]
  exact point10 m c t y

theorem point15 (c : Dev nD) (t : Fin cfg0.N) (y) :
    gate (k0_pay2 (iblk m c 0 t) (iblk m c 1 t)) (iblk m c 2 t) (iblk m c 3 t) y
    = gates (m ((c : Thread nD τ).loc main_arg0)) (m ((c : Thread nD τ).loc main_arg1)) (m ((c : Thread nD τ).loc main_arg2))
      (m ((c : Thread nD τ).loc main_arg3)) (((cfg0.win 15).blk t).view.emb y) := by
  pointwise [k0_pay2, gate, gates]
  refine congrArg (fun z : EReal => Ideal.div 1 (1 + Ideal.exp z)) ((zero_sub (G := EReal) _).trans (congrArg Neg.neg ?_))
  blk_point [iblk, V, idx t]
  all_goals first
    | (rw [V9]; blk_point [idx t])
    | (rw [V10]; blk_point [idx t])
    | (rw [V11]; blk_point [idx t])
    | (rw [V12]; blk_point [idx t])
    | rfl

theorem final15 (c : Dev nD) : (dats m 0 c).arrAt 15 cfg0.N
    = gates (m ((c : Thread nD τ).loc main_arg0)) (m ((c : Thread nD τ).loc main_arg1)) (m ((c : Thread nD τ).loc main_arg2))
      (m ((c : Thread nD τ).loc main_arg3)) := by
  refine (dats m 0 c).arrAt_eq_of_covers 15 _ (by decide +kernel) fun t _ y => ?_
  blk_simp
  rw [left15]
  exact point15 m c t y

end Cert.KernelInIdeal.Tile

end
-- ==== Proof.Step.lean ====
/- The optimiser's step on a weight of any shape: what the reference computes from a gradient, the weight and both moments, what
   the kernel computes from them, and that the two agree. -/
module

public import Idealize.ShloMosaic.Lib.Pipeline.ValueKit

@[expose] public section

set_option maxRecDepth 16384

noncomputable section

open Idealize.ShloMosaic Idealize.ShloMosaic.TcCoe Idealize.SL.Sem

namespace Cert.Step

/-- The shape of one number. -/
abbrev Z : Shape := ⟨0, ![]⟩

section

variable {S P R : Shape} {axes : List (Fin R.rank)} (hr : R.ReducesTo axes S) (hb : Z.BroadcastsInDim S ![])

/-- One number in every place, as the reference writes it. -/
abbrev every (b : BitVec 32) : FVec Ideal S .f32 := broadcastInDim S ![] hb (constant Z .f32 b)

/-- The gradient: the devices' shares summed, as the reference computes it. -/
abbrev gradient (r : FVec Ideal R .f32) : FVec Ideal S .f32 :=
  Host.reduceAdd r (constant Z .f32 0x00000000#32) hr (by decide)

/-- The first moment after the step, from the gradient and the moment before, as the reference computes it. -/
abbrev first (g u : FVec Ideal S .f32) : FVec Ideal S .f32 :=
  addf (mulf (every hb 0x3F666666#32) u) (mulf (every hb 0x3DCCCCCD#32) g)

/-- The second moment after the step, as the reference computes it. -/
abbrev second (g v : FVec Ideal S .f32) : FVec Ideal S .f32 :=
  addf (mulf (every hb 0x3F7FBE77#32) v) (mulf (every hb 0x3A83126F#32) (mulf g g))

/-- The weight's change, as the reference computes it. -/
abbrev change (g w u v : FVec Ideal S .f32) : FVec Ideal S .f32 :=
  mulf (every hb 0xBA83126F#32) (addf (Host.divf (Host.divf (first hb g u) (every hb 0x3F26BD02#32)) (addf (Host.sqrt (Host.divf
    (second hb g v) (every hb 0x3C231ACC#32))) (every hb 0x322BCC77#32))) (mulf (every hb 0x3C23D70A#32) w))

/-- One number in every place, as the kernel writes it. -/
abbrev all (b : BitVec 32) : FVec Ideal S .f32 := broadcast S (Scalar.ofBits .f32 b)

/-- The first moment after the step, as the kernel computes it. -/
abbrev firstK (g u : FVec Ideal S .f32) : FVec Ideal S .f32 := addf (mulf (all 0x3F666666#32) u) (mulf (all 0x3DCCCCCD#32) g)

/-- The second moment after the step, as the kernel computes it. -/
abbrev secondK (g v : FVec Ideal S .f32) : FVec Ideal S .f32 :=
  addf (mulf (all 0x3F7FBE77#32) v) (mulf (all 0x3A83126F#32) (mulf g g))

/-- The weight's change, as the kernel computes it. -/
abbrev changeK (g w u v : FVec Ideal S .f32) : FVec Ideal S .f32 :=
  mulf (all 0xBA83126F#32) (addf (divf (divf (firstK g u) (all 0x3F26BD02#32)) (addf (sqrt (divf (secondK g v) (all 0x3C231ACC#32)))
    (all 0x322BCC77#32))) (mulf (all 0x3C23D70A#32) w))

/-- The eight devices' shares of a gradient, added in order, as the kernel adds them. -/
abbrev total (h : P.ShapeCasts S) (p0 p1 p2 p3 p4 p5 p6 p7 : FVec Ideal P .f32) : FVec Ideal S .f32 :=
  addf (addf (addf (addf (addf (addf (addf (shapeCast S p0 h) (shapeCast S p1 h)) (shapeCast S p2 h)) (shapeCast S p3 h))
    (shapeCast S p4 h)) (shapeCast S p5 h)) (shapeCast S p6 h)) (shapeCast S p7 h)

/-- The part of an array in a rectangle. -/
abbrev ld (a : Vec Ideal R .f32) (r : Rect R) : r.shape.Idx → Elt Ideal .f32 := View.ld (Val := Elt Ideal) (e' := .f32) a r

/-- A division, the reference's and the kernel's. -/
theorem div_eq (x y : FVec Ideal S .f32) : divf x y = Host.divf x y := funext fun _ => rfl

/-- A square root, the kernel's and the reference's. -/
theorem sqrt_eq (x : FVec Ideal S .f32) : sqrt x = Host.sqrt x := funext fun _ => rfl

/-- The weight's change, the kernel's and the reference's. -/
theorem change_eq (g w u v : FVec Ideal S .f32) : changeK g w u v = change hb g w u v := by
  simp only [changeK, div_eq, sqrt_eq]
  rfl

/-- The gradient `G`, the change `D` and the moments `U` and `V` are what the reference computes from the devices' shares `r`, the
    weight `w` and the moments `u` and `v`. -/
structure Updated (r : FVec Ideal R .f32) (w u v G D U V : FVec Ideal S .f32) : Prop where
  gradient : G = gradient hr r
  change : D = change hb (Step.gradient hr r) w u v
  first : U = first hb (Step.gradient hr r) u
  second : V = second hb (Step.gradient hr r) v

variable {hr hb}

/-- It is enough that they are what the kernel computes from a sum `g` of the shares. -/
theorem Updated.of {r : FVec Ideal R .f32} {g w u v G D U V : FVec Ideal S .f32} (h : g = Step.gradient hr r) (hG : G = g)
    (hD : D = changeK g w u v) (hU : U = firstK g u) (hV : V = secondK g v) : Updated hr hb r w u v G D U V := by
  subst h
  exact ⟨hG, hD.trans (change_eq hb _ _ _ _), hU, hV⟩

/-- Equal arguments have equal results. -/
theorem Updated.unique {r r' : FVec Ideal R .f32} {w u v G D U V w' u' v' G' D' U' V' : FVec Ideal S .f32}
    (h : Updated hr hb r w u v G D U V) (er : r' = r) (ew : w' = w) (eu : u' = u) (ev : v' = v)
    (h' : Updated hr hb r' w' u' v' G' D' U' V') : G' = G ∧ D' = D ∧ U' = U ∧ V' = V := by
  subst er ew eu ev
  exact ⟨h'.1.trans h.1.symm, h'.2.trans h.2.symm, h'.3.trans h.3.symm, h'.4.trans h.4.symm⟩

end

end Cert.Step

end
-- ==== Proof.SmallA.lean ====
/- The optimiser's step on the norms' gains: for each weight the eight devices' shares of the gradient are
   added, and the step and both moments follow from the sum; the kernel's against the reference's. -/
module

public import proofs.«01_k».proof.Proof.Gen.KernelSmallAIdeal.Value
public import proofs.«01_k».proof.Proof.Gen.ReferenceSmallAIdeal
public import proofs.«01_k».proof.Proof.Step

@[expose] public section

set_option maxRecDepth 16384

noncomputable section

open Idealize.ShloMosaic Idealize.ShloMosaic.TcCoe Idealize.SL.Sem
open Idealize.ShloMosaic.Pipeline (Dat)

namespace Cert.KernelSmallAIdeal.Step

open Cert.KernelSmallAIdeal Cert.KernelSmallAIdeal.Gen Cert.KernelSmallAIdeal.Value Cert.Step

/-- The sum of the shares. -/
theorem sum_2x1024 (a : Vec Ideal S8x2x1024 .f32) : total (S := S2x1024) shapeCasts_S1x2x1024_S2x1024
    (ld a r0_0) (ld a r0_1) (ld a r0_2) (ld a r0_3) (ld a r0_4) (ld a r0_5) (ld a r0_6) (ld a r0_7)
    = gradient Cert.ReferenceSmallAIdeal.Gen.reducesTo_S8x2x1024_S2x1024_d0 a := by
  funext y
  pointwise [ld, Fin.sum_univ_eight]

variable (m : (ℓ : Loc nD τ sig) → Buf (Elt Ideal) ℓ)

/-- The first feed-forward norm. -/
theorem weight0 (c : Dev nD) : Updated Cert.ReferenceSmallAIdeal.Gen.reducesTo_S8x2x1024_S2x1024_d0 Cert.ReferenceSmallAIdeal.Gen.bcast_S_S2x1024
    (m ((c : Thread nD τ).loc main_arg3)) (m ((c : Thread nD τ).loc main_arg0)) (m ((c : Thread nD τ).loc main_arg6))
    (m ((c : Thread nD τ).loc main_arg9)) ((dats m 0 c).arrAt 12 cfg0.N) ((dats m 0 c).arrAt 15 cfg0.N)
    ((dats m 0 c).arrAt 18 cfg0.N) ((dats m 0 c).arrAt 21 cfg0.N) :=
  .of (sum_2x1024 _) (final12 m c) (final15 m c) (final18 m c) (final21 m c)

/-- The mixer's norm. -/
theorem weight1 (c : Dev nD) : Updated Cert.ReferenceSmallAIdeal.Gen.reducesTo_S8x2x1024_S2x1024_d0 Cert.ReferenceSmallAIdeal.Gen.bcast_S_S2x1024
    (m ((c : Thread nD τ).loc main_arg4)) (m ((c : Thread nD τ).loc main_arg1)) (m ((c : Thread nD τ).loc main_arg7))
    (m ((c : Thread nD τ).loc main_arg10)) ((dats m 0 c).arrAt 13 cfg0.N) ((dats m 0 c).arrAt 16 cfg0.N)
    ((dats m 0 c).arrAt 19 cfg0.N) ((dats m 0 c).arrAt 22 cfg0.N) :=
  .of (sum_2x1024 _) (final13 m c)
    (by have h := final16 m c; simp only [G16, k0_pay16, k0_pay17, k0_pay18, k0_pay19, k0_pay20, View.ld_unit_zero (S := S2x1024) hz0] at h; exact h)
    (by have h := final19 m c; simp only [G19, k0_pay16, k0_pay17, k0_pay18, k0_pay19, k0_pay20, View.ld_unit_zero (S := S2x1024) hz0] at h; exact h)
    (by have h := final22 m c; simp only [G22, k0_pay16, k0_pay17, k0_pay18, k0_pay19, k0_pay20, View.ld_unit_zero (S := S2x1024) hz0] at h; exact h)

/-- The second feed-forward norm. -/
theorem weight2 (c : Dev nD) : Updated Cert.ReferenceSmallAIdeal.Gen.reducesTo_S8x2x1024_S2x1024_d0 Cert.ReferenceSmallAIdeal.Gen.bcast_S_S2x1024
    (m ((c : Thread nD τ).loc main_arg5)) (m ((c : Thread nD τ).loc main_arg2)) (m ((c : Thread nD τ).loc main_arg8))
    (m ((c : Thread nD τ).loc main_arg11)) ((dats m 0 c).arrAt 14 cfg0.N) ((dats m 0 c).arrAt 17 cfg0.N)
    ((dats m 0 c).arrAt 20 cfg0.N) ((dats m 0 c).arrAt 23 cfg0.N) :=
  .of (sum_2x1024 _) (final14 m c)
    (by have h := final17 m c; simp only [G17, k0_pay16, k0_pay17, k0_pay18, k0_pay19, k0_pay20, View.ld_unit_zero (S := S2x1024) hz0] at h; exact h)
    (by have h := final20 m c; simp only [G20, k0_pay16, k0_pay17, k0_pay18, k0_pay19, k0_pay20, View.ld_unit_zero (S := S2x1024) hz0] at h; exact h)
    (by have h := final23 m c; simp only [G23, k0_pay16, k0_pay17, k0_pay18, k0_pay19, k0_pay20, View.ld_unit_zero (S := S2x1024) hz0] at h; exact h)

end Cert.KernelSmallAIdeal.Step

end
-- ==== Proof.SmallB.lean ====
/- The optimiser's step on the gates' bias and the gains of the neighbourhood branch's norms: for each weight the eight devices' shares of the gradient are
   added, and the step and both moments follow from the sum; the kernel's against the reference's. -/
module

public import proofs.«01_k».proof.Proof.Gen.KernelSmallBIdeal.Value
public import proofs.«01_k».proof.Proof.Gen.ReferenceSmallBIdeal
public import proofs.«01_k».proof.Proof.Step

@[expose] public section

set_option maxRecDepth 16384

noncomputable section

open Idealize.ShloMosaic Idealize.ShloMosaic.TcCoe Idealize.SL.Sem
open Idealize.ShloMosaic.Pipeline (Dat)

namespace Cert.KernelSmallBIdeal.Step

open Cert.KernelSmallBIdeal Cert.KernelSmallBIdeal.Gen Cert.KernelSmallBIdeal.Value Cert.Step

/-- The sum of the shares. -/
theorem sum_2x2048 (a : Vec Ideal S8x2x2048 .f32) : total (S := S2x2048) shapeCasts_S1x2x2048_S2x2048
    (ld a r0_0) (ld a r0_1) (ld a r0_2) (ld a r0_3) (ld a r0_4) (ld a r0_5) (ld a r0_6) (ld a r0_7)
    = gradient Cert.ReferenceSmallBIdeal.Gen.reducesTo_S8x2x2048_S2x2048_d0 a := by
  funext y
  pointwise [ld, Fin.sum_univ_eight]

/-- The sum of the shares. -/
theorem sum_2x64 (a : Vec Ideal S8x2x64 .f32) : total (S := S2x64) shapeCasts_S1x2x64_S2x64
    (ld a r0_9) (ld a r0_10) (ld a r0_11) (ld a r0_12) (ld a r0_13) (ld a r0_14) (ld a r0_15) (ld a r0_16)
    = gradient Cert.ReferenceSmallBIdeal.Gen.reducesTo_S8x2x64_S2x64_d0 a := by
  funext y
  pointwise [ld, Fin.sum_univ_eight]

variable (m : (ℓ : Loc nD τ sig) → Buf (Elt Ideal) ℓ)

/-- The gates' bias. -/
theorem weight0 (c : Dev nD) : Updated Cert.ReferenceSmallBIdeal.Gen.reducesTo_S8x2x2048_S2x2048_d0 Cert.ReferenceSmallBIdeal.Gen.bcast_S_S2x2048
    (m ((c : Thread nD τ).loc main_arg3)) (m ((c : Thread nD τ).loc main_arg0)) (m ((c : Thread nD τ).loc main_arg6))
    (m ((c : Thread nD τ).loc main_arg9)) ((dats m 0 c).arrAt 12 cfg0.N) ((dats m 0 c).arrAt 15 cfg0.N)
    ((dats m 0 c).arrAt 18 cfg0.N) ((dats m 0 c).arrAt 21 cfg0.N) :=
  .of (sum_2x2048 _) (final12 m c) (final15 m c) (final18 m c) (final21 m c)

/-- The neighbourhood branch's query norm. -/
theorem weight1 (c : Dev nD) : Updated Cert.ReferenceSmallBIdeal.Gen.reducesTo_S8x2x64_S2x64_d0 Cert.ReferenceSmallBIdeal.Gen.bcast_S_S2x64
    (m ((c : Thread nD τ).loc main_arg4)) (m ((c : Thread nD τ).loc main_arg1)) (m ((c : Thread nD τ).loc main_arg7))
    (m ((c : Thread nD τ).loc main_arg10)) ((dats m 0 c).arrAt 13 cfg0.N) ((dats m 0 c).arrAt 16 cfg0.N)
    ((dats m 0 c).arrAt 19 cfg0.N) ((dats m 0 c).arrAt 22 cfg0.N) :=
  .of (sum_2x64 _) (final13 m c)
    (by have h := final16 m c; simp only [G16, k0_pay16, k0_pay17, k0_pay18, k0_pay19, k0_pay20, View.ld_unit_zero (S := S2x64) hz0] at h; exact h)
    (by have h := final19 m c; simp only [G19, k0_pay16, k0_pay17, k0_pay18, k0_pay19, k0_pay20, View.ld_unit_zero (S := S2x64) hz0] at h; exact h)
    (by have h := final22 m c; simp only [G22, k0_pay16, k0_pay17, k0_pay18, k0_pay19, k0_pay20, View.ld_unit_zero (S := S2x64) hz0] at h; exact h)

/-- The neighbourhood branch's key norm. -/
theorem weight2 (c : Dev nD) : Updated Cert.ReferenceSmallBIdeal.Gen.reducesTo_S8x2x64_S2x64_d0 Cert.ReferenceSmallBIdeal.Gen.bcast_S_S2x64
    (m ((c : Thread nD τ).loc main_arg5)) (m ((c : Thread nD τ).loc main_arg2)) (m ((c : Thread nD τ).loc main_arg8))
    (m ((c : Thread nD τ).loc main_arg11)) ((dats m 0 c).arrAt 14 cfg0.N) ((dats m 0 c).arrAt 17 cfg0.N)
    ((dats m 0 c).arrAt 20 cfg0.N) ((dats m 0 c).arrAt 23 cfg0.N) :=
  .of (sum_2x64 _) (final14 m c)
    (by have h := final17 m c; simp only [G17, k0_pay16, k0_pay17, k0_pay18, k0_pay19, k0_pay20, View.ld_unit_zero (S := S2x64) hz0] at h; exact h)
    (by have h := final20 m c; simp only [G20, k0_pay16, k0_pay17, k0_pay18, k0_pay19, k0_pay20, View.ld_unit_zero (S := S2x64) hz0] at h; exact h)
    (by have h := final23 m c; simp only [G23, k0_pay16, k0_pay17, k0_pay18, k0_pay19, k0_pay20, View.ld_unit_zero (S := S2x64) hz0] at h; exact h)

end Cert.KernelSmallBIdeal.Step

end
-- ==== Proof.SmallC.lean ====
/- The optimiser's step on the position biases and the sinks: for each weight the eight devices' shares of the gradient are
   added, and the step and both moments follow from the sum; the kernel's against the reference's. -/
module

public import proofs.«01_k».proof.Proof.Gen.KernelSmallCIdeal.Value
public import proofs.«01_k».proof.Proof.Gen.ReferenceSmallCIdeal
public import proofs.«01_k».proof.Proof.Step

@[expose] public section

set_option maxRecDepth 16384

noncomputable section

open Idealize.ShloMosaic Idealize.ShloMosaic.TcCoe Idealize.SL.Sem
open Idealize.ShloMosaic.Pipeline (Dat)

namespace Cert.KernelSmallCIdeal.Step

open Cert.KernelSmallCIdeal Cert.KernelSmallCIdeal.Gen Cert.KernelSmallCIdeal.Value Cert.Step

/-- The sum of the shares. -/
theorem sum_2x8x15x31 (a : Vec Ideal S8x2x8x15x31 .f32) : total (S := S2x8x15x31) shapeCasts_S1x2x8x15x31_S2x8x15x31
    (ld a r0_0) (ld a r0_1) (ld a r0_2) (ld a r0_3) (ld a r0_4) (ld a r0_5) (ld a r0_6) (ld a r0_7)
    = gradient Cert.ReferenceSmallCIdeal.Gen.reducesTo_S8x2x8x15x31_S2x8x15x31_d0 a := by
  funext y
  pointwise [ld, Fin.sum_univ_eight]

/-- The sum of the shares. -/
theorem sum_2x8 (a : Vec Ideal S8x2x8 .f32) : total (S := S2x8) shapeCasts_S1x2x8_S2x8
    (ld a r0_9) (ld a r0_10) (ld a r0_11) (ld a r0_12) (ld a r0_13) (ld a r0_14) (ld a r0_15) (ld a r0_16)
    = gradient Cert.ReferenceSmallCIdeal.Gen.reducesTo_S8x2x8_S2x8_d0 a := by
  funext y
  pointwise [ld, Fin.sum_univ_eight]

/-- The sum of the shares. -/
theorem sum_32x8 (a : Vec Ideal S8x32x8 .f32) : total (S := S32x8) shapeCasts_S1x32x8_S32x8
    (ld a r0_18) (ld a r0_19) (ld a r0_20) (ld a r0_21) (ld a r0_22) (ld a r0_23) (ld a r0_24) (ld a r0_25)
    = gradient Cert.ReferenceSmallCIdeal.Gen.reducesTo_S8x32x8_S32x8_d0 a := by
  funext y
  pointwise [ld, Fin.sum_univ_eight]

variable (m : (ℓ : Loc nD τ sig) → Buf (Elt Ideal) ℓ)

/-- The neighbourhood branch's position bias. -/
theorem weight0 (c : Dev nD) : Updated Cert.ReferenceSmallCIdeal.Gen.reducesTo_S8x2x8x15x31_S2x8x15x31_d0 Cert.ReferenceSmallCIdeal.Gen.bcast_S_S2x8x15x31
    (m ((c : Thread nD τ).loc main_arg3)) (m ((c : Thread nD τ).loc main_arg0)) (m ((c : Thread nD τ).loc main_arg6))
    (m ((c : Thread nD τ).loc main_arg9)) ((dats m 0 c).arrAt 12 cfg0.N) ((dats m 0 c).arrAt 15 cfg0.N)
    ((dats m 0 c).arrAt 18 cfg0.N) ((dats m 0 c).arrAt 21 cfg0.N) :=
  .of (sum_2x8x15x31 _) (final12 m c) (final15 m c) (final18 m c) (final21 m c)

/-- The window branch's sinks. -/
theorem weight1 (c : Dev nD) : Updated Cert.ReferenceSmallCIdeal.Gen.reducesTo_S8x2x8_S2x8_d0 Cert.ReferenceSmallCIdeal.Gen.bcast_S_S2x8
    (m ((c : Thread nD τ).loc main_arg4)) (m ((c : Thread nD τ).loc main_arg1)) (m ((c : Thread nD τ).loc main_arg7))
    (m ((c : Thread nD τ).loc main_arg10)) ((dats m 0 c).arrAt 13 cfg0.N) ((dats m 0 c).arrAt 16 cfg0.N)
    ((dats m 0 c).arrAt 19 cfg0.N) ((dats m 0 c).arrAt 22 cfg0.N) :=
  .of (sum_2x8 _) (final13 m c) (final16 m c) (final19 m c) (final22 m c)

/-- The relative-position table. -/
theorem weight2 (c : Dev nD) : Updated Cert.ReferenceSmallCIdeal.Gen.reducesTo_S8x32x8_S32x8_d0 Cert.ReferenceSmallCIdeal.Gen.bcast_S_S32x8
    (m ((c : Thread nD τ).loc main_arg5)) (m ((c : Thread nD τ).loc main_arg2)) (m ((c : Thread nD τ).loc main_arg8))
    (m ((c : Thread nD τ).loc main_arg11)) ((dats m 0 c).arrAt 14 cfg0.N) ((dats m 0 c).arrAt 17 cfg0.N)
    ((dats m 0 c).arrAt 20 cfg0.N) ((dats m 0 c).arrAt 23 cfg0.N) :=
  .of (sum_32x8 _) (final14 m c) (final17 m c) (final20 m c) (final23 m c)

end Cert.KernelSmallCIdeal.Step

end
-- ==== Proof.SmallD.lean ====
/- The optimiser's step on the gains of the window branch's norms: for each weight the eight devices' shares of the gradient are
   added, and the step and both moments follow from the sum; the kernel's against the reference's. -/
module

public import proofs.«01_k».proof.Proof.Gen.KernelSmallDIdeal.Value
public import proofs.«01_k».proof.Proof.Gen.ReferenceSmallDIdeal
public import proofs.«01_k».proof.Proof.Step

@[expose] public section

set_option maxRecDepth 16384

noncomputable section

open Idealize.ShloMosaic Idealize.ShloMosaic.TcCoe Idealize.SL.Sem
open Idealize.ShloMosaic.Pipeline (Dat)

namespace Cert.KernelSmallDIdeal.Step

open Cert.KernelSmallDIdeal Cert.KernelSmallDIdeal.Gen Cert.KernelSmallDIdeal.Value Cert.Step

/-- The sum of the shares. -/
theorem sum_2x64 (a : Vec Ideal S8x2x64 .f32) : total (S := S2x64) shapeCasts_S1x2x64_S2x64
    (ld a r0_0) (ld a r0_1) (ld a r0_2) (ld a r0_3) (ld a r0_4) (ld a r0_5) (ld a r0_6) (ld a r0_7)
    = gradient Cert.ReferenceSmallDIdeal.Gen.reducesTo_S8x2x64_S2x64_d0 a := by
  funext y
  pointwise [ld, Fin.sum_univ_eight]

variable (m : (ℓ : Loc nD τ sig) → Buf (Elt Ideal) ℓ)

/-- The window branch's query norm. -/
theorem weight0 (c : Dev nD) : Updated Cert.ReferenceSmallDIdeal.Gen.reducesTo_S8x2x64_S2x64_d0 Cert.ReferenceSmallDIdeal.Gen.bcast_S_S2x64
    (m ((c : Thread nD τ).loc main_arg2)) (m ((c : Thread nD τ).loc main_arg0)) (m ((c : Thread nD τ).loc main_arg4))
    (m ((c : Thread nD τ).loc main_arg6)) ((dats m 0 c).arrAt 8 cfg0.N) ((dats m 0 c).arrAt 10 cfg0.N)
    ((dats m 0 c).arrAt 12 cfg0.N) ((dats m 0 c).arrAt 14 cfg0.N) :=
  .of (sum_2x64 _) (final8 m c) (final10 m c) (final12 m c) (final14 m c)

/-- The window branch's key norm. -/
theorem weight1 (c : Dev nD) : Updated Cert.ReferenceSmallDIdeal.Gen.reducesTo_S8x2x64_S2x64_d0 Cert.ReferenceSmallDIdeal.Gen.bcast_S_S2x64
    (m ((c : Thread nD τ).loc main_arg3)) (m ((c : Thread nD τ).loc main_arg1)) (m ((c : Thread nD τ).loc main_arg5))
    (m ((c : Thread nD τ).loc main_arg7)) ((dats m 0 c).arrAt 9 cfg0.N) ((dats m 0 c).arrAt 11 cfg0.N)
    ((dats m 0 c).arrAt 13 cfg0.N) ((dats m 0 c).arrAt 15 cfg0.N) :=
  .of (sum_2x64 _) (final9 m c)
    (by have h := final11 m c; simp only [G11, k0_pay10, k0_pay11, k0_pay12, k0_pay13, View.ld_unit_zero (S := S2x64) hz0] at h; exact h)
    (by have h := final13 m c; simp only [G13, k0_pay10, k0_pay11, k0_pay12, k0_pay13, View.ld_unit_zero (S := S2x64) hz0] at h; exact h)
    (by have h := final15 m c; simp only [G15, k0_pay10, k0_pay11, k0_pay12, k0_pay13, View.ld_unit_zero (S := S2x64) hz0] at h; exact h)

end Cert.KernelSmallDIdeal.Step

end
-- ==== Proof.GateBias.lean ====
/- The backward of the mixer's merge: the gradient of the gates' bias, to which the kernel adds each row block's share; against the
   reference's, read at one element. -/
module

public import proofs.«01_k».proof.Proof.Gate
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelGateIdeal.Branch

open Cert.KernelGateIdeal Cert.KernelGateIdeal.Gen

variable (m : (ℓ : Loc nD τ sig) → Buf (Elt Ideal) ℓ)

/-- A row block's share of the bias's gradient. -/
def share (c : Dev nD) (t : Fin cfg0.N) (j : S1x2048.Idx) : EReal := ∑ r : Fin 512, zblock m c t (ix2 r (j 1))

theorem pay1_eq (d : FVec Ideal S512x1024 .f32) (v : Vec Ideal S1x1024 .f32) (x : S1x1024.Idx) :
    k0_pay1 d v x = (v x : EReal) + ∑ r : Fin 512, (d (ix2 r (x 1)) : EReal) := by
  pointwise [k0_pay1]

theorem pay6_eq (d : FVec Ideal S512x1024 .f32) (s : Vec Ideal S512x1024 .bf16) (v : Vec Ideal S1x1024 .f32) (x : S1x1024.Idx) :
    k0_pay6 d s v x = (v x : EReal) + ∑ r : Fin 512, (k0_pay4 d s (ix2 r (x 1)) : EReal) := by
  pointwise [k0_pay6]

theorem share_left (c : Dev nD) (t : Fin cfg0.N) (x : S1x1024.Idx) (y : S1x2048.Idx) (h1 : (y 1).val = (x 1).val) :
    ∑ r : Fin 512, (k0_pay12 (iblk m c 0 t) (iblk m c 6 t) (iblk m c 2 t) (ix2 r (x 1)) : EReal) = share m c t y :=
  Finset.sum_congr rfl fun r _ => (left_block m c t r (x 1)).trans
    (congrArg (fun b => dz _ _ _ _ _ _ _ (ix2 (row t r) b)) (Fin.ext h1.symm))

theorem share_right (c : Dev nD) (t : Fin cfg0.N) (x : S1x1024.Idx) (y : S1x2048.Idx) (h1 : (y 1).val = 1024 + (x 1).val) :
    ∑ r : Fin 512, (k0_pay4 (k0_pay9 (iblk m c 0 t) (iblk m c 6 t)) (iblk m c 3 t) (ix2 r (x 1)) : EReal) = share m c t y :=
  Finset.sum_congr rfl fun r _ => (right_block m c t r (x 1)).trans
    (congrArg (fun b => dz _ _ _ _ _ _ _ (ix2 (row t r) b)) (Fin.ext h1.symm))

/-- What the first row block leaves. -/
abbrev first (c : Dev nD) (t : Fin cfg0.N) : Vec Ideal S1x2048 .f32 := fun j => (0 : EReal) + share m c t j

theorem pay7_eq (j : S1x2048.Idx) : k0_pay7 (F := Ideal) j = (0 : EReal) := by
  pointwise [k0_pay7]

theorem start (c : Dev nD) (t : Fin cfg0.N) (hA : t.val % 4 = 0) (j : S1x2048.Idx) :
    (outsAt0 m c t.val t.isLt).2.2.2.2.2.2 j = (0 : EReal) + share m c t j := by
  rw [outsAt0_A m c t hA]; frame_out
  rw [View.readCov_skip _ _ _ _ _ (by decide), View.readCov_fill _ _ _ _ _ (by decide), View.readCov_fill _ _ _ _ _ (by decide)]
  refine View.canon_append_of_piecesOf (first m c t) [_] [_, _] ⟨fun x => ?_, fun x => ?_, trivial⟩ j ?_
  · refine (pay6_eq _ _ _ x).trans ?_
    exact congrArg₂ (fun a b : EReal => a + b) (pay7_eq _) (share_right m c t x _ ((Rect.emb_apply _ x 1).trans (by simp)))
  · refine (pay1_eq _ _ x).trans ?_
    exact congrArg₂ (fun a b : EReal => a + b) (pay7_eq _) (share_left m c t x _ ((Rect.emb_apply _ x 1).trans (by simp)))
  · idx_bounds j
    by_cases hj : 1024 ≤ (j 1).val
    · refine ⟨_, List.mem_cons_self, ?_⟩
      rw [Rect.mem_set_unit]
      intro a
      fin_cases a <;> simp <;> omega
    · refine ⟨_, List.mem_cons_of_mem _ List.mem_cons_self, ?_⟩
      rw [Rect.mem_set_unit]
      intro a
      fin_cases a <;> simp <;> omega

theorem step (c : Dev nD) (t : Fin cfg0.N) (hA : ¬t.val % 4 = 0) (j : S1x2048.Idx) :
    (outsAt0 m c t.val t.isLt).2.2.2.2.2.2 j
      = ((outsAt0 m c (t.val - 1) (Nat.lt_of_le_of_lt (Nat.sub_le _ _) t.isLt)).2.2.2.2.2.2 j : EReal) + share m c t j := by
  rw [outsAt0_B m c t hA]; frame_out
  canon_tiles x h
  · refine (pay6_eq _ _ _ x).trans ?_
    refine congrArg₂ (fun a b : EReal => a + b) ?_ (share_right m c t x j h1)
    pointwise
    blk_ext
  · refine (pay1_eq _ _ x).trans ?_
    refine congrArg₂ (fun a b : EReal => a + b) ?_ (share_left m c t x j h1)
    pointwise
    blk_ext

theorem sum_share (c : Dev nD) (j : S1x2048.Idx) : ∑ t, share m c t j
    = gradB (A0 m c) (A1 m c) (A2 m c) (A3 m c) (A4 m c) (A5 m c) (A6 m c) j := by
  pointwise [gradB]
  rw [Fin.sum_univ_one]
  unfold share
  refine Fin.sum_mul_add_congr (fun t r hl => ?_) (show 2048 = grid0.N * 512 by rw [N_0])
  rfl

theorem final14 (c : Dev nD) : (dats m 0 c).arrAt 14 cfg0.N
    = gradB (A0 m c) (A1 m c) (A2 m c) (A3 m c) (A4 m c) (A5 m c) (A6 m c) := by
  refine (dats m 0 c).arrAt_eq_of_after_last 14 t0_3 (by decide +kernel) _ fun j => ?_
  blk_simp
  rw [after0_14, Pipeline.eq_sum_fin_of_reset_step_apply_last (fun n h => (outsAt0 m c n h).2.2.2.2.2.2) 4 (fun _ => 0) (share m c)
    (fun t h j => start m c t h j) (fun t h j => step m c t h j) (le_of_eq N_0) t0_3 rfl j, zero_add]
  exact sum_share m c j

end Cert.KernelGateIdeal.Branch

end
-- ==== Proof.Pre.lean ====
/- The preconditions say that every element of an argument is a real number. -/
module

public import proofs.«01_k».proof.Proof.Gen.Pre_finite_act
public import proofs.«01_k».proof.Proof.Gen.Pre_finite_dx
public import proofs.«01_k».proof.Proof.Gen.Pre_finite_mx
public import proofs.«01_k».proof.Proof.Finite

@[expose] public section

noncomputable section

open Idealize.ShloMosaic

namespace Cert.Proof.Finite

instance : Subsingleton (Shape.Idx ⟨0, ![]⟩) := ⟨fun _ _ => funext fun a => a.elim0⟩

theorem and_one {x y : IVec ⟨0, ![]⟩ 1} {j} (h : andi x y j = 1#1) : x j = 1#1 ∧ y j = 1#1 := IntOp.andi_eq_one.1 h

theorem of_finite_act (X0 X1 : FVec Ideal Cert.Pre_finite_act.S2048x2816 .f32) (X2 : FVec Ideal Cert.Pre_finite_act.S3x2816x1024 .f32)
    (X3 : FVec Ideal Cert.Pre_finite_act.S1x2048x1024 .f32)
    (h : Cert.Pre_finite_act.fn (F := Ideal) X0 X1 X2 X3 = fun _ => 1#1) :
    (∀ i, IsReal (X0 i)) ∧ (∀ i, IsReal (X1 i)) ∧ (∀ i, IsReal (X2 i)) ∧ (∀ i, IsReal (X3 i)) := by
  have e := congrFun h (fun a => a.elim0)
  obtain ⟨e, e3⟩ := and_one e
  obtain ⟨e, e2⟩ := and_one e
  obtain ⟨e0, e1⟩ := and_one e
  exact ⟨isReal_of_all X0 _ (fun _ => ofBits_inf) _ _ _ _ e0, isReal_of_all X1 _ (fun _ => ofBits_inf) _ _ _ _ e1,
    isReal_of_all X2 _ (fun _ => ofBits_inf) _ _ _ _ e2, isReal_of_all X3 _ (fun _ => ofBits_inf) _ _ _ _ e3⟩

theorem of_finite_dx (X0 : FVec Ideal Cert.Pre_finite_dx.S1x2048x1024 .f32) (X1 : FVec Ideal Cert.Pre_finite_dx.S1024 .f32)
    (X2 : FVec Ideal Cert.Pre_finite_dx.S3x2816x1024 .f32) (X3 X4 : FVec Ideal Cert.Pre_finite_dx.S2048x2816 .f32)
    (X5 : FVec Ideal Cert.Pre_finite_dx.S1x2048x1024 .f32)
    (h : Cert.Pre_finite_dx.fn (F := Ideal) X0 X1 X2 X3 X4 X5 = fun _ => 1#1) :
    (∀ i, IsReal (X0 i)) ∧ (∀ i, IsReal (X1 i)) ∧ (∀ i, IsReal (X2 i)) ∧ (∀ i, IsReal (X3 i)) ∧ (∀ i, IsReal (X4 i)) := by
  have e := congrFun h (fun a => a.elim0)
  obtain ⟨e, e4⟩ := and_one e
  obtain ⟨e, e3⟩ := and_one e
  obtain ⟨e, e2⟩ := and_one e
  obtain ⟨e0, e1⟩ := and_one e
  exact ⟨isReal_of_all X0 _ (fun _ => ofBits_inf) _ _ _ _ e0, isReal_of_all X1 _ (fun _ => ofBits_inf) _ _ _ _ e1,
    isReal_of_all X2 _ (fun _ => ofBits_inf) _ _ _ _ e2, isReal_of_all X3 _ (fun _ => ofBits_inf) _ _ _ _ e3,
    isReal_of_all X4 _ (fun _ => ofBits_inf) _ _ _ _ e4⟩

theorem of_finite_mx (X0 : FVec Ideal Cert.Pre_finite_mx.S1x2048x1024 .f32) (X1 : FVec Ideal Cert.Pre_finite_mx.S1024 .f32)
    (X2 : FVec Ideal Cert.Pre_finite_mx.S1x4352x1024 .f32) (X3 : FVec Ideal Cert.Pre_finite_mx.S2048x4352 .f32)
    (X4 : FVec Ideal Cert.Pre_finite_mx.S1x2048x1024 .f32)
    (h : Cert.Pre_finite_mx.fn (F := Ideal) X0 X1 X2 X3 X4 = fun _ => 1#1) :
    (∀ i, IsReal (X0 i)) ∧ (∀ i, IsReal (X1 i)) ∧ (∀ i, IsReal (X2 i)) ∧ (∀ i, IsReal (X3 i)) := by
  have e := congrFun h (fun a => a.elim0)
  obtain ⟨e, e3⟩ := and_one e
  obtain ⟨e, e2⟩ := and_one e
  obtain ⟨e0, e1⟩ := and_one e
  exact ⟨isReal_of_all X0 _ (fun _ => ofBits_inf) _ _ _ _ e0, isReal_of_all X1 _ (fun _ => ofBits_inf) _ _ _ _ e1,
    isReal_of_all X2 _ (fun _ => ofBits_inf) _ _ _ _ e2, isReal_of_all X3 _ (fun _ => ofBits_inf) _ _ _ _ e3⟩

end Cert.Proof.Finite

end
-- ==== Proof.lean ====
/- The claims about the backward calls of the sliding-window attention, of the feed-forward block and of the mixer, and about
   forward calls of the feed-forward block and the mixer: frames, and the values of those calls that have a claim. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.KernelAct
public import proofs.«01_k».proof.Proof.Gen.KernelAct.Frame
public import proofs.«01_k».proof.Proof.Gen.KernelActIdeal
public import proofs.«01_k».proof.Proof.Gen.KernelActIdeal.Frame
public import proofs.«01_k».proof.Proof.Gen.KernelActIdeal.Value
public import proofs.«01_k».proof.Proof.Gen.ReferenceActIdeal
public import proofs.«01_k».proof.Proof.Gen.ReferenceActIdeal.Run
public import proofs.«01_k».proof.Proof.Gen.KernelDw
public import proofs.«01_k».proof.Proof.Gen.KernelDw.Frame
public import proofs.«01_k».proof.Proof.Gen.KernelDwIdeal
public import proofs.«01_k».proof.Proof.Gen.KernelDwIdeal.Frame
public import proofs.«01_k».proof.Proof.Gen.KernelDwIdeal.Value
public import proofs.«01_k».proof.Proof.Gen.ReferenceDwIdeal
public import proofs.«01_k».proof.Proof.Gen.ReferenceDwIdeal.Run
public import proofs.«01_k».proof.Proof.Gen.KernelDx
public import proofs.«01_k».proof.Proof.Gen.KernelDx.Frame
public import proofs.«01_k».proof.Proof.Gen.KernelDxIdeal
public import proofs.«01_k».proof.Proof.Gen.KernelDxIdeal.Frame
public import proofs.«01_k».proof.Proof.Gen.KernelDxIdeal.Value
public import proofs.«01_k».proof.Proof.Gen.ReferenceDxIdeal
public import proofs.«01_k».proof.Proof.Gen.ReferenceDxIdeal.Run
public import proofs.«01_k».proof.Proof.Gen.KernelFwd
public import proofs.«01_k».proof.Proof.Gen.KernelFwd.Frame
public import proofs.«01_k».proof.Proof.Gen.KernelFwdIdeal
public import proofs.«01_k».proof.Proof.Gen.KernelFwdIdeal.Frame
public import proofs.«01_k».proof.Proof.Gen.KernelFwdIdeal.Value
public import proofs.«01_k».proof.Proof.Gen.ReferenceFwdIdeal
public import proofs.«01_k».proof.Proof.Gen.ReferenceFwdIdeal.Run
public import proofs.«01_k».proof.Proof.Gen.KernelMdw
public import proofs.«01_k».proof.Proof.Gen.KernelMdw.Frame
public import proofs.«01_k».proof.Proof.Gen.KernelMdwIdeal
public import proofs.«01_k».proof.Proof.Gen.KernelMdwIdeal.Frame
public import proofs.«01_k».proof.Proof.Gen.KernelMdwIdeal.Value
public import proofs.«01_k».proof.Proof.Gen.ReferenceMdwIdeal
public import proofs.«01_k».proof.Proof.Gen.ReferenceMdwIdeal.Run
public import proofs.«01_k».proof.Proof.Gen.KernelWin
public import proofs.«01_k».proof.Proof.Gen.KernelWin.Frame
public import proofs.«01_k».proof.Proof.Gen.KernelWinIdeal
public import proofs.«01_k».proof.Proof.Gen.KernelWinIdeal.Frame
public import proofs.«01_k».proof.Proof.Gen.KernelWinIdeal.Value
public import proofs.«01_k».proof.Proof.Gen.ReferenceWinIdeal
public import proofs.«01_k».proof.Proof.Gen.ReferenceWinIdeal.Run
public import proofs.«01_k».proof.Proof.Gen.KernelMx
public import proofs.«01_k».proof.Proof.Gen.KernelMx.Frame
public import proofs.«01_k».proof.Proof.Gen.KernelMxIdeal
public import proofs.«01_k».proof.Proof.Gen.KernelMxIdeal.Frame
public import proofs.«01_k».proof.Proof.Gen.KernelMxIdeal.Value
public import proofs.«01_k».proof.Proof.Gen.ReferenceMxIdeal
public import proofs.«01_k».proof.Proof.Gen.ReferenceMxIdeal.Run
public import proofs.«01_k».proof.Proof.Gen.KernelGate
public import proofs.«01_k».proof.Proof.Gen.KernelGate.Frame
public import proofs.«01_k».proof.Proof.Gen.KernelGateIdeal
public import proofs.«01_k».proof.Proof.Gen.KernelGateIdeal.Frame
public import proofs.«01_k».proof.Proof.Gen.KernelGateIdeal.Value
public import proofs.«01_k».proof.Proof.Gen.ReferenceGateIdeal
public import proofs.«01_k».proof.Proof.Gen.ReferenceGateIdeal.Run
public import proofs.«01_k».proof.Proof.Gen.KernelMerge
public import proofs.«01_k».proof.Proof.Gen.KernelMerge.Frame
public import proofs.«01_k».proof.Proof.Gen.KernelMergeIdeal
public import proofs.«01_k».proof.Proof.Gen.KernelMergeIdeal.Frame
public import proofs.«01_k».proof.Proof.Gen.KernelMergeIdeal.Value
public import proofs.«01_k».proof.Proof.Gen.ReferenceMergeIdeal
public import proofs.«01_k».proof.Proof.Gen.ReferenceMergeIdeal.Run
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.KernelLoss
public import proofs.«01_k».proof.Proof.Gen.KernelLoss.Frame
public import proofs.«01_k».proof.Proof.Gen.KernelLossIdeal
public import proofs.«01_k».proof.Proof.Gen.KernelLossIdeal.Frame
public import proofs.«01_k».proof.Proof.Gen.KernelLossIdeal.Value
public import proofs.«01_k».proof.Proof.Gen.ReferenceLossIdeal
public import proofs.«01_k».proof.Proof.Gen.ReferenceLossIdeal.Run
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.KernelSmallA
public import proofs.«01_k».proof.Proof.Gen.KernelSmallA.Frame
public import proofs.«01_k».proof.Proof.Gen.KernelSmallAIdeal
public import proofs.«01_k».proof.Proof.Gen.KernelSmallAIdeal.Frame
public import proofs.«01_k».proof.Proof.Gen.KernelSmallAIdeal.Value
public import proofs.«01_k».proof.Proof.Gen.ReferenceSmallAIdeal
public import proofs.«01_k».proof.Proof.Gen.ReferenceSmallAIdeal.Run
public import proofs.«01_k».proof.Proof.Gen.KernelSmallB
public import proofs.«01_k».proof.Proof.Gen.KernelSmallB.Frame
public import proofs.«01_k».proof.Proof.Gen.KernelSmallBIdeal
public import proofs.«01_k».proof.Proof.Gen.KernelSmallBIdeal.Frame
public import proofs.«01_k».proof.Proof.Gen.KernelSmallBIdeal.Value
public import proofs.«01_k».proof.Proof.Gen.ReferenceSmallBIdeal
public import proofs.«01_k».proof.Proof.Gen.ReferenceSmallBIdeal.Run
public import proofs.«01_k».proof.Proof.Gen.KernelSmallC
public import proofs.«01_k».proof.Proof.Gen.KernelSmallC.Frame
public import proofs.«01_k».proof.Proof.Gen.KernelSmallCIdeal
public import proofs.«01_k».proof.Proof.Gen.KernelSmallCIdeal.Frame
public import proofs.«01_k».proof.Proof.Gen.KernelSmallCIdeal.Value
public import proofs.«01_k».proof.Proof.Gen.ReferenceSmallCIdeal
public import proofs.«01_k».proof.Proof.Gen.ReferenceSmallCIdeal.Run
public import proofs.«01_k».proof.Proof.Gen.KernelSmallD
public import proofs.«01_k».proof.Proof.Gen.KernelSmallD.Frame
public import proofs.«01_k».proof.Proof.Gen.KernelSmallDIdeal
public import proofs.«01_k».proof.Proof.Gen.KernelSmallDIdeal.Frame
public import proofs.«01_k».proof.Proof.Gen.KernelSmallDIdeal.Value
public import proofs.«01_k».proof.Proof.Gen.ReferenceSmallDIdeal
public import proofs.«01_k».proof.Proof.Gen.ReferenceSmallDIdeal.Run
public import proofs.«01_k».proof.Proof.Gen.KernelOptOut
public import proofs.«01_k».proof.Proof.Gen.KernelOptOut.Frame
public import proofs.«01_k».proof.Proof.Gen.KernelOptOutIdeal
public import proofs.«01_k».proof.Proof.Gen.KernelOptOutIdeal.Frame
public import proofs.«01_k».proof.Proof.Gen.ReferenceOptOutIdeal
public import proofs.«01_k».proof.Proof.Gen.ReferenceOptOutIdeal.Run
public import proofs.«01_k».proof.Proof.Gen.KernelOptIn
public import proofs.«01_k».proof.Proof.Gen.KernelOptIn.Frame
public import proofs.«01_k».proof.Proof.Gen.KernelOptInIdeal
public import proofs.«01_k».proof.Proof.Gen.KernelOptInIdeal.Frame
public import proofs.«01_k».proof.Proof.Gen.ReferenceOptInIdeal
public import proofs.«01_k».proof.Proof.Gen.ReferenceOptInIdeal.Run
public import proofs.«01_k».proof.Proof.Gen.KernelOptBranch
public import proofs.«01_k».proof.Proof.Gen.KernelOptBranch.Frame
public import proofs.«01_k».proof.Proof.Gen.KernelOptBranchIdeal
public import proofs.«01_k».proof.Proof.Gen.KernelOptBranchIdeal.Frame
public import proofs.«01_k».proof.Proof.Gen.ReferenceOptBranchIdeal
public import proofs.«01_k».proof.Proof.Gen.ReferenceOptBranchIdeal.Run
public import proofs.«01_k».proof.Proof.Gen.KernelOptFf
public import proofs.«01_k».proof.Proof.Gen.KernelOptFf.Frame
public import proofs.«01_k».proof.Proof.Gen.KernelOptFfIdeal
public import proofs.«01_k».proof.Proof.Gen.KernelOptFfIdeal.Frame
public import proofs.«01_k».proof.Proof.Gen.ReferenceOptFfIdeal
public import proofs.«01_k».proof.Proof.Gen.ReferenceOptFfIdeal.Run
public import proofs.«01_k».proof.Proof.Gen.KernelOptFirst
public import proofs.«01_k».proof.Proof.Gen.KernelOptFirst.Frame
public import proofs.«01_k».proof.Proof.Gen.KernelOptFirstIdeal
public import proofs.«01_k».proof.Proof.Gen.KernelOptFirstIdeal.Frame
public import proofs.«01_k».proof.Proof.Gen.ReferenceOptFirstIdeal
public import proofs.«01_k».proof.Proof.Gen.ReferenceOptFirstIdeal.Run
public import proofs.«01_k».proof.Proof.Launch
public import proofs.«01_k».proof.Proof.Same
public import proofs.«01_k».proof.Proof.Act
public import proofs.«01_k».proof.Proof.Dw
public import proofs.«01_k».proof.Proof.Dx
public import proofs.«01_k».proof.Proof.Fwd
public import proofs.«01_k».proof.Proof.Mdw
public import proofs.«01_k».proof.Proof.Win
public import proofs.«01_k».proof.Proof.Mx
public import proofs.«01_k».proof.Proof.Gate
public import proofs.«01_k».proof.Proof.Merge
public import proofs.«01_k».proof.Proof.Up
public import proofs.«01_k».proof.Proof.Down
public import proofs.«01_k».proof.Proof.Loss
public import proofs.«01_k».proof.Proof.In
public import proofs.«01_k».proof.Proof.SmallA
public import proofs.«01_k».proof.Proof.SmallB
public import proofs.«01_k».proof.Proof.SmallC
public import proofs.«01_k».proof.Proof.SmallD
public import proofs.«01_k».proof.Proof.GateBias
public import proofs.«01_k».proof.Proof.Gen.Pre_finite_act
public import proofs.«01_k».proof.Proof.Gen.Pre_finite_dx
public import proofs.«01_k».proof.Proof.Gen.Pre_finite_mx
public import proofs.«01_k».proof.Proof.Pre

@[expose] public section

set_option maxRecDepth 16384

noncomputable section

namespace Cert.Proof

open Idealize.ShloMosaic Idealize.ShloMosaic.TcCoe Idealize.SL.Sem

theorem frame_kernelIdeal : Cert.quiescent_KernelIdeal := fun m ρ _ => Cert.Proof.KernelIdeal.frame_main (F := Ideal) m ρ

/-- The two programs have the same text, so the one run serves the kernel over words too. -/
theorem frame_kernel : Cert.quiescent_Kernel := by
  intro m ρ _
  rw [Same.defs_eq, Same.main_eq]
  exact Cert.Proof.KernelIdeal.frame_main (F := Bits) m ρ

theorem frame_reference : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

theorem frame_referenceAct : Cert.quiescent_ReferenceActIdeal := fun m ρ _ =>
  (θ_run Cert.ReferenceActIdeal.defs _ _).mono
    (fun r h => ⟨fun c => (h c).2.2, Idealize.ShloMosaic.sem_eq_zero_of_no_sems (by decide) r.2⟩)
    (Cert.ReferenceActIdeal.Value.run (F := Ideal) m ρ)

theorem frame_referenceDw : Cert.quiescent_ReferenceDwIdeal := fun m ρ _ =>
  (θ_run Cert.ReferenceDwIdeal.defs _ _).mono
    (fun r h => ⟨fun c => (h c).2.2.2, Idealize.ShloMosaic.sem_eq_zero_of_no_sems (by decide) r.2⟩)
    (Cert.ReferenceDwIdeal.Value.run (F := Ideal) m ρ)

theorem frame_referenceDx : Cert.quiescent_ReferenceDxIdeal := fun m ρ _ =>
  (θ_run Cert.ReferenceDxIdeal.defs _ _).mono
    (fun r h => ⟨fun c => (h c).2.2, Idealize.ShloMosaic.sem_eq_zero_of_no_sems (by decide) r.2⟩)
    (Cert.ReferenceDxIdeal.Value.run (F := Ideal) m ρ)

theorem frame_referenceFwd : Cert.quiescent_ReferenceFwdIdeal := fun m ρ _ =>
  (θ_run Cert.ReferenceFwdIdeal.defs _ _).mono
    (fun r h => ⟨fun c => (h c).2, Idealize.ShloMosaic.sem_eq_zero_of_no_sems (by decide) r.2⟩)
    (Cert.ReferenceFwdIdeal.Value.run (F := Ideal) m ρ)

theorem frame_referenceMdw : Cert.quiescent_ReferenceMdwIdeal := fun m ρ _ =>
  (θ_run Cert.ReferenceMdwIdeal.defs _ _).mono
    (fun r h => ⟨fun c => (h c).2.2.2, Idealize.ShloMosaic.sem_eq_zero_of_no_sems (by decide) r.2⟩)
    (Cert.ReferenceMdwIdeal.Value.run (F := Ideal) m ρ)

theorem frame_referenceWin : Cert.quiescent_ReferenceWinIdeal := fun m ρ _ =>
  (θ_run Cert.ReferenceWinIdeal.defs _ _).mono
    (fun r h => ⟨fun c => (h c).2, Idealize.ShloMosaic.sem_eq_zero_of_no_sems (by decide) r.2⟩)
    (Cert.ReferenceWinIdeal.Value.run (F := Ideal) m ρ)

theorem frame_referenceMx : Cert.quiescent_ReferenceMxIdeal := fun m ρ _ =>
  (θ_run Cert.ReferenceMxIdeal.defs _ _).mono
    (fun r h => ⟨fun c => (h c).2.2, Idealize.ShloMosaic.sem_eq_zero_of_no_sems (by decide) r.2⟩)
    (Cert.ReferenceMxIdeal.Value.run (F := Ideal) m ρ)

theorem frame_referenceGate : Cert.quiescent_ReferenceGateIdeal := fun m ρ _ =>
  (θ_run Cert.ReferenceGateIdeal.defs _ _).mono
    (fun r h => ⟨fun c => (h c).2.2.2.2.2.2, Idealize.ShloMosaic.sem_eq_zero_of_no_sems (by decide) r.2⟩)
    (Cert.ReferenceGateIdeal.Value.run (F := Ideal) m ρ)

theorem frame_referenceMerge : Cert.quiescent_ReferenceMergeIdeal := fun m ρ _ =>
  (θ_run Cert.ReferenceMergeIdeal.defs _ _).mono
    (fun r h => ⟨fun c => (h c).2, Idealize.ShloMosaic.sem_eq_zero_of_no_sems (by decide) r.2⟩)
    (Cert.ReferenceMergeIdeal.Value.run (F := Ideal) m ρ)

theorem frame_referenceUp : Cert.quiescent_ReferenceUpIdeal := fun m ρ _ =>
  (θ_run Cert.ReferenceUpIdeal.defs _ _).mono
    (fun r h => ⟨fun c => (h c).2, Idealize.ShloMosaic.sem_eq_zero_of_no_sems (by decide) r.2⟩)
    (Cert.ReferenceUpIdeal.Value.run (F := Ideal) m ρ)

theorem frame_referenceDown : Cert.quiescent_ReferenceDownIdeal := fun m ρ _ =>
  (θ_run Cert.ReferenceDownIdeal.defs _ _).mono
    (fun r h => ⟨fun c => (h c).2, Idealize.ShloMosaic.sem_eq_zero_of_no_sems (by decide) r.2⟩)
    (Cert.ReferenceDownIdeal.Value.run (F := Ideal) m ρ)

theorem frame_referenceLoss : Cert.quiescent_ReferenceLossIdeal := fun m ρ _ =>
  (θ_run Cert.ReferenceLossIdeal.defs _ _).mono
    (fun r h => ⟨fun c => (h c).2.2, Idealize.ShloMosaic.sem_eq_zero_of_no_sems (by decide) r.2⟩)
    (Cert.ReferenceLossIdeal.Value.run (F := Ideal) m ρ)

theorem frame_referenceIn : Cert.quiescent_ReferenceInIdeal := fun m ρ _ =>
  (θ_run Cert.ReferenceInIdeal.defs _ _).mono
    (fun r h => ⟨fun c => (h c).2.2.2, Idealize.ShloMosaic.sem_eq_zero_of_no_sems (by decide) r.2⟩)
    (Cert.ReferenceInIdeal.Value.run (F := Ideal) m ρ)

theorem frame_referenceSmallA : Cert.quiescent_ReferenceSmallAIdeal := fun m ρ _ =>
  (θ_run Cert.ReferenceSmallAIdeal.defs _ _).mono
    (fun r h => ⟨fun c => (h c).2.2.2.2.2.2.2.2.2.2.2.2, Idealize.ShloMosaic.sem_eq_zero_of_no_sems (by decide) r.2⟩)
    (Cert.ReferenceSmallAIdeal.Value.run (F := Ideal) m ρ)

theorem frame_referenceSmallB : Cert.quiescent_ReferenceSmallBIdeal := fun m ρ _ =>
  (θ_run Cert.ReferenceSmallBIdeal.defs _ _).mono
    (fun r h => ⟨fun c => (h c).2.2.2.2.2.2.2.2.2.2.2.2, Idealize.ShloMosaic.sem_eq_zero_of_no_sems (by decide) r.2⟩)
    (Cert.ReferenceSmallBIdeal.Value.run (F := Ideal) m ρ)

theorem frame_referenceSmallC : Cert.quiescent_ReferenceSmallCIdeal := fun m ρ _ =>
  (θ_run Cert.ReferenceSmallCIdeal.defs _ _).mono
    (fun r h => ⟨fun c => (h c).2.2.2.2.2.2.2.2.2.2.2.2, Idealize.ShloMosaic.sem_eq_zero_of_no_sems (by decide) r.2⟩)
    (Cert.ReferenceSmallCIdeal.Value.run (F := Ideal) m ρ)

theorem frame_referenceSmallD : Cert.quiescent_ReferenceSmallDIdeal := fun m ρ _ =>
  (θ_run Cert.ReferenceSmallDIdeal.defs _ _).mono
    (fun r h => ⟨fun c => (h c).2.2.2.2.2.2.2.2, Idealize.ShloMosaic.sem_eq_zero_of_no_sems (by decide) r.2⟩)
    (Cert.ReferenceSmallDIdeal.Value.run (F := Ideal) m ρ)

theorem frame_referenceOptOut : Cert.quiescent_ReferenceOptOutIdeal := fun m ρ _ =>
  (θ_run Cert.ReferenceOptOutIdeal.defs _ _).mono
    (fun r h => ⟨fun c => (h c).2.2.2.2, Idealize.ShloMosaic.sem_eq_zero_of_no_sems (by decide) r.2⟩)
    (Cert.ReferenceOptOutIdeal.Value.run (F := Ideal) m ρ)

theorem frame_referenceOptIn : Cert.quiescent_ReferenceOptInIdeal := fun m ρ _ =>
  (θ_run Cert.ReferenceOptInIdeal.defs _ _).mono
    (fun r h => ⟨fun c => (h c).2.2.2.2, Idealize.ShloMosaic.sem_eq_zero_of_no_sems (by decide) r.2⟩)
    (Cert.ReferenceOptInIdeal.Value.run (F := Ideal) m ρ)

theorem frame_referenceOptBranch : Cert.quiescent_ReferenceOptBranchIdeal := fun m ρ _ =>
  (θ_run Cert.ReferenceOptBranchIdeal.defs _ _).mono
    (fun r h => ⟨fun c => (h c).2.2.2.2.2.2.2.2, Idealize.ShloMosaic.sem_eq_zero_of_no_sems (by decide) r.2⟩)
    (Cert.ReferenceOptBranchIdeal.Value.run (F := Ideal) m ρ)

theorem frame_referenceOptFf : Cert.quiescent_ReferenceOptFfIdeal := fun m ρ _ =>
  (θ_run Cert.ReferenceOptFfIdeal.defs _ _).mono
    (fun r h => ⟨fun c => (h c).2.2.2.2, Idealize.ShloMosaic.sem_eq_zero_of_no_sems (by decide) r.2⟩)
    (Cert.ReferenceOptFfIdeal.Value.run (F := Ideal) m ρ)

theorem frame_referenceOptFirst : Cert.quiescent_ReferenceOptFirstIdeal := fun m ρ _ =>
  (θ_run Cert.ReferenceOptFirstIdeal.defs _ _).mono
    (fun r h => ⟨fun c => (h c).2.2.2.2, Idealize.ShloMosaic.sem_eq_zero_of_no_sems (by decide) r.2⟩)
    (Cert.ReferenceOptFirstIdeal.Value.run (F := Ideal) m ρ)

/-- The gradients of the two pre-activations. -/
theorem value_act : Cert.algebraic_KernelActIdeal_ReferenceActIdeal_pre_finite_act := by
  pair_intro
  · run_from Cert.KernelActIdeal.Value.run_blocks m g
  · run_from Cert.ReferenceActIdeal.Value.run m' g'
    · obtain ⟨h0, h1, h2, h3⟩ := Finite.of_finite_act _ _ _ _ (hpre c)
      exact (Cert.KernelActIdeal.Tile.final5 m c h0 h1 h2 h3).symm
    · exact (Cert.KernelActIdeal.Tile.final6 m c).symm

/-- The three weight gradients. -/
theorem value_dw : Cert.algebraic_KernelDwIdeal_ReferenceDwIdeal := by
  pair_intro
  · run_from Cert.KernelDwIdeal.Value.run_blocks m g
  · run_from Cert.ReferenceDwIdeal.Value.run m' g'
    · exact (Cert.KernelDwIdeal.Product.final5 m c).symm
    · exact (Cert.KernelDwIdeal.Product.final6 m c).symm
    · exact (Cert.KernelDwIdeal.Product.final7 m c).symm

open Cert.ReferenceDxIdeal in
/-- The reference's first result is the term that the kernel's is compared with. -/
theorem gradX_reference (m : (ℓ : Loc nD τ sig) → Buf (Elt Ideal) ℓ) (c : Dev nD) :
    Cert.ReferenceDxIdeal.Value.res_main_v50 m c = Cert.KernelDxIdeal.Input.gradX
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  unfold Cert.ReferenceDxIdeal.Value.res_main_v50
  rfl

/-- The gradients of the block's input and of the norm's gain. -/
theorem value_dx : Cert.algebraic_KernelDxIdeal_ReferenceDxIdeal_pre_finite_dx := by
  pair_intro
  · run_from Cert.KernelDxIdeal.Value.run_blocks m g
  · run_from Cert.ReferenceDxIdeal.Value.run m' g'
    · obtain ⟨h0, h1, h2, h3, h4⟩ := Finite.of_finite_dx _ _ _ _ _ _ (hpre c)
      obtain ⟨a0, a1, a2, a3, a4, a5⟩ := hagree c
      rw [gradX_reference, a0, a1, a2, a3, a4, a5]
      exact (Cert.KernelDxIdeal.Input.final8 m c h0 h1 h2 h3 h4).symm
    · exact (Cert.KernelDxIdeal.Input.final9 m c).symm

/-- The feed-forward block's result. -/
theorem value_fwd : Cert.algebraic_KernelFwdIdeal_ReferenceFwdIdeal := by
  pair_intro
  · run_from Cert.KernelFwdIdeal.Value.run_blocks m g
  · run_from Cert.ReferenceFwdIdeal.Value.run m' g'
    exact (Cert.KernelFwdIdeal.Tile.final6 m c).symm

/-- The gradients of the mixer's three weights. -/
theorem value_mdw : Cert.algebraic_KernelMdwIdeal_ReferenceMdwIdeal := by
  pair_intro
  · run_from Cert.KernelMdwIdeal.Value.run_blocks m g
  · refine Idealize.ShloMosaic.θ_run_mono (Cert.ReferenceMdwIdeal.Value.run m' g') ?_
    intro r hr c
    obtain ⟨a0, a1, a2, a3, a4, a5⟩ := hagree c
    obtain ⟨h0, h1, h2, hargs⟩ := hr c
    rw [a0, a5] at h0
    rw [a1, a3] at h1
    rw [a2, a4] at h2
    refine ⟨h0.trans ?_, h1.trans ?_, h2.trans ?_, hargs⟩
    · exact (Cert.KernelMdwIdeal.Product.final6 m c).symm
    · exact (Cert.KernelMdwIdeal.Product.final7 m c).symm
    · exact (Cert.KernelMdwIdeal.Product.final8 m c).symm

/-- The gradient of the mixer's input weight. -/
theorem value_win : Cert.algebraic_KernelWinIdeal_ReferenceWinIdeal := by
  pair_intro
  · run_from Cert.KernelWinIdeal.Value.run_blocks m g
  · run_from Cert.ReferenceWinIdeal.Value.run m' g'
    exact (Cert.KernelWinIdeal.Product.final2 m c).symm

open Cert.ReferenceMxIdeal in
/-- The reference's first result is the term that the kernel's is compared with. -/
theorem gradX_reference_mx (m : (ℓ : Loc nD τ sig) → Buf (Elt Ideal) ℓ) (c : Dev nD) :
    Cert.ReferenceMxIdeal.Value.res_main_v43 m c = Cert.KernelMxIdeal.Input.gradX
      (m ((c : Thread nD τ).loc main_arg0)) (m ((c : Thread nD τ).loc main_arg1)) (m ((c : Thread nD τ).loc main_arg2))
      (m ((c : Thread nD τ).loc main_arg3)) (m ((c : Thread nD τ).loc main_arg4)) := by
  unfold Cert.ReferenceMxIdeal.Value.res_main_v43
  rfl

/-- The gradients of the mixer's input and of its norm's gain. -/
theorem value_mx : Cert.algebraic_KernelMxIdeal_ReferenceMxIdeal_pre_finite_mx := by
  pair_intro
  · run_from Cert.KernelMxIdeal.Value.run_blocks m g
  · run_from Cert.ReferenceMxIdeal.Value.run m' g'
    · obtain ⟨h0, h1, h2, h3⟩ := Finite.of_finite_mx _ _ _ _ _ (hpre c)
      obtain ⟨a0, a1, a2, a3, a4⟩ := hagree c
      rw [gradX_reference_mx, a0, a1, a2, a3, a4]
      exact (Cert.KernelMxIdeal.Input.final6 m c h0 h1 h2 h3).symm
    · exact (Cert.KernelMxIdeal.Input.final7 m c).symm

/-- The gradients of the gates, of the two branches and of the two attentions. -/
theorem value_gate : Cert.algebraic_KernelGateIdeal_ReferenceGateIdeal := by
  pair_intro
  · run_from Cert.KernelGateIdeal.Value.run_blocks m g
  · run_from Cert.ReferenceGateIdeal.Value.run m' g'
    · exact (Cert.KernelGateIdeal.Branch.final9 m c).symm
    · exact (Cert.KernelGateIdeal.Branch.final10 m c).symm
    · exact (Cert.KernelGateIdeal.Branch.final11 m c).symm
    · exact (Cert.KernelGateIdeal.Branch.final12 m c).symm
    · exact (Cert.KernelGateIdeal.Branch.final13 m c).symm
    · exact (Cert.KernelGateIdeal.Branch.final14 m c).symm

/-- The mixer's result. -/
theorem value_merge : Cert.algebraic_KernelMergeIdeal_ReferenceMergeIdeal := by
  pair_intro
  · run_from Cert.KernelMergeIdeal.Value.run_blocks m g
  · run_from Cert.ReferenceMergeIdeal.Value.run m' g'
    exact (Cert.KernelMergeIdeal.Product.final7 m c).symm

/-- The gated activation. -/
theorem value_up : Cert.algebraic_KernelUpIdeal_ReferenceUpIdeal := by
  pair_intro
  · run_from Cert.KernelUpIdeal.Value.run_blocks m g
  · run_from Cert.ReferenceUpIdeal.Value.run m' g'
    exact (Cert.KernelUpIdeal.Tile.final8 m c).symm

/-- The feed-forward block's second product. -/
theorem value_down : Cert.algebraic_KernelDownIdeal_ReferenceDownIdeal := by
  pair_intro
  · run_from Cert.KernelDownIdeal.Value.run_blocks m g
  · run_from Cert.ReferenceDownIdeal.Value.run m' g'
    exact (Cert.KernelDownIdeal.Product.final4 m c).symm

open Cert.ReferenceLossIdeal in
/-- The reference's first result is the term that the kernel's is compared with. -/
theorem lossGrad_reference (m : (ℓ : Loc nD τ sig) → Buf (Elt Ideal) ℓ) (c : Dev nD) :
    Cert.ReferenceLossIdeal.Value.res_out0 m c = Cert.KernelLossIdeal.Tile.gradOf (Cert.KernelLossIdeal.Tile.err
      (m ((c : Thread nD τ).loc main_arg0)) (m ((c : Thread nD τ).loc main_arg1)) (m ((c : Thread nD τ).loc main_arg2))
      (m ((c : Thread nD τ).loc main_arg3))) := by
  unfold Cert.ReferenceLossIdeal.Value.res_out0 Cert.ReferenceLossIdeal.Value.res_main_v47
  rfl

open Cert.ReferenceLossIdeal in
/-- The reference's second result is the term that the kernel's is compared with. -/
theorem lossSquares_reference (m : (ℓ : Loc nD τ sig) → Buf (Elt Ideal) ℓ) (c : Dev nD) :
    Cert.ReferenceLossIdeal.Value.res_out1 m c = Cert.KernelLossIdeal.Tile.squares (Cert.KernelLossIdeal.Tile.err
      (m ((c : Thread nD τ).loc main_arg0)) (m ((c : Thread nD τ).loc main_arg1)) (m ((c : Thread nD τ).loc main_arg2))
      (m ((c : Thread nD τ).loc main_arg3))) := by
  unfold Cert.ReferenceLossIdeal.Value.res_out1 Cert.ReferenceLossIdeal.Value.res_main_v49
  rfl

/-- The gradient of the loss in its rows, and the partial sums of the squared error. -/
theorem value_loss : Cert.algebraic_KernelLossIdeal_ReferenceLossIdeal := by
  pair_intro
  · run_from Cert.KernelLossIdeal.Value.run_blocks m g
  · refine Idealize.ShloMosaic.θ_run_mono (Cert.ReferenceLossIdeal.Value.run m' g') ?_
    intro r hr c
    obtain ⟨a0, a1, a2, a3⟩ := hagree c
    obtain ⟨h0, h1, hargs⟩ := hr c
    refine ⟨h0.trans ?_, h1.trans ?_, hargs⟩
    · refine (lossGrad_reference m' c).trans ?_
      rw [a0, a1, a2, a3]
      exact (Cert.KernelLossIdeal.Tile.final7 m c).symm
    · refine (lossSquares_reference m' c).trans ?_
      rw [a0, a1, a2, a3]
      exact (Cert.KernelLossIdeal.Tile.final8 m c).symm

/-- The normalised rows, their products with the query, key and value weights, and the gates. -/
theorem value_in : Cert.algebraic_KernelInIdeal_ReferenceInIdeal := by
  pair_intro
  · run_from Cert.KernelInIdeal.Value.run_blocks m g
  · run_from Cert.ReferenceInIdeal.Value.run m' g'
    · exact (Cert.KernelInIdeal.Tile.final9 m c).symm
    · exact (Cert.KernelInIdeal.Tile.final10 m c).symm
    · exact (Cert.KernelInIdeal.Tile.final15 m c).symm

/-- The optimiser's step on small weights: each one's gradient, change and both moments. -/
theorem value_smalla : Cert.algebraic_KernelSmallAIdeal_ReferenceSmallAIdeal := by
  pair_intro
  · run_from Cert.KernelSmallAIdeal.Value.run_blocks m g
  · refine Idealize.ShloMosaic.θ_run_mono (Cert.ReferenceSmallAIdeal.Value.run m' g') ?_
    intro r hr c
    obtain ⟨a0, a1, a2, a3, a4, a5, a6, a7, a8, a9, a10, a11⟩ := hagree c
    obtain ⟨h0, h1, h2, h3, h4, h5, h6, h7, h8, h9, h10, h11, hargs⟩ := hr c
    obtain ⟨e0, e3, e6, e9⟩ := (Cert.KernelSmallAIdeal.Step.weight0 m c).unique a3 a0 a6 a9
      ⟨h0, h3, h6, h9⟩
    obtain ⟨e1, e4, e7, e10⟩ := (Cert.KernelSmallAIdeal.Step.weight1 m c).unique a4 a1 a7 a10
      ⟨h1, h4, h7, h10⟩
    obtain ⟨e2, e5, e8, e11⟩ := (Cert.KernelSmallAIdeal.Step.weight2 m c).unique a5 a2 a8 a11
      ⟨h2, h5, h8, h11⟩
    exact ⟨e0, e1, e2, e3, e4, e5, e6, e7, e8, e9, e10, e11, hargs⟩

/-- The optimiser's step on small weights: each one's gradient, change and both moments. -/
theorem value_smallb : Cert.algebraic_KernelSmallBIdeal_ReferenceSmallBIdeal := by
  pair_intro
  · run_from Cert.KernelSmallBIdeal.Value.run_blocks m g
  · refine Idealize.ShloMosaic.θ_run_mono (Cert.ReferenceSmallBIdeal.Value.run m' g') ?_
    intro r hr c
    obtain ⟨a0, a1, a2, a3, a4, a5, a6, a7, a8, a9, a10, a11⟩ := hagree c
    obtain ⟨h0, h1, h2, h3, h4, h5, h6, h7, h8, h9, h10, h11, hargs⟩ := hr c
    obtain ⟨e0, e3, e6, e9⟩ := (Cert.KernelSmallBIdeal.Step.weight0 m c).unique a3 a0 a6 a9
      ⟨h0, h3, h6, h9⟩
    obtain ⟨e1, e4, e7, e10⟩ := (Cert.KernelSmallBIdeal.Step.weight1 m c).unique a4 a1 a7 a10
      ⟨h1, h4, h7, h10⟩
    obtain ⟨e2, e5, e8, e11⟩ := (Cert.KernelSmallBIdeal.Step.weight2 m c).unique a5 a2 a8 a11
      ⟨h2, h5, h8, h11⟩
    exact ⟨e0, e1, e2, e3, e4, e5, e6, e7, e8, e9, e10, e11, hargs⟩

/-- The optimiser's step on small weights: each one's gradient, change and both moments. -/
theorem value_smallc : Cert.algebraic_KernelSmallCIdeal_ReferenceSmallCIdeal := by
  pair_intro
  · run_from Cert.KernelSmallCIdeal.Value.run_blocks m g
  · refine Idealize.ShloMosaic.θ_run_mono (Cert.ReferenceSmallCIdeal.Value.run m' g') ?_
    intro r hr c
    obtain ⟨a0, a1, a2, a3, a4, a5, a6, a7, a8, a9, a10, a11⟩ := hagree c
    obtain ⟨h0, h1, h2, h3, h4, h5, h6, h7, h8, h9, h10, h11, hargs⟩ := hr c
    obtain ⟨e0, e3, e6, e9⟩ := (Cert.KernelSmallCIdeal.Step.weight0 m c).unique a3 a0 a6 a9
      ⟨h0, h3, h6, h9⟩
    obtain ⟨e1, e4, e7, e10⟩ := (Cert.KernelSmallCIdeal.Step.weight1 m c).unique a4 a1 a7 a10
      ⟨h1, h4, h7, h10⟩
    obtain ⟨e2, e5, e8, e11⟩ := (Cert.KernelSmallCIdeal.Step.weight2 m c).unique a5 a2 a8 a11
      ⟨h2, h5, h8, h11⟩
    exact ⟨e0, e1, e2, e3, e4, e5, e6, e7, e8, e9, e10, e11, hargs⟩

/-- The optimiser's step on small weights: each one's gradient, change and both moments. -/
theorem value_smalld : Cert.algebraic_KernelSmallDIdeal_ReferenceSmallDIdeal := by
  pair_intro
  · run_from Cert.KernelSmallDIdeal.Value.run_blocks m g
  · refine Idealize.ShloMosaic.θ_run_mono (Cert.ReferenceSmallDIdeal.Value.run m' g') ?_
    intro r hr c
    obtain ⟨a0, a1, a2, a3, a4, a5, a6, a7⟩ := hagree c
    obtain ⟨h0, h1, h2, h3, h4, h5, h6, h7, hargs⟩ := hr c
    obtain ⟨e0, e2, e4, e6⟩ := (Cert.KernelSmallDIdeal.Step.weight0 m c).unique a2 a0 a4 a6
      ⟨h0, h2, h4, h6⟩
    obtain ⟨e1, e3, e5, e7⟩ := (Cert.KernelSmallDIdeal.Step.weight1 m c).unique a3 a1 a5 a7
      ⟨h1, h3, h5, h7⟩
    exact ⟨e0, e1, e2, e3, e4, e5, e6, e7, hargs⟩

theorem claim : Cert.Claim := ⟨Cert.Kernel.Gen.facts, Cert.KernelIdeal.Gen.facts, Cert.ReferenceIdeal.Gen.facts, Cert.KernelAct.Gen.facts, Cert.KernelActIdeal.Gen.facts, Cert.ReferenceActIdeal.Gen.facts, Cert.KernelDw.Gen.facts, Cert.KernelDwIdeal.Gen.facts, Cert.ReferenceDwIdeal.Gen.facts, Cert.KernelDx.Gen.facts, Cert.KernelDxIdeal.Gen.facts, Cert.ReferenceDxIdeal.Gen.facts, Cert.KernelFwd.Gen.facts, Cert.KernelFwdIdeal.Gen.facts, Cert.ReferenceFwdIdeal.Gen.facts, Cert.KernelMdw.Gen.facts, Cert.KernelMdwIdeal.Gen.facts, Cert.ReferenceMdwIdeal.Gen.facts, Cert.KernelWin.Gen.facts, Cert.KernelWinIdeal.Gen.facts, Cert.ReferenceWinIdeal.Gen.facts, Cert.KernelMx.Gen.facts, Cert.KernelMxIdeal.Gen.facts, Cert.ReferenceMxIdeal.Gen.facts, Cert.KernelGate.Gen.facts, Cert.KernelGateIdeal.Gen.facts, Cert.ReferenceGateIdeal.Gen.facts, Cert.KernelMerge.Gen.facts, Cert.KernelMergeIdeal.Gen.facts, Cert.ReferenceMergeIdeal.Gen.facts, Cert.KernelUp.Gen.facts, Cert.KernelUpIdeal.Gen.facts, Cert.ReferenceUpIdeal.Gen.facts, Cert.KernelDown.Gen.facts, Cert.KernelDownIdeal.Gen.facts, Cert.ReferenceDownIdeal.Gen.facts, Cert.KernelLoss.Gen.facts, Cert.KernelLossIdeal.Gen.facts, Cert.ReferenceLossIdeal.Gen.facts, Cert.KernelIn.Gen.facts, Cert.KernelInIdeal.Gen.facts, Cert.ReferenceInIdeal.Gen.facts, Cert.KernelSmallA.Gen.facts, Cert.KernelSmallAIdeal.Gen.facts, Cert.ReferenceSmallAIdeal.Gen.facts, Cert.KernelSmallB.Gen.facts, Cert.KernelSmallBIdeal.Gen.facts, Cert.ReferenceSmallBIdeal.Gen.facts, Cert.KernelSmallC.Gen.facts, Cert.KernelSmallCIdeal.Gen.facts, Cert.ReferenceSmallCIdeal.Gen.facts, Cert.KernelSmallD.Gen.facts, Cert.KernelSmallDIdeal.Gen.facts, Cert.ReferenceSmallDIdeal.Gen.facts, Cert.KernelOptOut.Gen.facts, Cert.KernelOptOutIdeal.Gen.facts, Cert.ReferenceOptOutIdeal.Gen.facts, Cert.KernelOptIn.Gen.facts, Cert.KernelOptInIdeal.Gen.facts, Cert.ReferenceOptInIdeal.Gen.facts, Cert.KernelOptBranch.Gen.facts, Cert.KernelOptBranchIdeal.Gen.facts, Cert.ReferenceOptBranchIdeal.Gen.facts, Cert.KernelOptFf.Gen.facts, Cert.KernelOptFfIdeal.Gen.facts, Cert.ReferenceOptFfIdeal.Gen.facts, Cert.KernelOptFirst.Gen.facts, Cert.KernelOptFirstIdeal.Gen.facts, Cert.ReferenceOptFirstIdeal.Gen.facts, Cert.Pre_finite_act.Gen.facts, Cert.Pre_finite_dx.Gen.facts, Cert.Pre_finite_mx.Gen.facts,
  frame_kernel, frame_kernelIdeal, frame_reference,
  fun m ρ _ => Cert.KernelAct.Gen.frame m ρ, fun m ρ _ => Cert.KernelActIdeal.Gen.frame m ρ, fun m ρ _ => Cert.KernelActIdeal.Gen.frame m ρ,
  frame_referenceAct, fun m ρ _ => frame_referenceAct m ρ trivial,
  fun m ρ _ => Cert.KernelDw.Gen.frame m ρ, fun m ρ _ => Cert.KernelDwIdeal.Gen.frame m ρ, frame_referenceDw,
  fun m ρ _ => Cert.KernelDx.Gen.frame m ρ, fun m ρ _ => Cert.KernelDxIdeal.Gen.frame m ρ, fun m ρ _ => Cert.KernelDxIdeal.Gen.frame m ρ,
  frame_referenceDx, fun m ρ _ => frame_referenceDx m ρ trivial,
  fun m ρ _ => Cert.KernelFwd.Gen.frame m ρ, fun m ρ _ => Cert.KernelFwdIdeal.Gen.frame m ρ, frame_referenceFwd,
  fun m ρ _ => Cert.KernelMdw.Gen.frame m ρ, fun m ρ _ => Cert.KernelMdwIdeal.Gen.frame m ρ, frame_referenceMdw,
  fun m ρ _ => Cert.KernelWin.Gen.frame m ρ, fun m ρ _ => Cert.KernelWinIdeal.Gen.frame m ρ, frame_referenceWin,
  fun m ρ _ => Cert.KernelMx.Gen.frame m ρ, fun m ρ _ => Cert.KernelMxIdeal.Gen.frame m ρ, fun m ρ _ => Cert.KernelMxIdeal.Gen.frame m ρ,
  frame_referenceMx, fun m ρ _ => frame_referenceMx m ρ trivial,
  fun m ρ _ => Cert.KernelGate.Gen.frame m ρ, fun m ρ _ => Cert.KernelGateIdeal.Gen.frame m ρ, frame_referenceGate,
  fun m ρ _ => Cert.KernelMerge.Gen.frame m ρ, fun m ρ _ => Cert.KernelMergeIdeal.Gen.frame m ρ, frame_referenceMerge,
  fun m ρ _ => Cert.KernelUp.Gen.frame m ρ, fun m ρ _ => Cert.KernelUpIdeal.Gen.frame m ρ, frame_referenceUp,
  fun m ρ _ => Cert.KernelDown.Gen.frame m ρ, fun m ρ _ => Cert.KernelDownIdeal.Gen.frame m ρ, frame_referenceDown,
  fun m ρ _ => Cert.KernelLoss.Gen.frame m ρ, fun m ρ _ => Cert.KernelLossIdeal.Gen.frame m ρ, frame_referenceLoss,
  fun m ρ _ => Cert.KernelIn.Gen.frame m ρ, fun m ρ _ => Cert.KernelInIdeal.Gen.frame m ρ, frame_referenceIn,
  fun m ρ _ => Cert.KernelSmallA.Gen.frame m ρ, fun m ρ _ => Cert.KernelSmallAIdeal.Gen.frame m ρ, frame_referenceSmallA,
  fun m ρ _ => Cert.KernelSmallB.Gen.frame m ρ, fun m ρ _ => Cert.KernelSmallBIdeal.Gen.frame m ρ, frame_referenceSmallB,
  fun m ρ _ => Cert.KernelSmallC.Gen.frame m ρ, fun m ρ _ => Cert.KernelSmallCIdeal.Gen.frame m ρ, frame_referenceSmallC,
  fun m ρ _ => Cert.KernelSmallD.Gen.frame m ρ, fun m ρ _ => Cert.KernelSmallDIdeal.Gen.frame m ρ, frame_referenceSmallD,
  fun m ρ _ => Cert.KernelOptOut.Gen.frame m ρ, fun m ρ _ => Cert.KernelOptOutIdeal.Gen.frame m ρ, frame_referenceOptOut,
  fun m ρ _ => Cert.KernelOptIn.Gen.frame m ρ, fun m ρ _ => Cert.KernelOptInIdeal.Gen.frame m ρ, frame_referenceOptIn,
  fun m ρ _ => Cert.KernelOptBranch.Gen.frame m ρ, fun m ρ _ => Cert.KernelOptBranchIdeal.Gen.frame m ρ, frame_referenceOptBranch,
  fun m ρ _ => Cert.KernelOptFf.Gen.frame m ρ, fun m ρ _ => Cert.KernelOptFfIdeal.Gen.frame m ρ, frame_referenceOptFf,
  fun m ρ _ => Cert.KernelOptFirst.Gen.frame m ρ, fun m ρ _ => Cert.KernelOptFirstIdeal.Gen.frame m ρ, frame_referenceOptFirst,
  trivial, trivial, value_act, trivial, value_dw, trivial, value_dx, trivial, value_fwd, trivial, value_mdw, trivial, value_win, trivial, value_mx, trivial, value_gate, trivial, value_merge, trivial, value_up, trivial, value_down, trivial, value_loss, trivial, value_in, trivial, value_smalla, trivial, value_smallb, trivial, value_smallc, trivial, value_smalld, trivial, trivial, trivial, trivial, trivial⟩

end Cert.Proof

end
